-- ==== Defs.lean ====
def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_MlpRef0Ideal (m : (ℓ : Loc Cert.MlpRef0Ideal.nD Cert.MlpRef0Ideal.τ Cert.MlpRef0Ideal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_MlpRef1Ideal (m : (ℓ : Loc Cert.MlpRef1Ideal.nD Cert.MlpRef1Ideal.τ Cert.MlpRef1Ideal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_MlpRef2Ideal (m : (ℓ : Loc Cert.MlpRef2Ideal.nD Cert.MlpRef2Ideal.τ Cert.MlpRef2Ideal.sig) → Buf (Elt Ideal) ℓ) : Prop :=
  True

def Pre_Mlp3 (m : (ℓ : Loc Cert.Mlp3.nD Cert.Mlp3.τ Cert.Mlp3.sig) → Buf (Elt Bits) ℓ) : Prop :=
  True

def Pre_Mlp3Ideal (m : (ℓ : Loc Cert.Mlp3Ideal.nD Cert.Mlp3Ideal.τ Cert.Mlp3Ideal.sig) → Buf (Elt Ideal) ℓ) : Prop :=
  True

def Pre_MlpRef3Ideal (m : (ℓ : Loc Cert.MlpRef3Ideal.nD Cert.MlpRef3Ideal.τ Cert.MlpRef3Ideal.sig) → Buf (Elt Ideal) ℓ) : Prop :=
  True

def Pre_Fwd0 (m : (ℓ : Loc Cert.Fwd0.nD Cert.Fwd0.τ Cert.Fwd0.sig) → Buf (Elt Bits) ℓ) : Prop :=
  True

def Pre_Fwd0Ideal (m : (ℓ : Loc Cert.Fwd0Ideal.nD Cert.Fwd0Ideal.τ Cert.Fwd0Ideal.sig) → Buf (Elt Ideal) ℓ) : Prop :=
  True

def Pre_FwdRef0Ideal (m : (ℓ : Loc Cert.FwdRef0Ideal.nD Cert.FwdRef0Ideal.τ Cert.FwdRef0Ideal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_QkvRef0Ideal (m : (ℓ : Loc Cert.QkvRef0Ideal.nD Cert.QkvRef0Ideal.τ Cert.QkvRef0Ideal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_QkvRef1Ideal (m : (ℓ : Loc Cert.QkvRef1Ideal.nD Cert.QkvRef1Ideal.τ Cert.QkvRef1Ideal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_QkvRef2Ideal (m : (ℓ : Loc Cert.QkvRef2Ideal.nD Cert.QkvRef2Ideal.τ Cert.QkvRef2Ideal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_OutRef0Ideal (m : (ℓ : Loc Cert.OutRef0Ideal.nD Cert.OutRef0Ideal.τ Cert.OutRef0Ideal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_OutRef1Ideal (m : (ℓ : Loc Cert.OutRef1Ideal.nD Cert.OutRef1Ideal.τ Cert.OutRef1Ideal.sig) → Buf (Elt Ideal) ℓ) : Prop :=
  True

def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_OutRef2Ideal (m : (ℓ : Loc Cert.OutRef2Ideal.nD Cert.OutRef2Ideal.τ Cert.OutRef2Ideal.sig) → Buf (Elt Ideal) ℓ) : Prop :=
  True

def Pre_Glu0 (m : (ℓ : Loc Cert.Glu0.nD Cert.Glu0.τ Cert.Glu0.sig) → Buf (Elt Bits) ℓ) : Prop :=
  True

def Pre_Glu0Ideal (m : (ℓ : Loc Cert.Glu0Ideal.nD Cert.Glu0Ideal.τ Cert.Glu0Ideal.sig) → Buf (Elt Ideal) ℓ) : Prop :=
  True

def Pre_GluRef0Ideal (m : (ℓ : Loc Cert.GluRef0Ideal.nD Cert.GluRef0Ideal.τ Cert.GluRef0Ideal.sig) → Buf (Elt Ideal) ℓ) : Prop :=
  True

def Pre_Glu1 (m : (ℓ : Loc Cert.Glu1.nD Cert.Glu1.τ Cert.Glu1.sig) → Buf (Elt Bits) ℓ) : Prop :=
  True

def Pre_Glu1Ideal (m : (ℓ : Loc Cert.Glu1Ideal.nD Cert.Glu1Ideal.τ Cert.Glu1Ideal.sig) → Buf (Elt Ideal) ℓ) : Prop :=
  True

def Pre_GluRef1Ideal (m : (ℓ : Loc Cert.GluRef1Ideal.nD Cert.GluRef1Ideal.τ Cert.GluRef1Ideal.sig) → Buf (Elt Ideal) ℓ) : Prop :=
  True

def Pre_Glu2 (m : (ℓ : Loc Cert.Glu2.nD Cert.Glu2.τ Cert.Glu2.sig) → Buf (Elt Bits) ℓ) : Prop :=
  True

def Pre_Glu2Ideal (m : (ℓ : Loc Cert.Glu2Ideal.nD Cert.Glu2Ideal.τ Cert.Glu2Ideal.sig) → Buf (Elt Ideal) ℓ) : Prop :=
  True

def Pre_GluRef2Ideal (m : (ℓ : Loc Cert.GluRef2Ideal.nD Cert.GluRef2Ideal.τ Cert.GluRef2Ideal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_NormRef0Ideal (m : (ℓ : Loc Cert.NormRef0Ideal.nD Cert.NormRef0Ideal.τ Cert.NormRef0Ideal.sig) → Buf (Elt Ideal) ℓ) : Prop :=
  True

def Pre_Adam0 (m : (ℓ : Loc Cert.Adam0.nD Cert.Adam0.τ Cert.Adam0.sig) → Buf (Elt Bits) ℓ) : Prop :=
  True

def Pre_Adam0Ideal (m : (ℓ : Loc Cert.Adam0Ideal.nD Cert.Adam0Ideal.τ Cert.Adam0Ideal.sig) → Buf (Elt Ideal) ℓ) : Prop :=
  True

def Pre_AdamRef0Ideal (m : (ℓ : Loc Cert.AdamRef0Ideal.nD Cert.AdamRef0Ideal.τ Cert.AdamRef0Ideal.sig) → Buf (Elt Ideal) ℓ) : Prop :=
  True

def Pre_Adam1 (m : (ℓ : Loc Cert.Adam1.nD Cert.Adam1.τ Cert.Adam1.sig) → Buf (Elt Bits) ℓ) : Prop :=
  True

def Pre_Adam1Ideal (m : (ℓ : Loc Cert.Adam1Ideal.nD Cert.Adam1Ideal.τ Cert.Adam1Ideal.sig) → Buf (Elt Ideal) ℓ) : Prop :=
  True

def Pre_AdamRef1Ideal (m : (ℓ : Loc Cert.AdamRef1Ideal.nD Cert.AdamRef1Ideal.τ Cert.AdamRef1Ideal.sig) → Buf (Elt Ideal) ℓ) : Prop :=
  True

def Pre_Adam2 (m : (ℓ : Loc Cert.Adam2.nD Cert.Adam2.τ Cert.Adam2.sig) → Buf (Elt Bits) ℓ) : Prop :=
  True

def Pre_Adam2Ideal (m : (ℓ : Loc Cert.Adam2Ideal.nD Cert.Adam2Ideal.τ Cert.Adam2Ideal.sig) → Buf (Elt Ideal) ℓ) : Prop :=
  True

def Pre_AdamRef2Ideal (m : (ℓ : Loc Cert.AdamRef2Ideal.nD Cert.AdamRef2Ideal.τ Cert.AdamRef2Ideal.sig) → Buf (Elt Ideal) ℓ) : Prop :=
  True

def Pre_Adam3 (m : (ℓ : Loc Cert.Adam3.nD Cert.Adam3.τ Cert.Adam3.sig) → Buf (Elt Bits) ℓ) : Prop :=
  True

def Pre_Adam3Ideal (m : (ℓ : Loc Cert.Adam3Ideal.nD Cert.Adam3Ideal.τ Cert.Adam3Ideal.sig) → Buf (Elt Ideal) ℓ) : Prop :=
  True

def Pre_AdamRef3Ideal (m : (ℓ : Loc Cert.AdamRef3Ideal.nD Cert.AdamRef3Ideal.τ Cert.AdamRef3Ideal.sig) → Buf (Elt Ideal) ℓ) : Prop :=
  True

def Pre_Pack0 (m : (ℓ : Loc Cert.Pack0.nD Cert.Pack0.τ Cert.Pack0.sig) → Buf (Elt Bits) ℓ) : Prop :=
  True

def Pre_Pack0Ideal (m : (ℓ : Loc Cert.Pack0Ideal.nD Cert.Pack0Ideal.τ Cert.Pack0Ideal.sig) → Buf (Elt Ideal) ℓ) : Prop :=
  True

def Pre_PackRef0Ideal (m : (ℓ : Loc Cert.PackRef0Ideal.nD Cert.PackRef0Ideal.τ Cert.PackRef0Ideal.sig) → Buf (Elt Ideal) ℓ) : Prop :=
  True

def Pre_Pack1 (m : (ℓ : Loc Cert.Pack1.nD Cert.Pack1.τ Cert.Pack1.sig) → Buf (Elt Bits) ℓ) : Prop :=
  True

def Pre_Pack1Ideal (m : (ℓ : Loc Cert.Pack1Ideal.nD Cert.Pack1Ideal.τ Cert.Pack1Ideal.sig) → Buf (Elt Ideal) ℓ) : Prop :=
  True

def Pre_PackRef1Ideal (m : (ℓ : Loc Cert.PackRef1Ideal.nD Cert.PackRef1Ideal.τ Cert.PackRef1Ideal.sig) → Buf (Elt Ideal) ℓ) : Prop :=
  True

def Pre_Pack2 (m : (ℓ : Loc Cert.Pack2.nD Cert.Pack2.τ Cert.Pack2.sig) → Buf (Elt Bits) ℓ) : Prop :=
  True

def Pre_Pack2Ideal (m : (ℓ : Loc Cert.Pack2Ideal.nD Cert.Pack2Ideal.τ Cert.Pack2Ideal.sig) → Buf (Elt Ideal) ℓ) : Prop :=
  True

def Pre_PackRef2Ideal (m : (ℓ : Loc Cert.PackRef2Ideal.nD Cert.PackRef2Ideal.τ Cert.PackRef2Ideal.sig) → Buf (Elt Ideal) ℓ) : Prop :=
  True

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ r.2.sem = fun _ => 0)

def quiescent_MlpRef0Ideal [hMlpRef0Ideal : Cert.MlpRef0Ideal.Facts] : Prop :=
  ∀ (m : (ℓ : Loc Cert.MlpRef0Ideal.nD Cert.MlpRef0Ideal.τ Cert.MlpRef0Ideal.sig) → Buf (Elt Ideal) ℓ) (g : Dev Cert.MlpRef0Ideal.nD → PrngReg), Pre_MlpRef0Ideal m →
    θ_run (Cert.MlpRef0Ideal.defs (F := Ideal)) (onTc (τ := Cert.MlpRef0Ideal.τ) (Cert.MlpRef0Ideal.main (F := Ideal))) ⟨m, fun _ => 0, g⟩ (fun r => (∀ c : Dev Cert.MlpRef0Ideal.nD,
      r.2.mem ((c.tc : Thread Cert.MlpRef0Ideal.nD Cert.MlpRef0Ideal.τ).loc Cert.MlpRef0Ideal.main_arg0) = m ((c.tc : Thread Cert.MlpRef0Ideal.nD Cert.MlpRef0Ideal.τ).loc Cert.MlpRef0Ideal.main_arg0)
      ∧ r.2.mem ((c.tc : Thread Cert.MlpRef0Ideal.nD Cert.MlpRef0Ideal.τ).loc Cert.MlpRef0Ideal.main_arg1) = m ((c.tc : Thread Cert.MlpRef0Ideal.nD Cert.MlpRef0Ideal.τ).loc Cert.MlpRef0Ideal.main_arg1)
      ∧ r.2.mem ((c.tc : Thread Cert.MlpRef0Ideal.nD Cert.MlpRef0Ideal.τ).loc Cert.MlpRef0Ideal.main_arg2) = m ((c.tc : Thread Cert.MlpRef0Ideal.nD Cert.MlpRef0Ideal.τ).loc Cert.MlpRef0Ideal.main_arg2)
      ∧ r.2.mem ((c.tc : Thread Cert.MlpRef0Ideal.nD Cert.MlpRef0Ideal.τ).loc Cert.MlpRef0Ideal.main_arg3) = m ((c.tc : Thread Cert.MlpRef0Ideal.nD Cert.MlpRef0Ideal.τ).loc Cert.MlpRef0Ideal.main_arg3))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5)
      ∧ r.2.mem ((c.tc : Thread Cert.Mlp1.nD Cert.Mlp1.τ).loc Cert.Mlp1.main_arg6) = m ((c.tc : Thread Cert.Mlp1.nD Cert.Mlp1.τ).loc Cert.Mlp1.main_arg6))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
      ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ r.2.sem = fun _ => 0)

def quiescent_MlpRef1Ideal [hMlpRef1Ideal : Cert.MlpRef1Ideal.Facts] : Prop :=
  ∀ (m : (ℓ : Loc Cert.MlpRef1Ideal.nD Cert.MlpRef1Ideal.τ Cert.MlpRef1Ideal.sig) → Buf (Elt Ideal) ℓ) (g : Dev Cert.MlpRef1Ideal.nD → PrngReg), Pre_MlpRef1Ideal m →
    θ_run (Cert.MlpRef1Ideal.defs (F := Ideal)) (onTc (τ := Cert.MlpRef1Ideal.τ) (Cert.MlpRef1Ideal.main (F := Ideal))) ⟨m, fun _ => 0, g⟩ (fun r => (∀ c : Dev Cert.MlpRef1Ideal.nD,
      r.2.mem ((c.tc : Thread Cert.MlpRef1Ideal.nD Cert.MlpRef1Ideal.τ).loc Cert.MlpRef1Ideal.main_arg0) = m ((c.tc : Thread Cert.MlpRef1Ideal.nD Cert.MlpRef1Ideal.τ).loc Cert.MlpRef1Ideal.main_arg0)
      ∧ r.2.mem ((c.tc : Thread Cert.MlpRef1Ideal.nD Cert.MlpRef1Ideal.τ).loc Cert.MlpRef1Ideal.main_arg1) = m ((c.tc : Thread Cert.MlpRef1Ideal.nD Cert.MlpRef1Ideal.τ).loc Cert.MlpRef1Ideal.main_arg1)
      ∧ r.2.mem ((c.tc : Thread Cert.MlpRef1Ideal.nD Cert.MlpRef1Ideal.τ).loc Cert.MlpRef1Ideal.main_arg2) = m ((c.tc : Thread Cert.MlpRef1Ideal.nD Cert.MlpRef1Ideal.τ).loc Cert.MlpRef1Ideal.main_arg2)
      ∧ r.2.mem ((c.tc : Thread Cert.MlpRef1Ideal.nD Cert.MlpRef1Ideal.τ).loc Cert.MlpRef1Ideal.main_arg3) = m ((c.tc : Thread Cert.MlpRef1Ideal.nD Cert.MlpRef1Ideal.τ).loc Cert.MlpRef1Ideal.main_arg3)
      ∧ r.2.mem ((c.tc : Thread Cert.MlpRef1Ideal.nD Cert.MlpRef1Ideal.τ).loc Cert.MlpRef1Ideal.main_arg4) = m ((c.tc : Thread Cert.MlpRef1Ideal.nD Cert.MlpRef1Ideal.τ).loc Cert.MlpRef1Ideal.main_arg4)
      ∧ r.2.mem ((c.tc : Thread Cert.MlpRef1Ideal.nD Cert.MlpRef1Ideal.τ).loc Cert.MlpRef1Ideal.main_arg5) = m ((c.tc : Thread Cert.MlpRef1Ideal.nD Cert.MlpRef1Ideal.τ).loc Cert.MlpRef1Ideal.main_arg5)
      ∧ r.2.mem ((c.tc : Thread Cert.MlpRef1Ideal.nD Cert.MlpRef1Ideal.τ).loc Cert.MlpRef1Ideal.main_arg6) = m ((c.tc : Thread Cert.MlpRef1Ideal.nD Cert.MlpRef1Ideal.τ).loc Cert.MlpRef1Ideal.main_arg6))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4)
      ∧ r.2.mem ((c.tc : Thread Cert.Mlp2.nD Cert.Mlp2.τ).loc Cert.Mlp2.main_arg5) = m ((c.tc : Thread Cert.Mlp2.nD Cert.Mlp2.τ).loc Cert.Mlp2.main_arg5)
      ∧ r.2.mem ((c.tc : Thread Cert.Mlp2.nD Cert.Mlp2.τ).loc Cert.Mlp2.main_arg6) = m ((c.tc : Thread Cert.Mlp2.nD Cert.Mlp2.τ).loc Cert.Mlp2.main_arg6))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
      ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5)
      ∧ r.2.mem ((c.tc : Thread Cert.Mlp2Ideal.nD Cert.Mlp2Ideal.τ).loc Cert.Mlp2Ideal.main_arg6) = m ((c.tc : Thread Cert.Mlp2Ideal.nD Cert.Mlp2Ideal.τ).loc Cert.Mlp2Ideal.main_arg6))
      ∧ r.2.sem = fun _ => 0)

def quiescent_MlpRef2Ideal [hMlpRef2Ideal : Cert.MlpRef2Ideal.Facts] : Prop :=
  ∀ (m : (ℓ : Loc Cert.MlpRef2Ideal.nD Cert.MlpRef2Ideal.τ Cert.MlpRef2Ideal.sig) → Buf (Elt Ideal) ℓ) (g : Dev Cert.MlpRef2Ideal.nD → PrngReg), Pre_MlpRef2Ideal m →
    θ_run (Cert.MlpRef2Ideal.defs (F := Ideal)) (onTc (τ := Cert.MlpRef2Ideal.τ) (Cert.MlpRef2Ideal.main (F := Ideal))) ⟨m, fun _ => 0, g⟩ (fun r => (∀ c : Dev Cert.MlpRef2Ideal.nD,
      r.2.mem ((c.tc : Thread Cert.MlpRef2Ideal.nD Cert.MlpRef2Ideal.τ).loc Cert.MlpRef2Ideal.main_arg0) = m ((c.tc : Thread Cert.MlpRef2Ideal.nD Cert.MlpRef2Ideal.τ).loc Cert.MlpRef2Ideal.main_arg0)
      ∧ r.2.mem ((c.tc : Thread Cert.MlpRef2Ideal.nD Cert.MlpRef2Ideal.τ).loc Cert.MlpRef2Ideal.main_arg1) = m ((c.tc : Thread Cert.MlpRef2Ideal.nD Cert.MlpRef2Ideal.τ).loc Cert.MlpRef2Ideal.main_arg1)
      ∧ r.2.mem ((c.tc : Thread Cert.MlpRef2Ideal.nD Cert.MlpRef2Ideal.τ).loc Cert.MlpRef2Ideal.main_arg2) = m ((c.tc : Thread Cert.MlpRef2Ideal.nD Cert.MlpRef2Ideal.τ).loc Cert.MlpRef2Ideal.main_arg2)
      ∧ r.2.mem ((c.tc : Thread Cert.MlpRef2Ideal.nD Cert.MlpRef2Ideal.τ).loc Cert.MlpRef2Ideal.main_arg3) = m ((c.tc : Thread Cert.MlpRef2Ideal.nD Cert.MlpRef2Ideal.τ).loc Cert.MlpRef2Ideal.main_arg3)
      ∧ r.2.mem ((c.tc : Thread Cert.MlpRef2Ideal.nD Cert.MlpRef2Ideal.τ).loc Cert.MlpRef2Ideal.main_arg4) = m ((c.tc : Thread Cert.MlpRef2Ideal.nD Cert.MlpRef2Ideal.τ).loc Cert.MlpRef2Ideal.main_arg4)
      ∧ r.2.mem ((c.tc : Thread Cert.MlpRef2Ideal.nD Cert.MlpRef2Ideal.τ).loc Cert.MlpRef2Ideal.main_arg5) = m ((c.tc : Thread Cert.MlpRef2Ideal.nD Cert.MlpRef2Ideal.τ).loc Cert.MlpRef2Ideal.main_arg5)
      ∧ r.2.mem ((c.tc : Thread Cert.MlpRef2Ideal.nD Cert.MlpRef2Ideal.τ).loc Cert.MlpRef2Ideal.main_arg6) = m ((c.tc : Thread Cert.MlpRef2Ideal.nD Cert.MlpRef2Ideal.τ).loc Cert.MlpRef2Ideal.main_arg6))
      ∧ r.2.sem = fun _ => 0)

def quiescent_Mlp3 [hMlp3 : Cert.Mlp3.Facts] : Prop :=
  ∀ (m : (ℓ : Loc Cert.Mlp3.nD Cert.Mlp3.τ Cert.Mlp3.sig) → Buf (Elt Bits) ℓ) (g : Dev Cert.Mlp3.nD → PrngReg), Pre_Mlp3 m →
    θ_run (Cert.Mlp3.defs (F := Bits)) (onTc (τ := Cert.Mlp3.τ) (Cert.Mlp3.main (F := Bits))) ⟨m, fun _ => 0, g⟩ (fun r => (∀ c : Dev Cert.Mlp3.nD,
      r.2.mem ((c.tc : Thread Cert.Mlp3.nD Cert.Mlp3.τ).loc Cert.Mlp3.main_arg0) = m ((c.tc : Thread Cert.Mlp3.nD Cert.Mlp3.τ).loc Cert.Mlp3.main_arg0)
      ∧ r.2.mem ((c.tc : Thread Cert.Mlp3.nD Cert.Mlp3.τ).loc Cert.Mlp3.main_arg1) = m ((c.tc : Thread Cert.Mlp3.nD Cert.Mlp3.τ).loc Cert.Mlp3.main_arg1)
      ∧ r.2.mem ((c.tc : Thread Cert.Mlp3.nD Cert.Mlp3.τ).loc Cert.Mlp3.main_arg2) = m ((c.tc : Thread Cert.Mlp3.nD Cert.Mlp3.τ).loc Cert.Mlp3.main_arg2)
      ∧ r.2.mem ((c.tc : Thread Cert.Mlp3.nD Cert.Mlp3.τ).loc Cert.Mlp3.main_arg3) = m ((c.tc : Thread Cert.Mlp3.nD Cert.Mlp3.τ).loc Cert.Mlp3.main_arg3)
      ∧ r.2.mem ((c.tc : Thread Cert.Mlp3.nD Cert.Mlp3.τ).loc Cert.Mlp3.main_arg4) = m ((c.tc : Thread Cert.Mlp3.nD Cert.Mlp3.τ).loc Cert.Mlp3.main_arg4)
      ∧ r.2.mem ((c.tc : Thread Cert.Mlp3.nD Cert.Mlp3.τ).loc Cert.Mlp3.main_arg5) = m ((c.tc : Thread Cert.Mlp3.nD Cert.Mlp3.τ).loc Cert.Mlp3.main_arg5)
      ∧ r.2.mem ((c.tc : Thread Cert.Mlp3.nD Cert.Mlp3.τ).loc Cert.Mlp3.main_arg6) = m ((c.tc : Thread Cert.Mlp3.nD Cert.Mlp3.τ).loc Cert.Mlp3.main_arg6)
      ∧ r.2.mem ((c.tc : Thread Cert.Mlp3.nD Cert.Mlp3.τ).loc Cert.Mlp3.main_arg7) = m ((c.tc : Thread Cert.Mlp3.nD Cert.Mlp3.τ).loc Cert.Mlp3.main_arg7))
      ∧ r.2.sem = fun _ => 0)

def quiescent_Mlp3Ideal [hMlp3Ideal : Cert.Mlp3Ideal.Facts] : Prop :=
  ∀ (m : (ℓ : Loc Cert.Mlp3Ideal.nD Cert.Mlp3Ideal.τ Cert.Mlp3Ideal.sig) → Buf (Elt Ideal) ℓ) (g : Dev Cert.Mlp3Ideal.nD → PrngReg), Pre_Mlp3Ideal m →
    θ_run (Cert.Mlp3Ideal.defs (F := Ideal)) (onTc (τ := Cert.Mlp3Ideal.τ) (Cert.Mlp3Ideal.main (F := Ideal))) ⟨m, fun _ => 0, g⟩ (fun r => (∀ c : Dev Cert.Mlp3Ideal.nD,
      r.2.mem ((c.tc : Thread Cert.Mlp3Ideal.nD Cert.Mlp3Ideal.τ).loc Cert.Mlp3Ideal.main_arg0) = m ((c.tc : Thread Cert.Mlp3Ideal.nD Cert.Mlp3Ideal.τ).loc Cert.Mlp3Ideal.main_arg0)
      ∧ r.2.mem ((c.tc : Thread Cert.Mlp3Ideal.nD Cert.Mlp3Ideal.τ).loc Cert.Mlp3Ideal.main_arg1) = m ((c.tc : Thread Cert.Mlp3Ideal.nD Cert.Mlp3Ideal.τ).loc Cert.Mlp3Ideal.main_arg1)
      ∧ r.2.mem ((c.tc : Thread Cert.Mlp3Ideal.nD Cert.Mlp3Ideal.τ).loc Cert.Mlp3Ideal.main_arg2) = m ((c.tc : Thread Cert.Mlp3Ideal.nD Cert.Mlp3Ideal.τ).loc Cert.Mlp3Ideal.main_arg2)
      ∧ r.2.mem ((c.tc : Thread Cert.Mlp3Ideal.nD Cert.Mlp3Ideal.τ).loc Cert.Mlp3Ideal.main_arg3) = m ((c.tc : Thread Cert.Mlp3Ideal.nD Cert.Mlp3Ideal.τ).loc Cert.Mlp3Ideal.main_arg3)
      ∧ r.2.mem ((c.tc : Thread Cert.Mlp3Ideal.nD Cert.Mlp3Ideal.τ).loc Cert.Mlp3Ideal.main_arg4) = m ((c.tc : Thread Cert.Mlp3Ideal.nD Cert.Mlp3Ideal.τ).loc Cert.Mlp3Ideal.main_arg4)
      ∧ r.2.mem ((c.tc : Thread Cert.Mlp3Ideal.nD Cert.Mlp3Ideal.τ).loc Cert.Mlp3Ideal.main_arg5) = m ((c.tc : Thread Cert.Mlp3Ideal.nD Cert.Mlp3Ideal.τ).loc Cert.Mlp3Ideal.main_arg5)
      ∧ r.2.mem ((c.tc : Thread Cert.Mlp3Ideal.nD Cert.Mlp3Ideal.τ).loc Cert.Mlp3Ideal.main_arg6) = m ((c.tc : Thread Cert.Mlp3Ideal.nD Cert.Mlp3Ideal.τ).loc Cert.Mlp3Ideal.main_arg6)
      ∧ r.2.mem ((c.tc : Thread Cert.Mlp3Ideal.nD Cert.Mlp3Ideal.τ).loc Cert.Mlp3Ideal.main_arg7) = m ((c.tc : Thread Cert.Mlp3Ideal.nD Cert.Mlp3Ideal.τ).loc Cert.Mlp3Ideal.main_arg7))
      ∧ r.2.sem = fun _ => 0)

def quiescent_MlpRef3Ideal [hMlpRef3Ideal : Cert.MlpRef3Ideal.Facts] : Prop :=
  ∀ (m : (ℓ : Loc Cert.MlpRef3Ideal.nD Cert.MlpRef3Ideal.τ Cert.MlpRef3Ideal.sig) → Buf (Elt Ideal) ℓ) (g : Dev Cert.MlpRef3Ideal.nD → PrngReg), Pre_MlpRef3Ideal m →
    θ_run (Cert.MlpRef3Ideal.defs (F := Ideal)) (onTc (τ := Cert.MlpRef3Ideal.τ) (Cert.MlpRef3Ideal.main (F := Ideal))) ⟨m, fun _ => 0, g⟩ (fun r => (∀ c : Dev Cert.MlpRef3Ideal.nD,
      r.2.mem ((c.tc : Thread Cert.MlpRef3Ideal.nD Cert.MlpRef3Ideal.τ).loc Cert.MlpRef3Ideal.main_arg0) = m ((c.tc : Thread Cert.MlpRef3Ideal.nD Cert.MlpRef3Ideal.τ).loc Cert.MlpRef3Ideal.main_arg0)
      ∧ r.2.mem ((c.tc : Thread Cert.MlpRef3Ideal.nD Cert.MlpRef3Ideal.τ).loc Cert.MlpRef3Ideal.main_arg1) = m ((c.tc : Thread Cert.MlpRef3Ideal.nD Cert.MlpRef3Ideal.τ).loc Cert.MlpRef3Ideal.main_arg1)
      ∧ r.2.mem ((c.tc : Thread Cert.MlpRef3Ideal.nD Cert.MlpRef3Ideal.τ).loc Cert.MlpRef3Ideal.main_arg2) = m ((c.tc : Thread Cert.MlpRef3Ideal.nD Cert.MlpRef3Ideal.τ).loc Cert.MlpRef3Ideal.main_arg2)
      ∧ r.2.mem ((c.tc : Thread Cert.MlpRef3Ideal.nD Cert.MlpRef3Ideal.τ).loc Cert.MlpRef3Ideal.main_arg3) = m ((c.tc : Thread Cert.MlpRef3Ideal.nD Cert.MlpRef3Ideal.τ).loc Cert.MlpRef3Ideal.main_arg3)
      ∧ r.2.mem ((c.tc : Thread Cert.MlpRef3Ideal.nD Cert.MlpRef3Ideal.τ).loc Cert.MlpRef3Ideal.main_arg4) = m ((c.tc : Thread Cert.MlpRef3Ideal.nD Cert.MlpRef3Ideal.τ).loc Cert.MlpRef3Ideal.main_arg4)
      ∧ r.2.mem ((c.tc : Thread Cert.MlpRef3Ideal.nD Cert.MlpRef3Ideal.τ).loc Cert.MlpRef3Ideal.main_arg5) = m ((c.tc : Thread Cert.MlpRef3Ideal.nD Cert.MlpRef3Ideal.τ).loc Cert.MlpRef3Ideal.main_arg5)
      ∧ r.2.mem ((c.tc : Thread Cert.MlpRef3Ideal.nD Cert.MlpRef3Ideal.τ).loc Cert.MlpRef3Ideal.main_arg6) = m ((c.tc : Thread Cert.MlpRef3Ideal.nD Cert.MlpRef3Ideal.τ).loc Cert.MlpRef3Ideal.main_arg6)
      ∧ r.2.mem ((c.tc : Thread Cert.MlpRef3Ideal.nD Cert.MlpRef3Ideal.τ).loc Cert.MlpRef3Ideal.main_arg7) = m ((c.tc : Thread Cert.MlpRef3Ideal.nD Cert.MlpRef3Ideal.τ).loc Cert.MlpRef3Ideal.main_arg7))
      ∧ r.2.sem = fun _ => 0)

def quiescent_Fwd0 [hFwd0 : Cert.Fwd0.Facts] : Prop :=
  ∀ (m : (ℓ : Loc Cert.Fwd0.nD Cert.Fwd0.τ Cert.Fwd0.sig) → Buf (Elt Bits) ℓ) (g : Dev Cert.Fwd0.nD → PrngReg), Pre_Fwd0 m →
    θ_run (Cert.Fwd0.defs (F := Bits)) (onTc (τ := Cert.Fwd0.τ) (Cert.Fwd0.main (F := Bits))) ⟨m, fun _ => 0, g⟩ (fun r => (∀ c : Dev Cert.Fwd0.nD,
      r.2.mem ((c.tc : Thread Cert.Fwd0.nD Cert.Fwd0.τ).loc Cert.Fwd0.main_arg0) = m ((c.tc : Thread Cert.Fwd0.nD Cert.Fwd0.τ).loc Cert.Fwd0.main_arg0)
      ∧ r.2.mem ((c.tc : Thread Cert.Fwd0.nD Cert.Fwd0.τ).loc Cert.Fwd0.main_arg1) = m ((c.tc : Thread Cert.Fwd0.nD Cert.Fwd0.τ).loc Cert.Fwd0.main_arg1)
      ∧ r.2.mem ((c.tc : Thread Cert.Fwd0.nD Cert.Fwd0.τ).loc Cert.Fwd0.main_arg2) = m ((c.tc : Thread Cert.Fwd0.nD Cert.Fwd0.τ).loc Cert.Fwd0.main_arg2)
      ∧ r.2.mem ((c.tc : Thread Cert.Fwd0.nD Cert.Fwd0.τ).loc Cert.Fwd0.main_arg3) = m ((c.tc : Thread Cert.Fwd0.nD Cert.Fwd0.τ).loc Cert.Fwd0.main_arg3)
      ∧ r.2.mem ((c.tc : Thread Cert.Fwd0.nD Cert.Fwd0.τ).loc Cert.Fwd0.main_arg4) = m ((c.tc : Thread Cert.Fwd0.nD Cert.Fwd0.τ).loc Cert.Fwd0.main_arg4))
      ∧ r.2.sem = fun _ => 0)

def quiescent_Fwd0Ideal [hFwd0Ideal : Cert.Fwd0Ideal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg), Pre_Fwd0Ideal m →
    θ_run (Cert.Fwd0Ideal.defs (F := Ideal)) (onTc (τ := Cert.Fwd0Ideal.τ) (Cert.Fwd0Ideal.main (F := Ideal))) ⟨m, fun _ => 0, g⟩ (fun r => (∀ c : Dev Cert.Fwd0Ideal.nD,
      r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
      ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
      ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
      ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3)
      ∧ r.2.mem ((c.tc : Thread Cert.Fwd0Ideal.nD Cert.Fwd0Ideal.τ).loc Cert.Fwd0Ideal.main_arg4) = m ((c.tc : Thread Cert.Fwd0Ideal.nD Cert.Fwd0Ideal.τ).loc Cert.Fwd0Ideal.main_arg4))
      ∧ r.2.sem = fun _ => 0)

def quiescent_FwdRef0Ideal [hFwdRef0Ideal : Cert.FwdRef0Ideal.Facts] : Prop :=
  ∀ (m : (ℓ : Loc Cert.FwdRef0Ideal.nD Cert.FwdRef0Ideal.τ Cert.FwdRef0Ideal.sig) → Buf (Elt Ideal) ℓ) (g : Dev Cert.FwdRef0Ideal.nD → PrngReg), Pre_FwdRef0Ideal m →
    θ_run (Cert.FwdRef0Ideal.defs (F := Ideal)) (onTc (τ := Cert.FwdRef0Ideal.τ) (Cert.FwdRef0Ideal.main (F := Ideal))) ⟨m, fun _ => 0, g⟩ (fun r => (∀ c : Dev Cert.FwdRef0Ideal.nD,
      r.2.mem ((c.tc : Thread Cert.FwdRef0Ideal.nD Cert.FwdRef0Ideal.τ).loc Cert.FwdRef0Ideal.main_arg0) = m ((c.tc : Thread Cert.FwdRef0Ideal.nD Cert.FwdRef0Ideal.τ).loc Cert.FwdRef0Ideal.main_arg0)
      ∧ r.2.mem ((c.tc : Thread Cert.FwdRef0Ideal.nD Cert.FwdRef0Ideal.τ).loc Cert.FwdRef0Ideal.main_arg1) = m ((c.tc : Thread Cert.FwdRef0Ideal.nD Cert.FwdRef0Ideal.τ).loc Cert.FwdRef0Ideal.main_arg1)
      ∧ r.2.mem ((c.tc : Thread Cert.FwdRef0Ideal.nD Cert.FwdRef0Ideal.τ).loc Cert.FwdRef0Ideal.main_arg2) = m ((c.tc : Thread Cert.FwdRef0Ideal.nD Cert.FwdRef0Ideal.τ).loc Cert.FwdRef0Ideal.main_arg2)
      ∧ r.2.mem ((c.tc : Thread Cert.FwdRef0Ideal.nD Cert.FwdRef0Ideal.τ).loc Cert.FwdRef0Ideal.main_arg3) = m ((c.tc : Thread Cert.FwdRef0Ideal.nD Cert.FwdRef0Ideal.τ).loc Cert.FwdRef0Ideal.main_arg3)
      ∧ r.2.mem ((c.tc : Thread Cert.FwdRef0Ideal.nD Cert.FwdRef0Ideal.τ).loc Cert.FwdRef0Ideal.main_arg4) = m ((c.tc : Thread Cert.FwdRef0Ideal.nD Cert.FwdRef0Ideal.τ).loc Cert.FwdRef0Ideal.main_arg4))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1)
      ∧ r.2.mem ((c.tc : Thread Cert.Qkv0.nD Cert.Qkv0.τ).loc Cert.Qkv0.main_arg2) = m ((c.tc : Thread Cert.Qkv0.nD Cert.Qkv0.τ).loc Cert.Qkv0.main_arg2))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
      ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2))
      ∧ r.2.sem = fun _ => 0)

def quiescent_QkvRef0Ideal [hQkvRef0Ideal : Cert.QkvRef0Ideal.Facts] : Prop :=
  ∀ (m : (ℓ : Loc Cert.QkvRef0Ideal.nD Cert.QkvRef0Ideal.τ Cert.QkvRef0Ideal.sig) → Buf (Elt Ideal) ℓ) (g : Dev Cert.QkvRef0Ideal.nD → PrngReg), Pre_QkvRef0Ideal m →
    θ_run (Cert.QkvRef0Ideal.defs (F := Ideal)) (onTc (τ := Cert.QkvRef0Ideal.τ) (Cert.QkvRef0Ideal.main (F := Ideal))) ⟨m, fun _ => 0, g⟩ (fun r => (∀ c : Dev Cert.QkvRef0Ideal.nD,
      r.2.mem ((c.tc : Thread Cert.QkvRef0Ideal.nD Cert.QkvRef0Ideal.τ).loc Cert.QkvRef0Ideal.main_arg0) = m ((c.tc : Thread Cert.QkvRef0Ideal.nD Cert.QkvRef0Ideal.τ).loc Cert.QkvRef0Ideal.main_arg0)
      ∧ r.2.mem ((c.tc : Thread Cert.QkvRef0Ideal.nD Cert.QkvRef0Ideal.τ).loc Cert.QkvRef0Ideal.main_arg1) = m ((c.tc : Thread Cert.QkvRef0Ideal.nD Cert.QkvRef0Ideal.τ).loc Cert.QkvRef0Ideal.main_arg1)
      ∧ r.2.mem ((c.tc : Thread Cert.QkvRef0Ideal.nD Cert.QkvRef0Ideal.τ).loc Cert.QkvRef0Ideal.main_arg2) = m ((c.tc : Thread Cert.QkvRef0Ideal.nD Cert.QkvRef0Ideal.τ).loc Cert.QkvRef0Ideal.main_arg2))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ r.2.sem = fun _ => 0)

def quiescent_QkvRef1Ideal [hQkvRef1Ideal : Cert.QkvRef1Ideal.Facts] : Prop :=
  ∀ (m : (ℓ : Loc Cert.QkvRef1Ideal.nD Cert.QkvRef1Ideal.τ Cert.QkvRef1Ideal.sig) → Buf (Elt Ideal) ℓ) (g : Dev Cert.QkvRef1Ideal.nD → PrngReg), Pre_QkvRef1Ideal m →
    θ_run (Cert.QkvRef1Ideal.defs (F := Ideal)) (onTc (τ := Cert.QkvRef1Ideal.τ) (Cert.QkvRef1Ideal.main (F := Ideal))) ⟨m, fun _ => 0, g⟩ (fun r => (∀ c : Dev Cert.QkvRef1Ideal.nD,
      r.2.mem ((c.tc : Thread Cert.QkvRef1Ideal.nD Cert.QkvRef1Ideal.τ).loc Cert.QkvRef1Ideal.main_arg0) = m ((c.tc : Thread Cert.QkvRef1Ideal.nD Cert.QkvRef1Ideal.τ).loc Cert.QkvRef1Ideal.main_arg0)
      ∧ r.2.mem ((c.tc : Thread Cert.QkvRef1Ideal.nD Cert.QkvRef1Ideal.τ).loc Cert.QkvRef1Ideal.main_arg1) = m ((c.tc : Thread Cert.QkvRef1Ideal.nD Cert.QkvRef1Ideal.τ).loc Cert.QkvRef1Ideal.main_arg1)
      ∧ r.2.mem ((c.tc : Thread Cert.QkvRef1Ideal.nD Cert.QkvRef1Ideal.τ).loc Cert.QkvRef1Ideal.main_arg2) = m ((c.tc : Thread Cert.QkvRef1Ideal.nD Cert.QkvRef1Ideal.τ).loc Cert.QkvRef1Ideal.main_arg2)
      ∧ r.2.mem ((c.tc : Thread Cert.QkvRef1Ideal.nD Cert.QkvRef1Ideal.τ).loc Cert.QkvRef1Ideal.main_arg3) = m ((c.tc : Thread Cert.QkvRef1Ideal.nD Cert.QkvRef1Ideal.τ).loc Cert.QkvRef1Ideal.main_arg3)
      ∧ r.2.mem ((c.tc : Thread Cert.QkvRef1Ideal.nD Cert.QkvRef1Ideal.τ).loc Cert.QkvRef1Ideal.main_arg4) = m ((c.tc : Thread Cert.QkvRef1Ideal.nD Cert.QkvRef1Ideal.τ).loc Cert.QkvRef1Ideal.main_arg4))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ r.2.sem = fun _ => 0)

def quiescent_QkvRef2Ideal [hQkvRef2Ideal : Cert.QkvRef2Ideal.Facts] : Prop :=
  ∀ (m : (ℓ : Loc Cert.QkvRef2Ideal.nD Cert.QkvRef2Ideal.τ Cert.QkvRef2Ideal.sig) → Buf (Elt Ideal) ℓ) (g : Dev Cert.QkvRef2Ideal.nD → PrngReg), Pre_QkvRef2Ideal m →
    θ_run (Cert.QkvRef2Ideal.defs (F := Ideal)) (onTc (τ := Cert.QkvRef2Ideal.τ) (Cert.QkvRef2Ideal.main (F := Ideal))) ⟨m, fun _ => 0, g⟩ (fun r => (∀ c : Dev Cert.QkvRef2Ideal.nD,
      r.2.mem ((c.tc : Thread Cert.QkvRef2Ideal.nD Cert.QkvRef2Ideal.τ).loc Cert.QkvRef2Ideal.main_arg0) = m ((c.tc : Thread Cert.QkvRef2Ideal.nD Cert.QkvRef2Ideal.τ).loc Cert.QkvRef2Ideal.main_arg0)
      ∧ r.2.mem ((c.tc : Thread Cert.QkvRef2Ideal.nD Cert.QkvRef2Ideal.τ).loc Cert.QkvRef2Ideal.main_arg1) = m ((c.tc : Thread Cert.QkvRef2Ideal.nD Cert.QkvRef2Ideal.τ).loc Cert.QkvRef2Ideal.main_arg1))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ r.2.sem = fun _ => 0)

def quiescent_OutRef0Ideal [hOutRef0Ideal : Cert.OutRef0Ideal.Facts] : Prop :=
  ∀ (m : (ℓ : Loc Cert.OutRef0Ideal.nD Cert.OutRef0Ideal.τ Cert.OutRef0Ideal.sig) → Buf (Elt Ideal) ℓ) (g : Dev Cert.OutRef0Ideal.nD → PrngReg), Pre_OutRef0Ideal m →
    θ_run (Cert.OutRef0Ideal.defs (F := Ideal)) (onTc (τ := Cert.OutRef0Ideal.τ) (Cert.OutRef0Ideal.main (F := Ideal))) ⟨m, fun _ => 0, g⟩ (fun r => (∀ c : Dev Cert.OutRef0Ideal.nD,
      r.2.mem ((c.tc : Thread Cert.OutRef0Ideal.nD Cert.OutRef0Ideal.τ).loc Cert.OutRef0Ideal.main_arg0) = m ((c.tc : Thread Cert.OutRef0Ideal.nD Cert.OutRef0Ideal.τ).loc Cert.OutRef0Ideal.main_arg0)
      ∧ r.2.mem ((c.tc : Thread Cert.OutRef0Ideal.nD Cert.OutRef0Ideal.τ).loc Cert.OutRef0Ideal.main_arg1) = m ((c.tc : Thread Cert.OutRef0Ideal.nD Cert.OutRef0Ideal.τ).loc Cert.OutRef0Ideal.main_arg1)
      ∧ r.2.mem ((c.tc : Thread Cert.OutRef0Ideal.nD Cert.OutRef0Ideal.τ).loc Cert.OutRef0Ideal.main_arg2) = m ((c.tc : Thread Cert.OutRef0Ideal.nD Cert.OutRef0Ideal.τ).loc Cert.OutRef0Ideal.main_arg2))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1))
      ∧ r.2.sem = fun _ => 0)

def quiescent_OutRef1Ideal [hOutRef1Ideal : Cert.OutRef1Ideal.Facts] : Prop :=
  ∀ (m : (ℓ : Loc Cert.OutRef1Ideal.nD Cert.OutRef1Ideal.τ Cert.OutRef1Ideal.sig) → Buf (Elt Ideal) ℓ) (g : Dev Cert.OutRef1Ideal.nD → PrngReg), Pre_OutRef1Ideal m →
    θ_run (Cert.OutRef1Ideal.defs (F := Ideal)) (onTc (τ := Cert.OutRef1Ideal.τ) (Cert.OutRef1Ideal.main (F := Ideal))) ⟨m, fun _ => 0, g⟩ (fun r => (∀ c : Dev Cert.OutRef1Ideal.nD,
      r.2.mem ((c.tc : Thread Cert.OutRef1Ideal.nD Cert.OutRef1Ideal.τ).loc Cert.OutRef1Ideal.main_arg0) = m ((c.tc : Thread Cert.OutRef1Ideal.nD Cert.OutRef1Ideal.τ).loc Cert.OutRef1Ideal.main_arg0)
      ∧ r.2.mem ((c.tc : Thread Cert.OutRef1Ideal.nD Cert.OutRef1Ideal.τ).loc Cert.OutRef1Ideal.main_arg1) = m ((c.tc : Thread Cert.OutRef1Ideal.nD Cert.OutRef1Ideal.τ).loc Cert.OutRef1Ideal.main_arg1))
      ∧ r.2.sem = fun _ => 0)

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1))
      ∧ r.2.sem = fun _ => 0)

def quiescent_OutRef2Ideal [hOutRef2Ideal : Cert.OutRef2Ideal.Facts] : Prop :=
  ∀ (m : (ℓ : Loc Cert.OutRef2Ideal.nD Cert.OutRef2Ideal.τ Cert.OutRef2Ideal.sig) → Buf (Elt Ideal) ℓ) (g : Dev Cert.OutRef2Ideal.nD → PrngReg), Pre_OutRef2Ideal m →
    θ_run (Cert.OutRef2Ideal.defs (F := Ideal)) (onTc (τ := Cert.OutRef2Ideal.τ) (Cert.OutRef2Ideal.main (F := Ideal))) ⟨m, fun _ => 0, g⟩ (fun r => (∀ c : Dev Cert.OutRef2Ideal.nD,
      r.2.mem ((c.tc : Thread Cert.OutRef2Ideal.nD Cert.OutRef2Ideal.τ).loc Cert.OutRef2Ideal.main_arg0) = m ((c.tc : Thread Cert.OutRef2Ideal.nD Cert.OutRef2Ideal.τ).loc Cert.OutRef2Ideal.main_arg0)
      ∧ r.2.mem ((c.tc : Thread Cert.OutRef2Ideal.nD Cert.OutRef2Ideal.τ).loc Cert.OutRef2Ideal.main_arg1) = m ((c.tc : Thread Cert.OutRef2Ideal.nD Cert.OutRef2Ideal.τ).loc Cert.OutRef2Ideal.main_arg1))
      ∧ r.2.sem = fun _ => 0)

def quiescent_Glu0 [hGlu0 : Cert.Glu0.Facts] : Prop :=
  ∀ (m : (ℓ : Loc Cert.Glu0.nD Cert.Glu0.τ Cert.Glu0.sig) → Buf (Elt Bits) ℓ) (g : Dev Cert.Glu0.nD → PrngReg), Pre_Glu0 m →
    θ_run (Cert.Glu0.defs (F := Bits)) (onTc (τ := Cert.Glu0.τ) (Cert.Glu0.main (F := Bits))) ⟨m, fun _ => 0, g⟩ (fun r => (∀ c : Dev Cert.Glu0.nD,
      r.2.mem ((c.tc : Thread Cert.Glu0.nD Cert.Glu0.τ).loc Cert.Glu0.main_arg0) = m ((c.tc : Thread Cert.Glu0.nD Cert.Glu0.τ).loc Cert.Glu0.main_arg0)
      ∧ r.2.mem ((c.tc : Thread Cert.Glu0.nD Cert.Glu0.τ).loc Cert.Glu0.main_arg1) = m ((c.tc : Thread Cert.Glu0.nD Cert.Glu0.τ).loc Cert.Glu0.main_arg1))
      ∧ r.2.sem = fun _ => 0)

def quiescent_Glu0Ideal [hGlu0Ideal : Cert.Glu0Ideal.Facts] : Prop :=
  ∀ (m : (ℓ : Loc Cert.Glu0Ideal.nD Cert.Glu0Ideal.τ Cert.Glu0Ideal.sig) → Buf (Elt Ideal) ℓ) (g : Dev Cert.Glu0Ideal.nD → PrngReg), Pre_Glu0Ideal m →
    θ_run (Cert.Glu0Ideal.defs (F := Ideal)) (onTc (τ := Cert.Glu0Ideal.τ) (Cert.Glu0Ideal.main (F := Ideal))) ⟨m, fun _ => 0, g⟩ (fun r => (∀ c : Dev Cert.Glu0Ideal.nD,
      r.2.mem ((c.tc : Thread Cert.Glu0Ideal.nD Cert.Glu0Ideal.τ).loc Cert.Glu0Ideal.main_arg0) = m ((c.tc : Thread Cert.Glu0Ideal.nD Cert.Glu0Ideal.τ).loc Cert.Glu0Ideal.main_arg0)
      ∧ r.2.mem ((c.tc : Thread Cert.Glu0Ideal.nD Cert.Glu0Ideal.τ).loc Cert.Glu0Ideal.main_arg1) = m ((c.tc : Thread Cert.Glu0Ideal.nD Cert.Glu0Ideal.τ).loc Cert.Glu0Ideal.main_arg1))
      ∧ r.2.sem = fun _ => 0)

def quiescent_GluRef0Ideal [hGluRef0Ideal : Cert.GluRef0Ideal.Facts] : Prop :=
  ∀ (m : (ℓ : Loc Cert.GluRef0Ideal.nD Cert.GluRef0Ideal.τ Cert.GluRef0Ideal.sig) → Buf (Elt Ideal) ℓ) (g : Dev Cert.GluRef0Ideal.nD → PrngReg), Pre_GluRef0Ideal m →
    θ_run (Cert.GluRef0Ideal.defs (F := Ideal)) (onTc (τ := Cert.GluRef0Ideal.τ) (Cert.GluRef0Ideal.main (F := Ideal))) ⟨m, fun _ => 0, g⟩ (fun r => (∀ c : Dev Cert.GluRef0Ideal.nD,
      r.2.mem ((c.tc : Thread Cert.GluRef0Ideal.nD Cert.GluRef0Ideal.τ).loc Cert.GluRef0Ideal.main_arg0) = m ((c.tc : Thread Cert.GluRef0Ideal.nD Cert.GluRef0Ideal.τ).loc Cert.GluRef0Ideal.main_arg0)
      ∧ r.2.mem ((c.tc : Thread Cert.GluRef0Ideal.nD Cert.GluRef0Ideal.τ).loc Cert.GluRef0Ideal.main_arg1) = m ((c.tc : Thread Cert.GluRef0Ideal.nD Cert.GluRef0Ideal.τ).loc Cert.GluRef0Ideal.main_arg1))
      ∧ r.2.sem = fun _ => 0)

def quiescent_Glu1 [hGlu1 : Cert.Glu1.Facts] : Prop :=
  ∀ (m : (ℓ : Loc Cert.Glu1.nD Cert.Glu1.τ Cert.Glu1.sig) → Buf (Elt Bits) ℓ) (g : Dev Cert.Glu1.nD → PrngReg), Pre_Glu1 m →
    θ_run (Cert.Glu1.defs (F := Bits)) (onTc (τ := Cert.Glu1.τ) (Cert.Glu1.main (F := Bits))) ⟨m, fun _ => 0, g⟩ (fun r => (∀ c : Dev Cert.Glu1.nD,
      r.2.mem ((c.tc : Thread Cert.Glu1.nD Cert.Glu1.τ).loc Cert.Glu1.main_arg0) = m ((c.tc : Thread Cert.Glu1.nD Cert.Glu1.τ).loc Cert.Glu1.main_arg0)
      ∧ r.2.mem ((c.tc : Thread Cert.Glu1.nD Cert.Glu1.τ).loc Cert.Glu1.main_arg1) = m ((c.tc : Thread Cert.Glu1.nD Cert.Glu1.τ).loc Cert.Glu1.main_arg1)
      ∧ r.2.mem ((c.tc : Thread Cert.Glu1.nD Cert.Glu1.τ).loc Cert.Glu1.main_arg2) = m ((c.tc : Thread Cert.Glu1.nD Cert.Glu1.τ).loc Cert.Glu1.main_arg2))
      ∧ r.2.sem = fun _ => 0)

def quiescent_Glu1Ideal [hGlu1Ideal : Cert.Glu1Ideal.Facts] : Prop :=
  ∀ (m : (ℓ : Loc Cert.Glu1Ideal.nD Cert.Glu1Ideal.τ Cert.Glu1Ideal.sig) → Buf (Elt Ideal) ℓ) (g : Dev Cert.Glu1Ideal.nD → PrngReg), Pre_Glu1Ideal m →
    θ_run (Cert.Glu1Ideal.defs (F := Ideal)) (onTc (τ := Cert.Glu1Ideal.τ) (Cert.Glu1Ideal.main (F := Ideal))) ⟨m, fun _ => 0, g⟩ (fun r => (∀ c : Dev Cert.Glu1Ideal.nD,
      r.2.mem ((c.tc : Thread Cert.Glu1Ideal.nD Cert.Glu1Ideal.τ).loc Cert.Glu1Ideal.main_arg0) = m ((c.tc : Thread Cert.Glu1Ideal.nD Cert.Glu1Ideal.τ).loc Cert.Glu1Ideal.main_arg0)
      ∧ r.2.mem ((c.tc : Thread Cert.Glu1Ideal.nD Cert.Glu1Ideal.τ).loc Cert.Glu1Ideal.main_arg1) = m ((c.tc : Thread Cert.Glu1Ideal.nD Cert.Glu1Ideal.τ).loc Cert.Glu1Ideal.main_arg1)
      ∧ r.2.mem ((c.tc : Thread Cert.Glu1Ideal.nD Cert.Glu1Ideal.τ).loc Cert.Glu1Ideal.main_arg2) = m ((c.tc : Thread Cert.Glu1Ideal.nD Cert.Glu1Ideal.τ).loc Cert.Glu1Ideal.main_arg2))
      ∧ r.2.sem = fun _ => 0)

def quiescent_GluRef1Ideal [hGluRef1Ideal : Cert.GluRef1Ideal.Facts] : Prop :=
  ∀ (m : (ℓ : Loc Cert.GluRef1Ideal.nD Cert.GluRef1Ideal.τ Cert.GluRef1Ideal.sig) → Buf (Elt Ideal) ℓ) (g : Dev Cert.GluRef1Ideal.nD → PrngReg), Pre_GluRef1Ideal m →
    θ_run (Cert.GluRef1Ideal.defs (F := Ideal)) (onTc (τ := Cert.GluRef1Ideal.τ) (Cert.GluRef1Ideal.main (F := Ideal))) ⟨m, fun _ => 0, g⟩ (fun r => (∀ c : Dev Cert.GluRef1Ideal.nD,
      r.2.mem ((c.tc : Thread Cert.GluRef1Ideal.nD Cert.GluRef1Ideal.τ).loc Cert.GluRef1Ideal.main_arg0) = m ((c.tc : Thread Cert.GluRef1Ideal.nD Cert.GluRef1Ideal.τ).loc Cert.GluRef1Ideal.main_arg0)
      ∧ r.2.mem ((c.tc : Thread Cert.GluRef1Ideal.nD Cert.GluRef1Ideal.τ).loc Cert.GluRef1Ideal.main_arg1) = m ((c.tc : Thread Cert.GluRef1Ideal.nD Cert.GluRef1Ideal.τ).loc Cert.GluRef1Ideal.main_arg1)
      ∧ r.2.mem ((c.tc : Thread Cert.GluRef1Ideal.nD Cert.GluRef1Ideal.τ).loc Cert.GluRef1Ideal.main_arg2) = m ((c.tc : Thread Cert.GluRef1Ideal.nD Cert.GluRef1Ideal.τ).loc Cert.GluRef1Ideal.main_arg2))
      ∧ r.2.sem = fun _ => 0)

def quiescent_Glu2 [hGlu2 : Cert.Glu2.Facts] : Prop :=
  ∀ (m : (ℓ : Loc Cert.Glu2.nD Cert.Glu2.τ Cert.Glu2.sig) → Buf (Elt Bits) ℓ) (g : Dev Cert.Glu2.nD → PrngReg), Pre_Glu2 m →
    θ_run (Cert.Glu2.defs (F := Bits)) (onTc (τ := Cert.Glu2.τ) (Cert.Glu2.main (F := Bits))) ⟨m, fun _ => 0, g⟩ (fun r => (∀ c : Dev Cert.Glu2.nD,
      r.2.mem ((c.tc : Thread Cert.Glu2.nD Cert.Glu2.τ).loc Cert.Glu2.main_arg0) = m ((c.tc : Thread Cert.Glu2.nD Cert.Glu2.τ).loc Cert.Glu2.main_arg0)
      ∧ r.2.mem ((c.tc : Thread Cert.Glu2.nD Cert.Glu2.τ).loc Cert.Glu2.main_arg1) = m ((c.tc : Thread Cert.Glu2.nD Cert.Glu2.τ).loc Cert.Glu2.main_arg1))
      ∧ r.2.sem = fun _ => 0)

def quiescent_Glu2Ideal [hGlu2Ideal : Cert.Glu2Ideal.Facts] : Prop :=
  ∀ (m : (ℓ : Loc Cert.Glu2Ideal.nD Cert.Glu2Ideal.τ Cert.Glu2Ideal.sig) → Buf (Elt Ideal) ℓ) (g : Dev Cert.Glu2Ideal.nD → PrngReg), Pre_Glu2Ideal m →
    θ_run (Cert.Glu2Ideal.defs (F := Ideal)) (onTc (τ := Cert.Glu2Ideal.τ) (Cert.Glu2Ideal.main (F := Ideal))) ⟨m, fun _ => 0, g⟩ (fun r => (∀ c : Dev Cert.Glu2Ideal.nD,
      r.2.mem ((c.tc : Thread Cert.Glu2Ideal.nD Cert.Glu2Ideal.τ).loc Cert.Glu2Ideal.main_arg0) = m ((c.tc : Thread Cert.Glu2Ideal.nD Cert.Glu2Ideal.τ).loc Cert.Glu2Ideal.main_arg0)
      ∧ r.2.mem ((c.tc : Thread Cert.Glu2Ideal.nD Cert.Glu2Ideal.τ).loc Cert.Glu2Ideal.main_arg1) = m ((c.tc : Thread Cert.Glu2Ideal.nD Cert.Glu2Ideal.τ).loc Cert.Glu2Ideal.main_arg1))
      ∧ r.2.sem = fun _ => 0)

def quiescent_GluRef2Ideal [hGluRef2Ideal : Cert.GluRef2Ideal.Facts] : Prop :=
  ∀ (m : (ℓ : Loc Cert.GluRef2Ideal.nD Cert.GluRef2Ideal.τ Cert.GluRef2Ideal.sig) → Buf (Elt Ideal) ℓ) (g : Dev Cert.GluRef2Ideal.nD → PrngReg), Pre_GluRef2Ideal m →
    θ_run (Cert.GluRef2Ideal.defs (F := Ideal)) (onTc (τ := Cert.GluRef2Ideal.τ) (Cert.GluRef2Ideal.main (F := Ideal))) ⟨m, fun _ => 0, g⟩ (fun r => (∀ c : Dev Cert.GluRef2Ideal.nD,
      r.2.mem ((c.tc : Thread Cert.GluRef2Ideal.nD Cert.GluRef2Ideal.τ).loc Cert.GluRef2Ideal.main_arg0) = m ((c.tc : Thread Cert.GluRef2Ideal.nD Cert.GluRef2Ideal.τ).loc Cert.GluRef2Ideal.main_arg0)
      ∧ r.2.mem ((c.tc : Thread Cert.GluRef2Ideal.nD Cert.GluRef2Ideal.τ).loc Cert.GluRef2Ideal.main_arg1) = m ((c.tc : Thread Cert.GluRef2Ideal.nD Cert.GluRef2Ideal.τ).loc Cert.GluRef2Ideal.main_arg1))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1)
      ∧ r.2.mem ((c.tc : Thread Cert.Norm0.nD Cert.Norm0.τ).loc Cert.Norm0.main_arg2) = m ((c.tc : Thread Cert.Norm0.nD Cert.Norm0.τ).loc Cert.Norm0.main_arg2)
      ∧ r.2.mem ((c.tc : Thread Cert.Norm0.nD Cert.Norm0.τ).loc Cert.Norm0.main_arg3) = m ((c.tc : Thread Cert.Norm0.nD Cert.Norm0.τ).loc Cert.Norm0.main_arg3))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
      ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
      ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3))
      ∧ r.2.sem = fun _ => 0)

def quiescent_NormRef0Ideal [hNormRef0Ideal : Cert.NormRef0Ideal.Facts] : Prop :=
  ∀ (m : (ℓ : Loc Cert.NormRef0Ideal.nD Cert.NormRef0Ideal.τ Cert.NormRef0Ideal.sig) → Buf (Elt Ideal) ℓ) (g : Dev Cert.NormRef0Ideal.nD → PrngReg), Pre_NormRef0Ideal m →
    θ_run (Cert.NormRef0Ideal.defs (F := Ideal)) (onTc (τ := Cert.NormRef0Ideal.τ) (Cert.NormRef0Ideal.main (F := Ideal))) ⟨m, fun _ => 0, g⟩ (fun r => (∀ c : Dev Cert.NormRef0Ideal.nD,
      r.2.mem ((c.tc : Thread Cert.NormRef0Ideal.nD Cert.NormRef0Ideal.τ).loc Cert.NormRef0Ideal.main_arg0) = m ((c.tc : Thread Cert.NormRef0Ideal.nD Cert.NormRef0Ideal.τ).loc Cert.NormRef0Ideal.main_arg0)
      ∧ r.2.mem ((c.tc : Thread Cert.NormRef0Ideal.nD Cert.NormRef0Ideal.τ).loc Cert.NormRef0Ideal.main_arg1) = m ((c.tc : Thread Cert.NormRef0Ideal.nD Cert.NormRef0Ideal.τ).loc Cert.NormRef0Ideal.main_arg1)
      ∧ r.2.mem ((c.tc : Thread Cert.NormRef0Ideal.nD Cert.NormRef0Ideal.τ).loc Cert.NormRef0Ideal.main_arg2) = m ((c.tc : Thread Cert.NormRef0Ideal.nD Cert.NormRef0Ideal.τ).loc Cert.NormRef0Ideal.main_arg2)
      ∧ r.2.mem ((c.tc : Thread Cert.NormRef0Ideal.nD Cert.NormRef0Ideal.τ).loc Cert.NormRef0Ideal.main_arg3) = m ((c.tc : Thread Cert.NormRef0Ideal.nD Cert.NormRef0Ideal.τ).loc Cert.NormRef0Ideal.main_arg3))
      ∧ r.2.sem = fun _ => 0)

def quiescent_Adam0 [hAdam0 : Cert.Adam0.Facts] : Prop :=
  ∀ (m : (ℓ : Loc Cert.Adam0.nD Cert.Adam0.τ Cert.Adam0.sig) → Buf (Elt Bits) ℓ) (g : Dev Cert.Adam0.nD → PrngReg), Pre_Adam0 m →
    θ_run (Cert.Adam0.defs (F := Bits)) (onTc (τ := Cert.Adam0.τ) (Cert.Adam0.main (F := Bits))) ⟨m, fun _ => 0, g⟩ (fun r => (∀ c : Dev Cert.Adam0.nD,
      r.2.mem ((c.tc : Thread Cert.Adam0.nD Cert.Adam0.τ).loc Cert.Adam0.main_arg0) = m ((c.tc : Thread Cert.Adam0.nD Cert.Adam0.τ).loc Cert.Adam0.main_arg0)
      ∧ r.2.mem ((c.tc : Thread Cert.Adam0.nD Cert.Adam0.τ).loc Cert.Adam0.main_arg1) = m ((c.tc : Thread Cert.Adam0.nD Cert.Adam0.τ).loc Cert.Adam0.main_arg1)
      ∧ r.2.mem ((c.tc : Thread Cert.Adam0.nD Cert.Adam0.τ).loc Cert.Adam0.main_arg2) = m ((c.tc : Thread Cert.Adam0.nD Cert.Adam0.τ).loc Cert.Adam0.main_arg2)
      ∧ r.2.mem ((c.tc : Thread Cert.Adam0.nD Cert.Adam0.τ).loc Cert.Adam0.main_arg3) = m ((c.tc : Thread Cert.Adam0.nD Cert.Adam0.τ).loc Cert.Adam0.main_arg3)
      ∧ r.2.mem ((c.tc : Thread Cert.Adam0.nD Cert.Adam0.τ).loc Cert.Adam0.main_arg4) = m ((c.tc : Thread Cert.Adam0.nD Cert.Adam0.τ).loc Cert.Adam0.main_arg4))
      ∧ r.2.sem = fun _ => 0)

def quiescent_Adam0Ideal [hAdam0Ideal : Cert.Adam0Ideal.Facts] : Prop :=
  ∀ (m : (ℓ : Loc Cert.Adam0Ideal.nD Cert.Adam0Ideal.τ Cert.Adam0Ideal.sig) → Buf (Elt Ideal) ℓ) (g : Dev Cert.Adam0Ideal.nD → PrngReg), Pre_Adam0Ideal m →
    θ_run (Cert.Adam0Ideal.defs (F := Ideal)) (onTc (τ := Cert.Adam0Ideal.τ) (Cert.Adam0Ideal.main (F := Ideal))) ⟨m, fun _ => 0, g⟩ (fun r => (∀ c : Dev Cert.Adam0Ideal.nD,
      r.2.mem ((c.tc : Thread Cert.Adam0Ideal.nD Cert.Adam0Ideal.τ).loc Cert.Adam0Ideal.main_arg0) = m ((c.tc : Thread Cert.Adam0Ideal.nD Cert.Adam0Ideal.τ).loc Cert.Adam0Ideal.main_arg0)
      ∧ r.2.mem ((c.tc : Thread Cert.Adam0Ideal.nD Cert.Adam0Ideal.τ).loc Cert.Adam0Ideal.main_arg1) = m ((c.tc : Thread Cert.Adam0Ideal.nD Cert.Adam0Ideal.τ).loc Cert.Adam0Ideal.main_arg1)
      ∧ r.2.mem ((c.tc : Thread Cert.Adam0Ideal.nD Cert.Adam0Ideal.τ).loc Cert.Adam0Ideal.main_arg2) = m ((c.tc : Thread Cert.Adam0Ideal.nD Cert.Adam0Ideal.τ).loc Cert.Adam0Ideal.main_arg2)
      ∧ r.2.mem ((c.tc : Thread Cert.Adam0Ideal.nD Cert.Adam0Ideal.τ).loc Cert.Adam0Ideal.main_arg3) = m ((c.tc : Thread Cert.Adam0Ideal.nD Cert.Adam0Ideal.τ).loc Cert.Adam0Ideal.main_arg3)
      ∧ r.2.mem ((c.tc : Thread Cert.Adam0Ideal.nD Cert.Adam0Ideal.τ).loc Cert.Adam0Ideal.main_arg4) = m ((c.tc : Thread Cert.Adam0Ideal.nD Cert.Adam0Ideal.τ).loc Cert.Adam0Ideal.main_arg4))
      ∧ r.2.sem = fun _ => 0)

def quiescent_AdamRef0Ideal [hAdamRef0Ideal : Cert.AdamRef0Ideal.Facts] : Prop :=
  ∀ (m : (ℓ : Loc Cert.AdamRef0Ideal.nD Cert.AdamRef0Ideal.τ Cert.AdamRef0Ideal.sig) → Buf (Elt Ideal) ℓ) (g : Dev Cert.AdamRef0Ideal.nD → PrngReg), Pre_AdamRef0Ideal m →
    θ_run (Cert.AdamRef0Ideal.defs (F := Ideal)) (onTc (τ := Cert.AdamRef0Ideal.τ) (Cert.AdamRef0Ideal.main (F := Ideal))) ⟨m, fun _ => 0, g⟩ (fun r => (∀ c : Dev Cert.AdamRef0Ideal.nD,
      r.2.mem ((c.tc : Thread Cert.AdamRef0Ideal.nD Cert.AdamRef0Ideal.τ).loc Cert.AdamRef0Ideal.main_arg0) = m ((c.tc : Thread Cert.AdamRef0Ideal.nD Cert.AdamRef0Ideal.τ).loc Cert.AdamRef0Ideal.main_arg0)
      ∧ r.2.mem ((c.tc : Thread Cert.AdamRef0Ideal.nD Cert.AdamRef0Ideal.τ).loc Cert.AdamRef0Ideal.main_arg1) = m ((c.tc : Thread Cert.AdamRef0Ideal.nD Cert.AdamRef0Ideal.τ).loc Cert.AdamRef0Ideal.main_arg1)
      ∧ r.2.mem ((c.tc : Thread Cert.AdamRef0Ideal.nD Cert.AdamRef0Ideal.τ).loc Cert.AdamRef0Ideal.main_arg2) = m ((c.tc : Thread Cert.AdamRef0Ideal.nD Cert.AdamRef0Ideal.τ).loc Cert.AdamRef0Ideal.main_arg2)
      ∧ r.2.mem ((c.tc : Thread Cert.AdamRef0Ideal.nD Cert.AdamRef0Ideal.τ).loc Cert.AdamRef0Ideal.main_arg3) = m ((c.tc : Thread Cert.AdamRef0Ideal.nD Cert.AdamRef0Ideal.τ).loc Cert.AdamRef0Ideal.main_arg3)
      ∧ r.2.mem ((c.tc : Thread Cert.AdamRef0Ideal.nD Cert.AdamRef0Ideal.τ).loc Cert.AdamRef0Ideal.main_arg4) = m ((c.tc : Thread Cert.AdamRef0Ideal.nD Cert.AdamRef0Ideal.τ).loc Cert.AdamRef0Ideal.main_arg4))
      ∧ r.2.sem = fun _ => 0)

def quiescent_Adam1 [hAdam1 : Cert.Adam1.Facts] : Prop :=
  ∀ (m : (ℓ : Loc Cert.Adam1.nD Cert.Adam1.τ Cert.Adam1.sig) → Buf (Elt Bits) ℓ) (g : Dev Cert.Adam1.nD → PrngReg), Pre_Adam1 m →
    θ_run (Cert.Adam1.defs (F := Bits)) (onTc (τ := Cert.Adam1.τ) (Cert.Adam1.main (F := Bits))) ⟨m, fun _ => 0, g⟩ (fun r => (∀ c : Dev Cert.Adam1.nD,
      r.2.mem ((c.tc : Thread Cert.Adam1.nD Cert.Adam1.τ).loc Cert.Adam1.main_arg0) = m ((c.tc : Thread Cert.Adam1.nD Cert.Adam1.τ).loc Cert.Adam1.main_arg0)
      ∧ r.2.mem ((c.tc : Thread Cert.Adam1.nD Cert.Adam1.τ).loc Cert.Adam1.main_arg1) = m ((c.tc : Thread Cert.Adam1.nD Cert.Adam1.τ).loc Cert.Adam1.main_arg1)
      ∧ r.2.mem ((c.tc : Thread Cert.Adam1.nD Cert.Adam1.τ).loc Cert.Adam1.main_arg2) = m ((c.tc : Thread Cert.Adam1.nD Cert.Adam1.τ).loc Cert.Adam1.main_arg2)
      ∧ r.2.mem ((c.tc : Thread Cert.Adam1.nD Cert.Adam1.τ).loc Cert.Adam1.main_arg3) = m ((c.tc : Thread Cert.Adam1.nD Cert.Adam1.τ).loc Cert.Adam1.main_arg3))
      ∧ r.2.sem = fun _ => 0)

def quiescent_Adam1Ideal [hAdam1Ideal : Cert.Adam1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg), Pre_Adam1Ideal m →
    θ_run (Cert.Adam1Ideal.defs (F := Ideal)) (onTc (τ := Cert.Adam1Ideal.τ) (Cert.Adam1Ideal.main (F := Ideal))) ⟨m, fun _ => 0, g⟩ (fun r => (∀ c : Dev Cert.Adam1Ideal.nD,
      r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
      ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
      ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
      ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ r.2.sem = fun _ => 0)

def quiescent_AdamRef1Ideal [hAdamRef1Ideal : Cert.AdamRef1Ideal.Facts] : Prop :=
  ∀ (m : (ℓ : Loc Cert.AdamRef1Ideal.nD Cert.AdamRef1Ideal.τ Cert.AdamRef1Ideal.sig) → Buf (Elt Ideal) ℓ) (g : Dev Cert.AdamRef1Ideal.nD → PrngReg), Pre_AdamRef1Ideal m →
    θ_run (Cert.AdamRef1Ideal.defs (F := Ideal)) (onTc (τ := Cert.AdamRef1Ideal.τ) (Cert.AdamRef1Ideal.main (F := Ideal))) ⟨m, fun _ => 0, g⟩ (fun r => (∀ c : Dev Cert.AdamRef1Ideal.nD,
      r.2.mem ((c.tc : Thread Cert.AdamRef1Ideal.nD Cert.AdamRef1Ideal.τ).loc Cert.AdamRef1Ideal.main_arg0) = m ((c.tc : Thread Cert.AdamRef1Ideal.nD Cert.AdamRef1Ideal.τ).loc Cert.AdamRef1Ideal.main_arg0)
      ∧ r.2.mem ((c.tc : Thread Cert.AdamRef1Ideal.nD Cert.AdamRef1Ideal.τ).loc Cert.AdamRef1Ideal.main_arg1) = m ((c.tc : Thread Cert.AdamRef1Ideal.nD Cert.AdamRef1Ideal.τ).loc Cert.AdamRef1Ideal.main_arg1)
      ∧ r.2.mem ((c.tc : Thread Cert.AdamRef1Ideal.nD Cert.AdamRef1Ideal.τ).loc Cert.AdamRef1Ideal.main_arg2) = m ((c.tc : Thread Cert.AdamRef1Ideal.nD Cert.AdamRef1Ideal.τ).loc Cert.AdamRef1Ideal.main_arg2)
      ∧ r.2.mem ((c.tc : Thread Cert.AdamRef1Ideal.nD Cert.AdamRef1Ideal.τ).loc Cert.AdamRef1Ideal.main_arg3) = m ((c.tc : Thread Cert.AdamRef1Ideal.nD Cert.AdamRef1Ideal.τ).loc Cert.AdamRef1Ideal.main_arg3))
      ∧ r.2.sem = fun _ => 0)

def quiescent_Adam2 [hAdam2 : Cert.Adam2.Facts] : Prop :=
  ∀ (m : (ℓ : Loc Cert.Adam2.nD Cert.Adam2.τ Cert.Adam2.sig) → Buf (Elt Bits) ℓ) (g : Dev Cert.Adam2.nD → PrngReg), Pre_Adam2 m →
    θ_run (Cert.Adam2.defs (F := Bits)) (onTc (τ := Cert.Adam2.τ) (Cert.Adam2.main (F := Bits))) ⟨m, fun _ => 0, g⟩ (fun r => (∀ c : Dev Cert.Adam2.nD,
      r.2.mem ((c.tc : Thread Cert.Adam2.nD Cert.Adam2.τ).loc Cert.Adam2.main_arg0) = m ((c.tc : Thread Cert.Adam2.nD Cert.Adam2.τ).loc Cert.Adam2.main_arg0)
      ∧ r.2.mem ((c.tc : Thread Cert.Adam2.nD Cert.Adam2.τ).loc Cert.Adam2.main_arg1) = m ((c.tc : Thread Cert.Adam2.nD Cert.Adam2.τ).loc Cert.Adam2.main_arg1)
      ∧ r.2.mem ((c.tc : Thread Cert.Adam2.nD Cert.Adam2.τ).loc Cert.Adam2.main_arg2) = m ((c.tc : Thread Cert.Adam2.nD Cert.Adam2.τ).loc Cert.Adam2.main_arg2)
      ∧ r.2.mem ((c.tc : Thread Cert.Adam2.nD Cert.Adam2.τ).loc Cert.Adam2.main_arg3) = m ((c.tc : Thread Cert.Adam2.nD Cert.Adam2.τ).loc Cert.Adam2.main_arg3))
      ∧ r.2.sem = fun _ => 0)

def quiescent_Adam2Ideal [hAdam2Ideal : Cert.Adam2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg), Pre_Adam2Ideal m →
    θ_run (Cert.Adam2Ideal.defs (F := Ideal)) (onTc (τ := Cert.Adam2Ideal.τ) (Cert.Adam2Ideal.main (F := Ideal))) ⟨m, fun _ => 0, g⟩ (fun r => (∀ c : Dev Cert.Adam2Ideal.nD,
      r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
      ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
      ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
      ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ r.2.sem = fun _ => 0)

def quiescent_AdamRef2Ideal [hAdamRef2Ideal : Cert.AdamRef2Ideal.Facts] : Prop :=
  ∀ (m : (ℓ : Loc Cert.AdamRef2Ideal.nD Cert.AdamRef2Ideal.τ Cert.AdamRef2Ideal.sig) → Buf (Elt Ideal) ℓ) (g : Dev Cert.AdamRef2Ideal.nD → PrngReg), Pre_AdamRef2Ideal m →
    θ_run (Cert.AdamRef2Ideal.defs (F := Ideal)) (onTc (τ := Cert.AdamRef2Ideal.τ) (Cert.AdamRef2Ideal.main (F := Ideal))) ⟨m, fun _ => 0, g⟩ (fun r => (∀ c : Dev Cert.AdamRef2Ideal.nD,
      r.2.mem ((c.tc : Thread Cert.AdamRef2Ideal.nD Cert.AdamRef2Ideal.τ).loc Cert.AdamRef2Ideal.main_arg0) = m ((c.tc : Thread Cert.AdamRef2Ideal.nD Cert.AdamRef2Ideal.τ).loc Cert.AdamRef2Ideal.main_arg0)
      ∧ r.2.mem ((c.tc : Thread Cert.AdamRef2Ideal.nD Cert.AdamRef2Ideal.τ).loc Cert.AdamRef2Ideal.main_arg1) = m ((c.tc : Thread Cert.AdamRef2Ideal.nD Cert.AdamRef2Ideal.τ).loc Cert.AdamRef2Ideal.main_arg1)
      ∧ r.2.mem ((c.tc : Thread Cert.AdamRef2Ideal.nD Cert.AdamRef2Ideal.τ).loc Cert.AdamRef2Ideal.main_arg2) = m ((c.tc : Thread Cert.AdamRef2Ideal.nD Cert.AdamRef2Ideal.τ).loc Cert.AdamRef2Ideal.main_arg2)
      ∧ r.2.mem ((c.tc : Thread Cert.AdamRef2Ideal.nD Cert.AdamRef2Ideal.τ).loc Cert.AdamRef2Ideal.main_arg3) = m ((c.tc : Thread Cert.AdamRef2Ideal.nD Cert.AdamRef2Ideal.τ).loc Cert.AdamRef2Ideal.main_arg3))
      ∧ r.2.sem = fun _ => 0)

def quiescent_Adam3 [hAdam3 : Cert.Adam3.Facts] : Prop :=
  ∀ (m : (ℓ : Loc Cert.Adam3.nD Cert.Adam3.τ Cert.Adam3.sig) → Buf (Elt Bits) ℓ) (g : Dev Cert.Adam3.nD → PrngReg), Pre_Adam3 m →
    θ_run (Cert.Adam3.defs (F := Bits)) (onTc (τ := Cert.Adam3.τ) (Cert.Adam3.main (F := Bits))) ⟨m, fun _ => 0, g⟩ (fun r => (∀ c : Dev Cert.Adam3.nD,
      r.2.mem ((c.tc : Thread Cert.Adam3.nD Cert.Adam3.τ).loc Cert.Adam3.main_arg0) = m ((c.tc : Thread Cert.Adam3.nD Cert.Adam3.τ).loc Cert.Adam3.main_arg0)
      ∧ r.2.mem ((c.tc : Thread Cert.Adam3.nD Cert.Adam3.τ).loc Cert.Adam3.main_arg1) = m ((c.tc : Thread Cert.Adam3.nD Cert.Adam3.τ).loc Cert.Adam3.main_arg1)
      ∧ r.2.mem ((c.tc : Thread Cert.Adam3.nD Cert.Adam3.τ).loc Cert.Adam3.main_arg2) = m ((c.tc : Thread Cert.Adam3.nD Cert.Adam3.τ).loc Cert.Adam3.main_arg2)
      ∧ r.2.mem ((c.tc : Thread Cert.Adam3.nD Cert.Adam3.τ).loc Cert.Adam3.main_arg3) = m ((c.tc : Thread Cert.Adam3.nD Cert.Adam3.τ).loc Cert.Adam3.main_arg3))
      ∧ r.2.sem = fun _ => 0)

def quiescent_Adam3Ideal [hAdam3Ideal : Cert.Adam3Ideal.Facts] : Prop :=
  ∀ (m : (ℓ : Loc Cert.Adam3Ideal.nD Cert.Adam3Ideal.τ Cert.Adam3Ideal.sig) → Buf (Elt Ideal) ℓ) (g : Dev Cert.Adam3Ideal.nD → PrngReg), Pre_Adam3Ideal m →
    θ_run (Cert.Adam3Ideal.defs (F := Ideal)) (onTc (τ := Cert.Adam3Ideal.τ) (Cert.Adam3Ideal.main (F := Ideal))) ⟨m, fun _ => 0, g⟩ (fun r => (∀ c : Dev Cert.Adam3Ideal.nD,
      r.2.mem ((c.tc : Thread Cert.Adam3Ideal.nD Cert.Adam3Ideal.τ).loc Cert.Adam3Ideal.main_arg0) = m ((c.tc : Thread Cert.Adam3Ideal.nD Cert.Adam3Ideal.τ).loc Cert.Adam3Ideal.main_arg0)
      ∧ r.2.mem ((c.tc : Thread Cert.Adam3Ideal.nD Cert.Adam3Ideal.τ).loc Cert.Adam3Ideal.main_arg1) = m ((c.tc : Thread Cert.Adam3Ideal.nD Cert.Adam3Ideal.τ).loc Cert.Adam3Ideal.main_arg1)
      ∧ r.2.mem ((c.tc : Thread Cert.Adam3Ideal.nD Cert.Adam3Ideal.τ).loc Cert.Adam3Ideal.main_arg2) = m ((c.tc : Thread Cert.Adam3Ideal.nD Cert.Adam3Ideal.τ).loc Cert.Adam3Ideal.main_arg2)
      ∧ r.2.mem ((c.tc : Thread Cert.Adam3Ideal.nD Cert.Adam3Ideal.τ).loc Cert.Adam3Ideal.main_arg3) = m ((c.tc : Thread Cert.Adam3Ideal.nD Cert.Adam3Ideal.τ).loc Cert.Adam3Ideal.main_arg3))
      ∧ r.2.sem = fun _ => 0)

def quiescent_AdamRef3Ideal [hAdamRef3Ideal : Cert.AdamRef3Ideal.Facts] : Prop :=
  ∀ (m : (ℓ : Loc Cert.AdamRef3Ideal.nD Cert.AdamRef3Ideal.τ Cert.AdamRef3Ideal.sig) → Buf (Elt Ideal) ℓ) (g : Dev Cert.AdamRef3Ideal.nD → PrngReg), Pre_AdamRef3Ideal m →
    θ_run (Cert.AdamRef3Ideal.defs (F := Ideal)) (onTc (τ := Cert.AdamRef3Ideal.τ) (Cert.AdamRef3Ideal.main (F := Ideal))) ⟨m, fun _ => 0, g⟩ (fun r => (∀ c : Dev Cert.AdamRef3Ideal.nD,
      r.2.mem ((c.tc : Thread Cert.AdamRef3Ideal.nD Cert.AdamRef3Ideal.τ).loc Cert.AdamRef3Ideal.main_arg0) = m ((c.tc : Thread Cert.AdamRef3Ideal.nD Cert.AdamRef3Ideal.τ).loc Cert.AdamRef3Ideal.main_arg0)
      ∧ r.2.mem ((c.tc : Thread Cert.AdamRef3Ideal.nD Cert.AdamRef3Ideal.τ).loc Cert.AdamRef3Ideal.main_arg1) = m ((c.tc : Thread Cert.AdamRef3Ideal.nD Cert.AdamRef3Ideal.τ).loc Cert.AdamRef3Ideal.main_arg1)
      ∧ r.2.mem ((c.tc : Thread Cert.AdamRef3Ideal.nD Cert.AdamRef3Ideal.τ).loc Cert.AdamRef3Ideal.main_arg2) = m ((c.tc : Thread Cert.AdamRef3Ideal.nD Cert.AdamRef3Ideal.τ).loc Cert.AdamRef3Ideal.main_arg2)
      ∧ r.2.mem ((c.tc : Thread Cert.AdamRef3Ideal.nD Cert.AdamRef3Ideal.τ).loc Cert.AdamRef3Ideal.main_arg3) = m ((c.tc : Thread Cert.AdamRef3Ideal.nD Cert.AdamRef3Ideal.τ).loc Cert.AdamRef3Ideal.main_arg3))
      ∧ r.2.sem = fun _ => 0)

def quiescent_Pack0 [hPack0 : Cert.Pack0.Facts] : Prop :=
  ∀ (m : (ℓ : Loc Cert.Pack0.nD Cert.Pack0.τ Cert.Pack0.sig) → Buf (Elt Bits) ℓ) (g : Dev Cert.Pack0.nD → PrngReg), Pre_Pack0 m →
    θ_run (Cert.Pack0.defs (F := Bits)) (onTc (τ := Cert.Pack0.τ) (Cert.Pack0.main (F := Bits))) ⟨m, fun _ => 0, g⟩ (fun r => (∀ c : Dev Cert.Pack0.nD,
      r.2.mem ((c.tc : Thread Cert.Pack0.nD Cert.Pack0.τ).loc Cert.Pack0.main_arg0) = m ((c.tc : Thread Cert.Pack0.nD Cert.Pack0.τ).loc Cert.Pack0.main_arg0)
      ∧ r.2.mem ((c.tc : Thread Cert.Pack0.nD Cert.Pack0.τ).loc Cert.Pack0.main_arg1) = m ((c.tc : Thread Cert.Pack0.nD Cert.Pack0.τ).loc Cert.Pack0.main_arg1)
      ∧ r.2.mem ((c.tc : Thread Cert.Pack0.nD Cert.Pack0.τ).loc Cert.Pack0.main_arg2) = m ((c.tc : Thread Cert.Pack0.nD Cert.Pack0.τ).loc Cert.Pack0.main_arg2)
      ∧ r.2.mem ((c.tc : Thread Cert.Pack0.nD Cert.Pack0.τ).loc Cert.Pack0.main_arg3) = m ((c.tc : Thread Cert.Pack0.nD Cert.Pack0.τ).loc Cert.Pack0.main_arg3)
      ∧ r.2.mem ((c.tc : Thread Cert.Pack0.nD Cert.Pack0.τ).loc Cert.Pack0.main_arg4) = m ((c.tc : Thread Cert.Pack0.nD Cert.Pack0.τ).loc Cert.Pack0.main_arg4)
      ∧ r.2.mem ((c.tc : Thread Cert.Pack0.nD Cert.Pack0.τ).loc Cert.Pack0.main_arg5) = m ((c.tc : Thread Cert.Pack0.nD Cert.Pack0.τ).loc Cert.Pack0.main_arg5)
      ∧ r.2.mem ((c.tc : Thread Cert.Pack0.nD Cert.Pack0.τ).loc Cert.Pack0.main_arg6) = m ((c.tc : Thread Cert.Pack0.nD Cert.Pack0.τ).loc Cert.Pack0.main_arg6)
      ∧ r.2.mem ((c.tc : Thread Cert.Pack0.nD Cert.Pack0.τ).loc Cert.Pack0.main_arg7) = m ((c.tc : Thread Cert.Pack0.nD Cert.Pack0.τ).loc Cert.Pack0.main_arg7)
      ∧ r.2.mem ((c.tc : Thread Cert.Pack0.nD Cert.Pack0.τ).loc Cert.Pack0.main_arg8) = m ((c.tc : Thread Cert.Pack0.nD Cert.Pack0.τ).loc Cert.Pack0.main_arg8)
      ∧ r.2.mem ((c.tc : Thread Cert.Pack0.nD Cert.Pack0.τ).loc Cert.Pack0.main_arg9) = m ((c.tc : Thread Cert.Pack0.nD Cert.Pack0.τ).loc Cert.Pack0.main_arg9)
      ∧ r.2.mem ((c.tc : Thread Cert.Pack0.nD Cert.Pack0.τ).loc Cert.Pack0.main_arg10) = m ((c.tc : Thread Cert.Pack0.nD Cert.Pack0.τ).loc Cert.Pack0.main_arg10)
      ∧ r.2.mem ((c.tc : Thread Cert.Pack0.nD Cert.Pack0.τ).loc Cert.Pack0.main_arg11) = m ((c.tc : Thread Cert.Pack0.nD Cert.Pack0.τ).loc Cert.Pack0.main_arg11))
      ∧ r.2.sem = fun _ => 0)

def quiescent_Pack0Ideal [hPack0Ideal : Cert.Pack0Ideal.Facts] : Prop :=
  ∀ (m : (ℓ : Loc Cert.Pack0Ideal.nD Cert.Pack0Ideal.τ Cert.Pack0Ideal.sig) → Buf (Elt Ideal) ℓ) (g : Dev Cert.Pack0Ideal.nD → PrngReg), Pre_Pack0Ideal m →
    θ_run (Cert.Pack0Ideal.defs (F := Ideal)) (onTc (τ := Cert.Pack0Ideal.τ) (Cert.Pack0Ideal.main (F := Ideal))) ⟨m, fun _ => 0, g⟩ (fun r => (∀ c : Dev Cert.Pack0Ideal.nD,
      r.2.mem ((c.tc : Thread Cert.Pack0Ideal.nD Cert.Pack0Ideal.τ).loc Cert.Pack0Ideal.main_arg0) = m ((c.tc : Thread Cert.Pack0Ideal.nD Cert.Pack0Ideal.τ).loc Cert.Pack0Ideal.main_arg0)
      ∧ r.2.mem ((c.tc : Thread Cert.Pack0Ideal.nD Cert.Pack0Ideal.τ).loc Cert.Pack0Ideal.main_arg1) = m ((c.tc : Thread Cert.Pack0Ideal.nD Cert.Pack0Ideal.τ).loc Cert.Pack0Ideal.main_arg1)
      ∧ r.2.mem ((c.tc : Thread Cert.Pack0Ideal.nD Cert.Pack0Ideal.τ).loc Cert.Pack0Ideal.main_arg2) = m ((c.tc : Thread Cert.Pack0Ideal.nD Cert.Pack0Ideal.τ).loc Cert.Pack0Ideal.main_arg2)
      ∧ r.2.mem ((c.tc : Thread Cert.Pack0Ideal.nD Cert.Pack0Ideal.τ).loc Cert.Pack0Ideal.main_arg3) = m ((c.tc : Thread Cert.Pack0Ideal.nD Cert.Pack0Ideal.τ).loc Cert.Pack0Ideal.main_arg3)
      ∧ r.2.mem ((c.tc : Thread Cert.Pack0Ideal.nD Cert.Pack0Ideal.τ).loc Cert.Pack0Ideal.main_arg4) = m ((c.tc : Thread Cert.Pack0Ideal.nD Cert.Pack0Ideal.τ).loc Cert.Pack0Ideal.main_arg4)
      ∧ r.2.mem ((c.tc : Thread Cert.Pack0Ideal.nD Cert.Pack0Ideal.τ).loc Cert.Pack0Ideal.main_arg5) = m ((c.tc : Thread Cert.Pack0Ideal.nD Cert.Pack0Ideal.τ).loc Cert.Pack0Ideal.main_arg5)
      ∧ r.2.mem ((c.tc : Thread Cert.Pack0Ideal.nD Cert.Pack0Ideal.τ).loc Cert.Pack0Ideal.main_arg6) = m ((c.tc : Thread Cert.Pack0Ideal.nD Cert.Pack0Ideal.τ).loc Cert.Pack0Ideal.main_arg6)
      ∧ r.2.mem ((c.tc : Thread Cert.Pack0Ideal.nD Cert.Pack0Ideal.τ).loc Cert.Pack0Ideal.main_arg7) = m ((c.tc : Thread Cert.Pack0Ideal.nD Cert.Pack0Ideal.τ).loc Cert.Pack0Ideal.main_arg7)
      ∧ r.2.mem ((c.tc : Thread Cert.Pack0Ideal.nD Cert.Pack0Ideal.τ).loc Cert.Pack0Ideal.main_arg8) = m ((c.tc : Thread Cert.Pack0Ideal.nD Cert.Pack0Ideal.τ).loc Cert.Pack0Ideal.main_arg8)
      ∧ r.2.mem ((c.tc : Thread Cert.Pack0Ideal.nD Cert.Pack0Ideal.τ).loc Cert.Pack0Ideal.main_arg9) = m ((c.tc : Thread Cert.Pack0Ideal.nD Cert.Pack0Ideal.τ).loc Cert.Pack0Ideal.main_arg9)
      ∧ r.2.mem ((c.tc : Thread Cert.Pack0Ideal.nD Cert.Pack0Ideal.τ).loc Cert.Pack0Ideal.main_arg10) = m ((c.tc : Thread Cert.Pack0Ideal.nD Cert.Pack0Ideal.τ).loc Cert.Pack0Ideal.main_arg10)
      ∧ r.2.mem ((c.tc : Thread Cert.Pack0Ideal.nD Cert.Pack0Ideal.τ).loc Cert.Pack0Ideal.main_arg11) = m ((c.tc : Thread Cert.Pack0Ideal.nD Cert.Pack0Ideal.τ).loc Cert.Pack0Ideal.main_arg11))
      ∧ r.2.sem = fun _ => 0)

def quiescent_PackRef0Ideal [hPackRef0Ideal : Cert.PackRef0Ideal.Facts] : Prop :=
  ∀ (m : (ℓ : Loc Cert.PackRef0Ideal.nD Cert.PackRef0Ideal.τ Cert.PackRef0Ideal.sig) → Buf (Elt Ideal) ℓ) (g : Dev Cert.PackRef0Ideal.nD → PrngReg), Pre_PackRef0Ideal m →
    θ_run (Cert.PackRef0Ideal.defs (F := Ideal)) (onTc (τ := Cert.PackRef0Ideal.τ) (Cert.PackRef0Ideal.main (F := Ideal))) ⟨m, fun _ => 0, g⟩ (fun r => (∀ c : Dev Cert.PackRef0Ideal.nD,
      r.2.mem ((c.tc : Thread Cert.PackRef0Ideal.nD Cert.PackRef0Ideal.τ).loc Cert.PackRef0Ideal.main_arg0) = m ((c.tc : Thread Cert.PackRef0Ideal.nD Cert.PackRef0Ideal.τ).loc Cert.PackRef0Ideal.main_arg0)
      ∧ r.2.mem ((c.tc : Thread Cert.PackRef0Ideal.nD Cert.PackRef0Ideal.τ).loc Cert.PackRef0Ideal.main_arg1) = m ((c.tc : Thread Cert.PackRef0Ideal.nD Cert.PackRef0Ideal.τ).loc Cert.PackRef0Ideal.main_arg1)
      ∧ r.2.mem ((c.tc : Thread Cert.PackRef0Ideal.nD Cert.PackRef0Ideal.τ).loc Cert.PackRef0Ideal.main_arg2) = m ((c.tc : Thread Cert.PackRef0Ideal.nD Cert.PackRef0Ideal.τ).loc Cert.PackRef0Ideal.main_arg2)
      ∧ r.2.mem ((c.tc : Thread Cert.PackRef0Ideal.nD Cert.PackRef0Ideal.τ).loc Cert.PackRef0Ideal.main_arg3) = m ((c.tc : Thread Cert.PackRef0Ideal.nD Cert.PackRef0Ideal.τ).loc Cert.PackRef0Ideal.main_arg3)
      ∧ r.2.mem ((c.tc : Thread Cert.PackRef0Ideal.nD Cert.PackRef0Ideal.τ).loc Cert.PackRef0Ideal.main_arg4) = m ((c.tc : Thread Cert.PackRef0Ideal.nD Cert.PackRef0Ideal.τ).loc Cert.PackRef0Ideal.main_arg4)
      ∧ r.2.mem ((c.tc : Thread Cert.PackRef0Ideal.nD Cert.PackRef0Ideal.τ).loc Cert.PackRef0Ideal.main_arg5) = m ((c.tc : Thread Cert.PackRef0Ideal.nD Cert.PackRef0Ideal.τ).loc Cert.PackRef0Ideal.main_arg5)
      ∧ r.2.mem ((c.tc : Thread Cert.PackRef0Ideal.nD Cert.PackRef0Ideal.τ).loc Cert.PackRef0Ideal.main_arg6) = m ((c.tc : Thread Cert.PackRef0Ideal.nD Cert.PackRef0Ideal.τ).loc Cert.PackRef0Ideal.main_arg6)
      ∧ r.2.mem ((c.tc : Thread Cert.PackRef0Ideal.nD Cert.PackRef0Ideal.τ).loc Cert.PackRef0Ideal.main_arg7) = m ((c.tc : Thread Cert.PackRef0Ideal.nD Cert.PackRef0Ideal.τ).loc Cert.PackRef0Ideal.main_arg7)
      ∧ r.2.mem ((c.tc : Thread Cert.PackRef0Ideal.nD Cert.PackRef0Ideal.τ).loc Cert.PackRef0Ideal.main_arg8) = m ((c.tc : Thread Cert.PackRef0Ideal.nD Cert.PackRef0Ideal.τ).loc Cert.PackRef0Ideal.main_arg8)
      ∧ r.2.mem ((c.tc : Thread Cert.PackRef0Ideal.nD Cert.PackRef0Ideal.τ).loc Cert.PackRef0Ideal.main_arg9) = m ((c.tc : Thread Cert.PackRef0Ideal.nD Cert.PackRef0Ideal.τ).loc Cert.PackRef0Ideal.main_arg9)
      ∧ r.2.mem ((c.tc : Thread Cert.PackRef0Ideal.nD Cert.PackRef0Ideal.τ).loc Cert.PackRef0Ideal.main_arg10) = m ((c.tc : Thread Cert.PackRef0Ideal.nD Cert.PackRef0Ideal.τ).loc Cert.PackRef0Ideal.main_arg10)
      ∧ r.2.mem ((c.tc : Thread Cert.PackRef0Ideal.nD Cert.PackRef0Ideal.τ).loc Cert.PackRef0Ideal.main_arg11) = m ((c.tc : Thread Cert.PackRef0Ideal.nD Cert.PackRef0Ideal.τ).loc Cert.PackRef0Ideal.main_arg11))
      ∧ r.2.sem = fun _ => 0)

def quiescent_Pack1 [hPack1 : Cert.Pack1.Facts] : Prop :=
  ∀ (m : (ℓ : Loc Cert.Pack1.nD Cert.Pack1.τ Cert.Pack1.sig) → Buf (Elt Bits) ℓ) (g : Dev Cert.Pack1.nD → PrngReg), Pre_Pack1 m →
    θ_run (Cert.Pack1.defs (F := Bits)) (onTc (τ := Cert.Pack1.τ) (Cert.Pack1.main (F := Bits))) ⟨m, fun _ => 0, g⟩ (fun r => (∀ c : Dev Cert.Pack1.nD,
      r.2.mem ((c.tc : Thread Cert.Pack1.nD Cert.Pack1.τ).loc Cert.Pack1.main_arg0) = m ((c.tc : Thread Cert.Pack1.nD Cert.Pack1.τ).loc Cert.Pack1.main_arg0)
      ∧ r.2.mem ((c.tc : Thread Cert.Pack1.nD Cert.Pack1.τ).loc Cert.Pack1.main_arg1) = m ((c.tc : Thread Cert.Pack1.nD Cert.Pack1.τ).loc Cert.Pack1.main_arg1)
      ∧ r.2.mem ((c.tc : Thread Cert.Pack1.nD Cert.Pack1.τ).loc Cert.Pack1.main_arg2) = m ((c.tc : Thread Cert.Pack1.nD Cert.Pack1.τ).loc Cert.Pack1.main_arg2)
      ∧ r.2.mem ((c.tc : Thread Cert.Pack1.nD Cert.Pack1.τ).loc Cert.Pack1.main_arg3) = m ((c.tc : Thread Cert.Pack1.nD Cert.Pack1.τ).loc Cert.Pack1.main_arg3)
      ∧ r.2.mem ((c.tc : Thread Cert.Pack1.nD Cert.Pack1.τ).loc Cert.Pack1.main_arg4) = m ((c.tc : Thread Cert.Pack1.nD Cert.Pack1.τ).loc Cert.Pack1.main_arg4)
      ∧ r.2.mem ((c.tc : Thread Cert.Pack1.nD Cert.Pack1.τ).loc Cert.Pack1.main_arg5) = m ((c.tc : Thread Cert.Pack1.nD Cert.Pack1.τ).loc Cert.Pack1.main_arg5)
      ∧ r.2.mem ((c.tc : Thread Cert.Pack1.nD Cert.Pack1.τ).loc Cert.Pack1.main_arg6) = m ((c.tc : Thread Cert.Pack1.nD Cert.Pack1.τ).loc Cert.Pack1.main_arg6)
      ∧ r.2.mem ((c.tc : Thread Cert.Pack1.nD Cert.Pack1.τ).loc Cert.Pack1.main_arg7) = m ((c.tc : Thread Cert.Pack1.nD Cert.Pack1.τ).loc Cert.Pack1.main_arg7)
      ∧ r.2.mem ((c.tc : Thread Cert.Pack1.nD Cert.Pack1.τ).loc Cert.Pack1.main_arg8) = m ((c.tc : Thread Cert.Pack1.nD Cert.Pack1.τ).loc Cert.Pack1.main_arg8)
      ∧ r.2.mem ((c.tc : Thread Cert.Pack1.nD Cert.Pack1.τ).loc Cert.Pack1.main_arg9) = m ((c.tc : Thread Cert.Pack1.nD Cert.Pack1.τ).loc Cert.Pack1.main_arg9)
      ∧ r.2.mem ((c.tc : Thread Cert.Pack1.nD Cert.Pack1.τ).loc Cert.Pack1.main_arg10) = m ((c.tc : Thread Cert.Pack1.nD Cert.Pack1.τ).loc Cert.Pack1.main_arg10)
      ∧ r.2.mem ((c.tc : Thread Cert.Pack1.nD Cert.Pack1.τ).loc Cert.Pack1.main_arg11) = m ((c.tc : Thread Cert.Pack1.nD Cert.Pack1.τ).loc Cert.Pack1.main_arg11)
      ∧ r.2.mem ((c.tc : Thread Cert.Pack1.nD Cert.Pack1.τ).loc Cert.Pack1.main_arg12) = m ((c.tc : Thread Cert.Pack1.nD Cert.Pack1.τ).loc Cert.Pack1.main_arg12)
      ∧ r.2.mem ((c.tc : Thread Cert.Pack1.nD Cert.Pack1.τ).loc Cert.Pack1.main_arg13) = m ((c.tc : Thread Cert.Pack1.nD Cert.Pack1.τ).loc Cert.Pack1.main_arg13)
      ∧ r.2.mem ((c.tc : Thread Cert.Pack1.nD Cert.Pack1.τ).loc Cert.Pack1.main_arg14) = m ((c.tc : Thread Cert.Pack1.nD Cert.Pack1.τ).loc Cert.Pack1.main_arg14)
      ∧ r.2.mem ((c.tc : Thread Cert.Pack1.nD Cert.Pack1.τ).loc Cert.Pack1.main_arg15) = m ((c.tc : Thread Cert.Pack1.nD Cert.Pack1.τ).loc Cert.Pack1.main_arg15)
      ∧ r.2.mem ((c.tc : Thread Cert.Pack1.nD Cert.Pack1.τ).loc Cert.Pack1.main_arg16) = m ((c.tc : Thread Cert.Pack1.nD Cert.Pack1.τ).loc Cert.Pack1.main_arg16)
      ∧ r.2.mem ((c.tc : Thread Cert.Pack1.nD Cert.Pack1.τ).loc Cert.Pack1.main_arg17) = m ((c.tc : Thread Cert.Pack1.nD Cert.Pack1.τ).loc Cert.Pack1.main_arg17)
      ∧ r.2.mem ((c.tc : Thread Cert.Pack1.nD Cert.Pack1.τ).loc Cert.Pack1.main_arg18) = m ((c.tc : Thread Cert.Pack1.nD Cert.Pack1.τ).loc Cert.Pack1.main_arg18)
      ∧ r.2.mem ((c.tc : Thread Cert.Pack1.nD Cert.Pack1.τ).loc Cert.Pack1.main_arg19) = m ((c.tc : Thread Cert.Pack1.nD Cert.Pack1.τ).loc Cert.Pack1.main_arg19)
      ∧ r.2.mem ((c.tc : Thread Cert.Pack1.nD Cert.Pack1.τ).loc Cert.Pack1.main_arg20) = m ((c.tc : Thread Cert.Pack1.nD Cert.Pack1.τ).loc Cert.Pack1.main_arg20)
      ∧ r.2.mem ((c.tc : Thread Cert.Pack1.nD Cert.Pack1.τ).loc Cert.Pack1.main_arg21) = m ((c.tc : Thread Cert.Pack1.nD Cert.Pack1.τ).loc Cert.Pack1.main_arg21)
      ∧ r.2.mem ((c.tc : Thread Cert.Pack1.nD Cert.Pack1.τ).loc Cert.Pack1.main_arg22) = m ((c.tc : Thread Cert.Pack1.nD Cert.Pack1.τ).loc Cert.Pack1.main_arg22)
      ∧ r.2.mem ((c.tc : Thread Cert.Pack1.nD Cert.Pack1.τ).loc Cert.Pack1.main_arg23) = m ((c.tc : Thread Cert.Pack1.nD Cert.Pack1.τ).loc Cert.Pack1.main_arg23)
      ∧ r.2.mem ((c.tc : Thread Cert.Pack1.nD Cert.Pack1.τ).loc Cert.Pack1.main_arg24) = m ((c.tc : Thread Cert.Pack1.nD Cert.Pack1.τ).loc Cert.Pack1.main_arg24)
      ∧ r.2.mem ((c.tc : Thread Cert.Pack1.nD Cert.Pack1.τ).loc Cert.Pack1.main_arg25) = m ((c.tc : Thread Cert.Pack1.nD Cert.Pack1.τ).loc Cert.Pack1.main_arg25)
      ∧ r.2.mem ((c.tc : Thread Cert.Pack1.nD Cert.Pack1.τ).loc Cert.Pack1.main_arg26) = m ((c.tc : Thread Cert.Pack1.nD Cert.Pack1.τ).loc Cert.Pack1.main_arg26)
      ∧ r.2.mem ((c.tc : Thread Cert.Pack1.nD Cert.Pack1.τ).loc Cert.Pack1.main_arg27) = m ((c.tc : Thread Cert.Pack1.nD Cert.Pack1.τ).loc Cert.Pack1.main_arg27))
      ∧ r.2.sem = fun _ => 0)

def quiescent_Pack1Ideal [hPack1Ideal : Cert.Pack1Ideal.Facts] : Prop :=
  ∀ (m : (ℓ : Loc Cert.Pack1Ideal.nD Cert.Pack1Ideal.τ Cert.Pack1Ideal.sig) → Buf (Elt Ideal) ℓ) (g : Dev Cert.Pack1Ideal.nD → PrngReg), Pre_Pack1Ideal m →
    θ_run (Cert.Pack1Ideal.defs (F := Ideal)) (onTc (τ := Cert.Pack1Ideal.τ) (Cert.Pack1Ideal.main (F := Ideal))) ⟨m, fun _ => 0, g⟩ (fun r => (∀ c : Dev Cert.Pack1Ideal.nD,
      r.2.mem ((c.tc : Thread Cert.Pack1Ideal.nD Cert.Pack1Ideal.τ).loc Cert.Pack1Ideal.main_arg0) = m ((c.tc : Thread Cert.Pack1Ideal.nD Cert.Pack1Ideal.τ).loc Cert.Pack1Ideal.main_arg0)
      ∧ r.2.mem ((c.tc : Thread Cert.Pack1Ideal.nD Cert.Pack1Ideal.τ).loc Cert.Pack1Ideal.main_arg1) = m ((c.tc : Thread Cert.Pack1Ideal.nD Cert.Pack1Ideal.τ).loc Cert.Pack1Ideal.main_arg1)
      ∧ r.2.mem ((c.tc : Thread Cert.Pack1Ideal.nD Cert.Pack1Ideal.τ).loc Cert.Pack1Ideal.main_arg2) = m ((c.tc : Thread Cert.Pack1Ideal.nD Cert.Pack1Ideal.τ).loc Cert.Pack1Ideal.main_arg2)
      ∧ r.2.mem ((c.tc : Thread Cert.Pack1Ideal.nD Cert.Pack1Ideal.τ).loc Cert.Pack1Ideal.main_arg3) = m ((c.tc : Thread Cert.Pack1Ideal.nD Cert.Pack1Ideal.τ).loc Cert.Pack1Ideal.main_arg3)
      ∧ r.2.mem ((c.tc : Thread Cert.Pack1Ideal.nD Cert.Pack1Ideal.τ).loc Cert.Pack1Ideal.main_arg4) = m ((c.tc : Thread Cert.Pack1Ideal.nD Cert.Pack1Ideal.τ).loc Cert.Pack1Ideal.main_arg4)
      ∧ r.2.mem ((c.tc : Thread Cert.Pack1Ideal.nD Cert.Pack1Ideal.τ).loc Cert.Pack1Ideal.main_arg5) = m ((c.tc : Thread Cert.Pack1Ideal.nD Cert.Pack1Ideal.τ).loc Cert.Pack1Ideal.main_arg5)
      ∧ r.2.mem ((c.tc : Thread Cert.Pack1Ideal.nD Cert.Pack1Ideal.τ).loc Cert.Pack1Ideal.main_arg6) = m ((c.tc : Thread Cert.Pack1Ideal.nD Cert.Pack1Ideal.τ).loc Cert.Pack1Ideal.main_arg6)
      ∧ r.2.mem ((c.tc : Thread Cert.Pack1Ideal.nD Cert.Pack1Ideal.τ).loc Cert.Pack1Ideal.main_arg7) = m ((c.tc : Thread Cert.Pack1Ideal.nD Cert.Pack1Ideal.τ).loc Cert.Pack1Ideal.main_arg7)
      ∧ r.2.mem ((c.tc : Thread Cert.Pack1Ideal.nD Cert.Pack1Ideal.τ).loc Cert.Pack1Ideal.main_arg8) = m ((c.tc : Thread Cert.Pack1Ideal.nD Cert.Pack1Ideal.τ).loc Cert.Pack1Ideal.main_arg8)
      ∧ r.2.mem ((c.tc : Thread Cert.Pack1Ideal.nD Cert.Pack1Ideal.τ).loc Cert.Pack1Ideal.main_arg9) = m ((c.tc : Thread Cert.Pack1Ideal.nD Cert.Pack1Ideal.τ).loc Cert.Pack1Ideal.main_arg9)
      ∧ r.2.mem ((c.tc : Thread Cert.Pack1Ideal.nD Cert.Pack1Ideal.τ).loc Cert.Pack1Ideal.main_arg10) = m ((c.tc : Thread Cert.Pack1Ideal.nD Cert.Pack1Ideal.τ).loc Cert.Pack1Ideal.main_arg10)
      ∧ r.2.mem ((c.tc : Thread Cert.Pack1Ideal.nD Cert.Pack1Ideal.τ).loc Cert.Pack1Ideal.main_arg11) = m ((c.tc : Thread Cert.Pack1Ideal.nD Cert.Pack1Ideal.τ).loc Cert.Pack1Ideal.main_arg11)
      ∧ r.2.mem ((c.tc : Thread Cert.Pack1Ideal.nD Cert.Pack1Ideal.τ).loc Cert.Pack1Ideal.main_arg12) = m ((c.tc : Thread Cert.Pack1Ideal.nD Cert.Pack1Ideal.τ).loc Cert.Pack1Ideal.main_arg12)
      ∧ r.2.mem ((c.tc : Thread Cert.Pack1Ideal.nD Cert.Pack1Ideal.τ).loc Cert.Pack1Ideal.main_arg13) = m ((c.tc : Thread Cert.Pack1Ideal.nD Cert.Pack1Ideal.τ).loc Cert.Pack1Ideal.main_arg13)
      ∧ r.2.mem ((c.tc : Thread Cert.Pack1Ideal.nD Cert.Pack1Ideal.τ).loc Cert.Pack1Ideal.main_arg14) = m ((c.tc : Thread Cert.Pack1Ideal.nD Cert.Pack1Ideal.τ).loc Cert.Pack1Ideal.main_arg14)
      ∧ r.2.mem ((c.tc : Thread Cert.Pack1Ideal.nD Cert.Pack1Ideal.τ).loc Cert.Pack1Ideal.main_arg15) = m ((c.tc : Thread Cert.Pack1Ideal.nD Cert.Pack1Ideal.τ).loc Cert.Pack1Ideal.main_arg15)
      ∧ r.2.mem ((c.tc : Thread Cert.Pack1Ideal.nD Cert.Pack1Ideal.τ).loc Cert.Pack1Ideal.main_arg16) = m ((c.tc : Thread Cert.Pack1Ideal.nD Cert.Pack1Ideal.τ).loc Cert.Pack1Ideal.main_arg16)
      ∧ r.2.mem ((c.tc : Thread Cert.Pack1Ideal.nD Cert.Pack1Ideal.τ).loc Cert.Pack1Ideal.main_arg17) = m ((c.tc : Thread Cert.Pack1Ideal.nD Cert.Pack1Ideal.τ).loc Cert.Pack1Ideal.main_arg17)
      ∧ r.2.mem ((c.tc : Thread Cert.Pack1Ideal.nD Cert.Pack1Ideal.τ).loc Cert.Pack1Ideal.main_arg18) = m ((c.tc : Thread Cert.Pack1Ideal.nD Cert.Pack1Ideal.τ).loc Cert.Pack1Ideal.main_arg18)
      ∧ r.2.mem ((c.tc : Thread Cert.Pack1Ideal.nD Cert.Pack1Ideal.τ).loc Cert.Pack1Ideal.main_arg19) = m ((c.tc : Thread Cert.Pack1Ideal.nD Cert.Pack1Ideal.τ).loc Cert.Pack1Ideal.main_arg19)
      ∧ r.2.mem ((c.tc : Thread Cert.Pack1Ideal.nD Cert.Pack1Ideal.τ).loc Cert.Pack1Ideal.main_arg20) = m ((c.tc : Thread Cert.Pack1Ideal.nD Cert.Pack1Ideal.τ).loc Cert.Pack1Ideal.main_arg20)
      ∧ r.2.mem ((c.tc : Thread Cert.Pack1Ideal.nD Cert.Pack1Ideal.τ).loc Cert.Pack1Ideal.main_arg21) = m ((c.tc : Thread Cert.Pack1Ideal.nD Cert.Pack1Ideal.τ).loc Cert.Pack1Ideal.main_arg21)
      ∧ r.2.mem ((c.tc : Thread Cert.Pack1Ideal.nD Cert.Pack1Ideal.τ).loc Cert.Pack1Ideal.main_arg22) = m ((c.tc : Thread Cert.Pack1Ideal.nD Cert.Pack1Ideal.τ).loc Cert.Pack1Ideal.main_arg22)
      ∧ r.2.mem ((c.tc : Thread Cert.Pack1Ideal.nD Cert.Pack1Ideal.τ).loc Cert.Pack1Ideal.main_arg23) = m ((c.tc : Thread Cert.Pack1Ideal.nD Cert.Pack1Ideal.τ).loc Cert.Pack1Ideal.main_arg23)
      ∧ r.2.mem ((c.tc : Thread Cert.Pack1Ideal.nD Cert.Pack1Ideal.τ).loc Cert.Pack1Ideal.main_arg24) = m ((c.tc : Thread Cert.Pack1Ideal.nD Cert.Pack1Ideal.τ).loc Cert.Pack1Ideal.main_arg24)
      ∧ r.2.mem ((c.tc : Thread Cert.Pack1Ideal.nD Cert.Pack1Ideal.τ).loc Cert.Pack1Ideal.main_arg25) = m ((c.tc : Thread Cert.Pack1Ideal.nD Cert.Pack1Ideal.τ).loc Cert.Pack1Ideal.main_arg25)
      ∧ r.2.mem ((c.tc : Thread Cert.Pack1Ideal.nD Cert.Pack1Ideal.τ).loc Cert.Pack1Ideal.main_arg26) = m ((c.tc : Thread Cert.Pack1Ideal.nD Cert.Pack1Ideal.τ).loc Cert.Pack1Ideal.main_arg26)
      ∧ r.2.mem ((c.tc : Thread Cert.Pack1Ideal.nD Cert.Pack1Ideal.τ).loc Cert.Pack1Ideal.main_arg27) = m ((c.tc : Thread Cert.Pack1Ideal.nD Cert.Pack1Ideal.τ).loc Cert.Pack1Ideal.main_arg27))
      ∧ r.2.sem = fun _ => 0)

def quiescent_PackRef1Ideal [hPackRef1Ideal : Cert.PackRef1Ideal.Facts] : Prop :=
  ∀ (m : (ℓ : Loc Cert.PackRef1Ideal.nD Cert.PackRef1Ideal.τ Cert.PackRef1Ideal.sig) → Buf (Elt Ideal) ℓ) (g : Dev Cert.PackRef1Ideal.nD → PrngReg), Pre_PackRef1Ideal m →
    θ_run (Cert.PackRef1Ideal.defs (F := Ideal)) (onTc (τ := Cert.PackRef1Ideal.τ) (Cert.PackRef1Ideal.main (F := Ideal))) ⟨m, fun _ => 0, g⟩ (fun r => (∀ c : Dev Cert.PackRef1Ideal.nD,
      r.2.mem ((c.tc : Thread Cert.PackRef1Ideal.nD Cert.PackRef1Ideal.τ).loc Cert.PackRef1Ideal.main_arg0) = m ((c.tc : Thread Cert.PackRef1Ideal.nD Cert.PackRef1Ideal.τ).loc Cert.PackRef1Ideal.main_arg0)
      ∧ r.2.mem ((c.tc : Thread Cert.PackRef1Ideal.nD Cert.PackRef1Ideal.τ).loc Cert.PackRef1Ideal.main_arg1) = m ((c.tc : Thread Cert.PackRef1Ideal.nD Cert.PackRef1Ideal.τ).loc Cert.PackRef1Ideal.main_arg1)
      ∧ r.2.mem ((c.tc : Thread Cert.PackRef1Ideal.nD Cert.PackRef1Ideal.τ).loc Cert.PackRef1Ideal.main_arg2) = m ((c.tc : Thread Cert.PackRef1Ideal.nD Cert.PackRef1Ideal.τ).loc Cert.PackRef1Ideal.main_arg2)
      ∧ r.2.mem ((c.tc : Thread Cert.PackRef1Ideal.nD Cert.PackRef1Ideal.τ).loc Cert.PackRef1Ideal.main_arg3) = m ((c.tc : Thread Cert.PackRef1Ideal.nD Cert.PackRef1Ideal.τ).loc Cert.PackRef1Ideal.main_arg3)
      ∧ r.2.mem ((c.tc : Thread Cert.PackRef1Ideal.nD Cert.PackRef1Ideal.τ).loc Cert.PackRef1Ideal.main_arg4) = m ((c.tc : Thread Cert.PackRef1Ideal.nD Cert.PackRef1Ideal.τ).loc Cert.PackRef1Ideal.main_arg4)
      ∧ r.2.mem ((c.tc : Thread Cert.PackRef1Ideal.nD Cert.PackRef1Ideal.τ).loc Cert.PackRef1Ideal.main_arg5) = m ((c.tc : Thread Cert.PackRef1Ideal.nD Cert.PackRef1Ideal.τ).loc Cert.PackRef1Ideal.main_arg5)
      ∧ r.2.mem ((c.tc : Thread Cert.PackRef1Ideal.nD Cert.PackRef1Ideal.τ).loc Cert.PackRef1Ideal.main_arg6) = m ((c.tc : Thread Cert.PackRef1Ideal.nD Cert.PackRef1Ideal.τ).loc Cert.PackRef1Ideal.main_arg6)
      ∧ r.2.mem ((c.tc : Thread Cert.PackRef1Ideal.nD Cert.PackRef1Ideal.τ).loc Cert.PackRef1Ideal.main_arg7) = m ((c.tc : Thread Cert.PackRef1Ideal.nD Cert.PackRef1Ideal.τ).loc Cert.PackRef1Ideal.main_arg7)
      ∧ r.2.mem ((c.tc : Thread Cert.PackRef1Ideal.nD Cert.PackRef1Ideal.τ).loc Cert.PackRef1Ideal.main_arg8) = m ((c.tc : Thread Cert.PackRef1Ideal.nD Cert.PackRef1Ideal.τ).loc Cert.PackRef1Ideal.main_arg8)
      ∧ r.2.mem ((c.tc : Thread Cert.PackRef1Ideal.nD Cert.PackRef1Ideal.τ).loc Cert.PackRef1Ideal.main_arg9) = m ((c.tc : Thread Cert.PackRef1Ideal.nD Cert.PackRef1Ideal.τ).loc Cert.PackRef1Ideal.main_arg9)
      ∧ r.2.mem ((c.tc : Thread Cert.PackRef1Ideal.nD Cert.PackRef1Ideal.τ).loc Cert.PackRef1Ideal.main_arg10) = m ((c.tc : Thread Cert.PackRef1Ideal.nD Cert.PackRef1Ideal.τ).loc Cert.PackRef1Ideal.main_arg10)
      ∧ r.2.mem ((c.tc : Thread Cert.PackRef1Ideal.nD Cert.PackRef1Ideal.τ).loc Cert.PackRef1Ideal.main_arg11) = m ((c.tc : Thread Cert.PackRef1Ideal.nD Cert.PackRef1Ideal.τ).loc Cert.PackRef1Ideal.main_arg11)
      ∧ r.2.mem ((c.tc : Thread Cert.PackRef1Ideal.nD Cert.PackRef1Ideal.τ).loc Cert.PackRef1Ideal.main_arg12) = m ((c.tc : Thread Cert.PackRef1Ideal.nD Cert.PackRef1Ideal.τ).loc Cert.PackRef1Ideal.main_arg12)
      ∧ r.2.mem ((c.tc : Thread Cert.PackRef1Ideal.nD Cert.PackRef1Ideal.τ).loc Cert.PackRef1Ideal.main_arg13) = m ((c.tc : Thread Cert.PackRef1Ideal.nD Cert.PackRef1Ideal.τ).loc Cert.PackRef1Ideal.main_arg13)
      ∧ r.2.mem ((c.tc : Thread Cert.PackRef1Ideal.nD Cert.PackRef1Ideal.τ).loc Cert.PackRef1Ideal.main_arg14) = m ((c.tc : Thread Cert.PackRef1Ideal.nD Cert.PackRef1Ideal.τ).loc Cert.PackRef1Ideal.main_arg14)
      ∧ r.2.mem ((c.tc : Thread Cert.PackRef1Ideal.nD Cert.PackRef1Ideal.τ).loc Cert.PackRef1Ideal.main_arg15) = m ((c.tc : Thread Cert.PackRef1Ideal.nD Cert.PackRef1Ideal.τ).loc Cert.PackRef1Ideal.main_arg15)
      ∧ r.2.mem ((c.tc : Thread Cert.PackRef1Ideal.nD Cert.PackRef1Ideal.τ).loc Cert.PackRef1Ideal.main_arg16) = m ((c.tc : Thread Cert.PackRef1Ideal.nD Cert.PackRef1Ideal.τ).loc Cert.PackRef1Ideal.main_arg16)
      ∧ r.2.mem ((c.tc : Thread Cert.PackRef1Ideal.nD Cert.PackRef1Ideal.τ).loc Cert.PackRef1Ideal.main_arg17) = m ((c.tc : Thread Cert.PackRef1Ideal.nD Cert.PackRef1Ideal.τ).loc Cert.PackRef1Ideal.main_arg17)
      ∧ r.2.mem ((c.tc : Thread Cert.PackRef1Ideal.nD Cert.PackRef1Ideal.τ).loc Cert.PackRef1Ideal.main_arg18) = m ((c.tc : Thread Cert.PackRef1Ideal.nD Cert.PackRef1Ideal.τ).loc Cert.PackRef1Ideal.main_arg18)
      ∧ r.2.mem ((c.tc : Thread Cert.PackRef1Ideal.nD Cert.PackRef1Ideal.τ).loc Cert.PackRef1Ideal.main_arg19) = m ((c.tc : Thread Cert.PackRef1Ideal.nD Cert.PackRef1Ideal.τ).loc Cert.PackRef1Ideal.main_arg19)
      ∧ r.2.mem ((c.tc : Thread Cert.PackRef1Ideal.nD Cert.PackRef1Ideal.τ).loc Cert.PackRef1Ideal.main_arg20) = m ((c.tc : Thread Cert.PackRef1Ideal.nD Cert.PackRef1Ideal.τ).loc Cert.PackRef1Ideal.main_arg20)
      ∧ r.2.mem ((c.tc : Thread Cert.PackRef1Ideal.nD Cert.PackRef1Ideal.τ).loc Cert.PackRef1Ideal.main_arg21) = m ((c.tc : Thread Cert.PackRef1Ideal.nD Cert.PackRef1Ideal.τ).loc Cert.PackRef1Ideal.main_arg21)
      ∧ r.2.mem ((c.tc : Thread Cert.PackRef1Ideal.nD Cert.PackRef1Ideal.τ).loc Cert.PackRef1Ideal.main_arg22) = m ((c.tc : Thread Cert.PackRef1Ideal.nD Cert.PackRef1Ideal.τ).loc Cert.PackRef1Ideal.main_arg22)
      ∧ r.2.mem ((c.tc : Thread Cert.PackRef1Ideal.nD Cert.PackRef1Ideal.τ).loc Cert.PackRef1Ideal.main_arg23) = m ((c.tc : Thread Cert.PackRef1Ideal.nD Cert.PackRef1Ideal.τ).loc Cert.PackRef1Ideal.main_arg23)
      ∧ r.2.mem ((c.tc : Thread Cert.PackRef1Ideal.nD Cert.PackRef1Ideal.τ).loc Cert.PackRef1Ideal.main_arg24) = m ((c.tc : Thread Cert.PackRef1Ideal.nD Cert.PackRef1Ideal.τ).loc Cert.PackRef1Ideal.main_arg24)
      ∧ r.2.mem ((c.tc : Thread Cert.PackRef1Ideal.nD Cert.PackRef1Ideal.τ).loc Cert.PackRef1Ideal.main_arg25) = m ((c.tc : Thread Cert.PackRef1Ideal.nD Cert.PackRef1Ideal.τ).loc Cert.PackRef1Ideal.main_arg25)
      ∧ r.2.mem ((c.tc : Thread Cert.PackRef1Ideal.nD Cert.PackRef1Ideal.τ).loc Cert.PackRef1Ideal.main_arg26) = m ((c.tc : Thread Cert.PackRef1Ideal.nD Cert.PackRef1Ideal.τ).loc Cert.PackRef1Ideal.main_arg26)
      ∧ r.2.mem ((c.tc : Thread Cert.PackRef1Ideal.nD Cert.PackRef1Ideal.τ).loc Cert.PackRef1Ideal.main_arg27) = m ((c.tc : Thread Cert.PackRef1Ideal.nD Cert.PackRef1Ideal.τ).loc Cert.PackRef1Ideal.main_arg27))
      ∧ r.2.sem = fun _ => 0)

def quiescent_Pack2 [hPack2 : Cert.Pack2.Facts] : Prop :=
  ∀ (m : (ℓ : Loc Cert.Pack2.nD Cert.Pack2.τ Cert.Pack2.sig) → Buf (Elt Bits) ℓ) (g : Dev Cert.Pack2.nD → PrngReg), Pre_Pack2 m →
    θ_run (Cert.Pack2.defs (F := Bits)) (onTc (τ := Cert.Pack2.τ) (Cert.Pack2.main (F := Bits))) ⟨m, fun _ => 0, g⟩ (fun r => (∀ c : Dev Cert.Pack2.nD,
      r.2.mem ((c.tc : Thread Cert.Pack2.nD Cert.Pack2.τ).loc Cert.Pack2.main_arg0) = m ((c.tc : Thread Cert.Pack2.nD Cert.Pack2.τ).loc Cert.Pack2.main_arg0)
      ∧ r.2.mem ((c.tc : Thread Cert.Pack2.nD Cert.Pack2.τ).loc Cert.Pack2.main_arg1) = m ((c.tc : Thread Cert.Pack2.nD Cert.Pack2.τ).loc Cert.Pack2.main_arg1)
      ∧ r.2.mem ((c.tc : Thread Cert.Pack2.nD Cert.Pack2.τ).loc Cert.Pack2.main_arg2) = m ((c.tc : Thread Cert.Pack2.nD Cert.Pack2.τ).loc Cert.Pack2.main_arg2)
      ∧ r.2.mem ((c.tc : Thread Cert.Pack2.nD Cert.Pack2.τ).loc Cert.Pack2.main_arg3) = m ((c.tc : Thread Cert.Pack2.nD Cert.Pack2.τ).loc Cert.Pack2.main_arg3)
      ∧ r.2.mem ((c.tc : Thread Cert.Pack2.nD Cert.Pack2.τ).loc Cert.Pack2.main_arg4) = m ((c.tc : Thread Cert.Pack2.nD Cert.Pack2.τ).loc Cert.Pack2.main_arg4)
      ∧ r.2.mem ((c.tc : Thread Cert.Pack2.nD Cert.Pack2.τ).loc Cert.Pack2.main_arg5) = m ((c.tc : Thread Cert.Pack2.nD Cert.Pack2.τ).loc Cert.Pack2.main_arg5)
      ∧ r.2.mem ((c.tc : Thread Cert.Pack2.nD Cert.Pack2.τ).loc Cert.Pack2.main_arg6) = m ((c.tc : Thread Cert.Pack2.nD Cert.Pack2.τ).loc Cert.Pack2.main_arg6)
      ∧ r.2.mem ((c.tc : Thread Cert.Pack2.nD Cert.Pack2.τ).loc Cert.Pack2.main_arg7) = m ((c.tc : Thread Cert.Pack2.nD Cert.Pack2.τ).loc Cert.Pack2.main_arg7)
      ∧ r.2.mem ((c.tc : Thread Cert.Pack2.nD Cert.Pack2.τ).loc Cert.Pack2.main_arg8) = m ((c.tc : Thread Cert.Pack2.nD Cert.Pack2.τ).loc Cert.Pack2.main_arg8)
      ∧ r.2.mem ((c.tc : Thread Cert.Pack2.nD Cert.Pack2.τ).loc Cert.Pack2.main_arg9) = m ((c.tc : Thread Cert.Pack2.nD Cert.Pack2.τ).loc Cert.Pack2.main_arg9)
      ∧ r.2.mem ((c.tc : Thread Cert.Pack2.nD Cert.Pack2.τ).loc Cert.Pack2.main_arg10) = m ((c.tc : Thread Cert.Pack2.nD Cert.Pack2.τ).loc Cert.Pack2.main_arg10)
      ∧ r.2.mem ((c.tc : Thread Cert.Pack2.nD Cert.Pack2.τ).loc Cert.Pack2.main_arg11) = m ((c.tc : Thread Cert.Pack2.nD Cert.Pack2.τ).loc Cert.Pack2.main_arg11)
      ∧ r.2.mem ((c.tc : Thread Cert.Pack2.nD Cert.Pack2.τ).loc Cert.Pack2.main_arg12) = m ((c.tc : Thread Cert.Pack2.nD Cert.Pack2.τ).loc Cert.Pack2.main_arg12)
      ∧ r.2.mem ((c.tc : Thread Cert.Pack2.nD Cert.Pack2.τ).loc Cert.Pack2.main_arg13) = m ((c.tc : Thread Cert.Pack2.nD Cert.Pack2.τ).loc Cert.Pack2.main_arg13)
      ∧ r.2.mem ((c.tc : Thread Cert.Pack2.nD Cert.Pack2.τ).loc Cert.Pack2.main_arg14) = m ((c.tc : Thread Cert.Pack2.nD Cert.Pack2.τ).loc Cert.Pack2.main_arg14)
      ∧ r.2.mem ((c.tc : Thread Cert.Pack2.nD Cert.Pack2.τ).loc Cert.Pack2.main_arg15) = m ((c.tc : Thread Cert.Pack2.nD Cert.Pack2.τ).loc Cert.Pack2.main_arg15)
      ∧ r.2.mem ((c.tc : Thread Cert.Pack2.nD Cert.Pack2.τ).loc Cert.Pack2.main_arg16) = m ((c.tc : Thread Cert.Pack2.nD Cert.Pack2.τ).loc Cert.Pack2.main_arg16))
      ∧ r.2.sem = fun _ => 0)

def quiescent_Pack2Ideal [hPack2Ideal : Cert.Pack2Ideal.Facts] : Prop :=
  ∀ (m : (ℓ : Loc Cert.Pack2Ideal.nD Cert.Pack2Ideal.τ Cert.Pack2Ideal.sig) → Buf (Elt Ideal) ℓ) (g : Dev Cert.Pack2Ideal.nD → PrngReg), Pre_Pack2Ideal m →
    θ_run (Cert.Pack2Ideal.defs (F := Ideal)) (onTc (τ := Cert.Pack2Ideal.τ) (Cert.Pack2Ideal.main (F := Ideal))) ⟨m, fun _ => 0, g⟩ (fun r => (∀ c : Dev Cert.Pack2Ideal.nD,
      r.2.mem ((c.tc : Thread Cert.Pack2Ideal.nD Cert.Pack2Ideal.τ).loc Cert.Pack2Ideal.main_arg0) = m ((c.tc : Thread Cert.Pack2Ideal.nD Cert.Pack2Ideal.τ).loc Cert.Pack2Ideal.main_arg0)
      ∧ r.2.mem ((c.tc : Thread Cert.Pack2Ideal.nD Cert.Pack2Ideal.τ).loc Cert.Pack2Ideal.main_arg1) = m ((c.tc : Thread Cert.Pack2Ideal.nD Cert.Pack2Ideal.τ).loc Cert.Pack2Ideal.main_arg1)
      ∧ r.2.mem ((c.tc : Thread Cert.Pack2Ideal.nD Cert.Pack2Ideal.τ).loc Cert.Pack2Ideal.main_arg2) = m ((c.tc : Thread Cert.Pack2Ideal.nD Cert.Pack2Ideal.τ).loc Cert.Pack2Ideal.main_arg2)
      ∧ r.2.mem ((c.tc : Thread Cert.Pack2Ideal.nD Cert.Pack2Ideal.τ).loc Cert.Pack2Ideal.main_arg3) = m ((c.tc : Thread Cert.Pack2Ideal.nD Cert.Pack2Ideal.τ).loc Cert.Pack2Ideal.main_arg3)
      ∧ r.2.mem ((c.tc : Thread Cert.Pack2Ideal.nD Cert.Pack2Ideal.τ).loc Cert.Pack2Ideal.main_arg4) = m ((c.tc : Thread Cert.Pack2Ideal.nD Cert.Pack2Ideal.τ).loc Cert.Pack2Ideal.main_arg4)
      ∧ r.2.mem ((c.tc : Thread Cert.Pack2Ideal.nD Cert.Pack2Ideal.τ).loc Cert.Pack2Ideal.main_arg5) = m ((c.tc : Thread Cert.Pack2Ideal.nD Cert.Pack2Ideal.τ).loc Cert.Pack2Ideal.main_arg5)
      ∧ r.2.mem ((c.tc : Thread Cert.Pack2Ideal.nD Cert.Pack2Ideal.τ).loc Cert.Pack2Ideal.main_arg6) = m ((c.tc : Thread Cert.Pack2Ideal.nD Cert.Pack2Ideal.τ).loc Cert.Pack2Ideal.main_arg6)
      ∧ r.2.mem ((c.tc : Thread Cert.Pack2Ideal.nD Cert.Pack2Ideal.τ).loc Cert.Pack2Ideal.main_arg7) = m ((c.tc : Thread Cert.Pack2Ideal.nD Cert.Pack2Ideal.τ).loc Cert.Pack2Ideal.main_arg7)
      ∧ r.2.mem ((c.tc : Thread Cert.Pack2Ideal.nD Cert.Pack2Ideal.τ).loc Cert.Pack2Ideal.main_arg8) = m ((c.tc : Thread Cert.Pack2Ideal.nD Cert.Pack2Ideal.τ).loc Cert.Pack2Ideal.main_arg8)
      ∧ r.2.mem ((c.tc : Thread Cert.Pack2Ideal.nD Cert.Pack2Ideal.τ).loc Cert.Pack2Ideal.main_arg9) = m ((c.tc : Thread Cert.Pack2Ideal.nD Cert.Pack2Ideal.τ).loc Cert.Pack2Ideal.main_arg9)
      ∧ r.2.mem ((c.tc : Thread Cert.Pack2Ideal.nD Cert.Pack2Ideal.τ).loc Cert.Pack2Ideal.main_arg10) = m ((c.tc : Thread Cert.Pack2Ideal.nD Cert.Pack2Ideal.τ).loc Cert.Pack2Ideal.main_arg10)
      ∧ r.2.mem ((c.tc : Thread Cert.Pack2Ideal.nD Cert.Pack2Ideal.τ).loc Cert.Pack2Ideal.main_arg11) = m ((c.tc : Thread Cert.Pack2Ideal.nD Cert.Pack2Ideal.τ).loc Cert.Pack2Ideal.main_arg11)
      ∧ r.2.mem ((c.tc : Thread Cert.Pack2Ideal.nD Cert.Pack2Ideal.τ).loc Cert.Pack2Ideal.main_arg12) = m ((c.tc : Thread Cert.Pack2Ideal.nD Cert.Pack2Ideal.τ).loc Cert.Pack2Ideal.main_arg12)
      ∧ r.2.mem ((c.tc : Thread Cert.Pack2Ideal.nD Cert.Pack2Ideal.τ).loc Cert.Pack2Ideal.main_arg13) = m ((c.tc : Thread Cert.Pack2Ideal.nD Cert.Pack2Ideal.τ).loc Cert.Pack2Ideal.main_arg13)
      ∧ r.2.mem ((c.tc : Thread Cert.Pack2Ideal.nD Cert.Pack2Ideal.τ).loc Cert.Pack2Ideal.main_arg14) = m ((c.tc : Thread Cert.Pack2Ideal.nD Cert.Pack2Ideal.τ).loc Cert.Pack2Ideal.main_arg14)
      ∧ r.2.mem ((c.tc : Thread Cert.Pack2Ideal.nD Cert.Pack2Ideal.τ).loc Cert.Pack2Ideal.main_arg15) = m ((c.tc : Thread Cert.Pack2Ideal.nD Cert.Pack2Ideal.τ).loc Cert.Pack2Ideal.main_arg15)
      ∧ r.2.mem ((c.tc : Thread Cert.Pack2Ideal.nD Cert.Pack2Ideal.τ).loc Cert.Pack2Ideal.main_arg16) = m ((c.tc : Thread Cert.Pack2Ideal.nD Cert.Pack2Ideal.τ).loc Cert.Pack2Ideal.main_arg16))
      ∧ r.2.sem = fun _ => 0)

def quiescent_PackRef2Ideal [hPackRef2Ideal : Cert.PackRef2Ideal.Facts] : Prop :=
  ∀ (m : (ℓ : Loc Cert.PackRef2Ideal.nD Cert.PackRef2Ideal.τ Cert.PackRef2Ideal.sig) → Buf (Elt Ideal) ℓ) (g : Dev Cert.PackRef2Ideal.nD → PrngReg), Pre_PackRef2Ideal m →
    θ_run (Cert.PackRef2Ideal.defs (F := Ideal)) (onTc (τ := Cert.PackRef2Ideal.τ) (Cert.PackRef2Ideal.main (F := Ideal))) ⟨m, fun _ => 0, g⟩ (fun r => (∀ c : Dev Cert.PackRef2Ideal.nD,
      r.2.mem ((c.tc : Thread Cert.PackRef2Ideal.nD Cert.PackRef2Ideal.τ).loc Cert.PackRef2Ideal.main_arg0) = m ((c.tc : Thread Cert.PackRef2Ideal.nD Cert.PackRef2Ideal.τ).loc Cert.PackRef2Ideal.main_arg0)
      ∧ r.2.mem ((c.tc : Thread Cert.PackRef2Ideal.nD Cert.PackRef2Ideal.τ).loc Cert.PackRef2Ideal.main_arg1) = m ((c.tc : Thread Cert.PackRef2Ideal.nD Cert.PackRef2Ideal.τ).loc Cert.PackRef2Ideal.main_arg1)
      ∧ r.2.mem ((c.tc : Thread Cert.PackRef2Ideal.nD Cert.PackRef2Ideal.τ).loc Cert.PackRef2Ideal.main_arg2) = m ((c.tc : Thread Cert.PackRef2Ideal.nD Cert.PackRef2Ideal.τ).loc Cert.PackRef2Ideal.main_arg2)
      ∧ r.2.mem ((c.tc : Thread Cert.PackRef2Ideal.nD Cert.PackRef2Ideal.τ).loc Cert.PackRef2Ideal.main_arg3) = m ((c.tc : Thread Cert.PackRef2Ideal.nD Cert.PackRef2Ideal.τ).loc Cert.PackRef2Ideal.main_arg3)
      ∧ r.2.mem ((c.tc : Thread Cert.PackRef2Ideal.nD Cert.PackRef2Ideal.τ).loc Cert.PackRef2Ideal.main_arg4) = m ((c.tc : Thread Cert.PackRef2Ideal.nD Cert.PackRef2Ideal.τ).loc Cert.PackRef2Ideal.main_arg4)
      ∧ r.2.mem ((c.tc : Thread Cert.PackRef2Ideal.nD Cert.PackRef2Ideal.τ).loc Cert.PackRef2Ideal.main_arg5) = m ((c.tc : Thread Cert.PackRef2Ideal.nD Cert.PackRef2Ideal.τ).loc Cert.PackRef2Ideal.main_arg5)
      ∧ r.2.mem ((c.tc : Thread Cert.PackRef2Ideal.nD Cert.PackRef2Ideal.τ).loc Cert.PackRef2Ideal.main_arg6) = m ((c.tc : Thread Cert.PackRef2Ideal.nD Cert.PackRef2Ideal.τ).loc Cert.PackRef2Ideal.main_arg6)
      ∧ r.2.mem ((c.tc : Thread Cert.PackRef2Ideal.nD Cert.PackRef2Ideal.τ).loc Cert.PackRef2Ideal.main_arg7) = m ((c.tc : Thread Cert.PackRef2Ideal.nD Cert.PackRef2Ideal.τ).loc Cert.PackRef2Ideal.main_arg7)
      ∧ r.2.mem ((c.tc : Thread Cert.PackRef2Ideal.nD Cert.PackRef2Ideal.τ).loc Cert.PackRef2Ideal.main_arg8) = m ((c.tc : Thread Cert.PackRef2Ideal.nD Cert.PackRef2Ideal.τ).loc Cert.PackRef2Ideal.main_arg8)
      ∧ r.2.mem ((c.tc : Thread Cert.PackRef2Ideal.nD Cert.PackRef2Ideal.τ).loc Cert.PackRef2Ideal.main_arg9) = m ((c.tc : Thread Cert.PackRef2Ideal.nD Cert.PackRef2Ideal.τ).loc Cert.PackRef2Ideal.main_arg9)
      ∧ r.2.mem ((c.tc : Thread Cert.PackRef2Ideal.nD Cert.PackRef2Ideal.τ).loc Cert.PackRef2Ideal.main_arg10) = m ((c.tc : Thread Cert.PackRef2Ideal.nD Cert.PackRef2Ideal.τ).loc Cert.PackRef2Ideal.main_arg10)
      ∧ r.2.mem ((c.tc : Thread Cert.PackRef2Ideal.nD Cert.PackRef2Ideal.τ).loc Cert.PackRef2Ideal.main_arg11) = m ((c.tc : Thread Cert.PackRef2Ideal.nD Cert.PackRef2Ideal.τ).loc Cert.PackRef2Ideal.main_arg11)
      ∧ r.2.mem ((c.tc : Thread Cert.PackRef2Ideal.nD Cert.PackRef2Ideal.τ).loc Cert.PackRef2Ideal.main_arg12) = m ((c.tc : Thread Cert.PackRef2Ideal.nD Cert.PackRef2Ideal.τ).loc Cert.PackRef2Ideal.main_arg12)
      ∧ r.2.mem ((c.tc : Thread Cert.PackRef2Ideal.nD Cert.PackRef2Ideal.τ).loc Cert.PackRef2Ideal.main_arg13) = m ((c.tc : Thread Cert.PackRef2Ideal.nD Cert.PackRef2Ideal.τ).loc Cert.PackRef2Ideal.main_arg13)
      ∧ r.2.mem ((c.tc : Thread Cert.PackRef2Ideal.nD Cert.PackRef2Ideal.τ).loc Cert.PackRef2Ideal.main_arg14) = m ((c.tc : Thread Cert.PackRef2Ideal.nD Cert.PackRef2Ideal.τ).loc Cert.PackRef2Ideal.main_arg14)
      ∧ r.2.mem ((c.tc : Thread Cert.PackRef2Ideal.nD Cert.PackRef2Ideal.τ).loc Cert.PackRef2Ideal.main_arg15) = m ((c.tc : Thread Cert.PackRef2Ideal.nD Cert.PackRef2Ideal.τ).loc Cert.PackRef2Ideal.main_arg15)
      ∧ r.2.mem ((c.tc : Thread Cert.PackRef2Ideal.nD Cert.PackRef2Ideal.τ).loc Cert.PackRef2Ideal.main_arg16) = m ((c.tc : Thread Cert.PackRef2Ideal.nD Cert.PackRef2Ideal.τ).loc Cert.PackRef2Ideal.main_arg16))
      ∧ r.2.sem = fun _ => 0)

def preserves_Mlp0_Mlp0Ideal : Prop :=
  True

def algebraic_Mlp0Ideal_MlpRef0Ideal_on_written_first [hMlp0Ideal : Cert.Mlp0Ideal.Facts] [hMlpRef0Ideal : Cert.MlpRef0Ideal.Facts] [hOn_written_first : Cert.On_written_first.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.MlpRef0Ideal.nD Cert.MlpRef0Ideal.τ Cert.MlpRef0Ideal.sig) → Buf (Elt Ideal) ℓ) (g' : Dev Cert.MlpRef0Ideal.nD → PrngReg), Pre_Mlp0Ideal m →
    (∀ c : Dev Cert.Mlp0Ideal.nD,
      m' ((c.tc : Thread Cert.MlpRef0Ideal.nD Cert.MlpRef0Ideal.τ).loc Cert.MlpRef0Ideal.main_arg0) = m ((c.tc : Thread Cert.Mlp0Ideal.nD Cert.Mlp0Ideal.τ).loc Cert.Mlp0Ideal.main_arg0)
      ∧ m' ((c.tc : Thread Cert.MlpRef0Ideal.nD Cert.MlpRef0Ideal.τ).loc Cert.MlpRef0Ideal.main_arg1) = m ((c.tc : Thread Cert.Mlp0Ideal.nD Cert.Mlp0Ideal.τ).loc Cert.Mlp0Ideal.main_arg1)
      ∧ m' ((c.tc : Thread Cert.MlpRef0Ideal.nD Cert.MlpRef0Ideal.τ).loc Cert.MlpRef0Ideal.main_arg2) = m ((c.tc : Thread Cert.Mlp0Ideal.nD Cert.Mlp0Ideal.τ).loc Cert.Mlp0Ideal.main_arg2)
      ∧ m' ((c.tc : Thread Cert.MlpRef0Ideal.nD Cert.MlpRef0Ideal.τ).loc Cert.MlpRef0Ideal.main_arg3) = m ((c.tc : Thread Cert.Mlp0Ideal.nD Cert.Mlp0Ideal.τ).loc Cert.Mlp0Ideal.main_arg3)) →
    ∃ (v0 : (c : Dev Cert.Mlp0Ideal.nD) → Buf (Elt Ideal) ((c.tc : Thread Cert.Mlp0Ideal.nD Cert.Mlp0Ideal.τ).loc Cert.Mlp0Ideal.main_v6_0)) (v1 : (c : Dev Cert.Mlp0Ideal.nD) → Buf (Elt Ideal) ((c.tc : Thread Cert.Mlp0Ideal.nD Cert.Mlp0Ideal.τ).loc Cert.Mlp0Ideal.main_v6_1)) (v2 : (c : Dev Cert.Mlp0Ideal.nD) → Buf (Elt Ideal) ((c.tc : Thread Cert.Mlp0Ideal.nD Cert.Mlp0Ideal.τ).loc Cert.Mlp0Ideal.main_v6_2)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          (∀ i : (⟨2, ![8448, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).1 i = 1#1 → r.2.mem ((c.tc : Thread Cert.Mlp0Ideal.nD Cert.Mlp0Ideal.τ).loc Cert.Mlp0Ideal.main_v6_0) i = v0 c i)
          ∧ (∀ i : (⟨3, ![4, 1024, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).2.1 i = 1#1 → r.2.mem ((c.tc : Thread Cert.Mlp0Ideal.nD Cert.Mlp0Ideal.τ).loc Cert.Mlp0Ideal.main_v6_1) i = v1 c i)
          ∧ (∀ i : (⟨3, ![4, 1024, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).2.2 i = 1#1 → r.2.mem ((c.tc : Thread Cert.Mlp0Ideal.nD Cert.Mlp0Ideal.τ).loc Cert.Mlp0Ideal.main_v6_2) i = v2 c i)
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ θ_run (Cert.MlpRef0Ideal.defs (F := Ideal)) (onTc (τ := Cert.MlpRef0Ideal.τ) (Cert.MlpRef0Ideal.main (F := Ideal))) ⟨m', fun _ => 0, g'⟩ (fun r => ∀ c : Dev Cert.MlpRef0Ideal.nD,
          (∀ i : (⟨2, ![8448, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).1 i = 1#1 → r.2.mem ((c.tc : Thread Cert.MlpRef0Ideal.nD Cert.MlpRef0Ideal.τ).loc Cert.MlpRef0Ideal.main_v24) i = v0 c i)
          ∧ (∀ i : (⟨3, ![4, 1024, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).2.1 i = 1#1 → r.2.mem ((c.tc : Thread Cert.MlpRef0Ideal.nD Cert.MlpRef0Ideal.τ).loc Cert.MlpRef0Ideal.main_v28) i = v1 c i)
          ∧ (∀ i : (⟨3, ![4, 1024, 1024]⟩ : Shape).Idx, (Cert.On_written_first.fn (F := Ideal) (m ((c.tc : Thread Cert.Mlp0Ideal.nD Cert.Mlp0Ideal.τ).loc Cert.Mlp0Ideal.main_arg0)) (m ((c.tc : Thread Cert.Mlp0Ideal.nD Cert.Mlp0Ideal.τ).loc Cert.Mlp0Ideal.main_arg1)) (m ((c.tc : Thread Cert.Mlp0Ideal.nD Cert.Mlp0Ideal.τ).loc Cert.Mlp0Ideal.main_arg2)) (m ((c.tc : Thread Cert.Mlp0Ideal.nD Cert.Mlp0Ideal.τ).loc Cert.Mlp0Ideal.main_arg3))).2.2 i = 1#1 → r.2.mem ((c.tc : Thread Cert.MlpRef0Ideal.nD Cert.MlpRef0Ideal.τ).loc Cert.MlpRef0Ideal.main_v32) i = v2 c i)
          ∧ r.2.mem ((c.tc : Thread Cert.MlpRef0Ideal.nD Cert.MlpRef0Ideal.τ).loc Cert.MlpRef0Ideal.main_arg0) = m' ((c.tc : Thread Cert.MlpRef0Ideal.nD Cert.MlpRef0Ideal.τ).loc Cert.MlpRef0Ideal.main_arg0)
          ∧ r.2.mem ((c.tc : Thread Cert.MlpRef0Ideal.nD Cert.MlpRef0Ideal.τ).loc Cert.MlpRef0Ideal.main_arg1) = m' ((c.tc : Thread Cert.MlpRef0Ideal.nD Cert.MlpRef0Ideal.τ).loc Cert.MlpRef0Ideal.main_arg1)
          ∧ r.2.mem ((c.tc : Thread Cert.MlpRef0Ideal.nD Cert.MlpRef0Ideal.τ).loc Cert.MlpRef0Ideal.main_arg2) = m' ((c.tc : Thread Cert.MlpRef0Ideal.nD Cert.MlpRef0Ideal.τ).loc Cert.MlpRef0Ideal.main_arg2)
          ∧ r.2.mem ((c.tc : Thread Cert.MlpRef0Ideal.nD Cert.MlpRef0Ideal.τ).loc Cert.MlpRef0Ideal.main_arg3) = m' ((c.tc : Thread Cert.MlpRef0Ideal.nD Cert.MlpRef0Ideal.τ).loc Cert.MlpRef0Ideal.main_arg3))

def preserves_Mlp1_Mlp1Ideal : Prop :=
  True

def algebraic_Mlp1Ideal_MlpRef1Ideal [hMlp1Ideal : Cert.Mlp1Ideal.Facts] [hMlpRef1Ideal : Cert.MlpRef1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.MlpRef1Ideal.nD Cert.MlpRef1Ideal.τ Cert.MlpRef1Ideal.sig) → Buf (Elt Ideal) ℓ) (g' : Dev Cert.MlpRef1Ideal.nD → PrngReg), Pre_Mlp1Ideal m →
    (∀ c : Dev Cert.Mlp1Ideal.nD,
      m' ((c.tc : Thread Cert.MlpRef1Ideal.nD Cert.MlpRef1Ideal.τ).loc Cert.MlpRef1Ideal.main_arg0) = m ((c.tc : Thread Cert.Mlp1Ideal.nD Cert.Mlp1Ideal.τ).loc Cert.Mlp1Ideal.main_arg0)
      ∧ m' ((c.tc : Thread Cert.MlpRef1Ideal.nD Cert.MlpRef1Ideal.τ).loc Cert.MlpRef1Ideal.main_arg1) = m ((c.tc : Thread Cert.Mlp1Ideal.nD Cert.Mlp1Ideal.τ).loc Cert.Mlp1Ideal.main_arg1)
      ∧ m' ((c.tc : Thread Cert.MlpRef1Ideal.nD Cert.MlpRef1Ideal.τ).loc Cert.MlpRef1Ideal.main_arg2) = m ((c.tc : Thread Cert.Mlp1Ideal.nD Cert.Mlp1Ideal.τ).loc Cert.Mlp1Ideal.main_arg2)
      ∧ m' ((c.tc : Thread Cert.MlpRef1Ideal.nD Cert.MlpRef1Ideal.τ).loc Cert.MlpRef1Ideal.main_arg3) = m ((c.tc : Thread Cert.Mlp1Ideal.nD Cert.Mlp1Ideal.τ).loc Cert.Mlp1Ideal.main_arg3)
      ∧ m' ((c.tc : Thread Cert.MlpRef1Ideal.nD Cert.MlpRef1Ideal.τ).loc Cert.MlpRef1Ideal.main_arg4) = m ((c.tc : Thread Cert.Mlp1Ideal.nD Cert.Mlp1Ideal.τ).loc Cert.Mlp1Ideal.main_arg4)
      ∧ m' ((c.tc : Thread Cert.MlpRef1Ideal.nD Cert.MlpRef1Ideal.τ).loc Cert.MlpRef1Ideal.main_arg5) = m ((c.tc : Thread Cert.Mlp1Ideal.nD Cert.Mlp1Ideal.τ).loc Cert.Mlp1Ideal.main_arg5)
      ∧ m' ((c.tc : Thread Cert.MlpRef1Ideal.nD Cert.MlpRef1Ideal.τ).loc Cert.MlpRef1Ideal.main_arg6) = m ((c.tc : Thread Cert.Mlp1Ideal.nD Cert.Mlp1Ideal.τ).loc Cert.Mlp1Ideal.main_arg6)) →
    ∃ (v0 : (c : Dev Cert.Mlp1Ideal.nD) → Buf (Elt Ideal) ((c.tc : Thread Cert.Mlp1Ideal.nD Cert.Mlp1Ideal.τ).loc Cert.Mlp1Ideal.main_v6_0)) (v1 : (c : Dev Cert.Mlp1Ideal.nD) → Buf (Elt Ideal) ((c.tc : Thread Cert.Mlp1Ideal.nD Cert.Mlp1Ideal.τ).loc Cert.Mlp1Ideal.main_v6_1)) (v2 : (c : Dev Cert.Mlp1Ideal.nD) → Buf (Elt Ideal) ((c.tc : Thread Cert.Mlp1Ideal.nD Cert.Mlp1Ideal.τ).loc Cert.Mlp1Ideal.main_v6_2)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v6_0) = v0 c
          ∧ r.2.mem ((c.tc : Thread Cert.Mlp1Ideal.nD Cert.Mlp1Ideal.τ).loc Cert.Mlp1Ideal.main_v6_1) = v1 c
          ∧ r.2.mem ((c.tc : Thread Cert.Mlp1Ideal.nD Cert.Mlp1Ideal.τ).loc Cert.Mlp1Ideal.main_v6_2) = v2 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5)
          ∧ r.2.mem ((c.tc : Thread Cert.Mlp1Ideal.nD Cert.Mlp1Ideal.τ).loc Cert.Mlp1Ideal.main_arg6) = m ((c.tc : Thread Cert.Mlp1Ideal.nD Cert.Mlp1Ideal.τ).loc Cert.Mlp1Ideal.main_arg6))
      ∧ θ_run (Cert.MlpRef1Ideal.defs (F := Ideal)) (onTc (τ := Cert.MlpRef1Ideal.τ) (Cert.MlpRef1Ideal.main (F := Ideal))) ⟨m', fun _ => 0, g'⟩ (fun r => ∀ c : Dev Cert.MlpRef1Ideal.nD,
          r.2.mem ((c.tc : Thread Cert.MlpRef1Ideal.nD Cert.MlpRef1Ideal.τ).loc Cert.MlpRef1Ideal.main_v25) = v0 c
          ∧ r.2.mem ((c.tc : Thread Cert.MlpRef1Ideal.nD Cert.MlpRef1Ideal.τ).loc Cert.MlpRef1Ideal.main_v30) = v1 c
          ∧ r.2.mem ((c.tc : Thread Cert.MlpRef1Ideal.nD Cert.MlpRef1Ideal.τ).loc Cert.MlpRef1Ideal.main_v35) = v2 c
          ∧ r.2.mem ((c.tc : Thread Cert.MlpRef1Ideal.nD Cert.MlpRef1Ideal.τ).loc Cert.MlpRef1Ideal.main_arg0) = m' ((c.tc : Thread Cert.MlpRef1Ideal.nD Cert.MlpRef1Ideal.τ).loc Cert.MlpRef1Ideal.main_arg0)
          ∧ r.2.mem ((c.tc : Thread Cert.MlpRef1Ideal.nD Cert.MlpRef1Ideal.τ).loc Cert.MlpRef1Ideal.main_arg1) = m' ((c.tc : Thread Cert.MlpRef1Ideal.nD Cert.MlpRef1Ideal.τ).loc Cert.MlpRef1Ideal.main_arg1)
          ∧ r.2.mem ((c.tc : Thread Cert.MlpRef1Ideal.nD Cert.MlpRef1Ideal.τ).loc Cert.MlpRef1Ideal.main_arg2) = m' ((c.tc : Thread Cert.MlpRef1Ideal.nD Cert.MlpRef1Ideal.τ).loc Cert.MlpRef1Ideal.main_arg2)
          ∧ r.2.mem ((c.tc : Thread Cert.MlpRef1Ideal.nD Cert.MlpRef1Ideal.τ).loc Cert.MlpRef1Ideal.main_arg3) = m' ((c.tc : Thread Cert.MlpRef1Ideal.nD Cert.MlpRef1Ideal.τ).loc Cert.MlpRef1Ideal.main_arg3)
          ∧ r.2.mem ((c.tc : Thread Cert.MlpRef1Ideal.nD Cert.MlpRef1Ideal.τ).loc Cert.MlpRef1Ideal.main_arg4) = m' ((c.tc : Thread Cert.MlpRef1Ideal.nD Cert.MlpRef1Ideal.τ).loc Cert.MlpRef1Ideal.main_arg4)
          ∧ r.2.mem ((c.tc : Thread Cert.MlpRef1Ideal.nD Cert.MlpRef1Ideal.τ).loc Cert.MlpRef1Ideal.main_arg5) = m' ((c.tc : Thread Cert.MlpRef1Ideal.nD Cert.MlpRef1Ideal.τ).loc Cert.MlpRef1Ideal.main_arg5)
          ∧ r.2.mem ((c.tc : Thread Cert.MlpRef1Ideal.nD Cert.MlpRef1Ideal.τ).loc Cert.MlpRef1Ideal.main_arg6) = m' ((c.tc : Thread Cert.MlpRef1Ideal.nD Cert.MlpRef1Ideal.τ).loc Cert.MlpRef1Ideal.main_arg6))

def preserves_Mlp2_Mlp2Ideal : Prop :=
  True

def algebraic_Mlp2Ideal_MlpRef2Ideal [hMlp2Ideal : Cert.Mlp2Ideal.Facts] [hMlpRef2Ideal : Cert.MlpRef2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.MlpRef2Ideal.nD Cert.MlpRef2Ideal.τ Cert.MlpRef2Ideal.sig) → Buf (Elt Ideal) ℓ) (g' : Dev Cert.MlpRef2Ideal.nD → PrngReg), Pre_Mlp2Ideal m →
    (∀ c : Dev Cert.Mlp2Ideal.nD,
      m' ((c.tc : Thread Cert.MlpRef2Ideal.nD Cert.MlpRef2Ideal.τ).loc Cert.MlpRef2Ideal.main_arg0) = m ((c.tc : Thread Cert.Mlp2Ideal.nD Cert.Mlp2Ideal.τ).loc Cert.Mlp2Ideal.main_arg0)
      ∧ m' ((c.tc : Thread Cert.MlpRef2Ideal.nD Cert.MlpRef2Ideal.τ).loc Cert.MlpRef2Ideal.main_arg1) = m ((c.tc : Thread Cert.Mlp2Ideal.nD Cert.Mlp2Ideal.τ).loc Cert.Mlp2Ideal.main_arg1)
      ∧ m' ((c.tc : Thread Cert.MlpRef2Ideal.nD Cert.MlpRef2Ideal.τ).loc Cert.MlpRef2Ideal.main_arg2) = m ((c.tc : Thread Cert.Mlp2Ideal.nD Cert.Mlp2Ideal.τ).loc Cert.Mlp2Ideal.main_arg2)
      ∧ m' ((c.tc : Thread Cert.MlpRef2Ideal.nD Cert.MlpRef2Ideal.τ).loc Cert.MlpRef2Ideal.main_arg3) = m ((c.tc : Thread Cert.Mlp2Ideal.nD Cert.Mlp2Ideal.τ).loc Cert.Mlp2Ideal.main_arg3)
      ∧ m' ((c.tc : Thread Cert.MlpRef2Ideal.nD Cert.MlpRef2Ideal.τ).loc Cert.MlpRef2Ideal.main_arg4) = m ((c.tc : Thread Cert.Mlp2Ideal.nD Cert.Mlp2Ideal.τ).loc Cert.Mlp2Ideal.main_arg4)
      ∧ m' ((c.tc : Thread Cert.MlpRef2Ideal.nD Cert.MlpRef2Ideal.τ).loc Cert.MlpRef2Ideal.main_arg5) = m ((c.tc : Thread Cert.Mlp2Ideal.nD Cert.Mlp2Ideal.τ).loc Cert.Mlp2Ideal.main_arg5)
      ∧ m' ((c.tc : Thread Cert.MlpRef2Ideal.nD Cert.MlpRef2Ideal.τ).loc Cert.MlpRef2Ideal.main_arg6) = m ((c.tc : Thread Cert.Mlp2Ideal.nD Cert.Mlp2Ideal.τ).loc Cert.Mlp2Ideal.main_arg6)) →
    ∃ (v0 : (c : Dev Cert.Mlp2Ideal.nD) → Buf (Elt Ideal) ((c.tc : Thread Cert.Mlp2Ideal.nD Cert.Mlp2Ideal.τ).loc Cert.Mlp2Ideal.main_v6_0)) (v1 : (c : Dev Cert.Mlp2Ideal.nD) → Buf (Elt Ideal) ((c.tc : Thread Cert.Mlp2Ideal.nD Cert.Mlp2Ideal.τ).loc Cert.Mlp2Ideal.main_v6_1)) (v2 : (c : Dev Cert.Mlp2Ideal.nD) → Buf (Elt Ideal) ((c.tc : Thread Cert.Mlp2Ideal.nD Cert.Mlp2Ideal.τ).loc Cert.Mlp2Ideal.main_v6_2)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v6_0) = v0 c
          ∧ r.2.mem ((c.tc : Thread Cert.Mlp2Ideal.nD Cert.Mlp2Ideal.τ).loc Cert.Mlp2Ideal.main_v6_1) = v1 c
          ∧ r.2.mem ((c.tc : Thread Cert.Mlp2Ideal.nD Cert.Mlp2Ideal.τ).loc Cert.Mlp2Ideal.main_v6_2) = v2 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
          ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5)
          ∧ r.2.mem ((c.tc : Thread Cert.Mlp2Ideal.nD Cert.Mlp2Ideal.τ).loc Cert.Mlp2Ideal.main_arg6) = m ((c.tc : Thread Cert.Mlp2Ideal.nD Cert.Mlp2Ideal.τ).loc Cert.Mlp2Ideal.main_arg6))
      ∧ θ_run (Cert.MlpRef2Ideal.defs (F := Ideal)) (onTc (τ := Cert.MlpRef2Ideal.τ) (Cert.MlpRef2Ideal.main (F := Ideal))) ⟨m', fun _ => 0, g'⟩ (fun r => ∀ c : Dev Cert.MlpRef2Ideal.nD,
          r.2.mem ((c.tc : Thread Cert.MlpRef2Ideal.nD Cert.MlpRef2Ideal.τ).loc Cert.MlpRef2Ideal.main_v25) = v0 c
          ∧ r.2.mem ((c.tc : Thread Cert.MlpRef2Ideal.nD Cert.MlpRef2Ideal.τ).loc Cert.MlpRef2Ideal.main_v30) = v1 c
          ∧ r.2.mem ((c.tc : Thread Cert.MlpRef2Ideal.nD Cert.MlpRef2Ideal.τ).loc Cert.MlpRef2Ideal.main_v35) = v2 c
          ∧ r.2.mem ((c.tc : Thread Cert.MlpRef2Ideal.nD Cert.MlpRef2Ideal.τ).loc Cert.MlpRef2Ideal.main_arg0) = m' ((c.tc : Thread Cert.MlpRef2Ideal.nD Cert.MlpRef2Ideal.τ).loc Cert.MlpRef2Ideal.main_arg0)
          ∧ r.2.mem ((c.tc : Thread Cert.MlpRef2Ideal.nD Cert.MlpRef2Ideal.τ).loc Cert.MlpRef2Ideal.main_arg1) = m' ((c.tc : Thread Cert.MlpRef2Ideal.nD Cert.MlpRef2Ideal.τ).loc Cert.MlpRef2Ideal.main_arg1)
          ∧ r.2.mem ((c.tc : Thread Cert.MlpRef2Ideal.nD Cert.MlpRef2Ideal.τ).loc Cert.MlpRef2Ideal.main_arg2) = m' ((c.tc : Thread Cert.MlpRef2Ideal.nD Cert.MlpRef2Ideal.τ).loc Cert.MlpRef2Ideal.main_arg2)
          ∧ r.2.mem ((c.tc : Thread Cert.MlpRef2Ideal.nD Cert.MlpRef2Ideal.τ).loc Cert.MlpRef2Ideal.main_arg3) = m' ((c.tc : Thread Cert.MlpRef2Ideal.nD Cert.MlpRef2Ideal.τ).loc Cert.MlpRef2Ideal.main_arg3)
          ∧ r.2.mem ((c.tc : Thread Cert.MlpRef2Ideal.nD Cert.MlpRef2Ideal.τ).loc Cert.MlpRef2Ideal.main_arg4) = m' ((c.tc : Thread Cert.MlpRef2Ideal.nD Cert.MlpRef2Ideal.τ).loc Cert.MlpRef2Ideal.main_arg4)
          ∧ r.2.mem ((c.tc : Thread Cert.MlpRef2Ideal.nD Cert.MlpRef2Ideal.τ).loc Cert.MlpRef2Ideal.main_arg5) = m' ((c.tc : Thread Cert.MlpRef2Ideal.nD Cert.MlpRef2Ideal.τ).loc Cert.MlpRef2Ideal.main_arg5)
          ∧ r.2.mem ((c.tc : Thread Cert.MlpRef2Ideal.nD Cert.MlpRef2Ideal.τ).loc Cert.MlpRef2Ideal.main_arg6) = m' ((c.tc : Thread Cert.MlpRef2Ideal.nD Cert.MlpRef2Ideal.τ).loc Cert.MlpRef2Ideal.main_arg6))

def preserves_Mlp3_Mlp3Ideal : Prop :=
  True

def algebraic_Mlp3Ideal_MlpRef3Ideal [hMlp3Ideal : Cert.Mlp3Ideal.Facts] [hMlpRef3Ideal : Cert.MlpRef3Ideal.Facts] : Prop :=
  ∀ (m : (ℓ : Loc Cert.Mlp3Ideal.nD Cert.Mlp3Ideal.τ Cert.Mlp3Ideal.sig) → Buf (Elt Ideal) ℓ) (g : Dev Cert.Mlp3Ideal.nD → PrngReg)
    (m' : (ℓ : Loc Cert.MlpRef3Ideal.nD Cert.MlpRef3Ideal.τ Cert.MlpRef3Ideal.sig) → Buf (Elt Ideal) ℓ) (g' : Dev Cert.MlpRef3Ideal.nD → PrngReg), Pre_Mlp3Ideal m →
    (∀ c : Dev Cert.Mlp3Ideal.nD,
      m' ((c.tc : Thread Cert.MlpRef3Ideal.nD Cert.MlpRef3Ideal.τ).loc Cert.MlpRef3Ideal.main_arg0) = m ((c.tc : Thread Cert.Mlp3Ideal.nD Cert.Mlp3Ideal.τ).loc Cert.Mlp3Ideal.main_arg0)
      ∧ m' ((c.tc : Thread Cert.MlpRef3Ideal.nD Cert.MlpRef3Ideal.τ).loc Cert.MlpRef3Ideal.main_arg1) = m ((c.tc : Thread Cert.Mlp3Ideal.nD Cert.Mlp3Ideal.τ).loc Cert.Mlp3Ideal.main_arg1)
      ∧ m' ((c.tc : Thread Cert.MlpRef3Ideal.nD Cert.MlpRef3Ideal.τ).loc Cert.MlpRef3Ideal.main_arg2) = m ((c.tc : Thread Cert.Mlp3Ideal.nD Cert.Mlp3Ideal.τ).loc Cert.Mlp3Ideal.main_arg2)
      ∧ m' ((c.tc : Thread Cert.MlpRef3Ideal.nD Cert.MlpRef3Ideal.τ).loc Cert.MlpRef3Ideal.main_arg3) = m ((c.tc : Thread Cert.Mlp3Ideal.nD Cert.Mlp3Ideal.τ).loc Cert.Mlp3Ideal.main_arg3)
      ∧ m' ((c.tc : Thread Cert.MlpRef3Ideal.nD Cert.MlpRef3Ideal.τ).loc Cert.MlpRef3Ideal.main_arg4) = m ((c.tc : Thread Cert.Mlp3Ideal.nD Cert.Mlp3Ideal.τ).loc Cert.Mlp3Ideal.main_arg4)
      ∧ m' ((c.tc : Thread Cert.MlpRef3Ideal.nD Cert.MlpRef3Ideal.τ).loc Cert.MlpRef3Ideal.main_arg5) = m ((c.tc : Thread Cert.Mlp3Ideal.nD Cert.Mlp3Ideal.τ).loc Cert.Mlp3Ideal.main_arg5)
      ∧ m' ((c.tc : Thread Cert.MlpRef3Ideal.nD Cert.MlpRef3Ideal.τ).loc Cert.MlpRef3Ideal.main_arg6) = m ((c.tc : Thread Cert.Mlp3Ideal.nD Cert.Mlp3Ideal.τ).loc Cert.Mlp3Ideal.main_arg6)
      ∧ m' ((c.tc : Thread Cert.MlpRef3Ideal.nD Cert.MlpRef3Ideal.τ).loc Cert.MlpRef3Ideal.main_arg7) = m ((c.tc : Thread Cert.Mlp3Ideal.nD Cert.Mlp3Ideal.τ).loc Cert.Mlp3Ideal.main_arg7)) →
    ∃ (v0 : (c : Dev Cert.Mlp3Ideal.nD) → Buf (Elt Ideal) ((c.tc : Thread Cert.Mlp3Ideal.nD Cert.Mlp3Ideal.τ).loc Cert.Mlp3Ideal.main_v18_0)) (v1 : (c : Dev Cert.Mlp3Ideal.nD) → Buf (Elt Ideal) ((c.tc : Thread Cert.Mlp3Ideal.nD Cert.Mlp3Ideal.τ).loc Cert.Mlp3Ideal.main_v18_1)) (v2 : (c : Dev Cert.Mlp3Ideal.nD) → Buf (Elt Ideal) ((c.tc : Thread Cert.Mlp3Ideal.nD Cert.Mlp3Ideal.τ).loc Cert.Mlp3Ideal.main_v18_2)) (v3 : (c : Dev Cert.Mlp3Ideal.nD) → Buf (Elt Ideal) ((c.tc : Thread Cert.Mlp3Ideal.nD Cert.Mlp3Ideal.τ).loc Cert.Mlp3Ideal.main_v18_3)),
      θ_run (Cert.Mlp3Ideal.defs (F := Ideal)) (onTc (τ := Cert.Mlp3Ideal.τ) (Cert.Mlp3Ideal.main (F := Ideal))) ⟨m, fun _ => 0, g⟩ (fun r => ∀ c : Dev Cert.Mlp3Ideal.nD,
          r.2.mem ((c.tc : Thread Cert.Mlp3Ideal.nD Cert.Mlp3Ideal.τ).loc Cert.Mlp3Ideal.main_v18_0) = v0 c
          ∧ r.2.mem ((c.tc : Thread Cert.Mlp3Ideal.nD Cert.Mlp3Ideal.τ).loc Cert.Mlp3Ideal.main_v18_1) = v1 c
          ∧ r.2.mem ((c.tc : Thread Cert.Mlp3Ideal.nD Cert.Mlp3Ideal.τ).loc Cert.Mlp3Ideal.main_v18_2) = v2 c
          ∧ r.2.mem ((c.tc : Thread Cert.Mlp3Ideal.nD Cert.Mlp3Ideal.τ).loc Cert.Mlp3Ideal.main_v18_3) = v3 c
          ∧ r.2.mem ((c.tc : Thread Cert.Mlp3Ideal.nD Cert.Mlp3Ideal.τ).loc Cert.Mlp3Ideal.main_arg0) = m ((c.tc : Thread Cert.Mlp3Ideal.nD Cert.Mlp3Ideal.τ).loc Cert.Mlp3Ideal.main_arg0)
          ∧ r.2.mem ((c.tc : Thread Cert.Mlp3Ideal.nD Cert.Mlp3Ideal.τ).loc Cert.Mlp3Ideal.main_arg1) = m ((c.tc : Thread Cert.Mlp3Ideal.nD Cert.Mlp3Ideal.τ).loc Cert.Mlp3Ideal.main_arg1)
          ∧ r.2.mem ((c.tc : Thread Cert.Mlp3Ideal.nD Cert.Mlp3Ideal.τ).loc Cert.Mlp3Ideal.main_arg2) = m ((c.tc : Thread Cert.Mlp3Ideal.nD Cert.Mlp3Ideal.τ).loc Cert.Mlp3Ideal.main_arg2)
          ∧ r.2.mem ((c.tc : Thread Cert.Mlp3Ideal.nD Cert.Mlp3Ideal.τ).loc Cert.Mlp3Ideal.main_arg3) = m ((c.tc : Thread Cert.Mlp3Ideal.nD Cert.Mlp3Ideal.τ).loc Cert.Mlp3Ideal.main_arg3)
          ∧ r.2.mem ((c.tc : Thread Cert.Mlp3Ideal.nD Cert.Mlp3Ideal.τ).loc Cert.Mlp3Ideal.main_arg4) = m ((c.tc : Thread Cert.Mlp3Ideal.nD Cert.Mlp3Ideal.τ).loc Cert.Mlp3Ideal.main_arg4)
          ∧ r.2.mem ((c.tc : Thread Cert.Mlp3Ideal.nD Cert.Mlp3Ideal.τ).loc Cert.Mlp3Ideal.main_arg5) = m ((c.tc : Thread Cert.Mlp3Ideal.nD Cert.Mlp3Ideal.τ).loc Cert.Mlp3Ideal.main_arg5)
          ∧ r.2.mem ((c.tc : Thread Cert.Mlp3Ideal.nD Cert.Mlp3Ideal.τ).loc Cert.Mlp3Ideal.main_arg6) = m ((c.tc : Thread Cert.Mlp3Ideal.nD Cert.Mlp3Ideal.τ).loc Cert.Mlp3Ideal.main_arg6)
          ∧ r.2.mem ((c.tc : Thread Cert.Mlp3Ideal.nD Cert.Mlp3Ideal.τ).loc Cert.Mlp3Ideal.main_arg7) = m ((c.tc : Thread Cert.Mlp3Ideal.nD Cert.Mlp3Ideal.τ).loc Cert.Mlp3Ideal.main_arg7))
      ∧ θ_run (Cert.MlpRef3Ideal.defs (F := Ideal)) (onTc (τ := Cert.MlpRef3Ideal.τ) (Cert.MlpRef3Ideal.main (F := Ideal))) ⟨m', fun _ => 0, g'⟩ (fun r => ∀ c : Dev Cert.MlpRef3Ideal.nD,
          r.2.mem ((c.tc : Thread Cert.MlpRef3Ideal.nD Cert.MlpRef3Ideal.τ).loc Cert.MlpRef3Ideal.main_v68) = v0 c
          ∧ r.2.mem ((c.tc : Thread Cert.MlpRef3Ideal.nD Cert.MlpRef3Ideal.τ).loc Cert.MlpRef3Ideal.main_v73) = v1 c
          ∧ r.2.mem ((c.tc : Thread Cert.MlpRef3Ideal.nD Cert.MlpRef3Ideal.τ).loc Cert.MlpRef3Ideal.main_v78) = v2 c
          ∧ r.2.mem ((c.tc : Thread Cert.MlpRef3Ideal.nD Cert.MlpRef3Ideal.τ).loc Cert.MlpRef3Ideal.main_v52) = v3 c
          ∧ r.2.mem ((c.tc : Thread Cert.MlpRef3Ideal.nD Cert.MlpRef3Ideal.τ).loc Cert.MlpRef3Ideal.main_arg0) = m' ((c.tc : Thread Cert.MlpRef3Ideal.nD Cert.MlpRef3Ideal.τ).loc Cert.MlpRef3Ideal.main_arg0)
          ∧ r.2.mem ((c.tc : Thread Cert.MlpRef3Ideal.nD Cert.MlpRef3Ideal.τ).loc Cert.MlpRef3Ideal.main_arg1) = m' ((c.tc : Thread Cert.MlpRef3Ideal.nD Cert.MlpRef3Ideal.τ).loc Cert.MlpRef3Ideal.main_arg1)
          ∧ r.2.mem ((c.tc : Thread Cert.MlpRef3Ideal.nD Cert.MlpRef3Ideal.τ).loc Cert.MlpRef3Ideal.main_arg2) = m' ((c.tc : Thread Cert.MlpRef3Ideal.nD Cert.MlpRef3Ideal.τ).loc Cert.MlpRef3Ideal.main_arg2)
          ∧ r.2.mem ((c.tc : Thread Cert.MlpRef3Ideal.nD Cert.MlpRef3Ideal.τ).loc Cert.MlpRef3Ideal.main_arg3) = m' ((c.tc : Thread Cert.MlpRef3Ideal.nD Cert.MlpRef3Ideal.τ).loc Cert.MlpRef3Ideal.main_arg3)
          ∧ r.2.mem ((c.tc : Thread Cert.MlpRef3Ideal.nD Cert.MlpRef3Ideal.τ).loc Cert.MlpRef3Ideal.main_arg4) = m' ((c.tc : Thread Cert.MlpRef3Ideal.nD Cert.MlpRef3Ideal.τ).loc Cert.MlpRef3Ideal.main_arg4)
          ∧ r.2.mem ((c.tc : Thread Cert.MlpRef3Ideal.nD Cert.MlpRef3Ideal.τ).loc Cert.MlpRef3Ideal.main_arg5) = m' ((c.tc : Thread Cert.MlpRef3Ideal.nD Cert.MlpRef3Ideal.τ).loc Cert.MlpRef3Ideal.main_arg5)
          ∧ r.2.mem ((c.tc : Thread Cert.MlpRef3Ideal.nD Cert.MlpRef3Ideal.τ).loc Cert.MlpRef3Ideal.main_arg6) = m' ((c.tc : Thread Cert.MlpRef3Ideal.nD Cert.MlpRef3Ideal.τ).loc Cert.MlpRef3Ideal.main_arg6)
          ∧ r.2.mem ((c.tc : Thread Cert.MlpRef3Ideal.nD Cert.MlpRef3Ideal.τ).loc Cert.MlpRef3Ideal.main_arg7) = m' ((c.tc : Thread Cert.MlpRef3Ideal.nD Cert.MlpRef3Ideal.τ).loc Cert.MlpRef3Ideal.main_arg7))

def preserves_Fwd0_Fwd0Ideal : Prop :=
  True

def algebraic_Fwd0Ideal_FwdRef0Ideal [hFwd0Ideal : Cert.Fwd0Ideal.Facts] [hFwdRef0Ideal : Cert.FwdRef0Ideal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg)
    (m' : (ℓ : Loc Cert.FwdRef0Ideal.nD Cert.FwdRef0Ideal.τ Cert.FwdRef0Ideal.sig) → Buf (Elt Ideal) ℓ) (g' : Dev Cert.FwdRef0Ideal.nD → PrngReg), Pre_Fwd0Ideal m →
    (∀ c : Dev Cert.Fwd0Ideal.nD,
      m' ((c.tc : Thread Cert.FwdRef0Ideal.nD Cert.FwdRef0Ideal.τ).loc Cert.FwdRef0Ideal.main_arg0) = m ((c.tc : Thread Cert.Fwd0Ideal.nD Cert.Fwd0Ideal.τ).loc Cert.Fwd0Ideal.main_arg0)
      ∧ m' ((c.tc : Thread Cert.FwdRef0Ideal.nD Cert.FwdRef0Ideal.τ).loc Cert.FwdRef0Ideal.main_arg1) = m ((c.tc : Thread Cert.Fwd0Ideal.nD Cert.Fwd0Ideal.τ).loc Cert.Fwd0Ideal.main_arg1)
      ∧ m' ((c.tc : Thread Cert.FwdRef0Ideal.nD Cert.FwdRef0Ideal.τ).loc Cert.FwdRef0Ideal.main_arg2) = m ((c.tc : Thread Cert.Fwd0Ideal.nD Cert.Fwd0Ideal.τ).loc Cert.Fwd0Ideal.main_arg2)
      ∧ m' ((c.tc : Thread Cert.FwdRef0Ideal.nD Cert.FwdRef0Ideal.τ).loc Cert.FwdRef0Ideal.main_arg3) = m ((c.tc : Thread Cert.Fwd0Ideal.nD Cert.Fwd0Ideal.τ).loc Cert.Fwd0Ideal.main_arg3)
      ∧ m' ((c.tc : Thread Cert.FwdRef0Ideal.nD Cert.FwdRef0Ideal.τ).loc Cert.FwdRef0Ideal.main_arg4) = m ((c.tc : Thread Cert.Fwd0Ideal.nD Cert.Fwd0Ideal.τ).loc Cert.Fwd0Ideal.main_arg4)) →
    ∃ (v0 : (c : Dev Cert.Fwd0Ideal.nD) → Buf (Elt Ideal) ((c.tc : Thread Cert.Fwd0Ideal.nD Cert.Fwd0Ideal.τ).loc Cert.Fwd0Ideal.main_v1_0)) (v1 : (c : Dev Cert.Fwd0Ideal.nD) → Buf (Elt Ideal) ((c.tc : Thread Cert.Fwd0Ideal.nD Cert.Fwd0Ideal.τ).loc Cert.Fwd0Ideal.main_v1_1)) (v2 : (c : Dev Cert.Fwd0Ideal.nD) → Buf (Elt Ideal) ((c.tc : Thread Cert.Fwd0Ideal.nD Cert.Fwd0Ideal.τ).loc Cert.Fwd0Ideal.main_v1_2)) (v3 : (c : Dev Cert.Fwd0Ideal.nD) → Buf (Elt Ideal) ((c.tc : Thread Cert.Fwd0Ideal.nD Cert.Fwd0Ideal.τ).loc Cert.Fwd0Ideal.main_v1_3)),
      θ_run (Cert.Fwd0Ideal.defs (F := Ideal)) (onTc (τ := Cert.Fwd0Ideal.τ) (Cert.Fwd0Ideal.main (F := Ideal))) ⟨m, fun _ => 0, g⟩ (fun r => ∀ c : Dev Cert.Fwd0Ideal.nD,
          r.2.mem ((c.tc : Thread Cert.Fwd0Ideal.nD Cert.Fwd0Ideal.τ).loc Cert.Fwd0Ideal.main_v1_0) = v0 c
          ∧ r.2.mem ((c.tc : Thread Cert.Fwd0Ideal.nD Cert.Fwd0Ideal.τ).loc Cert.Fwd0Ideal.main_v1_1) = v1 c
          ∧ r.2.mem ((c.tc : Thread Cert.Fwd0Ideal.nD Cert.Fwd0Ideal.τ).loc Cert.Fwd0Ideal.main_v1_2) = v2 c
          ∧ r.2.mem ((c.tc : Thread Cert.Fwd0Ideal.nD Cert.Fwd0Ideal.τ).loc Cert.Fwd0Ideal.main_v1_3) = v3 c
          ∧ r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
          ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
          ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
          ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3)
          ∧ r.2.mem ((c.tc : Thread Cert.Fwd0Ideal.nD Cert.Fwd0Ideal.τ).loc Cert.Fwd0Ideal.main_arg4) = m ((c.tc : Thread Cert.Fwd0Ideal.nD Cert.Fwd0Ideal.τ).loc Cert.Fwd0Ideal.main_arg4))
      ∧ θ_run (Cert.FwdRef0Ideal.defs (F := Ideal)) (onTc (τ := Cert.FwdRef0Ideal.τ) (Cert.FwdRef0Ideal.main (F := Ideal))) ⟨m', fun _ => 0, g'⟩ (fun r => ∀ c : Dev Cert.FwdRef0Ideal.nD,
          r.2.mem ((c.tc : Thread Cert.FwdRef0Ideal.nD Cert.FwdRef0Ideal.τ).loc Cert.FwdRef0Ideal.main_v34) = v0 c
          ∧ r.2.mem ((c.tc : Thread Cert.FwdRef0Ideal.nD Cert.FwdRef0Ideal.τ).loc Cert.FwdRef0Ideal.main_v36) = v1 c
          ∧ r.2.mem ((c.tc : Thread Cert.FwdRef0Ideal.nD Cert.FwdRef0Ideal.τ).loc Cert.FwdRef0Ideal.main_v37) = v2 c
          ∧ r.2.mem ((c.tc : Thread Cert.FwdRef0Ideal.nD Cert.FwdRef0Ideal.τ).loc Cert.FwdRef0Ideal.main_v49) = v3 c
          ∧ r.2.mem ((c.tc : Thread Cert.FwdRef0Ideal.nD Cert.FwdRef0Ideal.τ).loc Cert.FwdRef0Ideal.main_arg0) = m' ((c.tc : Thread Cert.FwdRef0Ideal.nD Cert.FwdRef0Ideal.τ).loc Cert.FwdRef0Ideal.main_arg0)
          ∧ r.2.mem ((c.tc : Thread Cert.FwdRef0Ideal.nD Cert.FwdRef0Ideal.τ).loc Cert.FwdRef0Ideal.main_arg1) = m' ((c.tc : Thread Cert.FwdRef0Ideal.nD Cert.FwdRef0Ideal.τ).loc Cert.FwdRef0Ideal.main_arg1)
          ∧ r.2.mem ((c.tc : Thread Cert.FwdRef0Ideal.nD Cert.FwdRef0Ideal.τ).loc Cert.FwdRef0Ideal.main_arg2) = m' ((c.tc : Thread Cert.FwdRef0Ideal.nD Cert.FwdRef0Ideal.τ).loc Cert.FwdRef0Ideal.main_arg2)
          ∧ r.2.mem ((c.tc : Thread Cert.FwdRef0Ideal.nD Cert.FwdRef0Ideal.τ).loc Cert.FwdRef0Ideal.main_arg3) = m' ((c.tc : Thread Cert.FwdRef0Ideal.nD Cert.FwdRef0Ideal.τ).loc Cert.FwdRef0Ideal.main_arg3)
          ∧ r.2.mem ((c.tc : Thread Cert.FwdRef0Ideal.nD Cert.FwdRef0Ideal.τ).loc Cert.FwdRef0Ideal.main_arg4) = m' ((c.tc : Thread Cert.FwdRef0Ideal.nD Cert.FwdRef0Ideal.τ).loc Cert.FwdRef0Ideal.main_arg4))

def preserves_Qkv0_Qkv0Ideal : Prop :=
  True

def algebraic_Qkv0Ideal_QkvRef0Ideal [hQkv0Ideal : Cert.Qkv0Ideal.Facts] [hQkvRef0Ideal : Cert.QkvRef0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.QkvRef0Ideal.nD Cert.QkvRef0Ideal.τ Cert.QkvRef0Ideal.sig) → Buf (Elt Ideal) ℓ) (g' : Dev Cert.QkvRef0Ideal.nD → PrngReg), Pre_Qkv0Ideal m →
    (∀ c : Dev Cert.Qkv0Ideal.nD,
      m' ((c.tc : Thread Cert.QkvRef0Ideal.nD Cert.QkvRef0Ideal.τ).loc Cert.QkvRef0Ideal.main_arg0) = m ((c.tc : Thread Cert.Qkv0Ideal.nD Cert.Qkv0Ideal.τ).loc Cert.Qkv0Ideal.main_arg0)
      ∧ m' ((c.tc : Thread Cert.QkvRef0Ideal.nD Cert.QkvRef0Ideal.τ).loc Cert.QkvRef0Ideal.main_arg1) = m ((c.tc : Thread Cert.Qkv0Ideal.nD Cert.Qkv0Ideal.τ).loc Cert.Qkv0Ideal.main_arg1)
      ∧ m' ((c.tc : Thread Cert.QkvRef0Ideal.nD Cert.QkvRef0Ideal.τ).loc Cert.QkvRef0Ideal.main_arg2) = m ((c.tc : Thread Cert.Qkv0Ideal.nD Cert.Qkv0Ideal.τ).loc Cert.Qkv0Ideal.main_arg2)) →
    ∃ (v0 : (c : Dev Cert.Qkv0Ideal.nD) → Buf (Elt Ideal) ((c.tc : Thread Cert.Qkv0Ideal.nD Cert.Qkv0Ideal.τ).loc Cert.Qkv0Ideal.main_v0_0)) (v1 : (c : Dev Cert.Qkv0Ideal.nD) → Buf (Elt Ideal) ((c.tc : Thread Cert.Qkv0Ideal.nD Cert.Qkv0Ideal.τ).loc Cert.Qkv0Ideal.main_v0_1)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v0_0) = v0 c
          ∧ r.2.mem ((c.tc : Thread Cert.Qkv0Ideal.nD Cert.Qkv0Ideal.τ).loc Cert.Qkv0Ideal.main_v0_1) = v1 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
          ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2))
      ∧ θ_run (Cert.QkvRef0Ideal.defs (F := Ideal)) (onTc (τ := Cert.QkvRef0Ideal.τ) (Cert.QkvRef0Ideal.main (F := Ideal))) ⟨m', fun _ => 0, g'⟩ (fun r => ∀ c : Dev Cert.QkvRef0Ideal.nD,
          r.2.mem ((c.tc : Thread Cert.QkvRef0Ideal.nD Cert.QkvRef0Ideal.τ).loc Cert.QkvRef0Ideal.main_v17) = v0 c
          ∧ r.2.mem ((c.tc : Thread Cert.QkvRef0Ideal.nD Cert.QkvRef0Ideal.τ).loc Cert.QkvRef0Ideal.main_v18) = v1 c
          ∧ r.2.mem ((c.tc : Thread Cert.QkvRef0Ideal.nD Cert.QkvRef0Ideal.τ).loc Cert.QkvRef0Ideal.main_arg0) = m' ((c.tc : Thread Cert.QkvRef0Ideal.nD Cert.QkvRef0Ideal.τ).loc Cert.QkvRef0Ideal.main_arg0)
          ∧ r.2.mem ((c.tc : Thread Cert.QkvRef0Ideal.nD Cert.QkvRef0Ideal.τ).loc Cert.QkvRef0Ideal.main_arg1) = m' ((c.tc : Thread Cert.QkvRef0Ideal.nD Cert.QkvRef0Ideal.τ).loc Cert.QkvRef0Ideal.main_arg1)
          ∧ r.2.mem ((c.tc : Thread Cert.QkvRef0Ideal.nD Cert.QkvRef0Ideal.τ).loc Cert.QkvRef0Ideal.main_arg2) = m' ((c.tc : Thread Cert.QkvRef0Ideal.nD Cert.QkvRef0Ideal.τ).loc Cert.QkvRef0Ideal.main_arg2))

def preserves_Qkv1_Qkv1Ideal : Prop :=
  True

def algebraic_Qkv1Ideal_QkvRef1Ideal [hQkv1Ideal : Cert.Qkv1Ideal.Facts] [hQkvRef1Ideal : Cert.QkvRef1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.QkvRef1Ideal.nD Cert.QkvRef1Ideal.τ Cert.QkvRef1Ideal.sig) → Buf (Elt Ideal) ℓ) (g' : Dev Cert.QkvRef1Ideal.nD → PrngReg), Pre_Qkv1Ideal m →
    (∀ c : Dev Cert.Qkv1Ideal.nD,
      m' ((c.tc : Thread Cert.QkvRef1Ideal.nD Cert.QkvRef1Ideal.τ).loc Cert.QkvRef1Ideal.main_arg0) = m ((c.tc : Thread Cert.Qkv1Ideal.nD Cert.Qkv1Ideal.τ).loc Cert.Qkv1Ideal.main_arg0)
      ∧ m' ((c.tc : Thread Cert.QkvRef1Ideal.nD Cert.QkvRef1Ideal.τ).loc Cert.QkvRef1Ideal.main_arg1) = m ((c.tc : Thread Cert.Qkv1Ideal.nD Cert.Qkv1Ideal.τ).loc Cert.Qkv1Ideal.main_arg1)
      ∧ m' ((c.tc : Thread Cert.QkvRef1Ideal.nD Cert.QkvRef1Ideal.τ).loc Cert.QkvRef1Ideal.main_arg2) = m ((c.tc : Thread Cert.Qkv1Ideal.nD Cert.Qkv1Ideal.τ).loc Cert.Qkv1Ideal.main_arg2)
      ∧ m' ((c.tc : Thread Cert.QkvRef1Ideal.nD Cert.QkvRef1Ideal.τ).loc Cert.QkvRef1Ideal.main_arg3) = m ((c.tc : Thread Cert.Qkv1Ideal.nD Cert.Qkv1Ideal.τ).loc Cert.Qkv1Ideal.main_arg3)
      ∧ m' ((c.tc : Thread Cert.QkvRef1Ideal.nD Cert.QkvRef1Ideal.τ).loc Cert.QkvRef1Ideal.main_arg4) = m ((c.tc : Thread Cert.Qkv1Ideal.nD Cert.Qkv1Ideal.τ).loc Cert.Qkv1Ideal.main_arg4)) →
    ∃ (v0 : (c : Dev Cert.Qkv1Ideal.nD) → Buf (Elt Ideal) ((c.tc : Thread Cert.Qkv1Ideal.nD Cert.Qkv1Ideal.τ).loc Cert.Qkv1Ideal.main_v0_0)) (v1 : (c : Dev Cert.Qkv1Ideal.nD) → Buf (Elt Ideal) ((c.tc : Thread Cert.Qkv1Ideal.nD Cert.Qkv1Ideal.τ).loc Cert.Qkv1Ideal.main_v0_1)) (v2 : (c : Dev Cert.Qkv1Ideal.nD) → Buf (Elt Ideal) ((c.tc : Thread Cert.Qkv1Ideal.nD Cert.Qkv1Ideal.τ).loc Cert.Qkv1Ideal.main_v2)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0_0) = v0 c
          ∧ r.2.mem ((c.tc : Thread Cert.Qkv1Ideal.nD Cert.Qkv1Ideal.τ).loc Cert.Qkv1Ideal.main_v0_1) = v1 c
          ∧ r.2.mem ((c.tc : Thread Cert.Qkv1Ideal.nD Cert.Qkv1Ideal.τ).loc Cert.Qkv1Ideal.main_v2) = v2 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ θ_run (Cert.QkvRef1Ideal.defs (F := Ideal)) (onTc (τ := Cert.QkvRef1Ideal.τ) (Cert.QkvRef1Ideal.main (F := Ideal))) ⟨m', fun _ => 0, g'⟩ (fun r => ∀ c : Dev Cert.QkvRef1Ideal.nD,
          r.2.mem ((c.tc : Thread Cert.QkvRef1Ideal.nD Cert.QkvRef1Ideal.τ).loc Cert.QkvRef1Ideal.main_v48) = v0 c
          ∧ r.2.mem ((c.tc : Thread Cert.QkvRef1Ideal.nD Cert.QkvRef1Ideal.τ).loc Cert.QkvRef1Ideal.main_v32) = v1 c
          ∧ r.2.mem ((c.tc : Thread Cert.QkvRef1Ideal.nD Cert.QkvRef1Ideal.τ).loc Cert.QkvRef1Ideal.main_v50) = v2 c
          ∧ r.2.mem ((c.tc : Thread Cert.QkvRef1Ideal.nD Cert.QkvRef1Ideal.τ).loc Cert.QkvRef1Ideal.main_arg0) = m' ((c.tc : Thread Cert.QkvRef1Ideal.nD Cert.QkvRef1Ideal.τ).loc Cert.QkvRef1Ideal.main_arg0)
          ∧ r.2.mem ((c.tc : Thread Cert.QkvRef1Ideal.nD Cert.QkvRef1Ideal.τ).loc Cert.QkvRef1Ideal.main_arg1) = m' ((c.tc : Thread Cert.QkvRef1Ideal.nD Cert.QkvRef1Ideal.τ).loc Cert.QkvRef1Ideal.main_arg1)
          ∧ r.2.mem ((c.tc : Thread Cert.QkvRef1Ideal.nD Cert.QkvRef1Ideal.τ).loc Cert.QkvRef1Ideal.main_arg2) = m' ((c.tc : Thread Cert.QkvRef1Ideal.nD Cert.QkvRef1Ideal.τ).loc Cert.QkvRef1Ideal.main_arg2)
          ∧ r.2.mem ((c.tc : Thread Cert.QkvRef1Ideal.nD Cert.QkvRef1Ideal.τ).loc Cert.QkvRef1Ideal.main_arg3) = m' ((c.tc : Thread Cert.QkvRef1Ideal.nD Cert.QkvRef1Ideal.τ).loc Cert.QkvRef1Ideal.main_arg3)
          ∧ r.2.mem ((c.tc : Thread Cert.QkvRef1Ideal.nD Cert.QkvRef1Ideal.τ).loc Cert.QkvRef1Ideal.main_arg4) = m' ((c.tc : Thread Cert.QkvRef1Ideal.nD Cert.QkvRef1Ideal.τ).loc Cert.QkvRef1Ideal.main_arg4))

def preserves_Qkv2_Qkv2Ideal : Prop :=
  True

def algebraic_Qkv2Ideal_QkvRef2Ideal [hQkv2Ideal : Cert.Qkv2Ideal.Facts] [hQkvRef2Ideal : Cert.QkvRef2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.QkvRef2Ideal.nD Cert.QkvRef2Ideal.τ Cert.QkvRef2Ideal.sig) → Buf (Elt Ideal) ℓ) (g' : Dev Cert.QkvRef2Ideal.nD → PrngReg), Pre_Qkv2Ideal m →
    (∀ c : Dev Cert.Qkv2Ideal.nD,
      m' ((c.tc : Thread Cert.QkvRef2Ideal.nD Cert.QkvRef2Ideal.τ).loc Cert.QkvRef2Ideal.main_arg0) = m ((c.tc : Thread Cert.Qkv2Ideal.nD Cert.Qkv2Ideal.τ).loc Cert.Qkv2Ideal.main_arg0)
      ∧ m' ((c.tc : Thread Cert.QkvRef2Ideal.nD Cert.QkvRef2Ideal.τ).loc Cert.QkvRef2Ideal.main_arg1) = m ((c.tc : Thread Cert.Qkv2Ideal.nD Cert.Qkv2Ideal.τ).loc Cert.Qkv2Ideal.main_arg1)) →
    ∃ (v0 : (c : Dev Cert.Qkv2Ideal.nD) → Buf (Elt Ideal) ((c.tc : Thread Cert.Qkv2Ideal.nD Cert.Qkv2Ideal.τ).loc Cert.Qkv2Ideal.main_v0)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v0) = v0 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ θ_run (Cert.QkvRef2Ideal.defs (F := Ideal)) (onTc (τ := Cert.QkvRef2Ideal.τ) (Cert.QkvRef2Ideal.main (F := Ideal))) ⟨m', fun _ => 0, g'⟩ (fun r => ∀ c : Dev Cert.QkvRef2Ideal.nD,
          r.2.mem ((c.tc : Thread Cert.QkvRef2Ideal.nD Cert.QkvRef2Ideal.τ).loc Cert.QkvRef2Ideal.main_v13) = v0 c
          ∧ r.2.mem ((c.tc : Thread Cert.QkvRef2Ideal.nD Cert.QkvRef2Ideal.τ).loc Cert.QkvRef2Ideal.main_arg0) = m' ((c.tc : Thread Cert.QkvRef2Ideal.nD Cert.QkvRef2Ideal.τ).loc Cert.QkvRef2Ideal.main_arg0)
          ∧ r.2.mem ((c.tc : Thread Cert.QkvRef2Ideal.nD Cert.QkvRef2Ideal.τ).loc Cert.QkvRef2Ideal.main_arg1) = m' ((c.tc : Thread Cert.QkvRef2Ideal.nD Cert.QkvRef2Ideal.τ).loc Cert.QkvRef2Ideal.main_arg1))

def preserves_Out0_Out0Ideal : Prop :=
  True

def algebraic_Out0Ideal_OutRef0Ideal [hOut0Ideal : Cert.Out0Ideal.Facts] [hOutRef0Ideal : Cert.OutRef0Ideal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.OutRef0Ideal.nD Cert.OutRef0Ideal.τ Cert.OutRef0Ideal.sig) → Buf (Elt Ideal) ℓ) (g' : Dev Cert.OutRef0Ideal.nD → PrngReg), Pre_Out0Ideal m →
    (∀ c : Dev Cert.Out0Ideal.nD,
      m' ((c.tc : Thread Cert.OutRef0Ideal.nD Cert.OutRef0Ideal.τ).loc Cert.OutRef0Ideal.main_arg0) = m ((c.tc : Thread Cert.Out0Ideal.nD Cert.Out0Ideal.τ).loc Cert.Out0Ideal.main_arg0)
      ∧ m' ((c.tc : Thread Cert.OutRef0Ideal.nD Cert.OutRef0Ideal.τ).loc Cert.OutRef0Ideal.main_arg1) = m ((c.tc : Thread Cert.Out0Ideal.nD Cert.Out0Ideal.τ).loc Cert.Out0Ideal.main_arg1)
      ∧ m' ((c.tc : Thread Cert.OutRef0Ideal.nD Cert.OutRef0Ideal.τ).loc Cert.OutRef0Ideal.main_arg2) = m ((c.tc : Thread Cert.Out0Ideal.nD Cert.Out0Ideal.τ).loc Cert.Out0Ideal.main_arg2)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ θ_run (Cert.OutRef0Ideal.defs (F := Ideal)) (onTc (τ := Cert.OutRef0Ideal.τ) (Cert.OutRef0Ideal.main (F := Ideal))) ⟨m', fun _ => 0, g'⟩ (fun r => ∀ c : Dev Cert.OutRef0Ideal.nD,
          r.2.mem ((c.tc : Thread Cert.OutRef0Ideal.nD Cert.OutRef0Ideal.τ).loc Cert.OutRef0Ideal.main_v4) = v0 c
          ∧ r.2.mem ((c.tc : Thread Cert.OutRef0Ideal.nD Cert.OutRef0Ideal.τ).loc Cert.OutRef0Ideal.main_arg0) = m' ((c.tc : Thread Cert.OutRef0Ideal.nD Cert.OutRef0Ideal.τ).loc Cert.OutRef0Ideal.main_arg0)
          ∧ r.2.mem ((c.tc : Thread Cert.OutRef0Ideal.nD Cert.OutRef0Ideal.τ).loc Cert.OutRef0Ideal.main_arg1) = m' ((c.tc : Thread Cert.OutRef0Ideal.nD Cert.OutRef0Ideal.τ).loc Cert.OutRef0Ideal.main_arg1)
          ∧ r.2.mem ((c.tc : Thread Cert.OutRef0Ideal.nD Cert.OutRef0Ideal.τ).loc Cert.OutRef0Ideal.main_arg2) = m' ((c.tc : Thread Cert.OutRef0Ideal.nD Cert.OutRef0Ideal.τ).loc Cert.OutRef0Ideal.main_arg2))

def preserves_Out1_Out1Ideal : Prop :=
  True

def algebraic_Out1Ideal_OutRef1Ideal [hOut1Ideal : Cert.Out1Ideal.Facts] [hOutRef1Ideal : Cert.OutRef1Ideal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.OutRef1Ideal.nD Cert.OutRef1Ideal.τ Cert.OutRef1Ideal.sig) → Buf (Elt Ideal) ℓ) (g' : Dev Cert.OutRef1Ideal.nD → PrngReg), Pre_Out1Ideal m →
    (∀ c : Dev Cert.Out1Ideal.nD,
      m' ((c.tc : Thread Cert.OutRef1Ideal.nD Cert.OutRef1Ideal.τ).loc Cert.OutRef1Ideal.main_arg0) = m ((c.tc : Thread Cert.Out1Ideal.nD Cert.Out1Ideal.τ).loc Cert.Out1Ideal.main_arg0)
      ∧ m' ((c.tc : Thread Cert.OutRef1Ideal.nD Cert.OutRef1Ideal.τ).loc Cert.OutRef1Ideal.main_arg1) = m ((c.tc : Thread Cert.Out1Ideal.nD Cert.Out1Ideal.τ).loc Cert.Out1Ideal.main_arg1)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1))
      ∧ θ_run (Cert.OutRef1Ideal.defs (F := Ideal)) (onTc (τ := Cert.OutRef1Ideal.τ) (Cert.OutRef1Ideal.main (F := Ideal))) ⟨m', fun _ => 0, g'⟩ (fun r => ∀ c : Dev Cert.OutRef1Ideal.nD,
          r.2.mem ((c.tc : Thread Cert.OutRef1Ideal.nD Cert.OutRef1Ideal.τ).loc Cert.OutRef1Ideal.main_v5) = v0 c
          ∧ r.2.mem ((c.tc : Thread Cert.OutRef1Ideal.nD Cert.OutRef1Ideal.τ).loc Cert.OutRef1Ideal.main_arg0) = m' ((c.tc : Thread Cert.OutRef1Ideal.nD Cert.OutRef1Ideal.τ).loc Cert.OutRef1Ideal.main_arg0)
          ∧ r.2.mem ((c.tc : Thread Cert.OutRef1Ideal.nD Cert.OutRef1Ideal.τ).loc Cert.OutRef1Ideal.main_arg1) = m' ((c.tc : Thread Cert.OutRef1Ideal.nD Cert.OutRef1Ideal.τ).loc Cert.OutRef1Ideal.main_arg1))

def preserves_Out2_Out2Ideal : Prop :=
  True

def algebraic_Out2Ideal_OutRef2Ideal [hOut2Ideal : Cert.Out2Ideal.Facts] [hOutRef2Ideal : Cert.OutRef2Ideal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.OutRef2Ideal.nD Cert.OutRef2Ideal.τ Cert.OutRef2Ideal.sig) → Buf (Elt Ideal) ℓ) (g' : Dev Cert.OutRef2Ideal.nD → PrngReg), Pre_Out2Ideal m →
    (∀ c : Dev Cert.Out2Ideal.nD,
      m' ((c.tc : Thread Cert.OutRef2Ideal.nD Cert.OutRef2Ideal.τ).loc Cert.OutRef2Ideal.main_arg0) = m ((c.tc : Thread Cert.Out2Ideal.nD Cert.Out2Ideal.τ).loc Cert.Out2Ideal.main_arg0)
      ∧ m' ((c.tc : Thread Cert.OutRef2Ideal.nD Cert.OutRef2Ideal.τ).loc Cert.OutRef2Ideal.main_arg1) = m ((c.tc : Thread Cert.Out2Ideal.nD Cert.Out2Ideal.τ).loc Cert.Out2Ideal.main_arg1)) →
    ∃ (v0 : (c : Dev Cert.Out2Ideal.nD) → Buf (Elt Ideal) ((c.tc : Thread Cert.Out2Ideal.nD Cert.Out2Ideal.τ).loc Cert.Out2Ideal.main_v0)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v0) = v0 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1))
      ∧ θ_run (Cert.OutRef2Ideal.defs (F := Ideal)) (onTc (τ := Cert.OutRef2Ideal.τ) (Cert.OutRef2Ideal.main (F := Ideal))) ⟨m', fun _ => 0, g'⟩ (fun r => ∀ c : Dev Cert.OutRef2Ideal.nD,
          r.2.mem ((c.tc : Thread Cert.OutRef2Ideal.nD Cert.OutRef2Ideal.τ).loc Cert.OutRef2Ideal.main_v8) = v0 c
          ∧ r.2.mem ((c.tc : Thread Cert.OutRef2Ideal.nD Cert.OutRef2Ideal.τ).loc Cert.OutRef2Ideal.main_arg0) = m' ((c.tc : Thread Cert.OutRef2Ideal.nD Cert.OutRef2Ideal.τ).loc Cert.OutRef2Ideal.main_arg0)
          ∧ r.2.mem ((c.tc : Thread Cert.OutRef2Ideal.nD Cert.OutRef2Ideal.τ).loc Cert.OutRef2Ideal.main_arg1) = m' ((c.tc : Thread Cert.OutRef2Ideal.nD Cert.OutRef2Ideal.τ).loc Cert.OutRef2Ideal.main_arg1))

def preserves_Glu0_Glu0Ideal : Prop :=
  True

def algebraic_Glu0Ideal_GluRef0Ideal [hGlu0Ideal : Cert.Glu0Ideal.Facts] [hGluRef0Ideal : Cert.GluRef0Ideal.Facts] : Prop :=
  ∀ (m : (ℓ : Loc Cert.Glu0Ideal.nD Cert.Glu0Ideal.τ Cert.Glu0Ideal.sig) → Buf (Elt Ideal) ℓ) (g : Dev Cert.Glu0Ideal.nD → PrngReg)
    (m' : (ℓ : Loc Cert.GluRef0Ideal.nD Cert.GluRef0Ideal.τ Cert.GluRef0Ideal.sig) → Buf (Elt Ideal) ℓ) (g' : Dev Cert.GluRef0Ideal.nD → PrngReg), Pre_Glu0Ideal m →
    (∀ c : Dev Cert.Glu0Ideal.nD,
      m' ((c.tc : Thread Cert.GluRef0Ideal.nD Cert.GluRef0Ideal.τ).loc Cert.GluRef0Ideal.main_arg0) = m ((c.tc : Thread Cert.Glu0Ideal.nD Cert.Glu0Ideal.τ).loc Cert.Glu0Ideal.main_arg0)
      ∧ m' ((c.tc : Thread Cert.GluRef0Ideal.nD Cert.GluRef0Ideal.τ).loc Cert.GluRef0Ideal.main_arg1) = m ((c.tc : Thread Cert.Glu0Ideal.nD Cert.Glu0Ideal.τ).loc Cert.Glu0Ideal.main_arg1)) →
    ∃ (v0 : (c : Dev Cert.Glu0Ideal.nD) → Buf (Elt Ideal) ((c.tc : Thread Cert.Glu0Ideal.nD Cert.Glu0Ideal.τ).loc Cert.Glu0Ideal.main_v0)),
      θ_run (Cert.Glu0Ideal.defs (F := Ideal)) (onTc (τ := Cert.Glu0Ideal.τ) (Cert.Glu0Ideal.main (F := Ideal))) ⟨m, fun _ => 0, g⟩ (fun r => ∀ c : Dev Cert.Glu0Ideal.nD,
          r.2.mem ((c.tc : Thread Cert.Glu0Ideal.nD Cert.Glu0Ideal.τ).loc Cert.Glu0Ideal.main_v0) = v0 c
          ∧ r.2.mem ((c.tc : Thread Cert.Glu0Ideal.nD Cert.Glu0Ideal.τ).loc Cert.Glu0Ideal.main_arg0) = m ((c.tc : Thread Cert.Glu0Ideal.nD Cert.Glu0Ideal.τ).loc Cert.Glu0Ideal.main_arg0)
          ∧ r.2.mem ((c.tc : Thread Cert.Glu0Ideal.nD Cert.Glu0Ideal.τ).loc Cert.Glu0Ideal.main_arg1) = m ((c.tc : Thread Cert.Glu0Ideal.nD Cert.Glu0Ideal.τ).loc Cert.Glu0Ideal.main_arg1))
      ∧ θ_run (Cert.GluRef0Ideal.defs (F := Ideal)) (onTc (τ := Cert.GluRef0Ideal.τ) (Cert.GluRef0Ideal.main (F := Ideal))) ⟨m', fun _ => 0, g'⟩ (fun r => ∀ c : Dev Cert.GluRef0Ideal.nD,
          r.2.mem ((c.tc : Thread Cert.GluRef0Ideal.nD Cert.GluRef0Ideal.τ).loc Cert.GluRef0Ideal.main_v6) = v0 c
          ∧ r.2.mem ((c.tc : Thread Cert.GluRef0Ideal.nD Cert.GluRef0Ideal.τ).loc Cert.GluRef0Ideal.main_arg0) = m' ((c.tc : Thread Cert.GluRef0Ideal.nD Cert.GluRef0Ideal.τ).loc Cert.GluRef0Ideal.main_arg0)
          ∧ r.2.mem ((c.tc : Thread Cert.GluRef0Ideal.nD Cert.GluRef0Ideal.τ).loc Cert.GluRef0Ideal.main_arg1) = m' ((c.tc : Thread Cert.GluRef0Ideal.nD Cert.GluRef0Ideal.τ).loc Cert.GluRef0Ideal.main_arg1))

def preserves_Glu1_Glu1Ideal : Prop :=
  True

def algebraic_Glu1Ideal_GluRef1Ideal [hGlu1Ideal : Cert.Glu1Ideal.Facts] [hGluRef1Ideal : Cert.GluRef1Ideal.Facts] : Prop :=
  ∀ (m : (ℓ : Loc Cert.Glu1Ideal.nD Cert.Glu1Ideal.τ Cert.Glu1Ideal.sig) → Buf (Elt Ideal) ℓ) (g : Dev Cert.Glu1Ideal.nD → PrngReg)
    (m' : (ℓ : Loc Cert.GluRef1Ideal.nD Cert.GluRef1Ideal.τ Cert.GluRef1Ideal.sig) → Buf (Elt Ideal) ℓ) (g' : Dev Cert.GluRef1Ideal.nD → PrngReg), Pre_Glu1Ideal m →
    (∀ c : Dev Cert.Glu1Ideal.nD,
      m' ((c.tc : Thread Cert.GluRef1Ideal.nD Cert.GluRef1Ideal.τ).loc Cert.GluRef1Ideal.main_arg0) = m ((c.tc : Thread Cert.Glu1Ideal.nD Cert.Glu1Ideal.τ).loc Cert.Glu1Ideal.main_arg0)
      ∧ m' ((c.tc : Thread Cert.GluRef1Ideal.nD Cert.GluRef1Ideal.τ).loc Cert.GluRef1Ideal.main_arg1) = m ((c.tc : Thread Cert.Glu1Ideal.nD Cert.Glu1Ideal.τ).loc Cert.Glu1Ideal.main_arg1)
      ∧ m' ((c.tc : Thread Cert.GluRef1Ideal.nD Cert.GluRef1Ideal.τ).loc Cert.GluRef1Ideal.main_arg2) = m ((c.tc : Thread Cert.Glu1Ideal.nD Cert.Glu1Ideal.τ).loc Cert.Glu1Ideal.main_arg2)) →
    ∃ (v0 : (c : Dev Cert.Glu1Ideal.nD) → Buf (Elt Ideal) ((c.tc : Thread Cert.Glu1Ideal.nD Cert.Glu1Ideal.τ).loc Cert.Glu1Ideal.main_v0_0)) (v1 : (c : Dev Cert.Glu1Ideal.nD) → Buf (Elt Ideal) ((c.tc : Thread Cert.Glu1Ideal.nD Cert.Glu1Ideal.τ).loc Cert.Glu1Ideal.main_v0_1)),
      θ_run (Cert.Glu1Ideal.defs (F := Ideal)) (onTc (τ := Cert.Glu1Ideal.τ) (Cert.Glu1Ideal.main (F := Ideal))) ⟨m, fun _ => 0, g⟩ (fun r => ∀ c : Dev Cert.Glu1Ideal.nD,
          r.2.mem ((c.tc : Thread Cert.Glu1Ideal.nD Cert.Glu1Ideal.τ).loc Cert.Glu1Ideal.main_v0_0) = v0 c
          ∧ r.2.mem ((c.tc : Thread Cert.Glu1Ideal.nD Cert.Glu1Ideal.τ).loc Cert.Glu1Ideal.main_v0_1) = v1 c
          ∧ r.2.mem ((c.tc : Thread Cert.Glu1Ideal.nD Cert.Glu1Ideal.τ).loc Cert.Glu1Ideal.main_arg0) = m ((c.tc : Thread Cert.Glu1Ideal.nD Cert.Glu1Ideal.τ).loc Cert.Glu1Ideal.main_arg0)
          ∧ r.2.mem ((c.tc : Thread Cert.Glu1Ideal.nD Cert.Glu1Ideal.τ).loc Cert.Glu1Ideal.main_arg1) = m ((c.tc : Thread Cert.Glu1Ideal.nD Cert.Glu1Ideal.τ).loc Cert.Glu1Ideal.main_arg1)
          ∧ r.2.mem ((c.tc : Thread Cert.Glu1Ideal.nD Cert.Glu1Ideal.τ).loc Cert.Glu1Ideal.main_arg2) = m ((c.tc : Thread Cert.Glu1Ideal.nD Cert.Glu1Ideal.τ).loc Cert.Glu1Ideal.main_arg2))
      ∧ θ_run (Cert.GluRef1Ideal.defs (F := Ideal)) (onTc (τ := Cert.GluRef1Ideal.τ) (Cert.GluRef1Ideal.main (F := Ideal))) ⟨m', fun _ => 0, g'⟩ (fun r => ∀ c : Dev Cert.GluRef1Ideal.nD,
          r.2.mem ((c.tc : Thread Cert.GluRef1Ideal.nD Cert.GluRef1Ideal.τ).loc Cert.GluRef1Ideal.main_v24) = v0 c
          ∧ r.2.mem ((c.tc : Thread Cert.GluRef1Ideal.nD Cert.GluRef1Ideal.τ).loc Cert.GluRef1Ideal.main_v25) = v1 c
          ∧ r.2.mem ((c.tc : Thread Cert.GluRef1Ideal.nD Cert.GluRef1Ideal.τ).loc Cert.GluRef1Ideal.main_arg0) = m' ((c.tc : Thread Cert.GluRef1Ideal.nD Cert.GluRef1Ideal.τ).loc Cert.GluRef1Ideal.main_arg0)
          ∧ r.2.mem ((c.tc : Thread Cert.GluRef1Ideal.nD Cert.GluRef1Ideal.τ).loc Cert.GluRef1Ideal.main_arg1) = m' ((c.tc : Thread Cert.GluRef1Ideal.nD Cert.GluRef1Ideal.τ).loc Cert.GluRef1Ideal.main_arg1)
          ∧ r.2.mem ((c.tc : Thread Cert.GluRef1Ideal.nD Cert.GluRef1Ideal.τ).loc Cert.GluRef1Ideal.main_arg2) = m' ((c.tc : Thread Cert.GluRef1Ideal.nD Cert.GluRef1Ideal.τ).loc Cert.GluRef1Ideal.main_arg2))

def preserves_Glu2_Glu2Ideal : Prop :=
  True

def algebraic_Glu2Ideal_GluRef2Ideal [hGlu2Ideal : Cert.Glu2Ideal.Facts] [hGluRef2Ideal : Cert.GluRef2Ideal.Facts] : Prop :=
  ∀ (m : (ℓ : Loc Cert.Glu2Ideal.nD Cert.Glu2Ideal.τ Cert.Glu2Ideal.sig) → Buf (Elt Ideal) ℓ) (g : Dev Cert.Glu2Ideal.nD → PrngReg)
    (m' : (ℓ : Loc Cert.GluRef2Ideal.nD Cert.GluRef2Ideal.τ Cert.GluRef2Ideal.sig) → Buf (Elt Ideal) ℓ) (g' : Dev Cert.GluRef2Ideal.nD → PrngReg), Pre_Glu2Ideal m →
    (∀ c : Dev Cert.Glu2Ideal.nD,
      m' ((c.tc : Thread Cert.GluRef2Ideal.nD Cert.GluRef2Ideal.τ).loc Cert.GluRef2Ideal.main_arg0) = m ((c.tc : Thread Cert.Glu2Ideal.nD Cert.Glu2Ideal.τ).loc Cert.Glu2Ideal.main_arg0)
      ∧ m' ((c.tc : Thread Cert.GluRef2Ideal.nD Cert.GluRef2Ideal.τ).loc Cert.GluRef2Ideal.main_arg1) = m ((c.tc : Thread Cert.Glu2Ideal.nD Cert.Glu2Ideal.τ).loc Cert.Glu2Ideal.main_arg1)) →
    ∃ (v0 : (c : Dev Cert.Glu2Ideal.nD) → Buf (Elt Ideal) ((c.tc : Thread Cert.Glu2Ideal.nD Cert.Glu2Ideal.τ).loc Cert.Glu2Ideal.main_v0)),
      θ_run (Cert.Glu2Ideal.defs (F := Ideal)) (onTc (τ := Cert.Glu2Ideal.τ) (Cert.Glu2Ideal.main (F := Ideal))) ⟨m, fun _ => 0, g⟩ (fun r => ∀ c : Dev Cert.Glu2Ideal.nD,
          r.2.mem ((c.tc : Thread Cert.Glu2Ideal.nD Cert.Glu2Ideal.τ).loc Cert.Glu2Ideal.main_v0) = v0 c
          ∧ r.2.mem ((c.tc : Thread Cert.Glu2Ideal.nD Cert.Glu2Ideal.τ).loc Cert.Glu2Ideal.main_arg0) = m ((c.tc : Thread Cert.Glu2Ideal.nD Cert.Glu2Ideal.τ).loc Cert.Glu2Ideal.main_arg0)
          ∧ r.2.mem ((c.tc : Thread Cert.Glu2Ideal.nD Cert.Glu2Ideal.τ).loc Cert.Glu2Ideal.main_arg1) = m ((c.tc : Thread Cert.Glu2Ideal.nD Cert.Glu2Ideal.τ).loc Cert.Glu2Ideal.main_arg1))
      ∧ θ_run (Cert.GluRef2Ideal.defs (F := Ideal)) (onTc (τ := Cert.GluRef2Ideal.τ) (Cert.GluRef2Ideal.main (F := Ideal))) ⟨m', fun _ => 0, g'⟩ (fun r => ∀ c : Dev Cert.GluRef2Ideal.nD,
          r.2.mem ((c.tc : Thread Cert.GluRef2Ideal.nD Cert.GluRef2Ideal.τ).loc Cert.GluRef2Ideal.main_v13) = v0 c
          ∧ r.2.mem ((c.tc : Thread Cert.GluRef2Ideal.nD Cert.GluRef2Ideal.τ).loc Cert.GluRef2Ideal.main_arg0) = m' ((c.tc : Thread Cert.GluRef2Ideal.nD Cert.GluRef2Ideal.τ).loc Cert.GluRef2Ideal.main_arg0)
          ∧ r.2.mem ((c.tc : Thread Cert.GluRef2Ideal.nD Cert.GluRef2Ideal.τ).loc Cert.GluRef2Ideal.main_arg1) = m' ((c.tc : Thread Cert.GluRef2Ideal.nD Cert.GluRef2Ideal.τ).loc Cert.GluRef2Ideal.main_arg1))

def preserves_Norm0_Norm0Ideal : Prop :=
  True

def algebraic_Norm0Ideal_NormRef0Ideal [hNorm0Ideal : Cert.Norm0Ideal.Facts] [hNormRef0Ideal : Cert.NormRef0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.NormRef0Ideal.nD Cert.NormRef0Ideal.τ Cert.NormRef0Ideal.sig) → Buf (Elt Ideal) ℓ) (g' : Dev Cert.NormRef0Ideal.nD → PrngReg), Pre_Norm0Ideal m →
    (∀ c : Dev Cert.Norm0Ideal.nD,
      m' ((c.tc : Thread Cert.NormRef0Ideal.nD Cert.NormRef0Ideal.τ).loc Cert.NormRef0Ideal.main_arg0) = m ((c.tc : Thread Cert.Norm0Ideal.nD Cert.Norm0Ideal.τ).loc Cert.Norm0Ideal.main_arg0)
      ∧ m' ((c.tc : Thread Cert.NormRef0Ideal.nD Cert.NormRef0Ideal.τ).loc Cert.NormRef0Ideal.main_arg1) = m ((c.tc : Thread Cert.Norm0Ideal.nD Cert.Norm0Ideal.τ).loc Cert.Norm0Ideal.main_arg1)
      ∧ m' ((c.tc : Thread Cert.NormRef0Ideal.nD Cert.NormRef0Ideal.τ).loc Cert.NormRef0Ideal.main_arg2) = m ((c.tc : Thread Cert.Norm0Ideal.nD Cert.Norm0Ideal.τ).loc Cert.Norm0Ideal.main_arg2)
      ∧ m' ((c.tc : Thread Cert.NormRef0Ideal.nD Cert.NormRef0Ideal.τ).loc Cert.NormRef0Ideal.main_arg3) = m ((c.tc : Thread Cert.Norm0Ideal.nD Cert.Norm0Ideal.τ).loc Cert.Norm0Ideal.main_arg3)) →
    ∃ (v0 : (c : Dev Cert.Norm0Ideal.nD) → Buf (Elt Ideal) ((c.tc : Thread Cert.Norm0Ideal.nD Cert.Norm0Ideal.τ).loc Cert.Norm0Ideal.main_v0_0)) (v1 : (c : Dev Cert.Norm0Ideal.nD) → Buf (Elt Ideal) ((c.tc : Thread Cert.Norm0Ideal.nD Cert.Norm0Ideal.τ).loc Cert.Norm0Ideal.main_v0_1)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v0_0) = v0 c
          ∧ r.2.mem ((c.tc : Thread Cert.Norm0Ideal.nD Cert.Norm0Ideal.τ).loc Cert.Norm0Ideal.main_v0_1) = v1 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
          ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
          ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3))
      ∧ θ_run (Cert.NormRef0Ideal.defs (F := Ideal)) (onTc (τ := Cert.NormRef0Ideal.τ) (Cert.NormRef0Ideal.main (F := Ideal))) ⟨m', fun _ => 0, g'⟩ (fun r => ∀ c : Dev Cert.NormRef0Ideal.nD,
          r.2.mem ((c.tc : Thread Cert.NormRef0Ideal.nD Cert.NormRef0Ideal.τ).loc Cert.NormRef0Ideal.main_v41) = v0 c
          ∧ r.2.mem ((c.tc : Thread Cert.NormRef0Ideal.nD Cert.NormRef0Ideal.τ).loc Cert.NormRef0Ideal.main_v25) = v1 c
          ∧ r.2.mem ((c.tc : Thread Cert.NormRef0Ideal.nD Cert.NormRef0Ideal.τ).loc Cert.NormRef0Ideal.main_arg0) = m' ((c.tc : Thread Cert.NormRef0Ideal.nD Cert.NormRef0Ideal.τ).loc Cert.NormRef0Ideal.main_arg0)
          ∧ r.2.mem ((c.tc : Thread Cert.NormRef0Ideal.nD Cert.NormRef0Ideal.τ).loc Cert.NormRef0Ideal.main_arg1) = m' ((c.tc : Thread Cert.NormRef0Ideal.nD Cert.NormRef0Ideal.τ).loc Cert.NormRef0Ideal.main_arg1)
          ∧ r.2.mem ((c.tc : Thread Cert.NormRef0Ideal.nD Cert.NormRef0Ideal.τ).loc Cert.NormRef0Ideal.main_arg2) = m' ((c.tc : Thread Cert.NormRef0Ideal.nD Cert.NormRef0Ideal.τ).loc Cert.NormRef0Ideal.main_arg2)
          ∧ r.2.mem ((c.tc : Thread Cert.NormRef0Ideal.nD Cert.NormRef0Ideal.τ).loc Cert.NormRef0Ideal.main_arg3) = m' ((c.tc : Thread Cert.NormRef0Ideal.nD Cert.NormRef0Ideal.τ).loc Cert.NormRef0Ideal.main_arg3))

def preserves_Adam0_Adam0Ideal : Prop :=
  IdealRules.named_const.Statement Cert.Adam0Ideal.κ "c1" .f32 0x3FC48605#32 ((8388608 / 5463681 : ℝ) : EReal)
  ∧ IdealRules.named_const.Statement Cert.Adam0Ideal.κ "c2" .f32 0x42C8E6D3#32 ((268435456 / 2672307 : ℝ) : EReal)

def algebraic_Adam0Ideal_AdamRef0Ideal [hAdam0Ideal : Cert.Adam0Ideal.Facts] [hAdamRef0Ideal : Cert.AdamRef0Ideal.Facts] : Prop :=
  ∀ (m : (ℓ : Loc Cert.Adam0Ideal.nD Cert.Adam0Ideal.τ Cert.Adam0Ideal.sig) → Buf (Elt Ideal) ℓ) (g : Dev Cert.Adam0Ideal.nD → PrngReg)
    (m' : (ℓ : Loc Cert.AdamRef0Ideal.nD Cert.AdamRef0Ideal.τ Cert.AdamRef0Ideal.sig) → Buf (Elt Ideal) ℓ) (g' : Dev Cert.AdamRef0Ideal.nD → PrngReg), Pre_Adam0Ideal m →
    (∀ c : Dev Cert.Adam0Ideal.nD,
      m' ((c.tc : Thread Cert.AdamRef0Ideal.nD Cert.AdamRef0Ideal.τ).loc Cert.AdamRef0Ideal.main_arg0) = m ((c.tc : Thread Cert.Adam0Ideal.nD Cert.Adam0Ideal.τ).loc Cert.Adam0Ideal.main_arg0)
      ∧ m' ((c.tc : Thread Cert.AdamRef0Ideal.nD Cert.AdamRef0Ideal.τ).loc Cert.AdamRef0Ideal.main_arg1) = m ((c.tc : Thread Cert.Adam0Ideal.nD Cert.Adam0Ideal.τ).loc Cert.Adam0Ideal.main_arg1)
      ∧ m' ((c.tc : Thread Cert.AdamRef0Ideal.nD Cert.AdamRef0Ideal.τ).loc Cert.AdamRef0Ideal.main_arg2) = m ((c.tc : Thread Cert.Adam0Ideal.nD Cert.Adam0Ideal.τ).loc Cert.Adam0Ideal.main_arg2)
      ∧ m' ((c.tc : Thread Cert.AdamRef0Ideal.nD Cert.AdamRef0Ideal.τ).loc Cert.AdamRef0Ideal.main_arg3) = m ((c.tc : Thread Cert.Adam0Ideal.nD Cert.Adam0Ideal.τ).loc Cert.Adam0Ideal.main_arg3)
      ∧ m' ((c.tc : Thread Cert.AdamRef0Ideal.nD Cert.AdamRef0Ideal.τ).loc Cert.AdamRef0Ideal.main_arg4) = m ((c.tc : Thread Cert.Adam0Ideal.nD Cert.Adam0Ideal.τ).loc Cert.Adam0Ideal.main_arg4)) →
    ∃ (v0 : (c : Dev Cert.Adam0Ideal.nD) → Buf (Elt Ideal) ((c.tc : Thread Cert.Adam0Ideal.nD Cert.Adam0Ideal.τ).loc Cert.Adam0Ideal.main_v0_0)) (v1 : (c : Dev Cert.Adam0Ideal.nD) → Buf (Elt Ideal) ((c.tc : Thread Cert.Adam0Ideal.nD Cert.Adam0Ideal.τ).loc Cert.Adam0Ideal.main_v0_1)) (v2 : (c : Dev Cert.Adam0Ideal.nD) → Buf (Elt Ideal) ((c.tc : Thread Cert.Adam0Ideal.nD Cert.Adam0Ideal.τ).loc Cert.Adam0Ideal.main_v0_2)) (v3 : (c : Dev Cert.Adam0Ideal.nD) → Buf (Elt Ideal) ((c.tc : Thread Cert.Adam0Ideal.nD Cert.Adam0Ideal.τ).loc Cert.Adam0Ideal.main_v0_3)),
      θ_run (Cert.Adam0Ideal.defs (F := Ideal)) (onTc (τ := Cert.Adam0Ideal.τ) (Cert.Adam0Ideal.main (F := Ideal))) ⟨m, fun _ => 0, g⟩ (fun r => ∀ c : Dev Cert.Adam0Ideal.nD,
          r.2.mem ((c.tc : Thread Cert.Adam0Ideal.nD Cert.Adam0Ideal.τ).loc Cert.Adam0Ideal.main_v0_0) = v0 c
          ∧ r.2.mem ((c.tc : Thread Cert.Adam0Ideal.nD Cert.Adam0Ideal.τ).loc Cert.Adam0Ideal.main_v0_1) = v1 c
          ∧ r.2.mem ((c.tc : Thread Cert.Adam0Ideal.nD Cert.Adam0Ideal.τ).loc Cert.Adam0Ideal.main_v0_2) = v2 c
          ∧ r.2.mem ((c.tc : Thread Cert.Adam0Ideal.nD Cert.Adam0Ideal.τ).loc Cert.Adam0Ideal.main_v0_3) = v3 c
          ∧ r.2.mem ((c.tc : Thread Cert.Adam0Ideal.nD Cert.Adam0Ideal.τ).loc Cert.Adam0Ideal.main_arg0) = m ((c.tc : Thread Cert.Adam0Ideal.nD Cert.Adam0Ideal.τ).loc Cert.Adam0Ideal.main_arg0)
          ∧ r.2.mem ((c.tc : Thread Cert.Adam0Ideal.nD Cert.Adam0Ideal.τ).loc Cert.Adam0Ideal.main_arg1) = m ((c.tc : Thread Cert.Adam0Ideal.nD Cert.Adam0Ideal.τ).loc Cert.Adam0Ideal.main_arg1)
          ∧ r.2.mem ((c.tc : Thread Cert.Adam0Ideal.nD Cert.Adam0Ideal.τ).loc Cert.Adam0Ideal.main_arg2) = m ((c.tc : Thread Cert.Adam0Ideal.nD Cert.Adam0Ideal.τ).loc Cert.Adam0Ideal.main_arg2)
          ∧ r.2.mem ((c.tc : Thread Cert.Adam0Ideal.nD Cert.Adam0Ideal.τ).loc Cert.Adam0Ideal.main_arg3) = m ((c.tc : Thread Cert.Adam0Ideal.nD Cert.Adam0Ideal.τ).loc Cert.Adam0Ideal.main_arg3)
          ∧ r.2.mem ((c.tc : Thread Cert.Adam0Ideal.nD Cert.Adam0Ideal.τ).loc Cert.Adam0Ideal.main_arg4) = m ((c.tc : Thread Cert.Adam0Ideal.nD Cert.Adam0Ideal.τ).loc Cert.Adam0Ideal.main_arg4))
      ∧ θ_run (Cert.AdamRef0Ideal.defs (F := Ideal)) (onTc (τ := Cert.AdamRef0Ideal.τ) (Cert.AdamRef0Ideal.main (F := Ideal))) ⟨m', fun _ => 0, g'⟩ (fun r => ∀ c : Dev Cert.AdamRef0Ideal.nD,
          r.2.mem ((c.tc : Thread Cert.AdamRef0Ideal.nD Cert.AdamRef0Ideal.τ).loc Cert.AdamRef0Ideal.main_v4) = v0 c
          ∧ r.2.mem ((c.tc : Thread Cert.AdamRef0Ideal.nD Cert.AdamRef0Ideal.τ).loc Cert.AdamRef0Ideal.main_v28) = v1 c
          ∧ r.2.mem ((c.tc : Thread Cert.AdamRef0Ideal.nD Cert.AdamRef0Ideal.τ).loc Cert.AdamRef0Ideal.main_v9) = v2 c
          ∧ r.2.mem ((c.tc : Thread Cert.AdamRef0Ideal.nD Cert.AdamRef0Ideal.τ).loc Cert.AdamRef0Ideal.main_v15) = v3 c
          ∧ r.2.mem ((c.tc : Thread Cert.AdamRef0Ideal.nD Cert.AdamRef0Ideal.τ).loc Cert.AdamRef0Ideal.main_arg0) = m' ((c.tc : Thread Cert.AdamRef0Ideal.nD Cert.AdamRef0Ideal.τ).loc Cert.AdamRef0Ideal.main_arg0)
          ∧ r.2.mem ((c.tc : Thread Cert.AdamRef0Ideal.nD Cert.AdamRef0Ideal.τ).loc Cert.AdamRef0Ideal.main_arg1) = m' ((c.tc : Thread Cert.AdamRef0Ideal.nD Cert.AdamRef0Ideal.τ).loc Cert.AdamRef0Ideal.main_arg1)
          ∧ r.2.mem ((c.tc : Thread Cert.AdamRef0Ideal.nD Cert.AdamRef0Ideal.τ).loc Cert.AdamRef0Ideal.main_arg2) = m' ((c.tc : Thread Cert.AdamRef0Ideal.nD Cert.AdamRef0Ideal.τ).loc Cert.AdamRef0Ideal.main_arg2)
          ∧ r.2.mem ((c.tc : Thread Cert.AdamRef0Ideal.nD Cert.AdamRef0Ideal.τ).loc Cert.AdamRef0Ideal.main_arg3) = m' ((c.tc : Thread Cert.AdamRef0Ideal.nD Cert.AdamRef0Ideal.τ).loc Cert.AdamRef0Ideal.main_arg3)
          ∧ r.2.mem ((c.tc : Thread Cert.AdamRef0Ideal.nD Cert.AdamRef0Ideal.τ).loc Cert.AdamRef0Ideal.main_arg4) = m' ((c.tc : Thread Cert.AdamRef0Ideal.nD Cert.AdamRef0Ideal.τ).loc Cert.AdamRef0Ideal.main_arg4))

def preserves_Adam1_Adam1Ideal : Prop :=
  IdealRules.named_const.Statement Cert.Adam1Ideal.κ "c1" .f32 0x3FC48605#32 ((8388608 / 5463681 : ℝ) : EReal)
  ∧ IdealRules.named_const.Statement Cert.Adam1Ideal.κ "c2" .f32 0x42C8E6D3#32 ((268435456 / 2672307 : ℝ) : EReal)

def algebraic_Adam1Ideal_AdamRef1Ideal [hAdam1Ideal : Cert.Adam1Ideal.Facts] [hAdamRef1Ideal : Cert.AdamRef1Ideal.Facts] : Prop :=
  ∀ (m : (ℓ : Loc Cert.Adam1Ideal.nD Cert.Adam1Ideal.τ Cert.Adam1Ideal.sig) → Buf (Elt Ideal) ℓ) (g : Dev Cert.Adam1Ideal.nD → PrngReg)
    (m' : (ℓ : Loc Cert.AdamRef1Ideal.nD Cert.AdamRef1Ideal.τ Cert.AdamRef1Ideal.sig) → Buf (Elt Ideal) ℓ) (g' : Dev Cert.AdamRef1Ideal.nD → PrngReg), Pre_Adam1Ideal m →
    (∀ c : Dev Cert.Adam1Ideal.nD,
      m' ((c.tc : Thread Cert.AdamRef1Ideal.nD Cert.AdamRef1Ideal.τ).loc Cert.AdamRef1Ideal.main_arg0) = m ((c.tc : Thread Cert.Adam1Ideal.nD Cert.Adam1Ideal.τ).loc Cert.Adam1Ideal.main_arg0)
      ∧ m' ((c.tc : Thread Cert.AdamRef1Ideal.nD Cert.AdamRef1Ideal.τ).loc Cert.AdamRef1Ideal.main_arg1) = m ((c.tc : Thread Cert.Adam1Ideal.nD Cert.Adam1Ideal.τ).loc Cert.Adam1Ideal.main_arg1)
      ∧ m' ((c.tc : Thread Cert.AdamRef1Ideal.nD Cert.AdamRef1Ideal.τ).loc Cert.AdamRef1Ideal.main_arg2) = m ((c.tc : Thread Cert.Adam1Ideal.nD Cert.Adam1Ideal.τ).loc Cert.Adam1Ideal.main_arg2)
      ∧ m' ((c.tc : Thread Cert.AdamRef1Ideal.nD Cert.AdamRef1Ideal.τ).loc Cert.AdamRef1Ideal.main_arg3) = m ((c.tc : Thread Cert.Adam1Ideal.nD Cert.Adam1Ideal.τ).loc Cert.Adam1Ideal.main_arg3)) →
    ∃ (v0 : (c : Dev Cert.Adam1Ideal.nD) → Buf (Elt Ideal) ((c.tc : Thread Cert.Adam1Ideal.nD Cert.Adam1Ideal.τ).loc Cert.Adam1Ideal.main_v0_0)) (v1 : (c : Dev Cert.Adam1Ideal.nD) → Buf (Elt Ideal) ((c.tc : Thread Cert.Adam1Ideal.nD Cert.Adam1Ideal.τ).loc Cert.Adam1Ideal.main_v0_1)) (v2 : (c : Dev Cert.Adam1Ideal.nD) → Buf (Elt Ideal) ((c.tc : Thread Cert.Adam1Ideal.nD Cert.Adam1Ideal.τ).loc Cert.Adam1Ideal.main_v0_2)) (v3 : (c : Dev Cert.Adam1Ideal.nD) → Buf (Elt Ideal) ((c.tc : Thread Cert.Adam1Ideal.nD Cert.Adam1Ideal.τ).loc Cert.Adam1Ideal.main_v0_3)),
      θ_run (Cert.Adam1Ideal.defs (F := Ideal)) (onTc (τ := Cert.Adam1Ideal.τ) (Cert.Adam1Ideal.main (F := Ideal))) ⟨m, fun _ => 0, g⟩ (fun r => ∀ c : Dev Cert.Adam1Ideal.nD,
          r.2.mem ((c.tc : Thread Cert.Adam1Ideal.nD Cert.Adam1Ideal.τ).loc Cert.Adam1Ideal.main_v0_0) = v0 c
          ∧ r.2.mem ((c.tc : Thread Cert.Adam1Ideal.nD Cert.Adam1Ideal.τ).loc Cert.Adam1Ideal.main_v0_1) = v1 c
          ∧ r.2.mem ((c.tc : Thread Cert.Adam1Ideal.nD Cert.Adam1Ideal.τ).loc Cert.Adam1Ideal.main_v0_2) = v2 c
          ∧ r.2.mem ((c.tc : Thread Cert.Adam1Ideal.nD Cert.Adam1Ideal.τ).loc Cert.Adam1Ideal.main_v0_3) = v3 c
          ∧ r.2.mem ((c.tc : Thread Cert.Adam1Ideal.nD Cert.Adam1Ideal.τ).loc Cert.Adam1Ideal.main_arg0) = m ((c.tc : Thread Cert.Adam1Ideal.nD Cert.Adam1Ideal.τ).loc Cert.Adam1Ideal.main_arg0)
          ∧ r.2.mem ((c.tc : Thread Cert.Adam1Ideal.nD Cert.Adam1Ideal.τ).loc Cert.Adam1Ideal.main_arg1) = m ((c.tc : Thread Cert.Adam1Ideal.nD Cert.Adam1Ideal.τ).loc Cert.Adam1Ideal.main_arg1)
          ∧ r.2.mem ((c.tc : Thread Cert.Adam1Ideal.nD Cert.Adam1Ideal.τ).loc Cert.Adam1Ideal.main_arg2) = m ((c.tc : Thread Cert.Adam1Ideal.nD Cert.Adam1Ideal.τ).loc Cert.Adam1Ideal.main_arg2)
          ∧ r.2.mem ((c.tc : Thread Cert.Adam1Ideal.nD Cert.Adam1Ideal.τ).loc Cert.Adam1Ideal.main_arg3) = m ((c.tc : Thread Cert.Adam1Ideal.nD Cert.Adam1Ideal.τ).loc Cert.Adam1Ideal.main_arg3))
      ∧ θ_run (Cert.AdamRef1Ideal.defs (F := Ideal)) (onTc (τ := Cert.AdamRef1Ideal.τ) (Cert.AdamRef1Ideal.main (F := Ideal))) ⟨m', fun _ => 0, g'⟩ (fun r => ∀ c : Dev Cert.AdamRef1Ideal.nD,
          r.2.mem ((c.tc : Thread Cert.AdamRef1Ideal.nD Cert.AdamRef1Ideal.τ).loc Cert.AdamRef1Ideal.main_v1) = v0 c
          ∧ r.2.mem ((c.tc : Thread Cert.AdamRef1Ideal.nD Cert.AdamRef1Ideal.τ).loc Cert.AdamRef1Ideal.main_v25) = v1 c
          ∧ r.2.mem ((c.tc : Thread Cert.AdamRef1Ideal.nD Cert.AdamRef1Ideal.τ).loc Cert.AdamRef1Ideal.main_v6) = v2 c
          ∧ r.2.mem ((c.tc : Thread Cert.AdamRef1Ideal.nD Cert.AdamRef1Ideal.τ).loc Cert.AdamRef1Ideal.main_v12) = v3 c
          ∧ r.2.mem ((c.tc : Thread Cert.AdamRef1Ideal.nD Cert.AdamRef1Ideal.τ).loc Cert.AdamRef1Ideal.main_arg0) = m' ((c.tc : Thread Cert.AdamRef1Ideal.nD Cert.AdamRef1Ideal.τ).loc Cert.AdamRef1Ideal.main_arg0)
          ∧ r.2.mem ((c.tc : Thread Cert.AdamRef1Ideal.nD Cert.AdamRef1Ideal.τ).loc Cert.AdamRef1Ideal.main_arg1) = m' ((c.tc : Thread Cert.AdamRef1Ideal.nD Cert.AdamRef1Ideal.τ).loc Cert.AdamRef1Ideal.main_arg1)
          ∧ r.2.mem ((c.tc : Thread Cert.AdamRef1Ideal.nD Cert.AdamRef1Ideal.τ).loc Cert.AdamRef1Ideal.main_arg2) = m' ((c.tc : Thread Cert.AdamRef1Ideal.nD Cert.AdamRef1Ideal.τ).loc Cert.AdamRef1Ideal.main_arg2)
          ∧ r.2.mem ((c.tc : Thread Cert.AdamRef1Ideal.nD Cert.AdamRef1Ideal.τ).loc Cert.AdamRef1Ideal.main_arg3) = m' ((c.tc : Thread Cert.AdamRef1Ideal.nD Cert.AdamRef1Ideal.τ).loc Cert.AdamRef1Ideal.main_arg3))

def preserves_Adam2_Adam2Ideal : Prop :=
  IdealRules.named_const.Statement Cert.Adam2Ideal.κ "c1" .f32 0x3FC48605#32 ((8388608 / 5463681 : ℝ) : EReal)
  ∧ IdealRules.named_const.Statement Cert.Adam2Ideal.κ "c2" .f32 0x42C8E6D3#32 ((268435456 / 2672307 : ℝ) : EReal)

def algebraic_Adam2Ideal_AdamRef2Ideal [hAdam2Ideal : Cert.Adam2Ideal.Facts] [hAdamRef2Ideal : Cert.AdamRef2Ideal.Facts] : Prop :=
  ∀ (m : (ℓ : Loc Cert.Adam2Ideal.nD Cert.Adam2Ideal.τ Cert.Adam2Ideal.sig) → Buf (Elt Ideal) ℓ) (g : Dev Cert.Adam2Ideal.nD → PrngReg)
    (m' : (ℓ : Loc Cert.AdamRef2Ideal.nD Cert.AdamRef2Ideal.τ Cert.AdamRef2Ideal.sig) → Buf (Elt Ideal) ℓ) (g' : Dev Cert.AdamRef2Ideal.nD → PrngReg), Pre_Adam2Ideal m →
    (∀ c : Dev Cert.Adam2Ideal.nD,
      m' ((c.tc : Thread Cert.AdamRef2Ideal.nD Cert.AdamRef2Ideal.τ).loc Cert.AdamRef2Ideal.main_arg0) = m ((c.tc : Thread Cert.Adam2Ideal.nD Cert.Adam2Ideal.τ).loc Cert.Adam2Ideal.main_arg0)
      ∧ m' ((c.tc : Thread Cert.AdamRef2Ideal.nD Cert.AdamRef2Ideal.τ).loc Cert.AdamRef2Ideal.main_arg1) = m ((c.tc : Thread Cert.Adam2Ideal.nD Cert.Adam2Ideal.τ).loc Cert.Adam2Ideal.main_arg1)
      ∧ m' ((c.tc : Thread Cert.AdamRef2Ideal.nD Cert.AdamRef2Ideal.τ).loc Cert.AdamRef2Ideal.main_arg2) = m ((c.tc : Thread Cert.Adam2Ideal.nD Cert.Adam2Ideal.τ).loc Cert.Adam2Ideal.main_arg2)
      ∧ m' ((c.tc : Thread Cert.AdamRef2Ideal.nD Cert.AdamRef2Ideal.τ).loc Cert.AdamRef2Ideal.main_arg3) = m ((c.tc : Thread Cert.Adam2Ideal.nD Cert.Adam2Ideal.τ).loc Cert.Adam2Ideal.main_arg3)) →
    ∃ (v0 : (c : Dev Cert.Adam2Ideal.nD) → Buf (Elt Ideal) ((c.tc : Thread Cert.Adam2Ideal.nD Cert.Adam2Ideal.τ).loc Cert.Adam2Ideal.main_v0_0)) (v1 : (c : Dev Cert.Adam2Ideal.nD) → Buf (Elt Ideal) ((c.tc : Thread Cert.Adam2Ideal.nD Cert.Adam2Ideal.τ).loc Cert.Adam2Ideal.main_v0_1)) (v2 : (c : Dev Cert.Adam2Ideal.nD) → Buf (Elt Ideal) ((c.tc : Thread Cert.Adam2Ideal.nD Cert.Adam2Ideal.τ).loc Cert.Adam2Ideal.main_v0_2)) (v3 : (c : Dev Cert.Adam2Ideal.nD) → Buf (Elt Ideal) ((c.tc : Thread Cert.Adam2Ideal.nD Cert.Adam2Ideal.τ).loc Cert.Adam2Ideal.main_v0_3)),
      θ_run (Cert.Adam2Ideal.defs (F := Ideal)) (onTc (τ := Cert.Adam2Ideal.τ) (Cert.Adam2Ideal.main (F := Ideal))) ⟨m, fun _ => 0, g⟩ (fun r => ∀ c : Dev Cert.Adam2Ideal.nD,
          r.2.mem ((c.tc : Thread Cert.Adam2Ideal.nD Cert.Adam2Ideal.τ).loc Cert.Adam2Ideal.main_v0_0) = v0 c
          ∧ r.2.mem ((c.tc : Thread Cert.Adam2Ideal.nD Cert.Adam2Ideal.τ).loc Cert.Adam2Ideal.main_v0_1) = v1 c
          ∧ r.2.mem ((c.tc : Thread Cert.Adam2Ideal.nD Cert.Adam2Ideal.τ).loc Cert.Adam2Ideal.main_v0_2) = v2 c
          ∧ r.2.mem ((c.tc : Thread Cert.Adam2Ideal.nD Cert.Adam2Ideal.τ).loc Cert.Adam2Ideal.main_v0_3) = v3 c
          ∧ r.2.mem ((c.tc : Thread Cert.Adam2Ideal.nD Cert.Adam2Ideal.τ).loc Cert.Adam2Ideal.main_arg0) = m ((c.tc : Thread Cert.Adam2Ideal.nD Cert.Adam2Ideal.τ).loc Cert.Adam2Ideal.main_arg0)
          ∧ r.2.mem ((c.tc : Thread Cert.Adam2Ideal.nD Cert.Adam2Ideal.τ).loc Cert.Adam2Ideal.main_arg1) = m ((c.tc : Thread Cert.Adam2Ideal.nD Cert.Adam2Ideal.τ).loc Cert.Adam2Ideal.main_arg1)
          ∧ r.2.mem ((c.tc : Thread Cert.Adam2Ideal.nD Cert.Adam2Ideal.τ).loc Cert.Adam2Ideal.main_arg2) = m ((c.tc : Thread Cert.Adam2Ideal.nD Cert.Adam2Ideal.τ).loc Cert.Adam2Ideal.main_arg2)
          ∧ r.2.mem ((c.tc : Thread Cert.Adam2Ideal.nD Cert.Adam2Ideal.τ).loc Cert.Adam2Ideal.main_arg3) = m ((c.tc : Thread Cert.Adam2Ideal.nD Cert.Adam2Ideal.τ).loc Cert.Adam2Ideal.main_arg3))
      ∧ θ_run (Cert.AdamRef2Ideal.defs (F := Ideal)) (onTc (τ := Cert.AdamRef2Ideal.τ) (Cert.AdamRef2Ideal.main (F := Ideal))) ⟨m', fun _ => 0, g'⟩ (fun r => ∀ c : Dev Cert.AdamRef2Ideal.nD,
          r.2.mem ((c.tc : Thread Cert.AdamRef2Ideal.nD Cert.AdamRef2Ideal.τ).loc Cert.AdamRef2Ideal.main_v1) = v0 c
          ∧ r.2.mem ((c.tc : Thread Cert.AdamRef2Ideal.nD Cert.AdamRef2Ideal.τ).loc Cert.AdamRef2Ideal.main_v25) = v1 c
          ∧ r.2.mem ((c.tc : Thread Cert.AdamRef2Ideal.nD Cert.AdamRef2Ideal.τ).loc Cert.AdamRef2Ideal.main_v6) = v2 c
          ∧ r.2.mem ((c.tc : Thread Cert.AdamRef2Ideal.nD Cert.AdamRef2Ideal.τ).loc Cert.AdamRef2Ideal.main_v12) = v3 c
          ∧ r.2.mem ((c.tc : Thread Cert.AdamRef2Ideal.nD Cert.AdamRef2Ideal.τ).loc Cert.AdamRef2Ideal.main_arg0) = m' ((c.tc : Thread Cert.AdamRef2Ideal.nD Cert.AdamRef2Ideal.τ).loc Cert.AdamRef2Ideal.main_arg0)
          ∧ r.2.mem ((c.tc : Thread Cert.AdamRef2Ideal.nD Cert.AdamRef2Ideal.τ).loc Cert.AdamRef2Ideal.main_arg1) = m' ((c.tc : Thread Cert.AdamRef2Ideal.nD Cert.AdamRef2Ideal.τ).loc Cert.AdamRef2Ideal.main_arg1)
          ∧ r.2.mem ((c.tc : Thread Cert.AdamRef2Ideal.nD Cert.AdamRef2Ideal.τ).loc Cert.AdamRef2Ideal.main_arg2) = m' ((c.tc : Thread Cert.AdamRef2Ideal.nD Cert.AdamRef2Ideal.τ).loc Cert.AdamRef2Ideal.main_arg2)
          ∧ r.2.mem ((c.tc : Thread Cert.AdamRef2Ideal.nD Cert.AdamRef2Ideal.τ).loc Cert.AdamRef2Ideal.main_arg3) = m' ((c.tc : Thread Cert.AdamRef2Ideal.nD Cert.AdamRef2Ideal.τ).loc Cert.AdamRef2Ideal.main_arg3))

def preserves_Adam3_Adam3Ideal : Prop :=
  IdealRules.named_const.Statement Cert.Adam3Ideal.κ "c1" .f32 0x3FC48605#32 ((8388608 / 5463681 : ℝ) : EReal)
  ∧ IdealRules.named_const.Statement Cert.Adam3Ideal.κ "c2" .f32 0x42C8E6D3#32 ((268435456 / 2672307 : ℝ) : EReal)

def algebraic_Adam3Ideal_AdamRef3Ideal [hAdam3Ideal : Cert.Adam3Ideal.Facts] [hAdamRef3Ideal : Cert.AdamRef3Ideal.Facts] : Prop :=
  ∀ (m : (ℓ : Loc Cert.Adam3Ideal.nD Cert.Adam3Ideal.τ Cert.Adam3Ideal.sig) → Buf (Elt Ideal) ℓ) (g : Dev Cert.Adam3Ideal.nD → PrngReg)
    (m' : (ℓ : Loc Cert.AdamRef3Ideal.nD Cert.AdamRef3Ideal.τ Cert.AdamRef3Ideal.sig) → Buf (Elt Ideal) ℓ) (g' : Dev Cert.AdamRef3Ideal.nD → PrngReg), Pre_Adam3Ideal m →
    (∀ c : Dev Cert.Adam3Ideal.nD,
      m' ((c.tc : Thread Cert.AdamRef3Ideal.nD Cert.AdamRef3Ideal.τ).loc Cert.AdamRef3Ideal.main_arg0) = m ((c.tc : Thread Cert.Adam3Ideal.nD Cert.Adam3Ideal.τ).loc Cert.Adam3Ideal.main_arg0)
      ∧ m' ((c.tc : Thread Cert.AdamRef3Ideal.nD Cert.AdamRef3Ideal.τ).loc Cert.AdamRef3Ideal.main_arg1) = m ((c.tc : Thread Cert.Adam3Ideal.nD Cert.Adam3Ideal.τ).loc Cert.Adam3Ideal.main_arg1)
      ∧ m' ((c.tc : Thread Cert.AdamRef3Ideal.nD Cert.AdamRef3Ideal.τ).loc Cert.AdamRef3Ideal.main_arg2) = m ((c.tc : Thread Cert.Adam3Ideal.nD Cert.Adam3Ideal.τ).loc Cert.Adam3Ideal.main_arg2)
      ∧ m' ((c.tc : Thread Cert.AdamRef3Ideal.nD Cert.AdamRef3Ideal.τ).loc Cert.AdamRef3Ideal.main_arg3) = m ((c.tc : Thread Cert.Adam3Ideal.nD Cert.Adam3Ideal.τ).loc Cert.Adam3Ideal.main_arg3)) →
    ∃ (v0 : (c : Dev Cert.Adam3Ideal.nD) → Buf (Elt Ideal) ((c.tc : Thread Cert.Adam3Ideal.nD Cert.Adam3Ideal.τ).loc Cert.Adam3Ideal.main_v0_0)) (v1 : (c : Dev Cert.Adam3Ideal.nD) → Buf (Elt Ideal) ((c.tc : Thread Cert.Adam3Ideal.nD Cert.Adam3Ideal.τ).loc Cert.Adam3Ideal.main_v0_1)) (v2 : (c : Dev Cert.Adam3Ideal.nD) → Buf (Elt Ideal) ((c.tc : Thread Cert.Adam3Ideal.nD Cert.Adam3Ideal.τ).loc Cert.Adam3Ideal.main_v0_2)) (v3 : (c : Dev Cert.Adam3Ideal.nD) → Buf (Elt Ideal) ((c.tc : Thread Cert.Adam3Ideal.nD Cert.Adam3Ideal.τ).loc Cert.Adam3Ideal.main_v0_3)),
      θ_run (Cert.Adam3Ideal.defs (F := Ideal)) (onTc (τ := Cert.Adam3Ideal.τ) (Cert.Adam3Ideal.main (F := Ideal))) ⟨m, fun _ => 0, g⟩ (fun r => ∀ c : Dev Cert.Adam3Ideal.nD,
          r.2.mem ((c.tc : Thread Cert.Adam3Ideal.nD Cert.Adam3Ideal.τ).loc Cert.Adam3Ideal.main_v0_0) = v0 c
          ∧ r.2.mem ((c.tc : Thread Cert.Adam3Ideal.nD Cert.Adam3Ideal.τ).loc Cert.Adam3Ideal.main_v0_1) = v1 c
          ∧ r.2.mem ((c.tc : Thread Cert.Adam3Ideal.nD Cert.Adam3Ideal.τ).loc Cert.Adam3Ideal.main_v0_2) = v2 c
          ∧ r.2.mem ((c.tc : Thread Cert.Adam3Ideal.nD Cert.Adam3Ideal.τ).loc Cert.Adam3Ideal.main_v0_3) = v3 c
          ∧ r.2.mem ((c.tc : Thread Cert.Adam3Ideal.nD Cert.Adam3Ideal.τ).loc Cert.Adam3Ideal.main_arg0) = m ((c.tc : Thread Cert.Adam3Ideal.nD Cert.Adam3Ideal.τ).loc Cert.Adam3Ideal.main_arg0)
          ∧ r.2.mem ((c.tc : Thread Cert.Adam3Ideal.nD Cert.Adam3Ideal.τ).loc Cert.Adam3Ideal.main_arg1) = m ((c.tc : Thread Cert.Adam3Ideal.nD Cert.Adam3Ideal.τ).loc Cert.Adam3Ideal.main_arg1)
          ∧ r.2.mem ((c.tc : Thread Cert.Adam3Ideal.nD Cert.Adam3Ideal.τ).loc Cert.Adam3Ideal.main_arg2) = m ((c.tc : Thread Cert.Adam3Ideal.nD Cert.Adam3Ideal.τ).loc Cert.Adam3Ideal.main_arg2)
          ∧ r.2.mem ((c.tc : Thread Cert.Adam3Ideal.nD Cert.Adam3Ideal.τ).loc Cert.Adam3Ideal.main_arg3) = m ((c.tc : Thread Cert.Adam3Ideal.nD Cert.Adam3Ideal.τ).loc Cert.Adam3Ideal.main_arg3))
      ∧ θ_run (Cert.AdamRef3Ideal.defs (F := Ideal)) (onTc (τ := Cert.AdamRef3Ideal.τ) (Cert.AdamRef3Ideal.main (F := Ideal))) ⟨m', fun _ => 0, g'⟩ (fun r => ∀ c : Dev Cert.AdamRef3Ideal.nD,
          r.2.mem ((c.tc : Thread Cert.AdamRef3Ideal.nD Cert.AdamRef3Ideal.τ).loc Cert.AdamRef3Ideal.main_v1) = v0 c
          ∧ r.2.mem ((c.tc : Thread Cert.AdamRef3Ideal.nD Cert.AdamRef3Ideal.τ).loc Cert.AdamRef3Ideal.main_v25) = v1 c
          ∧ r.2.mem ((c.tc : Thread Cert.AdamRef3Ideal.nD Cert.AdamRef3Ideal.τ).loc Cert.AdamRef3Ideal.main_v6) = v2 c
          ∧ r.2.mem ((c.tc : Thread Cert.AdamRef3Ideal.nD Cert.AdamRef3Ideal.τ).loc Cert.AdamRef3Ideal.main_v12) = v3 c
          ∧ r.2.mem ((c.tc : Thread Cert.AdamRef3Ideal.nD Cert.AdamRef3Ideal.τ).loc Cert.AdamRef3Ideal.main_arg0) = m' ((c.tc : Thread Cert.AdamRef3Ideal.nD Cert.AdamRef3Ideal.τ).loc Cert.AdamRef3Ideal.main_arg0)
          ∧ r.2.mem ((c.tc : Thread Cert.AdamRef3Ideal.nD Cert.AdamRef3Ideal.τ).loc Cert.AdamRef3Ideal.main_arg1) = m' ((c.tc : Thread Cert.AdamRef3Ideal.nD Cert.AdamRef3Ideal.τ).loc Cert.AdamRef3Ideal.main_arg1)
          ∧ r.2.mem ((c.tc : Thread Cert.AdamRef3Ideal.nD Cert.AdamRef3Ideal.τ).loc Cert.AdamRef3Ideal.main_arg2) = m' ((c.tc : Thread Cert.AdamRef3Ideal.nD Cert.AdamRef3Ideal.τ).loc Cert.AdamRef3Ideal.main_arg2)
          ∧ r.2.mem ((c.tc : Thread Cert.AdamRef3Ideal.nD Cert.AdamRef3Ideal.τ).loc Cert.AdamRef3Ideal.main_arg3) = m' ((c.tc : Thread Cert.AdamRef3Ideal.nD Cert.AdamRef3Ideal.τ).loc Cert.AdamRef3Ideal.main_arg3))

def preserves_Pack0_Pack0Ideal : Prop :=
  IdealRules.named_const.Statement Cert.Pack0Ideal.κ "c1" .f32 0x3FC48605#32 ((8388608 / 5463681 : ℝ) : EReal)
  ∧ IdealRules.named_const.Statement Cert.Pack0Ideal.κ "c2" .f32 0x42C8E6D3#32 ((268435456 / 2672307 : ℝ) : EReal)

def algebraic_Pack0Ideal_PackRef0Ideal [hPack0Ideal : Cert.Pack0Ideal.Facts] [hPackRef0Ideal : Cert.PackRef0Ideal.Facts] : Prop :=
  ∀ (m : (ℓ : Loc Cert.Pack0Ideal.nD Cert.Pack0Ideal.τ Cert.Pack0Ideal.sig) → Buf (Elt Ideal) ℓ) (g : Dev Cert.Pack0Ideal.nD → PrngReg)
    (m' : (ℓ : Loc Cert.PackRef0Ideal.nD Cert.PackRef0Ideal.τ Cert.PackRef0Ideal.sig) → Buf (Elt Ideal) ℓ) (g' : Dev Cert.PackRef0Ideal.nD → PrngReg), Pre_Pack0Ideal m →
    (∀ c : Dev Cert.Pack0Ideal.nD,
      m' ((c.tc : Thread Cert.PackRef0Ideal.nD Cert.PackRef0Ideal.τ).loc Cert.PackRef0Ideal.main_arg0) = m ((c.tc : Thread Cert.Pack0Ideal.nD Cert.Pack0Ideal.τ).loc Cert.Pack0Ideal.main_arg0)
      ∧ m' ((c.tc : Thread Cert.PackRef0Ideal.nD Cert.PackRef0Ideal.τ).loc Cert.PackRef0Ideal.main_arg1) = m ((c.tc : Thread Cert.Pack0Ideal.nD Cert.Pack0Ideal.τ).loc Cert.Pack0Ideal.main_arg1)
      ∧ m' ((c.tc : Thread Cert.PackRef0Ideal.nD Cert.PackRef0Ideal.τ).loc Cert.PackRef0Ideal.main_arg2) = m ((c.tc : Thread Cert.Pack0Ideal.nD Cert.Pack0Ideal.τ).loc Cert.Pack0Ideal.main_arg2)
      ∧ m' ((c.tc : Thread Cert.PackRef0Ideal.nD Cert.PackRef0Ideal.τ).loc Cert.PackRef0Ideal.main_arg3) = m ((c.tc : Thread Cert.Pack0Ideal.nD Cert.Pack0Ideal.τ).loc Cert.Pack0Ideal.main_arg3)
      ∧ m' ((c.tc : Thread Cert.PackRef0Ideal.nD Cert.PackRef0Ideal.τ).loc Cert.PackRef0Ideal.main_arg4) = m ((c.tc : Thread Cert.Pack0Ideal.nD Cert.Pack0Ideal.τ).loc Cert.Pack0Ideal.main_arg4)
      ∧ m' ((c.tc : Thread Cert.PackRef0Ideal.nD Cert.PackRef0Ideal.τ).loc Cert.PackRef0Ideal.main_arg5) = m ((c.tc : Thread Cert.Pack0Ideal.nD Cert.Pack0Ideal.τ).loc Cert.Pack0Ideal.main_arg5)
      ∧ m' ((c.tc : Thread Cert.PackRef0Ideal.nD Cert.PackRef0Ideal.τ).loc Cert.PackRef0Ideal.main_arg6) = m ((c.tc : Thread Cert.Pack0Ideal.nD Cert.Pack0Ideal.τ).loc Cert.Pack0Ideal.main_arg6)
      ∧ m' ((c.tc : Thread Cert.PackRef0Ideal.nD Cert.PackRef0Ideal.τ).loc Cert.PackRef0Ideal.main_arg7) = m ((c.tc : Thread Cert.Pack0Ideal.nD Cert.Pack0Ideal.τ).loc Cert.Pack0Ideal.main_arg7)
      ∧ m' ((c.tc : Thread Cert.PackRef0Ideal.nD Cert.PackRef0Ideal.τ).loc Cert.PackRef0Ideal.main_arg8) = m ((c.tc : Thread Cert.Pack0Ideal.nD Cert.Pack0Ideal.τ).loc Cert.Pack0Ideal.main_arg8)
      ∧ m' ((c.tc : Thread Cert.PackRef0Ideal.nD Cert.PackRef0Ideal.τ).loc Cert.PackRef0Ideal.main_arg9) = m ((c.tc : Thread Cert.Pack0Ideal.nD Cert.Pack0Ideal.τ).loc Cert.Pack0Ideal.main_arg9)
      ∧ m' ((c.tc : Thread Cert.PackRef0Ideal.nD Cert.PackRef0Ideal.τ).loc Cert.PackRef0Ideal.main_arg10) = m ((c.tc : Thread Cert.Pack0Ideal.nD Cert.Pack0Ideal.τ).loc Cert.Pack0Ideal.main_arg10)
      ∧ m' ((c.tc : Thread Cert.PackRef0Ideal.nD Cert.PackRef0Ideal.τ).loc Cert.PackRef0Ideal.main_arg11) = m ((c.tc : Thread Cert.Pack0Ideal.nD Cert.Pack0Ideal.τ).loc Cert.Pack0Ideal.main_arg11)) →
    ∃ (v0 : (c : Dev Cert.Pack0Ideal.nD) → Buf (Elt Ideal) ((c.tc : Thread Cert.Pack0Ideal.nD Cert.Pack0Ideal.τ).loc Cert.Pack0Ideal.main_v27)) (v1 : (c : Dev Cert.Pack0Ideal.nD) → Buf (Elt Ideal) ((c.tc : Thread Cert.Pack0Ideal.nD Cert.Pack0Ideal.τ).loc Cert.Pack0Ideal.main_v29)) (v2 : (c : Dev Cert.Pack0Ideal.nD) → Buf (Elt Ideal) ((c.tc : Thread Cert.Pack0Ideal.nD Cert.Pack0Ideal.τ).loc Cert.Pack0Ideal.main_v31)) (v3 : (c : Dev Cert.Pack0Ideal.nD) → Buf (Elt Ideal) ((c.tc : Thread Cert.Pack0Ideal.nD Cert.Pack0Ideal.τ).loc Cert.Pack0Ideal.main_v34)) (v4 : (c : Dev Cert.Pack0Ideal.nD) → Buf (Elt Ideal) ((c.tc : Thread Cert.Pack0Ideal.nD Cert.Pack0Ideal.τ).loc Cert.Pack0Ideal.main_v36)) (v5 : (c : Dev Cert.Pack0Ideal.nD) → Buf (Elt Ideal) ((c.tc : Thread Cert.Pack0Ideal.nD Cert.Pack0Ideal.τ).loc Cert.Pack0Ideal.main_v38)) (v6 : (c : Dev Cert.Pack0Ideal.nD) → Buf (Elt Ideal) ((c.tc : Thread Cert.Pack0Ideal.nD Cert.Pack0Ideal.τ).loc Cert.Pack0Ideal.main_v41)) (v7 : (c : Dev Cert.Pack0Ideal.nD) → Buf (Elt Ideal) ((c.tc : Thread Cert.Pack0Ideal.nD Cert.Pack0Ideal.τ).loc Cert.Pack0Ideal.main_v43)) (v8 : (c : Dev Cert.Pack0Ideal.nD) → Buf (Elt Ideal) ((c.tc : Thread Cert.Pack0Ideal.nD Cert.Pack0Ideal.τ).loc Cert.Pack0Ideal.main_v45)) (v9 : (c : Dev Cert.Pack0Ideal.nD) → Buf (Elt Ideal) ((c.tc : Thread Cert.Pack0Ideal.nD Cert.Pack0Ideal.τ).loc Cert.Pack0Ideal.main_v48)) (v10 : (c : Dev Cert.Pack0Ideal.nD) → Buf (Elt Ideal) ((c.tc : Thread Cert.Pack0Ideal.nD Cert.Pack0Ideal.τ).loc Cert.Pack0Ideal.main_v50)) (v11 : (c : Dev Cert.Pack0Ideal.nD) → Buf (Elt Ideal) ((c.tc : Thread Cert.Pack0Ideal.nD Cert.Pack0Ideal.τ).loc Cert.Pack0Ideal.main_v52)),
      θ_run (Cert.Pack0Ideal.defs (F := Ideal)) (onTc (τ := Cert.Pack0Ideal.τ) (Cert.Pack0Ideal.main (F := Ideal))) ⟨m, fun _ => 0, g⟩ (fun r => ∀ c : Dev Cert.Pack0Ideal.nD,
          r.2.mem ((c.tc : Thread Cert.Pack0Ideal.nD Cert.Pack0Ideal.τ).loc Cert.Pack0Ideal.main_v27) = v0 c
          ∧ r.2.mem ((c.tc : Thread Cert.Pack0Ideal.nD Cert.Pack0Ideal.τ).loc Cert.Pack0Ideal.main_v29) = v1 c
          ∧ r.2.mem ((c.tc : Thread Cert.Pack0Ideal.nD Cert.Pack0Ideal.τ).loc Cert.Pack0Ideal.main_v31) = v2 c
          ∧ r.2.mem ((c.tc : Thread Cert.Pack0Ideal.nD Cert.Pack0Ideal.τ).loc Cert.Pack0Ideal.main_v34) = v3 c
          ∧ r.2.mem ((c.tc : Thread Cert.Pack0Ideal.nD Cert.Pack0Ideal.τ).loc Cert.Pack0Ideal.main_v36) = v4 c
          ∧ r.2.mem ((c.tc : Thread Cert.Pack0Ideal.nD Cert.Pack0Ideal.τ).loc Cert.Pack0Ideal.main_v38) = v5 c
          ∧ r.2.mem ((c.tc : Thread Cert.Pack0Ideal.nD Cert.Pack0Ideal.τ).loc Cert.Pack0Ideal.main_v41) = v6 c
          ∧ r.2.mem ((c.tc : Thread Cert.Pack0Ideal.nD Cert.Pack0Ideal.τ).loc Cert.Pack0Ideal.main_v43) = v7 c
          ∧ r.2.mem ((c.tc : Thread Cert.Pack0Ideal.nD Cert.Pack0Ideal.τ).loc Cert.Pack0Ideal.main_v45) = v8 c
          ∧ r.2.mem ((c.tc : Thread Cert.Pack0Ideal.nD Cert.Pack0Ideal.τ).loc Cert.Pack0Ideal.main_v48) = v9 c
          ∧ r.2.mem ((c.tc : Thread Cert.Pack0Ideal.nD Cert.Pack0Ideal.τ).loc Cert.Pack0Ideal.main_v50) = v10 c
          ∧ r.2.mem ((c.tc : Thread Cert.Pack0Ideal.nD Cert.Pack0Ideal.τ).loc Cert.Pack0Ideal.main_v52) = v11 c
          ∧ r.2.mem ((c.tc : Thread Cert.Pack0Ideal.nD Cert.Pack0Ideal.τ).loc Cert.Pack0Ideal.main_arg0) = m ((c.tc : Thread Cert.Pack0Ideal.nD Cert.Pack0Ideal.τ).loc Cert.Pack0Ideal.main_arg0)
          ∧ r.2.mem ((c.tc : Thread Cert.Pack0Ideal.nD Cert.Pack0Ideal.τ).loc Cert.Pack0Ideal.main_arg1) = m ((c.tc : Thread Cert.Pack0Ideal.nD Cert.Pack0Ideal.τ).loc Cert.Pack0Ideal.main_arg1)
          ∧ r.2.mem ((c.tc : Thread Cert.Pack0Ideal.nD Cert.Pack0Ideal.τ).loc Cert.Pack0Ideal.main_arg2) = m ((c.tc : Thread Cert.Pack0Ideal.nD Cert.Pack0Ideal.τ).loc Cert.Pack0Ideal.main_arg2)
          ∧ r.2.mem ((c.tc : Thread Cert.Pack0Ideal.nD Cert.Pack0Ideal.τ).loc Cert.Pack0Ideal.main_arg3) = m ((c.tc : Thread Cert.Pack0Ideal.nD Cert.Pack0Ideal.τ).loc Cert.Pack0Ideal.main_arg3)
          ∧ r.2.mem ((c.tc : Thread Cert.Pack0Ideal.nD Cert.Pack0Ideal.τ).loc Cert.Pack0Ideal.main_arg4) = m ((c.tc : Thread Cert.Pack0Ideal.nD Cert.Pack0Ideal.τ).loc Cert.Pack0Ideal.main_arg4)
          ∧ r.2.mem ((c.tc : Thread Cert.Pack0Ideal.nD Cert.Pack0Ideal.τ).loc Cert.Pack0Ideal.main_arg5) = m ((c.tc : Thread Cert.Pack0Ideal.nD Cert.Pack0Ideal.τ).loc Cert.Pack0Ideal.main_arg5)
          ∧ r.2.mem ((c.tc : Thread Cert.Pack0Ideal.nD Cert.Pack0Ideal.τ).loc Cert.Pack0Ideal.main_arg6) = m ((c.tc : Thread Cert.Pack0Ideal.nD Cert.Pack0Ideal.τ).loc Cert.Pack0Ideal.main_arg6)
          ∧ r.2.mem ((c.tc : Thread Cert.Pack0Ideal.nD Cert.Pack0Ideal.τ).loc Cert.Pack0Ideal.main_arg7) = m ((c.tc : Thread Cert.Pack0Ideal.nD Cert.Pack0Ideal.τ).loc Cert.Pack0Ideal.main_arg7)
          ∧ r.2.mem ((c.tc : Thread Cert.Pack0Ideal.nD Cert.Pack0Ideal.τ).loc Cert.Pack0Ideal.main_arg8) = m ((c.tc : Thread Cert.Pack0Ideal.nD Cert.Pack0Ideal.τ).loc Cert.Pack0Ideal.main_arg8)
          ∧ r.2.mem ((c.tc : Thread Cert.Pack0Ideal.nD Cert.Pack0Ideal.τ).loc Cert.Pack0Ideal.main_arg9) = m ((c.tc : Thread Cert.Pack0Ideal.nD Cert.Pack0Ideal.τ).loc Cert.Pack0Ideal.main_arg9)
          ∧ r.2.mem ((c.tc : Thread Cert.Pack0Ideal.nD Cert.Pack0Ideal.τ).loc Cert.Pack0Ideal.main_arg10) = m ((c.tc : Thread Cert.Pack0Ideal.nD Cert.Pack0Ideal.τ).loc Cert.Pack0Ideal.main_arg10)
          ∧ r.2.mem ((c.tc : Thread Cert.Pack0Ideal.nD Cert.Pack0Ideal.τ).loc Cert.Pack0Ideal.main_arg11) = m ((c.tc : Thread Cert.Pack0Ideal.nD Cert.Pack0Ideal.τ).loc Cert.Pack0Ideal.main_arg11))
      ∧ θ_run (Cert.PackRef0Ideal.defs (F := Ideal)) (onTc (τ := Cert.PackRef0Ideal.τ) (Cert.PackRef0Ideal.main (F := Ideal))) ⟨m', fun _ => 0, g'⟩ (fun r => ∀ c : Dev Cert.PackRef0Ideal.nD,
          r.2.mem ((c.tc : Thread Cert.PackRef0Ideal.nD Cert.PackRef0Ideal.τ).loc Cert.PackRef0Ideal.main_v0) = v0 c
          ∧ r.2.mem ((c.tc : Thread Cert.PackRef0Ideal.nD Cert.PackRef0Ideal.τ).loc Cert.PackRef0Ideal.main_v1) = v1 c
          ∧ r.2.mem ((c.tc : Thread Cert.PackRef0Ideal.nD Cert.PackRef0Ideal.τ).loc Cert.PackRef0Ideal.main_v2) = v2 c
          ∧ r.2.mem ((c.tc : Thread Cert.PackRef0Ideal.nD Cert.PackRef0Ideal.τ).loc Cert.PackRef0Ideal.main_v26) = v3 c
          ∧ r.2.mem ((c.tc : Thread Cert.PackRef0Ideal.nD Cert.PackRef0Ideal.τ).loc Cert.PackRef0Ideal.main_v50) = v4 c
          ∧ r.2.mem ((c.tc : Thread Cert.PackRef0Ideal.nD Cert.PackRef0Ideal.τ).loc Cert.PackRef0Ideal.main_v74) = v5 c
          ∧ r.2.mem ((c.tc : Thread Cert.PackRef0Ideal.nD Cert.PackRef0Ideal.τ).loc Cert.PackRef0Ideal.main_v7) = v6 c
          ∧ r.2.mem ((c.tc : Thread Cert.PackRef0Ideal.nD Cert.PackRef0Ideal.τ).loc Cert.PackRef0Ideal.main_v31) = v7 c
          ∧ r.2.mem ((c.tc : Thread Cert.PackRef0Ideal.nD Cert.PackRef0Ideal.τ).loc Cert.PackRef0Ideal.main_v55) = v8 c
          ∧ r.2.mem ((c.tc : Thread Cert.PackRef0Ideal.nD Cert.PackRef0Ideal.τ).loc Cert.PackRef0Ideal.main_v13) = v9 c
          ∧ r.2.mem ((c.tc : Thread Cert.PackRef0Ideal.nD Cert.PackRef0Ideal.τ).loc Cert.PackRef0Ideal.main_v37) = v10 c
          ∧ r.2.mem ((c.tc : Thread Cert.PackRef0Ideal.nD Cert.PackRef0Ideal.τ).loc Cert.PackRef0Ideal.main_v61) = v11 c
          ∧ r.2.mem ((c.tc : Thread Cert.PackRef0Ideal.nD Cert.PackRef0Ideal.τ).loc Cert.PackRef0Ideal.main_arg0) = m' ((c.tc : Thread Cert.PackRef0Ideal.nD Cert.PackRef0Ideal.τ).loc Cert.PackRef0Ideal.main_arg0)
          ∧ r.2.mem ((c.tc : Thread Cert.PackRef0Ideal.nD Cert.PackRef0Ideal.τ).loc Cert.PackRef0Ideal.main_arg1) = m' ((c.tc : Thread Cert.PackRef0Ideal.nD Cert.PackRef0Ideal.τ).loc Cert.PackRef0Ideal.main_arg1)
          ∧ r.2.mem ((c.tc : Thread Cert.PackRef0Ideal.nD Cert.PackRef0Ideal.τ).loc Cert.PackRef0Ideal.main_arg2) = m' ((c.tc : Thread Cert.PackRef0Ideal.nD Cert.PackRef0Ideal.τ).loc Cert.PackRef0Ideal.main_arg2)
          ∧ r.2.mem ((c.tc : Thread Cert.PackRef0Ideal.nD Cert.PackRef0Ideal.τ).loc Cert.PackRef0Ideal.main_arg3) = m' ((c.tc : Thread Cert.PackRef0Ideal.nD Cert.PackRef0Ideal.τ).loc Cert.PackRef0Ideal.main_arg3)
          ∧ r.2.mem ((c.tc : Thread Cert.PackRef0Ideal.nD Cert.PackRef0Ideal.τ).loc Cert.PackRef0Ideal.main_arg4) = m' ((c.tc : Thread Cert.PackRef0Ideal.nD Cert.PackRef0Ideal.τ).loc Cert.PackRef0Ideal.main_arg4)
          ∧ r.2.mem ((c.tc : Thread Cert.PackRef0Ideal.nD Cert.PackRef0Ideal.τ).loc Cert.PackRef0Ideal.main_arg5) = m' ((c.tc : Thread Cert.PackRef0Ideal.nD Cert.PackRef0Ideal.τ).loc Cert.PackRef0Ideal.main_arg5)
          ∧ r.2.mem ((c.tc : Thread Cert.PackRef0Ideal.nD Cert.PackRef0Ideal.τ).loc Cert.PackRef0Ideal.main_arg6) = m' ((c.tc : Thread Cert.PackRef0Ideal.nD Cert.PackRef0Ideal.τ).loc Cert.PackRef0Ideal.main_arg6)
          ∧ r.2.mem ((c.tc : Thread Cert.PackRef0Ideal.nD Cert.PackRef0Ideal.τ).loc Cert.PackRef0Ideal.main_arg7) = m' ((c.tc : Thread Cert.PackRef0Ideal.nD Cert.PackRef0Ideal.τ).loc Cert.PackRef0Ideal.main_arg7)
          ∧ r.2.mem ((c.tc : Thread Cert.PackRef0Ideal.nD Cert.PackRef0Ideal.τ).loc Cert.PackRef0Ideal.main_arg8) = m' ((c.tc : Thread Cert.PackRef0Ideal.nD Cert.PackRef0Ideal.τ).loc Cert.PackRef0Ideal.main_arg8)
          ∧ r.2.mem ((c.tc : Thread Cert.PackRef0Ideal.nD Cert.PackRef0Ideal.τ).loc Cert.PackRef0Ideal.main_arg9) = m' ((c.tc : Thread Cert.PackRef0Ideal.nD Cert.PackRef0Ideal.τ).loc Cert.PackRef0Ideal.main_arg9)
          ∧ r.2.mem ((c.tc : Thread Cert.PackRef0Ideal.nD Cert.PackRef0Ideal.τ).loc Cert.PackRef0Ideal.main_arg10) = m' ((c.tc : Thread Cert.PackRef0Ideal.nD Cert.PackRef0Ideal.τ).loc Cert.PackRef0Ideal.main_arg10)
          ∧ r.2.mem ((c.tc : Thread Cert.PackRef0Ideal.nD Cert.PackRef0Ideal.τ).loc Cert.PackRef0Ideal.main_arg11) = m' ((c.tc : Thread Cert.PackRef0Ideal.nD Cert.PackRef0Ideal.τ).loc Cert.PackRef0Ideal.main_arg11))

def preserves_Pack1_Pack1Ideal : Prop :=
  IdealRules.named_const.Statement Cert.Pack1Ideal.κ "c1" .f32 0x3FC48605#32 ((8388608 / 5463681 : ℝ) : EReal)
  ∧ IdealRules.named_const.Statement Cert.Pack1Ideal.κ "c2" .f32 0x42C8E6D3#32 ((268435456 / 2672307 : ℝ) : EReal)

def algebraic_Pack1Ideal_PackRef1Ideal [hPack1Ideal : Cert.Pack1Ideal.Facts] [hPackRef1Ideal : Cert.PackRef1Ideal.Facts] : Prop :=
  ∀ (m : (ℓ : Loc Cert.Pack1Ideal.nD Cert.Pack1Ideal.τ Cert.Pack1Ideal.sig) → Buf (Elt Ideal) ℓ) (g : Dev Cert.Pack1Ideal.nD → PrngReg)
    (m' : (ℓ : Loc Cert.PackRef1Ideal.nD Cert.PackRef1Ideal.τ Cert.PackRef1Ideal.sig) → Buf (Elt Ideal) ℓ) (g' : Dev Cert.PackRef1Ideal.nD → PrngReg), Pre_Pack1Ideal m →
    (∀ c : Dev Cert.Pack1Ideal.nD,
      m' ((c.tc : Thread Cert.PackRef1Ideal.nD Cert.PackRef1Ideal.τ).loc Cert.PackRef1Ideal.main_arg0) = m ((c.tc : Thread Cert.Pack1Ideal.nD Cert.Pack1Ideal.τ).loc Cert.Pack1Ideal.main_arg0)
      ∧ m' ((c.tc : Thread Cert.PackRef1Ideal.nD Cert.PackRef1Ideal.τ).loc Cert.PackRef1Ideal.main_arg1) = m ((c.tc : Thread Cert.Pack1Ideal.nD Cert.Pack1Ideal.τ).loc Cert.Pack1Ideal.main_arg1)
      ∧ m' ((c.tc : Thread Cert.PackRef1Ideal.nD Cert.PackRef1Ideal.τ).loc Cert.PackRef1Ideal.main_arg2) = m ((c.tc : Thread Cert.Pack1Ideal.nD Cert.Pack1Ideal.τ).loc Cert.Pack1Ideal.main_arg2)
      ∧ m' ((c.tc : Thread Cert.PackRef1Ideal.nD Cert.PackRef1Ideal.τ).loc Cert.PackRef1Ideal.main_arg3) = m ((c.tc : Thread Cert.Pack1Ideal.nD Cert.Pack1Ideal.τ).loc Cert.Pack1Ideal.main_arg3)
      ∧ m' ((c.tc : Thread Cert.PackRef1Ideal.nD Cert.PackRef1Ideal.τ).loc Cert.PackRef1Ideal.main_arg4) = m ((c.tc : Thread Cert.Pack1Ideal.nD Cert.Pack1Ideal.τ).loc Cert.Pack1Ideal.main_arg4)
      ∧ m' ((c.tc : Thread Cert.PackRef1Ideal.nD Cert.PackRef1Ideal.τ).loc Cert.PackRef1Ideal.main_arg5) = m ((c.tc : Thread Cert.Pack1Ideal.nD Cert.Pack1Ideal.τ).loc Cert.Pack1Ideal.main_arg5)
      ∧ m' ((c.tc : Thread Cert.PackRef1Ideal.nD Cert.PackRef1Ideal.τ).loc Cert.PackRef1Ideal.main_arg6) = m ((c.tc : Thread Cert.Pack1Ideal.nD Cert.Pack1Ideal.τ).loc Cert.Pack1Ideal.main_arg6)
      ∧ m' ((c.tc : Thread Cert.PackRef1Ideal.nD Cert.PackRef1Ideal.τ).loc Cert.PackRef1Ideal.main_arg7) = m ((c.tc : Thread Cert.Pack1Ideal.nD Cert.Pack1Ideal.τ).loc Cert.Pack1Ideal.main_arg7)
      ∧ m' ((c.tc : Thread Cert.PackRef1Ideal.nD Cert.PackRef1Ideal.τ).loc Cert.PackRef1Ideal.main_arg8) = m ((c.tc : Thread Cert.Pack1Ideal.nD Cert.Pack1Ideal.τ).loc Cert.Pack1Ideal.main_arg8)
      ∧ m' ((c.tc : Thread Cert.PackRef1Ideal.nD Cert.PackRef1Ideal.τ).loc Cert.PackRef1Ideal.main_arg9) = m ((c.tc : Thread Cert.Pack1Ideal.nD Cert.Pack1Ideal.τ).loc Cert.Pack1Ideal.main_arg9)
      ∧ m' ((c.tc : Thread Cert.PackRef1Ideal.nD Cert.PackRef1Ideal.τ).loc Cert.PackRef1Ideal.main_arg10) = m ((c.tc : Thread Cert.Pack1Ideal.nD Cert.Pack1Ideal.τ).loc Cert.Pack1Ideal.main_arg10)
      ∧ m' ((c.tc : Thread Cert.PackRef1Ideal.nD Cert.PackRef1Ideal.τ).loc Cert.PackRef1Ideal.main_arg11) = m ((c.tc : Thread Cert.Pack1Ideal.nD Cert.Pack1Ideal.τ).loc Cert.Pack1Ideal.main_arg11)
      ∧ m' ((c.tc : Thread Cert.PackRef1Ideal.nD Cert.PackRef1Ideal.τ).loc Cert.PackRef1Ideal.main_arg12) = m ((c.tc : Thread Cert.Pack1Ideal.nD Cert.Pack1Ideal.τ).loc Cert.Pack1Ideal.main_arg12)
      ∧ m' ((c.tc : Thread Cert.PackRef1Ideal.nD Cert.PackRef1Ideal.τ).loc Cert.PackRef1Ideal.main_arg13) = m ((c.tc : Thread Cert.Pack1Ideal.nD Cert.Pack1Ideal.τ).loc Cert.Pack1Ideal.main_arg13)
      ∧ m' ((c.tc : Thread Cert.PackRef1Ideal.nD Cert.PackRef1Ideal.τ).loc Cert.PackRef1Ideal.main_arg14) = m ((c.tc : Thread Cert.Pack1Ideal.nD Cert.Pack1Ideal.τ).loc Cert.Pack1Ideal.main_arg14)
      ∧ m' ((c.tc : Thread Cert.PackRef1Ideal.nD Cert.PackRef1Ideal.τ).loc Cert.PackRef1Ideal.main_arg15) = m ((c.tc : Thread Cert.Pack1Ideal.nD Cert.Pack1Ideal.τ).loc Cert.Pack1Ideal.main_arg15)
      ∧ m' ((c.tc : Thread Cert.PackRef1Ideal.nD Cert.PackRef1Ideal.τ).loc Cert.PackRef1Ideal.main_arg16) = m ((c.tc : Thread Cert.Pack1Ideal.nD Cert.Pack1Ideal.τ).loc Cert.Pack1Ideal.main_arg16)
      ∧ m' ((c.tc : Thread Cert.PackRef1Ideal.nD Cert.PackRef1Ideal.τ).loc Cert.PackRef1Ideal.main_arg17) = m ((c.tc : Thread Cert.Pack1Ideal.nD Cert.Pack1Ideal.τ).loc Cert.Pack1Ideal.main_arg17)
      ∧ m' ((c.tc : Thread Cert.PackRef1Ideal.nD Cert.PackRef1Ideal.τ).loc Cert.PackRef1Ideal.main_arg18) = m ((c.tc : Thread Cert.Pack1Ideal.nD Cert.Pack1Ideal.τ).loc Cert.Pack1Ideal.main_arg18)
      ∧ m' ((c.tc : Thread Cert.PackRef1Ideal.nD Cert.PackRef1Ideal.τ).loc Cert.PackRef1Ideal.main_arg19) = m ((c.tc : Thread Cert.Pack1Ideal.nD Cert.Pack1Ideal.τ).loc Cert.Pack1Ideal.main_arg19)
      ∧ m' ((c.tc : Thread Cert.PackRef1Ideal.nD Cert.PackRef1Ideal.τ).loc Cert.PackRef1Ideal.main_arg20) = m ((c.tc : Thread Cert.Pack1Ideal.nD Cert.Pack1Ideal.τ).loc Cert.Pack1Ideal.main_arg20)
      ∧ m' ((c.tc : Thread Cert.PackRef1Ideal.nD Cert.PackRef1Ideal.τ).loc Cert.PackRef1Ideal.main_arg21) = m ((c.tc : Thread Cert.Pack1Ideal.nD Cert.Pack1Ideal.τ).loc Cert.Pack1Ideal.main_arg21)
      ∧ m' ((c.tc : Thread Cert.PackRef1Ideal.nD Cert.PackRef1Ideal.τ).loc Cert.PackRef1Ideal.main_arg22) = m ((c.tc : Thread Cert.Pack1Ideal.nD Cert.Pack1Ideal.τ).loc Cert.Pack1Ideal.main_arg22)
      ∧ m' ((c.tc : Thread Cert.PackRef1Ideal.nD Cert.PackRef1Ideal.τ).loc Cert.PackRef1Ideal.main_arg23) = m ((c.tc : Thread Cert.Pack1Ideal.nD Cert.Pack1Ideal.τ).loc Cert.Pack1Ideal.main_arg23)
      ∧ m' ((c.tc : Thread Cert.PackRef1Ideal.nD Cert.PackRef1Ideal.τ).loc Cert.PackRef1Ideal.main_arg24) = m ((c.tc : Thread Cert.Pack1Ideal.nD Cert.Pack1Ideal.τ).loc Cert.Pack1Ideal.main_arg24)
      ∧ m' ((c.tc : Thread Cert.PackRef1Ideal.nD Cert.PackRef1Ideal.τ).loc Cert.PackRef1Ideal.main_arg25) = m ((c.tc : Thread Cert.Pack1Ideal.nD Cert.Pack1Ideal.τ).loc Cert.Pack1Ideal.main_arg25)
      ∧ m' ((c.tc : Thread Cert.PackRef1Ideal.nD Cert.PackRef1Ideal.τ).loc Cert.PackRef1Ideal.main_arg26) = m ((c.tc : Thread Cert.Pack1Ideal.nD Cert.Pack1Ideal.τ).loc Cert.Pack1Ideal.main_arg26)
      ∧ m' ((c.tc : Thread Cert.PackRef1Ideal.nD Cert.PackRef1Ideal.τ).loc Cert.PackRef1Ideal.main_arg27) = m ((c.tc : Thread Cert.Pack1Ideal.nD Cert.Pack1Ideal.τ).loc Cert.Pack1Ideal.main_arg27)) →
    ∃ (v0 : (c : Dev Cert.Pack1Ideal.nD) → Buf (Elt Ideal) ((c.tc : Thread Cert.Pack1Ideal.nD Cert.Pack1Ideal.τ).loc Cert.Pack1Ideal.main_v43)) (v1 : (c : Dev Cert.Pack1Ideal.nD) → Buf (Elt Ideal) ((c.tc : Thread Cert.Pack1Ideal.nD Cert.Pack1Ideal.τ).loc Cert.Pack1Ideal.main_v45)) (v2 : (c : Dev Cert.Pack1Ideal.nD) → Buf (Elt Ideal) ((c.tc : Thread Cert.Pack1Ideal.nD Cert.Pack1Ideal.τ).loc Cert.Pack1Ideal.main_v47)) (v3 : (c : Dev Cert.Pack1Ideal.nD) → Buf (Elt Ideal) ((c.tc : Thread Cert.Pack1Ideal.nD Cert.Pack1Ideal.τ).loc Cert.Pack1Ideal.main_v49)) (v4 : (c : Dev Cert.Pack1Ideal.nD) → Buf (Elt Ideal) ((c.tc : Thread Cert.Pack1Ideal.nD Cert.Pack1Ideal.τ).loc Cert.Pack1Ideal.main_v51)) (v5 : (c : Dev Cert.Pack1Ideal.nD) → Buf (Elt Ideal) ((c.tc : Thread Cert.Pack1Ideal.nD Cert.Pack1Ideal.τ).loc Cert.Pack1Ideal.main_v53)) (v6 : (c : Dev Cert.Pack1Ideal.nD) → Buf (Elt Ideal) ((c.tc : Thread Cert.Pack1Ideal.nD Cert.Pack1Ideal.τ).loc Cert.Pack1Ideal.main_v55)) (v7 : (c : Dev Cert.Pack1Ideal.nD) → Buf (Elt Ideal) ((c.tc : Thread Cert.Pack1Ideal.nD Cert.Pack1Ideal.τ).loc Cert.Pack1Ideal.main_v58)) (v8 : (c : Dev Cert.Pack1Ideal.nD) → Buf (Elt Ideal) ((c.tc : Thread Cert.Pack1Ideal.nD Cert.Pack1Ideal.τ).loc Cert.Pack1Ideal.main_v60)) (v9 : (c : Dev Cert.Pack1Ideal.nD) → Buf (Elt Ideal) ((c.tc : Thread Cert.Pack1Ideal.nD Cert.Pack1Ideal.τ).loc Cert.Pack1Ideal.main_v62)) (v10 : (c : Dev Cert.Pack1Ideal.nD) → Buf (Elt Ideal) ((c.tc : Thread Cert.Pack1Ideal.nD Cert.Pack1Ideal.τ).loc Cert.Pack1Ideal.main_v64)) (v11 : (c : Dev Cert.Pack1Ideal.nD) → Buf (Elt Ideal) ((c.tc : Thread Cert.Pack1Ideal.nD Cert.Pack1Ideal.τ).loc Cert.Pack1Ideal.main_v66)) (v12 : (c : Dev Cert.Pack1Ideal.nD) → Buf (Elt Ideal) ((c.tc : Thread Cert.Pack1Ideal.nD Cert.Pack1Ideal.τ).loc Cert.Pack1Ideal.main_v68)) (v13 : (c : Dev Cert.Pack1Ideal.nD) → Buf (Elt Ideal) ((c.tc : Thread Cert.Pack1Ideal.nD Cert.Pack1Ideal.τ).loc Cert.Pack1Ideal.main_v70)) (v14 : (c : Dev Cert.Pack1Ideal.nD) → Buf (Elt Ideal) ((c.tc : Thread Cert.Pack1Ideal.nD Cert.Pack1Ideal.τ).loc Cert.Pack1Ideal.main_v73)) (v15 : (c : Dev Cert.Pack1Ideal.nD) → Buf (Elt Ideal) ((c.tc : Thread Cert.Pack1Ideal.nD Cert.Pack1Ideal.τ).loc Cert.Pack1Ideal.main_v75)) (v16 : (c : Dev Cert.Pack1Ideal.nD) → Buf (Elt Ideal) ((c.tc : Thread Cert.Pack1Ideal.nD Cert.Pack1Ideal.τ).loc Cert.Pack1Ideal.main_v77)) (v17 : (c : Dev Cert.Pack1Ideal.nD) → Buf (Elt Ideal) ((c.tc : Thread Cert.Pack1Ideal.nD Cert.Pack1Ideal.τ).loc Cert.Pack1Ideal.main_v79)) (v18 : (c : Dev Cert.Pack1Ideal.nD) → Buf (Elt Ideal) ((c.tc : Thread Cert.Pack1Ideal.nD Cert.Pack1Ideal.τ).loc Cert.Pack1Ideal.main_v81)) (v19 : (c : Dev Cert.Pack1Ideal.nD) → Buf (Elt Ideal) ((c.tc : Thread Cert.Pack1Ideal.nD Cert.Pack1Ideal.τ).loc Cert.Pack1Ideal.main_v83)) (v20 : (c : Dev Cert.Pack1Ideal.nD) → Buf (Elt Ideal) ((c.tc : Thread Cert.Pack1Ideal.nD Cert.Pack1Ideal.τ).loc Cert.Pack1Ideal.main_v85)) (v21 : (c : Dev Cert.Pack1Ideal.nD) → Buf (Elt Ideal) ((c.tc : Thread Cert.Pack1Ideal.nD Cert.Pack1Ideal.τ).loc Cert.Pack1Ideal.main_v88)) (v22 : (c : Dev Cert.Pack1Ideal.nD) → Buf (Elt Ideal) ((c.tc : Thread Cert.Pack1Ideal.nD Cert.Pack1Ideal.τ).loc Cert.Pack1Ideal.main_v90)) (v23 : (c : Dev Cert.Pack1Ideal.nD) → Buf (Elt Ideal) ((c.tc : Thread Cert.Pack1Ideal.nD Cert.Pack1Ideal.τ).loc Cert.Pack1Ideal.main_v92)) (v24 : (c : Dev Cert.Pack1Ideal.nD) → Buf (Elt Ideal) ((c.tc : Thread Cert.Pack1Ideal.nD Cert.Pack1Ideal.τ).loc Cert.Pack1Ideal.main_v94)) (v25 : (c : Dev Cert.Pack1Ideal.nD) → Buf (Elt Ideal) ((c.tc : Thread Cert.Pack1Ideal.nD Cert.Pack1Ideal.τ).loc Cert.Pack1Ideal.main_v96)) (v26 : (c : Dev Cert.Pack1Ideal.nD) → Buf (Elt Ideal) ((c.tc : Thread Cert.Pack1Ideal.nD Cert.Pack1Ideal.τ).loc Cert.Pack1Ideal.main_v98)) (v27 : (c : Dev Cert.Pack1Ideal.nD) → Buf (Elt Ideal) ((c.tc : Thread Cert.Pack1Ideal.nD Cert.Pack1Ideal.τ).loc Cert.Pack1Ideal.main_v100)),
      θ_run (Cert.Pack1Ideal.defs (F := Ideal)) (onTc (τ := Cert.Pack1Ideal.τ) (Cert.Pack1Ideal.main (F := Ideal))) ⟨m, fun _ => 0, g⟩ (fun r => ∀ c : Dev Cert.Pack1Ideal.nD,
          r.2.mem ((c.tc : Thread Cert.Pack1Ideal.nD Cert.Pack1Ideal.τ).loc Cert.Pack1Ideal.main_v43) = v0 c
          ∧ r.2.mem ((c.tc : Thread Cert.Pack1Ideal.nD Cert.Pack1Ideal.τ).loc Cert.Pack1Ideal.main_v45) = v1 c
          ∧ r.2.mem ((c.tc : Thread Cert.Pack1Ideal.nD Cert.Pack1Ideal.τ).loc Cert.Pack1Ideal.main_v47) = v2 c
          ∧ r.2.mem ((c.tc : Thread Cert.Pack1Ideal.nD Cert.Pack1Ideal.τ).loc Cert.Pack1Ideal.main_v49) = v3 c
          ∧ r.2.mem ((c.tc : Thread Cert.Pack1Ideal.nD Cert.Pack1Ideal.τ).loc Cert.Pack1Ideal.main_v51) = v4 c
          ∧ r.2.mem ((c.tc : Thread Cert.Pack1Ideal.nD Cert.Pack1Ideal.τ).loc Cert.Pack1Ideal.main_v53) = v5 c
          ∧ r.2.mem ((c.tc : Thread Cert.Pack1Ideal.nD Cert.Pack1Ideal.τ).loc Cert.Pack1Ideal.main_v55) = v6 c
          ∧ r.2.mem ((c.tc : Thread Cert.Pack1Ideal.nD Cert.Pack1Ideal.τ).loc Cert.Pack1Ideal.main_v58) = v7 c
          ∧ r.2.mem ((c.tc : Thread Cert.Pack1Ideal.nD Cert.Pack1Ideal.τ).loc Cert.Pack1Ideal.main_v60) = v8 c
          ∧ r.2.mem ((c.tc : Thread Cert.Pack1Ideal.nD Cert.Pack1Ideal.τ).loc Cert.Pack1Ideal.main_v62) = v9 c
          ∧ r.2.mem ((c.tc : Thread Cert.Pack1Ideal.nD Cert.Pack1Ideal.τ).loc Cert.Pack1Ideal.main_v64) = v10 c
          ∧ r.2.mem ((c.tc : Thread Cert.Pack1Ideal.nD Cert.Pack1Ideal.τ).loc Cert.Pack1Ideal.main_v66) = v11 c
          ∧ r.2.mem ((c.tc : Thread Cert.Pack1Ideal.nD Cert.Pack1Ideal.τ).loc Cert.Pack1Ideal.main_v68) = v12 c
          ∧ r.2.mem ((c.tc : Thread Cert.Pack1Ideal.nD Cert.Pack1Ideal.τ).loc Cert.Pack1Ideal.main_v70) = v13 c
          ∧ r.2.mem ((c.tc : Thread Cert.Pack1Ideal.nD Cert.Pack1Ideal.τ).loc Cert.Pack1Ideal.main_v73) = v14 c
          ∧ r.2.mem ((c.tc : Thread Cert.Pack1Ideal.nD Cert.Pack1Ideal.τ).loc Cert.Pack1Ideal.main_v75) = v15 c
          ∧ r.2.mem ((c.tc : Thread Cert.Pack1Ideal.nD Cert.Pack1Ideal.τ).loc Cert.Pack1Ideal.main_v77) = v16 c
          ∧ r.2.mem ((c.tc : Thread Cert.Pack1Ideal.nD Cert.Pack1Ideal.τ).loc Cert.Pack1Ideal.main_v79) = v17 c
          ∧ r.2.mem ((c.tc : Thread Cert.Pack1Ideal.nD Cert.Pack1Ideal.τ).loc Cert.Pack1Ideal.main_v81) = v18 c
          ∧ r.2.mem ((c.tc : Thread Cert.Pack1Ideal.nD Cert.Pack1Ideal.τ).loc Cert.Pack1Ideal.main_v83) = v19 c
          ∧ r.2.mem ((c.tc : Thread Cert.Pack1Ideal.nD Cert.Pack1Ideal.τ).loc Cert.Pack1Ideal.main_v85) = v20 c
          ∧ r.2.mem ((c.tc : Thread Cert.Pack1Ideal.nD Cert.Pack1Ideal.τ).loc Cert.Pack1Ideal.main_v88) = v21 c
          ∧ r.2.mem ((c.tc : Thread Cert.Pack1Ideal.nD Cert.Pack1Ideal.τ).loc Cert.Pack1Ideal.main_v90) = v22 c
          ∧ r.2.mem ((c.tc : Thread Cert.Pack1Ideal.nD Cert.Pack1Ideal.τ).loc Cert.Pack1Ideal.main_v92) = v23 c
          ∧ r.2.mem ((c.tc : Thread Cert.Pack1Ideal.nD Cert.Pack1Ideal.τ).loc Cert.Pack1Ideal.main_v94) = v24 c
          ∧ r.2.mem ((c.tc : Thread Cert.Pack1Ideal.nD Cert.Pack1Ideal.τ).loc Cert.Pack1Ideal.main_v96) = v25 c
          ∧ r.2.mem ((c.tc : Thread Cert.Pack1Ideal.nD Cert.Pack1Ideal.τ).loc Cert.Pack1Ideal.main_v98) = v26 c
          ∧ r.2.mem ((c.tc : Thread Cert.Pack1Ideal.nD Cert.Pack1Ideal.τ).loc Cert.Pack1Ideal.main_v100) = v27 c
          ∧ r.2.mem ((c.tc : Thread Cert.Pack1Ideal.nD Cert.Pack1Ideal.τ).loc Cert.Pack1Ideal.main_arg0) = m ((c.tc : Thread Cert.Pack1Ideal.nD Cert.Pack1Ideal.τ).loc Cert.Pack1Ideal.main_arg0)
          ∧ r.2.mem ((c.tc : Thread Cert.Pack1Ideal.nD Cert.Pack1Ideal.τ).loc Cert.Pack1Ideal.main_arg1) = m ((c.tc : Thread Cert.Pack1Ideal.nD Cert.Pack1Ideal.τ).loc Cert.Pack1Ideal.main_arg1)
          ∧ r.2.mem ((c.tc : Thread Cert.Pack1Ideal.nD Cert.Pack1Ideal.τ).loc Cert.Pack1Ideal.main_arg2) = m ((c.tc : Thread Cert.Pack1Ideal.nD Cert.Pack1Ideal.τ).loc Cert.Pack1Ideal.main_arg2)
          ∧ r.2.mem ((c.tc : Thread Cert.Pack1Ideal.nD Cert.Pack1Ideal.τ).loc Cert.Pack1Ideal.main_arg3) = m ((c.tc : Thread Cert.Pack1Ideal.nD Cert.Pack1Ideal.τ).loc Cert.Pack1Ideal.main_arg3)
          ∧ r.2.mem ((c.tc : Thread Cert.Pack1Ideal.nD Cert.Pack1Ideal.τ).loc Cert.Pack1Ideal.main_arg4) = m ((c.tc : Thread Cert.Pack1Ideal.nD Cert.Pack1Ideal.τ).loc Cert.Pack1Ideal.main_arg4)
          ∧ r.2.mem ((c.tc : Thread Cert.Pack1Ideal.nD Cert.Pack1Ideal.τ).loc Cert.Pack1Ideal.main_arg5) = m ((c.tc : Thread Cert.Pack1Ideal.nD Cert.Pack1Ideal.τ).loc Cert.Pack1Ideal.main_arg5)
          ∧ r.2.mem ((c.tc : Thread Cert.Pack1Ideal.nD Cert.Pack1Ideal.τ).loc Cert.Pack1Ideal.main_arg6) = m ((c.tc : Thread Cert.Pack1Ideal.nD Cert.Pack1Ideal.τ).loc Cert.Pack1Ideal.main_arg6)
          ∧ r.2.mem ((c.tc : Thread Cert.Pack1Ideal.nD Cert.Pack1Ideal.τ).loc Cert.Pack1Ideal.main_arg7) = m ((c.tc : Thread Cert.Pack1Ideal.nD Cert.Pack1Ideal.τ).loc Cert.Pack1Ideal.main_arg7)
          ∧ r.2.mem ((c.tc : Thread Cert.Pack1Ideal.nD Cert.Pack1Ideal.τ).loc Cert.Pack1Ideal.main_arg8) = m ((c.tc : Thread Cert.Pack1Ideal.nD Cert.Pack1Ideal.τ).loc Cert.Pack1Ideal.main_arg8)
          ∧ r.2.mem ((c.tc : Thread Cert.Pack1Ideal.nD Cert.Pack1Ideal.τ).loc Cert.Pack1Ideal.main_arg9) = m ((c.tc : Thread Cert.Pack1Ideal.nD Cert.Pack1Ideal.τ).loc Cert.Pack1Ideal.main_arg9)
          ∧ r.2.mem ((c.tc : Thread Cert.Pack1Ideal.nD Cert.Pack1Ideal.τ).loc Cert.Pack1Ideal.main_arg10) = m ((c.tc : Thread Cert.Pack1Ideal.nD Cert.Pack1Ideal.τ).loc Cert.Pack1Ideal.main_arg10)
          ∧ r.2.mem ((c.tc : Thread Cert.Pack1Ideal.nD Cert.Pack1Ideal.τ).loc Cert.Pack1Ideal.main_arg11) = m ((c.tc : Thread Cert.Pack1Ideal.nD Cert.Pack1Ideal.τ).loc Cert.Pack1Ideal.main_arg11)
          ∧ r.2.mem ((c.tc : Thread Cert.Pack1Ideal.nD Cert.Pack1Ideal.τ).loc Cert.Pack1Ideal.main_arg12) = m ((c.tc : Thread Cert.Pack1Ideal.nD Cert.Pack1Ideal.τ).loc Cert.Pack1Ideal.main_arg12)
          ∧ r.2.mem ((c.tc : Thread Cert.Pack1Ideal.nD Cert.Pack1Ideal.τ).loc Cert.Pack1Ideal.main_arg13) = m ((c.tc : Thread Cert.Pack1Ideal.nD Cert.Pack1Ideal.τ).loc Cert.Pack1Ideal.main_arg13)
          ∧ r.2.mem ((c.tc : Thread Cert.Pack1Ideal.nD Cert.Pack1Ideal.τ).loc Cert.Pack1Ideal.main_arg14) = m ((c.tc : Thread Cert.Pack1Ideal.nD Cert.Pack1Ideal.τ).loc Cert.Pack1Ideal.main_arg14)
          ∧ r.2.mem ((c.tc : Thread Cert.Pack1Ideal.nD Cert.Pack1Ideal.τ).loc Cert.Pack1Ideal.main_arg15) = m ((c.tc : Thread Cert.Pack1Ideal.nD Cert.Pack1Ideal.τ).loc Cert.Pack1Ideal.main_arg15)
          ∧ r.2.mem ((c.tc : Thread Cert.Pack1Ideal.nD Cert.Pack1Ideal.τ).loc Cert.Pack1Ideal.main_arg16) = m ((c.tc : Thread Cert.Pack1Ideal.nD Cert.Pack1Ideal.τ).loc Cert.Pack1Ideal.main_arg16)
          ∧ r.2.mem ((c.tc : Thread Cert.Pack1Ideal.nD Cert.Pack1Ideal.τ).loc Cert.Pack1Ideal.main_arg17) = m ((c.tc : Thread Cert.Pack1Ideal.nD Cert.Pack1Ideal.τ).loc Cert.Pack1Ideal.main_arg17)
          ∧ r.2.mem ((c.tc : Thread Cert.Pack1Ideal.nD Cert.Pack1Ideal.τ).loc Cert.Pack1Ideal.main_arg18) = m ((c.tc : Thread Cert.Pack1Ideal.nD Cert.Pack1Ideal.τ).loc Cert.Pack1Ideal.main_arg18)
          ∧ r.2.mem ((c.tc : Thread Cert.Pack1Ideal.nD Cert.Pack1Ideal.τ).loc Cert.Pack1Ideal.main_arg19) = m ((c.tc : Thread Cert.Pack1Ideal.nD Cert.Pack1Ideal.τ).loc Cert.Pack1Ideal.main_arg19)
          ∧ r.2.mem ((c.tc : Thread Cert.Pack1Ideal.nD Cert.Pack1Ideal.τ).loc Cert.Pack1Ideal.main_arg20) = m ((c.tc : Thread Cert.Pack1Ideal.nD Cert.Pack1Ideal.τ).loc Cert.Pack1Ideal.main_arg20)
          ∧ r.2.mem ((c.tc : Thread Cert.Pack1Ideal.nD Cert.Pack1Ideal.τ).loc Cert.Pack1Ideal.main_arg21) = m ((c.tc : Thread Cert.Pack1Ideal.nD Cert.Pack1Ideal.τ).loc Cert.Pack1Ideal.main_arg21)
          ∧ r.2.mem ((c.tc : Thread Cert.Pack1Ideal.nD Cert.Pack1Ideal.τ).loc Cert.Pack1Ideal.main_arg22) = m ((c.tc : Thread Cert.Pack1Ideal.nD Cert.Pack1Ideal.τ).loc Cert.Pack1Ideal.main_arg22)
          ∧ r.2.mem ((c.tc : Thread Cert.Pack1Ideal.nD Cert.Pack1Ideal.τ).loc Cert.Pack1Ideal.main_arg23) = m ((c.tc : Thread Cert.Pack1Ideal.nD Cert.Pack1Ideal.τ).loc Cert.Pack1Ideal.main_arg23)
          ∧ r.2.mem ((c.tc : Thread Cert.Pack1Ideal.nD Cert.Pack1Ideal.τ).loc Cert.Pack1Ideal.main_arg24) = m ((c.tc : Thread Cert.Pack1Ideal.nD Cert.Pack1Ideal.τ).loc Cert.Pack1Ideal.main_arg24)
          ∧ r.2.mem ((c.tc : Thread Cert.Pack1Ideal.nD Cert.Pack1Ideal.τ).loc Cert.Pack1Ideal.main_arg25) = m ((c.tc : Thread Cert.Pack1Ideal.nD Cert.Pack1Ideal.τ).loc Cert.Pack1Ideal.main_arg25)
          ∧ r.2.mem ((c.tc : Thread Cert.Pack1Ideal.nD Cert.Pack1Ideal.τ).loc Cert.Pack1Ideal.main_arg26) = m ((c.tc : Thread Cert.Pack1Ideal.nD Cert.Pack1Ideal.τ).loc Cert.Pack1Ideal.main_arg26)
          ∧ r.2.mem ((c.tc : Thread Cert.Pack1Ideal.nD Cert.Pack1Ideal.τ).loc Cert.Pack1Ideal.main_arg27) = m ((c.tc : Thread Cert.Pack1Ideal.nD Cert.Pack1Ideal.τ).loc Cert.Pack1Ideal.main_arg27))
      ∧ θ_run (Cert.PackRef1Ideal.defs (F := Ideal)) (onTc (τ := Cert.PackRef1Ideal.τ) (Cert.PackRef1Ideal.main (F := Ideal))) ⟨m', fun _ => 0, g'⟩ (fun r => ∀ c : Dev Cert.PackRef1Ideal.nD,
          r.2.mem ((c.tc : Thread Cert.PackRef1Ideal.nD Cert.PackRef1Ideal.τ).loc Cert.PackRef1Ideal.main_v0) = v0 c
          ∧ r.2.mem ((c.tc : Thread Cert.PackRef1Ideal.nD Cert.PackRef1Ideal.τ).loc Cert.PackRef1Ideal.main_v1) = v1 c
          ∧ r.2.mem ((c.tc : Thread Cert.PackRef1Ideal.nD Cert.PackRef1Ideal.τ).loc Cert.PackRef1Ideal.main_v2) = v2 c
          ∧ r.2.mem ((c.tc : Thread Cert.PackRef1Ideal.nD Cert.PackRef1Ideal.τ).loc Cert.PackRef1Ideal.main_v3) = v3 c
          ∧ r.2.mem ((c.tc : Thread Cert.PackRef1Ideal.nD Cert.PackRef1Ideal.τ).loc Cert.PackRef1Ideal.main_v4) = v4 c
          ∧ r.2.mem ((c.tc : Thread Cert.PackRef1Ideal.nD Cert.PackRef1Ideal.τ).loc Cert.PackRef1Ideal.main_v5) = v5 c
          ∧ r.2.mem ((c.tc : Thread Cert.PackRef1Ideal.nD Cert.PackRef1Ideal.τ).loc Cert.PackRef1Ideal.main_v6) = v6 c
          ∧ r.2.mem ((c.tc : Thread Cert.PackRef1Ideal.nD Cert.PackRef1Ideal.τ).loc Cert.PackRef1Ideal.main_v30) = v7 c
          ∧ r.2.mem ((c.tc : Thread Cert.PackRef1Ideal.nD Cert.PackRef1Ideal.τ).loc Cert.PackRef1Ideal.main_v54) = v8 c
          ∧ r.2.mem ((c.tc : Thread Cert.PackRef1Ideal.nD Cert.PackRef1Ideal.τ).loc Cert.PackRef1Ideal.main_v78) = v9 c
          ∧ r.2.mem ((c.tc : Thread Cert.PackRef1Ideal.nD Cert.PackRef1Ideal.τ).loc Cert.PackRef1Ideal.main_v102) = v10 c
          ∧ r.2.mem ((c.tc : Thread Cert.PackRef1Ideal.nD Cert.PackRef1Ideal.τ).loc Cert.PackRef1Ideal.main_v126) = v11 c
          ∧ r.2.mem ((c.tc : Thread Cert.PackRef1Ideal.nD Cert.PackRef1Ideal.τ).loc Cert.PackRef1Ideal.main_v150) = v12 c
          ∧ r.2.mem ((c.tc : Thread Cert.PackRef1Ideal.nD Cert.PackRef1Ideal.τ).loc Cert.PackRef1Ideal.main_v174) = v13 c
          ∧ r.2.mem ((c.tc : Thread Cert.PackRef1Ideal.nD Cert.PackRef1Ideal.τ).loc Cert.PackRef1Ideal.main_v11) = v14 c
          ∧ r.2.mem ((c.tc : Thread Cert.PackRef1Ideal.nD Cert.PackRef1Ideal.τ).loc Cert.PackRef1Ideal.main_v35) = v15 c
          ∧ r.2.mem ((c.tc : Thread Cert.PackRef1Ideal.nD Cert.PackRef1Ideal.τ).loc Cert.PackRef1Ideal.main_v59) = v16 c
          ∧ r.2.mem ((c.tc : Thread Cert.PackRef1Ideal.nD Cert.PackRef1Ideal.τ).loc Cert.PackRef1Ideal.main_v83) = v17 c
          ∧ r.2.mem ((c.tc : Thread Cert.PackRef1Ideal.nD Cert.PackRef1Ideal.τ).loc Cert.PackRef1Ideal.main_v107) = v18 c
          ∧ r.2.mem ((c.tc : Thread Cert.PackRef1Ideal.nD Cert.PackRef1Ideal.τ).loc Cert.PackRef1Ideal.main_v131) = v19 c
          ∧ r.2.mem ((c.tc : Thread Cert.PackRef1Ideal.nD Cert.PackRef1Ideal.τ).loc Cert.PackRef1Ideal.main_v155) = v20 c
          ∧ r.2.mem ((c.tc : Thread Cert.PackRef1Ideal.nD Cert.PackRef1Ideal.τ).loc Cert.PackRef1Ideal.main_v17) = v21 c
          ∧ r.2.mem ((c.tc : Thread Cert.PackRef1Ideal.nD Cert.PackRef1Ideal.τ).loc Cert.PackRef1Ideal.main_v41) = v22 c
          ∧ r.2.mem ((c.tc : Thread Cert.PackRef1Ideal.nD Cert.PackRef1Ideal.τ).loc Cert.PackRef1Ideal.main_v65) = v23 c
          ∧ r.2.mem ((c.tc : Thread Cert.PackRef1Ideal.nD Cert.PackRef1Ideal.τ).loc Cert.PackRef1Ideal.main_v89) = v24 c
          ∧ r.2.mem ((c.tc : Thread Cert.PackRef1Ideal.nD Cert.PackRef1Ideal.τ).loc Cert.PackRef1Ideal.main_v113) = v25 c
          ∧ r.2.mem ((c.tc : Thread Cert.PackRef1Ideal.nD Cert.PackRef1Ideal.τ).loc Cert.PackRef1Ideal.main_v137) = v26 c
          ∧ r.2.mem ((c.tc : Thread Cert.PackRef1Ideal.nD Cert.PackRef1Ideal.τ).loc Cert.PackRef1Ideal.main_v161) = v27 c
          ∧ r.2.mem ((c.tc : Thread Cert.PackRef1Ideal.nD Cert.PackRef1Ideal.τ).loc Cert.PackRef1Ideal.main_arg0) = m' ((c.tc : Thread Cert.PackRef1Ideal.nD Cert.PackRef1Ideal.τ).loc Cert.PackRef1Ideal.main_arg0)
          ∧ r.2.mem ((c.tc : Thread Cert.PackRef1Ideal.nD Cert.PackRef1Ideal.τ).loc Cert.PackRef1Ideal.main_arg1) = m' ((c.tc : Thread Cert.PackRef1Ideal.nD Cert.PackRef1Ideal.τ).loc Cert.PackRef1Ideal.main_arg1)
          ∧ r.2.mem ((c.tc : Thread Cert.PackRef1Ideal.nD Cert.PackRef1Ideal.τ).loc Cert.PackRef1Ideal.main_arg2) = m' ((c.tc : Thread Cert.PackRef1Ideal.nD Cert.PackRef1Ideal.τ).loc Cert.PackRef1Ideal.main_arg2)
          ∧ r.2.mem ((c.tc : Thread Cert.PackRef1Ideal.nD Cert.PackRef1Ideal.τ).loc Cert.PackRef1Ideal.main_arg3) = m' ((c.tc : Thread Cert.PackRef1Ideal.nD Cert.PackRef1Ideal.τ).loc Cert.PackRef1Ideal.main_arg3)
          ∧ r.2.mem ((c.tc : Thread Cert.PackRef1Ideal.nD Cert.PackRef1Ideal.τ).loc Cert.PackRef1Ideal.main_arg4) = m' ((c.tc : Thread Cert.PackRef1Ideal.nD Cert.PackRef1Ideal.τ).loc Cert.PackRef1Ideal.main_arg4)
          ∧ r.2.mem ((c.tc : Thread Cert.PackRef1Ideal.nD Cert.PackRef1Ideal.τ).loc Cert.PackRef1Ideal.main_arg5) = m' ((c.tc : Thread Cert.PackRef1Ideal.nD Cert.PackRef1Ideal.τ).loc Cert.PackRef1Ideal.main_arg5)
          ∧ r.2.mem ((c.tc : Thread Cert.PackRef1Ideal.nD Cert.PackRef1Ideal.τ).loc Cert.PackRef1Ideal.main_arg6) = m' ((c.tc : Thread Cert.PackRef1Ideal.nD Cert.PackRef1Ideal.τ).loc Cert.PackRef1Ideal.main_arg6)
          ∧ r.2.mem ((c.tc : Thread Cert.PackRef1Ideal.nD Cert.PackRef1Ideal.τ).loc Cert.PackRef1Ideal.main_arg7) = m' ((c.tc : Thread Cert.PackRef1Ideal.nD Cert.PackRef1Ideal.τ).loc Cert.PackRef1Ideal.main_arg7)
          ∧ r.2.mem ((c.tc : Thread Cert.PackRef1Ideal.nD Cert.PackRef1Ideal.τ).loc Cert.PackRef1Ideal.main_arg8) = m' ((c.tc : Thread Cert.PackRef1Ideal.nD Cert.PackRef1Ideal.τ).loc Cert.PackRef1Ideal.main_arg8)
          ∧ r.2.mem ((c.tc : Thread Cert.PackRef1Ideal.nD Cert.PackRef1Ideal.τ).loc Cert.PackRef1Ideal.main_arg9) = m' ((c.tc : Thread Cert.PackRef1Ideal.nD Cert.PackRef1Ideal.τ).loc Cert.PackRef1Ideal.main_arg9)
          ∧ r.2.mem ((c.tc : Thread Cert.PackRef1Ideal.nD Cert.PackRef1Ideal.τ).loc Cert.PackRef1Ideal.main_arg10) = m' ((c.tc : Thread Cert.PackRef1Ideal.nD Cert.PackRef1Ideal.τ).loc Cert.PackRef1Ideal.main_arg10)
          ∧ r.2.mem ((c.tc : Thread Cert.PackRef1Ideal.nD Cert.PackRef1Ideal.τ).loc Cert.PackRef1Ideal.main_arg11) = m' ((c.tc : Thread Cert.PackRef1Ideal.nD Cert.PackRef1Ideal.τ).loc Cert.PackRef1Ideal.main_arg11)
          ∧ r.2.mem ((c.tc : Thread Cert.PackRef1Ideal.nD Cert.PackRef1Ideal.τ).loc Cert.PackRef1Ideal.main_arg12) = m' ((c.tc : Thread Cert.PackRef1Ideal.nD Cert.PackRef1Ideal.τ).loc Cert.PackRef1Ideal.main_arg12)
          ∧ r.2.mem ((c.tc : Thread Cert.PackRef1Ideal.nD Cert.PackRef1Ideal.τ).loc Cert.PackRef1Ideal.main_arg13) = m' ((c.tc : Thread Cert.PackRef1Ideal.nD Cert.PackRef1Ideal.τ).loc Cert.PackRef1Ideal.main_arg13)
          ∧ r.2.mem ((c.tc : Thread Cert.PackRef1Ideal.nD Cert.PackRef1Ideal.τ).loc Cert.PackRef1Ideal.main_arg14) = m' ((c.tc : Thread Cert.PackRef1Ideal.nD Cert.PackRef1Ideal.τ).loc Cert.PackRef1Ideal.main_arg14)
          ∧ r.2.mem ((c.tc : Thread Cert.PackRef1Ideal.nD Cert.PackRef1Ideal.τ).loc Cert.PackRef1Ideal.main_arg15) = m' ((c.tc : Thread Cert.PackRef1Ideal.nD Cert.PackRef1Ideal.τ).loc Cert.PackRef1Ideal.main_arg15)
          ∧ r.2.mem ((c.tc : Thread Cert.PackRef1Ideal.nD Cert.PackRef1Ideal.τ).loc Cert.PackRef1Ideal.main_arg16) = m' ((c.tc : Thread Cert.PackRef1Ideal.nD Cert.PackRef1Ideal.τ).loc Cert.PackRef1Ideal.main_arg16)
          ∧ r.2.mem ((c.tc : Thread Cert.PackRef1Ideal.nD Cert.PackRef1Ideal.τ).loc Cert.PackRef1Ideal.main_arg17) = m' ((c.tc : Thread Cert.PackRef1Ideal.nD Cert.PackRef1Ideal.τ).loc Cert.PackRef1Ideal.main_arg17)
          ∧ r.2.mem ((c.tc : Thread Cert.PackRef1Ideal.nD Cert.PackRef1Ideal.τ).loc Cert.PackRef1Ideal.main_arg18) = m' ((c.tc : Thread Cert.PackRef1Ideal.nD Cert.PackRef1Ideal.τ).loc Cert.PackRef1Ideal.main_arg18)
          ∧ r.2.mem ((c.tc : Thread Cert.PackRef1Ideal.nD Cert.PackRef1Ideal.τ).loc Cert.PackRef1Ideal.main_arg19) = m' ((c.tc : Thread Cert.PackRef1Ideal.nD Cert.PackRef1Ideal.τ).loc Cert.PackRef1Ideal.main_arg19)
          ∧ r.2.mem ((c.tc : Thread Cert.PackRef1Ideal.nD Cert.PackRef1Ideal.τ).loc Cert.PackRef1Ideal.main_arg20) = m' ((c.tc : Thread Cert.PackRef1Ideal.nD Cert.PackRef1Ideal.τ).loc Cert.PackRef1Ideal.main_arg20)
          ∧ r.2.mem ((c.tc : Thread Cert.PackRef1Ideal.nD Cert.PackRef1Ideal.τ).loc Cert.PackRef1Ideal.main_arg21) = m' ((c.tc : Thread Cert.PackRef1Ideal.nD Cert.PackRef1Ideal.τ).loc Cert.PackRef1Ideal.main_arg21)
          ∧ r.2.mem ((c.tc : Thread Cert.PackRef1Ideal.nD Cert.PackRef1Ideal.τ).loc Cert.PackRef1Ideal.main_arg22) = m' ((c.tc : Thread Cert.PackRef1Ideal.nD Cert.PackRef1Ideal.τ).loc Cert.PackRef1Ideal.main_arg22)
          ∧ r.2.mem ((c.tc : Thread Cert.PackRef1Ideal.nD Cert.PackRef1Ideal.τ).loc Cert.PackRef1Ideal.main_arg23) = m' ((c.tc : Thread Cert.PackRef1Ideal.nD Cert.PackRef1Ideal.τ).loc Cert.PackRef1Ideal.main_arg23)
          ∧ r.2.mem ((c.tc : Thread Cert.PackRef1Ideal.nD Cert.PackRef1Ideal.τ).loc Cert.PackRef1Ideal.main_arg24) = m' ((c.tc : Thread Cert.PackRef1Ideal.nD Cert.PackRef1Ideal.τ).loc Cert.PackRef1Ideal.main_arg24)
          ∧ r.2.mem ((c.tc : Thread Cert.PackRef1Ideal.nD Cert.PackRef1Ideal.τ).loc Cert.PackRef1Ideal.main_arg25) = m' ((c.tc : Thread Cert.PackRef1Ideal.nD Cert.PackRef1Ideal.τ).loc Cert.PackRef1Ideal.main_arg25)
          ∧ r.2.mem ((c.tc : Thread Cert.PackRef1Ideal.nD Cert.PackRef1Ideal.τ).loc Cert.PackRef1Ideal.main_arg26) = m' ((c.tc : Thread Cert.PackRef1Ideal.nD Cert.PackRef1Ideal.τ).loc Cert.PackRef1Ideal.main_arg26)
          ∧ r.2.mem ((c.tc : Thread Cert.PackRef1Ideal.nD Cert.PackRef1Ideal.τ).loc Cert.PackRef1Ideal.main_arg27) = m' ((c.tc : Thread Cert.PackRef1Ideal.nD Cert.PackRef1Ideal.τ).loc Cert.PackRef1Ideal.main_arg27))

def preserves_Pack2_Pack2Ideal : Prop :=
  IdealRules.named_const.Statement Cert.Pack2Ideal.κ "c1" .f32 0x3FC48605#32 ((8388608 / 5463681 : ℝ) : EReal)
  ∧ IdealRules.named_const.Statement Cert.Pack2Ideal.κ "c2" .f32 0x42C8E6D3#32 ((268435456 / 2672307 : ℝ) : EReal)

def algebraic_Pack2Ideal_PackRef2Ideal [hPack2Ideal : Cert.Pack2Ideal.Facts] [hPackRef2Ideal : Cert.PackRef2Ideal.Facts] : Prop :=
  ∀ (m : (ℓ : Loc Cert.Pack2Ideal.nD Cert.Pack2Ideal.τ Cert.Pack2Ideal.sig) → Buf (Elt Ideal) ℓ) (g : Dev Cert.Pack2Ideal.nD → PrngReg)
    (m' : (ℓ : Loc Cert.PackRef2Ideal.nD Cert.PackRef2Ideal.τ Cert.PackRef2Ideal.sig) → Buf (Elt Ideal) ℓ) (g' : Dev Cert.PackRef2Ideal.nD → PrngReg), Pre_Pack2Ideal m →
    (∀ c : Dev Cert.Pack2Ideal.nD,
      m' ((c.tc : Thread Cert.PackRef2Ideal.nD Cert.PackRef2Ideal.τ).loc Cert.PackRef2Ideal.main_arg0) = m ((c.tc : Thread Cert.Pack2Ideal.nD Cert.Pack2Ideal.τ).loc Cert.Pack2Ideal.main_arg0)
      ∧ m' ((c.tc : Thread Cert.PackRef2Ideal.nD Cert.PackRef2Ideal.τ).loc Cert.PackRef2Ideal.main_arg1) = m ((c.tc : Thread Cert.Pack2Ideal.nD Cert.Pack2Ideal.τ).loc Cert.Pack2Ideal.main_arg1)
      ∧ m' ((c.tc : Thread Cert.PackRef2Ideal.nD Cert.PackRef2Ideal.τ).loc Cert.PackRef2Ideal.main_arg2) = m ((c.tc : Thread Cert.Pack2Ideal.nD Cert.Pack2Ideal.τ).loc Cert.Pack2Ideal.main_arg2)
      ∧ m' ((c.tc : Thread Cert.PackRef2Ideal.nD Cert.PackRef2Ideal.τ).loc Cert.PackRef2Ideal.main_arg3) = m ((c.tc : Thread Cert.Pack2Ideal.nD Cert.Pack2Ideal.τ).loc Cert.Pack2Ideal.main_arg3)
      ∧ m' ((c.tc : Thread Cert.PackRef2Ideal.nD Cert.PackRef2Ideal.τ).loc Cert.PackRef2Ideal.main_arg4) = m ((c.tc : Thread Cert.Pack2Ideal.nD Cert.Pack2Ideal.τ).loc Cert.Pack2Ideal.main_arg4)
      ∧ m' ((c.tc : Thread Cert.PackRef2Ideal.nD Cert.PackRef2Ideal.τ).loc Cert.PackRef2Ideal.main_arg5) = m ((c.tc : Thread Cert.Pack2Ideal.nD Cert.Pack2Ideal.τ).loc Cert.Pack2Ideal.main_arg5)
      ∧ m' ((c.tc : Thread Cert.PackRef2Ideal.nD Cert.PackRef2Ideal.τ).loc Cert.PackRef2Ideal.main_arg6) = m ((c.tc : Thread Cert.Pack2Ideal.nD Cert.Pack2Ideal.τ).loc Cert.Pack2Ideal.main_arg6)
      ∧ m' ((c.tc : Thread Cert.PackRef2Ideal.nD Cert.PackRef2Ideal.τ).loc Cert.PackRef2Ideal.main_arg7) = m ((c.tc : Thread Cert.Pack2Ideal.nD Cert.Pack2Ideal.τ).loc Cert.Pack2Ideal.main_arg7)
      ∧ m' ((c.tc : Thread Cert.PackRef2Ideal.nD Cert.PackRef2Ideal.τ).loc Cert.PackRef2Ideal.main_arg8) = m ((c.tc : Thread Cert.Pack2Ideal.nD Cert.Pack2Ideal.τ).loc Cert.Pack2Ideal.main_arg8)
      ∧ m' ((c.tc : Thread Cert.PackRef2Ideal.nD Cert.PackRef2Ideal.τ).loc Cert.PackRef2Ideal.main_arg9) = m ((c.tc : Thread Cert.Pack2Ideal.nD Cert.Pack2Ideal.τ).loc Cert.Pack2Ideal.main_arg9)
      ∧ m' ((c.tc : Thread Cert.PackRef2Ideal.nD Cert.PackRef2Ideal.τ).loc Cert.PackRef2Ideal.main_arg10) = m ((c.tc : Thread Cert.Pack2Ideal.nD Cert.Pack2Ideal.τ).loc Cert.Pack2Ideal.main_arg10)
      ∧ m' ((c.tc : Thread Cert.PackRef2Ideal.nD Cert.PackRef2Ideal.τ).loc Cert.PackRef2Ideal.main_arg11) = m ((c.tc : Thread Cert.Pack2Ideal.nD Cert.Pack2Ideal.τ).loc Cert.Pack2Ideal.main_arg11)
      ∧ m' ((c.tc : Thread Cert.PackRef2Ideal.nD Cert.PackRef2Ideal.τ).loc Cert.PackRef2Ideal.main_arg12) = m ((c.tc : Thread Cert.Pack2Ideal.nD Cert.Pack2Ideal.τ).loc Cert.Pack2Ideal.main_arg12)
      ∧ m' ((c.tc : Thread Cert.PackRef2Ideal.nD Cert.PackRef2Ideal.τ).loc Cert.PackRef2Ideal.main_arg13) = m ((c.tc : Thread Cert.Pack2Ideal.nD Cert.Pack2Ideal.τ).loc Cert.Pack2Ideal.main_arg13)
      ∧ m' ((c.tc : Thread Cert.PackRef2Ideal.nD Cert.PackRef2Ideal.τ).loc Cert.PackRef2Ideal.main_arg14) = m ((c.tc : Thread Cert.Pack2Ideal.nD Cert.Pack2Ideal.τ).loc Cert.Pack2Ideal.main_arg14)
      ∧ m' ((c.tc : Thread Cert.PackRef2Ideal.nD Cert.PackRef2Ideal.τ).loc Cert.PackRef2Ideal.main_arg15) = m ((c.tc : Thread Cert.Pack2Ideal.nD Cert.Pack2Ideal.τ).loc Cert.Pack2Ideal.main_arg15)
      ∧ m' ((c.tc : Thread Cert.PackRef2Ideal.nD Cert.PackRef2Ideal.τ).loc Cert.PackRef2Ideal.main_arg16) = m ((c.tc : Thread Cert.Pack2Ideal.nD Cert.Pack2Ideal.τ).loc Cert.Pack2Ideal.main_arg16)) →
    ∃ (v0 : (c : Dev Cert.Pack2Ideal.nD) → Buf (Elt Ideal) ((c.tc : Thread Cert.Pack2Ideal.nD Cert.Pack2Ideal.τ).loc Cert.Pack2Ideal.main_v27)) (v1 : (c : Dev Cert.Pack2Ideal.nD) → Buf (Elt Ideal) ((c.tc : Thread Cert.Pack2Ideal.nD Cert.Pack2Ideal.τ).loc Cert.Pack2Ideal.main_v29)) (v2 : (c : Dev Cert.Pack2Ideal.nD) → Buf (Elt Ideal) ((c.tc : Thread Cert.Pack2Ideal.nD Cert.Pack2Ideal.τ).loc Cert.Pack2Ideal.main_v31)) (v3 : (c : Dev Cert.Pack2Ideal.nD) → Buf (Elt Ideal) ((c.tc : Thread Cert.Pack2Ideal.nD Cert.Pack2Ideal.τ).loc Cert.Pack2Ideal.main_v32)) (v4 : (c : Dev Cert.Pack2Ideal.nD) → Buf (Elt Ideal) ((c.tc : Thread Cert.Pack2Ideal.nD Cert.Pack2Ideal.τ).loc Cert.Pack2Ideal.main_v35)) (v5 : (c : Dev Cert.Pack2Ideal.nD) → Buf (Elt Ideal) ((c.tc : Thread Cert.Pack2Ideal.nD Cert.Pack2Ideal.τ).loc Cert.Pack2Ideal.main_v37)) (v6 : (c : Dev Cert.Pack2Ideal.nD) → Buf (Elt Ideal) ((c.tc : Thread Cert.Pack2Ideal.nD Cert.Pack2Ideal.τ).loc Cert.Pack2Ideal.main_v39)) (v7 : (c : Dev Cert.Pack2Ideal.nD) → Buf (Elt Ideal) ((c.tc : Thread Cert.Pack2Ideal.nD Cert.Pack2Ideal.τ).loc Cert.Pack2Ideal.main_v40)) (v8 : (c : Dev Cert.Pack2Ideal.nD) → Buf (Elt Ideal) ((c.tc : Thread Cert.Pack2Ideal.nD Cert.Pack2Ideal.τ).loc Cert.Pack2Ideal.main_v43)) (v9 : (c : Dev Cert.Pack2Ideal.nD) → Buf (Elt Ideal) ((c.tc : Thread Cert.Pack2Ideal.nD Cert.Pack2Ideal.τ).loc Cert.Pack2Ideal.main_v45)) (v10 : (c : Dev Cert.Pack2Ideal.nD) → Buf (Elt Ideal) ((c.tc : Thread Cert.Pack2Ideal.nD Cert.Pack2Ideal.τ).loc Cert.Pack2Ideal.main_v47)) (v11 : (c : Dev Cert.Pack2Ideal.nD) → Buf (Elt Ideal) ((c.tc : Thread Cert.Pack2Ideal.nD Cert.Pack2Ideal.τ).loc Cert.Pack2Ideal.main_v48)) (v12 : (c : Dev Cert.Pack2Ideal.nD) → Buf (Elt Ideal) ((c.tc : Thread Cert.Pack2Ideal.nD Cert.Pack2Ideal.τ).loc Cert.Pack2Ideal.main_v51)) (v13 : (c : Dev Cert.Pack2Ideal.nD) → Buf (Elt Ideal) ((c.tc : Thread Cert.Pack2Ideal.nD Cert.Pack2Ideal.τ).loc Cert.Pack2Ideal.main_v53)) (v14 : (c : Dev Cert.Pack2Ideal.nD) → Buf (Elt Ideal) ((c.tc : Thread Cert.Pack2Ideal.nD Cert.Pack2Ideal.τ).loc Cert.Pack2Ideal.main_v55)) (v15 : (c : Dev Cert.Pack2Ideal.nD) → Buf (Elt Ideal) ((c.tc : Thread Cert.Pack2Ideal.nD Cert.Pack2Ideal.τ).loc Cert.Pack2Ideal.main_v56)),
      θ_run (Cert.Pack2Ideal.defs (F := Ideal)) (onTc (τ := Cert.Pack2Ideal.τ) (Cert.Pack2Ideal.main (F := Ideal))) ⟨m, fun _ => 0, g⟩ (fun r => ∀ c : Dev Cert.Pack2Ideal.nD,
          r.2.mem ((c.tc : Thread Cert.Pack2Ideal.nD Cert.Pack2Ideal.τ).loc Cert.Pack2Ideal.main_v27) = v0 c
          ∧ r.2.mem ((c.tc : Thread Cert.Pack2Ideal.nD Cert.Pack2Ideal.τ).loc Cert.Pack2Ideal.main_v29) = v1 c
          ∧ r.2.mem ((c.tc : Thread Cert.Pack2Ideal.nD Cert.Pack2Ideal.τ).loc Cert.Pack2Ideal.main_v31) = v2 c
          ∧ r.2.mem ((c.tc : Thread Cert.Pack2Ideal.nD Cert.Pack2Ideal.τ).loc Cert.Pack2Ideal.main_v32) = v3 c
          ∧ r.2.mem ((c.tc : Thread Cert.Pack2Ideal.nD Cert.Pack2Ideal.τ).loc Cert.Pack2Ideal.main_v35) = v4 c
          ∧ r.2.mem ((c.tc : Thread Cert.Pack2Ideal.nD Cert.Pack2Ideal.τ).loc Cert.Pack2Ideal.main_v37) = v5 c
          ∧ r.2.mem ((c.tc : Thread Cert.Pack2Ideal.nD Cert.Pack2Ideal.τ).loc Cert.Pack2Ideal.main_v39) = v6 c
          ∧ r.2.mem ((c.tc : Thread Cert.Pack2Ideal.nD Cert.Pack2Ideal.τ).loc Cert.Pack2Ideal.main_v40) = v7 c
          ∧ r.2.mem ((c.tc : Thread Cert.Pack2Ideal.nD Cert.Pack2Ideal.τ).loc Cert.Pack2Ideal.main_v43) = v8 c
          ∧ r.2.mem ((c.tc : Thread Cert.Pack2Ideal.nD Cert.Pack2Ideal.τ).loc Cert.Pack2Ideal.main_v45) = v9 c
          ∧ r.2.mem ((c.tc : Thread Cert.Pack2Ideal.nD Cert.Pack2Ideal.τ).loc Cert.Pack2Ideal.main_v47) = v10 c
          ∧ r.2.mem ((c.tc : Thread Cert.Pack2Ideal.nD Cert.Pack2Ideal.τ).loc Cert.Pack2Ideal.main_v48) = v11 c
          ∧ r.2.mem ((c.tc : Thread Cert.Pack2Ideal.nD Cert.Pack2Ideal.τ).loc Cert.Pack2Ideal.main_v51) = v12 c
          ∧ r.2.mem ((c.tc : Thread Cert.Pack2Ideal.nD Cert.Pack2Ideal.τ).loc Cert.Pack2Ideal.main_v53) = v13 c
          ∧ r.2.mem ((c.tc : Thread Cert.Pack2Ideal.nD Cert.Pack2Ideal.τ).loc Cert.Pack2Ideal.main_v55) = v14 c
          ∧ r.2.mem ((c.tc : Thread Cert.Pack2Ideal.nD Cert.Pack2Ideal.τ).loc Cert.Pack2Ideal.main_v56) = v15 c
          ∧ r.2.mem ((c.tc : Thread Cert.Pack2Ideal.nD Cert.Pack2Ideal.τ).loc Cert.Pack2Ideal.main_arg0) = m ((c.tc : Thread Cert.Pack2Ideal.nD Cert.Pack2Ideal.τ).loc Cert.Pack2Ideal.main_arg0)
          ∧ r.2.mem ((c.tc : Thread Cert.Pack2Ideal.nD Cert.Pack2Ideal.τ).loc Cert.Pack2Ideal.main_arg1) = m ((c.tc : Thread Cert.Pack2Ideal.nD Cert.Pack2Ideal.τ).loc Cert.Pack2Ideal.main_arg1)
          ∧ r.2.mem ((c.tc : Thread Cert.Pack2Ideal.nD Cert.Pack2Ideal.τ).loc Cert.Pack2Ideal.main_arg2) = m ((c.tc : Thread Cert.Pack2Ideal.nD Cert.Pack2Ideal.τ).loc Cert.Pack2Ideal.main_arg2)
          ∧ r.2.mem ((c.tc : Thread Cert.Pack2Ideal.nD Cert.Pack2Ideal.τ).loc Cert.Pack2Ideal.main_arg3) = m ((c.tc : Thread Cert.Pack2Ideal.nD Cert.Pack2Ideal.τ).loc Cert.Pack2Ideal.main_arg3)
          ∧ r.2.mem ((c.tc : Thread Cert.Pack2Ideal.nD Cert.Pack2Ideal.τ).loc Cert.Pack2Ideal.main_arg4) = m ((c.tc : Thread Cert.Pack2Ideal.nD Cert.Pack2Ideal.τ).loc Cert.Pack2Ideal.main_arg4)
          ∧ r.2.mem ((c.tc : Thread Cert.Pack2Ideal.nD Cert.Pack2Ideal.τ).loc Cert.Pack2Ideal.main_arg5) = m ((c.tc : Thread Cert.Pack2Ideal.nD Cert.Pack2Ideal.τ).loc Cert.Pack2Ideal.main_arg5)
          ∧ r.2.mem ((c.tc : Thread Cert.Pack2Ideal.nD Cert.Pack2Ideal.τ).loc Cert.Pack2Ideal.main_arg6) = m ((c.tc : Thread Cert.Pack2Ideal.nD Cert.Pack2Ideal.τ).loc Cert.Pack2Ideal.main_arg6)
          ∧ r.2.mem ((c.tc : Thread Cert.Pack2Ideal.nD Cert.Pack2Ideal.τ).loc Cert.Pack2Ideal.main_arg7) = m ((c.tc : Thread Cert.Pack2Ideal.nD Cert.Pack2Ideal.τ).loc Cert.Pack2Ideal.main_arg7)
          ∧ r.2.mem ((c.tc : Thread Cert.Pack2Ideal.nD Cert.Pack2Ideal.τ).loc Cert.Pack2Ideal.main_arg8) = m ((c.tc : Thread Cert.Pack2Ideal.nD Cert.Pack2Ideal.τ).loc Cert.Pack2Ideal.main_arg8)
          ∧ r.2.mem ((c.tc : Thread Cert.Pack2Ideal.nD Cert.Pack2Ideal.τ).loc Cert.Pack2Ideal.main_arg9) = m ((c.tc : Thread Cert.Pack2Ideal.nD Cert.Pack2Ideal.τ).loc Cert.Pack2Ideal.main_arg9)
          ∧ r.2.mem ((c.tc : Thread Cert.Pack2Ideal.nD Cert.Pack2Ideal.τ).loc Cert.Pack2Ideal.main_arg10) = m ((c.tc : Thread Cert.Pack2Ideal.nD Cert.Pack2Ideal.τ).loc Cert.Pack2Ideal.main_arg10)
          ∧ r.2.mem ((c.tc : Thread Cert.Pack2Ideal.nD Cert.Pack2Ideal.τ).loc Cert.Pack2Ideal.main_arg11) = m ((c.tc : Thread Cert.Pack2Ideal.nD Cert.Pack2Ideal.τ).loc Cert.Pack2Ideal.main_arg11)
          ∧ r.2.mem ((c.tc : Thread Cert.Pack2Ideal.nD Cert.Pack2Ideal.τ).loc Cert.Pack2Ideal.main_arg12) = m ((c.tc : Thread Cert.Pack2Ideal.nD Cert.Pack2Ideal.τ).loc Cert.Pack2Ideal.main_arg12)
          ∧ r.2.mem ((c.tc : Thread Cert.Pack2Ideal.nD Cert.Pack2Ideal.τ).loc Cert.Pack2Ideal.main_arg13) = m ((c.tc : Thread Cert.Pack2Ideal.nD Cert.Pack2Ideal.τ).loc Cert.Pack2Ideal.main_arg13)
          ∧ r.2.mem ((c.tc : Thread Cert.Pack2Ideal.nD Cert.Pack2Ideal.τ).loc Cert.Pack2Ideal.main_arg14) = m ((c.tc : Thread Cert.Pack2Ideal.nD Cert.Pack2Ideal.τ).loc Cert.Pack2Ideal.main_arg14)
          ∧ r.2.mem ((c.tc : Thread Cert.Pack2Ideal.nD Cert.Pack2Ideal.τ).loc Cert.Pack2Ideal.main_arg15) = m ((c.tc : Thread Cert.Pack2Ideal.nD Cert.Pack2Ideal.τ).loc Cert.Pack2Ideal.main_arg15)
          ∧ r.2.mem ((c.tc : Thread Cert.Pack2Ideal.nD Cert.Pack2Ideal.τ).loc Cert.Pack2Ideal.main_arg16) = m ((c.tc : Thread Cert.Pack2Ideal.nD Cert.Pack2Ideal.τ).loc Cert.Pack2Ideal.main_arg16))
      ∧ θ_run (Cert.PackRef2Ideal.defs (F := Ideal)) (onTc (τ := Cert.PackRef2Ideal.τ) (Cert.PackRef2Ideal.main (F := Ideal))) ⟨m', fun _ => 0, g'⟩ (fun r => ∀ c : Dev Cert.PackRef2Ideal.nD,
          r.2.mem ((c.tc : Thread Cert.PackRef2Ideal.nD Cert.PackRef2Ideal.τ).loc Cert.PackRef2Ideal.main_v0) = v0 c
          ∧ r.2.mem ((c.tc : Thread Cert.PackRef2Ideal.nD Cert.PackRef2Ideal.τ).loc Cert.PackRef2Ideal.main_v1) = v1 c
          ∧ r.2.mem ((c.tc : Thread Cert.PackRef2Ideal.nD Cert.PackRef2Ideal.τ).loc Cert.PackRef2Ideal.main_v2) = v2 c
          ∧ r.2.mem ((c.tc : Thread Cert.PackRef2Ideal.nD Cert.PackRef2Ideal.τ).loc Cert.PackRef2Ideal.main_v3) = v3 c
          ∧ r.2.mem ((c.tc : Thread Cert.PackRef2Ideal.nD Cert.PackRef2Ideal.τ).loc Cert.PackRef2Ideal.main_v27) = v4 c
          ∧ r.2.mem ((c.tc : Thread Cert.PackRef2Ideal.nD Cert.PackRef2Ideal.τ).loc Cert.PackRef2Ideal.main_v51) = v5 c
          ∧ r.2.mem ((c.tc : Thread Cert.PackRef2Ideal.nD Cert.PackRef2Ideal.τ).loc Cert.PackRef2Ideal.main_v75) = v6 c
          ∧ r.2.mem ((c.tc : Thread Cert.PackRef2Ideal.nD Cert.PackRef2Ideal.τ).loc Cert.PackRef2Ideal.main_v99) = v7 c
          ∧ r.2.mem ((c.tc : Thread Cert.PackRef2Ideal.nD Cert.PackRef2Ideal.τ).loc Cert.PackRef2Ideal.main_v8) = v8 c
          ∧ r.2.mem ((c.tc : Thread Cert.PackRef2Ideal.nD Cert.PackRef2Ideal.τ).loc Cert.PackRef2Ideal.main_v32) = v9 c
          ∧ r.2.mem ((c.tc : Thread Cert.PackRef2Ideal.nD Cert.PackRef2Ideal.τ).loc Cert.PackRef2Ideal.main_v56) = v10 c
          ∧ r.2.mem ((c.tc : Thread Cert.PackRef2Ideal.nD Cert.PackRef2Ideal.τ).loc Cert.PackRef2Ideal.main_v80) = v11 c
          ∧ r.2.mem ((c.tc : Thread Cert.PackRef2Ideal.nD Cert.PackRef2Ideal.τ).loc Cert.PackRef2Ideal.main_v14) = v12 c
          ∧ r.2.mem ((c.tc : Thread Cert.PackRef2Ideal.nD Cert.PackRef2Ideal.τ).loc Cert.PackRef2Ideal.main_v38) = v13 c
          ∧ r.2.mem ((c.tc : Thread Cert.PackRef2Ideal.nD Cert.PackRef2Ideal.τ).loc Cert.PackRef2Ideal.main_v62) = v14 c
          ∧ r.2.mem ((c.tc : Thread Cert.PackRef2Ideal.nD Cert.PackRef2Ideal.τ).loc Cert.PackRef2Ideal.main_v86) = v15 c
          ∧ r.2.mem ((c.tc : Thread Cert.PackRef2Ideal.nD Cert.PackRef2Ideal.τ).loc Cert.PackRef2Ideal.main_arg0) = m' ((c.tc : Thread Cert.PackRef2Ideal.nD Cert.PackRef2Ideal.τ).loc Cert.PackRef2Ideal.main_arg0)
          ∧ r.2.mem ((c.tc : Thread Cert.PackRef2Ideal.nD Cert.PackRef2Ideal.τ).loc Cert.PackRef2Ideal.main_arg1) = m' ((c.tc : Thread Cert.PackRef2Ideal.nD Cert.PackRef2Ideal.τ).loc Cert.PackRef2Ideal.main_arg1)
          ∧ r.2.mem ((c.tc : Thread Cert.PackRef2Ideal.nD Cert.PackRef2Ideal.τ).loc Cert.PackRef2Ideal.main_arg2) = m' ((c.tc : Thread Cert.PackRef2Ideal.nD Cert.PackRef2Ideal.τ).loc Cert.PackRef2Ideal.main_arg2)
          ∧ r.2.mem ((c.tc : Thread Cert.PackRef2Ideal.nD Cert.PackRef2Ideal.τ).loc Cert.PackRef2Ideal.main_arg3) = m' ((c.tc : Thread Cert.PackRef2Ideal.nD Cert.PackRef2Ideal.τ).loc Cert.PackRef2Ideal.main_arg3)
          ∧ r.2.mem ((c.tc : Thread Cert.PackRef2Ideal.nD Cert.PackRef2Ideal.τ).loc Cert.PackRef2Ideal.main_arg4) = m' ((c.tc : Thread Cert.PackRef2Ideal.nD Cert.PackRef2Ideal.τ).loc Cert.PackRef2Ideal.main_arg4)
          ∧ r.2.mem ((c.tc : Thread Cert.PackRef2Ideal.nD Cert.PackRef2Ideal.τ).loc Cert.PackRef2Ideal.main_arg5) = m' ((c.tc : Thread Cert.PackRef2Ideal.nD Cert.PackRef2Ideal.τ).loc Cert.PackRef2Ideal.main_arg5)
          ∧ r.2.mem ((c.tc : Thread Cert.PackRef2Ideal.nD Cert.PackRef2Ideal.τ).loc Cert.PackRef2Ideal.main_arg6) = m' ((c.tc : Thread Cert.PackRef2Ideal.nD Cert.PackRef2Ideal.τ).loc Cert.PackRef2Ideal.main_arg6)
          ∧ r.2.mem ((c.tc : Thread Cert.PackRef2Ideal.nD Cert.PackRef2Ideal.τ).loc Cert.PackRef2Ideal.main_arg7) = m' ((c.tc : Thread Cert.PackRef2Ideal.nD Cert.PackRef2Ideal.τ).loc Cert.PackRef2Ideal.main_arg7)
          ∧ r.2.mem ((c.tc : Thread Cert.PackRef2Ideal.nD Cert.PackRef2Ideal.τ).loc Cert.PackRef2Ideal.main_arg8) = m' ((c.tc : Thread Cert.PackRef2Ideal.nD Cert.PackRef2Ideal.τ).loc Cert.PackRef2Ideal.main_arg8)
          ∧ r.2.mem ((c.tc : Thread Cert.PackRef2Ideal.nD Cert.PackRef2Ideal.τ).loc Cert.PackRef2Ideal.main_arg9) = m' ((c.tc : Thread Cert.PackRef2Ideal.nD Cert.PackRef2Ideal.τ).loc Cert.PackRef2Ideal.main_arg9)
          ∧ r.2.mem ((c.tc : Thread Cert.PackRef2Ideal.nD Cert.PackRef2Ideal.τ).loc Cert.PackRef2Ideal.main_arg10) = m' ((c.tc : Thread Cert.PackRef2Ideal.nD Cert.PackRef2Ideal.τ).loc Cert.PackRef2Ideal.main_arg10)
          ∧ r.2.mem ((c.tc : Thread Cert.PackRef2Ideal.nD Cert.PackRef2Ideal.τ).loc Cert.PackRef2Ideal.main_arg11) = m' ((c.tc : Thread Cert.PackRef2Ideal.nD Cert.PackRef2Ideal.τ).loc Cert.PackRef2Ideal.main_arg11)
          ∧ r.2.mem ((c.tc : Thread Cert.PackRef2Ideal.nD Cert.PackRef2Ideal.τ).loc Cert.PackRef2Ideal.main_arg12) = m' ((c.tc : Thread Cert.PackRef2Ideal.nD Cert.PackRef2Ideal.τ).loc Cert.PackRef2Ideal.main_arg12)
          ∧ r.2.mem ((c.tc : Thread Cert.PackRef2Ideal.nD Cert.PackRef2Ideal.τ).loc Cert.PackRef2Ideal.main_arg13) = m' ((c.tc : Thread Cert.PackRef2Ideal.nD Cert.PackRef2Ideal.τ).loc Cert.PackRef2Ideal.main_arg13)
          ∧ r.2.mem ((c.tc : Thread Cert.PackRef2Ideal.nD Cert.PackRef2Ideal.τ).loc Cert.PackRef2Ideal.main_arg14) = m' ((c.tc : Thread Cert.PackRef2Ideal.nD Cert.PackRef2Ideal.τ).loc Cert.PackRef2Ideal.main_arg14)
          ∧ r.2.mem ((c.tc : Thread Cert.PackRef2Ideal.nD Cert.PackRef2Ideal.τ).loc Cert.PackRef2Ideal.main_arg15) = m' ((c.tc : Thread Cert.PackRef2Ideal.nD Cert.PackRef2Ideal.τ).loc Cert.PackRef2Ideal.main_arg15)
          ∧ r.2.mem ((c.tc : Thread Cert.PackRef2Ideal.nD Cert.PackRef2Ideal.τ).loc Cert.PackRef2Ideal.main_arg16) = m' ((c.tc : Thread Cert.PackRef2Ideal.nD Cert.PackRef2Ideal.τ).loc Cert.PackRef2Ideal.main_arg16))

def Claim : Prop :=
  ∃ (hMlp0 : Cert.Mlp0.Facts) (hMlp0Ideal : Cert.Mlp0Ideal.Facts) (hMlpRef0Ideal : Cert.MlpRef0Ideal.Facts) (hMlp1 : Cert.Mlp1.Facts) (hMlp1Ideal : Cert.Mlp1Ideal.Facts) (hMlpRef1Ideal : Cert.MlpRef1Ideal.Facts) (hMlp2 : Cert.Mlp2.Facts) (hMlp2Ideal : Cert.Mlp2Ideal.Facts) (hMlpRef2Ideal : Cert.MlpRef2Ideal.Facts) (hMlp3 : Cert.Mlp3.Facts) (hMlp3Ideal : Cert.Mlp3Ideal.Facts) (hMlpRef3Ideal : Cert.MlpRef3Ideal.Facts) (hFwd0 : Cert.Fwd0.Facts) (hFwd0Ideal : Cert.Fwd0Ideal.Facts) (hFwdRef0Ideal : Cert.FwdRef0Ideal.Facts) (hQkv0 : Cert.Qkv0.Facts) (hQkv0Ideal : Cert.Qkv0Ideal.Facts) (hQkvRef0Ideal : Cert.QkvRef0Ideal.Facts) (hQkv1 : Cert.Qkv1.Facts) (hQkv1Ideal : Cert.Qkv1Ideal.Facts) (hQkvRef1Ideal : Cert.QkvRef1Ideal.Facts) (hQkv2 : Cert.Qkv2.Facts) (hQkv2Ideal : Cert.Qkv2Ideal.Facts) (hQkvRef2Ideal : Cert.QkvRef2Ideal.Facts) (hOut0 : Cert.Out0.Facts) (hOut0Ideal : Cert.Out0Ideal.Facts) (hOutRef0Ideal : Cert.OutRef0Ideal.Facts) (hOut1 : Cert.Out1.Facts) (hOut1Ideal : Cert.Out1Ideal.Facts) (hOutRef1Ideal : Cert.OutRef1Ideal.Facts) (hOut2 : Cert.Out2.Facts) (hOut2Ideal : Cert.Out2Ideal.Facts) (hOutRef2Ideal : Cert.OutRef2Ideal.Facts) (hGlu0 : Cert.Glu0.Facts) (hGlu0Ideal : Cert.Glu0Ideal.Facts) (hGluRef0Ideal : Cert.GluRef0Ideal.Facts) (hGlu1 : Cert.Glu1.Facts) (hGlu1Ideal : Cert.Glu1Ideal.Facts) (hGluRef1Ideal : Cert.GluRef1Ideal.Facts) (hGlu2 : Cert.Glu2.Facts) (hGlu2Ideal : Cert.Glu2Ideal.Facts) (hGluRef2Ideal : Cert.GluRef2Ideal.Facts) (hNorm0 : Cert.Norm0.Facts) (hNorm0Ideal : Cert.Norm0Ideal.Facts) (hNormRef0Ideal : Cert.NormRef0Ideal.Facts) (hAdam0 : Cert.Adam0.Facts) (hAdam0Ideal : Cert.Adam0Ideal.Facts) (hAdamRef0Ideal : Cert.AdamRef0Ideal.Facts) (hAdam1 : Cert.Adam1.Facts) (hAdam1Ideal : Cert.Adam1Ideal.Facts) (hAdamRef1Ideal : Cert.AdamRef1Ideal.Facts) (hAdam2 : Cert.Adam2.Facts) (hAdam2Ideal : Cert.Adam2Ideal.Facts) (hAdamRef2Ideal : Cert.AdamRef2Ideal.Facts) (hAdam3 : Cert.Adam3.Facts) (hAdam3Ideal : Cert.Adam3Ideal.Facts) (hAdamRef3Ideal : Cert.AdamRef3Ideal.Facts) (hPack0 : Cert.Pack0.Facts) (hPack0Ideal : Cert.Pack0Ideal.Facts) (hPackRef0Ideal : Cert.PackRef0Ideal.Facts) (hPack1 : Cert.Pack1.Facts) (hPack1Ideal : Cert.Pack1Ideal.Facts) (hPackRef1Ideal : Cert.PackRef1Ideal.Facts) (hPack2 : Cert.Pack2.Facts) (hPack2Ideal : Cert.Pack2Ideal.Facts) (hPackRef2Ideal : Cert.PackRef2Ideal.Facts) (hOn_written_first : Cert.On_written_first.Facts),
    quiescent_Mlp0 (hMlp0 := hMlp0)
    ∧ quiescent_Mlp0Ideal (hMlp0Ideal := hMlp0Ideal)
    ∧ quiescent_MlpRef0Ideal (hMlpRef0Ideal := hMlpRef0Ideal)
    ∧ quiescent_Mlp1 (hMlp1 := hMlp1)
    ∧ quiescent_Mlp1Ideal (hMlp1Ideal := hMlp1Ideal)
    ∧ quiescent_MlpRef1Ideal (hMlpRef1Ideal := hMlpRef1Ideal)
    ∧ quiescent_Mlp2 (hMlp2 := hMlp2)
    ∧ quiescent_Mlp2Ideal (hMlp2Ideal := hMlp2Ideal)
    ∧ quiescent_MlpRef2Ideal (hMlpRef2Ideal := hMlpRef2Ideal)
    ∧ quiescent_Mlp3 (hMlp3 := hMlp3)
    ∧ quiescent_Mlp3Ideal (hMlp3Ideal := hMlp3Ideal)
    ∧ quiescent_MlpRef3Ideal (hMlpRef3Ideal := hMlpRef3Ideal)
    ∧ quiescent_Fwd0 (hFwd0 := hFwd0)
    ∧ quiescent_Fwd0Ideal (hFwd0Ideal := hFwd0Ideal)
    ∧ quiescent_FwdRef0Ideal (hFwdRef0Ideal := hFwdRef0Ideal)
    ∧ quiescent_Qkv0 (hQkv0 := hQkv0)
    ∧ quiescent_Qkv0Ideal (hQkv0Ideal := hQkv0Ideal)
    ∧ quiescent_QkvRef0Ideal (hQkvRef0Ideal := hQkvRef0Ideal)
    ∧ quiescent_Qkv1 (hQkv1 := hQkv1)
    ∧ quiescent_Qkv1Ideal (hQkv1Ideal := hQkv1Ideal)
    ∧ quiescent_QkvRef1Ideal (hQkvRef1Ideal := hQkvRef1Ideal)
    ∧ quiescent_Qkv2 (hQkv2 := hQkv2)
    ∧ quiescent_Qkv2Ideal (hQkv2Ideal := hQkv2Ideal)
    ∧ quiescent_QkvRef2Ideal (hQkvRef2Ideal := hQkvRef2Ideal)
    ∧ quiescent_Out0 (hOut0 := hOut0)
    ∧ quiescent_Out0Ideal (hOut0Ideal := hOut0Ideal)
    ∧ quiescent_OutRef0Ideal (hOutRef0Ideal := hOutRef0Ideal)
    ∧ quiescent_Out1 (hOut1 := hOut1)
    ∧ quiescent_Out1Ideal (hOut1Ideal := hOut1Ideal)
    ∧ quiescent_OutRef1Ideal (hOutRef1Ideal := hOutRef1Ideal)
    ∧ quiescent_Out2 (hOut2 := hOut2)
    ∧ quiescent_Out2Ideal (hOut2Ideal := hOut2Ideal)
    ∧ quiescent_OutRef2Ideal (hOutRef2Ideal := hOutRef2Ideal)
    ∧ quiescent_Glu0 (hGlu0 := hGlu0)
    ∧ quiescent_Glu0Ideal (hGlu0Ideal := hGlu0Ideal)
    ∧ quiescent_GluRef0Ideal (hGluRef0Ideal := hGluRef0Ideal)
    ∧ quiescent_Glu1 (hGlu1 := hGlu1)
    ∧ quiescent_Glu1Ideal (hGlu1Ideal := hGlu1Ideal)
    ∧ quiescent_GluRef1Ideal (hGluRef1Ideal := hGluRef1Ideal)
    ∧ quiescent_Glu2 (hGlu2 := hGlu2)
    ∧ quiescent_Glu2Ideal (hGlu2Ideal := hGlu2Ideal)
    ∧ quiescent_GluRef2Ideal (hGluRef2Ideal := hGluRef2Ideal)
    ∧ quiescent_Norm0 (hNorm0 := hNorm0)
    ∧ quiescent_Norm0Ideal (hNorm0Ideal := hNorm0Ideal)
    ∧ quiescent_NormRef0Ideal (hNormRef0Ideal := hNormRef0Ideal)
    ∧ quiescent_Adam0 (hAdam0 := hAdam0)
    ∧ quiescent_Adam0Ideal (hAdam0Ideal := hAdam0Ideal)
    ∧ quiescent_AdamRef0Ideal (hAdamRef0Ideal := hAdamRef0Ideal)
    ∧ quiescent_Adam1 (hAdam1 := hAdam1)
    ∧ quiescent_Adam1Ideal (hAdam1Ideal := hAdam1Ideal)
    ∧ quiescent_AdamRef1Ideal (hAdamRef1Ideal := hAdamRef1Ideal)
    ∧ quiescent_Adam2 (hAdam2 := hAdam2)
    ∧ quiescent_Adam2Ideal (hAdam2Ideal := hAdam2Ideal)
    ∧ quiescent_AdamRef2Ideal (hAdamRef2Ideal := hAdamRef2Ideal)
    ∧ quiescent_Adam3 (hAdam3 := hAdam3)
    ∧ quiescent_Adam3Ideal (hAdam3Ideal := hAdam3Ideal)
    ∧ quiescent_AdamRef3Ideal (hAdamRef3Ideal := hAdamRef3Ideal)
    ∧ quiescent_Pack0 (hPack0 := hPack0)
    ∧ quiescent_Pack0Ideal (hPack0Ideal := hPack0Ideal)
    ∧ quiescent_PackRef0Ideal (hPackRef0Ideal := hPackRef0Ideal)
    ∧ quiescent_Pack1 (hPack1 := hPack1)
    ∧ quiescent_Pack1Ideal (hPack1Ideal := hPack1Ideal)
    ∧ quiescent_PackRef1Ideal (hPackRef1Ideal := hPackRef1Ideal)
    ∧ quiescent_Pack2 (hPack2 := hPack2)
    ∧ quiescent_Pack2Ideal (hPack2Ideal := hPack2Ideal)
    ∧ quiescent_PackRef2Ideal (hPackRef2Ideal := hPackRef2Ideal)
    ∧ preserves_Mlp0_Mlp0Ideal
    ∧ algebraic_Mlp0Ideal_MlpRef0Ideal_on_written_first (hMlp0Ideal := hMlp0Ideal) (hMlpRef0Ideal := hMlpRef0Ideal) (hOn_written_first := hOn_written_first)
    ∧ preserves_Mlp1_Mlp1Ideal
    ∧ algebraic_Mlp1Ideal_MlpRef1Ideal (hMlp1Ideal := hMlp1Ideal) (hMlpRef1Ideal := hMlpRef1Ideal)
    ∧ preserves_Mlp2_Mlp2Ideal
    ∧ algebraic_Mlp2Ideal_MlpRef2Ideal (hMlp2Ideal := hMlp2Ideal) (hMlpRef2Ideal := hMlpRef2Ideal)
    ∧ preserves_Mlp3_Mlp3Ideal
    ∧ algebraic_Mlp3Ideal_MlpRef3Ideal (hMlp3Ideal := hMlp3Ideal) (hMlpRef3Ideal := hMlpRef3Ideal)
    ∧ preserves_Fwd0_Fwd0Ideal
    ∧ algebraic_Fwd0Ideal_FwdRef0Ideal (hFwd0Ideal := hFwd0Ideal) (hFwdRef0Ideal := hFwdRef0Ideal)
    ∧ preserves_Qkv0_Qkv0Ideal
    ∧ algebraic_Qkv0Ideal_QkvRef0Ideal (hQkv0Ideal := hQkv0Ideal) (hQkvRef0Ideal := hQkvRef0Ideal)
    ∧ preserves_Qkv1_Qkv1Ideal
    ∧ algebraic_Qkv1Ideal_QkvRef1Ideal (hQkv1Ideal := hQkv1Ideal) (hQkvRef1Ideal := hQkvRef1Ideal)
    ∧ preserves_Qkv2_Qkv2Ideal
    ∧ algebraic_Qkv2Ideal_QkvRef2Ideal (hQkv2Ideal := hQkv2Ideal) (hQkvRef2Ideal := hQkvRef2Ideal)
    ∧ preserves_Out0_Out0Ideal
    ∧ algebraic_Out0Ideal_OutRef0Ideal (hOut0Ideal := hOut0Ideal) (hOutRef0Ideal := hOutRef0Ideal)
    ∧ preserves_Out1_Out1Ideal
    ∧ algebraic_Out1Ideal_OutRef1Ideal (hOut1Ideal := hOut1Ideal) (hOutRef1Ideal := hOutRef1Ideal)
    ∧ preserves_Out2_Out2Ideal
    ∧ algebraic_Out2Ideal_OutRef2Ideal (hOut2Ideal := hOut2Ideal) (hOutRef2Ideal := hOutRef2Ideal)
    ∧ preserves_Glu0_Glu0Ideal
    ∧ algebraic_Glu0Ideal_GluRef0Ideal (hGlu0Ideal := hGlu0Ideal) (hGluRef0Ideal := hGluRef0Ideal)
    ∧ preserves_Glu1_Glu1Ideal
    ∧ algebraic_Glu1Ideal_GluRef1Ideal (hGlu1Ideal := hGlu1Ideal) (hGluRef1Ideal := hGluRef1Ideal)
    ∧ preserves_Glu2_Glu2Ideal
    ∧ algebraic_Glu2Ideal_GluRef2Ideal (hGlu2Ideal := hGlu2Ideal) (hGluRef2Ideal := hGluRef2Ideal)
    ∧ preserves_Norm0_Norm0Ideal
    ∧ algebraic_Norm0Ideal_NormRef0Ideal (hNorm0Ideal := hNorm0Ideal) (hNormRef0Ideal := hNormRef0Ideal)
    ∧ preserves_Adam0_Adam0Ideal
    ∧ algebraic_Adam0Ideal_AdamRef0Ideal (hAdam0Ideal := hAdam0Ideal) (hAdamRef0Ideal := hAdamRef0Ideal)
    ∧ preserves_Adam1_Adam1Ideal
    ∧ algebraic_Adam1Ideal_AdamRef1Ideal (hAdam1Ideal := hAdam1Ideal) (hAdamRef1Ideal := hAdamRef1Ideal)
    ∧ preserves_Adam2_Adam2Ideal
    ∧ algebraic_Adam2Ideal_AdamRef2Ideal (hAdam2Ideal := hAdam2Ideal) (hAdamRef2Ideal := hAdamRef2Ideal)
    ∧ preserves_Adam3_Adam3Ideal
    ∧ algebraic_Adam3Ideal_AdamRef3Ideal (hAdam3Ideal := hAdam3Ideal) (hAdamRef3Ideal := hAdamRef3Ideal)
    ∧ preserves_Pack0_Pack0Ideal
    ∧ algebraic_Pack0Ideal_PackRef0Ideal (hPack0Ideal := hPack0Ideal) (hPackRef0Ideal := hPackRef0Ideal)
    ∧ preserves_Pack1_Pack1Ideal
    ∧ algebraic_Pack1Ideal_PackRef1Ideal (hPack1Ideal := hPack1Ideal) (hPackRef1Ideal := hPackRef1Ideal)
    ∧ preserves_Pack2_Pack2Ideal
    ∧ algebraic_Pack2Ideal_PackRef2Ideal (hPack2Ideal := hPack2Ideal) (hPackRef2Ideal := hPackRef2Ideal)
-- ==== On_written_first.lean ====
abbrev S8448x1024 : Shape := ⟨2, ![8448, 1024]⟩
abbrev S4x1x1024x1024 : Shape := ⟨4, ![4, 1, 1024, 1024]⟩
abbrev S_ : Shape := ⟨0, ![]⟩
abbrev S4x1024x1024 : Shape := ⟨3, ![4, 1024, 1024]⟩

class Facts : Prop where
  bcast_S_S8448x1024 : S_.BroadcastsInDim S8448x1024 (![] : Fin 0 → Fin S8448x1024.rank)
  bcast_S_S4x1024x1024 : S_.BroadcastsInDim S4x1024x1024 (![] : Fin 0 → Fin S4x1024x1024.rank)

variable [Facts]

def fn {F : FTy → Type} [FloatOps F] (main_arg0 : FVec F S8448x1024 .f32) (main_arg1 : FVec F S8448x1024 .bf16) (main_arg2 : FVec F S4x1x1024x1024 .bf16) (main_arg3 : FVec F S4x1x1024x1024 .bf16) : IVec S8448x1024 1 × IVec S4x1024x1024 1 × IVec S4x1024x1024 1 :=
  let main_v0 : IVec S8448x1024 32 := iotaInDim S8448x1024 32 0
  let main_c : IVec S_ 32 := constantI S_ 32 0#32
  let main_v1 : IVec S8448x1024 32 := broadcastInDim S8448x1024 ![] bcast_S_S8448x1024 main_c
  let main_v2 : IVec S8448x1024 1 := cmpi .sge main_v0 main_v1
  let main_v3 : IVec S4x1024x1024 32 := iotaInDim S4x1024x1024 32 0
  let main_c_0 : IVec S_ 32 := constantI S_ 32 0#32
  let main_v4 : IVec S4x1024x1024 32 := broadcastInDim S4x1024x1024 ![] bcast_S_S4x1024x1024 main_c_0
  let main_v5 : IVec S4x1024x1024 1 := cmpi .eq main_v3 main_v4
  let main_v6 : IVec S4x1024x1024 32 := iotaInDim S4x1024x1024 32 0
  let main_c_1 : IVec S_ 32 := constantI S_ 32 0#32
  let main_v7 : IVec S4x1024x1024 32 := broadcastInDim S4x1024x1024 ![] bcast_S_S4x1024x1024 main_c_1
  let main_v8 : IVec S4x1024x1024 1 := cmpi .eq main_v6 main_v7
  (main_v2, main_v5, main_v8)
-- ==== Mlp0.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S8448x4x1024 : Shape := ⟨3, ![8448, 4, 1024]⟩
abbrev S8448x4096 : Shape := ⟨2, ![8448, 4096]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S4x1x1024x1024, .bf16⟩
  | .hbm, ⟨3, _⟩ => ⟨S4x1x1024x1024, .bf16⟩
  | .hbm, ⟨4, _⟩ => ⟨S4x1x1024x1024, .f32⟩
  | .hbm, ⟨5, _⟩ => ⟨S4x1024x1024, .f32⟩
  | .hbm, ⟨6, _⟩ => ⟨S8448x1024, .f32⟩
  | .hbm, ⟨7, _⟩ => ⟨S8448x4x1024, .f32⟩
  | .hbm, ⟨8, _⟩ => ⟨S8448x4096, .f32⟩
  | .hbm, ⟨9, _⟩ => ⟨S8448x4096, .bf16⟩
  | .hbm, ⟨10, _⟩ => ⟨S8448x1024, .f32⟩
  | .hbm, ⟨11, _⟩ => ⟨S4x1024x1024, .bf16⟩
  | .hbm, ⟨12, _⟩ => ⟨S4x1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v36 : BitVec 1 := Scalar.cmpi .eq arg0 c10_i32
  let v37 : BitVec 32 := Scalar.extui v36
  let c0_i32_29 : BitVec 32 := 0#32
  let v38 : BitVec 1 := Scalar.cmpi .ne v37 c0_i32_29
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpRef0Ideal.lean ====
abbrev S8448x1024 : Shape := ⟨2, ![8448, 1024]⟩
abbrev S4x1x1024x1024 : Shape := ⟨4, ![4, 1, 1024, 1024]⟩
abbrev S1x1x1024x1024 : Shape := ⟨4, ![1, 1, 1024, 1024]⟩
abbrev S1024x1024 : Shape := ⟨2, ![1024, 1024]⟩
abbrev S_ : Shape := ⟨0, ![]⟩
abbrev S1x1024x1024 : Shape := ⟨3, ![1, 1024, 1024]⟩
abbrev S3x1024x1024 : Shape := ⟨3, ![3, 1024, 1024]⟩
abbrev S4x1024x1024 : Shape := ⟨3, ![4, 1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S4x1x1024x1024, .bf16⟩
  | .hbm, ⟨3, _⟩ => ⟨S4x1x1024x1024, .bf16⟩
  | .hbm, ⟨4, _⟩ => ⟨S1x1x1024x1024, .bf16⟩
  | .hbm, ⟨5, _⟩ => ⟨S1024x1024, .bf16⟩
  | .hbm, ⟨6, _⟩ => ⟨S1024x1024, .f32⟩
  | .hbm, ⟨7, _⟩ => ⟨S1x1x1024x1024, .bf16⟩
  | .hbm, ⟨8, _⟩ => ⟨S1024x1024, .bf16⟩
  | .hbm, ⟨9, _⟩ => ⟨S1024x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .i1⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S1024x1024, .f32⟩
  | .hbm, ⟨23, _⟩ => ⟨S1024x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S1024x1024, .f32⟩
  | .hbm, ⟨32, _⟩ => ⟨S1024x1024, .f32⟩
  | .hbm, ⟨33, _⟩ => ⟨S8448x1024, .f32⟩
  | .hbm, ⟨34, _⟩ => ⟨S1x1024x1024, .f32⟩
  | .hbm, ⟨35, _⟩ => ⟨S_, .f32⟩
  | .hbm, ⟨36, _⟩ => ⟨S3x1024x1024, .f32⟩
  | .hbm, ⟨37, _⟩ => ⟨S4x1024x1024, .f32⟩
  | .hbm, ⟨38, _⟩ => ⟨S4x1024x1024, .bf16⟩
  | .hbm, ⟨39, _⟩ => ⟨S1x1024x1024, .f32⟩
  | .hbm, ⟨40, _⟩ => ⟨S_, .f32⟩
  | .hbm, ⟨41, _⟩ => ⟨S3x1024x1024, .f32⟩
  | .hbm, ⟨42, _⟩ => ⟨S4x1024x1024, .f32⟩
  | .hbm, ⟨43, _⟩ => ⟨S4x1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Mlp1.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S8448x4x1024 : Shape := ⟨3, ![8448, 4, 1024]⟩
abbrev S8448x4096 : Shape := ⟨2, ![8448, 4096]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S4x1x1024x1024, .f32⟩
  | .hbm, ⟨8, _⟩ => ⟨S4x1024x1024, .f32⟩
  | .hbm, ⟨9, _⟩ => ⟨S8448x1024, .f32⟩
  | .hbm, ⟨10, _⟩ => ⟨S8448x4x1024, .f32⟩
  | .hbm, ⟨11, _⟩ => ⟨S8448x4096, .f32⟩
  | .hbm, ⟨12, _⟩ => ⟨S8448x4096, .bf16⟩
  | .hbm, ⟨13, _⟩ => ⟨S8448x1024, .f32⟩
  | .hbm, ⟨14, _⟩ => ⟨S4x1024x1024, .bf16⟩
  | .hbm, ⟨15, _⟩ => ⟨S4x1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v38 : BitVec 1 := Scalar.cmpi .eq arg0 c10_i32
  let v39 : BitVec 32 := Scalar.extui v38
  let c0_i32_31 : BitVec 32 := 0#32
  let v40 : BitVec 1 := Scalar.cmpi .ne v39 c0_i32_31
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Mlp1Ideal.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S8448x4x1024 : Shape := ⟨3, ![8448, 4, 1024]⟩
abbrev S8448x4096 : Shape := ⟨2, ![8448, 4096]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S4x1x1024x1024, .f32⟩
  | .hbm, ⟨8, _⟩ => ⟨S4x1024x1024, .f32⟩
  | .hbm, ⟨9, _⟩ => ⟨S8448x1024, .f32⟩
  | .hbm, ⟨10, _⟩ => ⟨S8448x4x1024, .f32⟩
  | .hbm, ⟨11, _⟩ => ⟨S8448x4096, .f32⟩
  | .hbm, ⟨12, _⟩ => ⟨S8448x4096, .bf16⟩
  | .hbm, ⟨13, _⟩ => ⟨S8448x1024, .f32⟩
  | .hbm, ⟨14, _⟩ => ⟨S4x1024x1024, .bf16⟩
  | .hbm, ⟨15, _⟩ => ⟨S4x1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v38 : BitVec 1 := Scalar.cmpi .eq arg0 c10_i32
  let v39 : BitVec 32 := Scalar.extui v38
  let c0_i32_31 : BitVec 32 := 0#32
  let v40 : BitVec 1 := Scalar.cmpi .ne v39 c0_i32_31
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpRef1Ideal.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S1x1x1024x1024 : Shape := ⟨4, ![1, 1, 1024, 1024]⟩
abbrev S1024x1024 : Shape := ⟨2, ![1024, 1024]⟩
abbrev S_ : Shape := ⟨0, ![]⟩
abbrev S1x1024x1024 : Shape := ⟨3, ![1, 1024, 1024]⟩
abbrev S2x1024x1024 : Shape := ⟨3, ![2, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S1x1x1024x1024, .bf16⟩
  | .hbm, ⟨8, _⟩ => ⟨S1024x1024, .bf16⟩
  | .hbm, ⟨9, _⟩ => ⟨S1024x1024, .f32⟩
  | .hbm, ⟨10, _⟩ => ⟨S1x1x1024x1024, .bf16⟩
  | .hbm, ⟨11, _⟩ => ⟨S1024x1024, .bf16⟩
  | .hbm, ⟨12, _⟩ => ⟨S1024x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .i1⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S1024x1024, .f32⟩
  | .hbm, ⟨26, _⟩ => ⟨S1024x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S1024x1024, .f32⟩
  | .hbm, ⟨35, _⟩ => ⟨S1024x1024, .f32⟩
  | .hbm, ⟨36, _⟩ => ⟨S8448x1024, .f32⟩
  | .hbm, ⟨37, _⟩ => ⟨S8448x1024, .f32⟩
  | .hbm, ⟨38, _⟩ => ⟨S1024x1024, .bf16⟩
  | .hbm, ⟨39, _⟩ => ⟨S1x1024x1024, .bf16⟩
  | .hbm, ⟨40, _⟩ => ⟨S1x1024x1024, .bf16⟩
  | .hbm, ⟨41, _⟩ => ⟨S2x1024x1024, .bf16⟩
  | .hbm, ⟨42, _⟩ => ⟨S4x1024x1024, .bf16⟩
  | .hbm, ⟨43, _⟩ => ⟨S1024x1024, .bf16⟩
  | .hbm, ⟨44, _⟩ => ⟨S1x1024x1024, .bf16⟩
  | .hbm, ⟨45, _⟩ => ⟨S1x1024x1024, .bf16⟩
  | .hbm, ⟨46, _⟩ => ⟨S2x1024x1024, .bf16⟩
  | .hbm, ⟨47, _⟩ => ⟨S4x1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Mlp2.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S8448x4x1024 : Shape := ⟨3, ![8448, 4, 1024]⟩
abbrev S8448x4096 : Shape := ⟨2, ![8448, 4096]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S4x1x1024x1024, .f32⟩
  | .hbm, ⟨8, _⟩ => ⟨S4x1024x1024, .f32⟩
  | .hbm, ⟨9, _⟩ => ⟨S8448x1024, .f32⟩
  | .hbm, ⟨10, _⟩ => ⟨S8448x4x1024, .f32⟩
  | .hbm, ⟨11, _⟩ => ⟨S8448x4096, .f32⟩
  | .hbm, ⟨12, _⟩ => ⟨S8448x4096, .bf16⟩
  | .hbm, ⟨13, _⟩ => ⟨S8448x1024, .f32⟩
  | .hbm, ⟨14, _⟩ => ⟨S4x1024x1024, .bf16⟩
  | .hbm, ⟨15, _⟩ => ⟨S4x1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v38 : BitVec 1 := Scalar.cmpi .eq arg0 c10_i32
  let v39 : BitVec 32 := Scalar.extui v38
  let c0_i32_31 : BitVec 32 := 0#32
  let v40 : BitVec 1 := Scalar.cmpi .ne v39 c0_i32_31
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Mlp2Ideal.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S8448x4x1024 : Shape := ⟨3, ![8448, 4, 1024]⟩
abbrev S8448x4096 : Shape := ⟨2, ![8448, 4096]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S4x1x1024x1024, .f32⟩
  | .hbm, ⟨8, _⟩ => ⟨S4x1024x1024, .f32⟩
  | .hbm, ⟨9, _⟩ => ⟨S8448x1024, .f32⟩
  | .hbm, ⟨10, _⟩ => ⟨S8448x4x1024, .f32⟩
  | .hbm, ⟨11, _⟩ => ⟨S8448x4096, .f32⟩
  | .hbm, ⟨12, _⟩ => ⟨S8448x4096, .bf16⟩
  | .hbm, ⟨13, _⟩ => ⟨S8448x1024, .f32⟩
  | .hbm, ⟨14, _⟩ => ⟨S4x1024x1024, .bf16⟩
  | .hbm, ⟨15, _⟩ => ⟨S4x1024x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v38 : BitVec 1 := Scalar.cmpi .eq arg0 c10_i32
  let v39 : BitVec 32 := Scalar.extui v38
  let c0_i32_31 : BitVec 32 := 0#32
  let v40 : BitVec 1 := Scalar.cmpi .ne v39 c0_i32_31
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpRef2Ideal.lean ====
abbrev S8448x1024 : Shape := ⟨2, ![8448, 1024]⟩
abbrev S4x1x1024x1024 : Shape := ⟨4, ![4, 1, 1024, 1024]⟩
abbrev S4x1024x1024 : Shape := ⟨3, ![4, 1024, 1024]⟩
abbrev S1x1x1024x1024 : Shape := ⟨4, ![1, 1, 1024, 1024]⟩
abbrev S1024x1024 : Shape := ⟨2, ![1024, 1024]⟩
abbrev S_ : Shape := ⟨0, ![]⟩
abbrev S2x1024x1024 : Shape := ⟨3, ![2, 1024, 1024]⟩
abbrev S1x1024x1024 : Shape := ⟨3, ![1, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .f32⟩
  | .hbm, ⟨3, _⟩ => ⟨S4x1x1024x1024, .bf16⟩
  | .hbm, ⟨4, _⟩ => ⟨S4x1x1024x1024, .bf16⟩
  | .hbm, ⟨5, _⟩ => ⟨S4x1024x1024, .bf16⟩
  | .hbm, ⟨6, _⟩ => ⟨S4x1024x1024, .bf16⟩
  | .hbm, ⟨7, _⟩ => ⟨S1x1x1024x1024, .bf16⟩
  | .hbm, ⟨8, _⟩ => ⟨S1024x1024, .bf16⟩
  | .hbm, ⟨9, _⟩ => ⟨S1024x1024, .f32⟩
  | .hbm, ⟨10, _⟩ => ⟨S1x1x1024x1024, .bf16⟩
  | .hbm, ⟨11, _⟩ => ⟨S1024x1024, .bf16⟩
  | .hbm, ⟨12, _⟩ => ⟨S1024x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .i1⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S1024x1024, .f32⟩
  | .hbm, ⟨26, _⟩ => ⟨S1024x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S1024x1024, .f32⟩
  | .hbm, ⟨35, _⟩ => ⟨S1024x1024, .f32⟩
  | .hbm, ⟨36, _⟩ => ⟨S8448x1024, .f32⟩
  | .hbm, ⟨37, _⟩ => ⟨S8448x1024, .f32⟩
  | .hbm, ⟨38, _⟩ => ⟨S1024x1024, .bf16⟩
  | .hbm, ⟨39, _⟩ => ⟨S2x1024x1024, .bf16⟩
  | .hbm, ⟨40, _⟩ => ⟨S1x1024x1024, .bf16⟩
  | .hbm, ⟨41, _⟩ => ⟨S1x1024x1024, .bf16⟩
  | .hbm, ⟨42, _⟩ => ⟨S4x1024x1024, .bf16⟩
  | .hbm, ⟨43, _⟩ => ⟨S1024x1024, .bf16⟩
  | .hbm, ⟨44, _⟩ => ⟨S2x1024x1024, .bf16⟩
  | .hbm, ⟨45, _⟩ => ⟨S1x1024x1024, .bf16⟩
  | .hbm, ⟨46, _⟩ => ⟨S1x1024x1024, .bf16⟩
  | .hbm, ⟨47, _⟩ => ⟨S4x1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Mlp3.lean ====
abbrev S8448x1024 : Shape := ⟨2, ![8448, 1024]⟩
abbrev S1x1024 : Shape := ⟨2, ![1, 1024]⟩
abbrev S4x1x1024x1024 : Shape := ⟨4, ![4, 1, 1024, 1024]⟩
abbrev S4x1024x1024 : Shape := ⟨3, ![4, 1024, 1024]⟩
abbrev S_ : Shape := ⟨0, ![]⟩
abbrev S8448 : Shape := ⟨1, ![8448]⟩
abbrev S8448x1 : Shape := ⟨2, ![8448, 1]⟩
abbrev S8448x4x1024 : Shape := ⟨3, ![8448, 4, 1024]⟩
abbrev S8448x4096 : Shape := ⟨2, ![8448, 4096]⟩
abbrev S8x1024 : Shape := ⟨2, ![8, 1024]⟩
abbrev S768x1024 : Shape := ⟨2, ![768, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩
abbrev S768 : Shape := ⟨1, ![768]⟩
abbrev S768x1 : Shape := ⟨2, ![768, 1]⟩
abbrev S96x8x1024 : Shape := ⟨3, ![96, 8, 1024]⟩

abbrev nBuf : Space → Nat
  | .hbm => 33
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1x1024, .f32⟩
  | .hbm, ⟨4, _⟩ => ⟨S4x1x1024x1024, .bf16⟩
  | .hbm, ⟨5, _⟩ => ⟨S4x1x1024x1024, .bf16⟩
  | .hbm, ⟨6, _⟩ => ⟨S4x1024x1024, .bf16⟩
  | .hbm, ⟨7, _⟩ => ⟨S4x1024x1024, .bf16⟩
  | .hbm, ⟨8, _⟩ => ⟨S8448x1024, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S4x1x1024x1024, .f32⟩
  | .hbm, ⟨24, _⟩ => ⟨S4x1024x1024, .f32⟩
  | .hbm, ⟨25, _⟩ => ⟨S8448x4x1024, .f32⟩
  | .hbm, ⟨26, _⟩ => ⟨S8448x4096, .f32⟩
  | .hbm, ⟨27, _⟩ => ⟨S8448x4096, .bf16⟩
  | .hbm, ⟨28, _⟩ => ⟨S8448x1024, .bf16⟩
  | .hbm, ⟨29, _⟩ => ⟨S8448x1024, .f32⟩
  | .hbm, ⟨30, _⟩ => ⟨S4x1024x1024, .bf16⟩
  | .hbm, ⟨31, _⟩ => ⟨S4x1024x1024, .bf16⟩
  | .hbm, ⟨32, _⟩ => ⟨S8x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S1x1024, .f32⟩
  | .local _ .vmem, ⟨13, _⟩ => ⟨S768x1024, .f32⟩
  | .local _ .vmem, ⟨14, _⟩ => ⟨S768x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S8x1024, .f32⟩
  | .local _ .vmem, ⟨18, _⟩ => ⟨S1024x1024, .f32⟩
  | .local _ .vmem, ⟨19, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v76 : BitVec 1 := Scalar.cmpi .eq arg0 c10_i32
  let v77 : BitVec 32 := Scalar.extui v76
  let c0_i32_47 : BitVec 32 := 0#32
  let v78 : BitVec 1 := Scalar.cmpi .ne v77 c0_i32_47
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpRef3Ideal.lean ====
abbrev S8448x1024 : Shape := ⟨2, ![8448, 1024]⟩
abbrev S1x1024 : Shape := ⟨2, ![1, 1024]⟩
abbrev S4x1x1024x1024 : Shape := ⟨4, ![4, 1, 1024, 1024]⟩
abbrev S4x1024x1024 : Shape := ⟨3, ![4, 1024, 1024]⟩
abbrev S1x1x1024x1024 : Shape := ⟨4, ![1, 1, 1024, 1024]⟩
abbrev S1024x1024 : Shape := ⟨2, ![1024, 1024]⟩
abbrev S8x1024 : Shape := ⟨2, ![8, 1024]⟩
abbrev S1056x8x1024 : Shape := ⟨3, ![1056, 8, 1024]⟩
abbrev S_ : Shape := ⟨0, ![]⟩
abbrev S1056x8 : Shape := ⟨2, ![1056, 8]⟩
abbrev S1056x8x1 : Shape := ⟨3, ![1056, 8, 1]⟩
abbrev S1x8x1024 : Shape := ⟨3, ![1, 8, 1024]⟩
abbrev S3x1024x1024 : Shape := ⟨3, ![3, 1024, 1024]⟩
abbrev S1x1024x1024 : Shape := ⟨3, ![1, 1024, 1024]⟩
abbrev S0x1024x1024 : Shape := ⟨3, ![0, 1024, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1x1024, .f32⟩
  | .hbm, ⟨4, _⟩ => ⟨S4x1x1024x1024, .bf16⟩
  | .hbm, ⟨5, _⟩ => ⟨S4x1x1024x1024, .bf16⟩
  | .hbm, ⟨6, _⟩ => ⟨S4x1024x1024, .bf16⟩
  | .hbm, ⟨7, _⟩ => ⟨S4x1024x1024, .bf16⟩
  | .hbm, ⟨8, _⟩ => ⟨S1x1x1024x1024, .bf16⟩
  | .hbm, ⟨9, _⟩ => ⟨S1024x1024, .bf16⟩
  | .hbm, ⟨10, _⟩ => ⟨S1024x1024, .f32⟩
  | .hbm, ⟨11, _⟩ => ⟨S1x1x1024x1024, .bf16⟩
  | .hbm, ⟨12, _⟩ => ⟨S1024x1024, .bf16⟩
  | .hbm, ⟨13, _⟩ => ⟨S1024x1024, .f32⟩
  | .hbm, ⟨14, _⟩ => ⟨S8x1024, .f32⟩
  | .hbm, ⟨15, _⟩ => ⟨S1056x8x1024, .f32⟩
  | .hbm, ⟨16, _⟩ => ⟨S1056x8x1024, .f32⟩
  | .hbm, ⟨17, _⟩ => ⟨S_, .f32⟩
  | .hbm, ⟨18, _⟩ => ⟨S1056x8, .f32⟩
  | .hbm, ⟨19, _⟩ => ⟨S1056x8x1, .f32⟩
  | .hbm, ⟨20, _⟩ => ⟨S_, .f32⟩
  | .hbm, ⟨21, _⟩ => ⟨S1056x8x1, .f32⟩
  | .hbm, ⟨22, _⟩ => ⟨S1056x8x1, .f32⟩
  | .hbm, ⟨23, _⟩ => ⟨S_, .f32⟩
  | .hbm, ⟨24, _⟩ => ⟨S1056x8x1, .f32⟩
  | .hbm, ⟨25, _⟩ => ⟨S1056x8x1, .f32⟩
  | .hbm, ⟨26, _⟩ => ⟨S1056x8x1, .f32⟩
  | .hbm, ⟨27, _⟩ => ⟨S1056x8x1, .f32⟩
  | .hbm, ⟨28, _⟩ => ⟨S_, .f32⟩
  | .hbm, ⟨29, _⟩ => ⟨S1056x8x1, .f32⟩
  | .hbm, ⟨30, _⟩ => ⟨S1056x8x1, .f32⟩
  | .hbm, ⟨31, _⟩ => ⟨S1056x8x1024, .f32⟩
  | .hbm, ⟨32, _⟩ => ⟨S1056x8x1024, .f32⟩
  | .hbm, ⟨33, _⟩ => ⟨S1x8x1024, .f32⟩
  | .hbm, ⟨34, _⟩ => ⟨S1056x8x1024, .f32⟩
  | .hbm, ⟨35, _⟩ => ⟨S1056x8x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S_, .f32⟩
  | .hbm, ⟨42, _⟩ => ⟨S8448x1024, .f32⟩
  | .hbm, ⟨43, _⟩ => ⟨S8448x1024, .i1⟩
  | .hbm, ⟨44, _⟩ => ⟨S_, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S1024x1024, .f32⟩
  | .hbm, ⟨51, _⟩ => ⟨S1024x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S8448x1024, .f32⟩
  | .hbm, ⟨59, _⟩ => ⟨S1024x1024, .f32⟩
  | .hbm, ⟨60, _⟩ => ⟨S1024x1024, .f32⟩
  | .hbm, ⟨61, _⟩ => ⟨S8448x1024, .f32⟩
  | .hbm, ⟨62, _⟩ => ⟨S8448x1024, .f32⟩
  | .hbm, ⟨63, _⟩ => ⟨S1056x8x1024, .f32⟩
  | .hbm, ⟨64, _⟩ => ⟨S1056x8x1024, .f32⟩
  | .hbm, ⟨65, _⟩ => ⟨S_, .f32⟩
  | .hbm, ⟨66, _⟩ => ⟨S8x1024, .f32⟩
  | .hbm, ⟨67, _⟩ => ⟨S1x8x1024, .f32⟩
  | .hbm, ⟨68, _⟩ => ⟨S1056x8x1024, .f32⟩
  | .hbm, ⟨69, _⟩ => ⟨S1056x8x1024, .f32⟩
  | .hbm, ⟨70, _⟩ => ⟨S_, .f32⟩
  | .hbm, ⟨71, _⟩ => ⟨S8x1024, .f32⟩
  | .hbm, ⟨72, _⟩ => ⟨S1056x8x1024, .f32⟩
  | .hbm, ⟨73, _⟩ => ⟨S_, .f32⟩
  | .hbm, ⟨74, _⟩ => ⟨S1056x8, .f32⟩
  | .hbm, ⟨75, _⟩ => ⟨S1056x8x1, .f32⟩
  | .hbm, ⟨76, _⟩ => ⟨S1056x8x1024, .f32⟩
  | .hbm, ⟨77, _⟩ => ⟨S1056x8x1024, .f32⟩
  | .hbm, ⟨78, _⟩ => ⟨S1056x8x1, .f32⟩
  | .hbm, ⟨79, _⟩ => ⟨S_, .f32⟩
  | .hbm, ⟨80, _⟩ => ⟨S1056x8x1, .f32⟩
  | .hbm, ⟨81, _⟩ => ⟨S1056x8x1, .f32⟩
  | .hbm, ⟨82, _⟩ => ⟨S_, .f32⟩
  | .hbm, ⟨83, _⟩ => ⟨S1056x8, .f32⟩
  | .hbm, ⟨84, _⟩ => ⟨S1056x8x1024, .f32⟩
  | .hbm, ⟨85, _⟩ => ⟨S1056x8x1024, .f32⟩
  | .hbm, ⟨86, _⟩ => ⟨S1056x8x1024, .f32⟩
  | .hbm, ⟨87, _⟩ => ⟨S1056x8x1024, .f32⟩
  | .hbm, ⟨88, _⟩ => ⟨S1056x8x1024, .f32⟩
  | .hbm, ⟨89, _⟩ => ⟨S8448x1024, .f32⟩
  | .hbm, ⟨90, _⟩ => ⟨S8448x1024, .f32⟩
  | .hbm, ⟨91, _⟩ => ⟨S1024x1024, .bf16⟩
  | .hbm, ⟨92, _⟩ => ⟨S3x1024x1024, .bf16⟩
  | .hbm, ⟨93, _⟩ => ⟨S1x1024x1024, .bf16⟩
  | .hbm, ⟨94, _⟩ => ⟨S0x1024x1024, .bf16⟩
  | .hbm, ⟨95, _⟩ => ⟨S4x1024x1024, .bf16⟩
  | .hbm, ⟨96, _⟩ => ⟨S1024x1024, .bf16⟩
  | .hbm, ⟨97, _⟩ => ⟨S3x1024x1024, .bf16⟩
  | .hbm, ⟨98, _⟩ => ⟨S1x1024x1024, .bf16⟩
  | .hbm, ⟨99, _⟩ => ⟨S0x1024x1024, .bf16⟩
  | .hbm, ⟨100, _⟩ => ⟨S4x1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Fwd0.lean ====
abbrev S8448x1024 : Shape := ⟨2, ![8448, 1024]⟩
abbrev S1x1024 : Shape := ⟨2, ![1, 1024]⟩
abbrev S4x1x1024x1024 : Shape := ⟨4, ![4, 1, 1024, 1024]⟩
abbrev S4096x1024 : Shape := ⟨2, ![4096, 1024]⟩
abbrev S8448x4096 : Shape := ⟨2, ![8448, 4096]⟩
abbrev S384x1024 : Shape := ⟨2, ![384, 1024]⟩
abbrev S384x4096 : Shape := ⟨2, ![384, 4096]⟩
abbrev S384 : Shape := ⟨1, ![384]⟩
abbrev S384x1 : Shape := ⟨2, ![384, 1]⟩
abbrev S1x1x1024x1024 : Shape := ⟨4, ![1, 1, 1024, 1024]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S4x1x1024x1024, .bf16⟩
  | .hbm, ⟨3, _⟩ => ⟨S4x1x1024x1024, .bf16⟩
  | .hbm, ⟨4, _⟩ => ⟨S1x1024, .f32⟩
  | .hbm, ⟨5, _⟩ => ⟨S4096x1024, .bf16⟩
  | .hbm, ⟨6, _⟩ => ⟨S8448x1024, .f32⟩
  | .hbm, ⟨7, _⟩ => ⟨S8448x4096, .bf16⟩
  | .hbm, ⟨8, _⟩ => ⟨S8448x1024, .bf16⟩
  | .hbm, ⟨9, _⟩ => ⟨S8448x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S4x1x1024x1024, .bf16⟩
  | .local _ .vmem, ⟨4, _⟩ => ⟨S4096x1024, .bf16⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x4096, .bf16⟩
  | .local _ .vmem, ⟨9, _⟩ => ⟨S384x4096, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | .local _ .vmem, ⟨14, _⟩ => ⟨S384x4096, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdRef0Ideal.lean ====
abbrev S8448x1024 : Shape := ⟨2, ![8448, 1024]⟩
abbrev S1x1024 : Shape := ⟨2, ![1, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩
abbrev S8448 : Shape := ⟨1, ![8448]⟩
abbrev S8448x1 : Shape := ⟨2, ![8448, 1]⟩
abbrev S8448x4096 : Shape := ⟨2, ![8448, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S4x1x1024x1024, .bf16⟩
  | .hbm, ⟨3, _⟩ => ⟨S4x1x1024x1024, .bf16⟩
  | .hbm, ⟨4, _⟩ => ⟨S1x1024, .f32⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4096x1024, .bf16⟩
  | .hbm, ⟨10, _⟩ => ⟨S4096x1024, .f32⟩
  | .hbm, ⟨11, _⟩ => ⟨S8448x1024, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x4096, .f32⟩
  | .hbm, ⟨42, _⟩ => ⟨S_, .f32⟩
  | .hbm, ⟨43, _⟩ => ⟨S8448x4096, .f32⟩
  | .hbm, ⟨44, _⟩ => ⟨S8448x4096, .f32⟩
  | .hbm, ⟨45, _⟩ => ⟨S8448x4096, .f32⟩
  | .hbm, ⟨46, _⟩ => ⟨S8448x1024, .f32⟩
  | .hbm, ⟨47, _⟩ => ⟨S8448x1024, .f32⟩
  | .hbm, ⟨48, _⟩ => ⟨S8448x4096, .f32⟩
  | .hbm, ⟨49, _⟩ => ⟨S8448x4096, .bf16⟩
  | .hbm, ⟨50, _⟩ => ⟨S8448x1024, .bf16⟩
  | .hbm, ⟨51, _⟩ => ⟨S8448x1024, .f32⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S_, .f32⟩
  | .hbm, ⟨56, _⟩ => ⟨S8448x1, .f32⟩
  | .hbm, ⟨57, _⟩ => ⟨S8448x1, .f32⟩
  | .hbm, ⟨58, _⟩ => ⟨S_, .f32⟩
  | .hbm, ⟨59, _⟩ => ⟨S8448x1, .f32⟩
  | .hbm, ⟨60, _⟩ => ⟨S8448x1, .f32⟩
  | .hbm, ⟨61, _⟩ => ⟨S8448x1, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Qkv0.lean ====
abbrev S8448x1024 : Shape := ⟨2, ![8448, 1024]⟩
abbrev S1x1024 : Shape := ⟨2, ![1, 1024]⟩
abbrev S4x1x1024x384 : Shape := ⟨4, ![4, 1, 1024, 384]⟩
abbrev S8448x1536 : Shape := ⟨2, ![8448, 1536]⟩
abbrev S1056x1024 : Shape := ⟨2, ![1056, 1024]⟩
abbrev S1056x1536 : Shape := ⟨2, ![1056, 1536]⟩
abbrev S1056 : Shape := ⟨1, ![1056]⟩
abbrev S1056x1 : Shape := ⟨2, ![1056, 1]⟩
abbrev S1x1x1024x384 : Shape := ⟨4, ![1, 1, 1024, 384]⟩
abbrev S1024x384 : Shape := ⟨2, ![1024, 384]⟩
abbrev S1056x384 : Shape := ⟨2, ![1056, 384]⟩

abbrev nBuf : Space → Nat
  | .hbm => 5
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S4x1x1024x384, .bf16⟩
  | .hbm, ⟨3, _⟩ => ⟨S8448x1536, .bf16⟩
  | .hbm, ⟨4, _⟩ => ⟨S8448x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S4x1x1024x384, .bf16⟩
  | .local _ .vmem, ⟨4, _⟩ => ⟨S1056x1536, .bf16⟩
  | .local _ .vmem, ⟨5, _⟩ => ⟨S1056x1536, .bf16⟩
  | .local _ .vmem, ⟨6, _⟩ => ⟨S1056x1024, .bf16⟩
  | .local _ .vmem, ⟨7, _⟩ => ⟨S1056x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1056x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRef0Ideal.lean ====
abbrev S8448x1024 : Shape := ⟨2, ![8448, 1024]⟩
abbrev S1x1024 : Shape := ⟨2, ![1, 1024]⟩
abbrev S4x1x1024x384 : Shape := ⟨4, ![4, 1, 1024, 384]⟩
abbrev S_ : Shape := ⟨0, ![]⟩
abbrev S8448 : Shape := ⟨1, ![8448]⟩
abbrev S8448x1 : Shape := ⟨2, ![8448, 1]⟩
abbrev S4x1024x384 : Shape := ⟨3, ![4, 1024, 384]⟩
abbrev S1024x4x384 : Shape := ⟨3, ![1024, 4, 384]⟩
abbrev S1024x1536 : Shape := ⟨2, ![1024, 1536]⟩
abbrev S8448x1536 : Shape := ⟨2, ![8448, 1536]⟩

abbrev nBuf : Space → Nat
  | .hbm => 25
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S4x1x1024x384, .bf16⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S4x1024x384, .bf16⟩
  | .hbm, ⟨19, _⟩ => ⟨S1024x4x384, .bf16⟩
  | .hbm, ⟨20, _⟩ => ⟨S1024x1536, .bf16⟩
  | .hbm, ⟨21, _⟩ => ⟨S1024x1536, .f32⟩
  | .hbm, ⟨22, _⟩ => ⟨S8448x1536, .f32⟩
  | .hbm, ⟨23, _⟩ => ⟨S8448x1536, .bf16⟩
  | .hbm, ⟨24, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Qkv1.lean ====
abbrev S8448x1536 : Shape := ⟨2, ![8448, 1536]⟩
abbrev S4x1x1024x384 : Shape := ⟨4, ![4, 1, 1024, 384]⟩
abbrev S8448x1024 : Shape := ⟨2, ![8448, 1024]⟩
abbrev S1x1024 : Shape := ⟨2, ![1, 1024]⟩
abbrev S8x1024 : Shape := ⟨2, ![8, 1024]⟩
abbrev S1056x1536 : Shape := ⟨2, ![1056, 1536]⟩
abbrev S1056x1024 : Shape := ⟨2, ![1056, 1024]⟩
abbrev S1056x384 : Shape := ⟨2, ![1056, 384]⟩
abbrev S1x1x1024x384 : Shape := ⟨4, ![1, 1, 1024, 384]⟩
abbrev S1024x384 : Shape := ⟨2, ![1024, 384]⟩
abbrev S1056 : Shape := ⟨1, ![1056]⟩
abbrev S1056x1 : Shape := ⟨2, ![1056, 1]⟩
abbrev S132x8x1024 : Shape := ⟨3, ![132, 8, 1024]⟩
abbrev S2x4224x1024 : Shape := ⟨3, ![2, 4224, 1024]⟩
abbrev S2x4096x1024 : Shape := ⟨3, ![2, 4096, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8448x1536, .bf16⟩
  | .hbm, ⟨1, _⟩ => ⟨S4x1x1024x384, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8x1024, .f32⟩
  | .hbm, ⟨7, _⟩ => ⟨S2x4224x1024, .f32⟩
  | .hbm, ⟨8, _⟩ => ⟨S2x4096x1024, .f32⟩
  | .local _ .vmem, ⟨0, _⟩ => ⟨S1056x1536, .bf16⟩
  | .local _ .vmem, ⟨1, _⟩ => ⟨S1056x1536, .bf16⟩
  | .local _ .vmem, ⟨2, _⟩ => ⟨S4x1x1024x384, .bf16⟩
  | .local _ .vmem, ⟨3, _⟩ => ⟨S1056x1024, .f32⟩
  | .local _ .vmem, ⟨4, _⟩ => ⟨S1056x1024, .f32⟩
  | .local _ .vmem, ⟨5, _⟩ => ⟨S1x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | .local _ .vmem, ⟨9, _⟩ => ⟨S1056x1024, .f32⟩
  | .local _ .vmem, ⟨10, _⟩ => ⟨S8x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QkvRef1Ideal.lean ====
abbrev S8448x1536 : Shape := ⟨2, ![8448, 1536]⟩
abbrev S4x1x1024x384 : Shape := ⟨4, ![4, 1, 1024, 384]⟩
abbrev S8448x1024 : Shape := ⟨2, ![8448, 1024]⟩
abbrev S1x1024 : Shape := ⟨2, ![1, 1024]⟩
abbrev S8x1024 : Shape := ⟨2, ![8, 1024]⟩
abbrev S1056x8x1024 : Shape := ⟨3, ![1056, 8, 1024]⟩
abbrev S_ : Shape := ⟨0, ![]⟩
abbrev S1056x8 : Shape := ⟨2, ![1056, 8]⟩
abbrev S1056x8x1 : Shape := ⟨3, ![1056, 8, 1]⟩
abbrev S1x8x1024 : Shape := ⟨3, ![1, 8, 1024]⟩
abbrev S4x1024x384 : Shape := ⟨3, ![4, 1024, 384]⟩
abbrev S1024x4x384 : Shape := ⟨3, ![1024, 4, 384]⟩
abbrev S1024x1536 : Shape := ⟨2, ![1024, 1536]⟩
abbrev S2x4224x1024 : Shape := ⟨3, ![2, 4224, 1024]⟩
abbrev S2x4096x1024 : Shape := ⟨3, ![2, 4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S4x1x1024x384, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8x1024, .f32⟩
  | .hbm, ⟨6, _⟩ => ⟨S1056x8x1024, .f32⟩
  | .hbm, ⟨7, _⟩ => ⟨S1056x8x1024, .f32⟩
  | .hbm, ⟨8, _⟩ => ⟨S_, .f32⟩
  | .hbm, ⟨9, _⟩ => ⟨S1056x8, .f32⟩
  | .hbm, ⟨10, _⟩ => ⟨S1056x8x1, .f32⟩
  | .hbm, ⟨11, _⟩ => ⟨S_, .f32⟩
  | .hbm, ⟨12, _⟩ => ⟨S1056x8x1, .f32⟩
  | .hbm, ⟨13, _⟩ => ⟨S1056x8x1, .f32⟩
  | .hbm, ⟨14, _⟩ => ⟨S_, .f32⟩
  | .hbm, ⟨15, _⟩ => ⟨S1056x8x1, .f32⟩
  | .hbm, ⟨16, _⟩ => ⟨S1056x8x1, .f32⟩
  | .hbm, ⟨17, _⟩ => ⟨S1056x8x1, .f32⟩
  | .hbm, ⟨18, _⟩ => ⟨S1056x8x1, .f32⟩
  | .hbm, ⟨19, _⟩ => ⟨S_, .f32⟩
  | .hbm, ⟨20, _⟩ => ⟨S1056x8x1, .f32⟩
  | .hbm, ⟨21, _⟩ => ⟨S1056x8x1, .f32⟩
  | .hbm, ⟨22, _⟩ => ⟨S1056x8x1024, .f32⟩
  | .hbm, ⟨23, _⟩ => ⟨S1056x8x1024, .f32⟩
  | .hbm, ⟨24, _⟩ => ⟨S1x8x1024, .f32⟩
  | .hbm, ⟨25, _⟩ => ⟨S1056x8x1024, .f32⟩
  | .hbm, ⟨26, _⟩ => ⟨S1056x8x1024, .f32⟩
  | .hbm, ⟨27, _⟩ => ⟨S8448x1024, .f32⟩
  | .hbm, ⟨28, _⟩ => ⟨S4x1024x384, .bf16⟩
  | .hbm, ⟨29, _⟩ => ⟨S1024x4x384, .bf16⟩
  | .hbm, ⟨30, _⟩ => ⟨S1024x1536, .bf16⟩
  | .hbm, ⟨31, _⟩ => ⟨S1024x1536, .f32⟩
  | .hbm, ⟨32, _⟩ => ⟨S8448x1536, .f32⟩
  | .hbm, ⟨33, _⟩ => ⟨S8448x1536, .f32⟩
  | .hbm, ⟨34, _⟩ => ⟨S8448x1024, .f32⟩
  | .hbm, ⟨35, _⟩ => ⟨S1056x8x1024, .f32⟩
  | .hbm, ⟨36, _⟩ => ⟨S1056x8x1024, .f32⟩
  | .hbm, ⟨37, _⟩ => ⟨S_, .f32⟩
  | .hbm, ⟨38, _⟩ => ⟨S8x1024, .f32⟩
  | .hbm, ⟨39, _⟩ => ⟨S1x8x1024, .f32⟩
  | .hbm, ⟨40, _⟩ => ⟨S1056x8x1024, .f32⟩
  | .hbm, ⟨41, _⟩ => ⟨S1056x8x1024, .f32⟩
  | .hbm, ⟨42, _⟩ => ⟨S_, .f32⟩
  | .hbm, ⟨43, _⟩ => ⟨S8x1024, .f32⟩
  | .hbm, ⟨44, _⟩ => ⟨S1056x8x1024, .f32⟩
  | .hbm, ⟨45, _⟩ => ⟨S_, .f32⟩
  | .hbm, ⟨46, _⟩ => ⟨S1056x8, .f32⟩
  | .hbm, ⟨47, _⟩ => ⟨S1056x8x1, .f32⟩
  | .hbm, ⟨48, _⟩ => ⟨S1056x8x1024, .f32⟩
  | .hbm, ⟨49, _⟩ => ⟨S1056x8x1024, .f32⟩
  | .hbm, ⟨50, _⟩ => ⟨S1056x8x1, .f32⟩
  | .hbm, ⟨51, _⟩ => ⟨S_, .f32⟩
  | .hbm, ⟨52, _⟩ => ⟨S1056x8x1, .f32⟩
  | .hbm, ⟨53, _⟩ => ⟨S1056x8x1, .f32⟩
  | .hbm, ⟨54, _⟩ => ⟨S_, .f32⟩
  | .hbm, ⟨55, _⟩ => ⟨S1056x8, .f32⟩
  | .hbm, ⟨56, _⟩ => ⟨S1056x8x1024, .f32⟩
  | .hbm, ⟨57, _⟩ => ⟨S1056x8x1024, .f32⟩
  | .hbm, ⟨58, _⟩ => ⟨S1056x8x1024, .f32⟩
  | .hbm, ⟨59, _⟩ => ⟨S1056x8x1024, .f32⟩
  | .hbm, ⟨60, _⟩ => ⟨S1056x8x1024, .f32⟩
  | .hbm, ⟨61, _⟩ => ⟨S8448x1024, .f32⟩
  | .hbm, ⟨62, _⟩ => ⟨S8448x1024, .f32⟩
  | .hbm, ⟨63, _⟩ => ⟨S2x4224x1024, .f32⟩
  | .hbm, ⟨64, _⟩ => ⟨S2x4096x1024, .f32⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Qkv2.lean ====
abbrev S8448x1024 : Shape := ⟨2, ![8448, 1024]⟩
abbrev S8448x1536 : Shape := ⟨2, ![8448, 1536]⟩
abbrev S4x1024x384 : Shape := ⟨3, ![4, 1024, 384]⟩
abbrev S1408x1024 : Shape := ⟨2, ![1408, 1024]⟩
abbrev S1408x1536 : Shape := ⟨2, ![1408, 1536]⟩
abbrev S1408x384 : Shape := ⟨2, ![1408, 384]⟩
abbrev S1x1024x384 : Shape := ⟨3, ![1, 1024, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S4x1024x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S4x1024x384, .bf16⟩
  | .local _ .vmem, ⟨5, _⟩ => ⟨S4x1024x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v39 : BitVec 1 := Scalar.cmpi .eq arg0 c5_i32
  let v40 : BitVec 32 := Scalar.extui v39
  let c0_i32_37 : BitVec 32 := 0#32
  let v41 : BitVec 1 := Scalar.cmpi .ne v40 c0_i32_37
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== QkvRef2Ideal.lean ====
abbrev S8448x1024 : Shape := ⟨2, ![8448, 1024]⟩
abbrev S8448x1536 : Shape := ⟨2, ![8448, 1536]⟩
abbrev S_ : Shape := ⟨0, ![]⟩
abbrev S4x1x1024x384 : Shape := ⟨4, ![4, 1, 1024, 384]⟩
abbrev S4x1024x384 : Shape := ⟨3, ![4, 1024, 384]⟩
abbrev S1024x4x384 : Shape := ⟨3, ![1024, 4, 384]⟩
abbrev S1024x1536 : Shape := ⟨2, ![1024, 1536]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S_, .f32⟩
  | .hbm, ⟨3, _⟩ => ⟨S4x1x1024x384, .f32⟩
  | .hbm, ⟨4, _⟩ => ⟨S8448x1024, .f32⟩
  | .hbm, ⟨5, _⟩ => ⟨S4x1024x384, .f32⟩
  | .hbm, ⟨6, _⟩ => ⟨S1024x4x384, .f32⟩
  | .hbm, ⟨7, _⟩ => ⟨S1024x1536, .f32⟩
  | .hbm, ⟨8, _⟩ => ⟨S8448x1536, .f32⟩
  | .hbm, ⟨9, _⟩ => ⟨S8448x1536, .f32⟩
  | .hbm, ⟨10, _⟩ => ⟨S1536x1024, .f32⟩
  | .hbm, ⟨11, _⟩ => ⟨S1024x1536, .f32⟩
  | .hbm, ⟨12, _⟩ => ⟨S1024x4x384, .f32⟩
  | .hbm, ⟨13, _⟩ => ⟨S4x1024x384, .f32⟩
  | .hbm, ⟨14, _⟩ => ⟨S4x1x1024x384, .f32⟩
  | .hbm, ⟨15, _⟩ => ⟨S4x1024x384, .f32⟩
  | .hbm, ⟨16, _⟩ => ⟨S4x1024x384, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Out0.lean ====
abbrev S8448x1024 : Shape := ⟨2, ![8448, 1024]⟩
abbrev S4x1x256x1024 : Shape := ⟨4, ![4, 1, 256, 1024]⟩
abbrev S1056x1024 : Shape := ⟨2, ![1056, 1024]⟩
abbrev S1056x256 : Shape := ⟨2, ![1056, 256]⟩
abbrev S1x1x256x1024 : Shape := ⟨4, ![1, 1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1x256x1024, .bf16⟩
  | .hbm, ⟨2, _⟩ => ⟨S8448x1024, .f32⟩
  | .hbm, ⟨3, _⟩ => ⟨S8448x1024, .f32⟩
  | .local _ .vmem, ⟨0, _⟩ => ⟨S1056x1024, .bf16⟩
  | .local _ .vmem, ⟨1, _⟩ => ⟨S1056x1024, .bf16⟩
  | .local _ .vmem, ⟨2, _⟩ => ⟨S4x1x256x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRef0Ideal.lean ====
abbrev S8448x1024 : Shape := ⟨2, ![8448, 1024]⟩
abbrev S4x1x256x1024 : Shape := ⟨4, ![4, 1, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1x256x1024, .bf16⟩
  | .hbm, ⟨2, _⟩ => ⟨S8448x1024, .f32⟩
  | .hbm, ⟨3, _⟩ => ⟨S8448x1024, .f32⟩
  | .hbm, ⟨4, _⟩ => ⟨S1024x1024, .bf16⟩
  | .hbm, ⟨5, _⟩ => ⟨S1024x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out1.lean ====
abbrev S8448x1024 : Shape := ⟨2, ![8448, 1024]⟩
abbrev S4x1x256x1024 : Shape := ⟨4, ![4, 1, 256, 1024]⟩
abbrev S1056x1024 : Shape := ⟨2, ![1056, 1024]⟩
abbrev S1x1x256x1024 : Shape := ⟨4, ![1, 1, 256, 1024]⟩
abbrev S256x1024 : Shape := ⟨2, ![256, 1024]⟩
abbrev S1056x256 : Shape := ⟨2, ![1056, 256]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S4x1x256x1024, .bf16⟩
  | .hbm, ⟨2, _⟩ => ⟨S8448x1024, .bf16⟩
  | .local _ .vmem, ⟨0, _⟩ => ⟨S1056x1024, .f32⟩
  | .local _ .vmem, ⟨1, _⟩ => ⟨S1056x1024, .f32⟩
  | .local _ .vmem, ⟨2, _⟩ => ⟨S4x1x256x1024, .bf16⟩
  | .local _ .vmem, ⟨3, _⟩ => ⟨S1056x1024, .bf16⟩
  | .local _ .vmem, ⟨4, _⟩ => ⟨S1056x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutRef1Ideal.lean ====
abbrev S8448x1024 : Shape := ⟨2, ![8448, 1024]⟩
abbrev S4x1x256x1024 : Shape := ⟨4, ![4, 1, 256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S4x1x256x1024, .bf16⟩
  | .hbm, ⟨2, _⟩ => ⟨S_, .f32⟩
  | .hbm, ⟨3, _⟩ => ⟨S8448x1024, .f32⟩
  | .hbm, ⟨4, _⟩ => ⟨S1024x1024, .bf16⟩
  | .hbm, ⟨5, _⟩ => ⟨S1024x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out2.lean ====
abbrev S8448x1024 : Shape := ⟨2, ![8448, 1024]⟩
abbrev S4x256x1024 : Shape := ⟨3, ![4, 256, 1024]⟩
abbrev S1408x1024 : Shape := ⟨2, ![1408, 1024]⟩
abbrev S1408x256 : Shape := ⟨2, ![1408, 256]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S4x256x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S4x256x1024, .bf16⟩
  | .local _ .vmem, ⟨5, _⟩ => ⟨S4x256x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v43 : BitVec 1 := Scalar.cmpi .eq arg0 c5_i32
  let v44 : BitVec 32 := Scalar.extui v43
  let c0_i32_37 : BitVec 32 := 0#32
  let v45 : BitVec 1 := Scalar.cmpi .ne v44 c0_i32_37
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutRef2Ideal.lean ====
abbrev S8448x1024 : Shape := ⟨2, ![8448, 1024]⟩
abbrev S_ : Shape := ⟨0, ![]⟩
abbrev S4x1x256x1024 : Shape := ⟨4, ![4, 1, 256, 1024]⟩
abbrev S1024x1024 : Shape := ⟨2, ![1024, 1024]⟩
abbrev S4x256x1024 : Shape := ⟨3, ![4, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S_, .f32⟩
  | .hbm, ⟨3, _⟩ => ⟨S4x1x256x1024, .f32⟩
  | .hbm, ⟨4, _⟩ => ⟨S8448x1024, .f32⟩
  | .hbm, ⟨5, _⟩ => ⟨S1024x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S4x1x256x1024, .f32⟩
  | .hbm, ⟨10, _⟩ => ⟨S4x256x1024, .f32⟩
  | .hbm, ⟨11, _⟩ => ⟨S4x256x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Glu0.lean ====
abbrev S8448x1024 : Shape := ⟨2, ![8448, 1024]⟩
abbrev S4x1x1024x512 : Shape := ⟨4, ![4, 1, 1024, 512]⟩
abbrev S8448x2048 : Shape := ⟨2, ![8448, 2048]⟩
abbrev S1056x1024 : Shape := ⟨2, ![1056, 1024]⟩
abbrev S1056x2048 : Shape := ⟨2, ![1056, 2048]⟩
abbrev S1x1x1024x512 : Shape := ⟨4, ![1, 1, 1024, 512]⟩
abbrev S1024x512 : Shape := ⟨2, ![1024, 512]⟩
abbrev S1056x512 : Shape := ⟨2, ![1056, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x1x1024x512, .bf16⟩
  | .hbm, ⟨2, _⟩ => ⟨S8448x2048, .bf16⟩
  | .local _ .vmem, ⟨0, _⟩ => ⟨S1056x1024, .bf16⟩
  | .local _ .vmem, ⟨1, _⟩ => ⟨S1056x1024, .bf16⟩
  | .local _ .vmem, ⟨2, _⟩ => ⟨S4x1x1024x512, .bf16⟩
  | .local _ .vmem, ⟨3, _⟩ => ⟨S1056x2048, .bf16⟩
  | .local _ .vmem, ⟨4, _⟩ => ⟨S1056x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRef0Ideal.lean ====
abbrev S8448x1024 : Shape := ⟨2, ![8448, 1024]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S8448x2048 : Shape := ⟨2, ![8448, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1x1024x512, .bf16⟩
  | .hbm, ⟨2, _⟩ => ⟨S8448x1024, .f32⟩
  | .hbm, ⟨3, _⟩ => ⟨S4x1024x512, .bf16⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S8448x2048, .f32⟩
  | .hbm, ⟨8, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Glu1.lean ====
abbrev S8448x1024 : Shape := ⟨2, ![8448, 1024]⟩
abbrev S8448x2048 : Shape := ⟨2, ![8448, 2048]⟩
abbrev S4x1x1024x512 : Shape := ⟨4, ![4, 1, 1024, 512]⟩
abbrev S1056x1024 : Shape := ⟨2, ![1056, 1024]⟩
abbrev S1056x2048 : Shape := ⟨2, ![1056, 2048]⟩
abbrev S1056x512 : Shape := ⟨2, ![1056, 512]⟩
abbrev S1x1x1024x512 : Shape := ⟨4, ![1, 1, 1024, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S4x1x1024x512, .bf16⟩
  | .hbm, ⟨3, _⟩ => ⟨S8448x2048, .bf16⟩
  | .hbm, ⟨4, _⟩ => ⟨S8448x1024, .bf16⟩
  | .local _ .vmem, ⟨0, _⟩ => ⟨S1056x1024, .f32⟩
  | .local _ .vmem, ⟨1, _⟩ => ⟨S1056x1024, .f32⟩
  | .local _ .vmem, ⟨2, _⟩ => ⟨S1056x2048, .bf16⟩
  | .local _ .vmem, ⟨3, _⟩ => ⟨S1056x2048, .bf16⟩
  | .local _ .vmem, ⟨4, _⟩ => ⟨S4x1x1024x512, .bf16⟩
  | .local _ .vmem, ⟨5, _⟩ => ⟨S1056x2048, .bf16⟩
  | .local _ .vmem, ⟨6, _⟩ => ⟨S1056x2048, .bf16⟩
  | .local _ .vmem, ⟨7, _⟩ => ⟨S1056x1024, .bf16⟩
  | .local _ .vmem, ⟨8, _⟩ => ⟨S1056x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1056x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRef1Ideal.lean ====
abbrev S8448x1024 : Shape := ⟨2, ![8448, 1024]⟩
abbrev S8448x2048 : Shape := ⟨2, ![8448, 2048]⟩
abbrev S4x1x1024x512 : Shape := ⟨4, ![4, 1, 1024, 512]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S4x1x1024x512, .bf16⟩
  | .hbm, ⟨3, _⟩ => ⟨S8448x2048, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x2048, .f32⟩
  | .hbm, ⟨23, _⟩ => ⟨S_, .f32⟩
  | .hbm, ⟨24, _⟩ => ⟨S8448x1024, .f32⟩
  | .hbm, ⟨25, _⟩ => ⟨S4x1024x512, .bf16⟩
  | .hbm, ⟨26, _⟩ => ⟨S1024x4x512, .bf16⟩
  | .hbm, ⟨27, _⟩ => ⟨S1024x2048, .bf16⟩
  | .hbm, ⟨28, _⟩ => ⟨S1024x2048, .f32⟩
  | .hbm, ⟨29, _⟩ => ⟨S8448x2048, .f32⟩
  | .hbm, ⟨30, _⟩ => ⟨S8448x1024, .f32⟩
  | .hbm, ⟨31, _⟩ => ⟨S8448x2048, .bf16⟩
  | .hbm, ⟨32, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Glu2.lean ====
abbrev S8448x1024 : Shape := ⟨2, ![8448, 1024]⟩
abbrev S8448x2048 : Shape := ⟨2, ![8448, 2048]⟩
abbrev S4x1024x512 : Shape := ⟨3, ![4, 1024, 512]⟩
abbrev S1408x1024 : Shape := ⟨2, ![1408, 1024]⟩
abbrev S1408x2048 : Shape := ⟨2, ![1408, 2048]⟩
abbrev S1408x512 : Shape := ⟨2, ![1408, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S4x1024x512, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S4x1024x512, .bf16⟩
  | .local _ .vmem, ⟨5, _⟩ => ⟨S4x1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v39 : BitVec 1 := Scalar.cmpi .eq arg0 c5_i32
  let v40 : BitVec 32 := Scalar.extui v39
  let c0_i32_37 : BitVec 32 := 0#32
  let v41 : BitVec 1 := Scalar.cmpi .ne v40 c0_i32_37
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GluRef2Ideal.lean ====
abbrev S8448x1024 : Shape := ⟨2, ![8448, 1024]⟩
abbrev S8448x2048 : Shape := ⟨2, ![8448, 2048]⟩
abbrev S_ : Shape := ⟨0, ![]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S_, .f32⟩
  | .hbm, ⟨3, _⟩ => ⟨S4x1x1024x512, .f32⟩
  | .hbm, ⟨4, _⟩ => ⟨S8448x1024, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S8448x2048, .f32⟩
  | .hbm, ⟨9, _⟩ => ⟨S8448x2048, .f32⟩
  | .hbm, ⟨10, _⟩ => ⟨S2048x1024, .f32⟩
  | .hbm, ⟨11, _⟩ => ⟨S1024x2048, .f32⟩
  | .hbm, ⟨12, _⟩ => ⟨S1024x4x512, .f32⟩
  | .hbm, ⟨13, _⟩ => ⟨S4x1024x512, .f32⟩
  | .hbm, ⟨14, _⟩ => ⟨S4x1x1024x512, .f32⟩
  | .hbm, ⟨15, _⟩ => ⟨S4x1024x512, .f32⟩
  | .hbm, ⟨16, _⟩ => ⟨S4x1024x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Norm0.lean ====
abbrev S8448x1024 : Shape := ⟨2, ![8448, 1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩
abbrev S48x8x1024 : Shape := ⟨3, ![48, 8, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S8448x1024, .f32⟩
  | .hbm, ⟨4, _⟩ => ⟨S8448x1024, .f32⟩
  | .hbm, ⟨5, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRef0Ideal.lean ====
abbrev S8448x1024 : Shape := ⟨2, ![8448, 1024]⟩
abbrev S1x1024 : Shape := ⟨2, ![1, 1024]⟩
abbrev S8x1024 : Shape := ⟨2, ![8, 1024]⟩
abbrev S1056x8x1024 : Shape := ⟨3, ![1056, 8, 1024]⟩
abbrev S_ : Shape := ⟨0, ![]⟩
abbrev S1056x8 : Shape := ⟨2, ![1056, 8]⟩
abbrev S1056x8x1 : Shape := ⟨3, ![1056, 8, 1]⟩
abbrev S1x8x1024 : Shape := ⟨3, ![1, 8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S8448x1024, .f32⟩
  | .hbm, ⟨4, _⟩ => ⟨S8x1024, .f32⟩
  | .hbm, ⟨5, _⟩ => ⟨S1056x8x1024, .f32⟩
  | .hbm, ⟨6, _⟩ => ⟨S1056x8x1024, .f32⟩
  | .hbm, ⟨7, _⟩ => ⟨S_, .f32⟩
  | .hbm, ⟨8, _⟩ => ⟨S1056x8, .f32⟩
  | .hbm, ⟨9, _⟩ => ⟨S1056x8x1, .f32⟩
  | .hbm, ⟨10, _⟩ => ⟨S_, .f32⟩
  | .hbm, ⟨11, _⟩ => ⟨S1056x8x1, .f32⟩
  | .hbm, ⟨12, _⟩ => ⟨S1056x8x1, .f32⟩
  | .hbm, ⟨13, _⟩ => ⟨S_, .f32⟩
  | .hbm, ⟨14, _⟩ => ⟨S1056x8x1, .f32⟩
  | .hbm, ⟨15, _⟩ => ⟨S1056x8x1, .f32⟩
  | .hbm, ⟨16, _⟩ => ⟨S1056x8x1, .f32⟩
  | .hbm, ⟨17, _⟩ => ⟨S1056x8x1, .f32⟩
  | .hbm, ⟨18, _⟩ => ⟨S_, .f32⟩
  | .hbm, ⟨19, _⟩ => ⟨S1056x8x1, .f32⟩
  | .hbm, ⟨20, _⟩ => ⟨S1056x8x1, .f32⟩
  | .hbm, ⟨21, _⟩ => ⟨S1056x8x1024, .f32⟩
  | .hbm, ⟨22, _⟩ => ⟨S1056x8x1024, .f32⟩
  | .hbm, ⟨23, _⟩ => ⟨S1x8x1024, .f32⟩
  | .hbm, ⟨24, _⟩ => ⟨S1056x8x1024, .f32⟩
  | .hbm, ⟨25, _⟩ => ⟨S1056x8x1024, .f32⟩
  | .hbm, ⟨26, _⟩ => ⟨S8448x1024, .f32⟩
  | .hbm, ⟨27, _⟩ => ⟨S1056x8x1024, .f32⟩
  | .hbm, ⟨28, _⟩ => ⟨S1056x8x1024, .f32⟩
  | .hbm, ⟨29, _⟩ => ⟨S_, .f32⟩
  | .hbm, ⟨30, _⟩ => ⟨S8x1024, .f32⟩
  | .hbm, ⟨31, _⟩ => ⟨S1x8x1024, .f32⟩
  | .hbm, ⟨32, _⟩ => ⟨S1056x8x1024, .f32⟩
  | .hbm, ⟨33, _⟩ => ⟨S1056x8x1024, .f32⟩
  | .hbm, ⟨34, _⟩ => ⟨S_, .f32⟩
  | .hbm, ⟨35, _⟩ => ⟨S8x1024, .f32⟩
  | .hbm, ⟨36, _⟩ => ⟨S1056x8x1024, .f32⟩
  | .hbm, ⟨37, _⟩ => ⟨S_, .f32⟩
  | .hbm, ⟨38, _⟩ => ⟨S1056x8, .f32⟩
  | .hbm, ⟨39, _⟩ => ⟨S1056x8x1, .f32⟩
  | .hbm, ⟨40, _⟩ => ⟨S1056x8x1024, .f32⟩
  | .hbm, ⟨41, _⟩ => ⟨S1056x8x1024, .f32⟩
  | .hbm, ⟨42, _⟩ => ⟨S1056x8x1, .f32⟩
  | .hbm, ⟨43, _⟩ => ⟨S_, .f32⟩
  | .hbm, ⟨44, _⟩ => ⟨S1056x8x1, .f32⟩
  | .hbm, ⟨45, _⟩ => ⟨S1056x8x1, .f32⟩
  | .hbm, ⟨46, _⟩ => ⟨S_, .f32⟩
  | .hbm, ⟨47, _⟩ => ⟨S1056x8, .f32⟩
  | .hbm, ⟨48, _⟩ => ⟨S1056x8x1024, .f32⟩
  | .hbm, ⟨49, _⟩ => ⟨S1056x8x1024, .f32⟩
  | .hbm, ⟨50, _⟩ => ⟨S1056x8x1024, .f32⟩
  | .hbm, ⟨51, _⟩ => ⟨S1056x8x1024, .f32⟩
  | .hbm, ⟨52, _⟩ => ⟨S1056x8x1024, .f32⟩
  | .hbm, ⟨53, _⟩ => ⟨S8448x1024, .f32⟩
  | .hbm, ⟨54, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Adam0.lean ====
abbrev S8x1024x1024 : Shape := ⟨3, ![8, 1024, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Adam0Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRef0Ideal.lean ====
abbrev S8x1024x1024 : Shape := ⟨3, ![8, 1024, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S8x1024x1024, .f32⟩
  | .hbm, ⟨9, _⟩ => ⟨S_, .f32⟩
  | .hbm, ⟨10, _⟩ => ⟨S1024x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Adam1.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Adam1Ideal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRef1Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adam2.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Adam2Ideal.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRef2Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adam3.lean ====
abbrev S8x1024x384 : Shape := ⟨3, ![8, 1024, 384]⟩
abbrev S1024x384 : Shape := ⟨2, ![1024, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Adam3Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRef3Ideal.lean ====
abbrev S8x1024x384 : Shape := ⟨3, ![8, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pack0.lean ====
abbrev S16x256 : Shape := ⟨2, ![16, 256]⟩
abbrev S1x256 : Shape := ⟨2, ![1, 256]⟩
abbrev S8x16x256 : Shape := ⟨3, ![8, 16, 256]⟩
abbrev S8x1x256 : Shape := ⟨3, ![8, 1, 256]⟩
abbrev S8x4096 : Shape := ⟨2, ![8, 4096]⟩
abbrev S8x256 : Shape := ⟨2, ![8, 256]⟩
abbrev S8x4608 : Shape := ⟨2, ![8, 4608]⟩
abbrev S_ : Shape := ⟨0, ![]⟩
abbrev S8x5120 : Shape := ⟨2, ![8, 5120]⟩
abbrev S8x40x128 : Shape := ⟨3, ![8, 40, 128]⟩
abbrev S4096 : Shape := ⟨1, ![4096]⟩
abbrev S256 : Shape := ⟨1, ![256]⟩
abbrev S4608 : Shape := ⟨1, ![4608]⟩
abbrev S5120 : Shape := ⟨1, ![5120]⟩
abbrev S40x128 : Shape := ⟨2, ![40, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 76
  | .vmem => 16
  | .smem => 0
  | _ => 0

abbrev bufTy : (tb : Table) → Fin (tcTables nBuf tb) → BufTy
  | .hbm, ⟨0, _⟩ => ⟨S16x256, .f32⟩
  | .hbm, ⟨1, _⟩ => ⟨S1x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S1x256, .f32⟩
  | .hbm, ⟨6, _⟩ => ⟨S16x256, .f32⟩
  | .hbm, ⟨7, _⟩ => ⟨S1x256, .f32⟩
  | .hbm, ⟨8, _⟩ => ⟨S1x256, .f32⟩
  | .hbm, ⟨9, _⟩ => ⟨S8x16x256, .f32⟩
  | .hbm, ⟨10, _⟩ => ⟨S8x1x256, .f32⟩
  | .hbm, ⟨11, _⟩ => ⟨S8x1x256, .f32⟩
  | .hbm, ⟨12, _⟩ => ⟨S8x4096, .f32⟩
  | .hbm, ⟨13, _⟩ => ⟨S8x256, .f32⟩
  | .hbm, ⟨14, _⟩ => ⟨S8x256, .f32⟩
  | .hbm, ⟨15, _⟩ => ⟨S8x4608, .f32⟩
  | .hbm, ⟨16, _⟩ => ⟨S_, .i32⟩
  | .hbm, ⟨17, _⟩ => ⟨S_, .f32⟩
  | .hbm, ⟨18, _⟩ => ⟨S8x5120, .f32⟩
  | .hbm, ⟨19, _⟩ => ⟨S8x40x128, .f32⟩
  | .hbm, ⟨20, _⟩ => ⟨S4096, .f32⟩
  | .hbm, ⟨21, _⟩ => ⟨S256, .f32⟩
  | .hbm, ⟨22, _⟩ => ⟨S256, .f32⟩
  | .hbm, ⟨23, _⟩ => ⟨S4608, .f32⟩
  | .hbm, ⟨24, _⟩ => ⟨S_, .i32⟩
  | .hbm, ⟨25, _⟩ => ⟨S_, .f32⟩
  | .hbm, ⟨26, _⟩ => ⟨S5120, .f32⟩
  | .hbm, ⟨27, _⟩ => ⟨S40x128, .f32⟩
  | .hbm, ⟨28, _⟩ => ⟨S4096, .f32⟩
  | .hbm, ⟨29, _⟩ => ⟨S256, .f32⟩
  | .hbm, ⟨30, _⟩ => ⟨S256, .f32⟩
  | .hbm, ⟨31, _⟩ => ⟨S4608, .f32⟩
  | .hbm, ⟨32, _⟩ => ⟨S_, .i32⟩
  | .hbm, ⟨33, _⟩ => ⟨S_, .f32⟩
  | .hbm, ⟨34, _⟩ => ⟨S5120, .f32⟩
  | .hbm, ⟨35, _⟩ => ⟨S40x128, .f32⟩
  | .hbm, ⟨36, _⟩ => ⟨S4096, .f32⟩
  | .hbm, ⟨37, _⟩ => ⟨S256, .f32⟩
  | .hbm, ⟨38, _⟩ => ⟨S256, .f32⟩
  | .hbm, ⟨39, _⟩ => ⟨S4608, .f32⟩
  | .hbm, ⟨40, _⟩ => ⟨S_, .i32⟩
  | .hbm, ⟨41, _⟩ => ⟨S_, .f32⟩
  | .hbm, ⟨42, _⟩ => ⟨S5120, .f32⟩
  | .hbm, ⟨43, _⟩ => ⟨S40x128, .f32⟩
  | .hbm, ⟨44, _⟩ => ⟨S40x128, .f32⟩
  | .hbm, ⟨45, _⟩ => ⟨S40x128, .f32⟩
  | .hbm, ⟨46, _⟩ => ⟨S40x128, .f32⟩
  | .hbm, ⟨47, _⟩ => ⟨S40x128, .f32⟩
  | .hbm, ⟨48, _⟩ => ⟨S5120, .f32⟩
  | .hbm, ⟨49, _⟩ => ⟨S4096, .f32⟩
  | .hbm, ⟨50, _⟩ => ⟨S16x256, .f32⟩
  | .hbm, ⟨51, _⟩ => ⟨S256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S5120, .f32⟩
  | .hbm, ⟨56, _⟩ => ⟨S4096, .f32⟩
  | .hbm, ⟨57, _⟩ => ⟨S16x256, .f32⟩
  | .hbm, ⟨58, _⟩ => ⟨S256, .f32⟩
  | .hbm, ⟨59, _⟩ => ⟨S1x256, .f32⟩
  | .hbm, ⟨60, _⟩ => ⟨S256, .f32⟩
  | .hbm, ⟨61, _⟩ => ⟨S1x256, .f32⟩
  | .hbm, ⟨62, _⟩ => ⟨S5120, .f32⟩
  | .hbm, ⟨63, _⟩ => ⟨S4096, .f32⟩
  | .hbm, ⟨64, _⟩ => ⟨S16x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S5120, .f32⟩
  | .hbm, ⟨70, _⟩ => ⟨S4096, .f32⟩
  | .hbm, ⟨71, _⟩ => ⟨S16x256, .f32⟩
  | .hbm, ⟨72, _⟩ => ⟨S256, .f32⟩
  | .hbm, ⟨73, _⟩ => ⟨S1x256, .f32⟩
  | .hbm, ⟨74, _⟩ => ⟨S256, .f32⟩
  | .hbm, ⟨75, _⟩ => ⟨S1x256, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_call2_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Pack0Ideal.lean ====
abbrev S16x256 : Shape := ⟨2, ![16, 256]⟩
abbrev S1x256 : Shape := ⟨2, ![1, 256]⟩
abbrev S8x16x256 : Shape := ⟨3, ![8, 16, 256]⟩
abbrev S8x1x256 : Shape := ⟨3, ![8, 1, 256]⟩
abbrev S8x4096 : Shape := ⟨2, ![8, 4096]⟩
abbrev S8x256 : Shape := ⟨2, ![8, 256]⟩
abbrev S8x4608 : Shape := ⟨2, ![8, 4608]⟩
abbrev S_ : Shape := ⟨0, ![]⟩
abbrev S8x5120 : Shape := ⟨2, ![8, 5120]⟩
abbrev S8x40x128 : Shape := ⟨3, ![8, 40, 128]⟩
abbrev S4096 : Shape := ⟨1, ![4096]⟩
abbrev S256 : Shape := ⟨1, ![256]⟩
abbrev S4608 : Shape := ⟨1, ![4608]⟩
abbrev S5120 : Shape := ⟨1, ![5120]⟩
abbrev S40x128 : Shape := ⟨2, ![40, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 76
  | .vmem => 16
  | .smem => 0
  | _ => 0

abbrev bufTy : (tb : Table) → Fin (tcTables nBuf tb) → BufTy
  | .hbm, ⟨0, _⟩ => ⟨S16x256, .f32⟩
  | .hbm, ⟨1, _⟩ => ⟨S1x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S1x256, .f32⟩
  | .hbm, ⟨6, _⟩ => ⟨S16x256, .f32⟩
  | .hbm, ⟨7, _⟩ => ⟨S1x256, .f32⟩
  | .hbm, ⟨8, _⟩ => ⟨S1x256, .f32⟩
  | .hbm, ⟨9, _⟩ => ⟨S8x16x256, .f32⟩
  | .hbm, ⟨10, _⟩ => ⟨S8x1x256, .f32⟩
  | .hbm, ⟨11, _⟩ => ⟨S8x1x256, .f32⟩
  | .hbm, ⟨12, _⟩ => ⟨S8x4096, .f32⟩
  | .hbm, ⟨13, _⟩ => ⟨S8x256, .f32⟩
  | .hbm, ⟨14, _⟩ => ⟨S8x256, .f32⟩
  | .hbm, ⟨15, _⟩ => ⟨S8x4608, .f32⟩
  | .hbm, ⟨16, _⟩ => ⟨S_, .i32⟩
  | .hbm, ⟨17, _⟩ => ⟨S_, .f32⟩
  | .hbm, ⟨18, _⟩ => ⟨S8x5120, .f32⟩
  | .hbm, ⟨19, _⟩ => ⟨S8x40x128, .f32⟩
  | .hbm, ⟨20, _⟩ => ⟨S4096, .f32⟩
  | .hbm, ⟨21, _⟩ => ⟨S256, .f32⟩
  | .hbm, ⟨22, _⟩ => ⟨S256, .f32⟩
  | .hbm, ⟨23, _⟩ => ⟨S4608, .f32⟩
  | .hbm, ⟨24, _⟩ => ⟨S_, .i32⟩
  | .hbm, ⟨25, _⟩ => ⟨S_, .f32⟩
  | .hbm, ⟨26, _⟩ => ⟨S5120, .f32⟩
  | .hbm, ⟨27, _⟩ => ⟨S40x128, .f32⟩
  | .hbm, ⟨28, _⟩ => ⟨S4096, .f32⟩
  | .hbm, ⟨29, _⟩ => ⟨S256, .f32⟩
  | .hbm, ⟨30, _⟩ => ⟨S256, .f32⟩
  | .hbm, ⟨31, _⟩ => ⟨S4608, .f32⟩
  | .hbm, ⟨32, _⟩ => ⟨S_, .i32⟩
  | .hbm, ⟨33, _⟩ => ⟨S_, .f32⟩
  | .hbm, ⟨34, _⟩ => ⟨S5120, .f32⟩
  | .hbm, ⟨35, _⟩ => ⟨S40x128, .f32⟩
  | .hbm, ⟨36, _⟩ => ⟨S4096, .f32⟩
  | .hbm, ⟨37, _⟩ => ⟨S256, .f32⟩
  | .hbm, ⟨38, _⟩ => ⟨S256, .f32⟩
  | .hbm, ⟨39, _⟩ => ⟨S4608, .f32⟩
  | .hbm, ⟨40, _⟩ => ⟨S_, .i32⟩
  | .hbm, ⟨41, _⟩ => ⟨S_, .f32⟩
  | .hbm, ⟨42, _⟩ => ⟨S5120, .f32⟩
  | .hbm, ⟨43, _⟩ => ⟨S40x128, .f32⟩
  | .hbm, ⟨44, _⟩ => ⟨S40x128, .f32⟩
  | .hbm, ⟨45, _⟩ => ⟨S40x128, .f32⟩
  | .hbm, ⟨46, _⟩ => ⟨S40x128, .f32⟩
  | .hbm, ⟨47, _⟩ => ⟨S40x128, .f32⟩
  | .hbm, ⟨48, _⟩ => ⟨S5120, .f32⟩
  | .hbm, ⟨49, _⟩ => ⟨S4096, .f32⟩
  | .hbm, ⟨50, _⟩ => ⟨S16x256, .f32⟩
  | .hbm, ⟨51, _⟩ => ⟨S256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S5120, .f32⟩
  | .hbm, ⟨56, _⟩ => ⟨S4096, .f32⟩
  | .hbm, ⟨57, _⟩ => ⟨S16x256, .f32⟩
  | .hbm, ⟨58, _⟩ => ⟨S256, .f32⟩
  | .hbm, ⟨59, _⟩ => ⟨S1x256, .f32⟩
  | .hbm, ⟨60, _⟩ => ⟨S256, .f32⟩
  | .hbm, ⟨61, _⟩ => ⟨S1x256, .f32⟩
  | .hbm, ⟨62, _⟩ => ⟨S5120, .f32⟩
  | .hbm, ⟨63, _⟩ => ⟨S4096, .f32⟩
  | .hbm, ⟨64, _⟩ => ⟨S16x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S5120, .f32⟩
  | .hbm, ⟨70, _⟩ => ⟨S4096, .f32⟩
  | .hbm, ⟨71, _⟩ => ⟨S16x256, .f32⟩
  | .hbm, ⟨72, _⟩ => ⟨S256, .f32⟩
  | .hbm, ⟨73, _⟩ => ⟨S1x256, .f32⟩
  | .hbm, ⟨74, _⟩ => ⟨S256, .f32⟩
  | .hbm, ⟨75, _⟩ => ⟨S1x256, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_call2_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![1, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PackRef0Ideal.lean ====
abbrev S16x256 : Shape := ⟨2, ![16, 256]⟩
abbrev S1x256 : Shape := ⟨2, ![1, 256]⟩
abbrev S8x16x256 : Shape := ⟨3, ![8, 16, 256]⟩
abbrev S8x1x256 : Shape := ⟨3, ![8, 1, 256]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S1x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S1x256, .f32⟩
  | .hbm, ⟨6, _⟩ => ⟨S16x256, .f32⟩
  | .hbm, ⟨7, _⟩ => ⟨S1x256, .f32⟩
  | .hbm, ⟨8, _⟩ => ⟨S1x256, .f32⟩
  | .hbm, ⟨9, _⟩ => ⟨S8x16x256, .f32⟩
  | .hbm, ⟨10, _⟩ => ⟨S8x1x256, .f32⟩
  | .hbm, ⟨11, _⟩ => ⟨S8x1x256, .f32⟩
  | .hbm, ⟨12, _⟩ => ⟨S_, .f32⟩
  | .hbm, ⟨13, _⟩ => ⟨S16x256, .f32⟩
  | .hbm, ⟨14, _⟩ => ⟨S_, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S16x256, .f32⟩
  | .hbm, ⟨25, _⟩ => ⟨S_, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | .hbm, ⟨39, _⟩ => ⟨S16x256, .f32⟩
  | .hbm, ⟨40, _⟩ => ⟨S_, .f32⟩
  | .hbm, ⟨41, _⟩ => ⟨S16x256, .f32⟩
  | .hbm, ⟨42, _⟩ => ⟨S16x256, .f32⟩
  | .hbm, ⟨43, _⟩ => ⟨S16x256, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S_, .f32⟩
  | .hbm, ⟨49, _⟩ => ⟨S16x256, .f32⟩
  | .hbm, ⟨50, _⟩ => ⟨S16x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S_, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S_, .f32⟩
  | .hbm, ⟨82, _⟩ => ⟨S1x256, .f32⟩
  | .hbm, ⟨83, _⟩ => ⟨S1x256, .f32⟩
  | .hbm, ⟨84, _⟩ => ⟨S_, .f32⟩
  | .hbm, ⟨85, _⟩ => ⟨S1x256, .f32⟩
  | .hbm, ⟨86, _⟩ => ⟨S1x256, .f32⟩
  | .hbm, ⟨87, _⟩ => ⟨S_, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S_, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S_, .f32⟩
  | .hbm, ⟨96, _⟩ => ⟨S1x256, .f32⟩
  | .hbm, ⟨97, _⟩ => ⟨S1x256, .f32⟩
  | .hbm, ⟨98, _⟩ => ⟨S1x256, .f32⟩
  | .hbm, ⟨99, _⟩ => ⟨S_, .f32⟩
  | .hbm, ⟨100, _⟩ => ⟨S1x256, .f32⟩
  | .hbm, ⟨101, _⟩ => ⟨S1x256, .f32⟩
  | .hbm, ⟨102, _⟩ => ⟨S_, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S_, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S_, .f32⟩
  | .hbm, ⟨111, _⟩ => ⟨S1x256, .f32⟩
  | .hbm, ⟨112, _⟩ => ⟨S1x256, .f32⟩
  | .hbm, ⟨113, _⟩ => ⟨S1x256, .f32⟩
  | .hbm, ⟨114, _⟩ => ⟨S_, .f32⟩
  | .hbm, ⟨115, _⟩ => ⟨S1x256, .f32⟩
  | .hbm, ⟨116, _⟩ => ⟨S1x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_v4 : Ref sig .tc := ⟨.hbm, 20, rfl⟩
abbrev main_cst_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_10 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_15 : Ref sig .tc := ⟨.hbm, 66, rfl⟩
abbrev main_v38 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_17 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_18 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== Pack1.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x4096 : Shape := ⟨2, ![8, 4096]⟩
abbrev S8x64 : Shape := ⟨2, ![8, 64]⟩
abbrev S8x65536 : Shape := ⟨2, ![8, 65536]⟩
abbrev S8x270400 : Shape := ⟨2, ![8, 270400]⟩
abbrev S_ : Shape := ⟨0, ![]⟩
abbrev S8x278528 : Shape := ⟨2, ![8, 278528]⟩
abbrev S8x272x1024 : Shape := ⟨3, ![8, 272, 1024]⟩
abbrev S4096 : Shape := ⟨1, ![4096]⟩
abbrev S64 : Shape := ⟨1, ![64]⟩
abbrev S65536 : Shape := ⟨1, ![65536]⟩
abbrev S270400 : Shape := ⟨1, ![270400]⟩
abbrev S278528 : Shape := ⟨1, ![278528]⟩
abbrev S272x1024 : Shape := ⟨2, ![272, 1024]⟩
abbrev S8x136x1024 : Shape := ⟨3, ![8, 136, 1024]⟩
abbrev S136x1024 : Shape := ⟨2, ![136, 1024]⟩
abbrev S1x136x1024 : Shape := ⟨3, ![1, 136, 1024]⟩

abbrev nBuf : Space → Nat
  | .hbm => 140
  | .vmem => 16
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S1x64x64, .f32⟩
  | 8 => ⟨S1x64x64, .f32⟩
  | 9 => ⟨S1x64, .f32⟩
  | 10 => ⟨S1x64x64x16, .f32⟩
  | 11 => ⟨S1x64x64x16, .f32⟩
  | 12 => ⟨S1x64x16x64, .f32⟩
  | 13 => ⟨S1x64x16x64, .f32⟩
  | 14 => ⟨S1x64x64, .f32⟩
  | 15 => ⟨S1x64x64, .f32⟩
  | 16 => ⟨S1x64, .f32⟩
  | 17 => ⟨S1x64x64x16, .f32⟩
  | 18 => ⟨S1x64x64x16, .f32⟩
  | 19 => ⟨S1x64x16x64, .f32⟩
  | 20 => ⟨S1x64x16x64, .f32⟩
  | 21 => ⟨S8x1x64x64, .f32⟩
  | 22 => ⟨S8x1x64x64, .f32⟩
  | 23 => ⟨S8x1x64, .f32⟩
  | 24 => ⟨S8x1x64x64x16, .f32⟩
  | 25 => ⟨S8x1x64x64x16, .f32⟩
  | 26 => ⟨S8x1x64x16x64, .f32⟩
  | 27 => ⟨S8x1x64x16x64, .f32⟩
  | 28 => ⟨S8x4096, .f32⟩
  | 29 => ⟨S8x4096, .f32⟩
  | 30 => ⟨S8x64, .f32⟩
  | 31 => ⟨S8x65536, .f32⟩
  | 32 => ⟨S8x65536, .f32⟩
  | 33 => ⟨S8x65536, .f32⟩
  | 34 => ⟨S8x65536, .f32⟩
  | 35 => ⟨S8x270400, .f32⟩
  | 36 => ⟨S_, .i32⟩
  | 37 => ⟨S_, .f32⟩
  | 38 => ⟨S8x278528, .f32⟩
  | 39 => ⟨S8x272x1024, .f32⟩
  | 40 => ⟨S4096, .f32⟩
  | 41 => ⟨S4096, .f32⟩
  | 42 => ⟨S64, .f32⟩
  | 43 => ⟨S65536, .f32⟩
  | 44 => ⟨S65536, .f32⟩
  | 45 => ⟨S65536, .f32⟩
  | 46 => ⟨S65536, .f32⟩
  | 47 => ⟨S270400, .f32⟩
  | 48 => ⟨S_, .i32⟩
  | 49 => ⟨S_, .f32⟩
  | 50 => ⟨S278528, .f32⟩
  | 51 => ⟨S272x1024, .f32⟩
  | 52 => ⟨S4096, .f32⟩
  | 53 => ⟨S4096, .f32⟩
  | 54 => ⟨S64, .f32⟩
  | 55 => ⟨S65536, .f32⟩
  | 56 => ⟨S65536, .f32⟩
  | 57 => ⟨S65536, .f32⟩
  | 58 => ⟨S65536, .f32⟩
  | 59 => ⟨S270400, .f32⟩
  | 60 => ⟨S_, .i32⟩
  | 61 => ⟨S_, .f32⟩
  | 62 => ⟨S278528, .f32⟩
  | 63 => ⟨S272x1024, .f32⟩
  | 64 => ⟨S4096, .f32⟩
  | 65 => ⟨S4096, .f32⟩
  | 66 => ⟨S64, .f32⟩
  | 67 => ⟨S65536, .f32⟩
  | 68 => ⟨S65536, .f32⟩
  | 69 => ⟨S65536, .f32⟩
  | 70 => ⟨S65536, .f32⟩
  | 71 => ⟨S270400, .f32⟩
  | 72 => ⟨S_, .i32⟩
  | 73 => ⟨S_, .f32⟩
  | 74 => ⟨S278528, .f32⟩
  | 75 => ⟨S272x1024, .f32⟩
  | 76 => ⟨S272x1024, .f32⟩
  | 77 => ⟨S272x1024, .f32⟩
  | 78 => ⟨S272x1024, .f32⟩
  | 79 => ⟨S272x1024, .f32⟩
  | 80 => ⟨S278528, .f32⟩
  | 81 => ⟨S4096, .f32⟩
  | 82 => ⟨S1x64x64, .f32⟩
  | 83 => ⟨S4096, .f32⟩
  | 84 => ⟨S1x64x64, .f32⟩
  | 85 => ⟨S64, .f32⟩
  | 86 => ⟨S1x64, .f32⟩
  | 87 => ⟨S65536, .f32⟩
  | 88 => ⟨S1x64x64x16, .f32⟩
  | 89 => ⟨S65536, .f32⟩
  | 90 => ⟨S1x64x64x16, .f32⟩
  | 91 => ⟨S65536, .f32⟩
  | 92 => ⟨S1x64x16x64, .f32⟩
  | 93 => ⟨S65536, .f32⟩
  | 94 => ⟨S1x64x16x64, .f32⟩
  | 95 => ⟨S278528, .f32⟩
  | 96 => ⟨S4096, .f32⟩
  | 97 => ⟨S1x64x64, .f32⟩
  | 98 => ⟨S4096, .f32⟩
  | 99 => ⟨S1x64x64, .f32⟩
  | 100 => ⟨S64, .f32⟩
  | 101 => ⟨S1x64, .f32⟩
  | 102 => ⟨S65536, .f32⟩
  | 103 => ⟨S1x64x64x16, .f32⟩
  | 104 => ⟨S65536, .f32⟩
  | 105 => ⟨S1x64x64x16, .f32⟩
  | 106 => ⟨S65536, .f32⟩
  | 107 => ⟨S1x64x16x64, .f32⟩
  | 108 => ⟨S65536, .f32⟩
  | 109 => ⟨S1x64x16x64, .f32⟩
  | 110 => ⟨S278528, .f32⟩
  | 111 => ⟨S4096, .f32⟩
  | 112 => ⟨S1x64x64, .f32⟩
  | 113 => ⟨S4096, .f32⟩
  | 114 => ⟨S1x64x64, .f32⟩
  | 115 => ⟨S64, .f32⟩
  | 116 => ⟨S1x64, .f32⟩
  | 117 => ⟨S65536, .f32⟩
  | 118 => ⟨S1x64x64x16, .f32⟩
  | 119 => ⟨S65536, .f32⟩
  | 120 => ⟨S1x64x64x16, .f32⟩
  | 121 => ⟨S65536, .f32⟩
  | 122 => ⟨S1x64x16x64, .f32⟩
  | 123 => ⟨S65536, .f32⟩
  | 124 => ⟨S1x64x16x64, .f32⟩
  | 125 => ⟨S278528, .f32⟩
  | 126 => ⟨S4096, .f32⟩
  | 127 => ⟨S1x64x64, .f32⟩
  | _ => ⟨S1x64x64, .f32⟩

abbrev hbmTy0_1 (i : Nat) : BufTy := match i % 128 with
  | 0 => ⟨S4096, .f32⟩
  | 1 => ⟨S1x64x64, .f32⟩
  | 2 => ⟨S64, .f32⟩
  | 3 => ⟨S1x64, .f32⟩
  | 4 => ⟨S65536, .f32⟩
  | 5 => ⟨S1x64x64x16, .f32⟩
  | 6 => ⟨S65536, .f32⟩
  | 7 => ⟨S1x64x64x16, .f32⟩
  | 8 => ⟨S65536, .f32⟩
  | 9 => ⟨S1x64x16x64, .f32⟩
  | 10 => ⟨S65536, .f32⟩
  | 11 => ⟨S1x64x16x64, .f32⟩
  | _ => ⟨S1x64x64, .f32⟩

abbrev hbmTy (i : Nat) : BufTy := match i / 128 with
  | 0 => hbmTy0_0 i
  | 1 => hbmTy0_1 i
  | _ => ⟨S1x64x64, .f32⟩

abbrev bufTy : (tb : Table) → Fin (tcTables nBuf tb) → BufTy
  | .hbm, ⟨i, _⟩ => hbmTy i
  | .local _ .vmem, ⟨0, _⟩ => ⟨S8x136x1024, .f32⟩
  | .local _ .vmem, ⟨1, _⟩ => ⟨S8x136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | .local _ .vmem, ⟨14, _⟩ => ⟨S136x1024, .f32⟩
  | .local _ .vmem, ⟨15, _⟩ => ⟨S136x1024, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_call0_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_0 : Ref sig .tc := ⟨.hbm, 48, rfl⟩
abbrev main_call1_v0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_1 : Ref sig .tc := ⟨.hbm, 60, rfl⟩
abbrev main_call2_v0 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_2 : Ref sig .tc := ⟨.hbm, 72, rfl⟩
abbrev main_call3_v0 : Ref sig .tc := ⟨.hbm, 73, rfl⟩
abbrev main_v38 : Ref sig .tc := ⟨.hbm, 74, rfl⟩
abbrev main_v39 : Ref sig .tc := ⟨.hbm, 75, rfl⟩
abbrev main_v40_0 : Ref sig .tc := ⟨.hbm, 76, rfl⟩
abbrev main_v40_1 : Ref sig .tc := ⟨.hbm, 77, rfl⟩
abbrev main_v40_2 : Ref sig .tc := ⟨.hbm, 78, rfl⟩
abbrev main_v40_3 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Pack1Ideal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x4096 : Shape := ⟨2, ![8, 4096]⟩
abbrev S8x64 : Shape := ⟨2, ![8, 64]⟩
abbrev S8x65536 : Shape := ⟨2, ![8, 65536]⟩
abbrev S8x270400 : Shape := ⟨2, ![8, 270400]⟩
abbrev S_ : Shape := ⟨0, ![]⟩
abbrev S8x278528 : Shape := ⟨2, ![8, 278528]⟩
abbrev S8x272x1024 : Shape := ⟨3, ![8, 272, 1024]⟩
abbrev S4096 : Shape := ⟨1, ![4096]⟩
abbrev S64 : Shape := ⟨1, ![64]⟩
abbrev S65536 : Shape := ⟨1, ![65536]⟩
abbrev S270400 : Shape := ⟨1, ![270400]⟩
abbrev S278528 : Shape := ⟨1, ![278528]⟩
abbrev S272x1024 : Shape := ⟨2, ![272, 1024]⟩
abbrev S8x136x1024 : Shape := ⟨3, ![8, 136, 1024]⟩
abbrev S136x1024 : Shape := ⟨2, ![136, 1024]⟩
abbrev S1x136x1024 : Shape := ⟨3, ![1, 136, 1024]⟩

abbrev nBuf : Space → Nat
  | .hbm => 140
  | .vmem => 16
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S1x64x64, .f32⟩
  | 8 => ⟨S1x64x64, .f32⟩
  | 9 => ⟨S1x64, .f32⟩
  | 10 => ⟨S1x64x64x16, .f32⟩
  | 11 => ⟨S1x64x64x16, .f32⟩
  | 12 => ⟨S1x64x16x64, .f32⟩
  | 13 => ⟨S1x64x16x64, .f32⟩
  | 14 => ⟨S1x64x64, .f32⟩
  | 15 => ⟨S1x64x64, .f32⟩
  | 16 => ⟨S1x64, .f32⟩
  | 17 => ⟨S1x64x64x16, .f32⟩
  | 18 => ⟨S1x64x64x16, .f32⟩
  | 19 => ⟨S1x64x16x64, .f32⟩
  | 20 => ⟨S1x64x16x64, .f32⟩
  | 21 => ⟨S8x1x64x64, .f32⟩
  | 22 => ⟨S8x1x64x64, .f32⟩
  | 23 => ⟨S8x1x64, .f32⟩
  | 24 => ⟨S8x1x64x64x16, .f32⟩
  | 25 => ⟨S8x1x64x64x16, .f32⟩
  | 26 => ⟨S8x1x64x16x64, .f32⟩
  | 27 => ⟨S8x1x64x16x64, .f32⟩
  | 28 => ⟨S8x4096, .f32⟩
  | 29 => ⟨S8x4096, .f32⟩
  | 30 => ⟨S8x64, .f32⟩
  | 31 => ⟨S8x65536, .f32⟩
  | 32 => ⟨S8x65536, .f32⟩
  | 33 => ⟨S8x65536, .f32⟩
  | 34 => ⟨S8x65536, .f32⟩
  | 35 => ⟨S8x270400, .f32⟩
  | 36 => ⟨S_, .i32⟩
  | 37 => ⟨S_, .f32⟩
  | 38 => ⟨S8x278528, .f32⟩
  | 39 => ⟨S8x272x1024, .f32⟩
  | 40 => ⟨S4096, .f32⟩
  | 41 => ⟨S4096, .f32⟩
  | 42 => ⟨S64, .f32⟩
  | 43 => ⟨S65536, .f32⟩
  | 44 => ⟨S65536, .f32⟩
  | 45 => ⟨S65536, .f32⟩
  | 46 => ⟨S65536, .f32⟩
  | 47 => ⟨S270400, .f32⟩
  | 48 => ⟨S_, .i32⟩
  | 49 => ⟨S_, .f32⟩
  | 50 => ⟨S278528, .f32⟩
  | 51 => ⟨S272x1024, .f32⟩
  | 52 => ⟨S4096, .f32⟩
  | 53 => ⟨S4096, .f32⟩
  | 54 => ⟨S64, .f32⟩
  | 55 => ⟨S65536, .f32⟩
  | 56 => ⟨S65536, .f32⟩
  | 57 => ⟨S65536, .f32⟩
  | 58 => ⟨S65536, .f32⟩
  | 59 => ⟨S270400, .f32⟩
  | 60 => ⟨S_, .i32⟩
  | 61 => ⟨S_, .f32⟩
  | 62 => ⟨S278528, .f32⟩
  | 63 => ⟨S272x1024, .f32⟩
  | 64 => ⟨S4096, .f32⟩
  | 65 => ⟨S4096, .f32⟩
  | 66 => ⟨S64, .f32⟩
  | 67 => ⟨S65536, .f32⟩
  | 68 => ⟨S65536, .f32⟩
  | 69 => ⟨S65536, .f32⟩
  | 70 => ⟨S65536, .f32⟩
  | 71 => ⟨S270400, .f32⟩
  | 72 => ⟨S_, .i32⟩
  | 73 => ⟨S_, .f32⟩
  | 74 => ⟨S278528, .f32⟩
  | 75 => ⟨S272x1024, .f32⟩
  | 76 => ⟨S272x1024, .f32⟩
  | 77 => ⟨S272x1024, .f32⟩
  | 78 => ⟨S272x1024, .f32⟩
  | 79 => ⟨S272x1024, .f32⟩
  | 80 => ⟨S278528, .f32⟩
  | 81 => ⟨S4096, .f32⟩
  | 82 => ⟨S1x64x64, .f32⟩
  | 83 => ⟨S4096, .f32⟩
  | 84 => ⟨S1x64x64, .f32⟩
  | 85 => ⟨S64, .f32⟩
  | 86 => ⟨S1x64, .f32⟩
  | 87 => ⟨S65536, .f32⟩
  | 88 => ⟨S1x64x64x16, .f32⟩
  | 89 => ⟨S65536, .f32⟩
  | 90 => ⟨S1x64x64x16, .f32⟩
  | 91 => ⟨S65536, .f32⟩
  | 92 => ⟨S1x64x16x64, .f32⟩
  | 93 => ⟨S65536, .f32⟩
  | 94 => ⟨S1x64x16x64, .f32⟩
  | 95 => ⟨S278528, .f32⟩
  | 96 => ⟨S4096, .f32⟩
  | 97 => ⟨S1x64x64, .f32⟩
  | 98 => ⟨S4096, .f32⟩
  | 99 => ⟨S1x64x64, .f32⟩
  | 100 => ⟨S64, .f32⟩
  | 101 => ⟨S1x64, .f32⟩
  | 102 => ⟨S65536, .f32⟩
  | 103 => ⟨S1x64x64x16, .f32⟩
  | 104 => ⟨S65536, .f32⟩
  | 105 => ⟨S1x64x64x16, .f32⟩
  | 106 => ⟨S65536, .f32⟩
  | 107 => ⟨S1x64x16x64, .f32⟩
  | 108 => ⟨S65536, .f32⟩
  | 109 => ⟨S1x64x16x64, .f32⟩
  | 110 => ⟨S278528, .f32⟩
  | 111 => ⟨S4096, .f32⟩
  | 112 => ⟨S1x64x64, .f32⟩
  | 113 => ⟨S4096, .f32⟩
  | 114 => ⟨S1x64x64, .f32⟩
  | 115 => ⟨S64, .f32⟩
  | 116 => ⟨S1x64, .f32⟩
  | 117 => ⟨S65536, .f32⟩
  | 118 => ⟨S1x64x64x16, .f32⟩
  | 119 => ⟨S65536, .f32⟩
  | 120 => ⟨S1x64x64x16, .f32⟩
  | 121 => ⟨S65536, .f32⟩
  | 122 => ⟨S1x64x16x64, .f32⟩
  | 123 => ⟨S65536, .f32⟩
  | 124 => ⟨S1x64x16x64, .f32⟩
  | 125 => ⟨S278528, .f32⟩
  | 126 => ⟨S4096, .f32⟩
  | 127 => ⟨S1x64x64, .f32⟩
  | _ => ⟨S1x64x64, .f32⟩

abbrev hbmTy0_1 (i : Nat) : BufTy := match i % 128 with
  | 0 => ⟨S4096, .f32⟩
  | 1 => ⟨S1x64x64, .f32⟩
  | 2 => ⟨S64, .f32⟩
  | 3 => ⟨S1x64, .f32⟩
  | 4 => ⟨S65536, .f32⟩
  | 5 => ⟨S1x64x64x16, .f32⟩
  | 6 => ⟨S65536, .f32⟩
  | 7 => ⟨S1x64x64x16, .f32⟩
  | 8 => ⟨S65536, .f32⟩
  | 9 => ⟨S1x64x16x64, .f32⟩
  | 10 => ⟨S65536, .f32⟩
  | 11 => ⟨S1x64x16x64, .f32⟩
  | _ => ⟨S1x64x64, .f32⟩

abbrev hbmTy (i : Nat) : BufTy := match i / 128 with
  | 0 => hbmTy0_0 i
  | 1 => hbmTy0_1 i
  | _ => ⟨S1x64x64, .f32⟩

abbrev bufTy : (tb : Table) → Fin (tcTables nBuf tb) → BufTy
  | .hbm, ⟨i, _⟩ => hbmTy i
  | .local _ .vmem, ⟨0, _⟩ => ⟨S8x136x1024, .f32⟩
  | .local _ .vmem, ⟨1, _⟩ => ⟨S8x136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | .local _ .vmem, ⟨14, _⟩ => ⟨S136x1024, .f32⟩
  | .local _ .vmem, ⟨15, _⟩ => ⟨S136x1024, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_call0_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_0 : Ref sig .tc := ⟨.hbm, 48, rfl⟩
abbrev main_call1_v0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_1 : Ref sig .tc := ⟨.hbm, 60, rfl⟩
abbrev main_call2_v0 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_2 : Ref sig .tc := ⟨.hbm, 72, rfl⟩
abbrev main_call3_v0 : Ref sig .tc := ⟨.hbm, 73, rfl⟩
abbrev main_v38 : Ref sig .tc := ⟨.hbm, 74, rfl⟩
abbrev main_v39 : Ref sig .tc := ⟨.hbm, 75, rfl⟩
abbrev main_v40_0 : Ref sig .tc := ⟨.hbm, 76, rfl⟩
abbrev main_v40_1 : Ref sig .tc := ⟨.hbm, 77, rfl⟩
abbrev main_v40_2 : Ref sig .tc := ⟨.hbm, 78, rfl⟩
abbrev main_v40_3 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PackRef1Ideal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S_ : Shape := ⟨0, ![]⟩

abbrev nBuf : Space → Nat
  | .hbm => 273
  | .vmem => 0
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S1x64x64, .f32⟩
  | 8 => ⟨S1x64x64, .f32⟩
  | 9 => ⟨S1x64, .f32⟩
  | 10 => ⟨S1x64x64x16, .f32⟩
  | 11 => ⟨S1x64x64x16, .f32⟩
  | 12 => ⟨S1x64x16x64, .f32⟩
  | 13 => ⟨S1x64x16x64, .f32⟩
  | 14 => ⟨S1x64x64, .f32⟩
  | 15 => ⟨S1x64x64, .f32⟩
  | 16 => ⟨S1x64, .f32⟩
  | 17 => ⟨S1x64x64x16, .f32⟩
  | 18 => ⟨S1x64x64x16, .f32⟩
  | 19 => ⟨S1x64x16x64, .f32⟩
  | 20 => ⟨S1x64x16x64, .f32⟩
  | 21 => ⟨S8x1x64x64, .f32⟩
  | 22 => ⟨S8x1x64x64, .f32⟩
  | 23 => ⟨S8x1x64, .f32⟩
  | 24 => ⟨S8x1x64x64x16, .f32⟩
  | 25 => ⟨S8x1x64x64x16, .f32⟩
  | 26 => ⟨S8x1x64x16x64, .f32⟩
  | 27 => ⟨S8x1x64x16x64, .f32⟩
  | 28 => ⟨S_, .f32⟩
  | 29 => ⟨S1x64x64, .f32⟩
  | 30 => ⟨S_, .f32⟩
  | 31 => ⟨S1x64x64, .f32⟩
  | 32 => ⟨S_, .f32⟩
  | 33 => ⟨S1x64, .f32⟩
  | 34 => ⟨S_, .f32⟩
  | 35 => ⟨S1x64x64x16, .f32⟩
  | 36 => ⟨S_, .f32⟩
  | 37 => ⟨S1x64x64x16, .f32⟩
  | 38 => ⟨S_, .f32⟩
  | 39 => ⟨S1x64x16x64, .f32⟩
  | 40 => ⟨S_, .f32⟩
  | 41 => ⟨S1x64x16x64, .f32⟩
  | 42 => ⟨S_, .f32⟩
  | 43 => ⟨S1x64x64, .f32⟩
  | 44 => ⟨S1x64x64, .f32⟩
  | 45 => ⟨S_, .f32⟩
  | 46 => ⟨S1x64x64, .f32⟩
  | 47 => ⟨S1x64x64, .f32⟩
  | 48 => ⟨S1x64x64, .f32⟩
  | 49 => ⟨S_, .f32⟩
  | 50 => ⟨S1x64x64, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S_, .f32⟩
  | 61 => ⟨S1x64x64, .f32⟩
  | 62 => ⟨S1x64x64, .f32⟩
  | 63 => ⟨S1x64x64, .f32⟩
  | 64 => ⟨S_, .f32⟩
  | 65 => ⟨S1x64x64, .f32⟩
  | 66 => ⟨S1x64x64, .f32⟩
  | 67 => ⟨S1x64x64, .f32⟩
  | 68 => ⟨S_, .f32⟩
  | 69 => ⟨S1x64x64, .f32⟩
  | 70 => ⟨S1x64x64, .f32⟩
  | 71 => ⟨S1x64x64, .f32⟩
  | 72 => ⟨S_, .f32⟩
  | 73 => ⟨S1x64x64, .f32⟩
  | 74 => ⟨S1x64x64, .f32⟩
  | 75 => ⟨S_, .f32⟩
  | 76 => ⟨S1x64x64, .f32⟩
  | 77 => ⟨S1x64x64, .f32⟩
  | 78 => ⟨S_, .f32⟩
  | 79 => ⟨S1x64x64, .f32⟩
  | 80 => ⟨S1x64x64, .f32⟩
  | 81 => ⟨S1x64x64, .f32⟩
  | 82 => ⟨S_, .f32⟩
  | 83 => ⟨S1x64x64, .f32⟩
  | 84 => ⟨S1x64x64, .f32⟩
  | 85 => ⟨S1x64x64, .f32⟩
  | 86 => ⟨S_, .f32⟩
  | 87 => ⟨S1x64x64, .f32⟩
  | 88 => ⟨S1x64x64, .f32⟩
  | 89 => ⟨S1x64x64, .f32⟩
  | 90 => ⟨S_, .f32⟩
  | 91 => ⟨S1x64x64, .f32⟩
  | 92 => ⟨S1x64x64, .f32⟩
  | 93 => ⟨S_, .f32⟩
  | 94 => ⟨S1x64x64, .f32⟩
  | 95 => ⟨S1x64x64, .f32⟩
  | 96 => ⟨S1x64x64, .f32⟩
  | 97 => ⟨S_, .f32⟩
  | 98 => ⟨S1x64x64, .f32⟩
  | 99 => ⟨S1x64x64, .f32⟩
  | 100 => ⟨S1x64x64, .f32⟩
  | 101 => ⟨S_, .f32⟩
  | 102 => ⟨S1x64x64, .f32⟩
  | 103 => ⟨S1x64x64, .f32⟩
  | 104 => ⟨S1x64x64, .f32⟩
  | 105 => ⟨S_, .f32⟩
  | 106 => ⟨S1x64x64, .f32⟩
  | 107 => ⟨S1x64x64, .f32⟩
  | 108 => ⟨S_, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S_, .f32⟩
  | 127 => ⟨S1x64, .f32⟩
  | _ => ⟨S1x64x64, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S_, .f32⟩
  | 14 => ⟨S1x64x64x16, .f32⟩
  | 15 => ⟨S1x64x64x16, .f32⟩
  | 16 => ⟨S_, .f32⟩
  | 17 => ⟨S1x64x64x16, .f32⟩
  | 18 => ⟨S1x64x64x16, .f32⟩
  | 19 => ⟨S1x64x64x16, .f32⟩
  | 20 => ⟨S_, .f32⟩
  | 21 => ⟨S1x64x64x16, .f32⟩
  | 22 => ⟨S1x64x64x16, .f32⟩
  | 23 => ⟨S1x64x64x16, .f32⟩
  | 24 => ⟨S_, .f32⟩
  | 25 => ⟨S1x64x64x16, .f32⟩
  | 26 => ⟨S1x64x64x16, .f32⟩
  | 27 => ⟨S1x64x64x16, .f32⟩
  | 28 => ⟨S_, .f32⟩
  | 29 => ⟨S1x64x64x16, .f32⟩
  | 30 => ⟨S1x64x64x16, .f32⟩
  | 31 => ⟨S_, .f32⟩
  | 32 => ⟨S1x64x64x16, .f32⟩
  | 33 => ⟨S1x64x64x16, .f32⟩
  | 34 => ⟨S1x64x64x16, .f32⟩
  | 35 => ⟨S_, .f32⟩
  | 36 => ⟨S1x64x64x16, .f32⟩
  | 37 => ⟨S1x64x64x16, .f32⟩
  | 38 => ⟨S1x64x64x16, .f32⟩
  | 39 => ⟨S_, .f32⟩
  | 40 => ⟨S1x64x64x16, .f32⟩
  | 41 => ⟨S1x64x64x16, .f32⟩
  | 42 => ⟨S1x64x64x16, .f32⟩
  | 43 => ⟨S_, .f32⟩
  | 44 => ⟨S1x64x64x16, .f32⟩
  | 45 => ⟨S1x64x64x16, .f32⟩
  | 46 => ⟨S_, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S1x64x64x16, .f32⟩
  | 53 => ⟨S_, .f32⟩
  | 54 => ⟨S1x64x64x16, .f32⟩
  | 55 => ⟨S1x64x64x16, .f32⟩
  | 56 => ⟨S1x64x64x16, .f32⟩
  | 57 => ⟨S_, .f32⟩
  | 58 => ⟨S1x64x64x16, .f32⟩
  | 59 => ⟨S1x64x64x16, .f32⟩
  | 60 => ⟨S1x64x64x16, .f32⟩
  | 61 => ⟨S_, .f32⟩
  | 62 => ⟨S1x64x64x16, .f32⟩
  | 63 => ⟨S1x64x64x16, .f32⟩
  | 64 => ⟨S_, .f32⟩
  | 65 => ⟨S1x64x64x16, .f32⟩
  | 66 => ⟨S1x64x64x16, .f32⟩
  | 67 => ⟨S1x64x64x16, .f32⟩
  | 68 => ⟨S_, .f32⟩
  | 69 => ⟨S1x64x64x16, .f32⟩
  | 70 => ⟨S1x64x64x16, .f32⟩
  | 71 => ⟨S1x64x64x16, .f32⟩
  | 72 => ⟨S_, .f32⟩
  | 73 => ⟨S1x64x64x16, .f32⟩
  | 74 => ⟨S1x64x64x16, .f32⟩
  | 75 => ⟨S1x64x64x16, .f32⟩
  | 76 => ⟨S_, .f32⟩
  | 77 => ⟨S1x64x64x16, .f32⟩
  | 78 => ⟨S1x64x64x16, .f32⟩
  | 79 => ⟨S_, .f32⟩
  | 80 => ⟨S1x64x16x64, .f32⟩
  | 81 => ⟨S1x64x16x64, .f32⟩
  | 82 => ⟨S_, .f32⟩
  | 83 => ⟨S1x64x16x64, .f32⟩
  | 84 => ⟨S1x64x16x64, .f32⟩
  | 85 => ⟨S1x64x16x64, .f32⟩
  | 86 => ⟨S_, .f32⟩
  | 87 => ⟨S1x64x16x64, .f32⟩
  | 88 => ⟨S1x64x16x64, .f32⟩
  | 89 => ⟨S1x64x16x64, .f32⟩
  | 90 => ⟨S_, .f32⟩
  | 91 => ⟨S1x64x16x64, .f32⟩
  | 92 => ⟨S1x64x16x64, .f32⟩
  | 93 => ⟨S1x64x16x64, .f32⟩
  | 94 => ⟨S_, .f32⟩
  | 95 => ⟨S1x64x16x64, .f32⟩
  | 96 => ⟨S1x64x16x64, .f32⟩
  | 97 => ⟨S_, .f32⟩
  | 98 => ⟨S1x64x16x64, .f32⟩
  | 99 => ⟨S1x64x16x64, .f32⟩
  | 100 => ⟨S1x64x16x64, .f32⟩
  | 101 => ⟨S_, .f32⟩
  | 102 => ⟨S1x64x16x64, .f32⟩
  | 103 => ⟨S1x64x16x64, .f32⟩
  | 104 => ⟨S1x64x16x64, .f32⟩
  | 105 => ⟨S_, .f32⟩
  | 106 => ⟨S1x64x16x64, .f32⟩
  | 107 => ⟨S1x64x16x64, .f32⟩
  | 108 => ⟨S1x64x16x64, .f32⟩
  | 109 => ⟨S_, .f32⟩
  | 110 => ⟨S1x64x16x64, .f32⟩
  | 111 => ⟨S1x64x16x64, .f32⟩
  | 112 => ⟨S_, .f32⟩
  | 113 => ⟨S1x64x16x64, .f32⟩
  | 114 => ⟨S1x64x16x64, .f32⟩
  | 115 => ⟨S_, .f32⟩
  | 116 => ⟨S1x64x16x64, .f32⟩
  | 117 => ⟨S1x64x16x64, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S_, .f32⟩
  | 124 => ⟨S1x64x16x64, .f32⟩
  | 125 => ⟨S1x64x16x64, .f32⟩
  | 126 => ⟨S1x64x16x64, .f32⟩
  | 127 => ⟨S_, .f32⟩
  | _ => ⟨S1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S1x64x16x64, .f32⟩
  | 5 => ⟨S1x64x16x64, .f32⟩
  | 6 => ⟨S_, .f32⟩
  | 7 => ⟨S1x64x16x64, .f32⟩
  | 8 => ⟨S1x64x16x64, .f32⟩
  | 9 => ⟨S1x64x16x64, .f32⟩
  | 10 => ⟨S_, .f32⟩
  | 11 => ⟨S1x64x16x64, .f32⟩
  | 12 => ⟨S1x64x16x64, .f32⟩
  | 13 => ⟨S1x64x16x64, .f32⟩
  | 14 => ⟨S_, .f32⟩
  | 15 => ⟨S1x64x16x64, .f32⟩
  | 16 => ⟨S1x64x16x64, .f32⟩
  | _ => ⟨S1x64x64, .f32⟩

abbrev hbmTy (i : Nat) : BufTy := match i / 128 with
  | 0 => hbmTy0_0 i
  | 1 => hbmTy0_1 i
  | 2 => hbmTy0_2 i
  | _ => ⟨S1x64x64, .f32⟩

abbrev bufTy : (tb : Table) → Fin (tcTables nBuf tb) → BufTy
  | .hbm, ⟨i, _⟩ => hbmTy i
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_cst_1 : Ref sig .tc := ⟨.hbm, 32, rfl⟩
abbrev main_v2 : Ref sig .tc := ⟨.hbm, 33, rfl⟩
abbrev main_cst_2 : Ref sig .tc := ⟨.hbm, 34, rfl⟩
abbrev main_v3 : Ref sig .tc := ⟨.hbm, 35, rfl⟩
abbrev main_cst_3 : Ref sig .tc := ⟨.hbm, 36, rfl⟩
abbrev main_v4 : Ref sig .tc := ⟨.hbm, 37, rfl⟩
abbrev main_cst_4 : Ref sig .tc := ⟨.hbm, 38, rfl⟩
abbrev main_v5 : Ref sig .tc := ⟨.hbm, 39, rfl⟩
abbrev main_cst_5 : Ref sig .tc := ⟨.hbm, 40, rfl⟩
abbrev main_v6 : Ref sig .tc := ⟨.hbm, 41, rfl⟩
abbrev main_cst_6 : Ref sig .tc := ⟨.hbm, 42, rfl⟩
abbrev main_v7 : Ref sig .tc := ⟨.hbm, 43, rfl⟩
abbrev main_v8 : Ref sig .tc := ⟨.hbm, 44, rfl⟩
abbrev main_cst_7 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_8 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_9 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_10 : Ref sig .tc := ⟨.hbm, 57, rfl⟩
abbrev main_v18 : Ref sig .tc := ⟨.hbm, 58, rfl⟩
abbrev main_v19 : Ref sig .tc := ⟨.hbm, 59, rfl⟩
abbrev main_cst_11 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_12 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_13 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_14 : Ref sig .tc := ⟨.hbm, 72, rfl⟩
abbrev main_v29 : Ref sig .tc := ⟨.hbm, 73, rfl⟩
abbrev main_v30 : Ref sig .tc := ⟨.hbm, 74, rfl⟩
abbrev main_cst_15 : Ref sig .tc := ⟨.hbm, 75, rfl⟩
abbrev main_v31 : Ref sig .tc := ⟨.hbm, 76, rfl⟩
abbrev main_v32 : Ref sig .tc := ⟨.hbm, 77, rfl⟩
abbrev main_cst_16 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_17 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_18 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_19 : Ref sig .tc := ⟨.hbm, 90, rfl⟩
abbrev main_v42 : Ref sig .tc := ⟨.hbm, 91, rfl⟩
abbrev main_v43 : Ref sig .tc := ⟨.hbm, 92, rfl⟩
abbrev main_cst_20 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_21 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_22 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_23 : Ref sig .tc := ⟨.hbm, 105, rfl⟩
abbrev main_v53 : Ref sig .tc := ⟨.hbm, 106, rfl⟩
abbrev main_v54 : Ref sig .tc := ⟨.hbm, 107, rfl⟩
abbrev main_cst_24 : Ref sig .tc := ⟨.hbm, 108, rfl⟩
abbrev main_v55 : Ref sig .tc := ⟨.hbm, 109, rfl⟩
abbrev main_v56 : Ref sig .tc := ⟨.hbm, 110, rfl⟩
abbrev main_cst_25 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_26 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_27 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_28 : Ref sig .tc := ⟨.hbm, 123, rfl⟩
abbrev main_v66 : Ref sig .tc := ⟨.hbm, 124, rfl⟩
abbrev main_v67 : Ref sig .tc := ⟨.hbm, 125, rfl⟩
abbrev main_cst_29 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_30 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_31 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_32 : Ref sig .tc := ⟨.hbm, 138, rfl⟩
abbrev main_v77 : Ref sig .tc := ⟨.hbm, 139, rfl⟩
abbrev main_v78 : Ref sig .tc := ⟨.hbm, 140, rfl⟩
abbrev main_cst_33 : Ref sig .tc := ⟨.hbm, 141, rfl⟩
abbrev main_v79 : Ref sig .tc := ⟨.hbm, 142, rfl⟩
abbrev main_v80 : Ref sig .tc := ⟨.hbm, 143, rfl⟩
abbrev main_cst_34 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_35 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_36 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_cst_37 : Ref sig .tc := ⟨.hbm, 156, rfl⟩
abbrev main_v90 : Ref sig .tc := ⟨.hbm, 157, rfl⟩
abbrev main_v91 : Ref sig .tc := ⟨.hbm, 158, rfl⟩
abbrev main_cst_38 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_cst_39 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_40 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_41 : Ref sig .tc := ⟨.hbm, 171, rfl⟩
abbrev main_v101 : Ref sig .tc := ⟨.hbm, 172, rfl⟩
abbrev main_v102 : Ref sig .tc := ⟨.hbm, 173, rfl⟩
abbrev main_cst_42 : Ref sig .tc := ⟨.hbm, 174, rfl⟩
abbrev main_v103 : Ref sig .tc := ⟨.hbm, 175, rfl⟩
abbrev main_v104 : Ref sig .tc := ⟨.hbm, 176, rfl⟩
abbrev main_cst_43 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_44 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_45 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_cst_46 : Ref sig .tc := ⟨.hbm, 189, rfl⟩
abbrev main_v114 : Ref sig .tc := ⟨.hbm, 190, rfl⟩
abbrev main_v115 : Ref sig .tc := ⟨.hbm, 191, rfl⟩
abbrev main_cst_47 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_48 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_49 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_50 : Ref sig .tc := ⟨.hbm, 204, rfl⟩
abbrev main_v125 : Ref sig .tc := ⟨.hbm, 205, rfl⟩
abbrev main_v126 : Ref sig .tc := ⟨.hbm, 206, rfl⟩
abbrev main_cst_51 : Ref sig .tc := ⟨.hbm, 207, rfl⟩
abbrev main_v127 : Ref sig .tc := ⟨.hbm, 208, rfl⟩
abbrev main_v128 : Ref sig .tc := ⟨.hbm, 209, rfl⟩
abbrev main_cst_52 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_53 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_cst_54 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_cst_55 : Ref sig .tc := ⟨.hbm, 222, rfl⟩
abbrev main_v138 : Ref sig .tc := ⟨.hbm, 223, rfl⟩
abbrev main_v139 : Ref sig .tc := ⟨.hbm, 224, rfl⟩
abbrev main_cst_56 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_cst_57 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_cst_58 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_59 : Ref sig .tc := ⟨.hbm, 237, rfl⟩
abbrev main_v149 : Ref sig .tc := ⟨.hbm, 238, rfl⟩
abbrev main_v150 : Ref sig .tc := ⟨.hbm, 239, rfl⟩
abbrev main_cst_60 : Ref sig .tc := ⟨.hbm, 240, rfl⟩
abbrev main_v151 : Ref sig .tc := ⟨.hbm, 241, rfl⟩
abbrev main_v152 : Ref sig .tc := ⟨.hbm, 242, rfl⟩
abbrev main_cst_61 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_cst_62 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_cst_63 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_cst_64 : Ref sig .tc := ⟨.hbm, 255, rfl⟩
abbrev main_v162 : Ref sig .tc := ⟨.hbm, 256, rfl⟩
abbrev main_v163 : Ref sig .tc := ⟨.hbm, 257, rfl⟩
abbrev main_cst_65 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_cst_66 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_cst_67 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_68 : Ref sig .tc := ⟨.hbm, 270, rfl⟩
abbrev main_v173 : Ref sig .tc := ⟨.hbm, 271, rfl⟩
abbrev main_v174 : Ref sig .tc := ⟨.hbm, 272, rfl⟩

abbrev nD : Nat := 1
abbrev τ : Topo := Topo.v7x

variable {F : FTy → Type} [FloatOps F]
-- ==== Pack2.lean ====
abbrev S1x1024 : Shape := ⟨2, ![1, 1024]⟩
abbrev S1x16 : Shape := ⟨2, ![1, 16]⟩
abbrev S2x1024 : Shape := ⟨2, ![2, 1024]⟩
abbrev S1024 : Shape := ⟨1, ![1024]⟩
abbrev S8x1x1024 : Shape := ⟨3, ![8, 1, 1024]⟩
abbrev S8x1x16 : Shape := ⟨3, ![8, 1, 16]⟩
abbrev S8x2x1024 : Shape := ⟨3, ![8, 2, 1024]⟩
abbrev S8x1024 : Shape := ⟨2, ![8, 1024]⟩
abbrev S8x1 : Shape := ⟨2, ![8, 1]⟩
abbrev S8x16 : Shape := ⟨2, ![8, 16]⟩
abbrev S8x2048 : Shape := ⟨2, ![8, 2048]⟩
abbrev S8x4113 : Shape := ⟨2, ![8, 4113]⟩
abbrev S_ : Shape := ⟨0, ![]⟩
abbrev S8x8192 : Shape := ⟨2, ![8, 8192]⟩
abbrev S8x8x1024 : Shape := ⟨3, ![8, 8, 1024]⟩
abbrev S16 : Shape := ⟨1, ![16]⟩
abbrev S2048 : Shape := ⟨1, ![2048]⟩
abbrev S4112 : Shape := ⟨1, ![4112]⟩
abbrev S8192 : Shape := ⟨1, ![8192]⟩
abbrev S1x8x1024 : Shape := ⟨3, ![1, 8, 1024]⟩

abbrev nBuf : Space → Nat
  | .hbm => 85
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x16, .f32⟩
  | .hbm, ⟨2, _⟩ => ⟨S2x1024, .f32⟩
  | .hbm, ⟨3, _⟩ => ⟨S1024, .f32⟩
  | .hbm, ⟨4, _⟩ => ⟨S1x1024, .f32⟩
  | .hbm, ⟨5, _⟩ => ⟨S1x16, .f32⟩
  | .hbm, ⟨6, _⟩ => ⟨S2x1024, .f32⟩
  | .hbm, ⟨7, _⟩ => ⟨S1024, .f32⟩
  | .hbm, ⟨8, _⟩ => ⟨S1x1024, .f32⟩
  | .hbm, ⟨9, _⟩ => ⟨S1x16, .f32⟩
  | .hbm, ⟨10, _⟩ => ⟨S2x1024, .f32⟩
  | .hbm, ⟨11, _⟩ => ⟨S1024, .f32⟩
  | .hbm, ⟨12, _⟩ => ⟨S8x1x1024, .f32⟩
  | .hbm, ⟨13, _⟩ => ⟨S8x1x16, .f32⟩
  | .hbm, ⟨14, _⟩ => ⟨S8x2x1024, .f32⟩
  | .hbm, ⟨15, _⟩ => ⟨S8x1024, .f32⟩
  | .hbm, ⟨16, _⟩ => ⟨S8x1, .f32⟩
  | .hbm, ⟨17, _⟩ => ⟨S8x1024, .f32⟩
  | .hbm, ⟨18, _⟩ => ⟨S8x16, .f32⟩
  | .hbm, ⟨19, _⟩ => ⟨S8x2048, .f32⟩
  | .hbm, ⟨20, _⟩ => ⟨S8x4113, .f32⟩
  | .hbm, ⟨21, _⟩ => ⟨S_, .i32⟩
  | .hbm, ⟨22, _⟩ => ⟨S_, .f32⟩
  | .hbm, ⟨23, _⟩ => ⟨S8x8192, .f32⟩
  | .hbm, ⟨24, _⟩ => ⟨S8x8x1024, .f32⟩
  | .hbm, ⟨25, _⟩ => ⟨S1024, .f32⟩
  | .hbm, ⟨26, _⟩ => ⟨S16, .f32⟩
  | .hbm, ⟨27, _⟩ => ⟨S2048, .f32⟩
  | .hbm, ⟨28, _⟩ => ⟨S4112, .f32⟩
  | .hbm, ⟨29, _⟩ => ⟨S_, .i32⟩
  | .hbm, ⟨30, _⟩ => ⟨S_, .f32⟩
  | .hbm, ⟨31, _⟩ => ⟨S8192, .f32⟩
  | .hbm, ⟨32, _⟩ => ⟨S8x1024, .f32⟩
  | .hbm, ⟨33, _⟩ => ⟨S1024, .f32⟩
  | .hbm, ⟨34, _⟩ => ⟨S16, .f32⟩
  | .hbm, ⟨35, _⟩ => ⟨S2048, .f32⟩
  | .hbm, ⟨36, _⟩ => ⟨S4112, .f32⟩
  | .hbm, ⟨37, _⟩ => ⟨S_, .i32⟩
  | .hbm, ⟨38, _⟩ => ⟨S_, .f32⟩
  | .hbm, ⟨39, _⟩ => ⟨S8192, .f32⟩
  | .hbm, ⟨40, _⟩ => ⟨S8x1024, .f32⟩
  | .hbm, ⟨41, _⟩ => ⟨S1024, .f32⟩
  | .hbm, ⟨42, _⟩ => ⟨S16, .f32⟩
  | .hbm, ⟨43, _⟩ => ⟨S2048, .f32⟩
  | .hbm, ⟨44, _⟩ => ⟨S4112, .f32⟩
  | .hbm, ⟨45, _⟩ => ⟨S_, .i32⟩
  | .hbm, ⟨46, _⟩ => ⟨S_, .f32⟩
  | .hbm, ⟨47, _⟩ => ⟨S8192, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8192, .f32⟩
  | .hbm, ⟨54, _⟩ => ⟨S1024, .f32⟩
  | .hbm, ⟨55, _⟩ => ⟨S1x1024, .f32⟩
  | .hbm, ⟨56, _⟩ => ⟨S16, .f32⟩
  | .hbm, ⟨57, _⟩ => ⟨S1x16, .f32⟩
  | .hbm, ⟨58, _⟩ => ⟨S2048, .f32⟩
  | .hbm, ⟨59, _⟩ => ⟨S2x1024, .f32⟩
  | .hbm, ⟨60, _⟩ => ⟨S1024, .f32⟩
  | .hbm, ⟨61, _⟩ => ⟨S8192, .f32⟩
  | .hbm, ⟨62, _⟩ => ⟨S1024, .f32⟩
  | .hbm, ⟨63, _⟩ => ⟨S1x1024, .f32⟩
  | .hbm, ⟨64, _⟩ => ⟨S16, .f32⟩
  | .hbm, ⟨65, _⟩ => ⟨S1x16, .f32⟩
  | .hbm, ⟨66, _⟩ => ⟨S2048, .f32⟩
  | .hbm, ⟨67, _⟩ => ⟨S2x1024, .f32⟩
  | .hbm, ⟨68, _⟩ => ⟨S1024, .f32⟩
  | .hbm, ⟨69, _⟩ => ⟨S8192, .f32⟩
  | .hbm, ⟨70, _⟩ => ⟨S1024, .f32⟩
  | .hbm, ⟨71, _⟩ => ⟨S1x1024, .f32⟩
  | .hbm, ⟨72, _⟩ => ⟨S16, .f32⟩
  | .hbm, ⟨73, _⟩ => ⟨S1x16, .f32⟩
  | .hbm, ⟨74, _⟩ => ⟨S2048, .f32⟩
  | .hbm, ⟨75, _⟩ => ⟨S2x1024, .f32⟩
  | .hbm, ⟨76, _⟩ => ⟨S1024, .f32⟩
  | .hbm, ⟨77, _⟩ => ⟨S8192, .f32⟩
  | .hbm, ⟨78, _⟩ => ⟨S1024, .f32⟩
  | .hbm, ⟨79, _⟩ => ⟨S1x1024, .f32⟩
  | .hbm, ⟨80, _⟩ => ⟨S16, .f32⟩
  | .hbm, ⟨81, _⟩ => ⟨S1x16, .f32⟩
  | .hbm, ⟨82, _⟩ => ⟨S2048, .f32⟩
  | .hbm, ⟨83, _⟩ => ⟨S2x1024, .f32⟩
  | .hbm, ⟨84, _⟩ => ⟨S1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_call1_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_call3_v0 : Ref sig .tc := ⟨.hbm, 46, rfl⟩
abbrev main_v22 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_v24_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Pack2Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== PackRef2Ideal.lean ====
abbrev S1x1024 : Shape := ⟨2, ![1, 1024]⟩
abbrev S1x16 : Shape := ⟨2, ![1, 16]⟩
abbrev S2x1024 : Shape := ⟨2, ![2, 1024]⟩
abbrev S1024 : Shape := ⟨1, ![1024]⟩
abbrev S8x1x1024 : Shape := ⟨3, ![8, 1, 1024]⟩
abbrev S8x1x16 : Shape := ⟨3, ![8, 1, 16]⟩
abbrev S8x2x1024 : Shape := ⟨3, ![8, 2, 1024]⟩
abbrev S8x1024 : Shape := ⟨2, ![8, 1024]⟩
abbrev S8x1 : Shape := ⟨2, ![8, 1]⟩
abbrev S_ : Shape := ⟨0, ![]⟩

abbrev nBuf : Space → Nat
  | .hbm => 157
  | .vmem => 0
  | .smem => 0
  | _ => 0

abbrev hbmTy0_0 (i : Nat) : BufTy := match i % 128 with
  | 0 => ⟨S1x1024, .f32⟩
  | 1 => ⟨S1x16, .f32⟩
  | 2 => ⟨S2x1024, .f32⟩
  | 3 => ⟨S1024, .f32⟩
  | 4 => ⟨S1x1024, .f32⟩
  | 5 => ⟨S1x16, .f32⟩
  | 6 => ⟨S2x1024, .f32⟩
  | 7 => ⟨S1024, .f32⟩
  | 8 => ⟨S1x1024, .f32⟩
  | 9 => ⟨S1x16, .f32⟩
  | 10 => ⟨S2x1024, .f32⟩
  | 11 => ⟨S1024, .f32⟩
  | 12 => ⟨S8x1x1024, .f32⟩
  | 13 => ⟨S8x1x16, .f32⟩
  | 14 => ⟨S8x2x1024, .f32⟩
  | 15 => ⟨S8x1024, .f32⟩
  | 16 => ⟨S8x1, .f32⟩
  | 17 => ⟨S_, .f32⟩
  | 18 => ⟨S1x1024, .f32⟩
  | 19 => ⟨S_, .f32⟩
  | 20 => ⟨S1x16, .f32⟩
  | 21 => ⟨S_, .f32⟩
  | 22 => ⟨S2x1024, .f32⟩
  | 23 => ⟨S_, .f32⟩
  | 24 => ⟨S1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S_, .f32⟩
  | 66 => ⟨S1x16, .f32⟩
  | 67 => ⟨S1x16, .f32⟩
  | 68 => ⟨S1x16, .f32⟩
  | 69 => ⟨S_, .f32⟩
  | 70 => ⟨S1x16, .f32⟩
  | 71 => ⟨S1x16, .f32⟩
  | 72 => ⟨S1x16, .f32⟩
  | 73 => ⟨S_, .f32⟩
  | 74 => ⟨S1x16, .f32⟩
  | 75 => ⟨S1x16, .f32⟩
  | 76 => ⟨S_, .f32⟩
  | 77 => ⟨S1x16, .f32⟩
  | 78 => ⟨S1x16, .f32⟩
  | 79 => ⟨S1x16, .f32⟩
  | 80 => ⟨S_, .f32⟩
  | 81 => ⟨S1x16, .f32⟩
  | 82 => ⟨S1x16, .f32⟩
  | 83 => ⟨S1x16, .f32⟩
  | 84 => ⟨S_, .f32⟩
  | 85 => ⟨S1x16, .f32⟩
  | 86 => ⟨S1x16, .f32⟩
  | 87 => ⟨S1x16, .f32⟩
  | 88 => ⟨S_, .f32⟩
  | 89 => ⟨S1x16, .f32⟩
  | 90 => ⟨S1x16, .f32⟩
  | 91 => ⟨S_, .f32⟩
  | 92 => ⟨S2x1024, .f32⟩
  | 93 => ⟨S2x1024, .f32⟩
  | 94 => ⟨S_, .f32⟩
  | 95 => ⟨S2x1024, .f32⟩
  | 96 => ⟨S2x1024, .f32⟩
  | 97 => ⟨S2x1024, .f32⟩
  | 98 => ⟨S_, .f32⟩
  | 99 => ⟨S2x1024, .f32⟩
  | 100 => ⟨S2x1024, .f32⟩
  | 101 => ⟨S2x1024, .f32⟩
  | 102 => ⟨S_, .f32⟩
  | 103 => ⟨S2x1024, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S_, .f32⟩
  | 125 => ⟨S1024, .f32⟩
  | 126 => ⟨S1024, .f32⟩
  | 127 => ⟨S_, .f32⟩
  | _ => ⟨S1x1024, .f32⟩

abbrev hbmTy0_1 (i : Nat) : BufTy := match i % 128 with
  | 0 => ⟨S1024, .f32⟩
  | 1 => ⟨S1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S_, .f32⟩
  | 8 => ⟨S1024, .f32⟩
  | 9 => ⟨S1024, .f32⟩
  | 10 => ⟨S1024, .f32⟩
  | 11 => ⟨S_, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_cst_1 : Ref sig .tc := ⟨.hbm, 21, rfl⟩
abbrev main_v2 : Ref sig .tc := ⟨.hbm, 22, rfl⟩
abbrev main_cst_2 : Ref sig .tc := ⟨.hbm, 23, rfl⟩
abbrev main_v3 : Ref sig .tc := ⟨.hbm, 24, rfl⟩
abbrev main_cst_3 : Ref sig .tc := ⟨.hbm, 25, rfl⟩
abbrev main_v4 : Ref sig .tc := ⟨.hbm, 26, rfl⟩
abbrev main_v5 : Ref sig .tc := ⟨.hbm, 27, rfl⟩
abbrev main_cst_4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_6 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_cst_8 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_9 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_10 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_v26 : Ref sig .tc := ⟨.hbm, 56, rfl⟩
abbrev main_v27 : Ref sig .tc := ⟨.hbm, 57, rfl⟩
abbrev main_cst_12 : Ref sig .tc := ⟨.hbm, 58, rfl⟩
abbrev main_v28 : Ref sig .tc := ⟨.hbm, 59, rfl⟩
abbrev main_v29 : Ref sig .tc := ⟨.hbm, 60, rfl⟩
abbrev main_cst_13 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_14 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_15 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_16 : Ref sig .tc := ⟨.hbm, 73, rfl⟩
abbrev main_v39 : Ref sig .tc := ⟨.hbm, 74, rfl⟩
abbrev main_v40 : Ref sig .tc := ⟨.hbm, 75, rfl⟩
abbrev main_cst_17 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_18 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_19 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_20 : Ref sig .tc := ⟨.hbm, 88, rfl⟩
abbrev main_v50 : Ref sig .tc := ⟨.hbm, 89, rfl⟩
abbrev main_v51 : Ref sig .tc := ⟨.hbm, 90, rfl⟩
abbrev main_cst_21 : Ref sig .tc := ⟨.hbm, 91, rfl⟩
abbrev main_v52 : Ref sig .tc := ⟨.hbm, 92, rfl⟩
abbrev main_v53 : Ref sig .tc := ⟨.hbm, 93, rfl⟩
abbrev main_cst_22 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_23 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_24 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_25 : Ref sig .tc := ⟨.hbm, 106, rfl⟩
abbrev main_v63 : Ref sig .tc := ⟨.hbm, 107, rfl⟩
abbrev main_v64 : Ref sig .tc := ⟨.hbm, 108, rfl⟩
abbrev main_cst_26 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_27 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_28 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_29 : Ref sig .tc := ⟨.hbm, 121, rfl⟩
abbrev main_v74 : Ref sig .tc := ⟨.hbm, 122, rfl⟩
abbrev main_v75 : Ref sig .tc := ⟨.hbm, 123, rfl⟩
abbrev main_cst_30 : Ref sig .tc := ⟨.hbm, 124, rfl⟩
abbrev main_v76 : Ref sig .tc := ⟨.hbm, 125, rfl⟩
abbrev main_v77 : Ref sig .tc := ⟨.hbm, 126, rfl⟩
abbrev main_cst_31 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_32 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_33 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_34 : Ref sig .tc := ⟨.hbm, 139, rfl⟩
abbrev main_v87 : Ref sig .tc := ⟨.hbm, 140, rfl⟩
abbrev main_v88 : Ref sig .tc := ⟨.hbm, 141, rfl⟩
abbrev main_cst_35 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_36 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_37 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_38 : Ref sig .tc := ⟨.hbm, 154, rfl⟩
abbrev main_v98 : Ref sig .tc := ⟨.hbm, 155, rfl⟩
abbrev main_v99 : Ref sig .tc := ⟨.hbm, 156, rfl⟩

abbrev nD : Nat := 1
abbrev τ : Topo := Topo.v7x

variable {F : FTy → Type} [FloatOps F]
-- ==== Proof.Mlp0Value.lean ====
module

public import proofs.«01_k».proof.Defs
public import proofs.«01_k».proof.Proof.Gen.Mlp0Ideal.Value
public import proofs.«01_k».proof.Proof.Gen.MlpRef0Ideal.Read
public import proofs.«01_k».proof.Proof.Gen.On_written_first
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mlp0Ideal.Hand

open Cert.Mlp0Ideal Cert.Mlp0Ideal.Gen Cert.MlpRef0Ideal.Read

theorem two_word : Ideal.ofBits FTy.f32 1073741824#32 = 2 := by
  simp [Ideal.ofBits, Ideal.ieee]
  rw [← EReal.coe_mul]
  norm_num
  rfl

theorem relu_grad (p d : EReal) : (if 0 < p then max p 0 * d + d * max p 0 else 0) = d * (2 * max p 0) := by
  split
  · rw [mul_comm (max p 0) d, mul_comm 2, ← mul_assoc, mul_comm _ 2]
    have := EReal.right_distrib_of_nonneg (a := 1) (b := 1) (c := d * max p 0) zero_le_one zero_le_one
    rw [one_mul, one_add_one_eq_two] at this
    exact this.symm
  · rename_i h
    rw [max_eq_right (not_lt.mp h), mul_zero, mul_zero]

/-- The pre-activation at a row and a hidden feature of the shard. -/
def pre (x1 : Vec Ideal S8448x1024 .bf16) (x3 : Vec Ideal S4x1x1024x1024 .bf16) (r : Fin 8448) (f : Fin 1024) : EReal :=
  ∑ k : Fin 1024, (x1 (ix2 r k) : EReal) * (x3 (ix4 0 0 k f) : EReal)

/-- The pre-activation's gradient. -/
def dpre (x0 : Vec Ideal S8448x1024 .f32) (x1 : Vec Ideal S8448x1024 .bf16) (x3 x4 : Vec Ideal S4x1x1024x1024 .bf16)
    (r : Fin 8448) (f : Fin 1024) : EReal :=
  (∑ k : Fin 1024, (x0 (ix2 r k) : EReal) * (x4 (ix4 0 0 f k) : EReal)) * (2 * max (pre x1 x3 r f) 0)

theorem zero9 (j) : val_main_v9 (F := Ideal) j = 0 := by
  pointwise [val_main_v9, val_main_cst]
theorem zero20 (j) : val_main_v20 (F := Ideal) j = 0 := by
  pointwise [val_main_v20, val_main_cst_1]
theorem zeroC (j) : val_main_call0_v0 (F := Ideal) j = 0 := by
  pointwise [val_main_call0_v0, val_main_call0_cst]
theorem ref7 (x1) (x3) (i : Fin 8448) (j : Fin 1024) : val_main_v7 (F := Ideal) x1 x3 (ix2 i j) = pre x1 x3 i j := by
  pointwise [val_main_v7, val_main_v6, val_main_v2, val_main_v1, val_main_v0]
  rfl

theorem ref21 (x0) (x1) (x3) (x4) (i : Fin 8448) (j : Fin 1024) :
    val_main_v21 (F := Ideal) x0 x1 x3 x4 (ix2 i j) = dpre x0 x1 x3 x4 i j := by
  pointwise [val_main_v21, val_main_v10, val_main_v19, val_main_v17, val_main_v18, val_main_v16, val_main_v8, val_main_v5, val_main_v4, val_main_v3]
  simp only [ref7, zero9, zero20, zeroC]
  exact relu_grad _ _
theorem ref24 (x0) (x1) (x3) (x4) (i : Fin 8448) (j : Fin 1024) :
    val_main_v24 (F := Ideal) x0 x1 x3 x4 (ix2 i j) = ∑ f : Fin 1024, dpre x0 x1 x3 x4 i f * (x3 (ix4 0 0 j f) : EReal) := by
  pointwise [val_main_v24, val_main_v2, val_main_v1, val_main_v0]
  simp only [ref21]
theorem ref28 (x0) (x1) (x3) (x4) (i : Fin 1024) (j : Fin 1024) :
    val_main_v28 (F := Ideal) x0 x1 x3 x4 (ix3 0 i j) = ∑ r : Fin 8448, dpre x0 x1 x3 x4 r j * (x1 (ix2 r i) : EReal) := by
  pointwise [val_main_v28, val_main_v27, val_main_v25, val_main_v26, val_main_v23, val_main_v22, val_main_v6]
  simp only [ref21]
theorem ref32 (x0) (x1) (x3) (i : Fin 1024) (j : Fin 1024) :
    val_main_v32 (F := Ideal) x0 x1 x3 (ix3 0 i j)
      = ∑ r : Fin 8448, (x0 (ix2 r j) : EReal) * (max (pre x1 x3 r i) 0 * max (pre x1 x3 r i) 0) := by
  pointwise [val_main_v32, val_main_v31, val_main_v29, val_main_v30, val_main_v15, val_main_v14, val_main_v12, val_main_v8]
  simp only [ref7, zeroC]

/-! ## The kernel's payloads at an index -/

theorem pay8_apply (x0 : Vec Ideal S768x1024 .f32) (x1 : Vec Ideal S768x1024 .bf16) (x4 : Vec Ideal S1x1x1024x1024 .bf16)
    (i : Fin 768) (j : Fin 1024) : k0_pay8 (F := Ideal) x0 x1 x4 (ix2 i j)
      = (∑ k : Fin 1024, (x0 (ix2 i k) : EReal) * (x4 (ix4 0 0 j k) : EReal)) * (2 * max (x1 (ix2 i j) : EReal) 0) := by
  pointwise [k0_pay8, k0_pay6, k0_pay7]
  rw [two_word]
theorem pay9_apply (x0 : Vec Ideal S768x1024 .f32) (x1 : Vec Ideal S768x1024 .bf16) (s : Vec Ideal S1024x1024 .f32)
    (i : Fin 1024) (j : Fin 1024) : k0_pay9 (F := Ideal) x0 x1 s (ix2 i j)
      = s (ix2 i j) + ∑ k : Fin 768, (max (x1 (ix2 k i) : EReal) 0 * max (x1 (ix2 k i) : EReal) 0) * (x0 (ix2 k j) : EReal) := by
  pointwise [k0_pay9, k0_pay6, k0_pay7]
theorem pay10_apply (x0 : Vec Ideal S768x1024 .f32) (x1 : Vec Ideal S768x1024 .bf16) (x4 : Vec Ideal S1x1x1024x1024 .bf16)
    (s : Vec Ideal S1024x1024 .f32) (x2 : Vec Ideal S768x1024 .bf16)
    (i : Fin 1024) (j : Fin 1024) : k0_pay10 (F := Ideal) x0 x1 x4 s x2 (ix2 i j)
      = s (ix2 i j) + ∑ k : Fin 768, (x2 (ix2 k i) : EReal) * (k0_pay8 (F := Ideal) x0 x1 x4 (ix2 k j) : EReal) := by
  pointwise [k0_pay10]
theorem pay1_apply (v : Vec Ideal S768x1024 .bf16) (w : Vec Ideal S1x1x1024x1024 .bf16)
    (i : Fin 768) (j : Fin 1024) : k0_pay1 (F := Ideal) v w (ix2 i j)
      = ∑ k : Fin 1024, (v (ix2 i k) : EReal) * (w (ix4 0 0 j k) : EReal) := by
  pointwise [k0_pay1]
theorem pay2_apply (v : Vec Ideal S1024x1024 .f32) (o : Fin 1) (i j : Fin 1024) : k0_pay2 (F := Ideal) v (ix3 o i j) = v (ix2 i j) := by
  pointwise [k0_pay2]
theorem pay3_apply (v : Vec Ideal S1024x1024 .f32) (o : Fin 1) (i j : Fin 1024) : k0_pay3 (F := Ideal) v (ix3 o i j) = v (ix2 i j) := by
  pointwise [k0_pay3]
theorem pay4_apply (j) : k0_pay4 (F := Ideal) j = 0 := by
  pointwise [k0_pay4]
theorem pay5_apply (j) : k0_pay5 (F := Ideal) j = 0 := by
  pointwise [k0_pay5]

/-! ## The input blocks -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0]
    ∧ win0_3.index t = ![0, 0, 0, 0] ∧ win0_4.index t = ![0, 0, 0, 0] ∧ win0_5.index t = ![t.val, 0]
    ∧ win0_6.index t = ![0, 0, 0] ∧ win0_7.index t = ![0, 0, 0] :=
  (by decide +kernel : ∀ t : Fin grid0.N, _)

abbrev A0 (c : Dev nD) : Vec Ideal S8448x1024 .f32 := m ((c : Thread nD τ).loc main_arg0)
abbrev A1 (c : Dev nD) : Vec Ideal S8448x1024 .bf16 := m ((c : Thread nD τ).loc main_arg1)
abbrev A3 (c : Dev nD) : Vec Ideal S4x1x1024x1024 .bf16 := m ((c : Thread nD τ).loc main_arg2)
abbrev A4 (c : Dev nD) : Vec Ideal S4x1x1024x1024 .bf16 := m ((c : Thread nD τ).loc main_arg3)

theorem ptlt (t : Fin cfg0.N) (i : Fin 768) : t.val * 768 + i.val < 8448 := by
  have : t.val < 11 := lt_of_lt_of_eq t.isLt N_0
  omega

abbrev row (t : Fin cfg0.N) (i : Fin 768) : Fin 8448 := ⟨t.val * 768 + i.val, ptlt t i⟩

theorem iblk0 (c : Dev nD) (t : Fin cfg0.N) (i : Fin 768) (j : Fin 1024) :
    iblk m c 0 t (ix2 i j) = A0 m c (ix2 (row t i) j) := by
  blk_ext! [iblk, V, idx t]
theorem iblk2 (c : Dev nD) (t : Fin cfg0.N) (i : Fin 768) (j : Fin 1024) :
    iblk m c 2 t (ix2 i j) = A1 m c (ix2 (row t i) j) := by
  blk_ext! [iblk, V, idx t]
theorem iblk3 (c : Dev nD) (t : Fin cfg0.N) (i j : Fin 1024) :
    iblk m c 3 t (ix4 0 0 i j) = A3 m c (ix4 0 0 i j) := by
  blk_ext! [iblk, V, idx t]
theorem iblk4 (c : Dev nD) (t : Fin cfg0.N) (i j : Fin 1024) :
    iblk m c 4 t (ix4 0 0 i j) = A4 m c (ix4 0 0 i j) := by
  blk_ext! [iblk, V, idx t]
theorem iblk1 (c : Dev nD) (t : Fin cfg0.N) (i : Fin 768) (j : Fin 1024) :
    iblk m c 1 t (ix2 i j) = pre (A1 m c) (A3 m c) (row t i) j := by
  have h : iblk m c 1 t (ix2 i j) = V m c main_v5 (ix2 (row t i) ⟨j.val, by omega⟩) := by
    blk_ext! [iblk, idx t]
  rw [h]
  entry_read
  pointwise
  rw [pre]
  refine Fin.sum_fin_congr fun k => ?_
  congr 1 <;> blk_ext [idx t]

/-- The hidden gradient's block, as the point's first product leaves it. -/
theorem grad_apply (c : Dev nD) (t : Fin cfg0.N) (i : Fin 768) (j : Fin 1024) :
    k0_pay8 (F := Ideal) (iblk m c 0 t) (iblk m c 1 t) (iblk m c 4 t) (ix2 i j)
      = dpre (A0 m c) (A1 m c) (A3 m c) (A4 m c) (row t i) j := by
  rw [pay8_apply, iblk1, dpre]
  congr 1
  refine Finset.sum_congr rfl fun k _ => ?_
  rw [iblk0, iblk4]

/-- What a point writes of the input's gradient. -/
theorem out6_apply (c : Dev nD) (t : Fin cfg0.N) (i : Fin 768) (j : Fin 1024) :
    (Gen.outsAt0 m c t.val t.isLt).1 (ix2 i j)
      = val_main_v24 (F := Ideal) (A0 m c) (A1 m c) (A3 m c) (A4 m c) (ix2 (row t i) j) := by
  have key : k0_pay1 (F := Ideal) (k0_pay8 (F := Ideal) (iblk m c 0 t) (iblk m c 1 t) (iblk m c 4 t)) (iblk m c 3 t) (ix2 i j)
      = val_main_v24 (F := Ideal) (A0 m c) (A1 m c) (A3 m c) (A4 m c) (ix2 (row t i) j) := by
    rw [pay1_apply, ref24]
    refine Finset.sum_congr rfl fun k _ => ?_
    rw [grad_apply, iblk3]
  by_cases h0 : t.val % 11 = 0
  · have h1 : ¬t.val % 11 = 10 := by omega
    rw [Gen.outsAt0_A m c t h0 h1]
    frame_out
    exact key
  · by_cases h1 : t.val % 11 = 10
    · rw [Gen.outsAt0_C m c t h0 h1]
      frame_out
      exact key
    · rw [Gen.outsAt0_B m c t h0 h1]
      frame_out
      exact key

def termU (c : Dev nD) (t : Fin cfg0.N) (y : S1024x1024.Idx) : EReal :=
  ∑ k : Fin 768, (A1 m c (ix2 (row t k) (y 0)) : EReal) * dpre (A0 m c) (A1 m c) (A3 m c) (A4 m c) (row t k) (y 1)
def termD (c : Dev nD) (t : Fin cfg0.N) (y : S1024x1024.Idx) : EReal :=
  ∑ k : Fin 768, (max (pre (A1 m c) (A3 m c) (row t k) (y 0)) 0 * max (pre (A1 m c) (A3 m c) (row t k) (y 0)) 0)
    * (A0 m c (ix2 (row t k) (y 1)) : EReal)

theorem stepU (c : Dev nD) (t : Fin cfg0.N) (s : Vec Ideal S1024x1024 .f32) (y : S1024x1024.Idx) :
    k0_pay10 (F := Ideal) (iblk m c 0 t) (iblk m c 1 t) (iblk m c 4 t) s (iblk m c 2 t) y = s y + termU m c t y := by
  obtain ⟨i, j, rfl⟩ : ∃ i j : Fin 1024, y = ix2 i j := ⟨y 0, y 1, by blk_ext⟩
  rw [pay10_apply]
  congr 1
  refine Finset.sum_congr rfl fun k _ => ?_
  rw [iblk2, grad_apply]
  rfl

theorem stepD (c : Dev nD) (t : Fin cfg0.N) (s : Vec Ideal S1024x1024 .f32) (y : S1024x1024.Idx) :
    k0_pay9 (F := Ideal) (iblk m c 0 t) (iblk m c 1 t) s y = s y + termD m c t y := by
  obtain ⟨i, j, rfl⟩ : ∃ i j : Fin 1024, y = ix2 i j := ⟨y 0, y 1, by blk_ext⟩
  rw [pay9_apply]
  unfold termD
  simp only [iblk0, iblk1]
  rfl

/-- The two accumulators after the last point: sums over all rows. -/
theorem accU (c : Dev nD) (y : S1024x1024.Idx) :
    (Gen.outsAt0 m c t0_10.val t0_10.isLt).2.2.2.1 y = ∑ t : Fin cfg0.N, termU m c t y := by
  have := Pipeline.eq_sum_fin_of_reset_step_apply_last (fun n h => (Gen.outsAt0 m c n h).2.2.2.1) 11 (fun _ => (0 : EReal))
    (termU m c)
    (fun t h0 y => by
      rw [Gen.outsAt0_A m c t h0 (by omega)]
      frame_out
      exact (stepU m c t _ y).trans (by rw [pay4_apply]))
    (fun t h0 y => by
      by_cases h1 : t.val % 11 = 10
      · rw [Gen.outsAt0_C m c t h0 h1]
        frame_out
        simp only [read_unread_whole]
        exact stepU m c t _ y
      · rw [Gen.outsAt0_B m c t h0 h1]
        frame_out
        simp only [read_unread_whole]
        exact stepU m c t _ y) (le_of_eq Gen.N_0) Gen.t0_10 rfl y
  rw [this, zero_add]
theorem accD (c : Dev nD) (y : S1024x1024.Idx) :
    (Gen.outsAt0 m c t0_10.val t0_10.isLt).2.2.2.2 y = ∑ t : Fin cfg0.N, termD m c t y := by
  have := Pipeline.eq_sum_fin_of_reset_step_apply_last (fun n h => (Gen.outsAt0 m c n h).2.2.2.2) 11 (fun _ => (0 : EReal))
    (termD m c)
    (fun t h0 y => by
      rw [Gen.outsAt0_A m c t h0 (by omega)]
      frame_out
      exact (stepD m c t _ y).trans (by rw [pay5_apply]))
    (fun t h0 y => by
      by_cases h1 : t.val % 11 = 10
      · rw [Gen.outsAt0_C m c t h0 h1]
        frame_out
        simp only [read_unread_whole]
        exact stepD m c t _ y
      · rw [Gen.outsAt0_B m c t h0 h1]
        frame_out
        simp only [read_unread_whole]
        exact stepD m c t _ y) (le_of_eq Gen.N_0) Gen.t0_10 rfl y
  rw [this, zero_add]

theorem sumU (c : Dev nD) (i j : Fin 1024) : ∑ t : Fin cfg0.N, termU m c t (ix2 i j)
    = ∑ r : Fin 8448, dpre (A0 m c) (A1 m c) (A3 m c) (A4 m c) r j * (A1 m c (ix2 r i) : EReal) := by
  refine (Fin.sum_mul_add_congr (S := 11) (n := 768) (fun s k hl => ?_) rfl)
  exact mul_comm _ _
theorem sumD (c : Dev nD) (i j : Fin 1024) : ∑ t : Fin cfg0.N, termD m c t (ix2 i j)
    = ∑ r : Fin 8448, (A0 m c (ix2 r j) : EReal) * (max (pre (A1 m c) (A3 m c) r i) 0 * max (pre (A1 m c) (A3 m c) r i) 0) := by
  refine (Fin.sum_mul_add_congr (S := 11) (n := 768) (fun s k hl => ?_) rfl)
  exact mul_comm _ _

theorem final5 (c : Dev nD) : (dats m 0 c).arrAt 5 cfg0.N
    = val_main_v24 (F := Ideal) (A0 m c) (A1 m c) (A3 m c) (A4 m c) := by
  refine (dats m 0 c).arrAt_eq_of_covers 5 _ (by decide +kernel) fun t hf y => ?_
  obtain ⟨i, j, rfl⟩ : ∃ (i : Fin 768) (j : Fin 1024), y = ix2 i j := ⟨y 0, y 1, by blk_ext⟩
  blk_simp
  rw [after0_5]
  refine (out6_apply m c t i j).trans ?_
  congr 1
  blk_ext [idx t]

/-- The slot of the shard. -/
def slot (i : S4x1024x1024.Idx) : Prop := (i 0).val = 0

theorem final6 (c : Dev nD) (i : S4x1024x1024.Idx) (h : slot i) : (dats m 0 c).arrAt 6 cfg0.N i
    = val_main_v28 (F := Ideal) (A0 m c) (A1 m c) (A3 m c) (A4 m c) i := by
  refine (dats m 0 c).arrAt_forall_of_coversWhere 6 (fun i v => slot i → v = val_main_v28 (F := Ideal) (A0 m c) (A1 m c) (A3 m c) (A4 m c) i)
    (fun β => β (0 : Fin _) = 0) (by decide +kernel) (fun t hf y => ?_) (fun j hj => ?_) i (by exact Memref.isWhole_whole _) h
  · obtain ⟨o, i, j, rfl⟩ : ∃ (o : Fin 1) (i j : Fin 1024), y = ix3 o i j := ⟨y 0, y 1, y 2, by blk_ext⟩
    intro _
    have h1 : t.val % 11 = 10 := (Gen.flush0_6 t).mp hf
    have ht : t = t0_10 := Fin.ext (by have : t.val < 11 := lt_of_lt_of_eq t.isLt N_0; show t.val = 10; omega)
    blk_simp
    rw [after0_6]
    have e : (Gen.outsAt0 m c t.val t.isLt).2.1 (ix3 o i j) = (Gen.outsAt0 m c t.val t.isLt).2.2.2.1 (ix2 i j) := by
      rw [Gen.outsAt0_C m c t (by omega) h1]
      frame_out
      exact pay2_apply _ o i j
    refine e.trans ?_
    subst ht
    rw [accU, sumU]
    refine Eq.trans ?_ (congrArg _ (?_ : ix3 0 i j = _))
    · rw [ref28]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    intro h0
    have e : (cfg0.win 6).arr.view.emb (ix3 s i k) = ix3 s i k := by blk_ext
    rw [e] at h0
    have hs : s = 0 := Fin.ext h0
    exact absurd (by rw [hs]; exact Nat.div_one 0) hj

theorem final7 (c : Dev nD) (i : S4x1024x1024.Idx) (h : slot i) : (dats m 0 c).arrAt 7 cfg0.N i
    = val_main_v32 (F := Ideal) (A0 m c) (A1 m c) (A3 m c) i := by
  refine (dats m 0 c).arrAt_forall_of_coversWhere 7 (fun i v => slot i → v = val_main_v32 (F := Ideal) (A0 m c) (A1 m c) (A3 m c) i)
    (fun β => β (0 : Fin _) = 0) (by decide +kernel) (fun t hf y => ?_) (fun j hj => ?_) i (by exact Memref.isWhole_whole _) h
  · obtain ⟨o, i, j, rfl⟩ : ∃ (o : Fin 1) (i j : Fin 1024), y = ix3 o i j := ⟨y 0, y 1, y 2, by blk_ext⟩
    intro _
    have h1 : t.val % 11 = 10 := (Gen.flush0_7 t).mp hf
    have ht : t = t0_10 := Fin.ext (by have : t.val < 11 := lt_of_lt_of_eq t.isLt N_0; show t.val = 10; omega)
    blk_simp
    rw [after0_7]
    have e : (Gen.outsAt0 m c t.val t.isLt).2.2.1 (ix3 o i j) = (Gen.outsAt0 m c t.val t.isLt).2.2.2.2 (ix2 i j) := by
      rw [Gen.outsAt0_C m c t (by omega) h1]
      frame_out
      exact pay3_apply _ o i j
    refine e.trans ?_
    subst ht
    rw [accD, sumD]
    refine Eq.trans ?_ (congrArg _ (?_ : ix3 0 i j = _))
    · rw [ref32]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    intro h0
    have e : (cfg0.win 7).arr.view.emb (ix3 s i k) = ix3 s i k := by blk_ext
    rw [e] at h0
    have hs : s = 0 := Fin.ext h0
    exact absurd (by rw [hs]; exact Nat.div_one 0) hj

end Cert.Mlp0Ideal.Hand

namespace Cert.On_written_first

theorem slot_iff (n : ℕ) (h : n < 4) : IntOp.cmpi .eq (BitVec.ofNat 32 n) 0#32 = 1#1 ↔ n = 0 := by
  have key : ∀ r < 4, IntOp.cmpi .eq (BitVec.ofNat 32 r) 0#32 = 1#1 ↔ r = 0 := by decide
  exact key n h

theorem up_slot (x0) (x1) (x2) (x3) (i : S4x1024x1024.Idx) (h : (fn (F := Ideal) x0 x1 x2 x3).2.1 i = 1#1) : Cert.Mlp0Ideal.Hand.slot i :=
  (slot_iff _ (i 0).isLt).mp h
theorem down_slot (x0) (x1) (x2) (x3) (i : S4x1024x1024.Idx) (h : (fn (F := Ideal) x0 x1 x2 x3).2.2 i = 1#1) : Cert.Mlp0Ideal.Hand.slot i :=
  (slot_iff _ (i 0).isLt).mp h

end Cert.On_written_first

namespace Cert.Hand

open Cert.Mlp0Ideal.Gen in
/-- At `Ideal` the kernel's three results and the reference's agree where the call writes. -/
theorem algebraic0 : Cert.algebraic_Mlp0Ideal_MlpRef0Ideal_on_written_first := by
  intro m g m' g' _ hagree
  refine ⟨fun c => (dats m 0 c).arrAt 5 Cert.Mlp0Ideal.cfg0.N, fun c => (dats m 0 c).arrAt 6 Cert.Mlp0Ideal.cfg0.N, fun c => (dats m 0 c).arrAt 7 Cert.Mlp0Ideal.cfg0.N, ?_, ?_⟩
  · exact (θ_run Cert.Mlp0Ideal.defs _ _).mono
      (fun _ h c => ⟨fun i _ => congrFun (h c).1 i, fun i _ => congrFun (h c).2.1 i, fun i _ => congrFun (h c).2.2.1 i, (h c).2.2.2⟩)
      (Cert.Mlp0Ideal.Value.run_blocks m g)
  · refine (θ_run Cert.MlpRef0Ideal.defs _ _).mono (fun _ h c => ?_) (Cert.MlpRef0Ideal.Value.run (F := Ideal) m' g')
    obtain ⟨e0, e1, e2, e3⟩ := hagree c
    refine ⟨fun i _ => ?_, fun i hi => ?_, fun i hi => ?_, (h c).2.2.2⟩
    · refine (congrFun ((h c).1.trans ((Cert.MlpRef0Ideal.Read.val_main_v24_eq _ _ _ _).trans
        (Eq.trans ?_ (Cert.Mlp0Ideal.Hand.final5 m c).symm))) i)
      congr 1 <;> first | exact e0 | exact e1 | exact e2 | exact e3
    · have hz := Cert.On_written_first.up_slot _ _ _ _ i hi
      refine (congrFun ((h c).2.1.trans (Cert.MlpRef0Ideal.Read.val_main_v28_eq _ _ _ _)) i).trans
        (Eq.trans ?_ (Cert.Mlp0Ideal.Hand.final6 m c i hz).symm)
      refine congrFun ?_ i
      congr 1 <;> first | exact e0 | exact e1 | exact e2 | exact e3
    · have hz := Cert.On_written_first.down_slot _ _ _ _ i hi
      refine (congrFun ((h c).2.2.1.trans (Cert.MlpRef0Ideal.Read.val_main_v32_eq _ _ _)) i).trans
        (Eq.trans ?_ (Cert.Mlp0Ideal.Hand.final7 m c i hz).symm)
      refine congrFun ?_ i
      congr 1 <;> first | exact e0 | exact e1 | exact e2 | exact e3

/-- The reference leaves its arguments as they were. -/
theorem frame_ref0 : Cert.quiescent_MlpRef0Ideal := fun m ρ _ =>
  (θ_run Cert.MlpRef0Ideal.defs _ _).mono (fun r h => ⟨fun c => (h c).2.2.2,
      Idealize.ShloMosaic.sem_eq_zero_of_no_sems (by decide) r.2⟩)
    (Cert.MlpRef0Ideal.Value.run (F := Ideal) m ρ)

end Cert.Hand

end
-- ==== Proof.Mlp1Value.lean ====
module

public import proofs.«01_k».proof.Defs
public import proofs.«01_k».proof.Proof.Gen.Mlp1Ideal.Value
public import proofs.«01_k».proof.Proof.Gen.MlpRef1Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mlp1Ideal.Hand

open Cert.Mlp1Ideal Cert.Mlp1Ideal.Gen Cert.MlpRef1Ideal.Read

theorem two_word : Ideal.ofBits FTy.f32 1073741824#32 = 2 := by
  simp [Ideal.ofBits, Ideal.ieee]
  rw [← EReal.coe_mul]
  norm_num
  rfl

theorem relu_grad (p d : EReal) : (if 0 < p then max p 0 * d + d * max p 0 else 0) = d * (2 * max p 0) := by
  split
  · rw [mul_comm (max p 0) d, mul_comm 2, ← mul_assoc, mul_comm _ 2]
    have := EReal.right_distrib_of_nonneg (a := 1) (b := 1) (c := d * max p 0) zero_le_one zero_le_one
    rw [one_mul, one_add_one_eq_two] at this
    exact this.symm
  · rename_i h
    rw [max_eq_right (not_lt.mp h), mul_zero, mul_zero]

/-- The pre-activation at a row and a hidden feature of the shard. -/
def pre (x1 : Vec Ideal S8448x1024 .bf16) (x3 : Vec Ideal S4x1x1024x1024 .bf16) (r : Fin 8448) (f : Fin 1024) : EReal :=
  ∑ k : Fin 1024, (x1 (ix2 r k) : EReal) * (x3 (ix4 1 0 k f) : EReal)

/-- The pre-activation's gradient. -/
def dpre (x0 : Vec Ideal S8448x1024 .f32) (x1 : Vec Ideal S8448x1024 .bf16) (x3 x4 : Vec Ideal S4x1x1024x1024 .bf16)
    (r : Fin 8448) (f : Fin 1024) : EReal :=
  (∑ k : Fin 1024, (x0 (ix2 r k) : EReal) * (x4 (ix4 1 0 f k) : EReal)) * (2 * max (pre x1 x3 r f) 0)

theorem zero9 (j) : val_main_v9 (F := Ideal) j = 0 := by
  pointwise [val_main_v9, val_main_cst]
theorem zero20 (j) : val_main_v20 (F := Ideal) j = 0 := by
  pointwise [val_main_v20, val_main_cst_1]
theorem zeroC (j) : val_main_call0_v0 (F := Ideal) j = 0 := by
  pointwise [val_main_call0_v0, val_main_call0_cst]
theorem ref7 (x1) (x3) (i : Fin 8448) (j : Fin 1024) : val_main_v7 (F := Ideal) x1 x3 (ix2 i j) = pre x1 x3 i j := by
  pointwise [val_main_v7, val_main_v6, val_main_v2, val_main_v1, val_main_v0]
  rfl

theorem ref21 (x0) (x1) (x3) (x4) (i : Fin 8448) (j : Fin 1024) :
    val_main_v21 (F := Ideal) x0 x1 x3 x4 (ix2 i j) = dpre x0 x1 x3 x4 i j := by
  pointwise [val_main_v21, val_main_v10, val_main_v19, val_main_v17, val_main_v18, val_main_v16, val_main_v8, val_main_v5, val_main_v4, val_main_v3]
  simp only [ref7, zero9, zero20, zeroC]
  exact relu_grad _ _
theorem ref25 (x0) (x1) (x2) (x3) (x4) (i : Fin 8448) (j : Fin 1024) :
    val_main_v25 (F := Ideal) x0 x1 x2 x3 x4 (ix2 i j) = x2 (ix2 i j) + ∑ f : Fin 1024, dpre x0 x1 x3 x4 i f * (x3 (ix4 1 0 j f) : EReal) := by
  pointwise [val_main_v25, val_main_v24, val_main_v2, val_main_v1, val_main_v0]
  simp only [ref21]
theorem ref30 (x0) (x1) (x3) (x4) (x5) (s : Fin 4) (i : Fin 1024) (j : Fin 1024) :
    val_main_v30 (F := Ideal) x0 x1 x3 x4 x5 (ix3 s i j)
      = if s = 1 then ∑ r : Fin 8448, dpre x0 x1 x3 x4 r j * (x1 (ix2 r i) : EReal) else x5 (ix3 s i j) := by
  pointwise [val_main_v30, val_main_v27, val_main_v28, val_main_v29, val_main_v26, val_main_v23, val_main_v22, val_main_v6]
  simp only [ref21]
  fin_cases s <;> rfl
theorem ref35 (x0) (x1) (x3) (x6) (s : Fin 4) (i : Fin 1024) (j : Fin 1024) :
    val_main_v35 (F := Ideal) x0 x1 x3 x6 (ix3 s i j)
      = if s = 1 then ∑ r : Fin 8448, (x0 (ix2 r j) : EReal) * (max (pre x1 x3 r i) 0 * max (pre x1 x3 r i) 0) else x6 (ix3 s i j) := by
  pointwise [val_main_v35, val_main_v32, val_main_v33, val_main_v34, val_main_v31, val_main_v15, val_main_v14, val_main_v12, val_main_v8]
  simp only [ref7, zeroC]
  fin_cases s <;> rfl

/-! ## The kernel's payloads at an index -/

theorem pay8_apply (x0 : Vec Ideal S768x1024 .f32) (x1 : Vec Ideal S768x1024 .bf16) (x4 : Vec Ideal S1x1x1024x1024 .bf16)
    (i : Fin 768) (j : Fin 1024) : k0_pay8 (F := Ideal) x0 x1 x4 (ix2 i j)
      = (∑ k : Fin 1024, (x0 (ix2 i k) : EReal) * (x4 (ix4 0 0 j k) : EReal)) * (2 * max (x1 (ix2 i j) : EReal) 0) := by
  pointwise [k0_pay8, k0_pay6, k0_pay7]
  rw [two_word]
theorem pay9_apply (x0 : Vec Ideal S768x1024 .f32) (x1 : Vec Ideal S768x1024 .bf16) (s : Vec Ideal S1024x1024 .f32)
    (i : Fin 1024) (j : Fin 1024) : k0_pay9 (F := Ideal) x0 x1 s (ix2 i j)
      = s (ix2 i j) + ∑ k : Fin 768, (max (x1 (ix2 k i) : EReal) 0 * max (x1 (ix2 k i) : EReal) 0) * (x0 (ix2 k j) : EReal) := by
  pointwise [k0_pay9, k0_pay6, k0_pay7]
theorem pay10_apply (x0 : Vec Ideal S768x1024 .f32) (x1 : Vec Ideal S768x1024 .bf16) (x4 : Vec Ideal S1x1x1024x1024 .bf16)
    (s : Vec Ideal S1024x1024 .f32) (x2 : Vec Ideal S768x1024 .bf16)
    (i : Fin 1024) (j : Fin 1024) : k0_pay10 (F := Ideal) x0 x1 x4 s x2 (ix2 i j)
      = s (ix2 i j) + ∑ k : Fin 768, (x2 (ix2 k i) : EReal) * (k0_pay8 (F := Ideal) x0 x1 x4 (ix2 k j) : EReal) := by
  pointwise [k0_pay10]
theorem pay1_apply (v : Vec Ideal S768x1024 .bf16) (w : Vec Ideal S1x1x1024x1024 .bf16) (p : Vec Ideal S768x1024 .f32)
    (i : Fin 768) (j : Fin 1024) : k0_pay1 (F := Ideal) v w p (ix2 i j)
      = (∑ k : Fin 1024, (v (ix2 i k) : EReal) * (w (ix4 0 0 j k) : EReal)) + (p (ix2 i j) : EReal) := by
  pointwise [k0_pay1]
theorem pay2_apply (v : Vec Ideal S1024x1024 .f32) (o : Fin 1) (i j : Fin 1024) : k0_pay2 (F := Ideal) v (ix3 o i j) = v (ix2 i j) := by
  pointwise [k0_pay2]
theorem pay3_apply (v : Vec Ideal S1024x1024 .f32) (o : Fin 1) (i j : Fin 1024) : k0_pay3 (F := Ideal) v (ix3 o i j) = v (ix2 i j) := by
  pointwise [k0_pay3]
theorem pay4_apply (j) : k0_pay4 (F := Ideal) j = 0 := by
  pointwise [k0_pay4]
theorem pay5_apply (j) : k0_pay5 (F := Ideal) j = 0 := by
  pointwise [k0_pay5]

/-! ## The input blocks -/

variable (m : (ℓ : Loc nD τ sig) → Buf (Elt Ideal) ℓ) (ρ : Dev nD → PrngReg)

theorem idx : ∀ t : Fin cfg0.N, win0_0.index t = ![t.val, 0] ∧ win0_1.index t = ![t.val, 1] ∧ win0_2.index t = ![t.val, 0]
    ∧ win0_3.index t = ![1, 0, 0, 0] ∧ win0_4.index t = ![1, 0, 0, 0] ∧ win0_5.index t = ![t.val, 0]
    ∧ win0_6.index t = ![t.val, 0] ∧ win0_7.index t = ![1, 0, 0] ∧ win0_8.index t = ![1, 0, 0] :=
  (by decide +kernel : ∀ t : Fin grid0.N, _)

abbrev A0 (c : Dev nD) : Vec Ideal S8448x1024 .f32 := m ((c : Thread nD τ).loc main_arg0)
abbrev A1 (c : Dev nD) : Vec Ideal S8448x1024 .bf16 := m ((c : Thread nD τ).loc main_arg1)
abbrev A2 (c : Dev nD) : Vec Ideal S8448x1024 .f32 := m ((c : Thread nD τ).loc main_arg2)
abbrev A3 (c : Dev nD) : Vec Ideal S4x1x1024x1024 .bf16 := m ((c : Thread nD τ).loc main_arg3)
abbrev A4 (c : Dev nD) : Vec Ideal S4x1x1024x1024 .bf16 := m ((c : Thread nD τ).loc main_arg4)
abbrev A5 (c : Dev nD) : Vec Ideal S4x1024x1024 .bf16 := m ((c : Thread nD τ).loc main_arg5)
abbrev A6 (c : Dev nD) : Vec Ideal S4x1024x1024 .bf16 := m ((c : Thread nD τ).loc main_arg6)

theorem ptlt (t : Fin cfg0.N) (i : Fin 768) : t.val * 768 + i.val < 8448 := by
  have : t.val < 11 := lt_of_lt_of_eq t.isLt N_0
  omega

abbrev row (t : Fin cfg0.N) (i : Fin 768) : Fin 8448 := ⟨t.val * 768 + i.val, ptlt t i⟩

theorem iblk0 (c : Dev nD) (t : Fin cfg0.N) (i : Fin 768) (j : Fin 1024) :
    iblk m c 0 t (ix2 i j) = A0 m c (ix2 (row t i) j) := by
  blk_ext! [iblk, V, idx t]
theorem iblk2 (c : Dev nD) (t : Fin cfg0.N) (i : Fin 768) (j : Fin 1024) :
    iblk m c 2 t (ix2 i j) = A1 m c (ix2 (row t i) j) := by
  blk_ext! [iblk, V, idx t]
theorem iblk3 (c : Dev nD) (t : Fin cfg0.N) (i j : Fin 1024) :
    iblk m c 3 t (ix4 0 0 i j) = A3 m c (ix4 1 0 i j) := by
  blk_ext! [iblk, V, idx t]
theorem iblk4 (c : Dev nD) (t : Fin cfg0.N) (i j : Fin 1024) :
    iblk m c 4 t (ix4 0 0 i j) = A4 m c (ix4 1 0 i j) := by
  blk_ext! [iblk, V, idx t]
theorem iblk5 (c : Dev nD) (t : Fin cfg0.N) (i : Fin 768) (j : Fin 1024) :
    iblk m c 5 t (ix2 i j) = A2 m c (ix2 (row t i) j) := by
  blk_ext! [iblk, V, idx t]
theorem iblk1 (c : Dev nD) (t : Fin cfg0.N) (i : Fin 768) (j : Fin 1024) :
    iblk m c 1 t (ix2 i j) = pre (A1 m c) (A3 m c) (row t i) j := by
  have h : iblk m c 1 t (ix2 i j) = V m c main_v5 (ix2 (row t i) ⟨1024 + j.val, by omega⟩) := by
    blk_ext! [iblk, idx t]
  rw [h]
  entry_read
  pointwise
  rw [pre]
  refine Fin.sum_fin_congr fun k => ?_
  congr 1 <;> blk_ext [idx t]

/-- The hidden gradient's block, as the point's first product leaves it. -/
theorem grad_apply (c : Dev nD) (t : Fin cfg0.N) (i : Fin 768) (j : Fin 1024) :
    k0_pay8 (F := Ideal) (iblk m c 0 t) (iblk m c 1 t) (iblk m c 4 t) (ix2 i j)
      = dpre (A0 m c) (A1 m c) (A3 m c) (A4 m c) (row t i) j := by
  rw [pay8_apply, iblk1, dpre]
  congr 1
  refine Finset.sum_congr rfl fun k _ => ?_
  rw [iblk0, iblk4]

/-- What a point writes of the input's gradient. -/
theorem out6_apply (c : Dev nD) (t : Fin cfg0.N) (i : Fin 768) (j : Fin 1024) :
    (Gen.outsAt0 m c t.val t.isLt).1 (ix2 i j)
      = val_main_v25 (F := Ideal) (A0 m c) (A1 m c) (A2 m c) (A3 m c) (A4 m c) (ix2 (row t i) j) := by
  have key : k0_pay1 (F := Ideal) (k0_pay8 (F := Ideal) (iblk m c 0 t) (iblk m c 1 t) (iblk m c 4 t)) (iblk m c 3 t)
      (iblk m c 5 t) (ix2 i j)
      = val_main_v25 (F := Ideal) (A0 m c) (A1 m c) (A2 m c) (A3 m c) (A4 m c) (ix2 (row t i) j) := by
    rw [pay1_apply, ref25, iblk5, add_comm]
    congr 1
    refine Finset.sum_congr rfl fun k _ => ?_
    rw [grad_apply, iblk3]
  by_cases h0 : t.val % 11 = 0
  · have h1 : ¬t.val % 11 = 10 := by omega
    rw [Gen.outsAt0_A m c t h0 h1]
    frame_out
    exact key
  · by_cases h1 : t.val % 11 = 10
    · rw [Gen.outsAt0_C m c t h0 h1]
      frame_out
      exact key
    · rw [Gen.outsAt0_B m c t h0 h1]
      frame_out
      exact key

def termU (c : Dev nD) (t : Fin cfg0.N) (y : S1024x1024.Idx) : EReal :=
  ∑ k : Fin 768, (A1 m c (ix2 (row t k) (y 0)) : EReal) * dpre (A0 m c) (A1 m c) (A3 m c) (A4 m c) (row t k) (y 1)
def termD (c : Dev nD) (t : Fin cfg0.N) (y : S1024x1024.Idx) : EReal :=
  ∑ k : Fin 768, (max (pre (A1 m c) (A3 m c) (row t k) (y 0)) 0 * max (pre (A1 m c) (A3 m c) (row t k) (y 0)) 0)
    * (A0 m c (ix2 (row t k) (y 1)) : EReal)

theorem stepU (c : Dev nD) (t : Fin cfg0.N) (s : Vec Ideal S1024x1024 .f32) (y : S1024x1024.Idx) :
    k0_pay10 (F := Ideal) (iblk m c 0 t) (iblk m c 1 t) (iblk m c 4 t) s (iblk m c 2 t) y = s y + termU m c t y := by
  obtain ⟨i, j, rfl⟩ : ∃ i j : Fin 1024, y = ix2 i j := ⟨y 0, y 1, by blk_ext⟩
  rw [pay10_apply]
  congr 1
  refine Finset.sum_congr rfl fun k _ => ?_
  rw [iblk2, grad_apply]
  rfl

theorem stepD (c : Dev nD) (t : Fin cfg0.N) (s : Vec Ideal S1024x1024 .f32) (y : S1024x1024.Idx) :
    k0_pay9 (F := Ideal) (iblk m c 0 t) (iblk m c 1 t) s y = s y + termD m c t y := by
  obtain ⟨i, j, rfl⟩ : ∃ i j : Fin 1024, y = ix2 i j := ⟨y 0, y 1, by blk_ext⟩
  rw [pay9_apply]
  unfold termD
  simp only [iblk0, iblk1]
  rfl

/-- The two accumulators after the last point: sums over all rows. -/
theorem accU (c : Dev nD) (y : S1024x1024.Idx) :
    (Gen.outsAt0 m c t0_10.val t0_10.isLt).2.2.2.1 y = ∑ t : Fin cfg0.N, termU m c t y := by
  have := Pipeline.eq_sum_fin_of_reset_step_apply_last (fun n h => (Gen.outsAt0 m c n h).2.2.2.1) 11 (fun _ => (0 : EReal))
    (termU m c)
    (fun t h0 y => by
      rw [Gen.outsAt0_A m c t h0 (by omega)]
      frame_out
      exact (stepU m c t _ y).trans (by rw [pay4_apply]))
    (fun t h0 y => by
      by_cases h1 : t.val % 11 = 10
      · rw [Gen.outsAt0_C m c t h0 h1]
        frame_out
        simp only [read_unread_whole]
        exact stepU m c t _ y
      · rw [Gen.outsAt0_B m c t h0 h1]
        frame_out
        simp only [read_unread_whole]
        exact stepU m c t _ y) (le_of_eq Gen.N_0) Gen.t0_10 rfl y
  rw [this, zero_add]
theorem accD (c : Dev nD) (y : S1024x1024.Idx) :
    (Gen.outsAt0 m c t0_10.val t0_10.isLt).2.2.2.2 y = ∑ t : Fin cfg0.N, termD m c t y := by
  have := Pipeline.eq_sum_fin_of_reset_step_apply_last (fun n h => (Gen.outsAt0 m c n h).2.2.2.2) 11 (fun _ => (0 : EReal))
    (termD m c)
    (fun t h0 y => by
      rw [Gen.outsAt0_A m c t h0 (by omega)]
      frame_out
      exact (stepD m c t _ y).trans (by rw [pay5_apply]))
    (fun t h0 y => by
      by_cases h1 : t.val % 11 = 10
      · rw [Gen.outsAt0_C m c t h0 h1]
        frame_out
        simp only [read_unread_whole]
        exact stepD m c t _ y
      · rw [Gen.outsAt0_B m c t h0 h1]
        frame_out
        simp only [read_unread_whole]
        exact stepD m c t _ y) (le_of_eq Gen.N_0) Gen.t0_10 rfl y
  rw [this, zero_add]

theorem sumU (c : Dev nD) (i j : Fin 1024) : ∑ t : Fin cfg0.N, termU m c t (ix2 i j)
    = ∑ r : Fin 8448, dpre (A0 m c) (A1 m c) (A3 m c) (A4 m c) r j * (A1 m c (ix2 r i) : EReal) := by
  refine (Fin.sum_mul_add_congr (S := 11) (n := 768) (fun s k hl => ?_) rfl)
  exact mul_comm _ _
theorem sumD (c : Dev nD) (i j : Fin 1024) : ∑ t : Fin cfg0.N, termD m c t (ix2 i j)
    = ∑ r : Fin 8448, (A0 m c (ix2 r j) : EReal) * (max (pre (A1 m c) (A3 m c) r i) 0 * max (pre (A1 m c) (A3 m c) r i) 0) := by
  refine (Fin.sum_mul_add_congr (S := 11) (n := 768) (fun s k hl => ?_) rfl)
  exact mul_comm _ _

theorem final6 (c : Dev nD) : (dats m 0 c).arrAt 6 cfg0.N
    = val_main_v25 (F := Ideal) (A0 m c) (A1 m c) (A2 m c) (A3 m c) (A4 m c) := by
  refine (dats m 0 c).arrAt_eq_of_covers 6 _ (by decide +kernel) fun t hf y => ?_
  obtain ⟨i, j, rfl⟩ : ∃ (i : Fin 768) (j : Fin 1024), y = ix2 i j := ⟨y 0, y 1, by blk_ext⟩
  blk_simp
  rw [after0_6]
  refine (out6_apply m c t i j).trans ?_
  congr 1
  blk_ext [idx t]

theorem final7 (c : Dev nD) : (dats m 0 c).arrAt 7 cfg0.N
    = val_main_v30 (F := Ideal) (A0 m c) (A1 m c) (A3 m c) (A4 m c) (A5 m c) := by
  refine (dats m 0 c).arrAt_eq_of_coversWhere_of_agree 7 _ (fun β => β (0 : Fin _) = 1) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_7 t).mp hf
    have ht : t = t0_10 := Fin.ext (by have : t.val < 11 := lt_of_lt_of_eq t.isLt N_0; show t.val = 10; omega)
    blk_simp
    rw [after0_7]
    have e : (Gen.outsAt0 m c t.val t.isLt).2.1 (ix3 o i j) = (Gen.outsAt0 m c t.val t.isLt).2.2.2.1 (ix2 i j) := by
      rw [Gen.outsAt0_C m c t (by omega) h1]
      frame_out
      exact pay2_apply _ o i j
    refine e.trans ?_
    subst ht
    rw [accU, sumU]
    refine Eq.trans ?_ (congrArg _ (?_ : ix3 1 i j = _))
    · rw [ref30, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 1 := fun h => hj (by rw [h]; exact Nat.div_one 1)
    have e : (cfg0.win 7).arr.view.emb (ix3 s i k) = ix3 s i k := by blk_ext
    rw [e, ref30, if_neg hs]
    show V m c main_v6_1 (ix3 s i k) = _
    entry_read
    rfl

theorem final8 (c : Dev nD) : (dats m 0 c).arrAt 8 cfg0.N
    = val_main_v35 (F := Ideal) (A0 m c) (A1 m c) (A3 m c) (A6 m c) := by
  refine (dats m 0 c).arrAt_eq_of_coversWhere_of_agree 8 _ (fun β => β (0 : Fin _) = 1) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_8 t).mp hf
    have ht : t = t0_10 := Fin.ext (by have : t.val < 11 := lt_of_lt_of_eq t.isLt N_0; show t.val = 10; omega)
    blk_simp
    rw [after0_8]
    have e : (Gen.outsAt0 m c t.val t.isLt).2.2.1 (ix3 o i j) = (Gen.outsAt0 m c t.val t.isLt).2.2.2.2 (ix2 i j) := by
      rw [Gen.outsAt0_C m c t (by omega) h1]
      frame_out
      exact pay3_apply _ o i j
    refine e.trans ?_
    subst ht
    rw [accD, sumD]
    refine Eq.trans ?_ (congrArg _ (?_ : ix3 1 i j = _))
    · rw [ref35, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 1 := fun h => hj (by rw [h]; exact Nat.div_one 1)
    have e : (cfg0.win 8).arr.view.emb (ix3 s i k) = ix3 s i k := by blk_ext
    rw [e, ref35, if_neg hs]
    show V m c main_v6_2 (ix3 s i k) = _
    entry_read
    rfl

end Cert.Mlp1Ideal.Hand

namespace Cert.Hand

/-- At `Ideal` the kernel's three results and the reference's agree. -/
theorem algebraic1 : Cert.algebraic_Mlp1Ideal_MlpRef1Ideal := by
  pair_intro
  · run_from Cert.Mlp1Ideal.Value.run_blocks m g
  · run_from Cert.MlpRef1Ideal.Value.run m' g'
    all_goals obtain ⟨e0, e1, e2, e3, e4, e5, e6⟩ := hagree c
    · refine (Cert.MlpRef1Ideal.Read.val_main_v25_eq _ _ _ _ _).trans (Eq.trans ?_ (Cert.Mlp1Ideal.Hand.final6 m c).symm)
      congr 1 <;> first | exact e0 | exact e1 | exact e2 | exact e3 | exact e4
    · refine (Cert.MlpRef1Ideal.Read.val_main_v30_eq _ _ _ _ _).trans (Eq.trans ?_ (Cert.Mlp1Ideal.Hand.final7 m c).symm)
      congr 1 <;> first | exact e0 | exact e1 | exact e3 | exact e4 | exact e5
    · refine (Cert.MlpRef1Ideal.Read.val_main_v35_eq _ _ _ _).trans (Eq.trans ?_ (Cert.Mlp1Ideal.Hand.final8 m c).symm)
      congr 1 <;> first | exact e0 | exact e1 | exact e3 | exact e6

/-- The reference leaves its arguments as they were. -/
theorem frame_ref1 : Cert.quiescent_MlpRef1Ideal := fun m ρ _ =>
  (θ_run Cert.MlpRef1Ideal.defs _ _).mono (fun r h => ⟨fun c => (h c).2.2.2,
      Idealize.ShloMosaic.sem_eq_zero_of_no_sems (by decide) r.2⟩)
    (Cert.MlpRef1Ideal.Value.run (F := Ideal) m ρ)

end Cert.Hand

end
-- ==== Proof.Mlp2Value.lean ====
module

public import proofs.«01_k».proof.Defs
public import proofs.«01_k».proof.Proof.Gen.Mlp2Ideal.Value
public import proofs.«01_k».proof.Proof.Gen.MlpRef2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mlp2Ideal.Hand

open Cert.Mlp2Ideal Cert.Mlp2Ideal.Gen Cert.MlpRef2Ideal.Read

theorem two_word : Ideal.ofBits FTy.f32 1073741824#32 = 2 := by
  simp [Ideal.ofBits, Ideal.ieee]
  rw [← EReal.coe_mul]
  norm_num
  rfl

theorem relu_grad (p d : EReal) : (if 0 < p then max p 0 * d + d * max p 0 else 0) = d * (2 * max p 0) := by
  split
  · rw [mul_comm (max p 0) d, mul_comm 2, ← mul_assoc, mul_comm _ 2]
    have := EReal.right_distrib_of_nonneg (a := 1) (b := 1) (c := d * max p 0) zero_le_one zero_le_one
    rw [one_mul, one_add_one_eq_two] at this
    exact this.symm
  · rename_i h
    rw [max_eq_right (not_lt.mp h), mul_zero, mul_zero]

/-- The pre-activation at a row and a hidden feature of the shard. -/
def pre (x1 : Vec Ideal S8448x1024 .bf16) (x3 : Vec Ideal S4x1x1024x1024 .bf16) (r : Fin 8448) (f : Fin 1024) : EReal :=
  ∑ k : Fin 1024, (x1 (ix2 r k) : EReal) * (x3 (ix4 2 0 k f) : EReal)

/-- The pre-activation's gradient. -/
def dpre (x0 : Vec Ideal S8448x1024 .f32) (x1 : Vec Ideal S8448x1024 .bf16) (x3 x4 : Vec Ideal S4x1x1024x1024 .bf16)
    (r : Fin 8448) (f : Fin 1024) : EReal :=
  (∑ k : Fin 1024, (x0 (ix2 r k) : EReal) * (x4 (ix4 2 0 f k) : EReal)) * (2 * max (pre x1 x3 r f) 0)

theorem zero9 (j) : val_main_v9 (F := Ideal) j = 0 := by
  pointwise [val_main_v9, val_main_cst]
theorem zero20 (j) : val_main_v20 (F := Ideal) j = 0 := by
  pointwise [val_main_v20, val_main_cst_1]
theorem zeroC (j) : val_main_call0_v0 (F := Ideal) j = 0 := by
  pointwise [val_main_call0_v0, val_main_call0_cst]
theorem ref7 (x1) (x3) (i : Fin 8448) (j : Fin 1024) : val_main_v7 (F := Ideal) x1 x3 (ix2 i j) = pre x1 x3 i j := by
  pointwise [val_main_v7, val_main_v6, val_main_v2, val_main_v1, val_main_v0]
  rfl

theorem ref21 (x0) (x1) (x3) (x4) (i : Fin 8448) (j : Fin 1024) :
    val_main_v21 (F := Ideal) x0 x1 x3 x4 (ix2 i j) = dpre x0 x1 x3 x4 i j := by
  pointwise [val_main_v21, val_main_v10, val_main_v19, val_main_v17, val_main_v18, val_main_v16, val_main_v8, val_main_v5, val_main_v4, val_main_v3]
  simp only [ref7, zero9, zero20, zeroC]
  exact relu_grad _ _
theorem ref25 (x0) (x1) (x2) (x3) (x4) (i : Fin 8448) (j : Fin 1024) :
    val_main_v25 (F := Ideal) x0 x1 x2 x3 x4 (ix2 i j) = x2 (ix2 i j) + ∑ f : Fin 1024, dpre x0 x1 x3 x4 i f * (x3 (ix4 2 0 j f) : EReal) := by
  pointwise [val_main_v25, val_main_v24, val_main_v2, val_main_v1, val_main_v0]
  simp only [ref21]
theorem ref30 (x0) (x1) (x3) (x4) (x5) (s : Fin 4) (i : Fin 1024) (j : Fin 1024) :
    val_main_v30 (F := Ideal) x0 x1 x3 x4 x5 (ix3 s i j)
      = if s = 2 then ∑ r : Fin 8448, dpre x0 x1 x3 x4 r j * (x1 (ix2 r i) : EReal) else x5 (ix3 s i j) := by
  pointwise [val_main_v30, val_main_v27, val_main_v28, val_main_v29, val_main_v26, val_main_v23, val_main_v22, val_main_v6]
  simp only [ref21]
  fin_cases s <;> rfl
theorem ref35 (x0) (x1) (x3) (x6) (s : Fin 4) (i : Fin 1024) (j : Fin 1024) :
    val_main_v35 (F := Ideal) x0 x1 x3 x6 (ix3 s i j)
      = if s = 2 then ∑ r : Fin 8448, (x0 (ix2 r j) : EReal) * (max (pre x1 x3 r i) 0 * max (pre x1 x3 r i) 0) else x6 (ix3 s i j) := by
  pointwise [val_main_v35, val_main_v32, val_main_v33, val_main_v34, val_main_v31, val_main_v15, val_main_v14, val_main_v12, val_main_v8]
  simp only [ref7, zeroC]
  fin_cases s <;> rfl

/-! ## The kernel's payloads at an index -/

theorem pay8_apply (x0 : Vec Ideal S768x1024 .f32) (x1 : Vec Ideal S768x1024 .bf16) (x4 : Vec Ideal S1x1x1024x1024 .bf16)
    (i : Fin 768) (j : Fin 1024) : k0_pay8 (F := Ideal) x0 x1 x4 (ix2 i j)
      = (∑ k : Fin 1024, (x0 (ix2 i k) : EReal) * (x4 (ix4 0 0 j k) : EReal)) * (2 * max (x1 (ix2 i j) : EReal) 0) := by
  pointwise [k0_pay8, k0_pay6, k0_pay7]
  rw [two_word]
theorem pay9_apply (x0 : Vec Ideal S768x1024 .f32) (x1 : Vec Ideal S768x1024 .bf16) (s : Vec Ideal S1024x1024 .f32)
    (i : Fin 1024) (j : Fin 1024) : k0_pay9 (F := Ideal) x0 x1 s (ix2 i j)
      = s (ix2 i j) + ∑ k : Fin 768, (max (x1 (ix2 k i) : EReal) 0 * max (x1 (ix2 k i) : EReal) 0) * (x0 (ix2 k j) : EReal) := by
  pointwise [k0_pay9, k0_pay6, k0_pay7]
theorem pay10_apply (x0 : Vec Ideal S768x1024 .f32) (x1 : Vec Ideal S768x1024 .bf16) (x4 : Vec Ideal S1x1x1024x1024 .bf16)
    (s : Vec Ideal S1024x1024 .f32) (x2 : Vec Ideal S768x1024 .bf16)
    (i : Fin 1024) (j : Fin 1024) : k0_pay10 (F := Ideal) x0 x1 x4 s x2 (ix2 i j)
      = s (ix2 i j) + ∑ k : Fin 768, (x2 (ix2 k i) : EReal) * (k0_pay8 (F := Ideal) x0 x1 x4 (ix2 k j) : EReal) := by
  pointwise [k0_pay10]
theorem pay1_apply (v : Vec Ideal S768x1024 .bf16) (w : Vec Ideal S1x1x1024x1024 .bf16) (p : Vec Ideal S768x1024 .f32)
    (i : Fin 768) (j : Fin 1024) : k0_pay1 (F := Ideal) v w p (ix2 i j)
      = (∑ k : Fin 1024, (v (ix2 i k) : EReal) * (w (ix4 0 0 j k) : EReal)) + (p (ix2 i j) : EReal) := by
  pointwise [k0_pay1]
theorem pay2_apply (v : Vec Ideal S1024x1024 .f32) (o : Fin 1) (i j : Fin 1024) : k0_pay2 (F := Ideal) v (ix3 o i j) = v (ix2 i j) := by
  pointwise [k0_pay2]
theorem pay3_apply (v : Vec Ideal S1024x1024 .f32) (o : Fin 1) (i j : Fin 1024) : k0_pay3 (F := Ideal) v (ix3 o i j) = v (ix2 i j) := by
  pointwise [k0_pay3]
theorem pay4_apply (j) : k0_pay4 (F := Ideal) j = 0 := by
  pointwise [k0_pay4]
theorem pay5_apply (j) : k0_pay5 (F := Ideal) j = 0 := by
  pointwise [k0_pay5]

/-! ## The input blocks -/

variable (m : (ℓ : Loc nD τ sig) → Buf (Elt Ideal) ℓ) (ρ : Dev nD → PrngReg)

theorem idx : ∀ t : Fin cfg0.N, win0_0.index t = ![t.val, 0] ∧ win0_1.index t = ![t.val, 2] ∧ win0_2.index t = ![t.val, 0]
    ∧ win0_3.index t = ![2, 0, 0, 0] ∧ win0_4.index t = ![2, 0, 0, 0] ∧ win0_5.index t = ![t.val, 0]
    ∧ win0_6.index t = ![t.val, 0] ∧ win0_7.index t = ![2, 0, 0] ∧ win0_8.index t = ![2, 0, 0] :=
  (by decide +kernel : ∀ t : Fin grid0.N, _)

abbrev A0 (c : Dev nD) : Vec Ideal S8448x1024 .f32 := m ((c : Thread nD τ).loc main_arg0)
abbrev A1 (c : Dev nD) : Vec Ideal S8448x1024 .bf16 := m ((c : Thread nD τ).loc main_arg1)
abbrev A2 (c : Dev nD) : Vec Ideal S8448x1024 .f32 := m ((c : Thread nD τ).loc main_arg2)
abbrev A3 (c : Dev nD) : Vec Ideal S4x1x1024x1024 .bf16 := m ((c : Thread nD τ).loc main_arg3)
abbrev A4 (c : Dev nD) : Vec Ideal S4x1x1024x1024 .bf16 := m ((c : Thread nD τ).loc main_arg4)
abbrev A5 (c : Dev nD) : Vec Ideal S4x1024x1024 .bf16 := m ((c : Thread nD τ).loc main_arg5)
abbrev A6 (c : Dev nD) : Vec Ideal S4x1024x1024 .bf16 := m ((c : Thread nD τ).loc main_arg6)

theorem ptlt (t : Fin cfg0.N) (i : Fin 768) : t.val * 768 + i.val < 8448 := by
  have : t.val < 11 := lt_of_lt_of_eq t.isLt N_0
  omega

abbrev row (t : Fin cfg0.N) (i : Fin 768) : Fin 8448 := ⟨t.val * 768 + i.val, ptlt t i⟩

theorem iblk0 (c : Dev nD) (t : Fin cfg0.N) (i : Fin 768) (j : Fin 1024) :
    iblk m c 0 t (ix2 i j) = A0 m c (ix2 (row t i) j) := by
  blk_ext! [iblk, V, idx t]
theorem iblk2 (c : Dev nD) (t : Fin cfg0.N) (i : Fin 768) (j : Fin 1024) :
    iblk m c 2 t (ix2 i j) = A1 m c (ix2 (row t i) j) := by
  blk_ext! [iblk, V, idx t]
theorem iblk3 (c : Dev nD) (t : Fin cfg0.N) (i j : Fin 1024) :
    iblk m c 3 t (ix4 0 0 i j) = A3 m c (ix4 2 0 i j) := by
  blk_ext! [iblk, V, idx t]
theorem iblk4 (c : Dev nD) (t : Fin cfg0.N) (i j : Fin 1024) :
    iblk m c 4 t (ix4 0 0 i j) = A4 m c (ix4 2 0 i j) := by
  blk_ext! [iblk, V, idx t]
theorem iblk5 (c : Dev nD) (t : Fin cfg0.N) (i : Fin 768) (j : Fin 1024) :
    iblk m c 5 t (ix2 i j) = A2 m c (ix2 (row t i) j) := by
  blk_ext! [iblk, V, idx t]
theorem iblk1 (c : Dev nD) (t : Fin cfg0.N) (i : Fin 768) (j : Fin 1024) :
    iblk m c 1 t (ix2 i j) = pre (A1 m c) (A3 m c) (row t i) j := by
  have h : iblk m c 1 t (ix2 i j) = V m c main_v5 (ix2 (row t i) ⟨2048 + j.val, by omega⟩) := by
    blk_ext! [iblk, idx t]
  rw [h]
  entry_read
  pointwise
  rw [pre]
  refine Fin.sum_fin_congr fun k => ?_
  congr 1 <;> blk_ext [idx t]

/-- The hidden gradient's block, as the point's first product leaves it. -/
theorem grad_apply (c : Dev nD) (t : Fin cfg0.N) (i : Fin 768) (j : Fin 1024) :
    k0_pay8 (F := Ideal) (iblk m c 0 t) (iblk m c 1 t) (iblk m c 4 t) (ix2 i j)
      = dpre (A0 m c) (A1 m c) (A3 m c) (A4 m c) (row t i) j := by
  rw [pay8_apply, iblk1, dpre]
  congr 1
  refine Finset.sum_congr rfl fun k _ => ?_
  rw [iblk0, iblk4]

/-- What a point writes of the input's gradient. -/
theorem out6_apply (c : Dev nD) (t : Fin cfg0.N) (i : Fin 768) (j : Fin 1024) :
    (Gen.outsAt0 m c t.val t.isLt).1 (ix2 i j)
      = val_main_v25 (F := Ideal) (A0 m c) (A1 m c) (A2 m c) (A3 m c) (A4 m c) (ix2 (row t i) j) := by
  have key : k0_pay1 (F := Ideal) (k0_pay8 (F := Ideal) (iblk m c 0 t) (iblk m c 1 t) (iblk m c 4 t)) (iblk m c 3 t)
      (iblk m c 5 t) (ix2 i j)
      = val_main_v25 (F := Ideal) (A0 m c) (A1 m c) (A2 m c) (A3 m c) (A4 m c) (ix2 (row t i) j) := by
    rw [pay1_apply, ref25, iblk5, add_comm]
    congr 1
    refine Finset.sum_congr rfl fun k _ => ?_
    rw [grad_apply, iblk3]
  by_cases h0 : t.val % 11 = 0
  · have h1 : ¬t.val % 11 = 10 := by omega
    rw [Gen.outsAt0_A m c t h0 h1]
    frame_out
    exact key
  · by_cases h1 : t.val % 11 = 10
    · rw [Gen.outsAt0_C m c t h0 h1]
      frame_out
      exact key
    · rw [Gen.outsAt0_B m c t h0 h1]
      frame_out
      exact key

def termU (c : Dev nD) (t : Fin cfg0.N) (y : S1024x1024.Idx) : EReal :=
  ∑ k : Fin 768, (A1 m c (ix2 (row t k) (y 0)) : EReal) * dpre (A0 m c) (A1 m c) (A3 m c) (A4 m c) (row t k) (y 1)
def termD (c : Dev nD) (t : Fin cfg0.N) (y : S1024x1024.Idx) : EReal :=
  ∑ k : Fin 768, (max (pre (A1 m c) (A3 m c) (row t k) (y 0)) 0 * max (pre (A1 m c) (A3 m c) (row t k) (y 0)) 0)
    * (A0 m c (ix2 (row t k) (y 1)) : EReal)

theorem stepU (c : Dev nD) (t : Fin cfg0.N) (s : Vec Ideal S1024x1024 .f32) (y : S1024x1024.Idx) :
    k0_pay10 (F := Ideal) (iblk m c 0 t) (iblk m c 1 t) (iblk m c 4 t) s (iblk m c 2 t) y = s y + termU m c t y := by
  obtain ⟨i, j, rfl⟩ : ∃ i j : Fin 1024, y = ix2 i j := ⟨y 0, y 1, by blk_ext⟩
  rw [pay10_apply]
  congr 1
  refine Finset.sum_congr rfl fun k _ => ?_
  rw [iblk2, grad_apply]
  rfl

theorem stepD (c : Dev nD) (t : Fin cfg0.N) (s : Vec Ideal S1024x1024 .f32) (y : S1024x1024.Idx) :
    k0_pay9 (F := Ideal) (iblk m c 0 t) (iblk m c 1 t) s y = s y + termD m c t y := by
  obtain ⟨i, j, rfl⟩ : ∃ i j : Fin 1024, y = ix2 i j := ⟨y 0, y 1, by blk_ext⟩
  rw [pay9_apply]
  unfold termD
  simp only [iblk0, iblk1]
  rfl

/-- The two accumulators after the last point: sums over all rows. -/
theorem accU (c : Dev nD) (y : S1024x1024.Idx) :
    (Gen.outsAt0 m c t0_10.val t0_10.isLt).2.2.2.1 y = ∑ t : Fin cfg0.N, termU m c t y := by
  have := Pipeline.eq_sum_fin_of_reset_step_apply_last (fun n h => (Gen.outsAt0 m c n h).2.2.2.1) 11 (fun _ => (0 : EReal))
    (termU m c)
    (fun t h0 y => by
      rw [Gen.outsAt0_A m c t h0 (by omega)]
      frame_out
      exact (stepU m c t _ y).trans (by rw [pay4_apply]))
    (fun t h0 y => by
      by_cases h1 : t.val % 11 = 10
      · rw [Gen.outsAt0_C m c t h0 h1]
        frame_out
        simp only [read_unread_whole]
        exact stepU m c t _ y
      · rw [Gen.outsAt0_B m c t h0 h1]
        frame_out
        simp only [read_unread_whole]
        exact stepU m c t _ y) (le_of_eq Gen.N_0) Gen.t0_10 rfl y
  rw [this, zero_add]
theorem accD (c : Dev nD) (y : S1024x1024.Idx) :
    (Gen.outsAt0 m c t0_10.val t0_10.isLt).2.2.2.2 y = ∑ t : Fin cfg0.N, termD m c t y := by
  have := Pipeline.eq_sum_fin_of_reset_step_apply_last (fun n h => (Gen.outsAt0 m c n h).2.2.2.2) 11 (fun _ => (0 : EReal))
    (termD m c)
    (fun t h0 y => by
      rw [Gen.outsAt0_A m c t h0 (by omega)]
      frame_out
      exact (stepD m c t _ y).trans (by rw [pay5_apply]))
    (fun t h0 y => by
      by_cases h1 : t.val % 11 = 10
      · rw [Gen.outsAt0_C m c t h0 h1]
        frame_out
        simp only [read_unread_whole]
        exact stepD m c t _ y
      · rw [Gen.outsAt0_B m c t h0 h1]
        frame_out
        simp only [read_unread_whole]
        exact stepD m c t _ y) (le_of_eq Gen.N_0) Gen.t0_10 rfl y
  rw [this, zero_add]

theorem sumU (c : Dev nD) (i j : Fin 1024) : ∑ t : Fin cfg0.N, termU m c t (ix2 i j)
    = ∑ r : Fin 8448, dpre (A0 m c) (A1 m c) (A3 m c) (A4 m c) r j * (A1 m c (ix2 r i) : EReal) := by
  refine (Fin.sum_mul_add_congr (S := 11) (n := 768) (fun s k hl => ?_) rfl)
  exact mul_comm _ _
theorem sumD (c : Dev nD) (i j : Fin 1024) : ∑ t : Fin cfg0.N, termD m c t (ix2 i j)
    = ∑ r : Fin 8448, (A0 m c (ix2 r j) : EReal) * (max (pre (A1 m c) (A3 m c) r i) 0 * max (pre (A1 m c) (A3 m c) r i) 0) := by
  refine (Fin.sum_mul_add_congr (S := 11) (n := 768) (fun s k hl => ?_) rfl)
  exact mul_comm _ _

theorem final6 (c : Dev nD) : (dats m 0 c).arrAt 6 cfg0.N
    = val_main_v25 (F := Ideal) (A0 m c) (A1 m c) (A2 m c) (A3 m c) (A4 m c) := by
  refine (dats m 0 c).arrAt_eq_of_covers 6 _ (by decide +kernel) fun t hf y => ?_
  obtain ⟨i, j, rfl⟩ : ∃ (i : Fin 768) (j : Fin 1024), y = ix2 i j := ⟨y 0, y 1, by blk_ext⟩
  blk_simp
  rw [after0_6]
  refine (out6_apply m c t i j).trans ?_
  congr 1
  blk_ext [idx t]

theorem final7 (c : Dev nD) : (dats m 0 c).arrAt 7 cfg0.N
    = val_main_v30 (F := Ideal) (A0 m c) (A1 m c) (A3 m c) (A4 m c) (A5 m c) := by
  refine (dats m 0 c).arrAt_eq_of_coversWhere_of_agree 7 _ (fun β => β (0 : Fin _) = 2) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_7 t).mp hf
    have ht : t = t0_10 := Fin.ext (by have : t.val < 11 := lt_of_lt_of_eq t.isLt N_0; show t.val = 10; omega)
    blk_simp
    rw [after0_7]
    have e : (Gen.outsAt0 m c t.val t.isLt).2.1 (ix3 o i j) = (Gen.outsAt0 m c t.val t.isLt).2.2.2.1 (ix2 i j) := by
      rw [Gen.outsAt0_C m c t (by omega) h1]
      frame_out
      exact pay2_apply _ o i j
    refine e.trans ?_
    subst ht
    rw [accU, sumU]
    refine Eq.trans ?_ (congrArg _ (?_ : ix3 2 i j = _))
    · rw [ref30, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 2 := fun h => hj (by rw [h]; exact Nat.div_one 2)
    have e : (cfg0.win 7).arr.view.emb (ix3 s i k) = ix3 s i k := by blk_ext
    rw [e, ref30, if_neg hs]
    show V m c main_v6_1 (ix3 s i k) = _
    entry_read
    rfl

theorem final8 (c : Dev nD) : (dats m 0 c).arrAt 8 cfg0.N
    = val_main_v35 (F := Ideal) (A0 m c) (A1 m c) (A3 m c) (A6 m c) := by
  refine (dats m 0 c).arrAt_eq_of_coversWhere_of_agree 8 _ (fun β => β (0 : Fin _) = 2) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_8 t).mp hf
    have ht : t = t0_10 := Fin.ext (by have : t.val < 11 := lt_of_lt_of_eq t.isLt N_0; show t.val = 10; omega)
    blk_simp
    rw [after0_8]
    have e : (Gen.outsAt0 m c t.val t.isLt).2.2.1 (ix3 o i j) = (Gen.outsAt0 m c t.val t.isLt).2.2.2.2 (ix2 i j) := by
      rw [Gen.outsAt0_C m c t (by omega) h1]
      frame_out
      exact pay3_apply _ o i j
    refine e.trans ?_
    subst ht
    rw [accD, sumD]
    refine Eq.trans ?_ (congrArg _ (?_ : ix3 2 i j = _))
    · rw [ref35, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 2 := fun h => hj (by rw [h]; exact Nat.div_one 2)
    have e : (cfg0.win 8).arr.view.emb (ix3 s i k) = ix3 s i k := by blk_ext
    rw [e, ref35, if_neg hs]
    show V m c main_v6_2 (ix3 s i k) = _
    entry_read
    rfl

end Cert.Mlp2Ideal.Hand

namespace Cert.Hand

/-- At `Ideal` the kernel's three results and the reference's agree. -/
theorem algebraic2 : Cert.algebraic_Mlp2Ideal_MlpRef2Ideal := by
  pair_intro
  · run_from Cert.Mlp2Ideal.Value.run_blocks m g
  · run_from Cert.MlpRef2Ideal.Value.run m' g'
    all_goals obtain ⟨e0, e1, e2, e3, e4, e5, e6⟩ := hagree c
    · refine (Cert.MlpRef2Ideal.Read.val_main_v25_eq _ _ _ _ _).trans (Eq.trans ?_ (Cert.Mlp2Ideal.Hand.final6 m c).symm)
      congr 1 <;> first | exact e0 | exact e1 | exact e2 | exact e3 | exact e4
    · refine (Cert.MlpRef2Ideal.Read.val_main_v30_eq _ _ _ _ _).trans (Eq.trans ?_ (Cert.Mlp2Ideal.Hand.final7 m c).symm)
      congr 1 <;> first | exact e0 | exact e1 | exact e3 | exact e4 | exact e5
    · refine (Cert.MlpRef2Ideal.Read.val_main_v35_eq _ _ _ _).trans (Eq.trans ?_ (Cert.Mlp2Ideal.Hand.final8 m c).symm)
      congr 1 <;> first | exact e0 | exact e1 | exact e3 | exact e6

/-- The reference leaves its arguments as they were. -/
theorem frame_ref2 : Cert.quiescent_MlpRef2Ideal := fun m ρ _ =>
  (θ_run Cert.MlpRef2Ideal.defs _ _).mono (fun r h => ⟨fun c => (h c).2.2.2,
      Idealize.ShloMosaic.sem_eq_zero_of_no_sems (by decide) r.2⟩)
    (Cert.MlpRef2Ideal.Value.run (F := Ideal) m ρ)

end Cert.Hand

end
-- ==== Proof.Rms.lean ====
module

public import Idealize.ShloMosaic.Lib.Pointwise
public import Idealize.ShloMosaic.Lib.Claim

@[expose] public section

noncomputable section

open Idealize.ShloMosaic

namespace Cert.Rms

theorem word_neg_half : Ideal.ofBits FTy.f32 3204448256#32 = ((-(1 / 2) : ℝ) : EReal) := by
  simp [Ideal.ofBits, Ideal.ieee]
  rw [← EReal.coe_mul]
  norm_num

theorem word_1024 : Ideal.ofBits FTy.f32 1149239296#32 = ((1024 : ℝ) : EReal) := by
  simp [Ideal.ofBits, Ideal.ieee]
  rw [← EReal.coe_mul]
  norm_num

theorem word_inv_1024 : Ideal.ofBits FTy.f32 981467136#32 = ((1 / 1024 : ℝ) : EReal) := by
  simp [Ideal.ofBits, Ideal.ieee]
  rw [← EReal.coe_mul]
  norm_num

theorem word_eps : ∃ e : ℝ, 0 < e ∧ Ideal.ofBits FTy.f32 897988541#32 = (e : EReal) := by
  refine ⟨8796093 * 2 ^ (-43 : ℤ), by positivity, ?_⟩
  simp [Ideal.ofBits, Ideal.ieee]

theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

theorem div_coe (x : EReal) (r : ℝ) (hr : r ≠ 0) : Ideal.div x (r : EReal) = x * ((r⁻¹ : ℝ) : EReal) := by
  rw [Ideal.div, if_neg (by exact_mod_cast hr), EReal.coe_inv]

/-- The mean square plus the small constant. -/
def var (s : EReal) : EReal := Ideal.div s (Ideal.ofBits FTy.f32 1149239296#32) + Ideal.ofBits FTy.f32 897988541#32

theorem var_pos (s : EReal) (hs : 0 ≤ s) : 0 < var s := by
  obtain ⟨e, he, hw⟩ := word_eps
  rw [var, hw, word_1024, div_coe _ _ (by norm_num)]
  refine lt_of_lt_of_le (EReal.coe_pos.mpr he) (le_add_of_nonneg_left (mul_nonneg hs ?_))
  exact_mod_cast (by norm_num : (0:ℝ) ≤ 1024⁻¹)

theorem double (x : EReal) : x + x = 2 * x := by
  have := EReal.right_distrib_of_nonneg (a := 1) (b := 1) (c := x) zero_le_one zero_le_one
  rw [one_mul, one_add_one_eq_two] at this
  exact this.symm

/-- The derivative of `x / √(mean x² + ε)` as the chain rule writes it is the closed form. -/
theorem bwd (V T h g : EReal) (hV : 0 < V) :
    (g * Ideal.rsqrt V + h * Ideal.div (T * (((-(1 / 2) : ℝ) : EReal) * Ideal.div (Ideal.rsqrt V) V)) ((1024 : ℝ) : EReal))
        + Ideal.div (T * (((-(1 / 2) : ℝ) : EReal) * Ideal.div (Ideal.rsqrt V) V)) ((1024 : ℝ) : EReal) * h
      = Ideal.rsqrt V * g - h * (Ideal.rsqrt V * Ideal.rsqrt V * Ideal.rsqrt V) * (T * ((1 / 1024 : ℝ) : EReal)) := by
  induction V with
  | bot => exact absurd hV (by simp)
  | top =>
    simp [Ideal.div]
  | coe v =>
    have hv : 0 < v := EReal.coe_pos.mp hV
    set q : ℝ := (Real.sqrt v)⁻¹ with hq
    have hr : Ideal.rsqrt (v : EReal) = (q : EReal) := by
      rw [Ideal.rsqrt_coe, if_neg (not_lt.mpr hv.le), if_neg hv.ne']
    have hqq : q * v⁻¹ = q * q * q := by
      have : v⁻¹ = q * q := by rw [hq, ← mul_inv, Real.mul_self_sqrt hv.le]
      rw [this]; ring
    rw [hr, div_coe _ _ hv.ne', div_coe _ _ (by norm_num : (1024 : ℝ) ≠ 0), ← EReal.coe_mul, hqq, ← EReal.coe_mul]
    have e1 : h * (T * ((-(1 / 2) * (q * q * q) : ℝ) : EReal) * ((1024⁻¹ : ℝ) : EReal))
        = (h * T) * ((-(1 / 2) * (q * q * q) * 1024⁻¹ : ℝ) : EReal) := by
      rw [EReal.coe_mul (-(1 / 2) * (q * q * q))]; ac_rfl
    have e2 : h * ((q : EReal) * q * q) * (T * ((1 / 1024 : ℝ) : EReal)) = (h * T) * ((q * q * q * (1 / 1024) : ℝ) : EReal) := by
      rw [EReal.coe_mul (q * q * q), EReal.coe_mul (q * q), EReal.coe_mul q]; ac_rfl
    rw [mul_comm _ h, e1, e2, add_assoc, double, mul_comm g, sub_eq_add_neg]
    congr 1
    rw [← mul_assoc, mul_comm 2, mul_assoc, ← mul_neg, ← EReal.coe_neg]
    congr 1
    rw [show (2 : EReal) = ((2 : ℝ) : EReal) from rfl, ← EReal.coe_mul]
    congr 1
    ring

end Cert.Rms

end
-- ==== Proof.Mlp3Value.lean ====
module

public import proofs.«01_k».proof.Defs
public import proofs.«01_k».proof.Proof.Gen.Mlp3Ideal.Value
public import proofs.«01_k».proof.Proof.Gen.MlpRef3Ideal.Read
public import proofs.«01_k».proof.Proof.Rms
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mlp3Ideal.Hand

open Cert.Mlp3Ideal Cert.Mlp3Ideal.Gen Cert.MlpRef3Ideal.Read

theorem two_word : Ideal.ofBits FTy.f32 1073741824#32 = 2 := by
  simp [Ideal.ofBits, Ideal.ieee]
  rw [← EReal.coe_mul]
  norm_num
  rfl

theorem relu_grad (p d : EReal) : (if 0 < p then max p 0 * d + d * max p 0 else 0) = d * (2 * max p 0) := by
  split
  · rw [mul_comm (max p 0) d, mul_comm 2, ← mul_assoc, mul_comm _ 2]
    have := EReal.right_distrib_of_nonneg (a := 1) (b := 1) (c := d * max p 0) zero_le_one zero_le_one
    rw [one_mul, one_add_one_eq_two] at this
    exact this.symm
  · rename_i h
    rw [max_eq_right (not_lt.mp h), mul_zero, mul_zero]

abbrev Rows := Vec Ideal S8448x1024 .f32
abbrev Wt := Vec Ideal S4x1x1024x1024 .bf16
abbrev Nw := Vec Ideal S1x1024 .f32

/-- A row's mean square plus the small constant. -/
def vr (h : Rows) (r : Fin 8448) : EReal := Rms.var (∑ k : Fin 1024, (h (ix2 r k) : EReal) * (h (ix2 r k) : EReal))
theorem vr_pos (h : Rows) (r : Fin 8448) : 0 < vr h r :=
  Rms.var_pos _ (Finset.sum_nonneg fun _ _ => Rms.sq_nonneg _)
/-- The normalised input. -/
def nrm (h : Rows) (w : Nw) (r : Fin 8448) (k : Fin 1024) : EReal :=
  (h (ix2 r k) : EReal) * Ideal.rsqrt (vr h r) * (w (ix2 0 k) : EReal)
/-- The pre-activation at a row and a hidden feature of the shard. -/
def pre (h : Rows) (w : Nw) (u : Wt) (r : Fin 8448) (f : Fin 1024) : EReal :=
  ∑ k : Fin 1024, nrm h w r k * (u (ix4 3 0 k f) : EReal)
/-- The pre-activation's gradient. -/
def dpre (x0 h : Rows) (w : Nw) (u d : Wt) (r : Fin 8448) (f : Fin 1024) : EReal :=
  (∑ k : Fin 1024, (x0 (ix2 r k) : EReal) * (d (ix4 3 0 f k) : EReal)) * (2 * max (pre h w u r f) 0)
/-- The normalised input's gradient. -/
def dhn (x0 h x2 : Rows) (w : Nw) (u d : Wt) (r : Fin 8448) (j : Fin 1024) : EReal :=
  x2 (ix2 r j) + ∑ f : Fin 1024, dpre x0 h w u d r f * (u (ix4 3 0 j f) : EReal)

abbrev r8 (n : Fin 1056) (s : Fin 8) : Fin 8448 := ⟨n.val * 8 + s.val, by omega⟩
theorem r8_eq (r : Fin 8448) (h₁ h₂) : r8 ⟨r.val / 8, h₁⟩ ⟨r.val % 8, h₂⟩ = r := Fin.ext (Nat.div_add_mod' _ _)

theorem zero27 (j) : val_main_v27 (F := Ideal) j = 0 := by
  pointwise [val_main_v27, val_main_cst_3]
theorem zero40 (j) : val_main_v40 (F := Ideal) j = 0 := by
  pointwise [val_main_v40, val_main_cst_5]
theorem zeroC (j) : val_main_call0_v0 (F := Ideal) j = 0 := by
  pointwise [val_main_call0_v0, val_main_call0_cst]
theorem ref7 (h) (n : Fin 1056) (s : Fin 8) (k : Fin 1024) :
    val_main_v7 (F := Ideal) h (ix3 n s k) = h (ix2 (r8 n s) k) := by
  pointwise [val_main_v7]
theorem ref14 (h) (n : Fin 1056) (s : Fin 8) (o : Fin 1) :
    val_main_v14 (F := Ideal) h (ix3 n s o) = vr h (r8 n s) := by
  pointwise [val_main_v14, val_main_v12, val_main_v10, val_main_v9, val_main_v8, val_main_v11, val_main_v13, val_main_cst, val_main_cst_0, val_main_cst_1]
  simp only [ref7]
  rfl
theorem ref15 (h) (n : Fin 1056) (s : Fin 8) (o : Fin 1) :
    val_main_v15 (F := Ideal) h (ix3 n s o) = Ideal.rsqrt (vr h (r8 n s)) := by
  pointwise [val_main_v15]
  rw [ref14]
theorem ref18 (h) (n : Fin 1056) (s : Fin 8) (o : Fin 1) :
    val_main_v18 (F := Ideal) h (ix3 n s o)
      = ((-(1 / 2) : ℝ) : EReal) * Ideal.div (Ideal.rsqrt (vr h (r8 n s))) (vr h (r8 n s)) := by
  pointwise [val_main_v18, val_main_v17, val_main_v16, val_main_cst_2]
  rw [ref14, ref15, Rms.word_neg_half]
theorem ref21 (w) (o : Fin 1) (s : Fin 8) (k : Fin 1024) : val_main_v21 (F := Ideal) w (ix3 o s k) = w (ix2 0 k) := by
  pointwise [val_main_v21, val_main_v6]
theorem ref20 (h) (n : Fin 1056) (s : Fin 8) (k : Fin 1024) :
    val_main_v20 (F := Ideal) h (ix3 n s k) = h (ix2 (r8 n s) k) * Ideal.rsqrt (vr h (r8 n s)) := by
  pointwise [val_main_v20, val_main_v19]
  rw [ref7, ref15]
theorem ref24 (h) (w) (r : Fin 8448) (k : Fin 1024) : val_main_v24 (F := Ideal) h w (ix2 r k) = nrm h w r k := by
  pointwise [val_main_v24, val_main_v23, val_main_v22]
  rw [ref20, ref21, r8_eq]
  rfl
theorem ref25 (h) (w) (u) (i : Fin 8448) (j : Fin 1024) : val_main_v25 (F := Ideal) h w u (ix2 i j) = pre h w u i j := by
  pointwise [val_main_v25, val_main_v2, val_main_v1, val_main_v0]
  simp only [ref24]
  rfl
theorem ref41 (x0 h) (w) (u d) (i : Fin 8448) (j : Fin 1024) :
    val_main_v41 (F := Ideal) x0 h w u d (ix2 i j) = dpre x0 h w u d i j := by
  pointwise [val_main_v41, val_main_v28, val_main_v39, val_main_v37, val_main_v38, val_main_v36, val_main_v33, val_main_v26, val_main_v5, val_main_v4, val_main_v3]
  simp only [ref25, zero27, zero40, zeroC]
  exact relu_grad _ _
theorem ref45 (x0 h x2) (w) (u d) (i : Fin 8448) (j : Fin 1024) :
    val_main_v45 (F := Ideal) x0 h x2 w u d (ix2 i j) = dhn x0 h x2 w u d i j := by
  pointwise [val_main_v45, val_main_v44, val_main_v2, val_main_v1, val_main_v0]
  simp only [ref41]
  rfl
theorem ref46 (x0 h x2) (w) (u d) (n : Fin 1056) (s : Fin 8) (k : Fin 1024) :
    val_main_v46 (F := Ideal) x0 h x2 w u d (ix3 n s k) = dhn x0 h x2 w u d (r8 n s) k := by
  pointwise [val_main_v46]
  exact ref45 _ _ _ _ _ _ _ _
theorem ref51 (x0 h x2) (w) (u d) (n : Fin 1056) (s : Fin 8) (k : Fin 1024) :
    val_main_v51 (F := Ideal) x0 h x2 w u d (ix3 n s k) = dhn x0 h x2 w u d (r8 n s) k * (w (ix2 0 k) : EReal) := by
  pointwise [val_main_v51, val_main_v50]
  rw [ref46, ref21]
theorem ref62 (x0 h x2) (w) (u d) (n : Fin 1056) (s : Fin 8) (k : Fin 1024) :
    val_main_v62 (F := Ideal) x0 h x2 w u d (ix3 n s k)
      = Ideal.div ((∑ k : Fin 1024, (h (ix2 (r8 n s) k) : EReal) * (dhn x0 h x2 w u d (r8 n s) k * (w (ix2 0 k) : EReal)))
          * (((-(1 / 2) : ℝ) : EReal) * Ideal.div (Ideal.rsqrt (vr h (r8 n s))) (vr h (r8 n s)))) ((1024 : ℝ) : EReal) := by
  pointwise [val_main_v62, val_main_v61, val_main_v60, val_main_v59, val_main_v58, val_main_v55, val_main_v54, val_main_v53, val_main_cst_8, val_main_cst_9, val_main_cst_10]
  simp only [ref18, ref7, ref51, Rms.word_1024]
  exact Fin.sum_univ_one _
theorem ref68 (x0 h x2) (w) (u d) (r : Fin 8448) (k : Fin 1024) :
    val_main_v68 (F := Ideal) x0 h x2 w u d (ix2 r k)
      = x0 (ix2 r k) + (Ideal.rsqrt (vr h r) * (dhn x0 h x2 w u d r k * (w (ix2 0 k) : EReal))
        - h (ix2 r k) * (Ideal.rsqrt (vr h r) * Ideal.rsqrt (vr h r) * Ideal.rsqrt (vr h r))
          * ((∑ k : Fin 1024, (h (ix2 r k) : EReal) * (dhn x0 h x2 w u d r k * (w (ix2 0 k) : EReal))) * ((1 / 1024 : ℝ) : EReal))) := by
  pointwise [val_main_v68, val_main_v67, val_main_v66, val_main_v65, val_main_v64, val_main_v63, val_main_v57, val_main_v56]
  rw [ref62, ref51, ref15, ref7, r8_eq]
  congr 1
  exact Rms.bwd _ _ _ _ (vr_pos h r)
theorem ref52 (x0 h x2) (w) (u d) (s : Fin 8) (k : Fin 1024) :
    val_main_v52 (F := Ideal) x0 h x2 w u d (ix2 s k)
      = ∑ n : Fin 1056, dhn x0 h x2 w u d (r8 n s) k * (h (ix2 (r8 n s) k) : EReal) * Ideal.rsqrt (vr h (r8 n s)) := by
  pointwise [val_main_v52, val_main_v49, val_main_v48, val_main_v47, val_main_cst_7, val_main_cst_6]
  simp only [ref20, ref46]
  refine (Fin.sum_univ_one _).trans (Finset.sum_congr rfl fun n _ => ?_)
  rw [mul_comm, mul_assoc]
theorem ref73 (x0 h) (w) (u d) (x6) (s : Fin 4) (i : Fin 1024) (j : Fin 1024) :
    val_main_v73 (F := Ideal) x0 h w u d x6 (ix3 s i j)
      = if s = 3 then ∑ r : Fin 8448, dpre x0 h w u d r j * nrm h w r i else x6 (ix3 s i j) := by
  pointwise [val_main_v73, val_main_v70, val_main_v71, val_main_v72, val_main_v69, val_main_v43, val_main_v42]
  simp only [ref41, ref24]
  fin_cases s <;> rfl
theorem ref78 (x0 h) (w) (u) (x7) (s : Fin 4) (i : Fin 1024) (j : Fin 1024) :
    val_main_v78 (F := Ideal) x0 h w u x7 (ix3 s i j)
      = if s = 3 then ∑ r : Fin 8448, (x0 (ix2 r j) : EReal) * (max (pre h w u r i) 0 * max (pre h w u r i) 0) else x7 (ix3 s i j) := by
  pointwise [val_main_v78, val_main_v75, val_main_v76, val_main_v77, val_main_v74, val_main_v35, val_main_v34, val_main_v33, val_main_v30, val_main_v26]
  simp only [ref25, zeroC]
  fin_cases s <;> rfl

/-! ## The kernel's payloads at an index -/

theorem pay9_apply (x0 : Vec Ideal S768x1024 .f32) (x1 : Vec Ideal S768x1024 .bf16) (x4 : Vec Ideal S1x1x1024x1024 .bf16)
    (i : Fin 768) (j : Fin 1024) : k0_pay9 (F := Ideal) x0 x1 x4 (ix2 i j)
      = (∑ k : Fin 1024, (x0 (ix2 i k) : EReal) * (x4 (ix4 0 0 j k) : EReal)) * (2 * max (x1 (ix2 i j) : EReal) 0) := by
  pointwise [k0_pay9, k0_pay7, k0_pay8]
  rw [two_word]
theorem pay10_apply (x0 : Vec Ideal S768x1024 .f32) (x1 : Vec Ideal S768x1024 .bf16) (s : Vec Ideal S1024x1024 .f32)
    (i : Fin 1024) (j : Fin 1024) : k0_pay10 (F := Ideal) x0 x1 s (ix2 i j)
      = s (ix2 i j) + ∑ k : Fin 768, (max (x1 (ix2 k i) : EReal) 0 * max (x1 (ix2 k i) : EReal) 0) * (x0 (ix2 k j) : EReal) := by
  pointwise [k0_pay10, k0_pay7, k0_pay8]
theorem pay12_apply (x0 : Vec Ideal S768x1024 .f32) (x1 : Vec Ideal S768x1024 .bf16) (x4 : Vec Ideal S1x1x1024x1024 .bf16)
    (s : Vec Ideal S1024x1024 .f32) (x2 : Vec Ideal S768x1024 .bf16)
    (i : Fin 1024) (j : Fin 1024) : k0_pay12 (F := Ideal) (k0_pay11 (F := Ideal) x0 x1 x4 s x2) (ix2 i j)
      = s (ix2 i j) + ∑ k : Fin 768, (x2 (ix2 k i) : EReal) * (k0_pay9 (F := Ideal) x0 x1 x4 (ix2 k j) : EReal) := by
  pointwise [k0_pay12, k0_pay11]
theorem pay13_apply (v : Vec Ideal S768x1024 .bf16) (w : Vec Ideal S1x1x1024x1024 .bf16) (p : Vec Ideal S768x1024 .f32)
    (i : Fin 768) (j : Fin 1024) : k0_pay13 (F := Ideal) v w p (ix2 i j)
      = (∑ k : Fin 1024, (v (ix2 i k) : EReal) * (w (ix4 0 0 j k) : EReal)) + (p (ix2 i j) : EReal) := by
  pointwise [k0_pay13]
theorem pay14_apply (h : Vec Ideal S768x1024 .f32) (i : Fin 768) (o : Fin 1) : k0_pay14 (F := Ideal) h (ix2 i o)
      = Ideal.rsqrt (Rms.var (∑ k : Fin 1024, (h (ix2 i k) : EReal) * (h (ix2 i k) : EReal))) := by
  pointwise [k0_pay14]
  rfl
theorem pay15_apply (v : Vec Ideal S768x1024 .bf16) (w : Vec Ideal S1x1x1024x1024 .bf16) (p h : Vec Ideal S768x1024 .f32)
    (i : Fin 768) (j : Fin 1024) : k0_pay15 (F := Ideal) v w p h (ix2 i j)
      = k0_pay13 (F := Ideal) v w p (ix2 i j) * (h (ix2 i j) : EReal) * k0_pay14 (F := Ideal) h (ix2 i 0) := by
  pointwise [k0_pay15]
theorem pay16_apply (v : Vec Ideal S768x1024 .bf16) (w : Vec Ideal S1x1x1024x1024 .bf16) (p h : Vec Ideal S768x1024 .f32)
    (n : Vec Ideal S1x1024 .f32) (x0 : Vec Ideal S768x1024 .f32)
    (i : Fin 768) (j : Fin 1024) : k0_pay16 (F := Ideal) v w p h n x0 (ix2 i j)
      = x0 (ix2 i j) + (k0_pay14 (F := Ideal) h (ix2 i 0) * (k0_pay13 (F := Ideal) v w p (ix2 i j) * (n (ix2 0 j) : EReal))
        - h (ix2 i j) * (k0_pay14 (F := Ideal) h (ix2 i 0) * k0_pay14 (F := Ideal) h (ix2 i 0) * k0_pay14 (F := Ideal) h (ix2 i 0))
          * ((∑ k : Fin 1024, k0_pay13 (F := Ideal) v w p (ix2 i k) * (n (ix2 0 k) : EReal) * (h (ix2 i k) : EReal)) * ((1 / 1024 : ℝ) : EReal))) := by
  pointwise [k0_pay16]
  rw [Rms.word_inv_1024]
theorem pay1_apply (v : Vec Ideal S768x1024 .f32) (s : Vec Ideal S8x1024 .f32)
    (i : Fin 8) (j : Fin 1024) : k0_pay1 (F := Ideal) v s (ix2 i j)
      = s (ix2 i j) + ∑ p : Fin 96, (v (ix2 ⟨p.val * 8 + i.val, by omega⟩ j) : EReal) := by
  pointwise [k0_pay1]
theorem pay2_apply (v : Vec Ideal S1024x1024 .f32) (o : Fin 1) (i j : Fin 1024) : k0_pay2 (F := Ideal) v (ix3 o i j) = v (ix2 i j) := by
  pointwise [k0_pay2]
theorem pay3_apply (v : Vec Ideal S1024x1024 .f32) (o : Fin 1) (i j : Fin 1024) : k0_pay3 (F := Ideal) v (ix3 o i j) = v (ix2 i j) := by
  pointwise [k0_pay3]
theorem pay4_apply (j) : k0_pay4 (F := Ideal) j = 0 := by
  pointwise [k0_pay4]
theorem pay5_apply (j) : k0_pay5 (F := Ideal) j = 0 := by
  pointwise [k0_pay5]
theorem pay6_apply (j) : k0_pay6 (F := Ideal) j = 0 := by
  pointwise [k0_pay6]

/-! ## The input blocks -/

variable (m : (ℓ : Loc nD τ sig) → Buf (Elt Ideal) ℓ) (ρ : Dev nD → PrngReg)

theorem idx : ∀ t : Fin cfg0.N, win0_0.index t = ![t.val, 0] ∧ win0_1.index t = ![t.val, 3] ∧ win0_2.index t = ![t.val, 0]
    ∧ win0_3.index t = ![3, 0, 0, 0] ∧ win0_4.index t = ![3, 0, 0, 0] ∧ win0_5.index t = ![t.val, 0]
    ∧ win0_6.index t = ![t.val, 0] ∧ win0_7.index t = ![0, 0] ∧ win0_8.index t = ![t.val, 0]
    ∧ win0_9.index t = ![3, 0, 0] ∧ win0_10.index t = ![3, 0, 0] ∧ win0_11.index t = ![0, 0] :=
  (by decide +kernel : ∀ t : Fin grid0.N, _)

abbrev A0 (c : Dev nD) : Rows := m ((c : Thread nD τ).loc main_arg0)
abbrev A1 (c : Dev nD) : Rows := m ((c : Thread nD τ).loc main_arg1)
abbrev A2 (c : Dev nD) : Rows := m ((c : Thread nD τ).loc main_arg2)
abbrev A3 (c : Dev nD) : Nw := m ((c : Thread nD τ).loc main_arg3)
abbrev A4 (c : Dev nD) : Wt := m ((c : Thread nD τ).loc main_arg4)
abbrev A5 (c : Dev nD) : Wt := m ((c : Thread nD τ).loc main_arg5)
abbrev A6 (c : Dev nD) : Vec Ideal S4x1024x1024 .bf16 := m ((c : Thread nD τ).loc main_arg6)
abbrev A7 (c : Dev nD) : Vec Ideal S4x1024x1024 .bf16 := m ((c : Thread nD τ).loc main_arg7)

theorem ptlt (t : Fin cfg0.N) (i : Fin 768) : t.val * 768 + i.val < 8448 := by
  have : t.val < 11 := lt_of_lt_of_eq t.isLt N_0
  omega

abbrev row (t : Fin cfg0.N) (i : Fin 768) : Fin 8448 := ⟨t.val * 768 + i.val, ptlt t i⟩

theorem iblk0 (c : Dev nD) (t : Fin cfg0.N) (i : Fin 768) (j : Fin 1024) :
    iblk m c 0 t (ix2 i j) = A0 m c (ix2 (row t i) j) := by
  blk_ext! [iblk, V, idx t]
theorem iblk3 (c : Dev nD) (t : Fin cfg0.N) (i j : Fin 1024) :
    iblk m c 3 t (ix4 0 0 i j) = A4 m c (ix4 3 0 i j) := by
  blk_ext! [iblk, V, idx t]
theorem iblk4 (c : Dev nD) (t : Fin cfg0.N) (i j : Fin 1024) :
    iblk m c 4 t (ix4 0 0 i j) = A5 m c (ix4 3 0 i j) := by
  blk_ext! [iblk, V, idx t]
theorem iblk5 (c : Dev nD) (t : Fin cfg0.N) (i : Fin 768) (j : Fin 1024) :
    iblk m c 5 t (ix2 i j) = A2 m c (ix2 (row t i) j) := by
  blk_ext! [iblk, V, idx t]
theorem iblk6 (c : Dev nD) (t : Fin cfg0.N) (i : Fin 768) (j : Fin 1024) :
    iblk m c 6 t (ix2 i j) = A1 m c (ix2 (row t i) j) := by
  blk_ext! [iblk, V, idx t]
theorem iblk7 (c : Dev nD) (t : Fin cfg0.N) (j : Fin 1024) :
    iblk m c 7 t (ix2 0 j) = A3 m c (ix2 0 j) := by
  blk_ext! [iblk, V, idx t]
theorem iblk2 (c : Dev nD) (t : Fin cfg0.N) (i : Fin 768) (j : Fin 1024) :
    iblk m c 2 t (ix2 i j) = nrm (A1 m c) (A3 m c) (row t i) j := by
  have h : iblk m c 2 t (ix2 i j) = V m c main_v17 (ix2 (row t i) j) := by
    blk_ext! [iblk, idx t]
  rw [h]
  entry_read
  pointwise
  rfl
theorem iblk1 (c : Dev nD) (t : Fin cfg0.N) (i : Fin 768) (j : Fin 1024) :
    iblk m c 1 t (ix2 i j) = pre (A1 m c) (A3 m c) (A4 m c) (row t i) j := by
  have h : iblk m c 1 t (ix2 i j) = V m c main_v16 (ix2 (row t i) ⟨3072 + j.val, by omega⟩) := by
    blk_ext! [iblk, idx t]
  rw [h]
  entry_read
  pointwise
  rw [pre]
  refine Fin.sum_fin_congr fun k => ?_
  congr 1
  blk_ext [idx t]

/-- The hidden gradient's block, as the point's first product leaves it. -/
theorem grad_apply (c : Dev nD) (t : Fin cfg0.N) (i : Fin 768) (j : Fin 1024) :
    k0_pay9 (F := Ideal) (iblk m c 0 t) (iblk m c 1 t) (iblk m c 4 t) (ix2 i j)
      = dpre (A0 m c) (A1 m c) (A3 m c) (A4 m c) (A5 m c) (row t i) j := by
  rw [pay9_apply, iblk1, dpre]
  congr 1
  refine Finset.sum_congr rfl fun k _ => ?_
  rw [iblk0, iblk4]

theorem dhn_apply (c : Dev nD) (t : Fin cfg0.N) (i : Fin 768) (j : Fin 1024) :
    k0_pay13 (F := Ideal) (k0_pay9 (F := Ideal) (iblk m c 0 t) (iblk m c 1 t) (iblk m c 4 t)) (iblk m c 3 t)
      (iblk m c 5 t) (ix2 i j)
      = dhn (A0 m c) (A1 m c) (A2 m c) (A3 m c) (A4 m c) (A5 m c) (row t i) j := by
  rw [pay13_apply, iblk5, add_comm, dhn]
  refine congrArg (fun z : EReal => (A2 m c (ix2 (row t i) j) : EReal) + z) (Finset.sum_congr rfl fun k _ => ?_)
  rw [grad_apply, iblk3]

theorem rs_apply (c : Dev nD) (t : Fin cfg0.N) (i : Fin 768) (o : Fin 1) :
    k0_pay14 (F := Ideal) (iblk m c 6 t) (ix2 i o) = Ideal.rsqrt (vr (A1 m c) (row t i)) := by
  rw [pay14_apply, vr]
  simp only [iblk6]

/-- What a point writes of the input's gradient. -/
theorem out8_apply (c : Dev nD) (t : Fin cfg0.N) (i : Fin 768) (j : Fin 1024) :
    (Gen.outsAt0 m c t.val t.isLt).1 (ix2 i j)
      = val_main_v68 (F := Ideal) (A0 m c) (A1 m c) (A2 m c) (A3 m c) (A4 m c) (A5 m c) (ix2 (row t i) j) := by
  have key : k0_pay16 (F := Ideal) (k0_pay9 (F := Ideal) (iblk m c 0 t) (iblk m c 1 t) (iblk m c 4 t)) (iblk m c 3 t)
      (iblk m c 5 t) (iblk m c 6 t) (iblk m c 7 t) (iblk m c 0 t) (ix2 i j)
      = val_main_v68 (F := Ideal) (A0 m c) (A1 m c) (A2 m c) (A3 m c) (A4 m c) (A5 m c) (ix2 (row t i) j) := by
    have hs : (∑ k : Fin 1024, (k0_pay13 (F := Ideal) (k0_pay9 (F := Ideal) (iblk m c 0 t) (iblk m c 1 t) (iblk m c 4 t)) (iblk m c 3 t)
        (iblk m c 5 t) (ix2 i k) : EReal) * (iblk m c 7 t (ix2 0 k) : EReal) * (iblk m c 6 t (ix2 i k) : EReal))
        = ∑ k : Fin 1024, (A1 m c (ix2 (row t i) k) : EReal)
          * (dhn (A0 m c) (A1 m c) (A2 m c) (A3 m c) (A4 m c) (A5 m c) (row t i) k * (A3 m c (ix2 0 k) : EReal)) :=
      Finset.sum_congr rfl fun k _ => by rw [dhn_apply, iblk6, iblk7, mul_comm]
    rw [pay16_apply, ref68, hs, iblk0, iblk6, iblk7, rs_apply, dhn_apply]
  by_cases h0 : t.val % 11 = 0
  · have h1 : ¬t.val % 11 = 10 := by omega
    rw [Gen.outsAt0_A m c t h0 h1]
    frame_out
    exact key
  · by_cases h1 : t.val % 11 = 10
    · rw [Gen.outsAt0_C m c t h0 h1]
      frame_out
      exact key
    · rw [Gen.outsAt0_B m c t h0 h1]
      frame_out
      exact key

def qN (c : Dev nD) (t : Fin cfg0.N) (i : Fin 8) (j : Fin 1024) : EReal :=
  ∑ p : Fin 96, dhn (A0 m c) (A1 m c) (A2 m c) (A3 m c) (A4 m c) (A5 m c) (row t ⟨p.val * 8 + i.val, by omega⟩) j
    * (A1 m c (ix2 (row t ⟨p.val * 8 + i.val, by omega⟩) j) : EReal)
    * Ideal.rsqrt (vr (A1 m c) (row t ⟨p.val * 8 + i.val, by omega⟩))
def termN (c : Dev nD) (t : Fin cfg0.N) (y : S8x1024.Idx) : EReal := qN m c t (y 0) (y 1)
theorem termN_ix (c : Dev nD) (t : Fin cfg0.N) (i : Fin 8) (j : Fin 1024) : termN m c t (ix2 i j) = qN m c t i j := rfl
def termU (c : Dev nD) (t : Fin cfg0.N) (y : S1024x1024.Idx) : EReal :=
  ∑ k : Fin 768, nrm (A1 m c) (A3 m c) (row t k) (y 0) * dpre (A0 m c) (A1 m c) (A3 m c) (A4 m c) (A5 m c) (row t k) (y 1)
def termD (c : Dev nD) (t : Fin cfg0.N) (y : S1024x1024.Idx) : EReal :=
  ∑ k : Fin 768, (max (pre (A1 m c) (A3 m c) (A4 m c) (row t k) (y 0)) 0 * max (pre (A1 m c) (A3 m c) (A4 m c) (row t k) (y 0)) 0)
    * (A0 m c (ix2 (row t k) (y 1)) : EReal)

theorem stepN (c : Dev nD) (t : Fin cfg0.N) (s : Vec Ideal S8x1024 .f32) (y : S8x1024.Idx) :
    k0_pay1 (F := Ideal) (k0_pay15 (F := Ideal) (k0_pay9 (F := Ideal) (iblk m c 0 t) (iblk m c 1 t) (iblk m c 4 t)) (iblk m c 3 t)
      (iblk m c 5 t) (iblk m c 6 t)) s y = s y + termN m c t y := by
  obtain ⟨i, j, rfl⟩ : ∃ (i : Fin 8) (j : Fin 1024), y = ix2 i j := ⟨y 0, y 1, by blk_ext⟩
  rw [pay1_apply, termN_ix, qN]
  refine congrArg (fun z : EReal => (s (ix2 i j) : EReal) + z) (Finset.sum_congr rfl fun p _ => ?_)
  rw [pay15_apply, dhn_apply, iblk6, rs_apply]

theorem stepU (c : Dev nD) (t : Fin cfg0.N) (s : Vec Ideal S1024x1024 .f32) (y : S1024x1024.Idx) :
    k0_pay12 (F := Ideal) (k0_pay11 (F := Ideal) (iblk m c 0 t) (iblk m c 1 t) (iblk m c 4 t) s (iblk m c 2 t)) y = s y + termU m c t y := by
  obtain ⟨i, j, rfl⟩ : ∃ i j : Fin 1024, y = ix2 i j := ⟨y 0, y 1, by blk_ext⟩
  rw [pay12_apply]
  unfold termU
  congr 1
  refine Finset.sum_congr rfl fun k _ => ?_
  rw [iblk2, grad_apply]
  rfl

theorem stepD (c : Dev nD) (t : Fin cfg0.N) (s : Vec Ideal S1024x1024 .f32) (y : S1024x1024.Idx) :
    k0_pay10 (F := Ideal) (iblk m c 0 t) (iblk m c 1 t) s y = s y + termD m c t y := by
  obtain ⟨i, j, rfl⟩ : ∃ i j : Fin 1024, y = ix2 i j := ⟨y 0, y 1, by blk_ext⟩
  rw [pay10_apply]
  unfold termD
  simp only [iblk0, iblk1]
  rfl

theorem accN (c : Dev nD) (y : S8x1024.Idx) :
    (Gen.outsAt0 m c t0_10.val t0_10.isLt).2.2.2.1 y = ∑ t : Fin cfg0.N, termN m c t y := by
  have := Pipeline.eq_sum_fin_of_reset_step_apply_last (fun n h => (Gen.outsAt0 m c n h).2.2.2.1) 11 (fun _ => (0 : EReal))
    (termN m c)
    (fun t h0 y => by
      rw [Gen.outsAt0_A m c t h0 (by omega)]
      frame_out
      exact (stepN m c t _ y).trans (by rw [pay6_apply]))
    (fun t h0 y => by
      by_cases h1 : t.val % 11 = 10
      · rw [Gen.outsAt0_C m c t h0 h1]
        frame_out
        try simp only [read_unread_whole]
        exact stepN m c t _ y
      · rw [Gen.outsAt0_B m c t h0 h1]
        frame_out
        try simp only [read_unread_whole]
        exact stepN m c t _ y) (le_of_eq Gen.N_0) Gen.t0_10 rfl y
  rw [this, zero_add]

theorem accU (c : Dev nD) (y : S1024x1024.Idx) :
    (Gen.outsAt0 m c t0_10.val t0_10.isLt).2.2.2.2.1 y = ∑ t : Fin cfg0.N, termU m c t y := by
  have := Pipeline.eq_sum_fin_of_reset_step_apply_last (fun n h => (Gen.outsAt0 m c n h).2.2.2.2.1) 11 (fun _ => (0 : EReal))
    (termU m c)
    (fun t h0 y => by
      rw [Gen.outsAt0_A m c t h0 (by omega)]
      frame_out
      exact (stepU m c t _ y).trans (by rw [pay4_apply]))
    (fun t h0 y => by
      by_cases h1 : t.val % 11 = 10
      · rw [Gen.outsAt0_C m c t h0 h1]
        frame_out
        simp only [read_unread_whole]
        exact stepU m c t _ y
      · rw [Gen.outsAt0_B m c t h0 h1]
        frame_out
        simp only [read_unread_whole]
        exact stepU m c t _ y) (le_of_eq Gen.N_0) Gen.t0_10 rfl y
  rw [this, zero_add]

theorem accD (c : Dev nD) (y : S1024x1024.Idx) :
    (Gen.outsAt0 m c t0_10.val t0_10.isLt).2.2.2.2.2 y = ∑ t : Fin cfg0.N, termD m c t y := by
  have := Pipeline.eq_sum_fin_of_reset_step_apply_last (fun n h => (Gen.outsAt0 m c n h).2.2.2.2.2) 11 (fun _ => (0 : EReal))
    (termD m c)
    (fun t h0 y => by
      rw [Gen.outsAt0_A m c t h0 (by omega)]
      frame_out
      exact (stepD m c t _ y).trans (by rw [pay5_apply]))
    (fun t h0 y => by
      by_cases h1 : t.val % 11 = 10
      · rw [Gen.outsAt0_C m c t h0 h1]
        frame_out
        simp only [read_unread_whole]
        exact stepD m c t _ y
      · rw [Gen.outsAt0_B m c t h0 h1]
        frame_out
        simp only [read_unread_whole]
        exact stepD m c t _ y) (le_of_eq Gen.N_0) Gen.t0_10 rfl y
  rw [this, zero_add]

theorem sumN (c : Dev nD) (i : Fin 8) (j : Fin 1024) : ∑ t : Fin cfg0.N, termN m c t (ix2 i j)
    = ∑ n : Fin 1056, dhn (A0 m c) (A1 m c) (A2 m c) (A3 m c) (A4 m c) (A5 m c) (r8 n i) j * (A1 m c (ix2 (r8 n i) j) : EReal)
        * Ideal.rsqrt (vr (A1 m c) (r8 n i)) := by
  simp only [termN_ix]
  unfold qN
  refine (Fin.sum_mul_add_congr (S := 11) (n := 96) (fun s p hl => ?_) rfl)
  have e : r8 ⟨s.val * 96 + p.val, hl⟩ i = row s ⟨p.val * 8 + i.val, by omega⟩ := Fin.ext (by
    show (s.val * 96 + p.val) * 8 + i.val = s.val * 768 + (p.val * 8 + i.val)
    omega)
  rw [e]
theorem sumU (c : Dev nD) (i j : Fin 1024) : ∑ t : Fin cfg0.N, termU m c t (ix2 i j)
    = ∑ r : Fin 8448, dpre (A0 m c) (A1 m c) (A3 m c) (A4 m c) (A5 m c) r j * nrm (A1 m c) (A3 m c) r i := by
  refine (Fin.sum_mul_add_congr (S := 11) (n := 768) (fun s k hl => ?_) rfl)
  exact mul_comm _ _
theorem sumD (c : Dev nD) (i j : Fin 1024) : ∑ t : Fin cfg0.N, termD m c t (ix2 i j)
    = ∑ r : Fin 8448, (A0 m c (ix2 r j) : EReal) * (max (pre (A1 m c) (A3 m c) (A4 m c) r i) 0 * max (pre (A1 m c) (A3 m c) (A4 m c) r i) 0) := by
  refine (Fin.sum_mul_add_congr (S := 11) (n := 768) (fun s k hl => ?_) rfl)
  exact mul_comm _ _

theorem final8 (c : Dev nD) : (dats m 0 c).arrAt 8 cfg0.N
    = val_main_v68 (F := Ideal) (A0 m c) (A1 m c) (A2 m c) (A3 m c) (A4 m c) (A5 m c) := by
  refine (dats m 0 c).arrAt_eq_of_covers 8 _ (by decide +kernel) fun t hf y => ?_
  obtain ⟨i, j, rfl⟩ : ∃ (i : Fin 768) (j : Fin 1024), y = ix2 i j := ⟨y 0, y 1, by blk_ext⟩
  blk_simp
  rw [after0_8]
  refine (out8_apply m c t i j).trans ?_
  congr 1
  blk_ext [idx t]

theorem final11 (c : Dev nD) : (dats m 0 c).arrAt 11 cfg0.N
    = val_main_v52 (F := Ideal) (A0 m c) (A1 m c) (A2 m c) (A3 m c) (A4 m c) (A5 m c) := by
  refine (dats m 0 c).arrAt_eq_of_covers 11 _ (by decide +kernel) fun t hf y => ?_
  obtain ⟨i, j, rfl⟩ : ∃ (i : Fin 8) (j : Fin 1024), y = ix2 i j := ⟨y 0, y 1, by blk_ext⟩
  have h1 : t.val % 11 = 10 := (Gen.flush0_11 t).mp hf
  have ht : t = t0_10 := Fin.ext (by have : t.val < 11 := lt_of_lt_of_eq t.isLt N_0; show t.val = 10; omega)
  blk_simp
  rw [after0_11]
  subst ht
  refine ((accN m c _).trans (sumN m c i j)).trans ?_
  refine Eq.trans ?_ (congrArg _ (?_ : ix2 i j = _))
  · rw [ref52]
  · blk_ext [idx t0_10]

theorem final9 (c : Dev nD) : (dats m 0 c).arrAt 9 cfg0.N
    = val_main_v73 (F := Ideal) (A0 m c) (A1 m c) (A3 m c) (A4 m c) (A5 m c) (A6 m c) := by
  refine (dats m 0 c).arrAt_eq_of_coversWhere_of_agree 9 _ (fun β => β (0 : Fin _) = 3) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_9 t).mp hf
    have ht : t = t0_10 := Fin.ext (by have : t.val < 11 := lt_of_lt_of_eq t.isLt N_0; show t.val = 10; omega)
    blk_simp
    rw [after0_9]
    have e : (Gen.outsAt0 m c t.val t.isLt).2.1 (ix3 o i j) = (Gen.outsAt0 m c t.val t.isLt).2.2.2.2.1 (ix2 i j) := by
      rw [Gen.outsAt0_C m c t (by omega) h1]
      frame_out
      exact pay2_apply _ o i j
    refine e.trans ?_
    subst ht
    rw [accU, sumU]
    refine Eq.trans ?_ (congrArg _ (?_ : ix3 3 i j = _))
    · rw [ref73, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 3 := fun h => hj (by rw [h]; exact Nat.div_one 3)
    have e : (cfg0.win 9).arr.view.emb (ix3 s i k) = ix3 s i k := by blk_ext
    rw [e, ref73, if_neg hs]
    show V m c main_v18_1 (ix3 s i k) = _
    entry_read
    rfl

theorem final10 (c : Dev nD) : (dats m 0 c).arrAt 10 cfg0.N
    = val_main_v78 (F := Ideal) (A0 m c) (A1 m c) (A3 m c) (A4 m c) (A7 m c) := by
  refine (dats m 0 c).arrAt_eq_of_coversWhere_of_agree 10 _ (fun β => β (0 : Fin _) = 3) (by decide +kernel)
    (fun t hf y => ?_) (fun j hj => ?_)
  · obtain ⟨o, i, j, rfl⟩ : ∃ (o : Fin 1) (i j : Fin 1024), y = ix3 o i j := ⟨y 0, y 1, y 2, by blk_ext⟩
    have h1 : t.val % 11 = 10 := (Gen.flush0_10 t).mp hf
    have ht : t = t0_10 := Fin.ext (by have : t.val < 11 := lt_of_lt_of_eq t.isLt N_0; show t.val = 10; omega)
    blk_simp
    rw [after0_10]
    have e : (Gen.outsAt0 m c t.val t.isLt).2.2.1 (ix3 o i j) = (Gen.outsAt0 m c t.val t.isLt).2.2.2.2.2 (ix2 i j) := by
      rw [Gen.outsAt0_C m c t (by omega) h1]
      frame_out
      exact pay3_apply _ o i j
    refine e.trans ?_
    subst ht
    rw [accD, sumD]
    refine Eq.trans ?_ (congrArg _ (?_ : ix3 3 i j = _))
    · rw [ref78, if_pos rfl]
    · blk_ext [idx t0_10]
  · blk_simp [Pipeline.Window.cell_apply] at hj
    obtain ⟨s, i, k, rfl⟩ : ∃ (s : Fin 4) (i k : Fin 1024), j = ix3 s i k := ⟨j 0, j 1, j 2, by blk_ext⟩
    have hs : s ≠ 3 := fun h => hj (by rw [h]; exact Nat.div_one 3)
    have e : (cfg0.win 10).arr.view.emb (ix3 s i k) = ix3 s i k := by blk_ext
    rw [e, ref78, if_neg hs]
    show V m c main_v18_2 (ix3 s i k) = _
    entry_read
    rfl

end Cert.Mlp3Ideal.Hand

namespace Cert.Hand

/-- At `Ideal` the kernel's four results and the reference's agree. -/
theorem algebraic3 : Cert.algebraic_Mlp3Ideal_MlpRef3Ideal := by
  pair_intro
  · run_from Cert.Mlp3Ideal.Value.run_blocks m g
  · run_from Cert.MlpRef3Ideal.Value.run m' g'
    all_goals obtain ⟨e0, e1, e2, e3, e4, e5, e6, e7⟩ := hagree c
    · refine (Cert.MlpRef3Ideal.Read.val_main_v68_eq _ _).trans (Eq.trans ?_ (Cert.Mlp3Ideal.Hand.final8 m c).symm)
      congr 1 <;> first | exact e0 | exact e1 | exact e2 | exact e3 | exact e4 | exact e5
    · refine (Cert.MlpRef3Ideal.Read.val_main_v73_eq _ _).trans (Eq.trans ?_ (Cert.Mlp3Ideal.Hand.final9 m c).symm)
      congr 1 <;> first | exact e0 | exact e1 | exact e3 | exact e4 | exact e5 | exact e6
    · refine (Cert.MlpRef3Ideal.Read.val_main_v78_eq _ _ _ _ _).trans (Eq.trans ?_ (Cert.Mlp3Ideal.Hand.final10 m c).symm)
      congr 1 <;> first | exact e0 | exact e1 | exact e3 | exact e4 | exact e7
    · refine (Cert.MlpRef3Ideal.Read.val_main_v52_eq _ _).trans (Eq.trans ?_ (Cert.Mlp3Ideal.Hand.final11 m c).symm)
      congr 1 <;> first | exact e0 | exact e1 | exact e2 | exact e3 | exact e4 | exact e5

/-- The reference leaves its arguments as they were. -/
theorem frame_ref3 : Cert.quiescent_MlpRef3Ideal := fun m ρ _ =>
  (θ_run Cert.MlpRef3Ideal.defs _ _).mono (fun r h => ⟨fun c => (h c).2.2.2.2,
      Idealize.ShloMosaic.sem_eq_zero_of_no_sems (by decide) r.2⟩)
    (Cert.MlpRef3Ideal.Value.run (F := Ideal) m ρ)

end Cert.Hand

end
-- ==== Proof.Fwd0Value.lean ====
module

public import proofs.«01_k».proof.Defs
public import proofs.«01_k».proof.Proof.Gen.Fwd0Ideal.Value
public import proofs.«01_k».proof.Proof.Gen.FwdRef0Ideal.Read
public import proofs.«01_k».proof.Proof.Rms
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Fwd0Ideal.Hand

open Cert.Fwd0Ideal Cert.Fwd0Ideal.Gen Cert.FwdRef0Ideal.Read

abbrev Rows := Vec Ideal S8448x1024 .f32
abbrev Nw := Vec Ideal S1x1024 .f32
abbrev Wt := Vec Ideal S4x1x1024x1024 .bf16

/-- A row's mean square plus the small constant. -/
def vr {R : ℕ} (h : Vec Ideal ⟨2, ![R, 1024]⟩ .f32) (r : Fin R) : EReal := Rms.var (∑ k : Fin 1024, (h (ix2 r k) : EReal) * (h (ix2 r k) : EReal))
/-- The normalised row. -/
def nrm {R : ℕ} (h : Vec Ideal ⟨2, ![R, 1024]⟩ .f32) (n : Nw) (r : Fin R) (k : Fin 1024) : EReal :=
  (h (ix2 r k) : EReal) * Ideal.rsqrt (vr h r) * (n (ix2 0 k) : EReal)
/-- The hidden row before the activation: column `k` of shard `s`. -/
def pre {R : ℕ} (h : Vec Ideal ⟨2, ![R, 1024]⟩ .f32) (n : Nw) (w : Wt) (r : Fin R) (s : Fin 4) (k : Fin 1024) : EReal :=
  ∑ l : Fin 1024, nrm h n r l * (w (ix4 s 0 l k) : EReal)
/-- The squared rectifier. -/
def act (z : EReal) : EReal := max z 0 * max z 0
/-- The layer's output. -/
def mid {R : ℕ} (h : Vec Ideal ⟨2, ![R, 1024]⟩ .f32) (n : Nw) (w q : Wt) (r : Fin R) (j : Fin 1024) : EReal :=
  (h (ix2 r j) : EReal) + ∑ f : Fin 4096, act (pre h n w r ⟨f.val / 1024, by omega⟩ ⟨f.val % 1024, by omega⟩)
    * (q (ix4 ⟨f.val / 1024, by omega⟩ 0 ⟨f.val % 1024, by omega⟩ j) : EReal)

theorem ref13 (h : Rows) (r : Fin 8448) (o : Fin 1) : val_main_v13 (F := Ideal) h (ix2 r o) = Ideal.rsqrt (vr h r) := by
  pointwise [val_main_v13, val_main_v12, val_main_v11, val_main_v10, val_main_v9, val_main_v8, val_main_v7, val_main_v6, val_main_cst, val_main_cst_0, val_main_cst_1]
  rfl
theorem ref17 (h : Rows) (n : Nw) (r : Fin 8448) (k : Fin 1024) : val_main_v17 (F := Ideal) h n (ix2 r k) = nrm h n r k := by
  pointwise [val_main_v17, val_main_v16, val_main_v15, val_main_v14]
  rw [ref13, nrm]
theorem ref25 (h : Rows) (r : Fin 8448) (o : Fin 1) : val_main_v25 (F := Ideal) h (ix2 r o) = Ideal.rsqrt (vr h r) := by
  pointwise [val_main_v25, val_main_v24, val_main_v23, val_main_v22, val_main_v21, val_main_v20, val_main_v19, val_main_v18, val_main_cst_2, val_main_cst_3, val_main_cst_4]
  rfl
theorem ref29 (h : Rows) (n : Nw) (r : Fin 8448) (k : Fin 1024) : val_main_v29 (F := Ideal) h n (ix2 r k) = nrm h n r k := by
  pointwise [val_main_v29, val_main_v28, val_main_v27, val_main_v26]
  rw [ref25, nrm]
theorem ref3 (w : Wt) (k : Fin 1024) (f : Fin 4096) :
    val_main_v3 (F := Ideal) w (ix2 k f) = w (ix4 ⟨f.val / 1024, by omega⟩ 0 k ⟨f.val % 1024, by omega⟩) := by
  pointwise [val_main_v3, val_main_v2, val_main_v1, val_main_v0]
theorem ref5 (q : Wt) (f : Fin 4096) (j : Fin 1024) :
    val_main_v5 (F := Ideal) q (ix2 f j) = q (ix4 ⟨f.val / 1024, by omega⟩ 0 ⟨f.val % 1024, by omega⟩ j) := by
  pointwise [val_main_v5, val_main_v4]
theorem ref30 (h : Rows) (n : Nw) (w : Wt) (r : Fin 8448) (f : Fin 4096) :
    val_main_v30 (F := Ideal) h n w (ix2 r f) = pre h n w r ⟨f.val / 1024, by omega⟩ ⟨f.val % 1024, by omega⟩ := by
  pointwise [val_main_v30]
  rw [pre]
  exact Finset.sum_congr rfl fun k _ => congrArg₂ (fun a b : EReal => a * b) (ref29 _ _ _ _) (ref3 _ _ _)
theorem ref36 (h : Rows) (n : Nw) (w : Wt) (r : Fin 8448) (f : Fin 4096) :
    val_main_v36 (F := Ideal) h n w (ix2 r f) = pre h n w r ⟨f.val / 1024, by omega⟩ ⟨f.val % 1024, by omega⟩ := by
  pointwise [val_main_v36, val_main_v35]
  rw [pre]
  exact Finset.sum_congr rfl fun k _ => congrArg₂ (fun a b : EReal => a * b) (ref17 _ _ _ _) (ref3 _ _ _)
theorem ref32 (h : Rows) (n : Nw) (w : Wt) (r : Fin 8448) (f : Fin 4096) :
    val_main_v32 (F := Ideal) h n w (ix2 r f) = act (pre h n w r ⟨f.val / 1024, by omega⟩ ⟨f.val % 1024, by omega⟩) := by
  pointwise [val_main_v32, val_main_v31, val_main_call0_v0, val_main_call0_cst]
  rw [ref30]
  rfl
theorem ref34 (h : Rows) (n : Nw) (w q : Wt) (r : Fin 8448) (j : Fin 1024) :
    val_main_v34 (F := Ideal) h n w q (ix2 r j) = mid h n w q r j := by
  pointwise [val_main_v34, val_main_v33]
  rw [mid]
  exact congrArg (fun z : EReal => (h (ix2 r j) : EReal) + z)
    (Finset.sum_congr rfl fun k _ => congrArg₂ (fun a b : EReal => a * b) (ref32 _ _ _ _ _) (ref5 _ _ _))
theorem ref37 (h : Rows) (n : Nw) (r : Fin 8448) (k : Fin 1024) : val_main_v37 (F := Ideal) h n (ix2 r k) = nrm h n r k := by
  pointwise [val_main_v37]
  exact ref17 _ _ _ _
theorem ref49 (h : Rows) (n : Nw) (w q : Wt) (n' : Nw) (r : Fin 8448) (j : Fin 1024) :
    val_main_v49 (F := Ideal) h n w q n' (ix2 r j)
      = mid h n w q r j * Ideal.rsqrt (Rms.var (∑ k : Fin 1024, mid h n w q r k * mid h n w q r k)) * (n' (ix2 0 j) : EReal) := by
  pointwise [val_main_v49, val_main_v48, val_main_v47, val_main_v46, val_main_v45, val_main_v44, val_main_v43, val_main_v42, val_main_v41, val_main_v40, val_main_v39, val_main_v38, val_main_cst_5, val_main_cst_6, val_main_cst_7]
  simp only [ref34]
  rfl

/-! ## The kernel's payloads at an index -/

abbrev Tile := Vec Ideal S384x1024 .f32
abbrev Shard := Vec Ideal S1x1x1024x1024 .bf16
theorem pay4_apply (h : Tile) (n : Nw) (i : Fin 384) (k : Fin 1024) : k0_pay4 (F := Ideal) h n (ix2 i k) = nrm h n i k := by
  pointwise [k0_pay4]
  rfl
/-- A shard's part of the hidden row. -/
def sh (h : Tile) (n : Nw) (w : Shard) (i : Fin 384) (k : Fin 1024) : EReal :=
  ∑ l : Fin 1024, nrm h n i l * (w (ix4 0 0 l k) : EReal)
theorem pay5_apply (h : Tile) (n : Nw) (w : Shard) (i : Fin 384) (k : Fin 1024) : k0_pay5 (F := Ideal) h n w (ix2 i k) = sh h n w i k := by
  pointwise [k0_pay5]
  simp only [pay4_apply]
  rfl
theorem pay6_apply (h : Tile) (n : Nw) (w : Shard) (i : Fin 384) (k : Fin 1024) : k0_pay6 (F := Ideal) h n w (ix2 i k) = sh h n w i k := by
  pointwise [k0_pay6]
  exact pay5_apply _ _ _ _ _
theorem pay8_apply (h : Tile) (n : Nw) (w : Shard) (i : Fin 384) (k : Fin 1024) : k0_pay8 (F := Ideal) h n w (ix2 i k) = sh h n w i k := by
  pointwise [k0_pay8]
  simp only [pay4_apply]
  rfl
theorem pay9_apply (h : Tile) (n : Nw) (w : Shard) (i : Fin 384) (k : Fin 1024) : k0_pay9 (F := Ideal) h n w (ix2 i k) = sh h n w i k := by
  pointwise [k0_pay9]
  exact pay8_apply _ _ _ _ _
theorem pay11_apply (h : Tile) (n : Nw) (w : Shard) (i : Fin 384) (k : Fin 1024) : k0_pay11 (F := Ideal) (k0_pay4 (F := Ideal) h n) w (ix2 i k) = sh h n w i k := by
  pointwise [k0_pay11]
  simp only [pay4_apply]
  rfl
theorem pay12_apply (h : Tile) (n : Nw) (w : Shard) (i : Fin 384) (k : Fin 1024) : k0_pay12 (F := Ideal) (k0_pay4 (F := Ideal) h n) w (ix2 i k) = sh h n w i k := by
  pointwise [k0_pay12]
  exact pay11_apply _ _ _ _ _
theorem pay14_apply (h : Tile) (n : Nw) (w : Shard) (i : Fin 384) (k : Fin 1024) : k0_pay14 (F := Ideal) (k0_pay4 (F := Ideal) h n) w (ix2 i k) = sh h n w i k := by
  pointwise [k0_pay14]
  simp only [pay4_apply]
  rfl
theorem pay15_apply (h : Tile) (n : Nw) (w : Shard) (i : Fin 384) (k : Fin 1024) : k0_pay15 (F := Ideal) (k0_pay4 (F := Ideal) h n) w (ix2 i k) = sh h n w i k := by
  pointwise [k0_pay15]
  exact pay14_apply _ _ _ _ _
theorem act0_apply (h : Tile) (n : Nw) (w : Shard) (i : Fin 384) (k : Fin 1024) : k0_pay7 (F := Ideal) h n w (ix2 i k) = act (sh h n w i k) := by
  pointwise [k0_pay7]
  rw [pay5_apply]
  rfl
theorem act1_apply (h : Tile) (n : Nw) (w : Shard) (i : Fin 384) (k : Fin 1024) : k0_pay10 (F := Ideal) (k0_pay8 (F := Ideal) h n w) (ix2 i k) = act (sh h n w i k) := by
  pointwise [k0_pay10]
  rw [pay8_apply]
  rfl
theorem act2_apply (h : Tile) (n : Nw) (w : Shard) (i : Fin 384) (k : Fin 1024) : k0_pay13 (F := Ideal) (k0_pay4 (F := Ideal) h n) w (ix2 i k) = act (sh h n w i k) := by
  pointwise [k0_pay13]
  rw [pay11_apply]
  rfl
theorem act3_apply (h : Tile) (n : Nw) (w : Shard) (i : Fin 384) (k : Fin 1024) : k0_pay1 (F := Ideal) (k0_pay16 (F := Ideal) (k0_pay4 (F := Ideal) h n) w) (ix2 i k) = act (sh h n w i k) := by
  pointwise [k0_pay1, k0_pay16]
  rw [pay14_apply]
  rfl
theorem ldu0 (w : Wt) (l k : Fin 1024) : View.ld w (Rect.unit ![0, 0, 0, 0] ![1, 1, 1024, 1024] inb_S4x1x1024x1024_S1x1x1024x1024_0_0_0_0) (ix4 0 0 l k) = w (ix4 0 0 l k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem sh0 (h : Tile) (n : Nw) (w : Wt) (i : Fin 384) (k : Fin 1024) : sh h n (View.ld w (Rect.unit ![0, 0, 0, 0] ![1, 1, 1024, 1024] inb_S4x1x1024x1024_S1x1x1024x1024_0_0_0_0)) i k = pre h n w i 0 k := by
  rw [sh, pre]
  exact Finset.sum_congr rfl fun l _ => congrArg (fun z : EReal => nrm h n i l * z) (ldu0 w l k)
theorem ldu1 (w : Wt) (l k : Fin 1024) : View.ld w (Rect.unit ![1, 0, 0, 0] ![1, 1, 1024, 1024] inb_S4x1x1024x1024_S1x1x1024x1024_1_0_0_0) (ix4 0 0 l k) = w (ix4 1 0 l k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem sh1 (h : Tile) (n : Nw) (w : Wt) (i : Fin 384) (k : Fin 1024) : sh h n (View.ld w (Rect.unit ![1, 0, 0, 0] ![1, 1, 1024, 1024] inb_S4x1x1024x1024_S1x1x1024x1024_1_0_0_0)) i k = pre h n w i 1 k := by
  rw [sh, pre]
  exact Finset.sum_congr rfl fun l _ => congrArg (fun z : EReal => nrm h n i l * z) (ldu1 w l k)
theorem ldu2 (w : Wt) (l k : Fin 1024) : View.ld w (Rect.unit ![2, 0, 0, 0] ![1, 1, 1024, 1024] inb_S4x1x1024x1024_S1x1x1024x1024_2_0_0_0) (ix4 0 0 l k) = w (ix4 2 0 l k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem sh2 (h : Tile) (n : Nw) (w : Wt) (i : Fin 384) (k : Fin 1024) : sh h n (View.ld w (Rect.unit ![2, 0, 0, 0] ![1, 1, 1024, 1024] inb_S4x1x1024x1024_S1x1x1024x1024_2_0_0_0)) i k = pre h n w i 2 k := by
  rw [sh, pre]
  exact Finset.sum_congr rfl fun l _ => congrArg (fun z : EReal => nrm h n i l * z) (ldu2 w l k)
theorem ldu3 (w : Wt) (l k : Fin 1024) : View.ld w (Rect.unit ![3, 0, 0, 0] ![1, 1, 1024, 1024] inb_S4x1x1024x1024_S1x1x1024x1024_3_0_0_0) (ix4 0 0 l k) = w (ix4 3 0 l k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem sh3 (h : Tile) (n : Nw) (w : Wt) (i : Fin 384) (k : Fin 1024) : sh h n (View.ld w (Rect.unit ![3, 0, 0, 0] ![1, 1, 1024, 1024] inb_S4x1x1024x1024_S1x1x1024x1024_3_0_0_0)) i k = pre h n w i 3 k := by
  rw [sh, pre]
  exact Finset.sum_congr rfl fun l _ => congrArg (fun z : EReal => nrm h n i l * z) (ldu3 w l k)

/-- The hidden rows as the kernel stores them, shard after shard. -/
abbrev apcs (h : Tile) (n : Nw) (w : Wt) : List (View.Piece (Elt Ideal) S384x4096 .bf16) := [⟨Rect.unit ![0, 3072] ![384, 1024] inb_S384x4096_S384x1024_0_3072, k0_pay15 (F := Ideal) (k0_pay4 (F := Ideal) h n) (View.ld w (Rect.unit ![3, 0, 0, 0] ![1, 1, 1024, 1024] inb_S4x1x1024x1024_S1x1x1024x1024_3_0_0_0))⟩,
    ⟨Rect.unit ![0, 2048] ![384, 1024] inb_S384x4096_S384x1024_0_2048, k0_pay12 (F := Ideal) (k0_pay4 (F := Ideal) h n) (View.ld w (Rect.unit ![2, 0, 0, 0] ![1, 1, 1024, 1024] inb_S4x1x1024x1024_S1x1x1024x1024_2_0_0_0))⟩,
    ⟨Rect.unit ![0, 1024] ![384, 1024] inb_S384x4096_S384x1024_0_1024, k0_pay9 (F := Ideal) h n (View.ld w (Rect.unit ![1, 0, 0, 0] ![1, 1, 1024, 1024] inb_S4x1x1024x1024_S1x1x1024x1024_1_0_0_0))⟩,
    ⟨Rect.unit ![0, 0] ![384, 1024] inb_S384x4096_S384x1024_0_0, k0_pay6 (F := Ideal) h n (View.ld w (Rect.unit ![0, 0, 0, 0] ![1, 1, 1024, 1024] inb_S4x1x1024x1024_S1x1x1024x1024_0_0_0_0))⟩]
/-- The activated hidden rows as the kernel stores them. -/
abbrev cpcs (h : Tile) (n : Nw) (w : Wt) : List (View.Piece (Elt Ideal) S384x4096 .bf16) := [⟨Rect.unit ![0, 3072] ![384, 1024] inb_S384x4096_S384x1024_0_3072, k0_pay1 (F := Ideal) (k0_pay16 (F := Ideal) (k0_pay4 (F := Ideal) h n) (View.ld w (Rect.unit ![3, 0, 0, 0] ![1, 1, 1024, 1024] inb_S4x1x1024x1024_S1x1x1024x1024_3_0_0_0)))⟩,
    ⟨Rect.unit ![0, 2048] ![384, 1024] inb_S384x4096_S384x1024_0_2048, k0_pay13 (F := Ideal) (k0_pay4 (F := Ideal) h n) (View.ld w (Rect.unit ![2, 0, 0, 0] ![1, 1, 1024, 1024] inb_S4x1x1024x1024_S1x1x1024x1024_2_0_0_0))⟩,
    ⟨Rect.unit ![0, 1024] ![384, 1024] inb_S384x4096_S384x1024_0_1024, k0_pay10 (F := Ideal) (k0_pay8 (F := Ideal) h n (View.ld w (Rect.unit ![1, 0, 0, 0] ![1, 1, 1024, 1024] inb_S4x1x1024x1024_S1x1x1024x1024_1_0_0_0)))⟩,
    ⟨Rect.unit ![0, 0] ![384, 1024] inb_S384x4096_S384x1024_0_0, k0_pay7 (F := Ideal) h n (View.ld w (Rect.unit ![0, 0, 0, 0] ![1, 1, 1024, 1024] inb_S4x1x1024x1024_S1x1x1024x1024_0_0_0_0))⟩]
theorem splitc (f : Fin 4096) (s : Fin 4) (k : Fin 1024) (h : s.val * 1024 + k.val = f.val) (h₁ h₂) :
    (⟨f.val / 1024, h₁⟩ : Fin 4) = s ∧ (⟨f.val % 1024, h₂⟩ : Fin 1024) = k :=
  ⟨Fin.ext (by show f.val / 1024 = s.val; omega), Fin.ext (by show f.val % 1024 = k.val; omega)⟩
theorem apcs_canon (h : Tile) (n : Nw) (w : Wt) (i : Fin 384) (f : Fin 4096) : View.canon (apcs h n w) (ix2 i f) = pre h n w i ⟨f.val / 1024, by omega⟩ ⟨f.val % 1024, by omega⟩ := by
  canon_tiles x' e
  · obtain ⟨a, b, rfl⟩ : ∃ (a : Fin 384) (b : Fin 1024), x' = ix2 a b := ⟨x' 0, x' 1, by blk_ext⟩
    have h0' : i.val = a.val := e0
    have h1' : f.val = 3072 + b.val := e1
    have b_lt : b.val < 1024 := b.isLt
    have ea : a = i := Fin.ext (by omega)
    have e1' : (⟨f.val / 1024, by omega⟩ : Fin 4) = 3 := Fin.ext (by show f.val / 1024 = 3; omega)
    have e2' : (⟨f.val % 1024, by omega⟩ : Fin 1024) = b := Fin.ext (by show f.val % 1024 = b.val; omega)
    refine (pay15_apply _ _ _ a b).trans ?_
    rw [e1', e2', ea, sh3]
  · obtain ⟨a, b, rfl⟩ : ∃ (a : Fin 384) (b : Fin 1024), x' = ix2 a b := ⟨x' 0, x' 1, by blk_ext⟩
    have h0' : i.val = a.val := e0
    have h1' : f.val = 2048 + b.val := e1
    have b_lt : b.val < 1024 := b.isLt
    have ea : a = i := Fin.ext (by omega)
    have e1' : (⟨f.val / 1024, by omega⟩ : Fin 4) = 2 := Fin.ext (by show f.val / 1024 = 2; omega)
    have e2' : (⟨f.val % 1024, by omega⟩ : Fin 1024) = b := Fin.ext (by show f.val % 1024 = b.val; omega)
    refine (pay12_apply _ _ _ a b).trans ?_
    rw [e1', e2', ea, sh2]
  · obtain ⟨a, b, rfl⟩ : ∃ (a : Fin 384) (b : Fin 1024), x' = ix2 a b := ⟨x' 0, x' 1, by blk_ext⟩
    have h0' : i.val = a.val := e0
    have h1' : f.val = 1024 + b.val := e1
    have b_lt : b.val < 1024 := b.isLt
    have ea : a = i := Fin.ext (by omega)
    have e1' : (⟨f.val / 1024, by omega⟩ : Fin 4) = 1 := Fin.ext (by show f.val / 1024 = 1; omega)
    have e2' : (⟨f.val % 1024, by omega⟩ : Fin 1024) = b := Fin.ext (by show f.val % 1024 = b.val; omega)
    refine (pay9_apply _ _ _ a b).trans ?_
    rw [e1', e2', ea, sh1]
  · obtain ⟨a, b, rfl⟩ : ∃ (a : Fin 384) (b : Fin 1024), x' = ix2 a b := ⟨x' 0, x' 1, by blk_ext⟩
    have h0' : i.val = a.val := e0
    have h1' : f.val = b.val := e1
    have b_lt : b.val < 1024 := b.isLt
    have ea : a = i := Fin.ext (by omega)
    have e1' : (⟨f.val / 1024, by omega⟩ : Fin 4) = 0 := Fin.ext (by show f.val / 1024 = 0; omega)
    have e2' : (⟨f.val % 1024, by omega⟩ : Fin 1024) = b := Fin.ext (by show f.val % 1024 = b.val; omega)
    refine (pay6_apply _ _ _ a b).trans ?_
    rw [e1', e2', ea, sh0]
theorem cpcs_canon (h : Tile) (n : Nw) (w : Wt) (i : Fin 384) (f : Fin 4096) : View.canon (cpcs h n w) (ix2 i f) = act (pre h n w i ⟨f.val / 1024, by omega⟩ ⟨f.val % 1024, by omega⟩) := by
  canon_tiles x' e
  · obtain ⟨a, b, rfl⟩ : ∃ (a : Fin 384) (b : Fin 1024), x' = ix2 a b := ⟨x' 0, x' 1, by blk_ext⟩
    have h0' : i.val = a.val := e0
    have h1' : f.val = 3072 + b.val := e1
    have b_lt : b.val < 1024 := b.isLt
    have ea : a = i := Fin.ext (by omega)
    have e1' : (⟨f.val / 1024, by omega⟩ : Fin 4) = 3 := Fin.ext (by show f.val / 1024 = 3; omega)
    have e2' : (⟨f.val % 1024, by omega⟩ : Fin 1024) = b := Fin.ext (by show f.val % 1024 = b.val; omega)
    refine (act3_apply _ _ _ a b).trans ?_
    rw [e1', e2', ea, sh3]
  · obtain ⟨a, b, rfl⟩ : ∃ (a : Fin 384) (b : Fin 1024), x' = ix2 a b := ⟨x' 0, x' 1, by blk_ext⟩
    have h0' : i.val = a.val := e0
    have h1' : f.val = 2048 + b.val := e1
    have b_lt : b.val < 1024 := b.isLt
    have ea : a = i := Fin.ext (by omega)
    have e1' : (⟨f.val / 1024, by omega⟩ : Fin 4) = 2 := Fin.ext (by show f.val / 1024 = 2; omega)
    have e2' : (⟨f.val % 1024, by omega⟩ : Fin 1024) = b := Fin.ext (by show f.val % 1024 = b.val; omega)
    refine (act2_apply _ _ _ a b).trans ?_
    rw [e1', e2', ea, sh2]
  · obtain ⟨a, b, rfl⟩ : ∃ (a : Fin 384) (b : Fin 1024), x' = ix2 a b := ⟨x' 0, x' 1, by blk_ext⟩
    have h0' : i.val = a.val := e0
    have h1' : f.val = 1024 + b.val := e1
    have b_lt : b.val < 1024 := b.isLt
    have ea : a = i := Fin.ext (by omega)
    have e1' : (⟨f.val / 1024, by omega⟩ : Fin 4) = 1 := Fin.ext (by show f.val / 1024 = 1; omega)
    have e2' : (⟨f.val % 1024, by omega⟩ : Fin 1024) = b := Fin.ext (by show f.val % 1024 = b.val; omega)
    refine (act1_apply _ _ _ a b).trans ?_
    rw [e1', e2', ea, sh1]
  · obtain ⟨a, b, rfl⟩ : ∃ (a : Fin 384) (b : Fin 1024), x' = ix2 a b := ⟨x' 0, x' 1, by blk_ext⟩
    have h0' : i.val = a.val := e0
    have h1' : f.val = b.val := e1
    have b_lt : b.val < 1024 := b.isLt
    have ea : a = i := Fin.ext (by omega)
    have e1' : (⟨f.val / 1024, by omega⟩ : Fin 4) = 0 := Fin.ext (by show f.val / 1024 = 0; omega)
    have e2' : (⟨f.val % 1024, by omega⟩ : Fin 1024) = b := Fin.ext (by show f.val % 1024 = b.val; omega)
    refine (act0_apply _ _ _ a b).trans ?_
    rw [e1', e2', ea, sh0]
abbrev qw : Rect S384x4096 := Rect.unit (s := S384x4096) ![0, 0] ![384, 4096] inb_S384x4096_S384x4096_0_0
theorem rc {κ : Kind} {sp : Space} (v : View sig κ sp S384x4096 .bf16) (h : Tile) (n : Nw) (w : Wt) (i : Fin 384) (f : Fin 4096) :
    v.readCov (cpcs h n w) qw.toLoadRect (ix2 i f) = act (pre h n w i ⟨f.val / 1024, by omega⟩ ⟨f.val % 1024, by omega⟩) := by
  rw [View.readCov_eq_canon', ← cpcs_canon]
  refine congrArg (View.canon (Val := Elt Ideal) (e := .bf16) (s := S384x4096) _) ?_
  funext a
  match a with
  | ⟨0, _⟩ => exact Fin.ext (show 0 + 1 * i.val = i.val by omega)
  | ⟨1, _⟩ => exact Fin.ext (show 0 + 1 * f.val = f.val by omega)

/-- The output row from the stored activations. -/
def md (h : Tile) (z : Vec Ideal S384x4096 .bf16) (q : Vec Ideal S4096x1024 .bf16) (i : Fin 384) (j : Fin 1024) : EReal :=
  (h (ix2 i j) : EReal) + ∑ f : Fin 4096, (z (ix2 i f) : EReal) * (q (ix2 f j) : EReal)
theorem pay2_apply (h : Tile) (z : Vec Ideal S384x4096 .bf16) (q : Vec Ideal S4096x1024 .bf16) (i : Fin 384) (j : Fin 1024) :
    k0_pay2 (F := Ideal) h z q (ix2 i j) = md h z q i j := by
  pointwise [k0_pay2]
  rfl
theorem pay3_apply (h : Tile) (z : Vec Ideal S384x4096 .bf16) (q : Vec Ideal S4096x1024 .bf16) (n : Nw) (i : Fin 384) (j : Fin 1024) :
    k0_pay3 (F := Ideal) h z q n (ix2 i j)
      = md h z q i j * Ideal.rsqrt (Rms.var (∑ k : Fin 1024, md h z q i k * md h z q i k)) * (n (ix2 0 j) : EReal) := by
  pointwise [k0_pay3]
  simp only [pay2_apply]
  rfl

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0, 0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

abbrev A0 (c : Dev nD) : Rows := m ((c : Thread nD τ).loc main_arg0)
abbrev A1 (c : Dev nD) : Nw := m ((c : Thread nD τ).loc main_arg1)
abbrev A2 (c : Dev nD) : Wt := m ((c : Thread nD τ).loc main_arg2)
abbrev A3 (c : Dev nD) : Wt := m ((c : Thread nD τ).loc main_arg3)
abbrev A4 (c : Dev nD) : Nw := m ((c : Thread nD τ).loc main_arg4)

theorem ptlt (t : Fin cfg0.N) (i : Fin 384) : t.val * 384 + i.val < 8448 := by
  have : t.val < 22 := lt_of_lt_of_eq t.isLt N_0
  omega

abbrev row (t : Fin cfg0.N) (i : Fin 384) : Fin 8448 := ⟨t.val * 384 + i.val, ptlt t i⟩

theorem blk_h (c : Dev nD) (t : Fin cfg0.N) (i : Fin 384) (j : Fin 1024) :
    iblk m c 0 t (ix2 i j) = A0 m c (ix2 (row t i) j) := by
  blk_ext! [iblk, V, idx t]
theorem blk_n (c : Dev nD) (t : Fin cfg0.N) (j : Fin 1024) :
    iblk m c 1 t (ix2 0 j) = A1 m c (ix2 0 j) := by
  blk_ext! [iblk, V, idx t]
theorem blk_w (c : Dev nD) (t : Fin cfg0.N) (s : Fin 4) (i : Fin 1024) (j : Fin 1024) :
    iblk m c 2 t (ix4 s 0 i j) = A2 m c (ix4 s 0 i j) := by
  blk_ext! [iblk, V, idx t]
theorem blk_q (c : Dev nD) (t : Fin cfg0.N) (f : Fin 4096) (j : Fin 1024) :
    iblk m c 3 t (ix2 f j) = A3 m c (ix4 ⟨f.val / 1024, by omega⟩ 0 ⟨f.val % 1024, by omega⟩ j) := by
  have h : iblk m c 3 t (ix2 f j) = V m c main_v0 (ix2 f j) := by blk_ext! [iblk, idx t]
  rw [h]
  entry_read
  pointwise
theorem blk_o (c : Dev nD) (t : Fin cfg0.N) (j : Fin 1024) :
    iblk m c 4 t (ix2 0 j) = A4 m c (ix2 0 j) := by
  blk_ext! [iblk, V, idx t]
theorem blk_v (c : Dev nD) (t : Fin cfg0.N) (i : Fin 384) :
    vr (R := 384) (iblk m c 0 t) i = vr (A0 m c) (row t i) := by
  rw [vr, vr]
  exact congrArg Rms.var (Finset.sum_congr rfl fun k _ => by rw [blk_h])
theorem blk_nrm (c : Dev nD) (t : Fin cfg0.N) (i : Fin 384) (k : Fin 1024) :
    nrm (R := 384) (iblk m c 0 t) (iblk m c 1 t) i k = nrm (A0 m c) (A1 m c) (row t i) k := by
  rw [nrm, nrm, blk_h, blk_n, blk_v]
theorem blk_pre (c : Dev nD) (t : Fin cfg0.N) (i : Fin 384) (s : Fin 4) (k : Fin 1024) :
    pre (R := 384) (iblk m c 0 t) (iblk m c 1 t) (iblk m c 2 t) i s k = pre (A0 m c) (A1 m c) (A2 m c) (row t i) s k := by
  rw [pre, pre]
  exact Finset.sum_congr rfl fun l _ => by rw [blk_nrm, blk_w]
theorem md_eq (c : Dev nD) (t : Fin cfg0.N) (z : Vec Ideal S384x4096 .bf16) (i : Fin 384)
    (hz : ∀ f : Fin 4096, z (ix2 i f) = act (pre (R := 384) (iblk m c 0 t) (iblk m c 1 t) (iblk m c 2 t) i ⟨f.val / 1024, by omega⟩ ⟨f.val % 1024, by omega⟩))
    (j : Fin 1024) : md (iblk m c 0 t) z (iblk m c 3 t) i j = mid (A0 m c) (A1 m c) (A2 m c) (A3 m c) (row t i) j := by
  rw [md, mid, blk_h]
  exact congrArg (fun z : EReal => (A0 m c (ix2 (row t i) j) : EReal) + z)
    (Finset.sum_congr rfl fun f _ => congrArg₂ (fun a b : EReal => a * b) ((hz f).trans (congrArg act (blk_pre m c t i _ _))) (blk_q m c t f j))

theorem out5_apply (c : Dev nD) (t : Fin cfg0.N) (i : Fin 384) (j : Fin 1024) :
    (Gen.outsAt0 m c t).1 (ix2 i j) = val_main_v34 (F := Ideal) (A0 m c) (A1 m c) (A2 m c) (A3 m c) (ix2 (row t i) j) := by
  rw [Gen.outsAt0]
  frame_out
  refine (pay2_apply _ _ _ i j).trans ?_
  rw [ref34]
  exact md_eq m c t _ i (fun f => rc _ _ _ _ i f) j

theorem final5 (c : Dev nD) : (dats m 0 c).arrAt 5 cfg0.N = val_main_v34 (F := Ideal) (A0 m c) (A1 m c) (A2 m c) (A3 m c) := by
  refine (dats m 0 c).arrAt_eq_of_covers 5 _ (by decide +kernel) fun t hf y => ?_
  obtain ⟨i, j, rfl⟩ : ∃ (i : Fin 384) (j : Fin 1024), y = ix2 i j := ⟨y 0, y 1, by blk_ext⟩
  blk_simp
  rw [after0_5]
  refine (out5_apply m c t i j).trans ?_
  congr 1
  blk_ext [idx t]

theorem out6_apply (c : Dev nD) (t : Fin cfg0.N) (i : Fin 384) (j : Fin 4096) :
    (Gen.outsAt0 m c t).2.1 (ix2 i j) = val_main_v36 (F := Ideal) (A0 m c) (A1 m c) (A2 m c) (ix2 (row t i) j) := by
  rw [Gen.outsAt0]
  frame_out
  refine (apcs_canon _ _ _ i j).trans ?_
  rw [ref36]
  exact blk_pre m c t i _ _

theorem final6 (c : Dev nD) : (dats m 0 c).arrAt 6 cfg0.N = val_main_v36 (F := Ideal) (A0 m c) (A1 m c) (A2 m c) := by
  refine (dats m 0 c).arrAt_eq_of_covers 6 _ (by decide +kernel) fun t hf y => ?_
  obtain ⟨i, j, rfl⟩ : ∃ (i : Fin 384) (j : Fin 4096), y = ix2 i j := ⟨y 0, y 1, by blk_ext⟩
  blk_simp
  rw [after0_6]
  refine (out6_apply m c t i j).trans ?_
  congr 1
  blk_ext [idx t]

theorem out7_apply (c : Dev nD) (t : Fin cfg0.N) (i : Fin 384) (j : Fin 1024) :
    (Gen.outsAt0 m c t).2.2.1 (ix2 i j) = val_main_v37 (F := Ideal) (A0 m c) (A1 m c) (ix2 (row t i) j) := by
  rw [Gen.outsAt0]
  frame_out
  refine (pay4_apply _ _ i j).trans ?_
  rw [ref37]
  exact blk_nrm m c t i j

theorem final7 (c : Dev nD) : (dats m 0 c).arrAt 7 cfg0.N = val_main_v37 (F := Ideal) (A0 m c) (A1 m c) := by
  refine (dats m 0 c).arrAt_eq_of_covers 7 _ (by decide +kernel) fun t hf y => ?_
  obtain ⟨i, j, rfl⟩ : ∃ (i : Fin 384) (j : Fin 1024), y = ix2 i j := ⟨y 0, y 1, by blk_ext⟩
  blk_simp
  rw [after0_7]
  refine (out7_apply m c t i j).trans ?_
  congr 1
  blk_ext [idx t]

theorem out8_apply (c : Dev nD) (t : Fin cfg0.N) (i : Fin 384) (j : Fin 1024) :
    (Gen.outsAt0 m c t).2.2.2 (ix2 i j) = val_main_v49 (F := Ideal) (A0 m c) (A1 m c) (A2 m c) (A3 m c) (A4 m c) (ix2 (row t i) j) := by
  rw [Gen.outsAt0]
  frame_out
  refine (pay3_apply _ _ _ _ i j).trans ?_
  rw [ref49, blk_o]
  have hm := md_eq m c t _ i (fun f => rc (View.whole cc0_scratch0) _ _ _ i f)
  exact congrArg₂ (fun a b : EReal => a * Ideal.rsqrt (Rms.var b) * (A4 m c (ix2 0 j) : EReal)) (hm j)
    (Finset.sum_congr rfl fun k _ => congrArg₂ (fun a b : EReal => a * b) (hm k) (hm k))

theorem final8 (c : Dev nD) : (dats m 0 c).arrAt 8 cfg0.N = val_main_v49 (F := Ideal) (A0 m c) (A1 m c) (A2 m c) (A3 m c) (A4 m c) := by
  refine (dats m 0 c).arrAt_eq_of_covers 8 _ (by decide +kernel) fun t hf y => ?_
  obtain ⟨i, j, rfl⟩ : ∃ (i : Fin 384) (j : Fin 1024), y = ix2 i j := ⟨y 0, y 1, by blk_ext⟩
  blk_simp
  rw [after0_8]
  refine (out8_apply m c t i j).trans ?_
  congr 1
  blk_ext [idx t]

end Cert.Fwd0Ideal.Hand

namespace Cert.Hand

/-- The reference leaves its arguments as they were. -/
theorem frame_refFwd0 : Cert.quiescent_FwdRef0Ideal := fun m ρ _ =>
  (θ_run Cert.FwdRef0Ideal.defs _ _).mono (fun r h => ⟨fun c => (h c).2.2.2.2,
      Idealize.ShloMosaic.sem_eq_zero_of_no_sems (by decide) r.2⟩)
    (Cert.FwdRef0Ideal.Value.run (F := Ideal) m ρ)

/-- At `Ideal` the kernel's result and the reference's agree. -/
theorem algebraicFwd0 : Cert.algebraic_Fwd0Ideal_FwdRef0Ideal := by
  intro m g m' g' _ hagree
  refine ⟨_, _, _, _, Cert.Fwd0Ideal.Value.run_blocks m g, ?_⟩
  refine θ_run_mono (Cert.FwdRef0Ideal.Value.run (F := Ideal) m' g') fun r hr c => ?_
  obtain ⟨h0, h1, h2, h3, k⟩ := hr c
  obtain ⟨e0, e1, e2, e3, e4⟩ := hagree c
  refine ⟨h0.trans ?_, h1.trans ?_, h2.trans ?_, h3.trans ?_, k⟩
  · refine (Cert.FwdRef0Ideal.Read.val_main_v34_eq _ _ _ _).trans (Eq.trans ?_ (Cert.Fwd0Ideal.Hand.final5 m c).symm)
    congr 1 <;> first | exact e0 | exact e1 | exact e2 | exact e3 | exact e4
  · refine (Cert.FwdRef0Ideal.Read.val_main_v36_eq _ _ _).trans (Eq.trans ?_ (Cert.Fwd0Ideal.Hand.final6 m c).symm)
    congr 1 <;> first | exact e0 | exact e1 | exact e2 | exact e3 | exact e4
  · refine (Cert.FwdRef0Ideal.Read.val_main_v37_eq _ _).trans (Eq.trans ?_ (Cert.Fwd0Ideal.Hand.final7 m c).symm)
    congr 1 <;> first | exact e0 | exact e1 | exact e2 | exact e3 | exact e4
  · refine (Cert.FwdRef0Ideal.Read.val_main_v49_eq _ _).trans (Eq.trans ?_ (Cert.Fwd0Ideal.Hand.final8 m c).symm)
    congr 1 <;> first | exact e0 | exact e1 | exact e2 | exact e3 | exact e4

end Cert.Hand

end
-- ==== Proof.Qkv0Value.lean ====
module

public import proofs.«01_k».proof.Defs
public import proofs.«01_k».proof.Proof.Gen.Qkv0Ideal.Value
public import proofs.«01_k».proof.Proof.Gen.QkvRef0Ideal.Read
public import proofs.«01_k».proof.Proof.Rms
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Qkv0Ideal.Hand

open Cert.Qkv0Ideal Cert.Qkv0Ideal.Gen Cert.QkvRef0Ideal.Read

abbrev Rows := Vec Ideal S8448x1024 .f32
abbrev Nw := Vec Ideal S1x1024 .f32
abbrev Wt := Vec Ideal S4x1x1024x384 .bf16

/-- A row's mean square plus the small constant. -/
def vr {R : ℕ} (h : Vec Ideal ⟨2, ![R, 1024]⟩ .f32) (r : Fin R) : EReal :=
  Rms.var (∑ k : Fin 1024, (h (ix2 r k) : EReal) * (h (ix2 r k) : EReal))
/-- The normalised input. -/
def nrm {R : ℕ} (h : Vec Ideal ⟨2, ![R, 1024]⟩ .f32) (w : Nw) (r : Fin R) (k : Fin 1024) : EReal :=
  (h (ix2 r k) : EReal) * Ideal.rsqrt (vr h r) * (w (ix2 0 k) : EReal)
/-- The normalised row `i` against column `j` of the joined weight. -/
def prod {R : ℕ} (h : Vec Ideal ⟨2, ![R, 1024]⟩ .f32) (n : Nw) (w : Wt) (i : Fin R) (j : Fin 1536) : EReal :=
  ∑ k : Fin 1024, nrm h n i k * (w (ix4 ⟨j.val / 384, by omega⟩ 0 k ⟨j.val % 384, by omega⟩) : EReal)

theorem ref18_apply (h : Rows) (n : Nw) (i : Fin 8448) (k : Fin 1024) :
    val_main_v18 (F := Ideal) h n (ix2 i k) = nrm h n i k := by
  pointwise [val_main_v18, val_main_v11, val_main_v10, val_main_v9, val_main_v8, val_main_v7, val_main_v6, val_main_v5, val_main_v4, val_main_v3, val_main_v2, val_main_v1, val_main_v0, val_main_cst, val_main_cst_0, val_main_cst_1]
  rfl
theorem ref11_apply (h : Rows) (n : Nw) (i : Fin 8448) (k : Fin 1024) :
    val_main_v11 (F := Ideal) h n (ix2 i k) = nrm h n i k := by
  pointwise [val_main_v11, val_main_v10, val_main_v9, val_main_v8, val_main_v7, val_main_v6, val_main_v5, val_main_v4, val_main_v3, val_main_v2, val_main_v1, val_main_v0, val_main_cst, val_main_cst_0, val_main_cst_1]
  rfl
theorem ref17_apply (h : Rows) (n : Nw) (w : Wt) (i : Fin 8448) (j : Fin 1536) :
    val_main_v17 (F := Ideal) h n w (ix2 i j) = prod h n w i j := by
  pointwise [val_main_v17, val_main_v16, val_main_v15, val_main_v14, val_main_v13, val_main_v12]
  simp only [ref11_apply]
  rfl

theorem pay3_apply (h : Vec Ideal S1056x1024 .f32) (n : Nw) (i : Fin 1056) (k : Fin 1024) :
    k0_pay3 (F := Ideal) h n (ix2 i k) = nrm h n i k := by
  pointwise [k0_pay3]
  rfl
theorem pay4_apply (h : Vec Ideal S1056x1024 .f32) (n : Nw) (w : Vec Ideal S1x1x1024x384 .bf16) (i : Fin 1056) (j : Fin 384) :
    k0_pay4 (F := Ideal) h n w (ix2 i j) = ∑ k : Fin 1024, nrm h n i k * (w (ix4 0 0 k j) : EReal) := by
  pointwise [k0_pay4]
  simp only [pay3_apply]
theorem pay5_apply (h : Vec Ideal S1056x1024 .f32) (n : Nw) (w : Vec Ideal S1x1x1024x384 .bf16) (i : Fin 1056) (j : Fin 384) :
    k0_pay5 (F := Ideal) h n w (ix2 i j) = ∑ k : Fin 1024, nrm h n i k * (w (ix4 0 0 k j) : EReal) := by
  pointwise [k0_pay5]
  simp only [pay3_apply]
theorem pay1_apply (h : Vec Ideal S1056x1024 .f32) (n : Nw) (w : Vec Ideal S1x1x1024x384 .bf16) (i : Fin 1056) (j : Fin 384) :
    k0_pay1 (F := Ideal) (k0_pay3 (F := Ideal) h n) (k0_pay6 (F := Ideal) w) (constant (F := Ideal) S1056x384 .f32 0x00000000#32) (ix2 i j)
      = ∑ k : Fin 1024, nrm h n i k * (w (ix4 0 0 k j) : EReal) := by
  pointwise [k0_pay1, k0_pay6]
  simp only [pay3_apply]
theorem pay2_apply (h : Vec Ideal S1056x1024 .f32) (n : Nw) (w : Vec Ideal S1x1x1024x384 .bf16) (i : Fin 1056) (j : Fin 384) :
    k0_pay2 (F := Ideal) (k0_pay3 (F := Ideal) h n) w (ix2 i j)
      = ∑ k : Fin 1024, nrm h n i k * (w (ix4 0 0 k j) : EReal) := by
  pointwise [k0_pay2]
  simp only [pay3_apply]

theorem ldx (x : Vec Ideal S1056x1024 .f32) : View.ld x r0_0 = x :=
  View.ld_unit_zero (funext fun a => match a with | ⟨0, _⟩ => rfl | ⟨1, _⟩ => rfl) _ _
theorem ldn (x : Nw) : View.ld x r0_1 = x :=
  View.ld_unit_zero (funext fun a => match a with | ⟨0, _⟩ => rfl | ⟨1, _⟩ => rfl) _ _
theorem pay7_eq (h : Vec Ideal S1056x1024 .f32) (n : Nw) (w : Wt) : k0_pay7 (F := Ideal) h n w = k0_pay3 (F := Ideal) h n := by
  rw [k0_pay7, ldx, ldn]
theorem ldw0 (w : Wt) (k : Fin 1024) (j : Fin 384) : View.ld w r0_2 (ix4 0 0 k j) = w (ix4 0 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw1 (w : Wt) (k : Fin 1024) (j : Fin 384) : View.ld w r0_4 (ix4 0 0 k j) = w (ix4 1 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw2 (w : Wt) (k : Fin 1024) (j : Fin 384) : View.ld w r0_6 (ix4 0 0 k j) = w (ix4 2 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw3 (w : Wt) (k : Fin 1024) (j : Fin 384) : View.ld w r0_8 (ix4 0 0 k j) = w (ix4 3 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)

theorem out3_apply (x : Vec Ideal S1056x1024 .f32) (n : Nw) (w : Wt) (i : Fin 1056) (j : Fin 1536) :
    out0_3 (F := Ideal) x n w (ix2 i j) = prod x n w i j := by
  rw [out0_3, pay7_eq, ldx, ldn]
  canon_tiles x' h
  · obtain ⟨a, b, rfl⟩ : ∃ (a : Fin 1056) (b : Fin 384), x' = ix2 a b := ⟨x' 0, x' 1, by blk_ext⟩
    have h0' : i.val = a.val := h0
    have h1' : j.val = 1152 + b.val := h1
    have b_lt : b.val < 384 := b.isLt
    have ea : a = i := Fin.ext (by omega)
    have e1 : (⟨j.val / 384, by omega⟩ : Fin 4) = 3 := Fin.ext (by show j.val / 384 = 3; omega)
    have e2 : (⟨j.val % 384, by omega⟩ : Fin 384) = b := Fin.ext (by show j.val % 384 = b.val; omega)
    refine (pay2_apply _ _ _ a b).trans ?_
    rw [prod, e1, e2, ea]
    exact Finset.sum_congr rfl fun k _ => by rw [ldw3]
  · obtain ⟨a, b, rfl⟩ : ∃ (a : Fin 1056) (b : Fin 384), x' = ix2 a b := ⟨x' 0, x' 1, by blk_ext⟩
    have h0' : i.val = a.val := h0
    have h1' : j.val = 768 + b.val := h1
    have b_lt : b.val < 384 := b.isLt
    have ea : a = i := Fin.ext (by omega)
    have e1 : (⟨j.val / 384, by omega⟩ : Fin 4) = 2 := Fin.ext (by show j.val / 384 = 2; omega)
    have e2 : (⟨j.val % 384, by omega⟩ : Fin 384) = b := Fin.ext (by show j.val % 384 = b.val; omega)
    refine (pay1_apply _ _ _ a b).trans ?_
    rw [prod, e1, e2, ea]
    exact Finset.sum_congr rfl fun k _ => by rw [ldw2]
  · obtain ⟨a, b, rfl⟩ : ∃ (a : Fin 1056) (b : Fin 384), x' = ix2 a b := ⟨x' 0, x' 1, by blk_ext⟩
    have h0' : i.val = a.val := h0
    have h1' : j.val = 384 + b.val := h1
    have b_lt : b.val < 384 := b.isLt
    have ea : a = i := Fin.ext (by omega)
    have e1 : (⟨j.val / 384, by omega⟩ : Fin 4) = 1 := Fin.ext (by show j.val / 384 = 1; omega)
    have e2 : (⟨j.val % 384, by omega⟩ : Fin 384) = b := Fin.ext (by show j.val % 384 = b.val; omega)
    refine (pay5_apply _ _ _ a b).trans ?_
    rw [prod, e1, e2, ea]
    exact Finset.sum_congr rfl fun k _ => by rw [ldw1]
  · obtain ⟨a, b, rfl⟩ : ∃ (a : Fin 1056) (b : Fin 384), x' = ix2 a b := ⟨x' 0, x' 1, by blk_ext⟩
    have h0' : i.val = a.val := h0
    have h1' : j.val = b.val := h1
    have b_lt : b.val < 384 := b.isLt
    have ea : a = i := Fin.ext (by omega)
    have e1 : (⟨j.val / 384, by omega⟩ : Fin 4) = 0 := Fin.ext (by show j.val / 384 = 0; omega)
    have e2 : (⟨j.val % 384, by omega⟩ : Fin 384) = b := Fin.ext (by show j.val % 384 = b.val; omega)
    refine (pay4_apply _ _ _ a b).trans ?_
    rw [prod, e1, e2, ea]
    exact Finset.sum_congr rfl fun k _ => by rw [ldw0]

theorem out4_apply (x : Vec Ideal S1056x1024 .f32) (n : Nw) (w : Wt) (i : Fin 1056) (j : Fin 1024) :
    out0_4 (F := Ideal) x n w (ix2 i j) = nrm x n i j := by
  have h : out0_4 (F := Ideal) x n w = k0_pay7 (F := Ideal) x n w := by
    rw [out0_4]
    exact View.canon_unit_zero (funext fun a => match a with | ⟨0, _⟩ => rfl | ⟨1, _⟩ => rfl) _ _
  rw [h, pay7_eq, pay3_apply]

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, _)

abbrev A0 (c : Dev nD) : Rows := m ((c : Thread nD τ).loc main_arg0)
abbrev A1 (c : Dev nD) : Nw := m ((c : Thread nD τ).loc main_arg1)
abbrev A2 (c : Dev nD) : Wt := m ((c : Thread nD τ).loc main_arg2)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem iblk0 (c : Dev nD) (t : Fin cfg0.N) (i : Fin 1056) (j : Fin 1024) :
    iblk m c 0 t (ix2 i j) = A0 m c (ix2 (row t i) j) := by
  blk_ext! [iblk, V, idx t]
theorem iblk1 (c : Dev nD) (t : Fin cfg0.N) (j : Fin 1024) :
    iblk m c 1 t (ix2 0 j) = A1 m c (ix2 0 j) := by
  blk_ext! [iblk, V, idx t]
theorem iblk2 (c : Dev nD) (t : Fin cfg0.N) (s : Fin 4) (i : Fin 1024) (j : Fin 384) :
    iblk m c 2 t (ix4 s 0 i j) = A2 m c (ix4 s 0 i j) := by
  blk_ext! [iblk, V, idx t]

theorem vr_blk (c : Dev nD) (t : Fin cfg0.N) (i : Fin 1056) :
    vr (R := 1056) (iblk m c 0 t) i = vr (A0 m c) (row t i) := by
  rw [vr, vr]
  exact congrArg Rms.var (Finset.sum_congr rfl fun k _ => by rw [iblk0])
theorem nrm_blk (c : Dev nD) (t : Fin cfg0.N) (i : Fin 1056) (k : Fin 1024) :
    nrm (R := 1056) (iblk m c 0 t) (iblk m c 1 t) i k = nrm (A0 m c) (A1 m c) (row t i) k := by
  rw [nrm, nrm, vr_blk, iblk0, iblk1]

theorem final3 (c : Dev nD) : (dats m 0 c).arrAt 3 cfg0.N = val_main_v17 (F := Ideal) (A0 m c) (A1 m c) (A2 m c) := by
  refine (dats m 0 c).arrAt_eq_of_covers 3 _ (by decide +kernel) fun t hf y => ?_
  obtain ⟨i, j, rfl⟩ : ∃ (i : Fin 1056) (j : Fin 1536), y = ix2 i j := ⟨y 0, y 1, by blk_ext⟩
  blk_simp
  rw [after0_3]
  refine (out3_apply _ _ _ i j).trans (Eq.trans ?_ (congrArg _ (?_ : ix2 (row t i) j = _)))
  · rw [ref17_apply, prod, prod]
    exact Finset.sum_congr rfl fun k _ => by rw [nrm_blk, iblk2]
  · blk_ext [idx t]

theorem final4 (c : Dev nD) : (dats m 0 c).arrAt 4 cfg0.N = val_main_v18 (F := Ideal) (A0 m c) (A1 m c) := by
  refine (dats m 0 c).arrAt_eq_of_covers 4 _ (by decide +kernel) fun t hf y => ?_
  obtain ⟨i, j, rfl⟩ : ∃ (i : Fin 1056) (j : Fin 1024), y = ix2 i j := ⟨y 0, y 1, by blk_ext⟩
  blk_simp
  rw [after0_4]
  refine (out4_apply _ _ _ i j).trans (Eq.trans ?_ (congrArg _ (?_ : ix2 (row t i) j = _)))
  · rw [ref18_apply, nrm_blk]
  · blk_ext [idx t]

end Cert.Qkv0Ideal.Hand

namespace Cert.Hand

/-- The reference leaves its arguments as they were. -/
theorem frame_refQkv0 : Cert.quiescent_QkvRef0Ideal := fun m ρ _ =>
  (θ_run Cert.QkvRef0Ideal.defs _ _).mono (fun r h => ⟨fun c => (h c).2.2,
      Idealize.ShloMosaic.sem_eq_zero_of_no_sems (by decide) r.2⟩)
    (Cert.QkvRef0Ideal.Value.run (F := Ideal) m ρ)

/-- At `Ideal` the kernel's result and the reference's agree. -/
theorem algebraicQkv0 : Cert.algebraic_Qkv0Ideal_QkvRef0Ideal := by
  intro m g m' g' _ hagree
  refine ⟨_, _, Cert.Qkv0Ideal.Value.run_blocks m g, ?_⟩
  refine θ_run_mono (Cert.QkvRef0Ideal.Value.run (F := Ideal) m' g') fun r hr c => ?_
  obtain ⟨h0, h1, k⟩ := hr c
  obtain ⟨e0, e1, e2⟩ := hagree c
  refine ⟨h0.trans ?_, h1.trans ?_, k⟩
  · refine (Cert.QkvRef0Ideal.Read.val_main_v17_eq _ _ _).trans (Eq.trans ?_ (Cert.Qkv0Ideal.Hand.final3 m c).symm)
    congr 1 <;> first | exact e0 | exact e1 | exact e2
  · refine (Cert.QkvRef0Ideal.Read.val_main_v18_eq _ _).trans (Eq.trans ?_ (Cert.Qkv0Ideal.Hand.final4 m c).symm)
    congr 1 <;> first | exact e0 | exact e1 | exact e2

end Cert.Hand

end
-- ==== Proof.Qkv1Value.lean ====
module

public import proofs.«01_k».proof.Defs
public import proofs.«01_k».proof.Proof.Gen.Qkv1Ideal.Frame
public import proofs.«01_k».proof.Proof.Gen.QkvRef1Ideal.Run
public import proofs.«01_k».proof.Proof.Gen.QkvRef1Ideal.Read
public import proofs.«01_k».proof.Proof.Rms
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Qkv1Ideal.Hand

open Cert.Qkv1Ideal Cert.Qkv1Ideal.Gen Cert.QkvRef1Ideal.Read

abbrev Rows := Vec Ideal S8448x1024 .f32
abbrev Nw := Vec Ideal S1x1024 .f32
abbrev Dq := Vec Ideal S8448x1536 .bf16
abbrev Wq := Vec Ideal S4x1x1024x384 .bf16

/-- A row's mean square plus the small constant. -/
def vr (h : Rows) (r : Fin 8448) : EReal := Rms.var (∑ k : Fin 1024, (h (ix2 r k) : EReal) * (h (ix2 r k) : EReal))
theorem vr_pos (h : Rows) (r : Fin 8448) : 0 < vr h r :=
  Rms.var_pos _ (Finset.sum_nonneg fun _ _ => Rms.sq_nonneg _)
/-- The gradient of the normalised input. -/
def prod {R : ℕ} (d : Vec Ideal ⟨2, ![R, 1536]⟩ .bf16) (q : Wq) (i : Fin R) (j : Fin 1024) : EReal :=
  ∑ k : Fin 1536, (d (ix2 i k) : EReal) * (q (ix4 ⟨k.val / 384, by omega⟩ 0 j ⟨k.val % 384, by omega⟩) : EReal)
abbrev gr (d : Dq) (q : Wq) (r : Fin 8448) (j : Fin 1024) : EReal := prod d q r j

abbrev r8 (n : Fin 1056) (s : Fin 8) : Fin 8448 := ⟨n.val * 8 + s.val, by omega⟩
theorem r8_eq (r : Fin 8448) (h₁ h₂) : r8 ⟨r.val / 8, h₁⟩ ⟨r.val % 8, h₂⟩ = r := Fin.ext (Nat.div_add_mod' _ _)

theorem ref1 (h) (n : Fin 1056) (s : Fin 8) (k : Fin 1024) :
    val_main_v1 (F := Ideal) h (ix3 n s k) = h (ix2 (r8 n s) k) := by
  pointwise [val_main_v1]
theorem ref8 (h) (n : Fin 1056) (s : Fin 8) (o : Fin 1) :
    val_main_v8 (F := Ideal) h (ix3 n s o) = vr h (r8 n s) := by
  pointwise [val_main_v8, val_main_v6, val_main_v4, val_main_v3, val_main_v2, val_main_v5, val_main_v7, val_main_cst, val_main_cst_0, val_main_cst_1]
  simp only [ref1]
  rfl
theorem ref9 (h) (n : Fin 1056) (s : Fin 8) (o : Fin 1) :
    val_main_v9 (F := Ideal) h (ix3 n s o) = Ideal.rsqrt (vr h (r8 n s)) := by
  pointwise [val_main_v9]
  rw [ref8]
theorem ref12 (h) (n : Fin 1056) (s : Fin 8) (o : Fin 1) :
    val_main_v12 (F := Ideal) h (ix3 n s o)
      = ((-(1 / 2) : ℝ) : EReal) * Ideal.div (Ideal.rsqrt (vr h (r8 n s))) (vr h (r8 n s)) := by
  pointwise [val_main_v12, val_main_v11, val_main_v10, val_main_cst_2]
  rw [ref8, ref9, Rms.word_neg_half]
theorem ref15 (w) (o : Fin 1) (s : Fin 8) (k : Fin 1024) : val_main_v15 (F := Ideal) w (ix3 o s k) = w (ix2 0 k) := by
  pointwise [val_main_v15, val_main_v0]
theorem ref14 (h) (n : Fin 1056) (s : Fin 8) (k : Fin 1024) :
    val_main_v14 (F := Ideal) h (ix3 n s k) = h (ix2 (r8 n s) k) * Ideal.rsqrt (vr h (r8 n s)) := by
  pointwise [val_main_v14, val_main_v13]
  rw [ref1, ref9]
theorem ref25 (d : Dq) (q : Wq) (i : Fin 8448) (j : Fin 1024) : val_main_v25 (F := Ideal) d q (ix2 i j) = gr d q i j := by
  pointwise [val_main_v25, val_main_v24, val_main_v22, val_main_v21, val_main_v20, val_main_v19]
  rfl
theorem ref19 (d : Dq) (q : Wq) (n : Fin 1056) (s : Fin 8) (k : Fin 1024) :
    val_main_v26 (F := Ideal) d q (ix3 n s k) = gr d q (r8 n s) k := by
  pointwise [val_main_v26]
  exact ref25 _ _ _ _
theorem ref24 (d : Dq) (q : Wq) (w) (n : Fin 1056) (s : Fin 8) (k : Fin 1024) :
    val_main_v31 (F := Ideal) d q w (ix3 n s k) = gr d q (r8 n s) k * (w (ix2 0 k) : EReal) := by
  pointwise [val_main_v31, val_main_v30]
  rw [ref19, ref15]
theorem ref34 (d : Dq) (q : Wq) (h) (w) (n : Fin 1056) (s : Fin 8) :
    val_main_v41 (F := Ideal) d q h w (ix2 n s)
      = Ideal.div ((∑ k : Fin 1024, (h (ix2 (r8 n s) k) : EReal) * (gr d q (r8 n s) k * (w (ix2 0 k) : EReal)))
          * (((-(1 / 2) : ℝ) : EReal) * Ideal.div (Ideal.rsqrt (vr h (r8 n s))) (vr h (r8 n s)))) ((1024 : ℝ) : EReal) := by
  pointwise [val_main_v41, val_main_v40, val_main_v39, val_main_v38, val_main_v35, val_main_v34, val_main_v33, val_main_cst_5, val_main_cst_6, val_main_cst_7]
  simp only [ref12, ref1, ref24, Rms.word_1024]
  exact Fin.sum_univ_one _
theorem ref41 (d : Dq) (q : Wq) (h) (w) (x) (r : Fin 8448) (k : Fin 1024) :
    val_main_v48 (F := Ideal) d q h w x (ix2 r k)
      = x (ix2 r k) + (Ideal.rsqrt (vr h r) * (gr d q r k * (w (ix2 0 k) : EReal))
        - h (ix2 r k) * (Ideal.rsqrt (vr h r) * Ideal.rsqrt (vr h r) * Ideal.rsqrt (vr h r))
          * ((∑ k : Fin 1024, (h (ix2 r k) : EReal) * (gr d q r k * (w (ix2 0 k) : EReal))) * ((1 / 1024 : ℝ) : EReal))) := by
  pointwise [val_main_v48, val_main_v47, val_main_v46, val_main_v45, val_main_v44, val_main_v43, val_main_v42, val_main_v37, val_main_v36]
  rw [ref34, ref24, ref9, ref1, r8_eq]
  congr 1
  exact Rms.bwd _ _ _ _ (vr_pos h r)
theorem ref52 (d : Dq) (q : Wq) (h) (s : Fin 8) (k : Fin 1024) :
    val_main_v32 (F := Ideal) d q h (ix2 s k)
      = ∑ n : Fin 1056, gr d q (r8 n s) k * (h (ix2 (r8 n s) k) : EReal) * Ideal.rsqrt (vr h (r8 n s)) := by
  pointwise [val_main_v32, val_main_v29, val_main_v28, val_main_v27, val_main_cst_4, val_main_cst_3]
  simp only [ref14, ref19]
  refine (Fin.sum_univ_one _).trans (Finset.sum_congr rfl fun n _ => ?_)
  rw [mul_comm, mul_assoc]

/-! ## The kernel's payloads at an index -/

abbrev Tile := Vec Ideal S1056x1024 .f32
/-- A row's mean square plus the small constant, in a tile. -/
def vt (h : Tile) (i : Fin 1056) : EReal := Rms.var (∑ k : Fin 1024, (h (ix2 i k) : EReal) * (h (ix2 i k) : EReal))
theorem rs_apply (h : Tile) (i : Fin 1056) (o : Fin 1) : k0_pay1 (F := Ideal) (k0_pay6 (F := Ideal) h) (k0_pay7 (F := Ideal)) (ix2 i o) = Ideal.rsqrt (vt h i) := by
  pointwise [k0_pay1, k0_pay6, k0_pay7]
  rfl
theorem dx_apply (g h : Tile) (n : Nw) (x : Tile) (i : Fin 1056) (j : Fin 1024) : k0_pay2 (F := Ideal) g h n (k0_pay6 (F := Ideal) h) (k0_pay7 (F := Ideal)) x (ix2 i j)
      = x (ix2 i j) + (Ideal.rsqrt (vt h i) * ((g (ix2 i j) : EReal) * (n (ix2 0 j) : EReal))
        - h (ix2 i j) * (Ideal.rsqrt (vt h i) * Ideal.rsqrt (vt h i) * Ideal.rsqrt (vt h i))
          * ((∑ k : Fin 1024, (g (ix2 i k) : EReal) * (n (ix2 0 k) : EReal) * (h (ix2 i k) : EReal)) * ((1 / 1024 : ℝ) : EReal))) := by
  pointwise [k0_pay2]
  rw [Rms.word_inv_1024, rs_apply]
theorem dw_apply (g h : Tile) (s : Vec Ideal S8x1024 .f32) (i : Fin 8) (j : Fin 1024) : k0_pay4 (F := Ideal) g h (k0_pay6 (F := Ideal) h) (k0_pay7 (F := Ideal)) s (ix2 i j)
      = s (ix2 i j) + ∑ p : Fin 132, (g (ix2 ⟨p.val * 8 + i.val, by omega⟩ j) : EReal) * (h (ix2 ⟨p.val * 8 + i.val, by omega⟩ j) : EReal)
          * Ideal.rsqrt (vt h ⟨p.val * 8 + i.val, by omega⟩) := by
  pointwise [k0_pay4]
  simp only [rs_apply]
theorem zero_apply (j) : k0_pay3 (F := Ideal) j = (0 : EReal) := by
  pointwise [k0_pay3]

/-- One shard's part of the product. -/
def part (x : Vec Ideal S1056x384 .bf16) (w : Vec Ideal S1x1x1024x384 .bf16) (i : Fin 1056) (j : Fin 1024) : EReal :=
  ∑ k : Fin 384, (x (ix2 i k) : EReal) * (w (ix4 0 0 j k) : EReal)
theorem pay5_apply (x0 x1 x2 x3 : Vec Ideal S1056x384 .bf16) (w0 w1 w2 w3 : Vec Ideal S1x1x1024x384 .bf16) (i : Fin 1056) (j : Fin 1024) :
    k0_pay5 (F := Ideal) x0 w0 x1 w1 x2 w2 x3 w3 (ix2 i j) = part x0 w0 i j + part x1 w1 i j + part x2 w2 i j + part x3 w3 i j := by
  pointwise [k0_pay5]
  rfl
theorem ldx0 (x : Vec Ideal S1056x1536 .bf16) (i : Fin 1056) (k : Fin 384) :
    View.ld x (Rect.unit ![0, 0] ![1056, 384] inb_S1056x1536_S1056x384_0_0) (ix2 i k) = x (ix2 i ⟨0 * 384 + k.val, by omega⟩) :=
  View.ld_unit_apply_of _ _ _ _ _ _ (fun a => match a with | ⟨0, _⟩ => (Nat.zero_add _).symm | ⟨1, _⟩ => rfl)
theorem ldw0 (w : Wq) (j : Fin 1024) (k : Fin 384) : View.ld w (Rect.unit ![0, 0, 0, 0] ![1, 1, 1024, 384] inb_S4x1x1024x384_S1x1x1024x384_0_0_0_0) (ix4 0 0 j k) = w (ix4 0 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx1 (x : Vec Ideal S1056x1536 .bf16) (i : Fin 1056) (k : Fin 384) :
    View.ld x (Rect.unit ![0, 384] ![1056, 384] inb_S1056x1536_S1056x384_0_384) (ix2 i k) = x (ix2 i ⟨1 * 384 + k.val, by omega⟩) :=
  View.ld_unit_apply_of _ _ _ _ _ _ (fun a => match a with | ⟨0, _⟩ => (Nat.zero_add _).symm | ⟨1, _⟩ => rfl)
theorem ldw1 (w : Wq) (j : Fin 1024) (k : Fin 384) : View.ld w (Rect.unit ![1, 0, 0, 0] ![1, 1, 1024, 384] inb_S4x1x1024x384_S1x1x1024x384_1_0_0_0) (ix4 0 0 j k) = w (ix4 1 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx2 (x : Vec Ideal S1056x1536 .bf16) (i : Fin 1056) (k : Fin 384) :
    View.ld x (Rect.unit ![0, 768] ![1056, 384] inb_S1056x1536_S1056x384_0_768) (ix2 i k) = x (ix2 i ⟨2 * 384 + k.val, by omega⟩) :=
  View.ld_unit_apply_of _ _ _ _ _ _ (fun a => match a with | ⟨0, _⟩ => (Nat.zero_add _).symm | ⟨1, _⟩ => rfl)
theorem ldw2 (w : Wq) (j : Fin 1024) (k : Fin 384) : View.ld w (Rect.unit ![2, 0, 0, 0] ![1, 1, 1024, 384] inb_S4x1x1024x384_S1x1x1024x384_2_0_0_0) (ix4 0 0 j k) = w (ix4 2 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx3 (x : Vec Ideal S1056x1536 .bf16) (i : Fin 1056) (k : Fin 384) :
    View.ld x (Rect.unit ![0, 1152] ![1056, 384] inb_S1056x1536_S1056x384_0_1152) (ix2 i k) = x (ix2 i ⟨3 * 384 + k.val, by omega⟩) :=
  View.ld_unit_apply_of _ _ _ _ _ _ (fun a => match a with | ⟨0, _⟩ => (Nat.zero_add _).symm | ⟨1, _⟩ => rfl)
theorem ldw3 (w : Wq) (j : Fin 1024) (k : Fin 384) : View.ld w (Rect.unit ![3, 0, 0, 0] ![1, 1, 1024, 384] inb_S4x1x1024x384_S1x1x1024x384_3_0_0_0) (ix4 0 0 j k) = w (ix4 3 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)

/-- The four shards' products as the kernel adds them. -/
abbrev pg (x : Vec Ideal S1056x1536 .bf16) (w : Wq) : Tile :=
  k0_pay5 (F := Ideal) (View.ld x (Rect.unit ![0, 0] ![1056, 384] inb_S1056x1536_S1056x384_0_0)) (View.ld w (Rect.unit ![0, 0, 0, 0] ![1, 1, 1024, 384] inb_S4x1x1024x384_S1x1x1024x384_0_0_0_0)) (View.ld x (Rect.unit ![0, 384] ![1056, 384] inb_S1056x1536_S1056x384_0_384)) (View.ld w (Rect.unit ![1, 0, 0, 0] ![1, 1, 1024, 384] inb_S4x1x1024x384_S1x1x1024x384_1_0_0_0)) (View.ld x (Rect.unit ![0, 768] ![1056, 384] inb_S1056x1536_S1056x384_0_768)) (View.ld w (Rect.unit ![2, 0, 0, 0] ![1, 1, 1024, 384] inb_S4x1x1024x384_S1x1x1024x384_2_0_0_0)) (View.ld x (Rect.unit ![0, 1152] ![1056, 384] inb_S1056x1536_S1056x384_0_1152)) (View.ld w (Rect.unit ![3, 0, 0, 0] ![1, 1, 1024, 384] inb_S4x1x1024x384_S1x1x1024x384_3_0_0_0))
theorem pg_apply (x : Vec Ideal S1056x1536 .bf16) (w : Wq) (i : Fin 1056) (j : Fin 1024) : pg x w (ix2 i j) = prod x w i j := by
  have h : (∑ s : Fin 4, ∑ k : Fin 384, (x (ix2 i ⟨s.val * 384 + k.val, by omega⟩) : EReal) * (w (ix4 s 0 j k) : EReal)) = prod x w i j := by
    refine Fin.sum_mul_add_congr (S := 4) (n := 384) (fun s k hl => ?_) rfl
    have e1 : (⟨(s.val * 384 + k.val) / 384, by omega⟩ : Fin 4) = s := Fin.ext (by show (s.val * 384 + k.val) / 384 = s.val; omega)
    have e2 : (⟨(s.val * 384 + k.val) % 384, by omega⟩ : Fin 384) = k := Fin.ext (by show (s.val * 384 + k.val) % 384 = k.val; omega)
    show _ = (x (ix2 i ⟨s.val * 384 + k.val, _⟩) : EReal)
      * (w (ix4 ⟨(s.val * 384 + k.val) / 384, _⟩ 0 j ⟨(s.val * 384 + k.val) % 384, _⟩) : EReal)
    rw [e1, e2]
  rw [← h, Fin.sum_univ_four]
  refine (pay5_apply _ _ _ _ _ _ _ _ i j).trans ?_
  exact congrArg₂ (fun a b : EReal => a + b) (congrArg₂ (fun a b : EReal => a + b) (congrArg₂ (fun a b : EReal => a + b)
    (Finset.sum_congr rfl fun k _ => congrArg₂ (fun a b : EReal => a * b) (ldx0 x i k) (ldw0 w j k))
    (Finset.sum_congr rfl fun k _ => congrArg₂ (fun a b : EReal => a * b) (ldx1 x i k) (ldw1 w j k)))
    (Finset.sum_congr rfl fun k _ => congrArg₂ (fun a b : EReal => a * b) (ldx2 x i k) (ldw2 w j k)))
    (Finset.sum_congr rfl fun k _ => congrArg₂ (fun a b : EReal => a * b) (ldx3 x i k) (ldw3 w j k))

variable (m : (ℓ : Loc nD τ sig) → Buf (Elt Ideal) ℓ) (ρ : Dev nD → PrngReg)

theorem idx : ∀ t : Fin cfg0.N, win0_0.index t = ![t.val, 0] ∧ win0_1.index t = ![0, 0, 0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

abbrev A0 (c : Dev nD) : Dq := m ((c : Thread nD τ).loc main_arg0)
abbrev A1 (c : Dev nD) : Wq := m ((c : Thread nD τ).loc main_arg1)
abbrev A2 (c : Dev nD) : Rows := m ((c : Thread nD τ).loc main_arg2)
abbrev A3 (c : Dev nD) : Nw := m ((c : Thread nD τ).loc main_arg3)
abbrev A4 (c : Dev nD) : Rows := m ((c : Thread nD τ).loc main_arg4)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem blk_h (c : Dev nD) (t : Fin cfg0.N) (i : Fin 1056) (j : Fin 1024) :
    iblk m c 2 t (ix2 i j) = A2 m c (ix2 (row t i) j) := by
  blk_ext! [iblk, V, idx t]
theorem blk_n (c : Dev nD) (t : Fin cfg0.N) (j : Fin 1024) :
    iblk m c 3 t (ix2 0 j) = A3 m c (ix2 0 j) := by
  blk_ext! [iblk, V, idx t]
theorem blk_r (c : Dev nD) (t : Fin cfg0.N) (i : Fin 1056) (j : Fin 1024) :
    iblk m c 4 t (ix2 i j) = A4 m c (ix2 (row t i) j) := by
  blk_ext! [iblk, V, idx t]
theorem blk_v (c : Dev nD) (t : Fin cfg0.N) (i : Fin 1056) : vt (iblk m c 2 t) i = vr (A2 m c) (row t i) := by
  rw [vt, vr]
  exact congrArg Rms.var (Finset.sum_congr rfl fun k _ => by rw [blk_h])
theorem blk_d (c : Dev nD) (t : Fin cfg0.N) (i : Fin 1056) (j : Fin 1536) :
    iblk m c 0 t (ix2 i j) = A0 m c (ix2 (row t i) j) := by
  blk_ext! [iblk, V, idx t]
theorem blk_q (c : Dev nD) (t : Fin cfg0.N) (s : Fin 4) (i : Fin 1024) (j : Fin 384) :
    iblk m c 1 t (ix4 s 0 i j) = A1 m c (ix4 s 0 i j) := by
  blk_ext! [iblk, V, idx t]
/-- The tile's incoming gradient. -/
abbrev gt (c : Dev nD) (t : Fin cfg0.N) : Tile := pg (iblk m c 0 t) (iblk m c 1 t)
theorem blk_g (c : Dev nD) (t : Fin cfg0.N) (i : Fin 1056) (j : Fin 1024) : gt m c t (ix2 i j) = gr (A0 m c) (A1 m c) (row t i) j := by
  refine (pg_apply _ _ i j).trans ?_
  rw [gr, prod, prod]
  exact Finset.sum_congr rfl fun k _ => by rw [blk_d, blk_q]

/-- What a point writes of the input's gradient. -/
theorem out_apply (c : Dev nD) (t : Fin cfg0.N) (i : Fin 1056) (j : Fin 1024) :
    (Gen.outsAt0 m c t.val t.isLt).1 (ix2 i j) = val_main_v48 (F := Ideal) (A0 m c) (A1 m c) (A2 m c) (A3 m c) (A4 m c) (ix2 (row t i) j) := by
  have key : k0_pay2 (F := Ideal) (gt m c t) (iblk m c 2 t) (iblk m c 3 t) (k0_pay6 (F := Ideal) (iblk m c 2 t)) (k0_pay7 (F := Ideal)) (iblk m c 4 t) (ix2 i j)
      = val_main_v48 (F := Ideal) (A0 m c) (A1 m c) (A2 m c) (A3 m c) (A4 m c) (ix2 (row t i) j) := by
    have hs : (∑ k : Fin 1024, (gt m c t (ix2 i k) : EReal) * (iblk m c 3 t (ix2 0 k) : EReal) * (iblk m c 2 t (ix2 i k) : EReal))
        = ∑ k : Fin 1024, (A2 m c (ix2 (row t i) k) : EReal) * (gr (A0 m c) (A1 m c) (row t i) k * (A3 m c (ix2 0 k) : EReal)) :=
      Finset.sum_congr rfl fun k _ => by rw [blk_g, blk_h, blk_n, mul_comm]
    refine (dx_apply _ _ _ _ i j).trans ?_
    rw [ref41, hs, blk_r, blk_h, blk_n, blk_v, blk_g]
  by_cases h0 : t.val % 8 = 0
  · rw [Gen.outsAt0_A m c t h0]
    frame_out
    exact key
  · rw [Gen.outsAt0_B m c t h0]
    frame_out
    exact key

def qN (c : Dev nD) (t : Fin cfg0.N) (i : Fin 8) (j : Fin 1024) : EReal :=
  ∑ p : Fin 132, gr (A0 m c) (A1 m c) (row t ⟨p.val * 8 + i.val, by omega⟩) j
    * (A2 m c (ix2 (row t ⟨p.val * 8 + i.val, by omega⟩) j) : EReal)
    * Ideal.rsqrt (vr (A2 m c) (row t ⟨p.val * 8 + i.val, by omega⟩))
def termN (c : Dev nD) (t : Fin cfg0.N) (y : S8x1024.Idx) : EReal := qN m c t (y 0) (y 1)
theorem termN_ix (c : Dev nD) (t : Fin cfg0.N) (i : Fin 8) (j : Fin 1024) : termN m c t (ix2 i j) = qN m c t i j := rfl

theorem stepN (c : Dev nD) (t : Fin cfg0.N) (s : Vec Ideal S8x1024 .f32) (y : S8x1024.Idx) :
    k0_pay4 (F := Ideal) (gt m c t) (iblk m c 2 t) (k0_pay6 (F := Ideal) (iblk m c 2 t)) (k0_pay7 (F := Ideal)) s y = s y + termN m c t y := by
  obtain ⟨i, j, rfl⟩ : ∃ (i : Fin 8) (j : Fin 1024), y = ix2 i j := ⟨y 0, y 1, by blk_ext⟩
  refine (dw_apply _ _ _ i j).trans ?_
  rw [termN_ix, qN]
  refine congrArg (fun z : EReal => (s (ix2 i j) : EReal) + z) (Finset.sum_congr rfl fun p _ => ?_)
  rw [blk_g, blk_h, blk_v]

theorem accN (c : Dev nD) (y : S8x1024.Idx) :
    (Gen.outsAt0 m c t0_7.val t0_7.isLt).2 y = ∑ t : Fin cfg0.N, termN m c t y := by
  have := Pipeline.eq_sum_fin_of_reset_step_apply_last (fun n h => (Gen.outsAt0 m c n h).2) 8 (fun _ => (0 : EReal))
    (termN m c)
    (fun t h0 y => by
      rw [Gen.outsAt0_A m c t h0]
      frame_out
      exact (stepN m c t _ y).trans (by rw [zero_apply]))
    (fun t h0 y => by
      rw [Gen.outsAt0_B m c t h0]
      frame_out
      exact stepN m c t _ y) (le_of_eq Gen.N_0) Gen.t0_7 rfl y
  rw [this, zero_add]

theorem sumN (c : Dev nD) (i : Fin 8) (j : Fin 1024) : ∑ t : Fin cfg0.N, termN m c t (ix2 i j)
    = ∑ n : Fin 1056, gr (A0 m c) (A1 m c) (r8 n i) j * (A2 m c (ix2 (r8 n i) j) : EReal) * Ideal.rsqrt (vr (A2 m c) (r8 n i)) := by
  simp only [termN_ix]
  unfold qN
  refine (Fin.sum_mul_add_congr (S := 8) (n := 132) (fun s p hl => ?_) rfl)
  have e : r8 ⟨s.val * 132 + p.val, hl⟩ i = row s ⟨p.val * 8 + i.val, by omega⟩ := Fin.ext (by
    show (s.val * 132 + p.val) * 8 + i.val = s.val * 1056 + (p.val * 8 + i.val)
    omega)
  rw [e]

theorem final_dx (c : Dev nD) : (dats m 0 c).arrAt 5 cfg0.N = val_main_v48 (F := Ideal) (A0 m c) (A1 m c) (A2 m c) (A3 m c) (A4 m c) := by
  refine (dats m 0 c).arrAt_eq_of_covers 5 _ (by decide +kernel) fun t hf y => ?_
  obtain ⟨i, j, rfl⟩ : ∃ (i : Fin 1056) (j : Fin 1024), y = ix2 i j := ⟨y 0, y 1, by blk_ext⟩
  blk_simp
  rw [after0_5]
  refine (out_apply m c t i j).trans ?_
  congr 1
  blk_ext [idx t]

theorem final_dw (c : Dev nD) : (dats m 0 c).arrAt 6 cfg0.N = val_main_v32 (F := Ideal) (A0 m c) (A1 m c) (A2 m c) := by
  refine (dats m 0 c).arrAt_eq_of_covers 6 _ (by decide +kernel) fun t hf y => ?_
  obtain ⟨i, j, rfl⟩ : ∃ (i : Fin 8) (j : Fin 1024), y = ix2 i j := ⟨y 0, y 1, by blk_ext⟩
  have h1 : t.val % 8 = 7 := (Gen.flush0_6 t).mp hf
  have ht : t = t0_7 := Fin.ext (by have : t.val < 8 := lt_of_lt_of_eq t.isLt N_0; show t.val = 7; omega)
  blk_simp
  rw [after0_6]
  subst ht
  refine ((accN m c _).trans (sumN m c i j)).trans ?_
  refine Eq.trans ?_ (congrArg _ (?_ : ix2 i j = _))
  · rw [ref52]
  · blk_ext [idx t0_7]

/-! ## The whole program: the call, then the host's slice of its first result -/

/-- The gradient of the input, without the padded and the meta tokens. -/
theorem slice_res (c : Dev nD) : Pipeline.afterTail₀ cfgs (dats m) 0 (V0 m) [hostOps1] c main_v2
    = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : Pipeline.afterTail₀ cfgs (dats m) 0 (V0 m) [hostOps1] c main_v2
      = extractStridedSlice S2x4096x1024 ![0, 128, 0] (shapeCast S2x4224x1024 ((dats m 0 c).arrAt 5 cfg0.N) shapeCasts_S8448x1024_S2x4224x1024)
          slices_S2x4224x1024_S2x4096x1024_0_128_0 := by
    unfold Pipeline.afterTail₀
    after_reads_simp
    rw [show Pipeline.withArrays spec0 c (V0 m c) (fun w => (dats m 0 c).arrAt w cfg0.N) (Proc.devRef .tc main_v0_0) = (dats m 0 c).arrAt 5 cfg0.N from
      Pipeline.withArrays_arr spec0 winFacts0.arr_inj c _ _ 5]
    rfl
  rw [e, final_dx]
  rfl

/-- Every run of the kernel's program ends with the reference's values in its results, and its arguments kept. -/
theorem run : θ_run defs (onTc (τ := τ) (main (F := Ideal))) ⟨m, fun _ => 0, ρ⟩ (fun r => ∀ c : Dev nD,
      r.2.mem ((c.tc : Thread nD τ).loc main_v0_0) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = val_main_v32 (F := Ideal) (m ((c.tc : Thread nD τ).loc main_arg0)) (m ((c.tc : Thread nD τ).loc main_arg1)) (m ((c.tc : Thread nD τ).loc main_arg2))
      ∧ r.2.mem ((c.tc : Thread nD τ).loc main_v2) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final_dx m c), ((h.1 c).1 6).trans (final_dw m c),
      ((h.1 c).2 main_v2 (Pipeline.mem_restRefs_of main_v2 (by decide) (by decide))).trans (slice_res m c), h.2 c⟩)
    (θ_run_and (run_main m ρ) (unchanged m ρ))

end Cert.Qkv1Ideal.Hand

namespace Cert.Hand

/-- The reference leaves its arguments as they were. -/
theorem frame_refQkv1 : Cert.quiescent_QkvRef1Ideal := fun m ρ _ =>
  (θ_run Cert.QkvRef1Ideal.defs _ _).mono (fun r h => ⟨fun c => (h c).2.2.2,
      Idealize.ShloMosaic.sem_eq_zero_of_no_sems (by decide) r.2⟩)
    (Cert.QkvRef1Ideal.Value.run (F := Ideal) m ρ)

/-- At `Ideal` the kernel's result and the reference's agree. -/
theorem algebraicQkv1 : Cert.algebraic_Qkv1Ideal_QkvRef1Ideal := by
  intro m g m' g' _ hagree
  refine ⟨_, _, _, Cert.Qkv1Ideal.Hand.run m g, ?_⟩
  refine θ_run_mono (Cert.QkvRef1Ideal.Value.run (F := Ideal) m' g') fun r hr c => ?_
  obtain ⟨h0, h1, h2, k⟩ := hr c
  obtain ⟨e0, e1, e2, e3, e4⟩ := hagree c
  refine ⟨h0.trans ?_, h1.trans ?_, h2.trans ?_, k⟩
  · refine (Cert.QkvRef1Ideal.Read.val_main_v48_eq _ _).trans ?_
    congr 1 <;> first | exact e0 | exact e1 | exact e2 | exact e3 | exact e4
  · refine (Cert.QkvRef1Ideal.Read.val_main_v32_eq _ _ _).trans ?_
    congr 1 <;> first | exact e0 | exact e1 | exact e2 | exact e3 | exact e4
  · refine (Cert.QkvRef1Ideal.Read.val_main_v50_eq _ _).trans ?_
    congr 1 <;> first | exact e0 | exact e1 | exact e2 | exact e3 | exact e4

end Cert.Hand

end
-- ==== Proof.Qkv2Value.lean ====
module

public import proofs.«01_k».proof.Defs
public import proofs.«01_k».proof.Proof.Gen.Qkv2Ideal.Value
public import proofs.«01_k».proof.Proof.Gen.QkvRef2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Qkv2Ideal.Hand

open Cert.Qkv2Ideal Cert.Qkv2Ideal.Gen Cert.QkvRef2Ideal.Read

/-- The product of the two arguments over `R` rows, at shard `s`. -/
def prod {R : ℕ} (a : Vec Ideal ⟨2, ![R, 1024]⟩ .bf16) (b : Vec Ideal ⟨2, ![R, 1536]⟩ .bf16) (s : Fin 4) (i : Fin 1024) (j : Fin 384) : EReal :=
  ∑ k : Fin R, (a (ix2 k i) : EReal) * (b (ix2 k ⟨s.val * 384 + j.val, by omega⟩) : EReal)

theorem ref_apply (a : Vec Ideal S8448x1024 .bf16) (b : Vec Ideal S8448x1536 .bf16) (s : Fin 4) (i : Fin 1024) (j : Fin 384) :
    val_main_v13 (F := Ideal) a b (ix3 s i j) = prod a b s i j := by
  pointwise [val_main_v13, val_main_v12, val_main_v11, val_main_v10, val_main_v9, val_main_v8, val_main_v7, val_main_v6, val_main_v1]
  rw [prod]
  exact Finset.sum_congr rfl fun k _ => mul_comm _ _

/-- One shard's product of a tile of rows. -/
def part (a : Vec Ideal S1408x1024 .bf16) (b : Vec Ideal S1408x384 .bf16) (i : Fin 1024) (j : Fin 384) : EReal :=
  ∑ k : Fin 1408, (a (ix2 k i) : EReal) * (b (ix2 k j) : EReal)

theorem pay5_apply (a : Vec Ideal S1408x1024 .bf16) (b : Vec Ideal S1408x384 .bf16) (l : Vec Ideal S1x1024x384 .f32) (i : Fin 1024) (j : Fin 384) :
    k0_pay5 (F := Ideal) a b l (ix3 0 i j) = (l (ix3 0 i j) : EReal) + part a b i j := by
  pointwise [k0_pay5]
  rfl
theorem pay6_apply (a : Vec Ideal S1408x1024 .bf16) (b : Vec Ideal S1408x384 .bf16) (l : Vec Ideal S1x1024x384 .f32) (i : Fin 1024) (j : Fin 384) :
    k0_pay6 (F := Ideal) a b l (ix3 0 i j) = (l (ix3 0 i j) : EReal) + part a b i j := by
  pointwise [k0_pay6]
  rfl
theorem pay1_apply (a : Vec Ideal S1408x1024 .bf16) (b : Vec Ideal S1408x384 .bf16) (l : Vec Ideal S1x1024x384 .f32) (i : Fin 1024) (j : Fin 384) :
    k0_pay1 (F := Ideal) a b (k0_pay7 (F := Ideal) l) (ix3 0 i j) = (l (ix3 0 i j) : EReal) + part a b i j := by
  pointwise [k0_pay1, k0_pay7]
  rfl
theorem pay2_apply (a : Vec Ideal S1408x1024 .bf16) (b : Vec Ideal S1408x384 .bf16) (l : Vec Ideal S1x1024x384 .f32) (i : Fin 1024) (j : Fin 384) :
    k0_pay2 (F := Ideal) a b l (ix3 0 i j) = (l (ix3 0 i j) : EReal) + part a b i j := by
  pointwise [k0_pay2]
  rfl
theorem pay3_apply (x : Vec Ideal S4x1024x384 .f32) (s : Fin 4) (i : Fin 1024) (j : Fin 384) : k0_pay3 (F := Ideal) x (ix3 s i j) = x (ix3 s i j) := by
  pointwise [k0_pay3]
theorem pay4_apply (s : Fin 4) (i : Fin 1024) (j : Fin 384) : k0_pay4 (F := Ideal) (ix3 s i j) = (0 : EReal) := by
  pointwise [k0_pay4]

theorem ldb0 (x : Vec Ideal S1408x1536 .bf16) (k : Fin 1408) (j : Fin 384) :
    View.ld x (Rect.unit ![0, 0] ![1408, 384] inb_S1408x1536_S1408x384_0_0) (ix2 k j) = x (ix2 k ⟨0 * 384 + j.val, by omega⟩) :=
  View.ld_unit_apply_of _ _ _ _ _ _ (fun a => match a with | ⟨0, _⟩ => (Nat.zero_add _).symm | ⟨1, _⟩ => rfl)
theorem ldb1 (x : Vec Ideal S1408x1536 .bf16) (k : Fin 1408) (j : Fin 384) :
    View.ld x (Rect.unit ![0, 384] ![1408, 384] inb_S1408x1536_S1408x384_0_384) (ix2 k j) = x (ix2 k ⟨1 * 384 + j.val, by omega⟩) :=
  View.ld_unit_apply_of _ _ _ _ _ _ (fun a => match a with | ⟨0, _⟩ => (Nat.zero_add _).symm | ⟨1, _⟩ => rfl)
theorem ldb2 (x : Vec Ideal S1408x1536 .bf16) (k : Fin 1408) (j : Fin 384) :
    View.ld x (Rect.unit ![0, 768] ![1408, 384] inb_S1408x1536_S1408x384_0_768) (ix2 k j) = x (ix2 k ⟨2 * 384 + j.val, by omega⟩) :=
  View.ld_unit_apply_of _ _ _ _ _ _ (fun a => match a with | ⟨0, _⟩ => (Nat.zero_add _).symm | ⟨1, _⟩ => rfl)
theorem ldb3 (x : Vec Ideal S1408x1536 .bf16) (k : Fin 1408) (j : Fin 384) :
    View.ld x (Rect.unit ![0, 1152] ![1408, 384] inb_S1408x1536_S1408x384_0_1152) (ix2 k j) = x (ix2 k ⟨3 * 384 + j.val, by omega⟩) :=
  View.ld_unit_apply_of _ _ _ _ _ _ (fun a => match a with | ⟨0, _⟩ => (Nat.zero_add _).symm | ⟨1, _⟩ => rfl)
theorem lds0 (x : Vec Ideal S4x1024x384 .f32) (i : Fin 1024) (j : Fin 384) :
    View.ld x (Rect.unit ![0, 0, 0] ![1, 1024, 384] inb_S4x1024x384_S1x1024x384_0_0_0) (ix3 0 i j) = x (ix3 0 i j) :=
  View.ld_unit_apply_of _ _ _ _ _ _ (fun a => match a with
    | ⟨0, _⟩ => rfl | ⟨1, _⟩ => (Nat.zero_add _).symm | ⟨2, _⟩ => (Nat.zero_add _).symm)
theorem part0 (x : Vec Ideal S1408x1024 .bf16) (b : Vec Ideal S1408x1536 .bf16) (i : Fin 1024) (j : Fin 384) :
    part x (View.ld b (Rect.unit ![0, 0] ![1408, 384] inb_S1408x1536_S1408x384_0_0)) i j = prod x b 0 i j :=
  Finset.sum_congr rfl fun k _ => congrArg₂ (fun a b : EReal => a * b) rfl (ldb0 b k j)
theorem emb0 (i : Fin 1024) (j : Fin 384) : (Rect.unit ![0, 0, 0] ![1, 1024, 384] inb_S4x1024x384_S1x1024x384_0_0_0).emb (ix3 0 i j) = (ix3 0 i j : S4x1024x384.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds1 (x : Vec Ideal S4x1024x384 .f32) (i : Fin 1024) (j : Fin 384) :
    View.ld x (Rect.unit ![1, 0, 0] ![1, 1024, 384] inb_S4x1024x384_S1x1024x384_1_0_0) (ix3 0 i j) = x (ix3 1 i j) :=
  View.ld_unit_apply_of _ _ _ _ _ _ (fun a => match a with
    | ⟨0, _⟩ => rfl | ⟨1, _⟩ => (Nat.zero_add _).symm | ⟨2, _⟩ => (Nat.zero_add _).symm)
theorem part1 (x : Vec Ideal S1408x1024 .bf16) (b : Vec Ideal S1408x1536 .bf16) (i : Fin 1024) (j : Fin 384) :
    part x (View.ld b (Rect.unit ![0, 384] ![1408, 384] inb_S1408x1536_S1408x384_0_384)) i j = prod x b 1 i j :=
  Finset.sum_congr rfl fun k _ => congrArg₂ (fun a b : EReal => a * b) rfl (ldb1 b k j)
theorem emb1 (i : Fin 1024) (j : Fin 384) : (Rect.unit ![1, 0, 0] ![1, 1024, 384] inb_S4x1024x384_S1x1024x384_1_0_0).emb (ix3 0 i j) = (ix3 1 i j : S4x1024x384.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds2 (x : Vec Ideal S4x1024x384 .f32) (i : Fin 1024) (j : Fin 384) :
    View.ld x (Rect.unit ![2, 0, 0] ![1, 1024, 384] inb_S4x1024x384_S1x1024x384_2_0_0) (ix3 0 i j) = x (ix3 2 i j) :=
  View.ld_unit_apply_of _ _ _ _ _ _ (fun a => match a with
    | ⟨0, _⟩ => rfl | ⟨1, _⟩ => (Nat.zero_add _).symm | ⟨2, _⟩ => (Nat.zero_add _).symm)
theorem part2 (x : Vec Ideal S1408x1024 .bf16) (b : Vec Ideal S1408x1536 .bf16) (i : Fin 1024) (j : Fin 384) :
    part x (View.ld b (Rect.unit ![0, 768] ![1408, 384] inb_S1408x1536_S1408x384_0_768)) i j = prod x b 2 i j :=
  Finset.sum_congr rfl fun k _ => congrArg₂ (fun a b : EReal => a * b) rfl (ldb2 b k j)
theorem emb2 (i : Fin 1024) (j : Fin 384) : (Rect.unit ![2, 0, 0] ![1, 1024, 384] inb_S4x1024x384_S1x1024x384_2_0_0).emb (ix3 0 i j) = (ix3 2 i j : S4x1024x384.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds3 (x : Vec Ideal S4x1024x384 .f32) (i : Fin 1024) (j : Fin 384) :
    View.ld x (Rect.unit ![3, 0, 0] ![1, 1024, 384] inb_S4x1024x384_S1x1024x384_3_0_0) (ix3 0 i j) = x (ix3 3 i j) :=
  View.ld_unit_apply_of _ _ _ _ _ _ (fun a => match a with
    | ⟨0, _⟩ => rfl | ⟨1, _⟩ => (Nat.zero_add _).symm | ⟨2, _⟩ => (Nat.zero_add _).symm)
theorem part3 (x : Vec Ideal S1408x1024 .bf16) (b : Vec Ideal S1408x1536 .bf16) (i : Fin 1024) (j : Fin 384) :
    part x (View.ld b (Rect.unit ![0, 1152] ![1408, 384] inb_S1408x1536_S1408x384_0_1152)) i j = prod x b 3 i j :=
  Finset.sum_congr rfl fun k _ => congrArg₂ (fun a b : EReal => a * b) rfl (ldb3 b k j)
theorem emb3 (i : Fin 1024) (j : Fin 384) : (Rect.unit ![3, 0, 0] ![1, 1024, 384] inb_S4x1024x384_S1x1024x384_3_0_0).emb (ix3 0 i j) = (ix3 3 i j : S4x1024x384.Idx) := by
  funext a
  match a with
  | ⟨0, _⟩ => rfl
  | ⟨1, _⟩ => exact Fin.ext (show 0 + 1 * i.val = i.val by omega)
  | ⟨2, _⟩ => exact Fin.ext (show 0 + 1 * j.val = j.val by omega)

/-- The running sum after a tile of rows. -/
abbrev G (acc : Vec Ideal S4x1024x384 .f32) (x : Vec Ideal S1408x1024 .bf16) (b : Vec Ideal S1408x1536 .bf16) (y : S4x1024x384.Idx) : EReal :=
  (acc y : EReal) + prod x b (y 0) (y 1) (y 2)

theorem slab_apply (acc : Vec Ideal S4x1024x384 .f32) (x : Vec Ideal S1408x1024 .bf16) (b : Vec Ideal S1408x1536 .bf16)
    (l0 l1 l2 l3 : Vec Ideal S1x1024x384 .f32)
    (h0 : ∀ i j, l0 (ix3 0 i j) = acc (ix3 0 i j)) (h1 : ∀ i j, l1 (ix3 0 i j) = acc (ix3 1 i j))
    (h2 : ∀ i j, l2 (ix3 0 i j) = acc (ix3 2 i j)) (h3 : ∀ i j, l3 (ix3 0 i j) = acc (ix3 3 i j))
    (L' : List (View.Piece (Elt Ideal) S4x1024x384 .f32)) (y : S4x1024x384.Idx) :
    View.canon ((⟨(Rect.unit ![3, 0, 0] ![1, 1024, 384] inb_S4x1024x384_S1x1024x384_3_0_0), k0_pay2 (F := Ideal) x (View.ld b (Rect.unit ![0, 1152] ![1408, 384] inb_S1408x1536_S1408x384_0_1152)) l3⟩ : View.Piece (Elt Ideal) S4x1024x384 .f32)
      :: (⟨(Rect.unit ![2, 0, 0] ![1, 1024, 384] inb_S4x1024x384_S1x1024x384_2_0_0), k0_pay1 (F := Ideal) x (View.ld b (Rect.unit ![0, 768] ![1408, 384] inb_S1408x1536_S1408x384_0_768)) (k0_pay7 (F := Ideal) l2)⟩ : View.Piece (Elt Ideal) S4x1024x384 .f32)
      :: (⟨(Rect.unit ![1, 0, 0] ![1, 1024, 384] inb_S4x1024x384_S1x1024x384_1_0_0), k0_pay6 (F := Ideal) x (View.ld b (Rect.unit ![0, 384] ![1408, 384] inb_S1408x1536_S1408x384_0_384)) l1⟩ : View.Piece (Elt Ideal) S4x1024x384 .f32)
      :: (⟨(Rect.unit ![0, 0, 0] ![1, 1024, 384] inb_S4x1024x384_S1x1024x384_0_0_0), k0_pay5 (F := Ideal) x (View.ld b (Rect.unit ![0, 0] ![1408, 384] inb_S1408x1536_S1408x384_0_0)) l0⟩ : View.Piece (Elt Ideal) S4x1024x384 .f32) :: L') y = G acc x b y := by
  refine View.canon_append_of_piecesOf (Val := Elt Ideal) (e := .f32) (G acc x b) L' [(⟨(Rect.unit ![3, 0, 0] ![1, 1024, 384] inb_S4x1024x384_S1x1024x384_3_0_0), k0_pay2 (F := Ideal) x (View.ld b (Rect.unit ![0, 1152] ![1408, 384] inb_S1408x1536_S1408x384_0_1152)) l3⟩ : View.Piece (Elt Ideal) S4x1024x384 .f32),
    (⟨(Rect.unit ![2, 0, 0] ![1, 1024, 384] inb_S4x1024x384_S1x1024x384_2_0_0), k0_pay1 (F := Ideal) x (View.ld b (Rect.unit ![0, 768] ![1408, 384] inb_S1408x1536_S1408x384_0_768)) (k0_pay7 (F := Ideal) l2)⟩ : View.Piece (Elt Ideal) S4x1024x384 .f32),
    (⟨(Rect.unit ![1, 0, 0] ![1, 1024, 384] inb_S4x1024x384_S1x1024x384_1_0_0), k0_pay6 (F := Ideal) x (View.ld b (Rect.unit ![0, 384] ![1408, 384] inb_S1408x1536_S1408x384_0_384)) l1⟩ : View.Piece (Elt Ideal) S4x1024x384 .f32),
    (⟨(Rect.unit ![0, 0, 0] ![1, 1024, 384] inb_S4x1024x384_S1x1024x384_0_0_0), k0_pay5 (F := Ideal) x (View.ld b (Rect.unit ![0, 0] ![1408, 384] inb_S1408x1536_S1408x384_0_0)) l0⟩ : View.Piece (Elt Ideal) S4x1024x384 .f32)] ⟨?_, ?_, ?_, ?_, trivial⟩ y ?_
  · intro z
    obtain ⟨o, i, j, rfl⟩ : ∃ (o : Fin 1) (i : Fin 1024) (j : Fin 384), z = ix3 o i j := ⟨z 0, z 1, z 2, by blk_ext⟩
    obtain rfl : o = 0 := Subsingleton.elim _ _
    refine (pay2_apply _ _ l3 i j).trans ?_
    refine Eq.trans ?_ (congrArg (G acc x b) (emb3 i j).symm)
    exact congrArg₂ (fun a b : EReal => a + b) (h3 i j) (part3 x b i j)
  · intro z
    obtain ⟨o, i, j, rfl⟩ : ∃ (o : Fin 1) (i : Fin 1024) (j : Fin 384), z = ix3 o i j := ⟨z 0, z 1, z 2, by blk_ext⟩
    obtain rfl : o = 0 := Subsingleton.elim _ _
    refine (pay1_apply _ _ l2 i j).trans ?_
    refine Eq.trans ?_ (congrArg (G acc x b) (emb2 i j).symm)
    exact congrArg₂ (fun a b : EReal => a + b) (h2 i j) (part2 x b i j)
  · intro z
    obtain ⟨o, i, j, rfl⟩ : ∃ (o : Fin 1) (i : Fin 1024) (j : Fin 384), z = ix3 o i j := ⟨z 0, z 1, z 2, by blk_ext⟩
    obtain rfl : o = 0 := Subsingleton.elim _ _
    refine (pay6_apply _ _ l1 i j).trans ?_
    refine Eq.trans ?_ (congrArg (G acc x b) (emb1 i j).symm)
    exact congrArg₂ (fun a b : EReal => a + b) (h1 i j) (part1 x b i j)
  · intro z
    obtain ⟨o, i, j, rfl⟩ : ∃ (o : Fin 1) (i : Fin 1024) (j : Fin 384), z = ix3 o i j := ⟨z 0, z 1, z 2, by blk_ext⟩
    obtain rfl : o = 0 := Subsingleton.elim _ _
    refine (pay5_apply _ _ l0 i j).trans ?_
    refine Eq.trans ?_ (congrArg (G acc x b) (emb0 i j).symm)
    exact congrArg₂ (fun a b : EReal => a + b) (h0 i j) (part0 x b i j)
  · exact View.cover_of_tiledL (s := S4x1024x384) _ S1x1024x384.size (by sl_kernel_rfl) y

variable (m : (ℓ : Loc nD τ sig) → Buf (Elt Ideal) ℓ) (ρ : Dev nD → PrngReg)

theorem idx : ∀ t : Fin cfg0.N, win0_0.index t = ![t.val, 0] ∧ win0_1.index t = ![t.val, 0]
    ∧ win0_2.index t = ![0, 0, 0] :=
  (by decide +kernel : ∀ t : Fin grid0.N, _)

abbrev A0 (c : Dev nD) : Vec Ideal S8448x1024 .bf16 := m ((c : Thread nD τ).loc main_arg0)
abbrev A1 (c : Dev nD) : Vec Ideal S8448x1536 .bf16 := m ((c : Thread nD τ).loc main_arg1)

theorem ptlt (t : Fin cfg0.N) (i : Fin 1408) : t.val * 1408 + i.val < 8448 := by
  have : t.val < 6 := lt_of_lt_of_eq t.isLt N_0
  omega

abbrev row (t : Fin cfg0.N) (i : Fin 1408) : Fin 8448 := ⟨t.val * 1408 + i.val, ptlt t i⟩

theorem iblk0 (c : Dev nD) (t : Fin cfg0.N) (i : Fin 1408) (j : Fin 1024) :
    iblk m c 0 t (ix2 i j) = A0 m c (ix2 (row t i) j) := by
  blk_ext! [iblk, V, idx t]
theorem iblk1 (c : Dev nD) (t : Fin cfg0.N) (i : Fin 1408) (j : Fin 1536) :
    iblk m c 1 t (ix2 i j) = A1 m c (ix2 (row t i) j) := by
  blk_ext! [iblk, V, idx t]

/-- What one tile of rows adds. -/
def term (c : Dev nD) (t : Fin cfg0.N) (y : S4x1024x384.Idx) : EReal :=
  prod (R := 1408) (iblk m c 0 t) (iblk m c 1 t) (y 0) (y 1) (y 2)

theorem acc_last (c : Dev nD) (y : S4x1024x384.Idx) : (Gen.outsAt0 m c t0_5.val t0_5.isLt).2 y = ∑ t : Fin cfg0.N, term m c t y := by
  have := Pipeline.eq_sum_fin_of_reset_step_apply_last (fun n h => (Gen.outsAt0 m c n h).2) 6 (fun _ => (0 : EReal))
    (term m c)
    (fun t h0 y => by
      rw [Gen.outsAt0_A m c t h0 (by omega)]
      frame_out
      refine slab_apply (fun _ => (0 : EReal)) _ _ _ _ _ _ ?_ ?_ ?_ ?_ _ y
      · intro i j
        rw [View.readCov_fill _ _ _ _ _ (by decide)]
        exact (lds0 _ i j).trans (pay4_apply 0 i j)
      · intro i j
        rw [View.readCov_skip _ _ _ _ _ (by decide)]
        rw [View.readCov_fill _ _ _ _ _ (by decide)]
        exact (lds1 _ i j).trans (pay4_apply 1 i j)
      · intro i j
        rw [View.readCov_skip _ _ _ _ _ (by decide)]
        rw [View.readCov_skip _ _ _ _ _ (by decide)]
        rw [View.readCov_fill _ _ _ _ _ (by decide)]
        exact (lds2 _ i j).trans (pay4_apply 2 i j)
      · intro i j
        rw [View.readCov_skip _ _ _ _ _ (by decide)]
        rw [View.readCov_skip _ _ _ _ _ (by decide)]
        rw [View.readCov_skip _ _ _ _ _ (by decide)]
        rw [View.readCov_fill _ _ _ _ _ (by decide)]
        exact (lds3 _ i j).trans (pay4_apply 3 i j))
    (fun t h0 y => by
      by_cases h1 : t.val % 6 = 5
      · rw [Gen.outsAt0_C m c t h0 h1]
        frame_out
        simp only [read_unread_whole]
        exact slab_apply _ _ _ _ _ _ _ (lds0 _) (lds1 _) (lds2 _) (lds3 _) _ y
      · rw [Gen.outsAt0_B m c t h0 h1]
        frame_out
        simp only [read_unread_whole]
        exact slab_apply _ _ _ _ _ _ _ (lds0 _) (lds1 _) (lds2 _) (lds3 _) _ y) (le_of_eq Gen.N_0) Gen.t0_5 rfl y
  rw [this, zero_add]

theorem term_ix (c : Dev nD) (t : Fin cfg0.N) (s : Fin 4) (i : Fin 1024) (j : Fin 384) : term m c t (ix3 s i j)
    = ∑ k : Fin 1408, (A0 m c (ix2 (row t k) i) : EReal) * (A1 m c (ix2 (row t k) ⟨s.val * 384 + j.val, by omega⟩) : EReal) := by
  show prod (R := 1408) (iblk m c 0 t) (iblk m c 1 t) s i j = _
  rw [prod]
  exact Finset.sum_congr rfl fun k _ => by rw [iblk0 m c t k i, iblk1 m c t k ⟨s.val * 384 + j.val, by omega⟩]

theorem term_sum (c : Dev nD) (s : Fin 4) (i : Fin 1024) (j : Fin 384) :
    ∑ t : Fin cfg0.N, term m c t (ix3 s i j) = prod (A0 m c) (A1 m c) s i j := by
  refine (Finset.sum_congr rfl fun t _ => term_ix m c t s i j).trans ?_
  exact Fin.sum_mul_add_congr (S := 6) (n := 1408) (fun s p hl => rfl) rfl

theorem out_last (c : Dev nD) (t : Fin cfg0.N) (h0 : ¬ t.val % 6 = 0) (h1 : t.val % 6 = 5) (s : Fin 4) (i : Fin 1024) (j : Fin 384) :
    (Gen.outsAt0 m c t.val t.isLt).1 (ix3 s i j) = (Gen.outsAt0 m c t.val t.isLt).2 (ix3 s i j) := by
  rw [Gen.outsAt0_C m c t h0 h1]
  frame_out
  refine (pay3_apply _ s i j).trans ?_
  rw [View.readCov_eq_canon']
  refine congrArg (View.canon (Val := Elt Ideal) (e := .f32) (s := S4x1024x384) _) ?_
  funext a
  match a with
  | ⟨0, _⟩ => exact Fin.ext (show 0 + 1 * s.val = s.val by omega)
  | ⟨1, _⟩ => exact Fin.ext (show 0 + 1 * i.val = i.val by omega)
  | ⟨2, _⟩ => exact Fin.ext (show 0 + 1 * j.val = j.val by omega)

theorem final2 (c : Dev nD) : (dats m 0 c).arrAt 2 cfg0.N = val_main_v13 (F := Ideal) (A0 m c) (A1 m c) := by
  refine (dats m 0 c).arrAt_eq_of_covers 2 _ (by decide +kernel) fun t hf y => ?_
  obtain ⟨s, i, j, rfl⟩ : ∃ (s : Fin 4) (i : Fin 1024) (j : Fin 384), y = ix3 s i j := ⟨y 0, y 1, y 2, by blk_ext⟩
  have h1 : t.val % 6 = 5 := (Gen.flush0_2 t).mp hf
  have ht : t = t0_5 := Fin.ext (by have : t.val < 6 := lt_of_lt_of_eq t.isLt N_0; show t.val = 5; omega)
  blk_simp
  rw [after0_2]
  refine (out_last m c t (by omega) h1 s i j).trans ?_
  subst ht
  rw [acc_last, term_sum]
  refine Eq.trans ?_ (congrArg _ (?_ : ix3 s i j = _))
  · rw [ref_apply]
  · blk_ext [idx t0_5]

end Cert.Qkv2Ideal.Hand

namespace Cert.Hand

/-- The reference leaves its arguments as they were. -/
theorem frame_refQkv2 : Cert.quiescent_QkvRef2Ideal := fun m ρ _ =>
  (θ_run Cert.QkvRef2Ideal.defs _ _).mono (fun r h => ⟨fun c => (h c).2,
      Idealize.ShloMosaic.sem_eq_zero_of_no_sems (by decide) r.2⟩)
    (Cert.QkvRef2Ideal.Value.run (F := Ideal) m ρ)

/-- At `Ideal` the kernel's result and the reference's agree. -/
theorem algebraicQkv2 : Cert.algebraic_Qkv2Ideal_QkvRef2Ideal := by
  intro m g m' g' _ hagree
  refine ⟨_, Cert.Qkv2Ideal.Value.run_blocks m g, ?_⟩
  refine θ_run_mono (Cert.QkvRef2Ideal.Value.run (F := Ideal) m' g') fun r hr c => ?_
  obtain ⟨h0, k⟩ := hr c
  obtain ⟨e0, e1⟩ := hagree c
  refine ⟨h0.trans ?_, k⟩
  · refine (Cert.QkvRef2Ideal.Read.val_main_v13_eq _ _).trans (Eq.trans ?_ (Cert.Qkv2Ideal.Hand.final2 m c).symm)
    congr 1 <;> first | exact e0 | exact e1

end Cert.Hand

end
-- ==== Proof.Out0Value.lean ====
module

public import proofs.«01_k».proof.Defs
public import proofs.«01_k».proof.Proof.Gen.Out0Ideal.Value
public import proofs.«01_k».proof.Proof.Gen.OutRef0Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out0Ideal.Hand

open Cert.Out0Ideal Cert.Out0Ideal.Gen Cert.OutRef0Ideal.Read

abbrev Rows := Vec Ideal S8448x1024 .f32
abbrev Wt := Vec Ideal S4x1x256x1024 .bf16

/-- Row `i` of the input against column `j` of the stacked weight. -/
def prod {R : ℕ} (x : Vec Ideal ⟨2, ![R, 1024]⟩ .bf16) (w : Wt) (i : Fin R) (j : Fin 1024) : EReal :=
  ∑ k : Fin 1024, (x (ix2 i k) : EReal) * (w (ix4 ⟨k.val / 256, by omega⟩ 0 ⟨k.val % 256, by omega⟩ j) : EReal)

theorem ref_apply (x : Vec Ideal S8448x1024 .bf16) (w : Wt) (r : Rows) (i : Fin 8448) (j : Fin 1024) :
    val_main_v4 (F := Ideal) x w r (ix2 i j) = (r (ix2 i j) : EReal) + prod x w i j := by
  pointwise [val_main_v4, val_main_v3, val_main_v2, val_main_v1, val_main_v0]
  rw [prod]

/-- One shard's part of the product. -/
def part (x : Vec Ideal S1056x256 .bf16) (w : Vec Ideal S1x1x256x1024 .bf16) (i : Fin 1056) (j : Fin 1024) : EReal :=
  ∑ k : Fin 256, (x (ix2 i k) : EReal) * (w (ix4 0 0 k j) : EReal)

theorem pay1_apply (x0 x1 x2 x3 : Vec Ideal S1056x256 .bf16) (w0 w1 w2 w3 : Vec Ideal S1x1x256x1024 .bf16)
    (r : Vec Ideal S1056x1024 .f32) (i : Fin 1056) (j : Fin 1024) :
    k0_pay1 (F := Ideal) x0 w0 x1 w1 x2 w2 x3 w3 r (ix2 i j)
      = (r (ix2 i j) : EReal) + (part x0 w0 i j + part x1 w1 i j + part x2 w2 i j + part x3 w3 i j) := by
  pointwise [k0_pay1]
  rfl

theorem ldx0 (x : Vec Ideal S1056x1024 .bf16) (i : Fin 1056) (k : Fin 256) :
    View.ld x r0_0 (ix2 i k) = x (ix2 i ⟨0 * 256 + k.val, by omega⟩) :=
  View.ld_unit_apply_of _ _ _ _ _ _ (fun a => match a with | ⟨0, _⟩ => (Nat.zero_add _).symm | ⟨1, _⟩ => rfl)
theorem ldw0 (w : Wt) (k : Fin 256) (j : Fin 1024) : View.ld w r0_1 (ix4 0 0 k j) = w (ix4 0 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx1 (x : Vec Ideal S1056x1024 .bf16) (i : Fin 1056) (k : Fin 256) :
    View.ld x r0_2 (ix2 i k) = x (ix2 i ⟨1 * 256 + k.val, by omega⟩) :=
  View.ld_unit_apply_of _ _ _ _ _ _ (fun a => match a with | ⟨0, _⟩ => (Nat.zero_add _).symm | ⟨1, _⟩ => rfl)
theorem ldw1 (w : Wt) (k : Fin 256) (j : Fin 1024) : View.ld w r0_3 (ix4 0 0 k j) = w (ix4 1 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx2 (x : Vec Ideal S1056x1024 .bf16) (i : Fin 1056) (k : Fin 256) :
    View.ld x r0_4 (ix2 i k) = x (ix2 i ⟨2 * 256 + k.val, by omega⟩) :=
  View.ld_unit_apply_of _ _ _ _ _ _ (fun a => match a with | ⟨0, _⟩ => (Nat.zero_add _).symm | ⟨1, _⟩ => rfl)
theorem ldw2 (w : Wt) (k : Fin 256) (j : Fin 1024) : View.ld w r0_5 (ix4 0 0 k j) = w (ix4 2 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldx3 (x : Vec Ideal S1056x1024 .bf16) (i : Fin 1056) (k : Fin 256) :
    View.ld x r0_6 (ix2 i k) = x (ix2 i ⟨3 * 256 + k.val, by omega⟩) :=
  View.ld_unit_apply_of _ _ _ _ _ _ (fun a => match a with | ⟨0, _⟩ => (Nat.zero_add _).symm | ⟨1, _⟩ => rfl)
theorem ldw3 (w : Wt) (k : Fin 256) (j : Fin 1024) : View.ld w r0_7 (ix4 0 0 k j) = w (ix4 3 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldr (x : Vec Ideal S1056x1024 .f32) : View.ld x r0_8 = x :=
  View.ld_unit_zero (funext fun a => match a with | ⟨0, _⟩ => rfl | ⟨1, _⟩ => rfl) _ _

theorem prod_split (x : Vec Ideal S1056x1024 .bf16) (w : Wt) (i : Fin 1056) (j : Fin 1024) :
    part (View.ld x r0_0) (View.ld w r0_1) i j + part (View.ld x r0_2) (View.ld w r0_3) i j
      + part (View.ld x r0_4) (View.ld w r0_5) i j + part (View.ld x r0_6) (View.ld w r0_7) i j = prod x w i j := by
  have h : (∑ s : Fin 4, ∑ k : Fin 256, (x (ix2 i ⟨s.val * 256 + k.val, by omega⟩) : EReal) * (w (ix4 s 0 k j) : EReal)) = prod x w i j := by
    refine Fin.sum_mul_add_congr (S := 4) (n := 256) (fun s k hl => ?_) rfl
    have e1 : (⟨(s.val * 256 + k.val) / 256, by omega⟩ : Fin 4) = s := Fin.ext (by show (s.val * 256 + k.val) / 256 = s.val; omega)
    have e2 : (⟨(s.val * 256 + k.val) % 256, by omega⟩ : Fin 256) = k := Fin.ext (by show (s.val * 256 + k.val) % 256 = k.val; omega)
    show _ = (x (ix2 i ⟨s.val * 256 + k.val, _⟩) : EReal)
      * (w (ix4 ⟨(s.val * 256 + k.val) / 256, _⟩ 0 ⟨(s.val * 256 + k.val) % 256, _⟩ j) : EReal)
    rw [e1, e2]
  rw [← h, Fin.sum_univ_four]
  exact congrArg₂ (fun a b : EReal => a + b) (congrArg₂ (fun a b : EReal => a + b) (congrArg₂ (fun a b : EReal => a + b)
    (Finset.sum_congr rfl fun k _ => congrArg₂ (fun a b : EReal => a * b) (ldx0 x i k) (ldw0 w k j))
    (Finset.sum_congr rfl fun k _ => congrArg₂ (fun a b : EReal => a * b) (ldx1 x i k) (ldw1 w k j)))
    (Finset.sum_congr rfl fun k _ => congrArg₂ (fun a b : EReal => a * b) (ldx2 x i k) (ldw2 w k j)))
    (Finset.sum_congr rfl fun k _ => congrArg₂ (fun a b : EReal => a * b) (ldx3 x i k) (ldw3 w k j))

theorem out_apply (x : Vec Ideal S1056x1024 .bf16) (w : Wt) (r : Vec Ideal S1056x1024 .f32) (i : Fin 1056) (j : Fin 1024) :
    out0_3 (F := Ideal) x w r (ix2 i j) = (r (ix2 i j) : EReal) + prod x w i j := by
  have h : out0_3 (F := Ideal) x w r = k0_pay1 (F := Ideal) (View.ld x r0_0) (View.ld w r0_1) (View.ld x r0_2) (View.ld w r0_3)
      (View.ld x r0_4) (View.ld w r0_5) (View.ld x r0_6) (View.ld w r0_7) (View.ld r r0_8) := by
    rw [out0_3]
    exact View.canon_unit_zero (funext fun a => match a with | ⟨0, _⟩ => rfl | ⟨1, _⟩ => rfl) _ _
  rw [h, pay1_apply, prod_split, ldr]

variable (m : (ℓ : Loc nD τ sig) → Buf (Elt Ideal) ℓ) (ρ : Dev nD → PrngReg)

theorem idx : ∀ t : Fin cfg0.N, win0_0.index t = ![t.val, 0] ∧ win0_1.index t = ![0, 0, 0, 0]
    ∧ win0_2.index t = ![t.val, 0] ∧ win0_3.index t = ![t.val, 0] :=
  (by decide +kernel : ∀ t : Fin grid0.N, _)

abbrev A0 (c : Dev nD) : Vec Ideal S8448x1024 .bf16 := m ((c : Thread nD τ).loc main_arg0)
abbrev A1 (c : Dev nD) : Wt := m ((c : Thread nD τ).loc main_arg1)
abbrev A2 (c : Dev nD) : Rows := m ((c : Thread nD τ).loc main_arg2)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem iblk0 (c : Dev nD) (t : Fin cfg0.N) (i : Fin 1056) (j : Fin 1024) :
    iblk m c 0 t (ix2 i j) = A0 m c (ix2 (row t i) j) := by
  blk_ext! [iblk, V, idx t]
theorem iblk1 (c : Dev nD) (t : Fin cfg0.N) (s : Fin 4) (i : Fin 256) (j : Fin 1024) :
    iblk m c 1 t (ix4 s 0 i j) = A1 m c (ix4 s 0 i j) := by
  blk_ext! [iblk, V, idx t]
theorem iblk2 (c : Dev nD) (t : Fin cfg0.N) (i : Fin 1056) (j : Fin 1024) :
    iblk m c 2 t (ix2 i j) = A2 m c (ix2 (row t i) j) := by
  blk_ext! [iblk, V, idx t]

theorem final3 (c : Dev nD) : (dats m 0 c).arrAt 3 cfg0.N = val_main_v4 (F := Ideal) (A0 m c) (A1 m c) (A2 m c) := by
  refine (dats m 0 c).arrAt_eq_of_covers 3 _ (by decide +kernel) fun t hf y => ?_
  obtain ⟨i, j, rfl⟩ : ∃ (i : Fin 1056) (j : Fin 1024), y = ix2 i j := ⟨y 0, y 1, by blk_ext⟩
  blk_simp
  rw [after0_3]
  refine (out_apply _ _ _ i j).trans (Eq.trans ?_ (congrArg _ (?_ : ix2 (row t i) j = _)))
  · rw [ref_apply, prod, prod, iblk2]
    exact congrArg (fun z : EReal => (A2 m c (ix2 (row t i) j) : EReal) + z) (Finset.sum_congr rfl fun k _ => by rw [iblk0, iblk1])
  · blk_ext [idx t]

end Cert.Out0Ideal.Hand

namespace Cert.Hand

/-- The reference leaves its arguments as they were. -/
theorem frame_refOut0 : Cert.quiescent_OutRef0Ideal := fun m ρ _ =>
  (θ_run Cert.OutRef0Ideal.defs _ _).mono (fun r h => ⟨fun c => (h c).2,
      Idealize.ShloMosaic.sem_eq_zero_of_no_sems (by decide) r.2⟩)
    (Cert.OutRef0Ideal.Value.run (F := Ideal) m ρ)

/-- At `Ideal` the kernel's result and the reference's agree. -/
theorem algebraicOut0 : Cert.algebraic_Out0Ideal_OutRef0Ideal := by
  intro m g m' g' _ hagree
  refine ⟨_, Cert.Out0Ideal.Value.run_blocks m g, ?_⟩
  refine θ_run_mono (Cert.OutRef0Ideal.Value.run (F := Ideal) m' g') fun r hr c => ?_
  obtain ⟨h0, k⟩ := hr c
  obtain ⟨e0, e1, e2⟩ := hagree c
  refine ⟨h0.trans ?_, k⟩
  · refine (Cert.OutRef0Ideal.Read.val_main_v4_eq _ _ _).trans (Eq.trans ?_ (Cert.Out0Ideal.Hand.final3 m c).symm)
    congr 1 <;> first | exact e0 | exact e1 | exact e2

end Cert.Hand

end
-- ==== Proof.Out1Value.lean ====
module

public import proofs.«01_k».proof.Defs
public import proofs.«01_k».proof.Proof.Gen.Out1Ideal.Value
public import proofs.«01_k».proof.Proof.Gen.OutRef1Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out1Ideal.Hand

open Cert.Out1Ideal Cert.Out1Ideal.Gen Cert.OutRef1Ideal.Read

abbrev Wt := Vec Ideal S4x1x256x1024 .bf16

/-- Row `i` of the input against column `j` of the joined weight. -/
def prod {R : ℕ} (x : Vec Ideal ⟨2, ![R, 1024]⟩ .f32) (w : Wt) (i : Fin R) (j : Fin 1024) : EReal :=
  ∑ k : Fin 1024, (x (ix2 i k) : EReal) * (w (ix4 ⟨j.val / 256, by omega⟩ 0 ⟨j.val % 256, by omega⟩ k) : EReal)

theorem ref_apply (x : Vec Ideal S8448x1024 .f32) (w : Wt) (i : Fin 8448) (j : Fin 1024) :
    val_main_v5 (F := Ideal) x w (ix2 i j) = prod x w i j := by
  pointwise [val_main_v5, val_main_v4, val_main_v2, val_main_v1]
  rw [prod]

theorem pay2_apply (x : Vec Ideal S1056x1024 .f32) (w : Vec Ideal S1x1x256x1024 .bf16) (i : Fin 1056) (j : Fin 256) :
    k0_pay2 (F := Ideal) x w (ix2 i j) = ∑ k : Fin 1024, (x (ix2 i k) : EReal) * (w (ix4 0 0 j k) : EReal) := by
  pointwise [k0_pay2, k0_pay1]
theorem pay3_apply (x : Vec Ideal S1056x1024 .f32) (w : Vec Ideal S1x1x256x1024 .bf16) (i : Fin 1056) (j : Fin 256) :
    k0_pay3 (F := Ideal) x w (ix2 i j) = ∑ k : Fin 1024, (x (ix2 i k) : EReal) * (w (ix4 0 0 j k) : EReal) := by
  pointwise [k0_pay3, k0_pay1]
theorem pay4_apply (x : Vec Ideal S1056x1024 .f32) (w : Vec Ideal S1x1x256x1024 .bf16) (i : Fin 1056) (j : Fin 256) :
    k0_pay4 (F := Ideal) x w (ix2 i j) = ∑ k : Fin 1024, (x (ix2 i k) : EReal) * (w (ix4 0 0 j k) : EReal) := by
  pointwise [k0_pay4, k0_pay1]
theorem pay5_apply (x : Vec Ideal S1056x1024 .f32) (w : Vec Ideal S1x1x256x1024 .bf16) (i : Fin 1056) (j : Fin 256) :
    k0_pay5 (F := Ideal) x w (ix2 i j) = ∑ k : Fin 1024, (x (ix2 i k) : EReal) * (w (ix4 0 0 j k) : EReal) := by
  pointwise [k0_pay5, k0_pay1]

theorem ldx (x : Vec Ideal S1056x1024 .f32) : View.ld x r0_0 = x :=
  View.ld_unit_zero (funext fun a => match a with | ⟨0, _⟩ => rfl | ⟨1, _⟩ => rfl) _ _

theorem ldw0 (w : Wt) (k : Fin 1024) (j : Fin 256) : View.ld w r0_1 (ix4 0 0 j k) = w (ix4 0 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw1 (w : Wt) (k : Fin 1024) (j : Fin 256) : View.ld w r0_3 (ix4 0 0 j k) = w (ix4 1 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw2 (w : Wt) (k : Fin 1024) (j : Fin 256) : View.ld w r0_5 (ix4 0 0 j k) = w (ix4 2 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw3 (w : Wt) (k : Fin 1024) (j : Fin 256) : View.ld w r0_7 (ix4 0 0 j k) = w (ix4 3 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)

theorem out_apply (x : Vec Ideal S1056x1024 .f32) (w : Wt) (i : Fin 1056) (j : Fin 1024) :
    out0_2 (F := Ideal) x w (ix2 i j) = prod x w i j := by
  rw [out0_2]
  canon_tiles x' h
  · obtain ⟨a, b, rfl⟩ : ∃ (a : Fin 1056) (b : Fin 256), x' = ix2 a b := ⟨x' 0, x' 1, by blk_ext⟩
    have h0' : i.val = a.val := h0
    have h1' : j.val = 768 + b.val := h1
    have b_lt : b.val < 256 := b.isLt
    have ea : a = i := Fin.ext (by omega)
    have e1 : (⟨j.val / 256, by omega⟩ : Fin 4) = 3 := Fin.ext (by show j.val / 256 = 3; omega)
    have e2 : (⟨j.val % 256, by omega⟩ : Fin 256) = b := Fin.ext (by show j.val % 256 = b.val; omega)
    refine (pay5_apply _ _ a b).trans ?_
    rw [prod, e1, e2, ea, ldx]
    exact Finset.sum_congr rfl fun k _ => by rw [ldw3]
  · obtain ⟨a, b, rfl⟩ : ∃ (a : Fin 1056) (b : Fin 256), x' = ix2 a b := ⟨x' 0, x' 1, by blk_ext⟩
    have h0' : i.val = a.val := h0
    have h1' : j.val = 512 + b.val := h1
    have b_lt : b.val < 256 := b.isLt
    have ea : a = i := Fin.ext (by omega)
    have e1 : (⟨j.val / 256, by omega⟩ : Fin 4) = 2 := Fin.ext (by show j.val / 256 = 2; omega)
    have e2 : (⟨j.val % 256, by omega⟩ : Fin 256) = b := Fin.ext (by show j.val % 256 = b.val; omega)
    refine (pay4_apply _ _ a b).trans ?_
    rw [prod, e1, e2, ea, ldx]
    exact Finset.sum_congr rfl fun k _ => by rw [ldw2]
  · obtain ⟨a, b, rfl⟩ : ∃ (a : Fin 1056) (b : Fin 256), x' = ix2 a b := ⟨x' 0, x' 1, by blk_ext⟩
    have h0' : i.val = a.val := h0
    have h1' : j.val = 256 + b.val := h1
    have b_lt : b.val < 256 := b.isLt
    have ea : a = i := Fin.ext (by omega)
    have e1 : (⟨j.val / 256, by omega⟩ : Fin 4) = 1 := Fin.ext (by show j.val / 256 = 1; omega)
    have e2 : (⟨j.val % 256, by omega⟩ : Fin 256) = b := Fin.ext (by show j.val % 256 = b.val; omega)
    refine (pay3_apply _ _ a b).trans ?_
    rw [prod, e1, e2, ea, ldx]
    exact Finset.sum_congr rfl fun k _ => by rw [ldw1]
  · obtain ⟨a, b, rfl⟩ : ∃ (a : Fin 1056) (b : Fin 256), x' = ix2 a b := ⟨x' 0, x' 1, by blk_ext⟩
    have h0' : i.val = a.val := h0
    have h1' : j.val = b.val := h1
    have b_lt : b.val < 256 := b.isLt
    have ea : a = i := Fin.ext (by omega)
    have e1 : (⟨j.val / 256, by omega⟩ : Fin 4) = 0 := Fin.ext (by show j.val / 256 = 0; omega)
    have e2 : (⟨j.val % 256, by omega⟩ : Fin 256) = b := Fin.ext (by show j.val % 256 = b.val; omega)
    refine (pay2_apply _ _ a b).trans ?_
    rw [prod, e1, e2, ea, ldx]
    exact Finset.sum_congr rfl fun k _ => by rw [ldw0]

variable (m : (ℓ : Loc nD τ sig) → Buf (Elt Ideal) ℓ) (ρ : Dev nD → PrngReg)

theorem idx : ∀ t : Fin cfg0.N, win0_0.index t = ![t.val, 0] ∧ win0_1.index t = ![0, 0, 0, 0]
    ∧ win0_2.index t = ![t.val, 0] :=
  (by decide +kernel : ∀ t : Fin grid0.N, _)

abbrev A0 (c : Dev nD) : Vec Ideal S8448x1024 .f32 := m ((c : Thread nD τ).loc main_arg0)
abbrev A1 (c : Dev nD) : Wt := m ((c : Thread nD τ).loc main_arg1)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem iblk0 (c : Dev nD) (t : Fin cfg0.N) (i : Fin 1056) (j : Fin 1024) :
    iblk m c 0 t (ix2 i j) = A0 m c (ix2 (row t i) j) := by
  blk_ext! [iblk, V, idx t]
theorem iblk1 (c : Dev nD) (t : Fin cfg0.N) (s : Fin 4) (i : Fin 256) (j : Fin 1024) :
    iblk m c 1 t (ix4 s 0 i j) = A1 m c (ix4 s 0 i j) := by
  blk_ext! [iblk, V, idx t]

theorem final2 (c : Dev nD) : (dats m 0 c).arrAt 2 cfg0.N = val_main_v5 (F := Ideal) (A0 m c) (A1 m c) := by
  refine (dats m 0 c).arrAt_eq_of_covers 2 _ (by decide +kernel) fun t hf y => ?_
  obtain ⟨i, j, rfl⟩ : ∃ (i : Fin 1056) (j : Fin 1024), y = ix2 i j := ⟨y 0, y 1, by blk_ext⟩
  blk_simp
  rw [after0_2]
  refine (out_apply _ _ i j).trans (Eq.trans ?_ (congrArg _ (?_ : ix2 (row t i) j = _)))
  · rw [ref_apply, prod, prod]
    exact Finset.sum_congr rfl fun k _ => by rw [iblk0, iblk1]
  · blk_ext [idx t]

end Cert.Out1Ideal.Hand

namespace Cert.Hand

/-- The reference leaves its arguments as they were. -/
theorem frame_refOut1 : Cert.quiescent_OutRef1Ideal := fun m ρ _ =>
  (θ_run Cert.OutRef1Ideal.defs _ _).mono (fun r h => ⟨fun c => (h c).2,
      Idealize.ShloMosaic.sem_eq_zero_of_no_sems (by decide) r.2⟩)
    (Cert.OutRef1Ideal.Value.run (F := Ideal) m ρ)

/-- At `Ideal` the kernel's result and the reference's agree. -/
theorem algebraicOut1 : Cert.algebraic_Out1Ideal_OutRef1Ideal := by
  intro m g m' g' _ hagree
  refine ⟨_, Cert.Out1Ideal.Value.run_blocks m g, ?_⟩
  refine θ_run_mono (Cert.OutRef1Ideal.Value.run (F := Ideal) m' g') fun r hr c => ?_
  obtain ⟨h0, k⟩ := hr c
  obtain ⟨e0, e1⟩ := hagree c
  refine ⟨h0.trans ?_, k⟩
  · refine (Cert.OutRef1Ideal.Read.val_main_v5_eq _ _).trans (Eq.trans ?_ (Cert.Out1Ideal.Hand.final2 m c).symm)
    congr 1 <;> first | exact e0 | exact e1

end Cert.Hand

end
-- ==== Proof.Out2Value.lean ====
module

public import proofs.«01_k».proof.Defs
public import proofs.«01_k».proof.Proof.Gen.Out2Ideal.Value
public import proofs.«01_k».proof.Proof.Gen.OutRef2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out2Ideal.Hand

open Cert.Out2Ideal Cert.Out2Ideal.Gen Cert.OutRef2Ideal.Read

/-- The product of the two arguments over `R` rows, at shard `s`. -/
def prod {R : ℕ} (a : Vec Ideal ⟨2, ![R, 1024]⟩ .bf16) (b : Vec Ideal ⟨2, ![R, 1024]⟩ .f32) (s : Fin 4) (i : Fin 256) (j : Fin 1024) : EReal :=
  ∑ k : Fin R, (a (ix2 k ⟨s.val * 256 + i.val, by omega⟩) : EReal) * (b (ix2 k j) : EReal)

theorem ref_apply (a : Vec Ideal S8448x1024 .bf16) (b : Vec Ideal S8448x1024 .f32) (s : Fin 4) (i : Fin 256) (j : Fin 1024) :
    val_main_v8 (F := Ideal) a b (ix3 s i j) = prod a b s i j := by
  pointwise [val_main_v8, val_main_v7, val_main_v6, val_main_v5, val_main_v4, val_main_v1]
  rw [prod]
  exact Finset.sum_congr rfl fun k _ => mul_comm _ _

/-- One shard's product of a tile of rows. -/
def part (a : Vec Ideal S1408x256 .bf16) (b : Vec Ideal S1408x1024 .f32) (i : Fin 256) (j : Fin 1024) : EReal :=
  ∑ k : Fin 1408, (a (ix2 k i) : EReal) * (b (ix2 k j) : EReal)

theorem pay5_apply (a : Vec Ideal S1408x256 .bf16) (b : Vec Ideal S1408x1024 .f32) (l : Vec Ideal S1x256x1024 .f32) (i : Fin 256) (j : Fin 1024) :
    k0_pay5 (F := Ideal) a b l (ix3 0 i j) = (l (ix3 0 i j) : EReal) + part a b i j := by
  pointwise [k0_pay5]
  rfl
theorem pay6_apply (a : Vec Ideal S1408x256 .bf16) (b : Vec Ideal S1408x1024 .f32) (l : Vec Ideal S1x256x1024 .f32) (i : Fin 256) (j : Fin 1024) :
    k0_pay6 (F := Ideal) a b l (ix3 0 i j) = (l (ix3 0 i j) : EReal) + part a b i j := by
  pointwise [k0_pay6]
  rfl
theorem pay1_apply (a : Vec Ideal S1408x256 .bf16) (b : Vec Ideal S1408x1024 .f32) (l : Vec Ideal S1x256x1024 .f32) (i : Fin 256) (j : Fin 1024) :
    k0_pay1 (F := Ideal) a b l (ix3 0 i j) = (l (ix3 0 i j) : EReal) + part a b i j := by
  pointwise [k0_pay1]
  rfl
theorem pay2_apply (a : Vec Ideal S1408x256 .bf16) (b : Vec Ideal S1408x1024 .f32) (l : Vec Ideal S1x256x1024 .f32) (i : Fin 256) (j : Fin 1024) :
    k0_pay2 (F := Ideal) a b l (ix3 0 i j) = (l (ix3 0 i j) : EReal) + part a b i j := by
  pointwise [k0_pay2]
  rfl
theorem pay3_apply (x : Vec Ideal S4x256x1024 .f32) (s : Fin 4) (i : Fin 256) (j : Fin 1024) : k0_pay3 (F := Ideal) x (ix3 s i j) = x (ix3 s i j) := by
  pointwise [k0_pay3]
theorem pay4_apply (s : Fin 4) (i : Fin 256) (j : Fin 1024) : k0_pay4 (F := Ideal) (ix3 s i j) = (0 : EReal) := by
  pointwise [k0_pay4]

theorem lda0 (x : Vec Ideal S1408x1024 .bf16) (k : Fin 1408) (i : Fin 256) :
    View.ld x (Rect.unit ![0, 0] ![1408, 256] inb_S1408x1024_S1408x256_0_0) (ix2 k i) = x (ix2 k ⟨0 * 256 + i.val, by omega⟩) :=
  View.ld_unit_apply_of _ _ _ _ _ _ (fun a => match a with | ⟨0, _⟩ => (Nat.zero_add _).symm | ⟨1, _⟩ => rfl)
theorem lda1 (x : Vec Ideal S1408x1024 .bf16) (k : Fin 1408) (i : Fin 256) :
    View.ld x (Rect.unit ![0, 256] ![1408, 256] inb_S1408x1024_S1408x256_0_256) (ix2 k i) = x (ix2 k ⟨1 * 256 + i.val, by omega⟩) :=
  View.ld_unit_apply_of _ _ _ _ _ _ (fun a => match a with | ⟨0, _⟩ => (Nat.zero_add _).symm | ⟨1, _⟩ => rfl)
theorem lda2 (x : Vec Ideal S1408x1024 .bf16) (k : Fin 1408) (i : Fin 256) :
    View.ld x (Rect.unit ![0, 512] ![1408, 256] inb_S1408x1024_S1408x256_0_512) (ix2 k i) = x (ix2 k ⟨2 * 256 + i.val, by omega⟩) :=
  View.ld_unit_apply_of _ _ _ _ _ _ (fun a => match a with | ⟨0, _⟩ => (Nat.zero_add _).symm | ⟨1, _⟩ => rfl)
theorem lda3 (x : Vec Ideal S1408x1024 .bf16) (k : Fin 1408) (i : Fin 256) :
    View.ld x (Rect.unit ![0, 768] ![1408, 256] inb_S1408x1024_S1408x256_0_768) (ix2 k i) = x (ix2 k ⟨3 * 256 + i.val, by omega⟩) :=
  View.ld_unit_apply_of _ _ _ _ _ _ (fun a => match a with | ⟨0, _⟩ => (Nat.zero_add _).symm | ⟨1, _⟩ => rfl)
theorem lds0 (x : Vec Ideal S4x256x1024 .f32) (i : Fin 256) (j : Fin 1024) :
    View.ld x (Rect.unit ![0, 0, 0] ![1, 256, 1024] inb_S4x256x1024_S1x256x1024_0_0_0) (ix3 0 i j) = x (ix3 0 i j) :=
  View.ld_unit_apply_of _ _ _ _ _ _ (fun a => match a with
    | ⟨0, _⟩ => rfl | ⟨1, _⟩ => (Nat.zero_add _).symm | ⟨2, _⟩ => (Nat.zero_add _).symm)
theorem part0 (x : Vec Ideal S1408x1024 .bf16) (b : Vec Ideal S1408x1024 .f32) (i : Fin 256) (j : Fin 1024) :
    part (View.ld x (Rect.unit ![0, 0] ![1408, 256] inb_S1408x1024_S1408x256_0_0)) b i j = prod x b 0 i j :=
  Finset.sum_congr rfl fun k _ => congrArg₂ (fun a b : EReal => a * b) (lda0 x k i) rfl
theorem emb0 (i : Fin 256) (j : Fin 1024) : (Rect.unit ![0, 0, 0] ![1, 256, 1024] inb_S4x256x1024_S1x256x1024_0_0_0).emb (ix3 0 i j) = (ix3 0 i j : S4x256x1024.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds1 (x : Vec Ideal S4x256x1024 .f32) (i : Fin 256) (j : Fin 1024) :
    View.ld x (Rect.unit ![1, 0, 0] ![1, 256, 1024] inb_S4x256x1024_S1x256x1024_1_0_0) (ix3 0 i j) = x (ix3 1 i j) :=
  View.ld_unit_apply_of _ _ _ _ _ _ (fun a => match a with
    | ⟨0, _⟩ => rfl | ⟨1, _⟩ => (Nat.zero_add _).symm | ⟨2, _⟩ => (Nat.zero_add _).symm)
theorem part1 (x : Vec Ideal S1408x1024 .bf16) (b : Vec Ideal S1408x1024 .f32) (i : Fin 256) (j : Fin 1024) :
    part (View.ld x (Rect.unit ![0, 256] ![1408, 256] inb_S1408x1024_S1408x256_0_256)) b i j = prod x b 1 i j :=
  Finset.sum_congr rfl fun k _ => congrArg₂ (fun a b : EReal => a * b) (lda1 x k i) rfl
theorem emb1 (i : Fin 256) (j : Fin 1024) : (Rect.unit ![1, 0, 0] ![1, 256, 1024] inb_S4x256x1024_S1x256x1024_1_0_0).emb (ix3 0 i j) = (ix3 1 i j : S4x256x1024.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds2 (x : Vec Ideal S4x256x1024 .f32) (i : Fin 256) (j : Fin 1024) :
    View.ld x (Rect.unit ![2, 0, 0] ![1, 256, 1024] inb_S4x256x1024_S1x256x1024_2_0_0) (ix3 0 i j) = x (ix3 2 i j) :=
  View.ld_unit_apply_of _ _ _ _ _ _ (fun a => match a with
    | ⟨0, _⟩ => rfl | ⟨1, _⟩ => (Nat.zero_add _).symm | ⟨2, _⟩ => (Nat.zero_add _).symm)
theorem part2 (x : Vec Ideal S1408x1024 .bf16) (b : Vec Ideal S1408x1024 .f32) (i : Fin 256) (j : Fin 1024) :
    part (View.ld x (Rect.unit ![0, 512] ![1408, 256] inb_S1408x1024_S1408x256_0_512)) b i j = prod x b 2 i j :=
  Finset.sum_congr rfl fun k _ => congrArg₂ (fun a b : EReal => a * b) (lda2 x k i) rfl
theorem emb2 (i : Fin 256) (j : Fin 1024) : (Rect.unit ![2, 0, 0] ![1, 256, 1024] inb_S4x256x1024_S1x256x1024_2_0_0).emb (ix3 0 i j) = (ix3 2 i j : S4x256x1024.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds3 (x : Vec Ideal S4x256x1024 .f32) (i : Fin 256) (j : Fin 1024) :
    View.ld x (Rect.unit ![3, 0, 0] ![1, 256, 1024] inb_S4x256x1024_S1x256x1024_3_0_0) (ix3 0 i j) = x (ix3 3 i j) :=
  View.ld_unit_apply_of _ _ _ _ _ _ (fun a => match a with
    | ⟨0, _⟩ => rfl | ⟨1, _⟩ => (Nat.zero_add _).symm | ⟨2, _⟩ => (Nat.zero_add _).symm)
theorem part3 (x : Vec Ideal S1408x1024 .bf16) (b : Vec Ideal S1408x1024 .f32) (i : Fin 256) (j : Fin 1024) :
    part (View.ld x (Rect.unit ![0, 768] ![1408, 256] inb_S1408x1024_S1408x256_0_768)) b i j = prod x b 3 i j :=
  Finset.sum_congr rfl fun k _ => congrArg₂ (fun a b : EReal => a * b) (lda3 x k i) rfl
theorem emb3 (i : Fin 256) (j : Fin 1024) : (Rect.unit ![3, 0, 0] ![1, 256, 1024] inb_S4x256x1024_S1x256x1024_3_0_0).emb (ix3 0 i j) = (ix3 3 i j : S4x256x1024.Idx) := by
  funext a
  match a with
  | ⟨0, _⟩ => rfl
  | ⟨1, _⟩ => exact Fin.ext (show 0 + 1 * i.val = i.val by omega)
  | ⟨2, _⟩ => exact Fin.ext (show 0 + 1 * j.val = j.val by omega)

/-- The running sum after a tile of rows. -/
abbrev G (acc : Vec Ideal S4x256x1024 .f32) (x : Vec Ideal S1408x1024 .bf16) (b : Vec Ideal S1408x1024 .f32) (y : S4x256x1024.Idx) : EReal :=
  (acc y : EReal) + prod x b (y 0) (y 1) (y 2)

theorem slab_apply (acc : Vec Ideal S4x256x1024 .f32) (x : Vec Ideal S1408x1024 .bf16) (b : Vec Ideal S1408x1024 .f32)
    (l0 l1 l2 l3 : Vec Ideal S1x256x1024 .f32)
    (h0 : ∀ i j, l0 (ix3 0 i j) = acc (ix3 0 i j)) (h1 : ∀ i j, l1 (ix3 0 i j) = acc (ix3 1 i j))
    (h2 : ∀ i j, l2 (ix3 0 i j) = acc (ix3 2 i j)) (h3 : ∀ i j, l3 (ix3 0 i j) = acc (ix3 3 i j))
    (L' : List (View.Piece (Elt Ideal) S4x256x1024 .f32)) (y : S4x256x1024.Idx) :
    View.canon ((⟨(Rect.unit ![3, 0, 0] ![1, 256, 1024] inb_S4x256x1024_S1x256x1024_3_0_0), k0_pay2 (F := Ideal) (View.ld x (Rect.unit ![0, 768] ![1408, 256] inb_S1408x1024_S1408x256_0_768)) b l3⟩ : View.Piece (Elt Ideal) S4x256x1024 .f32)
      :: (⟨(Rect.unit ![2, 0, 0] ![1, 256, 1024] inb_S4x256x1024_S1x256x1024_2_0_0), k0_pay1 (F := Ideal) (View.ld x (Rect.unit ![0, 512] ![1408, 256] inb_S1408x1024_S1408x256_0_512)) b l2⟩ : View.Piece (Elt Ideal) S4x256x1024 .f32)
      :: (⟨(Rect.unit ![1, 0, 0] ![1, 256, 1024] inb_S4x256x1024_S1x256x1024_1_0_0), k0_pay6 (F := Ideal) (View.ld x (Rect.unit ![0, 256] ![1408, 256] inb_S1408x1024_S1408x256_0_256)) b l1⟩ : View.Piece (Elt Ideal) S4x256x1024 .f32)
      :: (⟨(Rect.unit ![0, 0, 0] ![1, 256, 1024] inb_S4x256x1024_S1x256x1024_0_0_0), k0_pay5 (F := Ideal) (View.ld x (Rect.unit ![0, 0] ![1408, 256] inb_S1408x1024_S1408x256_0_0)) b l0⟩ : View.Piece (Elt Ideal) S4x256x1024 .f32) :: L') y = G acc x b y := by
  refine View.canon_append_of_piecesOf (Val := Elt Ideal) (e := .f32) (G acc x b) L' [(⟨(Rect.unit ![3, 0, 0] ![1, 256, 1024] inb_S4x256x1024_S1x256x1024_3_0_0), k0_pay2 (F := Ideal) (View.ld x (Rect.unit ![0, 768] ![1408, 256] inb_S1408x1024_S1408x256_0_768)) b l3⟩ : View.Piece (Elt Ideal) S4x256x1024 .f32),
    (⟨(Rect.unit ![2, 0, 0] ![1, 256, 1024] inb_S4x256x1024_S1x256x1024_2_0_0), k0_pay1 (F := Ideal) (View.ld x (Rect.unit ![0, 512] ![1408, 256] inb_S1408x1024_S1408x256_0_512)) b l2⟩ : View.Piece (Elt Ideal) S4x256x1024 .f32),
    (⟨(Rect.unit ![1, 0, 0] ![1, 256, 1024] inb_S4x256x1024_S1x256x1024_1_0_0), k0_pay6 (F := Ideal) (View.ld x (Rect.unit ![0, 256] ![1408, 256] inb_S1408x1024_S1408x256_0_256)) b l1⟩ : View.Piece (Elt Ideal) S4x256x1024 .f32),
    (⟨(Rect.unit ![0, 0, 0] ![1, 256, 1024] inb_S4x256x1024_S1x256x1024_0_0_0), k0_pay5 (F := Ideal) (View.ld x (Rect.unit ![0, 0] ![1408, 256] inb_S1408x1024_S1408x256_0_0)) b l0⟩ : View.Piece (Elt Ideal) S4x256x1024 .f32)] ⟨?_, ?_, ?_, ?_, trivial⟩ y ?_
  · intro z
    obtain ⟨o, i, j, rfl⟩ : ∃ (o : Fin 1) (i : Fin 256) (j : Fin 1024), z = ix3 o i j := ⟨z 0, z 1, z 2, by blk_ext⟩
    obtain rfl : o = 0 := Subsingleton.elim _ _
    refine (pay2_apply _ _ l3 i j).trans ?_
    refine Eq.trans ?_ (congrArg (G acc x b) (emb3 i j).symm)
    exact congrArg₂ (fun a b : EReal => a + b) (h3 i j) (part3 x b i j)
  · intro z
    obtain ⟨o, i, j, rfl⟩ : ∃ (o : Fin 1) (i : Fin 256) (j : Fin 1024), z = ix3 o i j := ⟨z 0, z 1, z 2, by blk_ext⟩
    obtain rfl : o = 0 := Subsingleton.elim _ _
    refine (pay1_apply _ _ l2 i j).trans ?_
    refine Eq.trans ?_ (congrArg (G acc x b) (emb2 i j).symm)
    exact congrArg₂ (fun a b : EReal => a + b) (h2 i j) (part2 x b i j)
  · intro z
    obtain ⟨o, i, j, rfl⟩ : ∃ (o : Fin 1) (i : Fin 256) (j : Fin 1024), z = ix3 o i j := ⟨z 0, z 1, z 2, by blk_ext⟩
    obtain rfl : o = 0 := Subsingleton.elim _ _
    refine (pay6_apply _ _ l1 i j).trans ?_
    refine Eq.trans ?_ (congrArg (G acc x b) (emb1 i j).symm)
    exact congrArg₂ (fun a b : EReal => a + b) (h1 i j) (part1 x b i j)
  · intro z
    obtain ⟨o, i, j, rfl⟩ : ∃ (o : Fin 1) (i : Fin 256) (j : Fin 1024), z = ix3 o i j := ⟨z 0, z 1, z 2, by blk_ext⟩
    obtain rfl : o = 0 := Subsingleton.elim _ _
    refine (pay5_apply _ _ l0 i j).trans ?_
    refine Eq.trans ?_ (congrArg (G acc x b) (emb0 i j).symm)
    exact congrArg₂ (fun a b : EReal => a + b) (h0 i j) (part0 x b i j)
  · exact View.cover_of_tiledL (s := S4x256x1024) _ S1x256x1024.size (by sl_kernel_rfl) y

variable (m : (ℓ : Loc nD τ sig) → Buf (Elt Ideal) ℓ) (ρ : Dev nD → PrngReg)

theorem idx : ∀ t : Fin cfg0.N, win0_0.index t = ![t.val, 0] ∧ win0_1.index t = ![t.val, 0]
    ∧ win0_2.index t = ![0, 0, 0] :=
  (by decide +kernel : ∀ t : Fin grid0.N, _)

abbrev A0 (c : Dev nD) : Vec Ideal S8448x1024 .bf16 := m ((c : Thread nD τ).loc main_arg0)
abbrev A1 (c : Dev nD) : Vec Ideal S8448x1024 .f32 := m ((c : Thread nD τ).loc main_arg1)

theorem ptlt (t : Fin cfg0.N) (i : Fin 1408) : t.val * 1408 + i.val < 8448 := by
  have : t.val < 6 := lt_of_lt_of_eq t.isLt N_0
  omega

abbrev row (t : Fin cfg0.N) (i : Fin 1408) : Fin 8448 := ⟨t.val * 1408 + i.val, ptlt t i⟩

theorem iblk0 (c : Dev nD) (t : Fin cfg0.N) (i : Fin 1408) (j : Fin 1024) :
    iblk m c 0 t (ix2 i j) = A0 m c (ix2 (row t i) j) := by
  blk_ext! [iblk, V, idx t]
theorem iblk1 (c : Dev nD) (t : Fin cfg0.N) (i : Fin 1408) (j : Fin 1024) :
    iblk m c 1 t (ix2 i j) = A1 m c (ix2 (row t i) j) := by
  blk_ext! [iblk, V, idx t]

/-- What one tile of rows adds. -/
def term (c : Dev nD) (t : Fin cfg0.N) (y : S4x256x1024.Idx) : EReal :=
  prod (R := 1408) (iblk m c 0 t) (iblk m c 1 t) (y 0) (y 1) (y 2)

theorem acc_last (c : Dev nD) (y : S4x256x1024.Idx) : (Gen.outsAt0 m c t0_5.val t0_5.isLt).2 y = ∑ t : Fin cfg0.N, term m c t y := by
  have := Pipeline.eq_sum_fin_of_reset_step_apply_last (fun n h => (Gen.outsAt0 m c n h).2) 6 (fun _ => (0 : EReal))
    (term m c)
    (fun t h0 y => by
      rw [Gen.outsAt0_A m c t h0 (by omega)]
      frame_out
      refine slab_apply (fun _ => (0 : EReal)) _ _ _ _ _ _ ?_ ?_ ?_ ?_ _ y
      · intro i j
        rw [View.readCov_fill _ _ _ _ _ (by decide)]
        exact (lds0 _ i j).trans (pay4_apply 0 i j)
      · intro i j
        rw [View.readCov_skip _ _ _ _ _ (by decide)]
        rw [View.readCov_fill _ _ _ _ _ (by decide)]
        exact (lds1 _ i j).trans (pay4_apply 1 i j)
      · intro i j
        rw [View.readCov_skip _ _ _ _ _ (by decide)]
        rw [View.readCov_skip _ _ _ _ _ (by decide)]
        rw [View.readCov_fill _ _ _ _ _ (by decide)]
        exact (lds2 _ i j).trans (pay4_apply 2 i j)
      · intro i j
        rw [View.readCov_skip _ _ _ _ _ (by decide)]
        rw [View.readCov_skip _ _ _ _ _ (by decide)]
        rw [View.readCov_skip _ _ _ _ _ (by decide)]
        rw [View.readCov_fill _ _ _ _ _ (by decide)]
        exact (lds3 _ i j).trans (pay4_apply 3 i j))
    (fun t h0 y => by
      by_cases h1 : t.val % 6 = 5
      · rw [Gen.outsAt0_C m c t h0 h1]
        frame_out
        simp only [read_unread_whole]
        exact slab_apply _ _ _ _ _ _ _ (lds0 _) (lds1 _) (lds2 _) (lds3 _) _ y
      · rw [Gen.outsAt0_B m c t h0 h1]
        frame_out
        simp only [read_unread_whole]
        exact slab_apply _ _ _ _ _ _ _ (lds0 _) (lds1 _) (lds2 _) (lds3 _) _ y) (le_of_eq Gen.N_0) Gen.t0_5 rfl y
  rw [this, zero_add]

theorem term_ix (c : Dev nD) (t : Fin cfg0.N) (s : Fin 4) (i : Fin 256) (j : Fin 1024) : term m c t (ix3 s i j)
    = ∑ k : Fin 1408, (A0 m c (ix2 (row t k) ⟨s.val * 256 + i.val, by omega⟩) : EReal) * (A1 m c (ix2 (row t k) j) : EReal) := by
  show prod (R := 1408) (iblk m c 0 t) (iblk m c 1 t) s i j = _
  rw [prod]
  exact Finset.sum_congr rfl fun k _ => by rw [iblk0 m c t k ⟨s.val * 256 + i.val, by omega⟩, iblk1 m c t k j]

theorem term_sum (c : Dev nD) (s : Fin 4) (i : Fin 256) (j : Fin 1024) :
    ∑ t : Fin cfg0.N, term m c t (ix3 s i j) = prod (A0 m c) (A1 m c) s i j := by
  refine (Finset.sum_congr rfl fun t _ => term_ix m c t s i j).trans ?_
  exact Fin.sum_mul_add_congr (S := 6) (n := 1408) (fun s p hl => rfl) rfl

theorem out_last (c : Dev nD) (t : Fin cfg0.N) (h0 : ¬ t.val % 6 = 0) (h1 : t.val % 6 = 5) (s : Fin 4) (i : Fin 256) (j : Fin 1024) :
    (Gen.outsAt0 m c t.val t.isLt).1 (ix3 s i j) = (Gen.outsAt0 m c t.val t.isLt).2 (ix3 s i j) := by
  rw [Gen.outsAt0_C m c t h0 h1]
  frame_out
  refine (pay3_apply _ s i j).trans ?_
  rw [View.readCov_eq_canon']
  refine congrArg (View.canon (Val := Elt Ideal) (e := .f32) (s := S4x256x1024) _) ?_
  funext a
  match a with
  | ⟨0, _⟩ => exact Fin.ext (show 0 + 1 * s.val = s.val by omega)
  | ⟨1, _⟩ => exact Fin.ext (show 0 + 1 * i.val = i.val by omega)
  | ⟨2, _⟩ => exact Fin.ext (show 0 + 1 * j.val = j.val by omega)

theorem final2 (c : Dev nD) : (dats m 0 c).arrAt 2 cfg0.N = val_main_v8 (F := Ideal) (A0 m c) (A1 m c) := by
  refine (dats m 0 c).arrAt_eq_of_covers 2 _ (by decide +kernel) fun t hf y => ?_
  obtain ⟨s, i, j, rfl⟩ : ∃ (s : Fin 4) (i : Fin 256) (j : Fin 1024), y = ix3 s i j := ⟨y 0, y 1, y 2, by blk_ext⟩
  have h1 : t.val % 6 = 5 := (Gen.flush0_2 t).mp hf
  have ht : t = t0_5 := Fin.ext (by have : t.val < 6 := lt_of_lt_of_eq t.isLt N_0; show t.val = 5; omega)
  blk_simp
  rw [after0_2]
  refine (out_last m c t (by omega) h1 s i j).trans ?_
  subst ht
  rw [acc_last, term_sum]
  refine Eq.trans ?_ (congrArg _ (?_ : ix3 s i j = _))
  · rw [ref_apply]
  · blk_ext [idx t0_5]

end Cert.Out2Ideal.Hand

namespace Cert.Hand

/-- The reference leaves its arguments as they were. -/
theorem frame_refOut2 : Cert.quiescent_OutRef2Ideal := fun m ρ _ =>
  (θ_run Cert.OutRef2Ideal.defs _ _).mono (fun r h => ⟨fun c => (h c).2,
      Idealize.ShloMosaic.sem_eq_zero_of_no_sems (by decide) r.2⟩)
    (Cert.OutRef2Ideal.Value.run (F := Ideal) m ρ)

/-- At `Ideal` the kernel's result and the reference's agree. -/
theorem algebraicOut2 : Cert.algebraic_Out2Ideal_OutRef2Ideal := by
  intro m g m' g' _ hagree
  refine ⟨_, Cert.Out2Ideal.Value.run_blocks m g, ?_⟩
  refine θ_run_mono (Cert.OutRef2Ideal.Value.run (F := Ideal) m' g') fun r hr c => ?_
  obtain ⟨h0, k⟩ := hr c
  obtain ⟨e0, e1⟩ := hagree c
  refine ⟨h0.trans ?_, k⟩
  · refine (Cert.OutRef2Ideal.Read.val_main_v8_eq _ _).trans (Eq.trans ?_ (Cert.Out2Ideal.Hand.final2 m c).symm)
    congr 1 <;> first | exact e0 | exact e1

end Cert.Hand

end
-- ==== Proof.Glu0Value.lean ====
module

public import proofs.«01_k».proof.Defs
public import proofs.«01_k».proof.Proof.Gen.Glu0Ideal.Value
public import proofs.«01_k».proof.Proof.Gen.GluRef0Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Glu0Ideal.Hand

open Cert.Glu0Ideal Cert.Glu0Ideal.Gen Cert.GluRef0Ideal.Read

abbrev Wt := Vec Ideal S4x1x1024x512 .bf16

/-- Row `i` of the input against column `j` of the joined weight. -/
def prod {R : ℕ} (x : Vec Ideal ⟨2, ![R, 1024]⟩ .bf16) (w : Wt) (i : Fin R) (j : Fin 2048) : EReal :=
  ∑ k : Fin 1024, (x (ix2 i k) : EReal) * (w (ix4 ⟨j.val / 512, by omega⟩ 0 k ⟨j.val % 512, by omega⟩) : EReal)

theorem ref_apply (x : Vec Ideal S8448x1024 .bf16) (w : Wt) (i : Fin 8448) (j : Fin 2048) :
    val_main_v6 (F := Ideal) x w (ix2 i j) = prod x w i j := by
  pointwise [val_main_v6, val_main_v5, val_main_v4, val_main_v3, val_main_v2, val_main_v1, val_main_v0]
  rw [prod]

theorem pay1_apply (x : Vec Ideal S1056x1024 .bf16) (w : Vec Ideal S1x1x1024x512 .bf16) (i : Fin 1056) (j : Fin 512) :
    k0_pay1 (F := Ideal) x w (ix2 i j) = ∑ k : Fin 1024, (x (ix2 i k) : EReal) * (w (ix4 0 0 k j) : EReal) := by
  pointwise [k0_pay1]
theorem pay2_apply (x : Vec Ideal S1056x1024 .bf16) (w : Vec Ideal S1x1x1024x512 .bf16) (i : Fin 1056) (j : Fin 512) :
    k0_pay2 (F := Ideal) x w (ix2 i j) = ∑ k : Fin 1024, (x (ix2 i k) : EReal) * (w (ix4 0 0 k j) : EReal) := by
  pointwise [k0_pay2]
theorem pay3_apply (x : Vec Ideal S1056x1024 .bf16) (w : Vec Ideal S1x1x1024x512 .bf16) (i : Fin 1056) (j : Fin 512) :
    k0_pay3 (F := Ideal) x w (ix2 i j) = ∑ k : Fin 1024, (x (ix2 i k) : EReal) * (w (ix4 0 0 k j) : EReal) := by
  pointwise [k0_pay3]
theorem pay4_apply (x : Vec Ideal S1056x1024 .bf16) (w : Vec Ideal S1x1x1024x512 .bf16) (i : Fin 1056) (j : Fin 512) :
    k0_pay4 (F := Ideal) x w (ix2 i j) = ∑ k : Fin 1024, (x (ix2 i k) : EReal) * (w (ix4 0 0 k j) : EReal) := by
  pointwise [k0_pay4]

theorem ldx (x : Vec Ideal S1056x1024 .bf16) : View.ld x r0_0 = x :=
  View.ld_unit_zero (funext fun a => match a with | ⟨0, _⟩ => rfl | ⟨1, _⟩ => rfl) _ _

theorem ldw0 (w : Wt) (k : Fin 1024) (j : Fin 512) : View.ld w r0_1 (ix4 0 0 k j) = w (ix4 0 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw1 (w : Wt) (k : Fin 1024) (j : Fin 512) : View.ld w r0_3 (ix4 0 0 k j) = w (ix4 1 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw2 (w : Wt) (k : Fin 1024) (j : Fin 512) : View.ld w r0_5 (ix4 0 0 k j) = w (ix4 2 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
theorem ldw3 (w : Wt) (k : Fin 1024) (j : Fin 512) : View.ld w r0_7 (ix4 0 0 k j) = w (ix4 3 0 k j) :=
  View.ld_unit_apply_of _ _ _ _ _ _ (fun a => match a with
    | ⟨0, _⟩ => rfl | ⟨1, _⟩ => rfl | ⟨2, _⟩ => (Nat.zero_add _).symm | ⟨3, _⟩ => (Nat.zero_add _).symm)

theorem out_apply (x : Vec Ideal S1056x1024 .bf16) (w : Wt) (i : Fin 1056) (j : Fin 2048) :
    out0_2 (F := Ideal) x w (ix2 i j) = prod x w i j := by
  rw [out0_2]
  canon_tiles x' h
  · obtain ⟨a, b, rfl⟩ : ∃ (a : Fin 1056) (b : Fin 512), x' = ix2 a b := ⟨x' 0, x' 1, by blk_ext⟩
    have h0' : i.val = a.val := h0
    have h1' : j.val = 1536 + b.val := h1
    have b_lt : b.val < 512 := b.isLt
    have ea : a = i := Fin.ext (by omega)
    have e1 : (⟨j.val / 512, by omega⟩ : Fin 4) = 3 := Fin.ext (by show j.val / 512 = 3; omega)
    have e2 : (⟨j.val % 512, by omega⟩ : Fin 512) = b := Fin.ext (by show j.val % 512 = b.val; omega)
    refine (pay4_apply _ _ a b).trans ?_
    rw [prod, e1, e2, ea, ldx]
    exact Finset.sum_congr rfl fun k _ => by rw [ldw3]
  · obtain ⟨a, b, rfl⟩ : ∃ (a : Fin 1056) (b : Fin 512), x' = ix2 a b := ⟨x' 0, x' 1, by blk_ext⟩
    have h0' : i.val = a.val := h0
    have h1' : j.val = 1024 + b.val := h1
    have b_lt : b.val < 512 := b.isLt
    have ea : a = i := Fin.ext (by omega)
    have e1 : (⟨j.val / 512, by omega⟩ : Fin 4) = 2 := Fin.ext (by show j.val / 512 = 2; omega)
    have e2 : (⟨j.val % 512, by omega⟩ : Fin 512) = b := Fin.ext (by show j.val % 512 = b.val; omega)
    refine (pay3_apply _ _ a b).trans ?_
    rw [prod, e1, e2, ea, ldx]
    exact Finset.sum_congr rfl fun k _ => by rw [ldw2]
  · obtain ⟨a, b, rfl⟩ : ∃ (a : Fin 1056) (b : Fin 512), x' = ix2 a b := ⟨x' 0, x' 1, by blk_ext⟩
    have h0' : i.val = a.val := h0
    have h1' : j.val = 512 + b.val := h1
    have b_lt : b.val < 512 := b.isLt
    have ea : a = i := Fin.ext (by omega)
    have e1 : (⟨j.val / 512, by omega⟩ : Fin 4) = 1 := Fin.ext (by show j.val / 512 = 1; omega)
    have e2 : (⟨j.val % 512, by omega⟩ : Fin 512) = b := Fin.ext (by show j.val % 512 = b.val; omega)
    refine (pay2_apply _ _ a b).trans ?_
    rw [prod, e1, e2, ea, ldx]
    exact Finset.sum_congr rfl fun k _ => by rw [ldw1]
  · obtain ⟨a, b, rfl⟩ : ∃ (a : Fin 1056) (b : Fin 512), x' = ix2 a b := ⟨x' 0, x' 1, by blk_ext⟩
    have h0' : i.val = a.val := h0
    have h1' : j.val = b.val := h1
    have b_lt : b.val < 512 := b.isLt
    have ea : a = i := Fin.ext (by omega)
    have e1 : (⟨j.val / 512, by omega⟩ : Fin 4) = 0 := Fin.ext (by show j.val / 512 = 0; omega)
    have e2 : (⟨j.val % 512, by omega⟩ : Fin 512) = b := Fin.ext (by show j.val % 512 = b.val; omega)
    refine (pay1_apply _ _ a b).trans ?_
    rw [prod, e1, e2, ea, ldx]
    exact Finset.sum_congr rfl fun k _ => by rw [ldw0]

variable (m : (ℓ : Loc nD τ sig) → Buf (Elt Ideal) ℓ) (ρ : Dev nD → PrngReg)

theorem idx : ∀ t : Fin cfg0.N, win0_0.index t = ![t.val, 0] ∧ win0_1.index t = ![0, 0, 0, 0]
    ∧ win0_2.index t = ![t.val, 0] :=
  (by decide +kernel : ∀ t : Fin grid0.N, _)

abbrev A0 (c : Dev nD) : Vec Ideal S8448x1024 .bf16 := m ((c : Thread nD τ).loc main_arg0)
abbrev A1 (c : Dev nD) : Wt := m ((c : Thread nD τ).loc main_arg1)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem iblk0 (c : Dev nD) (t : Fin cfg0.N) (i : Fin 1056) (j : Fin 1024) :
    iblk m c 0 t (ix2 i j) = A0 m c (ix2 (row t i) j) := by
  blk_ext! [iblk, V, idx t]
theorem iblk1 (c : Dev nD) (t : Fin cfg0.N) (s : Fin 4) (i : Fin 1024) (j : Fin 512) :
    iblk m c 1 t (ix4 s 0 i j) = A1 m c (ix4 s 0 i j) := by
  blk_ext! [iblk, V, idx t]

theorem final2 (c : Dev nD) : (dats m 0 c).arrAt 2 cfg0.N = val_main_v6 (F := Ideal) (A0 m c) (A1 m c) := by
  refine (dats m 0 c).arrAt_eq_of_covers 2 _ (by decide +kernel) fun t hf y => ?_
  obtain ⟨i, j, rfl⟩ : ∃ (i : Fin 1056) (j : Fin 2048), y = ix2 i j := ⟨y 0, y 1, by blk_ext⟩
  blk_simp
  rw [after0_2]
  refine (out_apply _ _ i j).trans (Eq.trans ?_ (congrArg _ (?_ : ix2 (row t i) j = _)))
  · rw [ref_apply, prod, prod]
    exact Finset.sum_congr rfl fun k _ => by rw [iblk0, iblk1]
  · blk_ext [idx t]

end Cert.Glu0Ideal.Hand

namespace Cert.Hand

/-- The reference leaves its arguments as they were. -/
theorem frame_refGlu0 : Cert.quiescent_GluRef0Ideal := fun m ρ _ =>
  (θ_run Cert.GluRef0Ideal.defs _ _).mono (fun r h => ⟨fun c => (h c).2,
      Idealize.ShloMosaic.sem_eq_zero_of_no_sems (by decide) r.2⟩)
    (Cert.GluRef0Ideal.Value.run (F := Ideal) m ρ)

/-- At `Ideal` the kernel's result and the reference's agree. -/
theorem algebraicGlu0 : Cert.algebraic_Glu0Ideal_GluRef0Ideal := by
  intro m g m' g' _ hagree
  refine ⟨_, Cert.Glu0Ideal.Value.run_blocks m g, ?_⟩
  refine θ_run_mono (Cert.GluRef0Ideal.Value.run (F := Ideal) m' g') fun r hr c => ?_
  obtain ⟨h0, k⟩ := hr c
  obtain ⟨e0, e1⟩ := hagree c
  refine ⟨h0.trans ?_, k⟩
  · refine (Cert.GluRef0Ideal.Read.val_main_v6_eq _ _).trans (Eq.trans ?_ (Cert.Glu0Ideal.Hand.final2 m c).symm)
    congr 1 <;> first | exact e0 | exact e1

end Cert.Hand

end
-- ==== Proof.Glu1Value.lean ====
module

public import proofs.«01_k».proof.Defs
public import proofs.«01_k».proof.Proof.Gen.Glu1Ideal.Value
public import proofs.«01_k».proof.Proof.Gen.GluRef1Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Glu1Ideal.Hand

open Cert.Glu1Ideal Cert.Glu1Ideal.Gen Cert.GluRef1Ideal.Read

abbrev Rows := Vec Ideal S8448x1024 .f32
abbrev Zs := Vec Ideal S8448x2048 .bf16
abbrev Wt := Vec Ideal S4x1x1024x512 .bf16

/-- The gate. -/
def lg (x : EReal) : EReal := Ideal.div 1 (1 + Ideal.exp (-x))
/-- The gradient of the gated product's two halves. -/
def dz {R : ℕ} (d : Vec Ideal ⟨2, ![R, 1024]⟩ .f32) (z : Vec Ideal ⟨2, ![R, 2048]⟩ .bf16) (i : Fin R) (j : Fin 2048) : EReal :=
  if h : j.val < 1024 then (d (ix2 i ⟨j.val, h⟩) : EReal) * lg (z (ix2 i ⟨1024 + j.val, by omega⟩))
  else (d (ix2 i ⟨j.val - 1024, by omega⟩) : EReal) * (z (ix2 i ⟨j.val - 1024, by omega⟩) : EReal)
    * lg (z (ix2 i ⟨1024 + (j.val - 1024), by omega⟩)) * (1 - lg (z (ix2 i ⟨1024 + (j.val - 1024), by omega⟩)))
/-- That gradient against the joined weight. -/
def prod {R : ℕ} (d : Vec Ideal ⟨2, ![R, 1024]⟩ .f32) (z : Vec Ideal ⟨2, ![R, 2048]⟩ .bf16) (w : Wt) (i : Fin R) (j : Fin 1024) : EReal :=
  ∑ k : Fin 2048, dz d z i k * (w (ix4 ⟨k.val / 512, by omega⟩ 0 j ⟨k.val % 512, by omega⟩) : EReal)

theorem ref16_apply (d : Rows) (z : Zs) (i : Fin 8448) (j : Fin 2048) : val_main_v16 (F := Ideal) d z (ix2 i j) = dz d z i j := by
  pointwise [val_main_v16, val_main_v15, val_main_v14, val_main_v13, val_main_v11, val_main_v10, val_main_v9, val_main_v8, val_main_v7, val_main_v6, val_main_v5, val_main_v4, val_main_v3, val_main_v2, val_main_v1, val_main_v0, val_main_cst, val_main_cst_0, val_main_cst_1]
  rw [dz]
  split
  · rfl
  · show (z _ : EReal) * (d _ : EReal) * (lg _ * (1 - lg _)) = _
    rw [mul_comm (z _ : EReal), mul_assoc _ (lg _)]
theorem ref24_apply (d : Rows) (z : Zs) (i : Fin 8448) (j : Fin 2048) : val_main_v24 (F := Ideal) d z (ix2 i j) = dz d z i j := by
  rw [← ref16_apply]
  pointwise [val_main_v24]
theorem ref25_apply (d : Rows) (z : Zs) (w : Wt) (i : Fin 8448) (j : Fin 1024) :
    val_main_v25 (F := Ideal) d z w (ix2 i j) = prod d z w i j := by
  pointwise [val_main_v25, val_main_v23, val_main_v21, val_main_v20, val_main_v19, val_main_v18]
  simp only [ref16_apply]
  rfl

theorem pay2_apply (g : Vec Ideal S1056x1024 .bf16) (i : Fin 1056) (j : Fin 1024) :
    k0_pay2 (F := Ideal) g (ix2 i j) = lg (g (ix2 i j)) := by
  pointwise [k0_pay2]
  rfl
theorem pay3_apply (g : Vec Ideal S1056x1024 .bf16) (d : Vec Ideal S1056x1024 .f32) (i : Fin 1056) (j : Fin 1024) :
    k0_pay3 (F := Ideal) g d (ix2 i j) = (d (ix2 i j) : EReal) * lg (g (ix2 i j)) := by
  pointwise [k0_pay3]
  rw [pay2_apply]
theorem pay4_apply (g : Vec Ideal S1056x1024 .bf16) (d : Vec Ideal S1056x1024 .f32) (v : Vec Ideal S1056x1024 .bf16) (i : Fin 1056) (j : Fin 1024) :
    k0_pay4 (F := Ideal) g d v (ix2 i j) = (d (ix2 i j) : EReal) * (v (ix2 i j) : EReal) * lg (g (ix2 i j)) * (1 - lg (g (ix2 i j))) := by
  pointwise [k0_pay4]
  rw [pay2_apply]
/-- One shard's part of the product. -/
def part (x : Vec Ideal S1056x512 .bf16) (w : Vec Ideal S1x1x1024x512 .bf16) (i : Fin 1056) (j : Fin 1024) : EReal :=
  ∑ k : Fin 512, (x (ix2 i k) : EReal) * (w (ix4 0 0 j k) : EReal)
theorem pay1_apply (a b c d : Vec Ideal S1056x512 .bf16) (w0 w1 w2 w3 : Vec Ideal S1x1x1024x512 .bf16) (i : Fin 1056) (j : Fin 1024) :
    k0_pay1 (F := Ideal) (k0_pay5 (F := Ideal) a w0 b w1) (k0_pay6 (F := Ideal) c) w2 d w3 (ix2 i j)
      = part a w0 i j + part b w1 i j + part c w2 i j + part d w3 i j := by
  pointwise [k0_pay1, k0_pay5, k0_pay6]
  rfl

theorem ldv (x : Vec Ideal S1056x2048 .bf16) (i : Fin 1056) (j : Fin 1024) :
    View.ld x (Rect.unit ![0, 0] ![1056, 1024] inb_S1056x2048_S1056x1024_0_0) (ix2 i j) = x (ix2 i ⟨j.val, by omega⟩) :=
  View.ld_unit_apply_of _ _ _ _ _ _ (fun a => match a with | ⟨0, _⟩ => (Nat.zero_add _).symm | ⟨1, _⟩ => (Nat.zero_add _).symm)
theorem ldg (x : Vec Ideal S1056x2048 .bf16) (i : Fin 1056) (j : Fin 1024) :
    View.ld x (Rect.unit ![0, 1024] ![1056, 1024] inb_S1056x2048_S1056x1024_0_1024) (ix2 i j) = x (ix2 i ⟨1024 + j.val, by omega⟩) :=
  View.ld_unit_apply_of _ _ _ _ _ _ (fun a => match a with | ⟨0, _⟩ => (Nat.zero_add _).symm | ⟨1, _⟩ => rfl)

/-- The two halves as stored. -/
abbrev zs (d : Vec Ideal S1056x1024 .f32) (z : Vec Ideal S1056x2048 .bf16) : List (View.Piece (Elt Ideal) S1056x2048 .bf16) :=
  [⟨(Rect.unit ![0, 1024] ![1056, 1024] inb_S1056x2048_S1056x1024_0_1024), k0_pay4 (F := Ideal) (View.ld z (Rect.unit ![0, 1024] ![1056, 1024] inb_S1056x2048_S1056x1024_0_1024)) d (View.ld z (Rect.unit ![0, 0] ![1056, 1024] inb_S1056x2048_S1056x1024_0_0))⟩,
    ⟨(Rect.unit ![0, 0] ![1056, 1024] inb_S1056x2048_S1056x1024_0_0), k0_pay3 (F := Ideal) (View.ld z (Rect.unit ![0, 1024] ![1056, 1024] inb_S1056x2048_S1056x1024_0_1024)) d⟩]

theorem zs_apply (d : Vec Ideal S1056x1024 .f32) (z : Vec Ideal S1056x2048 .bf16) (i : Fin 1056) (j : Fin 2048) :
    View.canon (zs d z) (ix2 i j) = dz d z i j := by
  canon_tiles x' h
  · obtain ⟨a, b, rfl⟩ : ∃ (a : Fin 1056) (b : Fin 1024), x' = ix2 a b := ⟨x' 0, x' 1, by blk_ext⟩
    have h0' : i.val = a.val := h0
    have h1' : j.val = 1024 + b.val := h1
    have ea : a = i := Fin.ext (by omega)
    have eb : (⟨j.val - 1024, by omega⟩ : Fin 1024) = b := Fin.ext (by show j.val - 1024 = b.val; omega)
    have e2 : (⟨1024 + (j.val - 1024), by omega⟩ : Fin 2048) = ⟨1024 + b.val, by omega⟩ := Fin.ext (by show 1024 + (j.val - 1024) = 1024 + b.val; omega)
    have e3 : (⟨j.val - 1024, by omega⟩ : Fin 2048) = ⟨b.val, by omega⟩ := Fin.ext (by show j.val - 1024 = b.val; omega)
    refine (pay4_apply _ _ _ a b).trans ?_
    rw [dz, dif_neg (by omega), eb, e2, e3, ea, ldv, ldg]
  · obtain ⟨a, b, rfl⟩ : ∃ (a : Fin 1056) (b : Fin 1024), x' = ix2 a b := ⟨x' 0, x' 1, by blk_ext⟩
    have h0' : i.val = a.val := h0
    have h1' : j.val = b.val := h1
    have b_lt : b.val < 1024 := b.isLt
    have ea : a = i := Fin.ext (by omega)
    have e2 : (⟨1024 + j.val, by omega⟩ : Fin 2048) = ⟨1024 + b.val, by omega⟩ := Fin.ext (by show 1024 + j.val = 1024 + b.val; omega)
    have e3 : (⟨j.val, by omega⟩ : Fin 1024) = b := Fin.ext h1'
    refine (pay3_apply _ _ a b).trans ?_
    rw [dz, dif_pos (by omega), e2, e3, ea, ldg]

abbrev qr0 : Rect S1056x2048 := Rect.unit (s := S1056x2048) ![0, 0] ![1056, 512] inb_S1056x2048_S1056x512_0_0
theorem rc0 {κ : Kind} {sp : Space} (v : View sig κ sp S1056x2048 .bf16) (d : Vec Ideal S1056x1024 .f32) (z : Vec Ideal S1056x2048 .bf16) (i : Fin 1056) (k : Fin 512) :
    v.readCov (zs d z) qr0.toLoadRect (ix2 i k) = dz d z i ⟨0 * 512 + k.val, by omega⟩ := by
  rw [View.readCov_eq_canon', ← zs_apply]
  refine congrArg (View.canon (Val := Elt Ideal) (e := .bf16) (s := S1056x2048) _) ?_
  funext a
  match a with
  | ⟨0, _⟩ => exact Fin.ext (show 0 + 1 * i.val = i.val by omega)
  | ⟨1, _⟩ => exact Fin.ext (show 0 + 1 * k.val = 0 * 512 + k.val by omega)
theorem ldw0 (w : Wt) (j : Fin 1024) (k : Fin 512) : View.ld w (Rect.unit ![0, 0, 0, 0] ![1, 1, 1024, 512] inb_S4x1x1024x512_S1x1x1024x512_0_0_0_0) (ix4 0 0 j k) = w (ix4 0 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
abbrev qr1 : Rect S1056x2048 := Rect.unit (s := S1056x2048) ![0, 512] ![1056, 512] inb_S1056x2048_S1056x512_0_512
theorem rc1 {κ : Kind} {sp : Space} (v : View sig κ sp S1056x2048 .bf16) (d : Vec Ideal S1056x1024 .f32) (z : Vec Ideal S1056x2048 .bf16) (i : Fin 1056) (k : Fin 512) :
    v.readCov (zs d z) qr1.toLoadRect (ix2 i k) = dz d z i ⟨1 * 512 + k.val, by omega⟩ := by
  rw [View.readCov_eq_canon', ← zs_apply]
  refine congrArg (View.canon (Val := Elt Ideal) (e := .bf16) (s := S1056x2048) _) ?_
  funext a
  match a with
  | ⟨0, _⟩ => exact Fin.ext (show 0 + 1 * i.val = i.val by omega)
  | ⟨1, _⟩ => exact Fin.ext (show 512 + 1 * k.val = 1 * 512 + k.val by omega)
theorem ldw1 (w : Wt) (j : Fin 1024) (k : Fin 512) : View.ld w (Rect.unit ![1, 0, 0, 0] ![1, 1, 1024, 512] inb_S4x1x1024x512_S1x1x1024x512_1_0_0_0) (ix4 0 0 j k) = w (ix4 1 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
abbrev qr2 : Rect S1056x2048 := Rect.unit (s := S1056x2048) ![0, 1024] ![1056, 512] inb_S1056x2048_S1056x512_0_1024
theorem rc2 {κ : Kind} {sp : Space} (v : View sig κ sp S1056x2048 .bf16) (d : Vec Ideal S1056x1024 .f32) (z : Vec Ideal S1056x2048 .bf16) (i : Fin 1056) (k : Fin 512) :
    v.readCov (zs d z) qr2.toLoadRect (ix2 i k) = dz d z i ⟨2 * 512 + k.val, by omega⟩ := by
  rw [View.readCov_eq_canon', ← zs_apply]
  refine congrArg (View.canon (Val := Elt Ideal) (e := .bf16) (s := S1056x2048) _) ?_
  funext a
  match a with
  | ⟨0, _⟩ => exact Fin.ext (show 0 + 1 * i.val = i.val by omega)
  | ⟨1, _⟩ => exact Fin.ext (show 1024 + 1 * k.val = 2 * 512 + k.val by omega)
theorem ldw2 (w : Wt) (j : Fin 1024) (k : Fin 512) : View.ld w (Rect.unit ![2, 0, 0, 0] ![1, 1, 1024, 512] inb_S4x1x1024x512_S1x1x1024x512_2_0_0_0) (ix4 0 0 j k) = w (ix4 2 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)
abbrev qr3 : Rect S1056x2048 := Rect.unit (s := S1056x2048) ![0, 1536] ![1056, 512] inb_S1056x2048_S1056x512_0_1536
theorem rc3 {κ : Kind} {sp : Space} (v : View sig κ sp S1056x2048 .bf16) (d : Vec Ideal S1056x1024 .f32) (z : Vec Ideal S1056x2048 .bf16) (i : Fin 1056) (k : Fin 512) :
    v.readCov (zs d z) qr3.toLoadRect (ix2 i k) = dz d z i ⟨3 * 512 + k.val, by omega⟩ := by
  rw [View.readCov_eq_canon', ← zs_apply]
  refine congrArg (View.canon (Val := Elt Ideal) (e := .bf16) (s := S1056x2048) _) ?_
  funext a
  match a with
  | ⟨0, _⟩ => exact Fin.ext (show 0 + 1 * i.val = i.val by omega)
  | ⟨1, _⟩ => exact Fin.ext (show 1536 + 1 * k.val = 3 * 512 + k.val by omega)
theorem ldw3 (w : Wt) (j : Fin 1024) (k : Fin 512) : View.ld w (Rect.unit ![3, 0, 0, 0] ![1, 1, 1024, 512] inb_S4x1x1024x512_S1x1x1024x512_3_0_0_0) (ix4 0 0 j k) = w (ix4 3 0 j k) :=
  View.ld_unit_apply_of _ _ _ _ _ _ (fun a => match a with
    | ⟨0, _⟩ => rfl | ⟨1, _⟩ => rfl | ⟨2, _⟩ => (Nat.zero_add _).symm | ⟨3, _⟩ => (Nat.zero_add _).symm)

theorem prod_split {κ : Kind} {sp : Space} (v : View sig κ sp S1056x2048 .bf16) (d : Vec Ideal S1056x1024 .f32) (z : Vec Ideal S1056x2048 .bf16)
    (w : Wt) (i : Fin 1056) (j : Fin 1024) :
    part (v.readCov (zs d z) qr0.toLoadRect) (View.ld w (Rect.unit ![0, 0, 0, 0] ![1, 1, 1024, 512] inb_S4x1x1024x512_S1x1x1024x512_0_0_0_0)) i j + part (v.readCov (zs d z) qr1.toLoadRect) (View.ld w (Rect.unit ![1, 0, 0, 0] ![1, 1, 1024, 512] inb_S4x1x1024x512_S1x1x1024x512_1_0_0_0)) i j
      + part (v.readCov (zs d z) qr2.toLoadRect) (View.ld w (Rect.unit ![2, 0, 0, 0] ![1, 1, 1024, 512] inb_S4x1x1024x512_S1x1x1024x512_2_0_0_0)) i j + part (v.readCov (zs d z) qr3.toLoadRect) (View.ld w (Rect.unit ![3, 0, 0, 0] ![1, 1, 1024, 512] inb_S4x1x1024x512_S1x1x1024x512_3_0_0_0)) i j
      = prod d z w i j := by
  have h : (∑ s : Fin 4, ∑ k : Fin 512, dz d z i ⟨s.val * 512 + k.val, by omega⟩ * (w (ix4 s 0 j k) : EReal)) = prod d z w i j := by
    refine Fin.sum_mul_add_congr (S := 4) (n := 512) (fun s k hl => ?_) rfl
    have e1 : (⟨(s.val * 512 + k.val) / 512, by omega⟩ : Fin 4) = s := Fin.ext (by show (s.val * 512 + k.val) / 512 = s.val; omega)
    have e2 : (⟨(s.val * 512 + k.val) % 512, by omega⟩ : Fin 512) = k := Fin.ext (by show (s.val * 512 + k.val) % 512 = k.val; omega)
    show _ = dz d z i ⟨s.val * 512 + k.val, _⟩
      * (w (ix4 ⟨(s.val * 512 + k.val) / 512, _⟩ 0 j ⟨(s.val * 512 + k.val) % 512, _⟩) : EReal)
    rw [e1, e2]
  rw [← h, Fin.sum_univ_four]
  exact congrArg₂ (fun a b : EReal => a + b) (congrArg₂ (fun a b : EReal => a + b) (congrArg₂ (fun a b : EReal => a + b)
    (Finset.sum_congr rfl fun k _ => congrArg₂ (fun a b : EReal => a * b) (rc0 v d z i k) (ldw0 w j k))
    (Finset.sum_congr rfl fun k _ => congrArg₂ (fun a b : EReal => a * b) (rc1 v d z i k) (ldw1 w j k)))
    (Finset.sum_congr rfl fun k _ => congrArg₂ (fun a b : EReal => a * b) (rc2 v d z i k) (ldw2 w j k)))
    (Finset.sum_congr rfl fun k _ => congrArg₂ (fun a b : EReal => a * b) (rc3 v d z i k) (ldw3 w j k))

variable (m : (ℓ : Loc nD τ sig) → Buf (Elt Ideal) ℓ) (ρ : Dev nD → PrngReg)

theorem out3_apply (c : Dev nD) (t : Fin cfg0.N) (i : Fin 1056) (j : Fin 2048) :
    (Gen.outsAt0 m c t).1 (ix2 i j) = dz (R := 1056) (iblk m c 0 t) (iblk m c 1 t) i j := by
  rw [Gen.outsAt0]
  frame_out
  exact zs_apply _ _ i j
theorem out4_apply (c : Dev nD) (t : Fin cfg0.N) (i : Fin 1056) (j : Fin 1024) :
    (Gen.outsAt0 m c t).2 (ix2 i j) = prod (R := 1056) (iblk m c 0 t) (iblk m c 1 t) (iblk m c 2 t) i j := by
  rw [Gen.outsAt0]
  frame_out
  exact (pay1_apply _ _ _ _ _ _ _ _ i j).trans (prod_split _ _ _ _ i j)

theorem idx : ∀ t : Fin cfg0.N, win0_0.index t = ![t.val, 0] ∧ win0_1.index t = ![t.val, 0] ∧ win0_2.index t = ![0, 0, 0, 0]
    ∧ win0_3.index t = ![t.val, 0] ∧ win0_4.index t = ![t.val, 0] :=
  (by decide +kernel : ∀ t : Fin grid0.N, _)

abbrev A0 (c : Dev nD) : Rows := m ((c : Thread nD τ).loc main_arg0)
abbrev A1 (c : Dev nD) : Zs := m ((c : Thread nD τ).loc main_arg1)
abbrev A2 (c : Dev nD) : Wt := m ((c : Thread nD τ).loc main_arg2)

theorem ptlt (t : Fin cfg0.N) (i : Fin 1056) : t.val * 1056 + i.val < 8448 := by
  have : t.val < 8 := lt_of_lt_of_eq t.isLt N_0
  omega

abbrev row (t : Fin cfg0.N) (i : Fin 1056) : Fin 8448 := ⟨t.val * 1056 + i.val, ptlt t i⟩

theorem iblk0 (c : Dev nD) (t : Fin cfg0.N) (i : Fin 1056) (j : Fin 1024) :
    iblk m c 0 t (ix2 i j) = A0 m c (ix2 (row t i) j) := by
  blk_ext! [iblk, V, idx t]
theorem iblk1 (c : Dev nD) (t : Fin cfg0.N) (i : Fin 1056) (j : Fin 2048) :
    iblk m c 1 t (ix2 i j) = A1 m c (ix2 (row t i) j) := by
  blk_ext! [iblk, V, idx t]
theorem iblk2 (c : Dev nD) (t : Fin cfg0.N) (s : Fin 4) (i : Fin 1024) (j : Fin 512) :
    iblk m c 2 t (ix4 s 0 i j) = A2 m c (ix4 s 0 i j) := by
  blk_ext! [iblk, V, idx t]

theorem dz_blk (c : Dev nD) (t : Fin cfg0.N) (i : Fin 1056) (k : Fin 2048) :
    dz (R := 1056) (iblk m c 0 t) (iblk m c 1 t) i k = dz (A0 m c) (A1 m c) (row t i) k := by
  rw [dz, dz]
  simp only [iblk0, iblk1]

theorem final3 (c : Dev nD) : (dats m 0 c).arrAt 3 cfg0.N = val_main_v24 (F := Ideal) (A0 m c) (A1 m c) := by
  refine (dats m 0 c).arrAt_eq_of_covers 3 _ (by decide +kernel) fun t hf y => ?_
  obtain ⟨i, j, rfl⟩ : ∃ (i : Fin 1056) (j : Fin 2048), y = ix2 i j := ⟨y 0, y 1, by blk_ext⟩
  blk_simp
  rw [after0_3]
  refine (out3_apply m c t i j).trans (Eq.trans ?_ (congrArg _ (?_ : ix2 (row t i) j = _)))
  · rw [ref24_apply, dz_blk]
  · blk_ext [idx t]

theorem final4 (c : Dev nD) : (dats m 0 c).arrAt 4 cfg0.N = val_main_v25 (F := Ideal) (A0 m c) (A1 m c) (A2 m c) := by
  refine (dats m 0 c).arrAt_eq_of_covers 4 _ (by decide +kernel) fun t hf y => ?_
  obtain ⟨i, j, rfl⟩ : ∃ (i : Fin 1056) (j : Fin 1024), y = ix2 i j := ⟨y 0, y 1, by blk_ext⟩
  blk_simp
  rw [after0_4]
  refine (out4_apply m c t i j).trans (Eq.trans ?_ (congrArg _ (?_ : ix2 (row t i) j = _)))
  · rw [ref25_apply, prod, prod]
    exact Finset.sum_congr rfl fun k _ => by rw [dz_blk, iblk2]
  · blk_ext [idx t]

end Cert.Glu1Ideal.Hand

namespace Cert.Hand

/-- The reference leaves its arguments as they were. -/
theorem frame_refGlu1 : Cert.quiescent_GluRef1Ideal := fun m ρ _ =>
  (θ_run Cert.GluRef1Ideal.defs _ _).mono (fun r h => ⟨fun c => (h c).2.2,
      Idealize.ShloMosaic.sem_eq_zero_of_no_sems (by decide) r.2⟩)
    (Cert.GluRef1Ideal.Value.run (F := Ideal) m ρ)

/-- At `Ideal` the kernel's result and the reference's agree. -/
theorem algebraicGlu1 : Cert.algebraic_Glu1Ideal_GluRef1Ideal := by
  intro m g m' g' _ hagree
  refine ⟨_, _, Cert.Glu1Ideal.Value.run_blocks m g, ?_⟩
  refine θ_run_mono (Cert.GluRef1Ideal.Value.run (F := Ideal) m' g') fun r hr c => ?_
  obtain ⟨h0, h1, k⟩ := hr c
  obtain ⟨e0, e1, e2⟩ := hagree c
  refine ⟨h0.trans ?_, h1.trans ?_, k⟩
  · refine (Cert.GluRef1Ideal.Read.val_main_v24_eq _ _).trans (Eq.trans ?_ (Cert.Glu1Ideal.Hand.final3 m c).symm)
    congr 1 <;> first | exact e0 | exact e1 | exact e2
  · refine (Cert.GluRef1Ideal.Read.val_main_v25_eq _ _ _).trans (Eq.trans ?_ (Cert.Glu1Ideal.Hand.final4 m c).symm)
    congr 1 <;> first | exact e0 | exact e1 | exact e2

end Cert.Hand

end
-- ==== Proof.Glu2Value.lean ====
module

public import proofs.«01_k».proof.Defs
public import proofs.«01_k».proof.Proof.Gen.Glu2Ideal.Value
public import proofs.«01_k».proof.Proof.Gen.GluRef2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Glu2Ideal.Hand

open Cert.Glu2Ideal Cert.Glu2Ideal.Gen Cert.GluRef2Ideal.Read

/-- The product of the two arguments over `R` rows, at shard `s`. -/
def prod {R : ℕ} (a : Vec Ideal ⟨2, ![R, 1024]⟩ .bf16) (b : Vec Ideal ⟨2, ![R, 2048]⟩ .bf16) (s : Fin 4) (i : Fin 1024) (j : Fin 512) : EReal :=
  ∑ k : Fin R, (a (ix2 k i) : EReal) * (b (ix2 k ⟨s.val * 512 + j.val, by omega⟩) : EReal)

theorem ref_apply (a : Vec Ideal S8448x1024 .bf16) (b : Vec Ideal S8448x2048 .bf16) (s : Fin 4) (i : Fin 1024) (j : Fin 512) :
    val_main_v13 (F := Ideal) a b (ix3 s i j) = prod a b s i j := by
  pointwise [val_main_v13, val_main_v12, val_main_v11, val_main_v10, val_main_v9, val_main_v8, val_main_v7, val_main_v6, val_main_v1]
  rw [prod]
  exact Finset.sum_congr rfl fun k _ => mul_comm _ _

/-- One shard's product of a tile of rows. -/
def part (a : Vec Ideal S1408x1024 .bf16) (b : Vec Ideal S1408x512 .bf16) (i : Fin 1024) (j : Fin 512) : EReal :=
  ∑ k : Fin 1408, (a (ix2 k i) : EReal) * (b (ix2 k j) : EReal)

theorem pay5_apply (a : Vec Ideal S1408x1024 .bf16) (b : Vec Ideal S1408x512 .bf16) (l : Vec Ideal S1x1024x512 .f32) (i : Fin 1024) (j : Fin 512) :
    k0_pay5 (F := Ideal) a b l (ix3 0 i j) = (l (ix3 0 i j) : EReal) + part a b i j := by
  pointwise [k0_pay5]
  rfl
theorem pay6_apply (a : Vec Ideal S1408x1024 .bf16) (b : Vec Ideal S1408x512 .bf16) (l : Vec Ideal S1x1024x512 .f32) (i : Fin 1024) (j : Fin 512) :
    k0_pay6 (F := Ideal) a b l (ix3 0 i j) = (l (ix3 0 i j) : EReal) + part a b i j := by
  pointwise [k0_pay6]
  rfl
theorem pay1_apply (a : Vec Ideal S1408x1024 .bf16) (b : Vec Ideal S1408x512 .bf16) (l : Vec Ideal S1x1024x512 .f32) (i : Fin 1024) (j : Fin 512) :
    k0_pay1 (F := Ideal) a b (k0_pay7 (F := Ideal) l) (ix3 0 i j) = (l (ix3 0 i j) : EReal) + part a b i j := by
  pointwise [k0_pay1, k0_pay7]
  rfl
theorem pay2_apply (a : Vec Ideal S1408x1024 .bf16) (b : Vec Ideal S1408x512 .bf16) (l : Vec Ideal S1x1024x512 .f32) (i : Fin 1024) (j : Fin 512) :
    k0_pay2 (F := Ideal) a b l (ix3 0 i j) = (l (ix3 0 i j) : EReal) + part a b i j := by
  pointwise [k0_pay2]
  rfl
theorem pay3_apply (x : Vec Ideal S4x1024x512 .f32) (s : Fin 4) (i : Fin 1024) (j : Fin 512) : k0_pay3 (F := Ideal) x (ix3 s i j) = x (ix3 s i j) := by
  pointwise [k0_pay3]
theorem pay4_apply (s : Fin 4) (i : Fin 1024) (j : Fin 512) : k0_pay4 (F := Ideal) (ix3 s i j) = (0 : EReal) := by
  pointwise [k0_pay4]

theorem ldb0 (x : Vec Ideal S1408x2048 .bf16) (k : Fin 1408) (j : Fin 512) :
    View.ld x (Rect.unit ![0, 0] ![1408, 512] inb_S1408x2048_S1408x512_0_0) (ix2 k j) = x (ix2 k ⟨0 * 512 + j.val, by omega⟩) :=
  View.ld_unit_apply_of _ _ _ _ _ _ (fun a => match a with | ⟨0, _⟩ => (Nat.zero_add _).symm | ⟨1, _⟩ => rfl)
theorem ldb1 (x : Vec Ideal S1408x2048 .bf16) (k : Fin 1408) (j : Fin 512) :
    View.ld x (Rect.unit ![0, 512] ![1408, 512] inb_S1408x2048_S1408x512_0_512) (ix2 k j) = x (ix2 k ⟨1 * 512 + j.val, by omega⟩) :=
  View.ld_unit_apply_of _ _ _ _ _ _ (fun a => match a with | ⟨0, _⟩ => (Nat.zero_add _).symm | ⟨1, _⟩ => rfl)
theorem ldb2 (x : Vec Ideal S1408x2048 .bf16) (k : Fin 1408) (j : Fin 512) :
    View.ld x (Rect.unit ![0, 1024] ![1408, 512] inb_S1408x2048_S1408x512_0_1024) (ix2 k j) = x (ix2 k ⟨2 * 512 + j.val, by omega⟩) :=
  View.ld_unit_apply_of _ _ _ _ _ _ (fun a => match a with | ⟨0, _⟩ => (Nat.zero_add _).symm | ⟨1, _⟩ => rfl)
theorem ldb3 (x : Vec Ideal S1408x2048 .bf16) (k : Fin 1408) (j : Fin 512) :
    View.ld x (Rect.unit ![0, 1536] ![1408, 512] inb_S1408x2048_S1408x512_0_1536) (ix2 k j) = x (ix2 k ⟨3 * 512 + j.val, by omega⟩) :=
  View.ld_unit_apply_of _ _ _ _ _ _ (fun a => match a with | ⟨0, _⟩ => (Nat.zero_add _).symm | ⟨1, _⟩ => rfl)
theorem lds0 (x : Vec Ideal S4x1024x512 .f32) (i : Fin 1024) (j : Fin 512) :
    View.ld x (Rect.unit ![0, 0, 0] ![1, 1024, 512] inb_S4x1024x512_S1x1024x512_0_0_0) (ix3 0 i j) = x (ix3 0 i j) :=
  View.ld_unit_apply_of _ _ _ _ _ _ (fun a => match a with
    | ⟨0, _⟩ => rfl | ⟨1, _⟩ => (Nat.zero_add _).symm | ⟨2, _⟩ => (Nat.zero_add _).symm)
theorem part0 (x : Vec Ideal S1408x1024 .bf16) (b : Vec Ideal S1408x2048 .bf16) (i : Fin 1024) (j : Fin 512) :
    part x (View.ld b (Rect.unit ![0, 0] ![1408, 512] inb_S1408x2048_S1408x512_0_0)) i j = prod x b 0 i j :=
  Finset.sum_congr rfl fun k _ => congrArg₂ (fun a b : EReal => a * b) rfl (ldb0 b k j)
theorem emb0 (i : Fin 1024) (j : Fin 512) : (Rect.unit ![0, 0, 0] ![1, 1024, 512] inb_S4x1024x512_S1x1024x512_0_0_0).emb (ix3 0 i j) = (ix3 0 i j : S4x1024x512.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds1 (x : Vec Ideal S4x1024x512 .f32) (i : Fin 1024) (j : Fin 512) :
    View.ld x (Rect.unit ![1, 0, 0] ![1, 1024, 512] inb_S4x1024x512_S1x1024x512_1_0_0) (ix3 0 i j) = x (ix3 1 i j) :=
  View.ld_unit_apply_of _ _ _ _ _ _ (fun a => match a with
    | ⟨0, _⟩ => rfl | ⟨1, _⟩ => (Nat.zero_add _).symm | ⟨2, _⟩ => (Nat.zero_add _).symm)
theorem part1 (x : Vec Ideal S1408x1024 .bf16) (b : Vec Ideal S1408x2048 .bf16) (i : Fin 1024) (j : Fin 512) :
    part x (View.ld b (Rect.unit ![0, 512] ![1408, 512] inb_S1408x2048_S1408x512_0_512)) i j = prod x b 1 i j :=
  Finset.sum_congr rfl fun k _ => congrArg₂ (fun a b : EReal => a * b) rfl (ldb1 b k j)
theorem emb1 (i : Fin 1024) (j : Fin 512) : (Rect.unit ![1, 0, 0] ![1, 1024, 512] inb_S4x1024x512_S1x1024x512_1_0_0).emb (ix3 0 i j) = (ix3 1 i j : S4x1024x512.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds2 (x : Vec Ideal S4x1024x512 .f32) (i : Fin 1024) (j : Fin 512) :
    View.ld x (Rect.unit ![2, 0, 0] ![1, 1024, 512] inb_S4x1024x512_S1x1024x512_2_0_0) (ix3 0 i j) = x (ix3 2 i j) :=
  View.ld_unit_apply_of _ _ _ _ _ _ (fun a => match a with
    | ⟨0, _⟩ => rfl | ⟨1, _⟩ => (Nat.zero_add _).symm | ⟨2, _⟩ => (Nat.zero_add _).symm)
theorem part2 (x : Vec Ideal S1408x1024 .bf16) (b : Vec Ideal S1408x2048 .bf16) (i : Fin 1024) (j : Fin 512) :
    part x (View.ld b (Rect.unit ![0, 1024] ![1408, 512] inb_S1408x2048_S1408x512_0_1024)) i j = prod x b 2 i j :=
  Finset.sum_congr rfl fun k _ => congrArg₂ (fun a b : EReal => a * b) rfl (ldb2 b k j)
theorem emb2 (i : Fin 1024) (j : Fin 512) : (Rect.unit ![2, 0, 0] ![1, 1024, 512] inb_S4x1024x512_S1x1024x512_2_0_0).emb (ix3 0 i j) = (ix3 2 i j : S4x1024x512.Idx) := by
  funext a
  match a with
  | ⟨0, _⟩ => rfl
  | ⟨1, _⟩ => exact Fin.ext (show 0 + 1 * i.val = i.val by omega)
  | ⟨2, _⟩ => exact Fin.ext (show 0 + 1 * j.val = j.val by omega)
theorem lds3 (x : Vec Ideal S4x1024x512 .f32) (i : Fin 1024) (j : Fin 512) :
    View.ld x (Rect.unit ![3, 0, 0] ![1, 1024, 512] inb_S4x1024x512_S1x1024x512_3_0_0) (ix3 0 i j) = x (ix3 3 i j) :=
  View.ld_unit_apply_of _ _ _ _ _ _ (fun a => match a with
    | ⟨0, _⟩ => rfl | ⟨1, _⟩ => (Nat.zero_add _).symm | ⟨2, _⟩ => (Nat.zero_add _).symm)
theorem part3 (x : Vec Ideal S1408x1024 .bf16) (b : Vec Ideal S1408x2048 .bf16) (i : Fin 1024) (j : Fin 512) :
    part x (View.ld b (Rect.unit ![0, 1536] ![1408, 512] inb_S1408x2048_S1408x512_0_1536)) i j = prod x b 3 i j :=
  Finset.sum_congr rfl fun k _ => congrArg₂ (fun a b : EReal => a * b) rfl (ldb3 b k j)
theorem emb3 (i : Fin 1024) (j : Fin 512) : (Rect.unit ![3, 0, 0] ![1, 1024, 512] inb_S4x1024x512_S1x1024x512_3_0_0).emb (ix3 0 i j) = (ix3 3 i j : S4x1024x512.Idx) := by
  funext a
  match a with
  | ⟨0, _⟩ => rfl
  | ⟨1, _⟩ => exact Fin.ext (show 0 + 1 * i.val = i.val by omega)
  | ⟨2, _⟩ => exact Fin.ext (show 0 + 1 * j.val = j.val by omega)

/-- The running sum after a tile of rows. -/
abbrev G (acc : Vec Ideal S4x1024x512 .f32) (x : Vec Ideal S1408x1024 .bf16) (b : Vec Ideal S1408x2048 .bf16) (y : S4x1024x512.Idx) : EReal :=
  (acc y : EReal) + prod x b (y 0) (y 1) (y 2)

theorem slab_apply (acc : Vec Ideal S4x1024x512 .f32) (x : Vec Ideal S1408x1024 .bf16) (b : Vec Ideal S1408x2048 .bf16)
    (l0 l1 l2 l3 : Vec Ideal S1x1024x512 .f32)
    (h0 : ∀ i j, l0 (ix3 0 i j) = acc (ix3 0 i j)) (h1 : ∀ i j, l1 (ix3 0 i j) = acc (ix3 1 i j))
    (h2 : ∀ i j, l2 (ix3 0 i j) = acc (ix3 2 i j)) (h3 : ∀ i j, l3 (ix3 0 i j) = acc (ix3 3 i j))
    (L' : List (View.Piece (Elt Ideal) S4x1024x512 .f32)) (y : S4x1024x512.Idx) :
    View.canon ((⟨(Rect.unit ![3, 0, 0] ![1, 1024, 512] inb_S4x1024x512_S1x1024x512_3_0_0), k0_pay2 (F := Ideal) x (View.ld b (Rect.unit ![0, 1536] ![1408, 512] inb_S1408x2048_S1408x512_0_1536)) l3⟩ : View.Piece (Elt Ideal) S4x1024x512 .f32)
      :: (⟨(Rect.unit ![2, 0, 0] ![1, 1024, 512] inb_S4x1024x512_S1x1024x512_2_0_0), k0_pay1 (F := Ideal) x (View.ld b (Rect.unit ![0, 1024] ![1408, 512] inb_S1408x2048_S1408x512_0_1024)) (k0_pay7 (F := Ideal) l2)⟩ : View.Piece (Elt Ideal) S4x1024x512 .f32)
      :: (⟨(Rect.unit ![1, 0, 0] ![1, 1024, 512] inb_S4x1024x512_S1x1024x512_1_0_0), k0_pay6 (F := Ideal) x (View.ld b (Rect.unit ![0, 512] ![1408, 512] inb_S1408x2048_S1408x512_0_512)) l1⟩ : View.Piece (Elt Ideal) S4x1024x512 .f32)
      :: (⟨(Rect.unit ![0, 0, 0] ![1, 1024, 512] inb_S4x1024x512_S1x1024x512_0_0_0), k0_pay5 (F := Ideal) x (View.ld b (Rect.unit ![0, 0] ![1408, 512] inb_S1408x2048_S1408x512_0_0)) l0⟩ : View.Piece (Elt Ideal) S4x1024x512 .f32) :: L') y = G acc x b y := by
  refine View.canon_append_of_piecesOf (Val := Elt Ideal) (e := .f32) (G acc x b) L' [(⟨(Rect.unit ![3, 0, 0] ![1, 1024, 512] inb_S4x1024x512_S1x1024x512_3_0_0), k0_pay2 (F := Ideal) x (View.ld b (Rect.unit ![0, 1536] ![1408, 512] inb_S1408x2048_S1408x512_0_1536)) l3⟩ : View.Piece (Elt Ideal) S4x1024x512 .f32),
    (⟨(Rect.unit ![2, 0, 0] ![1, 1024, 512] inb_S4x1024x512_S1x1024x512_2_0_0), k0_pay1 (F := Ideal) x (View.ld b (Rect.unit ![0, 1024] ![1408, 512] inb_S1408x2048_S1408x512_0_1024)) (k0_pay7 (F := Ideal) l2)⟩ : View.Piece (Elt Ideal) S4x1024x512 .f32),
    (⟨(Rect.unit ![1, 0, 0] ![1, 1024, 512] inb_S4x1024x512_S1x1024x512_1_0_0), k0_pay6 (F := Ideal) x (View.ld b (Rect.unit ![0, 512] ![1408, 512] inb_S1408x2048_S1408x512_0_512)) l1⟩ : View.Piece (Elt Ideal) S4x1024x512 .f32),
    (⟨(Rect.unit ![0, 0, 0] ![1, 1024, 512] inb_S4x1024x512_S1x1024x512_0_0_0), k0_pay5 (F := Ideal) x (View.ld b (Rect.unit ![0, 0] ![1408, 512] inb_S1408x2048_S1408x512_0_0)) l0⟩ : View.Piece (Elt Ideal) S4x1024x512 .f32)] ⟨?_, ?_, ?_, ?_, trivial⟩ y ?_
  · intro z
    obtain ⟨o, i, j, rfl⟩ : ∃ (o : Fin 1) (i : Fin 1024) (j : Fin 512), z = ix3 o i j := ⟨z 0, z 1, z 2, by blk_ext⟩
    obtain rfl : o = 0 := Subsingleton.elim _ _
    refine (pay2_apply _ _ l3 i j).trans ?_
    refine Eq.trans ?_ (congrArg (G acc x b) (emb3 i j).symm)
    exact congrArg₂ (fun a b : EReal => a + b) (h3 i j) (part3 x b i j)
  · intro z
    obtain ⟨o, i, j, rfl⟩ : ∃ (o : Fin 1) (i : Fin 1024) (j : Fin 512), z = ix3 o i j := ⟨z 0, z 1, z 2, by blk_ext⟩
    obtain rfl : o = 0 := Subsingleton.elim _ _
    refine (pay1_apply _ _ l2 i j).trans ?_
    refine Eq.trans ?_ (congrArg (G acc x b) (emb2 i j).symm)
    exact congrArg₂ (fun a b : EReal => a + b) (h2 i j) (part2 x b i j)
  · intro z
    obtain ⟨o, i, j, rfl⟩ : ∃ (o : Fin 1) (i : Fin 1024) (j : Fin 512), z = ix3 o i j := ⟨z 0, z 1, z 2, by blk_ext⟩
    obtain rfl : o = 0 := Subsingleton.elim _ _
    refine (pay6_apply _ _ l1 i j).trans ?_
    refine Eq.trans ?_ (congrArg (G acc x b) (emb1 i j).symm)
    exact congrArg₂ (fun a b : EReal => a + b) (h1 i j) (part1 x b i j)
  · intro z
    obtain ⟨o, i, j, rfl⟩ : ∃ (o : Fin 1) (i : Fin 1024) (j : Fin 512), z = ix3 o i j := ⟨z 0, z 1, z 2, by blk_ext⟩
    obtain rfl : o = 0 := Subsingleton.elim _ _
    refine (pay5_apply _ _ l0 i j).trans ?_
    refine Eq.trans ?_ (congrArg (G acc x b) (emb0 i j).symm)
    exact congrArg₂ (fun a b : EReal => a + b) (h0 i j) (part0 x b i j)
  · exact View.cover_of_tiledL (s := S4x1024x512) _ S1x1024x512.size (by sl_kernel_rfl) y

variable (m : (ℓ : Loc nD τ sig) → Buf (Elt Ideal) ℓ) (ρ : Dev nD → PrngReg)

theorem idx : ∀ t : Fin cfg0.N, win0_0.index t = ![t.val, 0] ∧ win0_1.index t = ![t.val, 0]
    ∧ win0_2.index t = ![0, 0, 0] :=
  (by decide +kernel : ∀ t : Fin grid0.N, _)

abbrev A0 (c : Dev nD) : Vec Ideal S8448x1024 .bf16 := m ((c : Thread nD τ).loc main_arg0)
abbrev A1 (c : Dev nD) : Vec Ideal S8448x2048 .bf16 := m ((c : Thread nD τ).loc main_arg1)

theorem ptlt (t : Fin cfg0.N) (i : Fin 1408) : t.val * 1408 + i.val < 8448 := by
  have : t.val < 6 := lt_of_lt_of_eq t.isLt N_0
  omega

abbrev row (t : Fin cfg0.N) (i : Fin 1408) : Fin 8448 := ⟨t.val * 1408 + i.val, ptlt t i⟩

theorem iblk0 (c : Dev nD) (t : Fin cfg0.N) (i : Fin 1408) (j : Fin 1024) :
    iblk m c 0 t (ix2 i j) = A0 m c (ix2 (row t i) j) := by
  blk_ext! [iblk, V, idx t]
theorem iblk1 (c : Dev nD) (t : Fin cfg0.N) (i : Fin 1408) (j : Fin 2048) :
    iblk m c 1 t (ix2 i j) = A1 m c (ix2 (row t i) j) := by
  blk_ext! [iblk, V, idx t]

/-- What one tile of rows adds. -/
def term (c : Dev nD) (t : Fin cfg0.N) (y : S4x1024x512.Idx) : EReal :=
  prod (R := 1408) (iblk m c 0 t) (iblk m c 1 t) (y 0) (y 1) (y 2)

theorem acc_last (c : Dev nD) (y : S4x1024x512.Idx) : (Gen.outsAt0 m c t0_5.val t0_5.isLt).2 y = ∑ t : Fin cfg0.N, term m c t y := by
  have := Pipeline.eq_sum_fin_of_reset_step_apply_last (fun n h => (Gen.outsAt0 m c n h).2) 6 (fun _ => (0 : EReal))
    (term m c)
    (fun t h0 y => by
      rw [Gen.outsAt0_A m c t h0 (by omega)]
      frame_out
      refine slab_apply (fun _ => (0 : EReal)) _ _ _ _ _ _ ?_ ?_ ?_ ?_ _ y
      · intro i j
        rw [View.readCov_fill _ _ _ _ _ (by decide)]
        exact (lds0 _ i j).trans (pay4_apply 0 i j)
      · intro i j
        rw [View.readCov_skip _ _ _ _ _ (by decide)]
        rw [View.readCov_fill _ _ _ _ _ (by decide)]
        exact (lds1 _ i j).trans (pay4_apply 1 i j)
      · intro i j
        rw [View.readCov_skip _ _ _ _ _ (by decide)]
        rw [View.readCov_skip _ _ _ _ _ (by decide)]
        rw [View.readCov_fill _ _ _ _ _ (by decide)]
        exact (lds2 _ i j).trans (pay4_apply 2 i j)
      · intro i j
        rw [View.readCov_skip _ _ _ _ _ (by decide)]
        rw [View.readCov_skip _ _ _ _ _ (by decide)]
        rw [View.readCov_skip _ _ _ _ _ (by decide)]
        rw [View.readCov_fill _ _ _ _ _ (by decide)]
        exact (lds3 _ i j).trans (pay4_apply 3 i j))
    (fun t h0 y => by
      by_cases h1 : t.val % 6 = 5
      · rw [Gen.outsAt0_C m c t h0 h1]
        frame_out
        simp only [read_unread_whole]
        exact slab_apply _ _ _ _ _ _ _ (lds0 _) (lds1 _) (lds2 _) (lds3 _) _ y
      · rw [Gen.outsAt0_B m c t h0 h1]
        frame_out
        simp only [read_unread_whole]
        exact slab_apply _ _ _ _ _ _ _ (lds0 _) (lds1 _) (lds2 _) (lds3 _) _ y) (le_of_eq Gen.N_0) Gen.t0_5 rfl y
  rw [this, zero_add]

theorem term_ix (c : Dev nD) (t : Fin cfg0.N) (s : Fin 4) (i : Fin 1024) (j : Fin 512) : term m c t (ix3 s i j)
    = ∑ k : Fin 1408, (A0 m c (ix2 (row t k) i) : EReal) * (A1 m c (ix2 (row t k) ⟨s.val * 512 + j.val, by omega⟩) : EReal) := by
  show prod (R := 1408) (iblk m c 0 t) (iblk m c 1 t) s i j = _
  rw [prod]
  exact Finset.sum_congr rfl fun k _ => by rw [iblk0 m c t k i, iblk1 m c t k ⟨s.val * 512 + j.val, by omega⟩]

theorem term_sum (c : Dev nD) (s : Fin 4) (i : Fin 1024) (j : Fin 512) :
    ∑ t : Fin cfg0.N, term m c t (ix3 s i j) = prod (A0 m c) (A1 m c) s i j := by
  refine (Finset.sum_congr rfl fun t _ => term_ix m c t s i j).trans ?_
  exact Fin.sum_mul_add_congr (S := 6) (n := 1408) (fun s p hl => rfl) rfl

theorem out_last (c : Dev nD) (t : Fin cfg0.N) (h0 : ¬ t.val % 6 = 0) (h1 : t.val % 6 = 5) (s : Fin 4) (i : Fin 1024) (j : Fin 512) :
    (Gen.outsAt0 m c t.val t.isLt).1 (ix3 s i j) = (Gen.outsAt0 m c t.val t.isLt).2 (ix3 s i j) := by
  rw [Gen.outsAt0_C m c t h0 h1]
  frame_out
  refine (pay3_apply _ s i j).trans ?_
  rw [View.readCov_eq_canon']
  refine congrArg (View.canon (Val := Elt Ideal) (e := .f32) (s := S4x1024x512) _) ?_
  funext a
  match a with
  | ⟨0, _⟩ => exact Fin.ext (show 0 + 1 * s.val = s.val by omega)
  | ⟨1, _⟩ => exact Fin.ext (show 0 + 1 * i.val = i.val by omega)
  | ⟨2, _⟩ => exact Fin.ext (show 0 + 1 * j.val = j.val by omega)

theorem final2 (c : Dev nD) : (dats m 0 c).arrAt 2 cfg0.N = val_main_v13 (F := Ideal) (A0 m c) (A1 m c) := by
  refine (dats m 0 c).arrAt_eq_of_covers 2 _ (by decide +kernel) fun t hf y => ?_
  obtain ⟨s, i, j, rfl⟩ : ∃ (s : Fin 4) (i : Fin 1024) (j : Fin 512), y = ix3 s i j := ⟨y 0, y 1, y 2, by blk_ext⟩
  have h1 : t.val % 6 = 5 := (Gen.flush0_2 t).mp hf
  have ht : t = t0_5 := Fin.ext (by have : t.val < 6 := lt_of_lt_of_eq t.isLt N_0; show t.val = 5; omega)
  blk_simp
  rw [after0_2]
  refine (out_last m c t (by omega) h1 s i j).trans ?_
  subst ht
  rw [acc_last, term_sum]
  refine Eq.trans ?_ (congrArg _ (?_ : ix3 s i j = _))
  · rw [ref_apply]
  · blk_ext [idx t0_5]

end Cert.Glu2Ideal.Hand

namespace Cert.Hand

/-- The reference leaves its arguments as they were. -/
theorem frame_refGlu2 : Cert.quiescent_GluRef2Ideal := fun m ρ _ =>
  (θ_run Cert.GluRef2Ideal.defs _ _).mono (fun r h => ⟨fun c => (h c).2,
      Idealize.ShloMosaic.sem_eq_zero_of_no_sems (by decide) r.2⟩)
    (Cert.GluRef2Ideal.Value.run (F := Ideal) m ρ)

/-- At `Ideal` the kernel's result and the reference's agree. -/
theorem algebraicGlu2 : Cert.algebraic_Glu2Ideal_GluRef2Ideal := by
  intro m g m' g' _ hagree
  refine ⟨_, Cert.Glu2Ideal.Value.run_blocks m g, ?_⟩
  refine θ_run_mono (Cert.GluRef2Ideal.Value.run (F := Ideal) m' g') fun r hr c => ?_
  obtain ⟨h0, k⟩ := hr c
  obtain ⟨e0, e1⟩ := hagree c
  refine ⟨h0.trans ?_, k⟩
  · refine (Cert.GluRef2Ideal.Read.val_main_v13_eq _ _).trans (Eq.trans ?_ (Cert.Glu2Ideal.Hand.final2 m c).symm)
    congr 1 <;> first | exact e0 | exact e1

end Cert.Hand

end
-- ==== Proof.Norm0Value.lean ====
module

public import proofs.«01_k».proof.Defs
public import proofs.«01_k».proof.Proof.Gen.Norm0Ideal.Value
public import proofs.«01_k».proof.Proof.Gen.NormRef0Ideal.Read
public import proofs.«01_k».proof.Proof.Rms
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norm0Ideal.Hand

open Cert.Norm0Ideal Cert.Norm0Ideal.Gen Cert.NormRef0Ideal.Read

abbrev Rows := Vec Ideal S8448x1024 .f32
abbrev Nw := Vec Ideal S1x1024 .f32

/-- A row's mean square plus the small constant. -/
def vr (h : Rows) (r : Fin 8448) : EReal := Rms.var (∑ k : Fin 1024, (h (ix2 r k) : EReal) * (h (ix2 r k) : EReal))
theorem vr_pos (h : Rows) (r : Fin 8448) : 0 < vr h r :=
  Rms.var_pos _ (Finset.sum_nonneg fun _ _ => Rms.sq_nonneg _)
/-- The gradient of the normalised input. -/
abbrev gr (d : Rows) (r : Fin 8448) (j : Fin 1024) : EReal := d (ix2 r j)

abbrev r8 (n : Fin 1056) (s : Fin 8) : Fin 8448 := ⟨n.val * 8 + s.val, by omega⟩
theorem r8_eq (r : Fin 8448) (h₁ h₂) : r8 ⟨r.val / 8, h₁⟩ ⟨r.val % 8, h₂⟩ = r := Fin.ext (Nat.div_add_mod' _ _)

theorem ref1 (h) (n : Fin 1056) (s : Fin 8) (k : Fin 1024) :
    val_main_v1 (F := Ideal) h (ix3 n s k) = h (ix2 (r8 n s) k) := by
  pointwise [val_main_v1]
theorem ref8 (h) (n : Fin 1056) (s : Fin 8) (o : Fin 1) :
    val_main_v8 (F := Ideal) h (ix3 n s o) = vr h (r8 n s) := by
  pointwise [val_main_v8, val_main_v6, val_main_v4, val_main_v3, val_main_v2, val_main_v5, val_main_v7, val_main_cst, val_main_cst_0, val_main_cst_1]
  simp only [ref1]
  rfl
theorem ref9 (h) (n : Fin 1056) (s : Fin 8) (o : Fin 1) :
    val_main_v9 (F := Ideal) h (ix3 n s o) = Ideal.rsqrt (vr h (r8 n s)) := by
  pointwise [val_main_v9]
  rw [ref8]
theorem ref12 (h) (n : Fin 1056) (s : Fin 8) (o : Fin 1) :
    val_main_v12 (F := Ideal) h (ix3 n s o)
      = ((-(1 / 2) : ℝ) : EReal) * Ideal.div (Ideal.rsqrt (vr h (r8 n s))) (vr h (r8 n s)) := by
  pointwise [val_main_v12, val_main_v11, val_main_v10, val_main_cst_2]
  rw [ref8, ref9, Rms.word_neg_half]
theorem ref15 (w) (o : Fin 1) (s : Fin 8) (k : Fin 1024) : val_main_v15 (F := Ideal) w (ix3 o s k) = w (ix2 0 k) := by
  pointwise [val_main_v15, val_main_v0]
theorem ref14 (h) (n : Fin 1056) (s : Fin 8) (k : Fin 1024) :
    val_main_v14 (F := Ideal) h (ix3 n s k) = h (ix2 (r8 n s) k) * Ideal.rsqrt (vr h (r8 n s)) := by
  pointwise [val_main_v14, val_main_v13]
  rw [ref1, ref9]
theorem ref19 (d : Rows) (n : Fin 1056) (s : Fin 8) (k : Fin 1024) :
    val_main_v19 (F := Ideal) d (ix3 n s k) = gr d (r8 n s) k := by
  pointwise [val_main_v19]
theorem ref24 (d : Rows) (w) (n : Fin 1056) (s : Fin 8) (k : Fin 1024) :
    val_main_v24 (F := Ideal) d w (ix3 n s k) = gr d (r8 n s) k * (w (ix2 0 k) : EReal) := by
  pointwise [val_main_v24, val_main_v23]
  rw [ref19, ref15]
theorem ref34 (d : Rows) (h) (w) (n : Fin 1056) (s : Fin 8) :
    val_main_v34 (F := Ideal) d h w (ix2 n s)
      = Ideal.div ((∑ k : Fin 1024, (h (ix2 (r8 n s) k) : EReal) * (gr d (r8 n s) k * (w (ix2 0 k) : EReal)))
          * (((-(1 / 2) : ℝ) : EReal) * Ideal.div (Ideal.rsqrt (vr h (r8 n s))) (vr h (r8 n s)))) ((1024 : ℝ) : EReal) := by
  pointwise [val_main_v34, val_main_v33, val_main_v32, val_main_v31, val_main_v28, val_main_v27, val_main_v26, val_main_cst_5, val_main_cst_6, val_main_cst_7]
  simp only [ref12, ref1, ref24, Rms.word_1024]
  exact Fin.sum_univ_one _
theorem ref41 (d : Rows) (h) (w) (x) (r : Fin 8448) (k : Fin 1024) :
    val_main_v41 (F := Ideal) d h w x (ix2 r k)
      = x (ix2 r k) + (Ideal.rsqrt (vr h r) * (gr d r k * (w (ix2 0 k) : EReal))
        - h (ix2 r k) * (Ideal.rsqrt (vr h r) * Ideal.rsqrt (vr h r) * Ideal.rsqrt (vr h r))
          * ((∑ k : Fin 1024, (h (ix2 r k) : EReal) * (gr d r k * (w (ix2 0 k) : EReal))) * ((1 / 1024 : ℝ) : EReal))) := by
  pointwise [val_main_v41, val_main_v40, val_main_v39, val_main_v38, val_main_v37, val_main_v36, val_main_v35, val_main_v30, val_main_v29]
  rw [ref34, ref24, ref9, ref1, r8_eq]
  congr 1
  exact Rms.bwd _ _ _ _ (vr_pos h r)
theorem ref52 (d : Rows) (h) (s : Fin 8) (k : Fin 1024) :
    val_main_v25 (F := Ideal) d h (ix2 s k)
      = ∑ n : Fin 1056, gr d (r8 n s) k * (h (ix2 (r8 n s) k) : EReal) * Ideal.rsqrt (vr h (r8 n s)) := by
  pointwise [val_main_v25, val_main_v22, val_main_v21, val_main_v20, val_main_cst_4, val_main_cst_3]
  simp only [ref14, ref19]
  refine (Fin.sum_univ_one _).trans (Finset.sum_congr rfl fun n _ => ?_)
  rw [mul_comm, mul_assoc]

/-! ## The kernel's payloads at an index -/

abbrev Tile := Vec Ideal S384x1024 .f32
/-- A row's mean square plus the small constant, in a tile. -/
def vt (h : Tile) (i : Fin 384) : EReal := Rms.var (∑ k : Fin 1024, (h (ix2 i k) : EReal) * (h (ix2 i k) : EReal))
theorem rs_apply (h : Tile) (i : Fin 384) (o : Fin 1) : k0_pay3 (F := Ideal) h (ix2 i o) = Ideal.rsqrt (vt h i) := by
  pointwise [k0_pay3]
  rfl
theorem dx_apply (g h : Tile) (n : Nw) (x : Tile) (i : Fin 384) (j : Fin 1024) : k0_pay5 (F := Ideal) g h n x (ix2 i j)
      = x (ix2 i j) + (Ideal.rsqrt (vt h i) * ((g (ix2 i j) : EReal) * (n (ix2 0 j) : EReal))
        - h (ix2 i j) * (Ideal.rsqrt (vt h i) * Ideal.rsqrt (vt h i) * Ideal.rsqrt (vt h i))
          * ((∑ k : Fin 1024, (g (ix2 i k) : EReal) * (n (ix2 0 k) : EReal) * (h (ix2 i k) : EReal)) * ((1 / 1024 : ℝ) : EReal))) := by
  pointwise [k0_pay5]
  rw [Rms.word_inv_1024, rs_apply]
theorem dw_apply (g h : Tile) (s : Vec Ideal S8x1024 .f32) (i : Fin 8) (j : Fin 1024) : k0_pay1 (F := Ideal) (k0_pay4 (F := Ideal) g h) (k0_pay6 (F := Ideal) s) (ix2 i j)
      = s (ix2 i j) + ∑ p : Fin 48, (g (ix2 ⟨p.val * 8 + i.val, by omega⟩ j) : EReal) * (h (ix2 ⟨p.val * 8 + i.val, by omega⟩ j) : EReal)
          * Ideal.rsqrt (vt h ⟨p.val * 8 + i.val, by omega⟩) := by
  pointwise [k0_pay1, k0_pay4, k0_pay6]
  simp only [rs_apply]
theorem zero_apply (j) : k0_pay2 (F := Ideal) j = (0 : EReal) := by
  pointwise [k0_pay2]

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

abbrev A0 (c : Dev nD) : Rows := m ((c : Thread nD τ).loc main_arg0)
abbrev A1 (c : Dev nD) : Rows := m ((c : Thread nD τ).loc main_arg1)
abbrev A2 (c : Dev nD) : Nw := m ((c : Thread nD τ).loc main_arg2)
abbrev A3 (c : Dev nD) : Rows := m ((c : Thread nD τ).loc main_arg3)

theorem ptlt (t : Fin cfg0.N) (i : Fin 384) : t.val * 384 + i.val < 8448 := by
  have : t.val < 22 := lt_of_lt_of_eq t.isLt N_0
  omega

abbrev row (t : Fin cfg0.N) (i : Fin 384) : Fin 8448 := ⟨t.val * 384 + i.val, ptlt t i⟩

theorem blk_h (c : Dev nD) (t : Fin cfg0.N) (i : Fin 384) (j : Fin 1024) :
    iblk m c 1 t (ix2 i j) = A1 m c (ix2 (row t i) j) := by
  blk_ext! [iblk, V, idx t]
theorem blk_n (c : Dev nD) (t : Fin cfg0.N) (j : Fin 1024) :
    iblk m c 2 t (ix2 0 j) = A2 m c (ix2 0 j) := by
  blk_ext! [iblk, V, idx t]
theorem blk_r (c : Dev nD) (t : Fin cfg0.N) (i : Fin 384) (j : Fin 1024) :
    iblk m c 3 t (ix2 i j) = A3 m c (ix2 (row t i) j) := by
  blk_ext! [iblk, V, idx t]
theorem blk_v (c : Dev nD) (t : Fin cfg0.N) (i : Fin 384) : vt (iblk m c 1 t) i = vr (A1 m c) (row t i) := by
  rw [vt, vr]
  exact congrArg Rms.var (Finset.sum_congr rfl fun k _ => by rw [blk_h])
/-- The tile's incoming gradient. -/
abbrev gt (c : Dev nD) (t : Fin cfg0.N) : Tile := iblk m c 0 t
theorem blk_g (c : Dev nD) (t : Fin cfg0.N) (i : Fin 384) (j : Fin 1024) : gt m c t (ix2 i j) = gr (A0 m c) (row t i) j := by
  show iblk m c 0 t (ix2 i j) = A0 m c (ix2 (row t i) j)
  blk_ext! [iblk, V, idx t]

/-- What a point writes of the input's gradient. -/
theorem out_apply (c : Dev nD) (t : Fin cfg0.N) (i : Fin 384) (j : Fin 1024) :
    (Gen.outsAt0 m c t.val t.isLt).1 (ix2 i j) = val_main_v41 (F := Ideal) (A0 m c) (A1 m c) (A2 m c) (A3 m c) (ix2 (row t i) j) := by
  have key : k0_pay5 (F := Ideal) (gt m c t) (iblk m c 1 t) (iblk m c 2 t) (iblk m c 3 t) (ix2 i j)
      = val_main_v41 (F := Ideal) (A0 m c) (A1 m c) (A2 m c) (A3 m c) (ix2 (row t i) j) := by
    have hs : (∑ k : Fin 1024, (gt m c t (ix2 i k) : EReal) * (iblk m c 2 t (ix2 0 k) : EReal) * (iblk m c 1 t (ix2 i k) : EReal))
        = ∑ k : Fin 1024, (A1 m c (ix2 (row t i) k) : EReal) * (gr (A0 m c) (row t i) k * (A2 m c (ix2 0 k) : EReal)) :=
      Finset.sum_congr rfl fun k _ => by rw [blk_g, blk_h, blk_n, mul_comm]
    refine (dx_apply _ _ _ _ i j).trans ?_
    rw [ref41, hs, blk_r, blk_h, blk_n, blk_v, blk_g]
  by_cases h0 : t.val % 22 = 0
  · rw [Gen.outsAt0_A m c t h0]
    frame_out
    exact key
  · rw [Gen.outsAt0_B m c t h0]
    frame_out
    exact key

/-- The last point. -/
abbrev pLast : Fin cfg0.N := ⟨21, lt_of_lt_of_eq (by decide : 21 < 22) N_0.symm⟩

def qN (c : Dev nD) (t : Fin cfg0.N) (i : Fin 8) (j : Fin 1024) : EReal :=
  ∑ p : Fin 48, gr (A0 m c) (row t ⟨p.val * 8 + i.val, by omega⟩) j
    * (A1 m c (ix2 (row t ⟨p.val * 8 + i.val, by omega⟩) j) : EReal)
    * Ideal.rsqrt (vr (A1 m c) (row t ⟨p.val * 8 + i.val, by omega⟩))
def termN (c : Dev nD) (t : Fin cfg0.N) (y : S8x1024.Idx) : EReal := qN m c t (y 0) (y 1)
theorem termN_ix (c : Dev nD) (t : Fin cfg0.N) (i : Fin 8) (j : Fin 1024) : termN m c t (ix2 i j) = qN m c t i j := rfl

theorem stepN (c : Dev nD) (t : Fin cfg0.N) (s : Vec Ideal S8x1024 .f32) (y : S8x1024.Idx) :
    k0_pay1 (F := Ideal) (k0_pay4 (F := Ideal) (gt m c t) (iblk m c 1 t)) (k0_pay6 (F := Ideal) s) y = s y + termN m c t y := by
  obtain ⟨i, j, rfl⟩ : ∃ (i : Fin 8) (j : Fin 1024), y = ix2 i j := ⟨y 0, y 1, by blk_ext⟩
  refine (dw_apply _ _ _ i j).trans ?_
  rw [termN_ix, qN]
  refine congrArg (fun z : EReal => (s (ix2 i j) : EReal) + z) (Finset.sum_congr rfl fun p _ => ?_)
  rw [blk_g, blk_h, blk_v]

theorem accN (c : Dev nD) (y : S8x1024.Idx) :
    (Gen.outsAt0 m c pLast.val pLast.isLt).2 y = ∑ t : Fin cfg0.N, termN m c t y := by
  have := Pipeline.eq_sum_fin_of_reset_step_apply_last (fun n h => (Gen.outsAt0 m c n h).2) 22 (fun _ => (0 : EReal))
    (termN m c)
    (fun t h0 y => by
      rw [Gen.outsAt0_A m c t h0]
      frame_out
      exact (stepN m c t _ y).trans (by rw [zero_apply]))
    (fun t h0 y => by
      rw [Gen.outsAt0_B m c t h0]
      frame_out
      exact stepN m c t _ y) (le_of_eq Gen.N_0) pLast rfl y
  rw [this, zero_add]

theorem sumN (c : Dev nD) (i : Fin 8) (j : Fin 1024) : ∑ t : Fin cfg0.N, termN m c t (ix2 i j)
    = ∑ n : Fin 1056, gr (A0 m c) (r8 n i) j * (A1 m c (ix2 (r8 n i) j) : EReal) * Ideal.rsqrt (vr (A1 m c) (r8 n i)) := by
  simp only [termN_ix]
  unfold qN
  refine (Fin.sum_mul_add_congr (S := 22) (n := 48) (fun s p hl => ?_) rfl)
  have e : r8 ⟨s.val * 48 + p.val, hl⟩ i = row s ⟨p.val * 8 + i.val, by omega⟩ := Fin.ext (by
    show (s.val * 48 + p.val) * 8 + i.val = s.val * 384 + (p.val * 8 + i.val)
    omega)
  rw [e]

theorem final_dx (c : Dev nD) : (dats m 0 c).arrAt 4 cfg0.N = val_main_v41 (F := Ideal) (A0 m c) (A1 m c) (A2 m c) (A3 m c) := by
  refine (dats m 0 c).arrAt_eq_of_covers 4 _ (by decide +kernel) fun t hf y => ?_
  obtain ⟨i, j, rfl⟩ : ∃ (i : Fin 384) (j : Fin 1024), y = ix2 i j := ⟨y 0, y 1, by blk_ext⟩
  blk_simp
  rw [after0_4]
  refine (out_apply m c t i j).trans ?_
  congr 1
  blk_ext [idx t]

theorem final_dw (c : Dev nD) : (dats m 0 c).arrAt 5 cfg0.N = val_main_v25 (F := Ideal) (A0 m c) (A1 m c) := by
  refine (dats m 0 c).arrAt_eq_of_covers 5 _ (by decide +kernel) fun t hf y => ?_
  obtain ⟨i, j, rfl⟩ : ∃ (i : Fin 8) (j : Fin 1024), y = ix2 i j := ⟨y 0, y 1, by blk_ext⟩
  have h1 : t.val % 22 = 21 := (Gen.flush0_5 t).mp hf
  have ht : t = pLast := Fin.ext (by have : t.val < 22 := lt_of_lt_of_eq t.isLt N_0; show t.val = 21; omega)
  blk_simp
  rw [after0_5]
  subst ht
  refine ((accN m c _).trans (sumN m c i j)).trans ?_
  refine Eq.trans ?_ (congrArg _ (?_ : ix2 i j = _))
  · rw [ref52]
  · blk_ext [idx pLast]

end Cert.Norm0Ideal.Hand

namespace Cert.Hand

/-- The reference leaves its arguments as they were. -/
theorem frame_refNorm0 : Cert.quiescent_NormRef0Ideal := fun m ρ _ =>
  (θ_run Cert.NormRef0Ideal.defs _ _).mono (fun r h => ⟨fun c => (h c).2.2,
      Idealize.ShloMosaic.sem_eq_zero_of_no_sems (by decide) r.2⟩)
    (Cert.NormRef0Ideal.Value.run (F := Ideal) m ρ)

/-- At `Ideal` the kernel's result and the reference's agree. -/
theorem algebraicNorm0 : Cert.algebraic_Norm0Ideal_NormRef0Ideal := by
  intro m g m' g' _ hagree
  refine ⟨_, _, Cert.Norm0Ideal.Value.run_blocks m g, ?_⟩
  refine θ_run_mono (Cert.NormRef0Ideal.Value.run (F := Ideal) m' g') fun r hr c => ?_
  obtain ⟨h0, h1, k⟩ := hr c
  obtain ⟨e0, e1, e2, e3⟩ := hagree c
  refine ⟨h0.trans ?_, h1.trans ?_, k⟩
  · refine (Cert.NormRef0Ideal.Read.val_main_v41_eq _ _).trans (Eq.trans ?_ (Cert.Norm0Ideal.Hand.final_dx m c).symm)
    congr 1 <;> first | exact e0 | exact e1 | exact e2 | exact e3
  · refine (Cert.NormRef0Ideal.Read.val_main_v25_eq _ _).trans (Eq.trans ?_ (Cert.Norm0Ideal.Hand.final_dw m c).symm)
    congr 1 <;> first | exact e0 | exact e1 | exact e2 | exact e3

end Cert.Hand

end
-- ==== Proof.AdamScal.lean ====
module

public import Idealize.ShloMosaic.PureOps.Ideal

@[expose] public section

noncomputable section

open Idealize.ShloMosaic

namespace Cert.AdamScal

theorem word_b1 : Ideal.ofBits FTy.f32 0x3F26BD02#32 = ((5463681 / 8388608 : ℝ) : EReal) := by
  simp [Ideal.ofBits, Ideal.ieee]
  rw [← EReal.coe_mul]
  norm_num

theorem word_b2 : Ideal.ofBits FTy.f32 0x3C231ACC#32 = ((2672307 / 268435456 : ℝ) : EReal) := by
  simp [Ideal.ofBits, Ideal.ieee]
  rw [← EReal.coe_mul]
  norm_num

/-- Multiplying by the first debiasing factor is dividing by its reciprocal. -/
theorem scale1 (x : EReal) : Ideal.div x (Ideal.ofBits FTy.f32 0x3F26BD02#32) = x * ((8388608 / 5463681 : ℝ) : EReal) := by
  rw [word_b1, Ideal.div_coe (by norm_num)]
  norm_num

theorem scale2 (x : EReal) : Ideal.div x (Ideal.ofBits FTy.f32 0x3C231ACC#32) = x * ((268435456 / 2672307 : ℝ) : EReal) := by
  rw [word_b2, Ideal.div_coe (by norm_num)]
  norm_num

end Cert.AdamScal

end
-- ==== Proof.Adam0Value.lean ====
module

public import proofs.«01_k».proof.Defs
public import proofs.«01_k».proof.Proof.Gen.Adam0Ideal.Value
public import proofs.«01_k».proof.Proof.Gen.AdamRef0Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Adam0Ideal.Hand

open Cert.Adam0Ideal Cert.Adam0Ideal.Gen Cert.AdamRef0Ideal.Read

theorem c1_named : Named.named (F := Ideal) Cert.Adam0Ideal.κ "c1" (φ := .f32) 0x3FC48605#32 = ((8388608 / 5463681 : ℝ) : EReal) :=
  IdealRules.named_const.ideal_named_scalar _ _ _ _ rfl
theorem c2_named : Named.named (F := Ideal) Cert.Adam0Ideal.κ "c2" (φ := .f32) 0x42C8E6D3#32
    = ((268435456 / 2672307 : ℝ) : EReal) :=
  IdealRules.named_const.ideal_named_scalar _ _ _ _ rfl

abbrev Pieces := Vec Ideal S8x1024x1024 .bf16
abbrev Whole := Vec Ideal S2048x1024 .f32
abbrev Block := Vec Ideal S256x1024 .f32

def half (x : Pieces) (i : Fin 1024) (j : Fin 1024) : EReal := x (ix3 0 i j) + x (ix3 1 i j) + x (ix3 2 i j) + x (ix3 3 i j) + x (ix3 4 i j) + x (ix3 5 i j) + x (ix3 6 i j) + x (ix3 7 i j)

theorem ref_half0 (x0 : Pieces) (i : Fin 1024) (j : Fin 1024) : val_main_v1 (F := Ideal) x0 (ix2 i j) = half x0 i j := by
  pointwise [val_main_v1, val_main_v0, val_main_cst]
  rw [Fin.sum_univ_eight]
  rfl

theorem ref_half1 (x0 : Pieces) (i : Fin 1024) (j : Fin 1024) : val_main_v3 (F := Ideal) x0 (ix2 i j) = half x0 i j := by
  pointwise [val_main_v3, val_main_v2, val_main_cst_0]
  rw [Fin.sum_univ_eight]
  rfl

theorem ref_g (x0 x1 : Pieces) (i : Fin 2048) (j : Fin 1024) : val_main_v4 (F := Ideal) x0 x1 (ix2 i j)
    = if h : i.val < 1024 then half x0 ⟨i.val, h⟩ j else half x1 ⟨i.val - 1024, by omega⟩ j := by
  pointwise [val_main_v4]
  simp only [ref_half0, ref_half1]

theorem ref_m (x0 x1 : Pieces) (x3 : Whole) (i : Fin 2048) (j : Fin 1024) : val_main_v9 (F := Ideal) x0 x1 x3 (ix2 i j)
    = Ideal.ofBits FTy.f32 0x3F666666#32 * x3 (ix2 i j) + Ideal.ofBits FTy.f32 0x3DCCCCCD#32 * val_main_v4 (F := Ideal) x0 x1 (ix2 i j) := by
  pointwise [val_main_v5, val_main_v6, val_main_v7, val_main_v8, val_main_v9, val_main_cst_1, val_main_cst_2]

theorem ref_v (x0 x1 : Pieces) (x4 : Whole) (i : Fin 2048) (j : Fin 1024) : val_main_v15 (F := Ideal) x0 x1 x4 (ix2 i j)
    = Ideal.ofBits FTy.f32 0x3F7FBE77#32 * x4 (ix2 i j) + Ideal.ofBits FTy.f32 0x3A83126F#32
        * (val_main_v4 (F := Ideal) x0 x1 (ix2 i j) * val_main_v4 (F := Ideal) x0 x1 (ix2 i j)) := by
  pointwise [val_main_v10, val_main_v11, val_main_v12, val_main_v13, val_main_v14, val_main_v15, val_main_cst_2, val_main_cst_3, val_main_cst_4]

theorem ref_d (x0 x1 : Pieces) (x2 x3 x4 : Whole) (i : Fin 2048) (j : Fin 1024) : val_main_v28 (F := Ideal) x0 x1 x2 x3 x4 (ix2 i j)
    = Ideal.ofBits FTy.f32 0xBA83126F#32 * (Ideal.div (val_main_v9 (F := Ideal) x0 x1 x3 (ix2 i j) * ((8388608 / 5463681 : ℝ) : EReal))
        (Ideal.sqrt (val_main_v15 (F := Ideal) x0 x1 x4 (ix2 i j) * ((268435456 / 2672307 : ℝ) : EReal))
          + Ideal.ofBits FTy.f32 0x322BCC77#32)
        + Ideal.ofBits FTy.f32 0x3C23D70A#32 * x2 (ix2 i j)) := by
  rw [← AdamScal.scale1, ← AdamScal.scale2]
  pointwise [val_main_v16, val_main_v17, val_main_v18, val_main_v19, val_main_v20, val_main_v21, val_main_v22, val_main_v23, val_main_v24, val_main_v25, val_main_v26, val_main_v27, val_main_v28, val_main_cst_4, val_main_cst_5, val_main_cst_6, val_main_cst_7, val_main_cst_8, val_main_cst_9]

/-! ## The kernel's payloads at an index -/

theorem pay_g (a : grid0.Coords) (x0 x1 : Vec Ideal S8x256x1024 .bf16) (x2 x3 x4 : Block) (i : Fin 256) (j : Fin 1024) :
    k0_pay7 (F := Ideal) a x0 x1 x2 x3 x4 (ix2 i j)
      = if BitVec.ofNat 32 (a 0).val = 1#32 then x1 (ix3 0 i j) + x1 (ix3 1 i j) + x1 (ix3 2 i j) + x1 (ix3 3 i j) + x1 (ix3 4 i j) + x1 (ix3 5 i j) + x1 (ix3 6 i j) + x1 (ix3 7 i j)
        else x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x256x1024 .bf16}, k0_pay4 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay4]
  have e' : ∀ {b : BitVec 32} {v : Block} {P0 P1 P2 P3 P4 P5 P6 P7 : Vec Ideal S1x256x1024 .bf16}, k0_pay5 (F := Ideal) b v P0 P1 P2 P3 P4 P5 P6 P7 (ix2 i j)
      = if b = 1#32 then P0 (ix3 0 i j) + P1 (ix3 0 i j) + P2 (ix3 0 i j) + P3 (ix3 0 i j) + P4 (ix3 0 i j) + P5 (ix3 0 i j) + P6 (ix3 0 i j) + P7 (ix3 0 i j)
        else v (ix2 i j) := by
    intro b v P0 P1 P2 P3 P4 P5 P6 P7
    unfold k0_pay5
    by_cases h : b = 1#32
    · subst h
      rw [if_pos rfl]
      show addf (F := Ideal) _ _ (ix2 i j) = _
      pointwise
    · rw [if_neg h]
      have hb : Scalar.cmpi CmpIPredicate.eq b 1#32 = 0#1 := by
        show BitVec.ofBool (b == 1#32) = 0#1
        rw [beq_eq_false_iff_ne.mpr h]
        rfl
      show (Scalar.select (Scalar.cmpi CmpIPredicate.eq b 1#32) _ v) (ix2 i j) = _
      rw [hb]
      rfl
  have l : ∀ (x : Vec Ideal S8x256x1024 .bf16) (p : Fin 8) (inb), View.ld x (Rect.unit (s := S8x256x1024) ![p.val, 0, 0] S1x256x1024.size inb) (ix3 0 i j) = x (ix3 p i j) := fun x p inb =>
    View.ld_unit_apply_of _ _ _ _ _ _ (fun a => match a with
      | ⟨0, _⟩ => rfl | ⟨1, _⟩ => (Nat.zero_add _).symm | ⟨2, _⟩ => (Nat.zero_add _).symm)
  have s : ∀ x : Vec Ideal S8x256x1024 .bf16, (View.ld x r0_0 (ix3 0 i j) : EReal) + View.ld x r0_1 (ix3 0 i j) + View.ld x r0_2 (ix3 0 i j) + View.ld x r0_3 (ix3 0 i j)
      + View.ld x r0_4 (ix3 0 i j) + View.ld x r0_5 (ix3 0 i j) + View.ld x r0_6 (ix3 0 i j) + View.ld x r0_7 (ix3 0 i j) = x (ix3 0 i j) + x (ix3 1 i j) + x (ix3 2 i j) + x (ix3 3 i j) + x (ix3 4 i j) + x (ix3 5 i j) + x (ix3 6 i j) + x (ix3 7 i j) := by
    intro x
    refine congrArg₂ (fun a b : EReal => a + b) ?_ (l x 7 _)
    refine congrArg₂ (fun a b : EReal => a + b) ?_ (l x 6 _)
    refine congrArg₂ (fun a b : EReal => a + b) ?_ (l x 5 _)
    refine congrArg₂ (fun a b : EReal => a + b) ?_ (l x 4 _)
    refine congrArg₂ (fun a b : EReal => a + b) ?_ (l x 3 _)
    refine congrArg₂ (fun a b : EReal => a + b) ?_ (l x 2 _)
    exact congrArg₂ (fun a b : EReal => a + b) (l x 0 _) (l x 1 _)
  refine e'.trans ?_
  by_cases h : BitVec.ofNat 32 (a 0).val = 1#32
  · rw [if_pos h, if_pos h]
    exact s x1
  · rw [if_neg h, if_neg h]
    exact e.trans (s x0)

theorem pay_m (g m c : Block) (i : Fin 256) (j : Fin 1024) : k0_pay1 (F := Ideal) g m c (ix2 i j)
    = c (ix2 i j) * m (ix2 i j) + Ideal.ofBits FTy.f32 0x3DCCCCCD#32 * g (ix2 i j) := by
  pointwise [k0_pay1]

theorem pay_c (a : grid0.Coords) (x0 x1 : Vec Ideal S8x256x1024 .bf16) (x2 x3 x4 : Block) (i : Fin 256) (j : Fin 1024) :
    k0_pay8 (F := Ideal) a x0 x1 x2 x3 x4 (ix2 i j) = Ideal.ofBits FTy.f32 0x3F666666#32 := by
  pointwise [k0_pay8, k0_pay6]

theorem pay_v (g v : Block) (i : Fin 256) (j : Fin 1024) : k0_pay2 (F := Ideal) g v (ix2 i j)
    = Ideal.ofBits FTy.f32 0x3F7FBE77#32 * v (ix2 i j) + Ideal.ofBits FTy.f32 0x3A83126F#32 * (g (ix2 i j) * g (ix2 i j)) := by
  pointwise [k0_pay2]

theorem pay_d (g m c v w : Block) (i : Fin 256) (j : Fin 1024) : k0_pay3 (F := Ideal) g m c v w (ix2 i j)
    = Ideal.ofBits FTy.f32 0xBA83126F#32 * (Ideal.div (k0_pay1 (F := Ideal) g m c (ix2 i j) * ((8388608 / 5463681 : ℝ) : EReal))
        (Ideal.sqrt (k0_pay2 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay3]

/-! ## The input blocks -/

variable (m : (ℓ : Loc nD τ sig) → Buf (Elt Ideal) ℓ) (ρ : Dev nD → PrngReg)

theorem idx : ∀ t : Fin cfg0.N, win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)
theorem idx_first : ∀ t : Fin cfg0.N, t.val < 4 → win0_0.index t = ![0, t.val, 0] ∧ (grid0.coords t 0).val = 0 :=
  (by decide +kernel : ∀ t : Fin grid0.N, _)
theorem idx_second : ∀ t : Fin cfg0.N, ¬t.val < 4 → win0_1.index t = ![0, t.val - 4, 0] ∧ (grid0.coords t 0).val = 1 :=
  (by decide +kernel : ∀ t : Fin grid0.N, _)

abbrev A0 (c : Dev nD) : Pieces := m ((c : Thread nD τ).loc main_arg0)
abbrev A1 (c : Dev nD) : Pieces := m ((c : Thread nD τ).loc main_arg1)
abbrev A2 (c : Dev nD) : Whole := m ((c : Thread nD τ).loc main_arg2)
abbrev A3 (c : Dev nD) : Whole := m ((c : Thread nD τ).loc main_arg3)
abbrev A4 (c : Dev nD) : Whole := m ((c : Thread nD τ).loc main_arg4)

theorem ptlt (t : Fin cfg0.N) (i : Fin 256) : t.val * 256 + i.val < 2048 := by
  have : t.val < 8 := lt_of_lt_of_eq t.isLt N_0
  omega

abbrev row (t : Fin cfg0.N) (i : Fin 256) : Fin 2048 := ⟨t.val * 256 + i.val, ptlt t i⟩

theorem iblk0 (c : Dev nD) (t : Fin cfg0.N) (h : t.val < 4) (p : Fin 8) (i : Fin 256) (j : Fin 1024) :
    iblk m c 0 t (ix3 p i j) = A0 m c (ix3 p ⟨t.val * 256 + i.val, by omega⟩ j) := by
  have hx := (idx_first t h).1
  blk_ext! [iblk, V, hx]
theorem iblk1 (c : Dev nD) (t : Fin cfg0.N) (h : ¬t.val < 4) (p : Fin 8) (i : Fin 256) (j : Fin 1024) :
    iblk m c 1 t (ix3 p i j) = A1 m c (ix3 p ⟨(t.val - 4) * 256 + i.val, by have : t.val < 8 := lt_of_lt_of_eq t.isLt N_0; omega⟩ j) := by
  have hx := (idx_second t h).1
  blk_ext! [iblk, V, hx]
theorem iblk2 (c : Dev nD) (t : Fin cfg0.N) (i : Fin 256) (j : Fin 1024) : iblk m c 2 t (ix2 i j) = A2 m c (ix2 (row t i) j) := by
  blk_ext! [iblk, V, idx t]
theorem iblk3 (c : Dev nD) (t : Fin cfg0.N) (i : Fin 256) (j : Fin 1024) : iblk m c 3 t (ix2 i j) = A3 m c (ix2 (row t i) j) := by
  blk_ext! [iblk, V, idx t]
theorem iblk4 (c : Dev nD) (t : Fin cfg0.N) (i : Fin 256) (j : Fin 1024) : iblk m c 4 t (ix2 i j) = A4 m c (ix2 (row t i) j) := by
  blk_ext! [iblk, V, idx t]

abbrev G (c : Dev nD) (t : Fin cfg0.N) : Block :=
  k0_pay7 (F := Ideal) (grid0.coords t) (iblk m c 0 t) (iblk m c 1 t) (iblk m c 2 t) (iblk m c 3 t) (iblk m c 4 t)
abbrev K (c : Dev nD) (t : Fin cfg0.N) : Block :=
  k0_pay8 (F := Ideal) (grid0.coords t) (iblk m c 0 t) (iblk m c 1 t) (iblk m c 2 t) (iblk m c 3 t) (iblk m c 4 t)

theorem g_apply (c : Dev nD) (t : Fin cfg0.N) (i : Fin 256) (j : Fin 1024) :
    G m c t (ix2 i j) = val_main_v4 (F := Ideal) (A0 m c) (A1 m c) (ix2 (row t i) j) := by
  have ht : t.val < 8 := lt_of_lt_of_eq t.isLt N_0
  refine (pay_g _ _ _ _ _ _ i j).trans ?_
  rw [ref_g]
  by_cases h : t.val < 4
  · have hr : (row t i).val < 1024 := by show t.val * 256 + i.val < 1024; omega
    rw [(idx_first t h).2, if_neg (by decide), dif_pos hr]
    simp only [iblk0 m c t h]
    rfl
  · have hr : ¬(row t i).val < 1024 := by show ¬t.val * 256 + i.val < 1024; omega
    rw [(idx_second t h).2, if_pos rfl, dif_neg hr]
    simp only [iblk1 m c t h]
    unfold half
    have e : (⟨(t.val - 4) * 256 + i.val, by omega⟩ : Fin 1024) = ⟨(row t i).val - 1024, by have := (row t i).isLt; omega⟩ :=
      Fin.ext (by show (t.val - 4) * 256 + i.val = t.val * 256 + i.val - 1024; omega)
    rw [e]

theorem m_apply (c : Dev nD) (t : Fin cfg0.N) (i : Fin 256) (j : Fin 1024) :
    k0_pay1 (F := Ideal) (G m c t) (iblk m c 3 t) (K m c t) (ix2 i j)
      = val_main_v9 (F := Ideal) (A0 m c) (A1 m c) (A3 m c) (ix2 (row t i) j) := by
  rw [pay_m, ref_m, g_apply, iblk3]
  exact congrArg (fun z : EReal => z * _ + _) (pay_c _ _ _ _ _ _ i j)
theorem v_apply (c : Dev nD) (t : Fin cfg0.N) (i : Fin 256) (j : Fin 1024) :
    k0_pay2 (F := Ideal) (G m c t) (iblk m c 4 t) (ix2 i j)
      = val_main_v15 (F := Ideal) (A0 m c) (A1 m c) (A4 m c) (ix2 (row t i) j) := by
  rw [pay_v, ref_v, g_apply, iblk4]
theorem d_apply (c : Dev nD) (t : Fin cfg0.N) (i : Fin 256) (j : Fin 1024) :
    k0_pay3 (F := Ideal) (G m c t) (iblk m c 3 t) (K m c t) (iblk m c 4 t) (iblk m c 2 t) (ix2 i j)
      = val_main_v28 (F := Ideal) (A0 m c) (A1 m c) (A2 m c) (A3 m c) (A4 m c) (ix2 (row t i) j) := by
  rw [pay_d, ref_d, m_apply, v_apply, iblk2]

theorem final5 (c : Dev nD) : (dats m 0 c).arrAt 5 cfg0.N = val_main_v4 (F := Ideal) (A0 m c) (A1 m c) := by
  refine (dats m 0 c).arrAt_eq_of_covers 5 _ (by decide +kernel) fun t hf y => ?_
  obtain ⟨i, j, rfl⟩ : ∃ (i : Fin 256) (j : Fin 1024), y = ix2 i j := ⟨y 0, y 1, by blk_ext⟩
  blk_simp
  rw [after0_5, out0_5]
  frame_out
  refine (g_apply m c t i j).trans ?_
  congr 1
  blk_ext [idx t]

theorem final6 (c : Dev nD) : (dats m 0 c).arrAt 6 cfg0.N = val_main_v28 (F := Ideal) (A0 m c) (A1 m c) (A2 m c) (A3 m c) (A4 m c) := by
  refine (dats m 0 c).arrAt_eq_of_covers 6 _ (by decide +kernel) fun t hf y => ?_
  obtain ⟨i, j, rfl⟩ : ∃ (i : Fin 256) (j : Fin 1024), y = ix2 i j := ⟨y 0, y 1, by blk_ext⟩
  blk_simp
  rw [after0_6, out0_6]
  frame_out
  refine (d_apply m c t i j).trans ?_
  congr 1
  blk_ext [idx t]

theorem final7 (c : Dev nD) : (dats m 0 c).arrAt 7 cfg0.N = val_main_v9 (F := Ideal) (A0 m c) (A1 m c) (A3 m c) := by
  refine (dats m 0 c).arrAt_eq_of_covers 7 _ (by decide +kernel) fun t hf y => ?_
  obtain ⟨i, j, rfl⟩ : ∃ (i : Fin 256) (j : Fin 1024), y = ix2 i j := ⟨y 0, y 1, by blk_ext⟩
  blk_simp
  rw [after0_7, out0_7]
  frame_out
  refine (m_apply m c t i j).trans ?_
  congr 1
  blk_ext [idx t]

theorem final8 (c : Dev nD) : (dats m 0 c).arrAt 8 cfg0.N = val_main_v15 (F := Ideal) (A0 m c) (A1 m c) (A4 m c) := by
  refine (dats m 0 c).arrAt_eq_of_covers 8 _ (by decide +kernel) fun t hf y => ?_
  obtain ⟨i, j, rfl⟩ : ∃ (i : Fin 256) (j : Fin 1024), y = ix2 i j := ⟨y 0, y 1, by blk_ext⟩
  blk_simp
  rw [after0_8, out0_8]
  frame_out
  refine (v_apply m c t i j).trans ?_
  congr 1
  blk_ext [idx t]

end Cert.Adam0Ideal.Hand

namespace Cert.Hand

theorem preservesAdam0 : Cert.preserves_Adam0_Adam0Ideal :=
  ⟨IdealRules.named_const.statement Cert.Adam0Ideal.κ "c1" .f32 0x3FC48605#32 ((8388608 / 5463681 : ℝ) : EReal) rfl,
   IdealRules.named_const.statement Cert.Adam0Ideal.κ "c2" .f32 0x42C8E6D3#32
     ((268435456 / 2672307 : ℝ) : EReal) rfl⟩

/-- The reference leaves its arguments as they were. -/
theorem frame_refAdam0 : Cert.quiescent_AdamRef0Ideal := fun m ρ _ =>
  (θ_run Cert.AdamRef0Ideal.defs _ _).mono (fun r h => ⟨fun c => (h c).2.2.2.2,
      Idealize.ShloMosaic.sem_eq_zero_of_no_sems (by decide) r.2⟩)
    (Cert.AdamRef0Ideal.Value.run (F := Ideal) m ρ)

/-- At `Ideal` the kernel's four results and the reference's agree. -/
theorem algebraicAdam0 : Cert.algebraic_Adam0Ideal_AdamRef0Ideal := by
  intro m g m' g' _ hagree
  refine ⟨_, _, _, _, Cert.Adam0Ideal.Value.run_blocks m g, ?_⟩
  refine θ_run_mono (Cert.AdamRef0Ideal.Value.run (F := Ideal) m' g') fun r hr c => ?_
  obtain ⟨h0, h1, h2, h3, k⟩ := hr c
  obtain ⟨e0, e1, e2, e3, e4⟩ := hagree c
  refine ⟨h0.trans ?_, h1.trans ?_, h2.trans ?_, h3.trans ?_, k⟩
  · refine (Cert.AdamRef0Ideal.Read.val_main_v4_eq _ _).trans (Eq.trans ?_ (Cert.Adam0Ideal.Hand.final5 m c).symm)
    congr 1 <;> first | exact e0 | exact e1 | exact e2 | exact e3 | exact e4
  · refine (Cert.AdamRef0Ideal.Read.val_main_v28_eq _ _ _ _ _).trans (Eq.trans ?_ (Cert.Adam0Ideal.Hand.final6 m c).symm)
    congr 1 <;> first | exact e0 | exact e1 | exact e2 | exact e3 | exact e4
  · refine (Cert.AdamRef0Ideal.Read.val_main_v9_eq _ _ _).trans (Eq.trans ?_ (Cert.Adam0Ideal.Hand.final7 m c).symm)
    congr 1 <;> first | exact e0 | exact e1 | exact e2 | exact e3 | exact e4
  · refine (Cert.AdamRef0Ideal.Read.val_main_v15_eq _ _ _).trans (Eq.trans ?_ (Cert.Adam0Ideal.Hand.final8 m c).symm)
    congr 1 <;> first | exact e0 | exact e1 | exact e2 | exact e3 | exact e4

end Cert.Hand

end
-- ==== Proof.Adam1Value.lean ====
module

public import proofs.«01_k».proof.Defs
public import proofs.«01_k».proof.Proof.Gen.Adam1Ideal.Value
public import proofs.«01_k».proof.Proof.Gen.AdamRef1Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Adam1Ideal.Hand

open Cert.Adam1Ideal Cert.Adam1Ideal.Gen Cert.AdamRef1Ideal.Read

theorem c1_named : Named.named (F := Ideal) Cert.Adam1Ideal.κ "c1" (φ := .f32) 0x3FC48605#32 = ((8388608 / 5463681 : ℝ) : EReal) :=
  IdealRules.named_const.ideal_named_scalar _ _ _ _ rfl
theorem c2_named : Named.named (F := Ideal) Cert.Adam1Ideal.κ "c2" (φ := .f32) 0x42C8E6D3#32
    = ((268435456 / 2672307 : ℝ) : EReal) :=
  IdealRules.named_const.ideal_named_scalar _ _ _ _ rfl

abbrev Pieces := Vec Ideal S8x256x1024 .bf16
abbrev Whole := Vec Ideal S256x1024 .f32
abbrev Block := Vec Ideal S128x1024 .f32

theorem ref_g (x0 : Pieces) (i : Fin 256) (j : Fin 1024) : val_main_v1 (F := Ideal) x0 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  pointwise [val_main_v1, val_main_v0, val_main_cst]
  rw [Fin.sum_univ_eight]

theorem ref_m (x0 : Pieces) (x2 : Whole) (i : Fin 256) (j : Fin 1024) : val_main_v6 (F := Ideal) x0 x2 (ix2 i j)
    = Ideal.ofBits FTy.f32 0x3F666666#32 * x2 (ix2 i j) + Ideal.ofBits FTy.f32 0x3DCCCCCD#32 * val_main_v1 (F := Ideal) x0 (ix2 i j) := by
  pointwise [val_main_v2, val_main_v3, val_main_v4, val_main_v5, val_main_v6, val_main_cst, val_main_cst_0, val_main_cst_1]

theorem ref_v (x0 : Pieces) (x3 : Whole) (i : Fin 256) (j : Fin 1024) : val_main_v12 (F := Ideal) x0 x3 (ix2 i j)
    = Ideal.ofBits FTy.f32 0x3F7FBE77#32 * x3 (ix2 i j) + Ideal.ofBits FTy.f32 0x3A83126F#32
        * (val_main_v1 (F := Ideal) x0 (ix2 i j) * val_main_v1 (F := Ideal) x0 (ix2 i j)) := by
  pointwise [val_main_v7, val_main_v8, val_main_v9, val_main_v10, val_main_v11, val_main_v12, val_main_cst_1, val_main_cst_2, val_main_cst_3]

theorem ref_d (x0 : Pieces) (x1 x2 x3 : Whole) (i : Fin 256) (j : Fin 1024) : val_main_v25 (F := Ideal) x0 x1 x2 x3 (ix2 i j)
    = Ideal.ofBits FTy.f32 0xBA83126F#32 * (Ideal.div (val_main_v6 (F := Ideal) x0 x2 (ix2 i j) * ((8388608 / 5463681 : ℝ) : EReal))
        (Ideal.sqrt (val_main_v12 (F := Ideal) x0 x3 (ix2 i j) * ((268435456 / 2672307 : ℝ) : EReal))
          + Ideal.ofBits FTy.f32 0x322BCC77#32)
        + Ideal.ofBits FTy.f32 0x3C23D70A#32 * x1 (ix2 i j)) := by
  rw [← AdamScal.scale1, ← AdamScal.scale2]
  pointwise [val_main_v13, val_main_v14, val_main_v15, val_main_v16, val_main_v17, val_main_v18, val_main_v19, val_main_v20, val_main_v21, val_main_v22, val_main_v23, val_main_v24, val_main_v25, val_main_cst_3, val_main_cst_4, val_main_cst_5, val_main_cst_6, val_main_cst_7, val_main_cst_8]

/-! ## The kernel's payloads at an index -/

theorem pay_g (x0 : Vec Ideal S8x128x1024 .bf16) (x1 x2 x3 : Block) (i : Fin 128) (j : Fin 1024) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x128x1024 .bf16}, k0_pay4 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay4]
  have l : ∀ (p : Fin 8) (inb), View.ld x0 (Rect.unit (s := S8x128x1024) ![p.val, 0, 0] S1x128x1024.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (g m : Block) (i : Fin 128) (j : Fin 1024) : k0_pay1 (F := Ideal) g m (ix2 i j)
    = Ideal.ofBits FTy.f32 0x3F666666#32 * m (ix2 i j) + Ideal.ofBits FTy.f32 0x3DCCCCCD#32 * g (ix2 i j) := by
  pointwise [k0_pay1]

theorem pay_v (g v : Block) (i : Fin 128) (j : Fin 1024) : k0_pay2 (F := Ideal) g v (ix2 i j)
    = Ideal.ofBits FTy.f32 0x3F7FBE77#32 * v (ix2 i j) + Ideal.ofBits FTy.f32 0x3A83126F#32 * (g (ix2 i j) * g (ix2 i j)) := by
  pointwise [k0_pay2]

theorem pay_d (g m v w : Block) (i : Fin 128) (j : Fin 1024) : k0_pay3 (F := Ideal) g m v w (ix2 i j)
    = Ideal.ofBits FTy.f32 0xBA83126F#32 * (Ideal.div (k0_pay1 (F := Ideal) g m (ix2 i j) * ((8388608 / 5463681 : ℝ) : EReal))
        (Ideal.sqrt (k0_pay2 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay3]

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := m ((c : Thread nD τ).loc main_arg0)
abbrev A1 (c : Dev nD) : Whole := m ((c : Thread nD τ).loc main_arg1)
abbrev A2 (c : Dev nD) : Whole := m ((c : Thread nD τ).loc main_arg2)
abbrev A3 (c : Dev nD) : Whole := m ((c : Thread nD τ).loc main_arg3)

theorem ptlt (t : Fin cfg0.N) (i : Fin 128) : t.val * 128 + i.val < 256 := by
  have : t.val < 2 := lt_of_lt_of_eq t.isLt N_0
  omega

abbrev row (t : Fin cfg0.N) (i : Fin 128) : Fin 256 := ⟨t.val * 128 + i.val, ptlt t i⟩

theorem iblk0 (c : Dev nD) (t : Fin cfg0.N) (p : Fin 8) (i : Fin 128) (j : Fin 1024) :
    iblk m c 0 t (ix3 p i j) = A0 m c (ix3 p (row t i) j) := by
  blk_ext! [iblk, V, idx t]
theorem iblk1 (c : Dev nD) (t : Fin cfg0.N) (i : Fin 128) (j : Fin 1024) : iblk m c 1 t (ix2 i j) = A1 m c (ix2 (row t i) j) := by
  blk_ext! [iblk, V, idx t]
theorem iblk2 (c : Dev nD) (t : Fin cfg0.N) (i : Fin 128) (j : Fin 1024) : iblk m c 2 t (ix2 i j) = A2 m c (ix2 (row t i) j) := by
  blk_ext! [iblk, V, idx t]
theorem iblk3 (c : Dev nD) (t : Fin cfg0.N) (i : Fin 128) (j : Fin 1024) : iblk m c 3 t (ix2 i j) = A3 m c (ix2 (row t i) j) := by
  blk_ext! [iblk, V, idx t]

theorem g_apply (c : Dev nD) (t : Fin cfg0.N) (i : Fin 128) (j : Fin 1024) :
    k0_pay5 (F := Ideal) (iblk m c 0 t) (iblk m c 1 t) (iblk m c 2 t) (iblk m c 3 t) (ix2 i j) = val_main_v1 (F := Ideal) (A0 m c) (ix2 (row t i) j) := by
  rw [pay_g, ref_g]
  simp only [iblk0]

theorem m_apply (c : Dev nD) (t : Fin cfg0.N) (i : Fin 128) (j : Fin 1024) :
    k0_pay1 (F := Ideal) (k0_pay5 (F := Ideal) (iblk m c 0 t) (iblk m c 1 t) (iblk m c 2 t) (iblk m c 3 t)) (iblk m c 2 t) (ix2 i j)
      = val_main_v6 (F := Ideal) (A0 m c) (A2 m c) (ix2 (row t i) j) := by
  rw [pay_m, ref_m, g_apply, iblk2]
theorem v_apply (c : Dev nD) (t : Fin cfg0.N) (i : Fin 128) (j : Fin 1024) :
    k0_pay2 (F := Ideal) (k0_pay5 (F := Ideal) (iblk m c 0 t) (iblk m c 1 t) (iblk m c 2 t) (iblk m c 3 t)) (iblk m c 3 t) (ix2 i j)
      = val_main_v12 (F := Ideal) (A0 m c) (A3 m c) (ix2 (row t i) j) := by
  rw [pay_v, ref_v, g_apply, iblk3]
theorem d_apply (c : Dev nD) (t : Fin cfg0.N) (i : Fin 128) (j : Fin 1024) :
    k0_pay3 (F := Ideal) (k0_pay5 (F := Ideal) (iblk m c 0 t) (iblk m c 1 t) (iblk m c 2 t) (iblk m c 3 t)) (iblk m c 2 t) (iblk m c 3 t) (iblk m c 1 t) (ix2 i j)
      = val_main_v25 (F := Ideal) (A0 m c) (A1 m c) (A2 m c) (A3 m c) (ix2 (row t i) j) := by
  rw [pay_d, ref_d, m_apply, v_apply, iblk1]

theorem final4 (c : Dev nD) : (dats m 0 c).arrAt 4 cfg0.N = val_main_v1 (F := Ideal) (A0 m c) := by
  refine (dats m 0 c).arrAt_eq_of_covers 4 _ (by decide +kernel) fun t hf y => ?_
  obtain ⟨i, j, rfl⟩ : ∃ (i : Fin 128) (j : Fin 1024), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = val_main_v25 (F := Ideal) (A0 m c) (A1 m c) (A2 m c) (A3 m c) := by
  refine (dats m 0 c).arrAt_eq_of_covers 5 _ (by decide +kernel) fun t hf y => ?_
  obtain ⟨i, j, rfl⟩ : ∃ (i : Fin 128) (j : Fin 1024), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = val_main_v6 (F := Ideal) (A0 m c) (A2 m c) := by
  refine (dats m 0 c).arrAt_eq_of_covers 6 _ (by decide +kernel) fun t hf y => ?_
  obtain ⟨i, j, rfl⟩ : ∃ (i : Fin 128) (j : Fin 1024), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = val_main_v12 (F := Ideal) (A0 m c) (A3 m c) := by
  refine (dats m 0 c).arrAt_eq_of_covers 7 _ (by decide +kernel) fun t hf y => ?_
  obtain ⟨i, j, rfl⟩ : ∃ (i : Fin 128) (j : Fin 1024), y = ix2 i j := ⟨y 0, y 1, by blk_ext⟩
  blk_simp
  rw [after0_7, out0_7]
  frame_out
  refine (v_apply m c t i j).trans ?_
  congr 1
  blk_ext [idx t]

end Cert.Adam1Ideal.Hand

namespace Cert.Hand

theorem preservesAdam1 : Cert.preserves_Adam1_Adam1Ideal :=
  ⟨IdealRules.named_const.statement Cert.Adam1Ideal.κ "c1" .f32 0x3FC48605#32 ((8388608 / 5463681 : ℝ) : EReal) rfl,
   IdealRules.named_const.statement Cert.Adam1Ideal.κ "c2" .f32 0x42C8E6D3#32
     ((268435456 / 2672307 : ℝ) : EReal) rfl⟩

/-- The reference leaves its arguments as they were. -/
theorem frame_refAdam1 : Cert.quiescent_AdamRef1Ideal := fun m ρ _ =>
  (θ_run Cert.AdamRef1Ideal.defs _ _).mono (fun r h => ⟨fun c => (h c).2.2.2.2,
      Idealize.ShloMosaic.sem_eq_zero_of_no_sems (by decide) r.2⟩)
    (Cert.AdamRef1Ideal.Value.run (F := Ideal) m ρ)

/-- At `Ideal` the kernel's four results and the reference's agree. -/
theorem algebraicAdam1 : Cert.algebraic_Adam1Ideal_AdamRef1Ideal := by
  intro m g m' g' _ hagree
  refine ⟨_, _, _, _, Cert.Adam1Ideal.Value.run_blocks m g, ?_⟩
  refine θ_run_mono (Cert.AdamRef1Ideal.Value.run (F := Ideal) m' g') fun r hr c => ?_
  obtain ⟨h0, h1, h2, h3, k⟩ := hr c
  obtain ⟨e0, e1, e2, e3⟩ := hagree c
  refine ⟨h0.trans ?_, h1.trans ?_, h2.trans ?_, h3.trans ?_, k⟩
  · refine (Cert.AdamRef1Ideal.Read.val_main_v1_eq _).trans (Eq.trans ?_ (Cert.Adam1Ideal.Hand.final4 m c).symm)
    congr 1 <;> first | exact e0 | exact e1 | exact e2 | exact e3
  · refine (Cert.AdamRef1Ideal.Read.val_main_v25_eq _ _ _ _).trans (Eq.trans ?_ (Cert.Adam1Ideal.Hand.final5 m c).symm)
    congr 1 <;> first | exact e0 | exact e1 | exact e2 | exact e3
  · refine (Cert.AdamRef1Ideal.Read.val_main_v6_eq _ _).trans (Eq.trans ?_ (Cert.Adam1Ideal.Hand.final6 m c).symm)
    congr 1 <;> first | exact e0 | exact e1 | exact e2 | exact e3
  · refine (Cert.AdamRef1Ideal.Read.val_main_v12_eq _ _).trans (Eq.trans ?_ (Cert.Adam1Ideal.Hand.final7 m c).symm)
    congr 1 <;> first | exact e0 | exact e1 | exact e2 | exact e3

end Cert.Hand

end
-- ==== Proof.Adam2Value.lean ====
module

public import proofs.«01_k».proof.Defs
public import proofs.«01_k».proof.Proof.Gen.Adam2Ideal.Value
public import proofs.«01_k».proof.Proof.Gen.AdamRef2Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Adam2Ideal.Hand

open Cert.Adam2Ideal Cert.Adam2Ideal.Gen Cert.AdamRef2Ideal.Read

theorem c1_named : Named.named (F := Ideal) Cert.Adam2Ideal.κ "c1" (φ := .f32) 0x3FC48605#32 = ((8388608 / 5463681 : ℝ) : EReal) :=
  IdealRules.named_const.ideal_named_scalar _ _ _ _ rfl
theorem c2_named : Named.named (F := Ideal) Cert.Adam2Ideal.κ "c2" (φ := .f32) 0x42C8E6D3#32
    = ((268435456 / 2672307 : ℝ) : EReal) :=
  IdealRules.named_const.ideal_named_scalar _ _ _ _ rfl

abbrev Pieces := Vec Ideal S8x1024x512 .bf16
abbrev Whole := Vec Ideal S1024x512 .f32
abbrev Block := Vec Ideal S256x512 .f32

theorem ref_g (x0 : Pieces) (i : Fin 1024) (j : Fin 512) : val_main_v1 (F := Ideal) x0 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  pointwise [val_main_v1, val_main_v0, val_main_cst]
  rw [Fin.sum_univ_eight]

theorem ref_m (x0 : Pieces) (x2 : Whole) (i : Fin 1024) (j : Fin 512) : val_main_v6 (F := Ideal) x0 x2 (ix2 i j)
    = Ideal.ofBits FTy.f32 0x3F666666#32 * x2 (ix2 i j) + Ideal.ofBits FTy.f32 0x3DCCCCCD#32 * val_main_v1 (F := Ideal) x0 (ix2 i j) := by
  pointwise [val_main_v2, val_main_v3, val_main_v4, val_main_v5, val_main_v6, val_main_cst, val_main_cst_0, val_main_cst_1]

theorem ref_v (x0 : Pieces) (x3 : Whole) (i : Fin 1024) (j : Fin 512) : val_main_v12 (F := Ideal) x0 x3 (ix2 i j)
    = Ideal.ofBits FTy.f32 0x3F7FBE77#32 * x3 (ix2 i j) + Ideal.ofBits FTy.f32 0x3A83126F#32
        * (val_main_v1 (F := Ideal) x0 (ix2 i j) * val_main_v1 (F := Ideal) x0 (ix2 i j)) := by
  pointwise [val_main_v7, val_main_v8, val_main_v9, val_main_v10, val_main_v11, val_main_v12, val_main_cst_1, val_main_cst_2, val_main_cst_3]

theorem ref_d (x0 : Pieces) (x1 x2 x3 : Whole) (i : Fin 1024) (j : Fin 512) : val_main_v25 (F := Ideal) x0 x1 x2 x3 (ix2 i j)
    = Ideal.ofBits FTy.f32 0xBA83126F#32 * (Ideal.div (val_main_v6 (F := Ideal) x0 x2 (ix2 i j) * ((8388608 / 5463681 : ℝ) : EReal))
        (Ideal.sqrt (val_main_v12 (F := Ideal) x0 x3 (ix2 i j) * ((268435456 / 2672307 : ℝ) : EReal))
          + Ideal.ofBits FTy.f32 0x322BCC77#32)
        + Ideal.ofBits FTy.f32 0x3C23D70A#32 * x1 (ix2 i j)) := by
  rw [← AdamScal.scale1, ← AdamScal.scale2]
  pointwise [val_main_v13, val_main_v14, val_main_v15, val_main_v16, val_main_v17, val_main_v18, val_main_v19, val_main_v20, val_main_v21, val_main_v22, val_main_v23, val_main_v24, val_main_v25, val_main_cst_3, val_main_cst_4, val_main_cst_5, val_main_cst_6, val_main_cst_7, val_main_cst_8]

/-! ## The kernel's payloads at an index -/

theorem pay_g (x0 : Vec Ideal S8x256x512 .bf16) (x1 x2 x3 : Block) (i : Fin 256) (j : Fin 512) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x256x512 .bf16}, k0_pay4 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay4]
  have l : ∀ (p : Fin 8) (inb), View.ld x0 (Rect.unit (s := S8x256x512) ![p.val, 0, 0] S1x256x512.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (g m : Block) (i : Fin 256) (j : Fin 512) : k0_pay1 (F := Ideal) g m (ix2 i j)
    = Ideal.ofBits FTy.f32 0x3F666666#32 * m (ix2 i j) + Ideal.ofBits FTy.f32 0x3DCCCCCD#32 * g (ix2 i j) := by
  pointwise [k0_pay1]

theorem pay_v (g v : Block) (i : Fin 256) (j : Fin 512) : k0_pay2 (F := Ideal) g v (ix2 i j)
    = Ideal.ofBits FTy.f32 0x3F7FBE77#32 * v (ix2 i j) + Ideal.ofBits FTy.f32 0x3A83126F#32 * (g (ix2 i j) * g (ix2 i j)) := by
  pointwise [k0_pay2]

theorem pay_d (g m v w : Block) (i : Fin 256) (j : Fin 512) : k0_pay3 (F := Ideal) g m v w (ix2 i j)
    = Ideal.ofBits FTy.f32 0xBA83126F#32 * (Ideal.div (k0_pay1 (F := Ideal) g m (ix2 i j) * ((8388608 / 5463681 : ℝ) : EReal))
        (Ideal.sqrt (k0_pay2 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay3]

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := m ((c : Thread nD τ).loc main_arg0)
abbrev A1 (c : Dev nD) : Whole := m ((c : Thread nD τ).loc main_arg1)
abbrev A2 (c : Dev nD) : Whole := m ((c : Thread nD τ).loc main_arg2)
abbrev A3 (c : Dev nD) : Whole := m ((c : Thread nD τ).loc main_arg3)

theorem ptlt (t : Fin cfg0.N) (i : Fin 256) : t.val * 256 + i.val < 1024 := by
  have : t.val < 4 := lt_of_lt_of_eq t.isLt N_0
  omega

abbrev row (t : Fin cfg0.N) (i : Fin 256) : Fin 1024 := ⟨t.val * 256 + i.val, ptlt t i⟩

theorem iblk0 (c : Dev nD) (t : Fin cfg0.N) (p : Fin 8) (i : Fin 256) (j : Fin 512) :
    iblk m c 0 t (ix3 p i j) = A0 m c (ix3 p (row t i) j) := by
  blk_ext! [iblk, V, idx t]
theorem iblk1 (c : Dev nD) (t : Fin cfg0.N) (i : Fin 256) (j : Fin 512) : iblk m c 1 t (ix2 i j) = A1 m c (ix2 (row t i) j) := by
  blk_ext! [iblk, V, idx t]
theorem iblk2 (c : Dev nD) (t : Fin cfg0.N) (i : Fin 256) (j : Fin 512) : iblk m c 2 t (ix2 i j) = A2 m c (ix2 (row t i) j) := by
  blk_ext! [iblk, V, idx t]
theorem iblk3 (c : Dev nD) (t : Fin cfg0.N) (i : Fin 256) (j : Fin 512) : iblk m c 3 t (ix2 i j) = A3 m c (ix2 (row t i) j) := by
  blk_ext! [iblk, V, idx t]

theorem g_apply (c : Dev nD) (t : Fin cfg0.N) (i : Fin 256) (j : Fin 512) :
    k0_pay5 (F := Ideal) (iblk m c 0 t) (iblk m c 1 t) (iblk m c 2 t) (iblk m c 3 t) (ix2 i j) = val_main_v1 (F := Ideal) (A0 m c) (ix2 (row t i) j) := by
  rw [pay_g, ref_g]
  simp only [iblk0]

theorem m_apply (c : Dev nD) (t : Fin cfg0.N) (i : Fin 256) (j : Fin 512) :
    k0_pay1 (F := Ideal) (k0_pay5 (F := Ideal) (iblk m c 0 t) (iblk m c 1 t) (iblk m c 2 t) (iblk m c 3 t)) (iblk m c 2 t) (ix2 i j)
      = val_main_v6 (F := Ideal) (A0 m c) (A2 m c) (ix2 (row t i) j) := by
  rw [pay_m, ref_m, g_apply, iblk2]
theorem v_apply (c : Dev nD) (t : Fin cfg0.N) (i : Fin 256) (j : Fin 512) :
    k0_pay2 (F := Ideal) (k0_pay5 (F := Ideal) (iblk m c 0 t) (iblk m c 1 t) (iblk m c 2 t) (iblk m c 3 t)) (iblk m c 3 t) (ix2 i j)
      = val_main_v12 (F := Ideal) (A0 m c) (A3 m c) (ix2 (row t i) j) := by
  rw [pay_v, ref_v, g_apply, iblk3]
theorem d_apply (c : Dev nD) (t : Fin cfg0.N) (i : Fin 256) (j : Fin 512) :
    k0_pay3 (F := Ideal) (k0_pay5 (F := Ideal) (iblk m c 0 t) (iblk m c 1 t) (iblk m c 2 t) (iblk m c 3 t)) (iblk m c 2 t) (iblk m c 3 t) (iblk m c 1 t) (ix2 i j)
      = val_main_v25 (F := Ideal) (A0 m c) (A1 m c) (A2 m c) (A3 m c) (ix2 (row t i) j) := by
  rw [pay_d, ref_d, m_apply, v_apply, iblk1]

theorem final4 (c : Dev nD) : (dats m 0 c).arrAt 4 cfg0.N = val_main_v1 (F := Ideal) (A0 m c) := by
  refine (dats m 0 c).arrAt_eq_of_covers 4 _ (by decide +kernel) fun t hf y => ?_
  obtain ⟨i, j, rfl⟩ : ∃ (i : Fin 256) (j : Fin 512), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = val_main_v25 (F := Ideal) (A0 m c) (A1 m c) (A2 m c) (A3 m c) := by
  refine (dats m 0 c).arrAt_eq_of_covers 5 _ (by decide +kernel) fun t hf y => ?_
  obtain ⟨i, j, rfl⟩ : ∃ (i : Fin 256) (j : Fin 512), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = val_main_v6 (F := Ideal) (A0 m c) (A2 m c) := by
  refine (dats m 0 c).arrAt_eq_of_covers 6 _ (by decide +kernel) fun t hf y => ?_
  obtain ⟨i, j, rfl⟩ : ∃ (i : Fin 256) (j : Fin 512), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = val_main_v12 (F := Ideal) (A0 m c) (A3 m c) := by
  refine (dats m 0 c).arrAt_eq_of_covers 7 _ (by decide +kernel) fun t hf y => ?_
  obtain ⟨i, j, rfl⟩ : ∃ (i : Fin 256) (j : Fin 512), y = ix2 i j := ⟨y 0, y 1, by blk_ext⟩
  blk_simp
  rw [after0_7, out0_7]
  frame_out
  refine (v_apply m c t i j).trans ?_
  congr 1
  blk_ext [idx t]

end Cert.Adam2Ideal.Hand

namespace Cert.Hand

theorem preservesAdam2 : Cert.preserves_Adam2_Adam2Ideal :=
  ⟨IdealRules.named_const.statement Cert.Adam2Ideal.κ "c1" .f32 0x3FC48605#32 ((8388608 / 5463681 : ℝ) : EReal) rfl,
   IdealRules.named_const.statement Cert.Adam2Ideal.κ "c2" .f32 0x42C8E6D3#32
     ((268435456 / 2672307 : ℝ) : EReal) rfl⟩

/-- The reference leaves its arguments as they were. -/
theorem frame_refAdam2 : Cert.quiescent_AdamRef2Ideal := fun m ρ _ =>
  (θ_run Cert.AdamRef2Ideal.defs _ _).mono (fun r h => ⟨fun c => (h c).2.2.2.2,
      Idealize.ShloMosaic.sem_eq_zero_of_no_sems (by decide) r.2⟩)
    (Cert.AdamRef2Ideal.Value.run (F := Ideal) m ρ)

/-- At `Ideal` the kernel's four results and the reference's agree. -/
theorem algebraicAdam2 : Cert.algebraic_Adam2Ideal_AdamRef2Ideal := by
  intro m g m' g' _ hagree
  refine ⟨_, _, _, _, Cert.Adam2Ideal.Value.run_blocks m g, ?_⟩
  refine θ_run_mono (Cert.AdamRef2Ideal.Value.run (F := Ideal) m' g') fun r hr c => ?_
  obtain ⟨h0, h1, h2, h3, k⟩ := hr c
  obtain ⟨e0, e1, e2, e3⟩ := hagree c
  refine ⟨h0.trans ?_, h1.trans ?_, h2.trans ?_, h3.trans ?_, k⟩
  · refine (Cert.AdamRef2Ideal.Read.val_main_v1_eq _).trans (Eq.trans ?_ (Cert.Adam2Ideal.Hand.final4 m c).symm)
    congr 1 <;> first | exact e0 | exact e1 | exact e2 | exact e3
  · refine (Cert.AdamRef2Ideal.Read.val_main_v25_eq _ _ _ _).trans (Eq.trans ?_ (Cert.Adam2Ideal.Hand.final5 m c).symm)
    congr 1 <;> first | exact e0 | exact e1 | exact e2 | exact e3
  · refine (Cert.AdamRef2Ideal.Read.val_main_v6_eq _ _).trans (Eq.trans ?_ (Cert.Adam2Ideal.Hand.final6 m c).symm)
    congr 1 <;> first | exact e0 | exact e1 | exact e2 | exact e3
  · refine (Cert.AdamRef2Ideal.Read.val_main_v12_eq _ _).trans (Eq.trans ?_ (Cert.Adam2Ideal.Hand.final7 m c).symm)
    congr 1 <;> first | exact e0 | exact e1 | exact e2 | exact e3

end Cert.Hand

end
-- ==== Proof.Adam3Value.lean ====
module

public import proofs.«01_k».proof.Defs
public import proofs.«01_k».proof.Proof.Gen.Adam3Ideal.Value
public import proofs.«01_k».proof.Proof.Gen.AdamRef3Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Adam3Ideal.Hand

open Cert.Adam3Ideal Cert.Adam3Ideal.Gen Cert.AdamRef3Ideal.Read

theorem c1_named : Named.named (F := Ideal) Cert.Adam3Ideal.κ "c1" (φ := .f32) 0x3FC48605#32 = ((8388608 / 5463681 : ℝ) : EReal) :=
  IdealRules.named_const.ideal_named_scalar _ _ _ _ rfl
theorem c2_named : Named.named (F := Ideal) Cert.Adam3Ideal.κ "c2" (φ := .f32) 0x42C8E6D3#32
    = ((268435456 / 2672307 : ℝ) : EReal) :=
  IdealRules.named_const.ideal_named_scalar _ _ _ _ rfl

abbrev Pieces := Vec Ideal S8x1024x384 .bf16
abbrev Whole := Vec Ideal S1024x384 .f32
abbrev Block := Vec Ideal S256x384 .f32

theorem ref_g (x0 : Pieces) (i : Fin 1024) (j : Fin 384) : val_main_v1 (F := Ideal) x0 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  pointwise [val_main_v1, val_main_v0, val_main_cst]
  rw [Fin.sum_univ_eight]

theorem ref_m (x0 : Pieces) (x2 : Whole) (i : Fin 1024) (j : Fin 384) : val_main_v6 (F := Ideal) x0 x2 (ix2 i j)
    = Ideal.ofBits FTy.f32 0x3F666666#32 * x2 (ix2 i j) + Ideal.ofBits FTy.f32 0x3DCCCCCD#32 * val_main_v1 (F := Ideal) x0 (ix2 i j) := by
  pointwise [val_main_v2, val_main_v3, val_main_v4, val_main_v5, val_main_v6, val_main_cst, val_main_cst_0, val_main_cst_1]

theorem ref_v (x0 : Pieces) (x3 : Whole) (i : Fin 1024) (j : Fin 384) : val_main_v12 (F := Ideal) x0 x3 (ix2 i j)
    = Ideal.ofBits FTy.f32 0x3F7FBE77#32 * x3 (ix2 i j) + Ideal.ofBits FTy.f32 0x3A83126F#32
        * (val_main_v1 (F := Ideal) x0 (ix2 i j) * val_main_v1 (F := Ideal) x0 (ix2 i j)) := by
  pointwise [val_main_v7, val_main_v8, val_main_v9, val_main_v10, val_main_v11, val_main_v12, val_main_cst_1, val_main_cst_2, val_main_cst_3]

theorem ref_d (x0 : Pieces) (x1 x2 x3 : Whole) (i : Fin 1024) (j : Fin 384) : val_main_v25 (F := Ideal) x0 x1 x2 x3 (ix2 i j)
    = Ideal.ofBits FTy.f32 0xBA83126F#32 * (Ideal.div (val_main_v6 (F := Ideal) x0 x2 (ix2 i j) * ((8388608 / 5463681 : ℝ) : EReal))
        (Ideal.sqrt (val_main_v12 (F := Ideal) x0 x3 (ix2 i j) * ((268435456 / 2672307 : ℝ) : EReal))
          + Ideal.ofBits FTy.f32 0x322BCC77#32)
        + Ideal.ofBits FTy.f32 0x3C23D70A#32 * x1 (ix2 i j)) := by
  rw [← AdamScal.scale1, ← AdamScal.scale2]
  pointwise [val_main_v13, val_main_v14, val_main_v15, val_main_v16, val_main_v17, val_main_v18, val_main_v19, val_main_v20, val_main_v21, val_main_v22, val_main_v23, val_main_v24, val_main_v25, val_main_cst_3, val_main_cst_4, val_main_cst_5, val_main_cst_6, val_main_cst_7, val_main_cst_8]

/-! ## The kernel's payloads at an index -/

theorem pay_g (x0 : Vec Ideal S8x256x384 .bf16) (x1 x2 x3 : Block) (i : Fin 256) (j : Fin 384) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x256x384 .bf16}, k0_pay4 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay4]
  have l : ∀ (p : Fin 8) (inb), View.ld x0 (Rect.unit (s := S8x256x384) ![p.val, 0, 0] S1x256x384.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (g m : Block) (i : Fin 256) (j : Fin 384) : k0_pay1 (F := Ideal) g m (ix2 i j)
    = Ideal.ofBits FTy.f32 0x3F666666#32 * m (ix2 i j) + Ideal.ofBits FTy.f32 0x3DCCCCCD#32 * g (ix2 i j) := by
  pointwise [k0_pay1]

theorem pay_v (g v : Block) (i : Fin 256) (j : Fin 384) : k0_pay2 (F := Ideal) g v (ix2 i j)
    = Ideal.ofBits FTy.f32 0x3F7FBE77#32 * v (ix2 i j) + Ideal.ofBits FTy.f32 0x3A83126F#32 * (g (ix2 i j) * g (ix2 i j)) := by
  pointwise [k0_pay2]

theorem pay_d (g m v w : Block) (i : Fin 256) (j : Fin 384) : k0_pay3 (F := Ideal) g m v w (ix2 i j)
    = Ideal.ofBits FTy.f32 0xBA83126F#32 * (Ideal.div (k0_pay1 (F := Ideal) g m (ix2 i j) * ((8388608 / 5463681 : ℝ) : EReal))
        (Ideal.sqrt (k0_pay2 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay3]

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := m ((c : Thread nD τ).loc main_arg0)
abbrev A1 (c : Dev nD) : Whole := m ((c : Thread nD τ).loc main_arg1)
abbrev A2 (c : Dev nD) : Whole := m ((c : Thread nD τ).loc main_arg2)
abbrev A3 (c : Dev nD) : Whole := m ((c : Thread nD τ).loc main_arg3)

theorem ptlt (t : Fin cfg0.N) (i : Fin 256) : t.val * 256 + i.val < 1024 := by
  have : t.val < 4 := lt_of_lt_of_eq t.isLt N_0
  omega

abbrev row (t : Fin cfg0.N) (i : Fin 256) : Fin 1024 := ⟨t.val * 256 + i.val, ptlt t i⟩

theorem iblk0 (c : Dev nD) (t : Fin cfg0.N) (p : Fin 8) (i : Fin 256) (j : Fin 384) :
    iblk m c 0 t (ix3 p i j) = A0 m c (ix3 p (row t i) j) := by
  blk_ext! [iblk, V, idx t]
theorem iblk1 (c : Dev nD) (t : Fin cfg0.N) (i : Fin 256) (j : Fin 384) : iblk m c 1 t (ix2 i j) = A1 m c (ix2 (row t i) j) := by
  blk_ext! [iblk, V, idx t]
theorem iblk2 (c : Dev nD) (t : Fin cfg0.N) (i : Fin 256) (j : Fin 384) : iblk m c 2 t (ix2 i j) = A2 m c (ix2 (row t i) j) := by
  blk_ext! [iblk, V, idx t]
theorem iblk3 (c : Dev nD) (t : Fin cfg0.N) (i : Fin 256) (j : Fin 384) : iblk m c 3 t (ix2 i j) = A3 m c (ix2 (row t i) j) := by
  blk_ext! [iblk, V, idx t]

theorem g_apply (c : Dev nD) (t : Fin cfg0.N) (i : Fin 256) (j : Fin 384) :
    k0_pay5 (F := Ideal) (iblk m c 0 t) (iblk m c 1 t) (iblk m c 2 t) (iblk m c 3 t) (ix2 i j) = val_main_v1 (F := Ideal) (A0 m c) (ix2 (row t i) j) := by
  rw [pay_g, ref_g]
  simp only [iblk0]

theorem m_apply (c : Dev nD) (t : Fin cfg0.N) (i : Fin 256) (j : Fin 384) :
    k0_pay1 (F := Ideal) (k0_pay5 (F := Ideal) (iblk m c 0 t) (iblk m c 1 t) (iblk m c 2 t) (iblk m c 3 t)) (iblk m c 2 t) (ix2 i j)
      = val_main_v6 (F := Ideal) (A0 m c) (A2 m c) (ix2 (row t i) j) := by
  rw [pay_m, ref_m, g_apply, iblk2]
theorem v_apply (c : Dev nD) (t : Fin cfg0.N) (i : Fin 256) (j : Fin 384) :
    k0_pay2 (F := Ideal) (k0_pay5 (F := Ideal) (iblk m c 0 t) (iblk m c 1 t) (iblk m c 2 t) (iblk m c 3 t)) (iblk m c 3 t) (ix2 i j)
      = val_main_v12 (F := Ideal) (A0 m c) (A3 m c) (ix2 (row t i) j) := by
  rw [pay_v, ref_v, g_apply, iblk3]
theorem d_apply (c : Dev nD) (t : Fin cfg0.N) (i : Fin 256) (j : Fin 384) :
    k0_pay3 (F := Ideal) (k0_pay5 (F := Ideal) (iblk m c 0 t) (iblk m c 1 t) (iblk m c 2 t) (iblk m c 3 t)) (iblk m c 2 t) (iblk m c 3 t) (iblk m c 1 t) (ix2 i j)
      = val_main_v25 (F := Ideal) (A0 m c) (A1 m c) (A2 m c) (A3 m c) (ix2 (row t i) j) := by
  rw [pay_d, ref_d, m_apply, v_apply, iblk1]

theorem final4 (c : Dev nD) : (dats m 0 c).arrAt 4 cfg0.N = val_main_v1 (F := Ideal) (A0 m c) := by
  refine (dats m 0 c).arrAt_eq_of_covers 4 _ (by decide +kernel) fun t hf y => ?_
  obtain ⟨i, j, rfl⟩ : ∃ (i : Fin 256) (j : Fin 384), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = val_main_v25 (F := Ideal) (A0 m c) (A1 m c) (A2 m c) (A3 m c) := by
  refine (dats m 0 c).arrAt_eq_of_covers 5 _ (by decide +kernel) fun t hf y => ?_
  obtain ⟨i, j, rfl⟩ : ∃ (i : Fin 256) (j : Fin 384), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = val_main_v6 (F := Ideal) (A0 m c) (A2 m c) := by
  refine (dats m 0 c).arrAt_eq_of_covers 6 _ (by decide +kernel) fun t hf y => ?_
  obtain ⟨i, j, rfl⟩ : ∃ (i : Fin 256) (j : Fin 384), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = val_main_v12 (F := Ideal) (A0 m c) (A3 m c) := by
  refine (dats m 0 c).arrAt_eq_of_covers 7 _ (by decide +kernel) fun t hf y => ?_
  obtain ⟨i, j, rfl⟩ : ∃ (i : Fin 256) (j : Fin 384), y = ix2 i j := ⟨y 0, y 1, by blk_ext⟩
  blk_simp
  rw [after0_7, out0_7]
  frame_out
  refine (v_apply m c t i j).trans ?_
  congr 1
  blk_ext [idx t]

end Cert.Adam3Ideal.Hand

namespace Cert.Hand

theorem preservesAdam3 : Cert.preserves_Adam3_Adam3Ideal :=
  ⟨IdealRules.named_const.statement Cert.Adam3Ideal.κ "c1" .f32 0x3FC48605#32 ((8388608 / 5463681 : ℝ) : EReal) rfl,
   IdealRules.named_const.statement Cert.Adam3Ideal.κ "c2" .f32 0x42C8E6D3#32
     ((268435456 / 2672307 : ℝ) : EReal) rfl⟩

/-- The reference leaves its arguments as they were. -/
theorem frame_refAdam3 : Cert.quiescent_AdamRef3Ideal := fun m ρ _ =>
  (θ_run Cert.AdamRef3Ideal.defs _ _).mono (fun r h => ⟨fun c => (h c).2.2.2.2,
      Idealize.ShloMosaic.sem_eq_zero_of_no_sems (by decide) r.2⟩)
    (Cert.AdamRef3Ideal.Value.run (F := Ideal) m ρ)

/-- At `Ideal` the kernel's four results and the reference's agree. -/
theorem algebraicAdam3 : Cert.algebraic_Adam3Ideal_AdamRef3Ideal := by
  intro m g m' g' _ hagree
  refine ⟨_, _, _, _, Cert.Adam3Ideal.Value.run_blocks m g, ?_⟩
  refine θ_run_mono (Cert.AdamRef3Ideal.Value.run (F := Ideal) m' g') fun r hr c => ?_
  obtain ⟨h0, h1, h2, h3, k⟩ := hr c
  obtain ⟨e0, e1, e2, e3⟩ := hagree c
  refine ⟨h0.trans ?_, h1.trans ?_, h2.trans ?_, h3.trans ?_, k⟩
  · refine (Cert.AdamRef3Ideal.Read.val_main_v1_eq _).trans (Eq.trans ?_ (Cert.Adam3Ideal.Hand.final4 m c).symm)
    congr 1 <;> first | exact e0 | exact e1 | exact e2 | exact e3
  · refine (Cert.AdamRef3Ideal.Read.val_main_v25_eq _ _ _ _).trans (Eq.trans ?_ (Cert.Adam3Ideal.Hand.final5 m c).symm)
    congr 1 <;> first | exact e0 | exact e1 | exact e2 | exact e3
  · refine (Cert.AdamRef3Ideal.Read.val_main_v6_eq _ _).trans (Eq.trans ?_ (Cert.Adam3Ideal.Hand.final6 m c).symm)
    congr 1 <;> first | exact e0 | exact e1 | exact e2 | exact e3
  · refine (Cert.AdamRef3Ideal.Read.val_main_v12_eq _ _).trans (Eq.trans ?_ (Cert.Adam3Ideal.Hand.final7 m c).symm)
    congr 1 <;> first | exact e0 | exact e1 | exact e2 | exact e3

end Cert.Hand

end
-- ==== Proof.Pack0Value.lean ====
module

public import proofs.«01_k».proof.Defs
public import proofs.«01_k».proof.Proof.Gen.Pack0Ideal.Frame
public import proofs.«01_k».proof.Proof.Gen.PackRef0Ideal.Run
public import proofs.«01_k».proof.Proof.Gen.PackRef0Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Pack0Ideal.Hand

open Cert.Pack0Ideal Cert.Pack0Ideal.Gen Cert.PackRef0Ideal.Read

theorem c1_named : Named.named (F := Ideal) Cert.Pack0Ideal.κ "c1" (φ := .f32) 0x3FC48605#32 = ((8388608 / 5463681 : ℝ) : EReal) :=
  IdealRules.named_const.ideal_named_scalar _ _ _ _ rfl
theorem c2_named : Named.named (F := Ideal) Cert.Pack0Ideal.κ "c2" (φ := .f32) 0x42C8E6D3#32
    = ((268435456 / 2672307 : ℝ) : EReal) :=
  IdealRules.named_const.ideal_named_scalar _ _ _ _ rfl

abbrev Pieces := Vec Ideal S8x40x128 .f32
abbrev Whole := Vec Ideal S40x128 .f32
abbrev Block := Vec Ideal S8x128 .f32

/-! ## The kernel's payloads at an index -/

theorem pay_g (x0 : Vec Ideal S8x8x128 .f32) (x1 x2 x3 : Block) (i : Fin 8) (j : Fin 128) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x8x128 .f32}, k0_pay3 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay3]
  have l : ∀ (p : Fin 8) (inb), View.ld x0 (Rect.unit (s := S8x8x128) ![p.val, 0, 0] S1x8x128.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (x0 : Vec Ideal S8x8x128 .f32) (x1 x2 x3 : Block) (i : Fin 8) (j : Fin 128) : k0_pay6 (F := Ideal) x0 x1 x2 x3 (ix2 i j)
    = Ideal.ofBits FTy.f32 0x3F666666#32 * x2 (ix2 i j) + Ideal.ofBits FTy.f32 0x3DCCCCCD#32 * k0_pay5 (F := Ideal) x0 x1 x2 x3 (ix2 i j) := by
  have e : ∀ {P0 P1 P2 P3 P4 P5 P6 P7 : Vec Ideal S1x8x128 .f32} {m : Block}, k0_pay4 (F := Ideal) P0 P1 P2 P3 P4 P5 P6 P7 m (ix2 i j)
      = Ideal.ofBits FTy.f32 0x3F666666#32 * m (ix2 i j) + Ideal.ofBits FTy.f32 0x3DCCCCCD#32 * k0_pay3 (F := Ideal) P0 P1 P2 P3 P4 P5 P6 P7 (ix2 i j) := by
    intros
    pointwise [k0_pay4]
  refine e.trans ?_
  refine congrArg₂ (fun a b : EReal => _ * a + _ * b) (View.ld_unit_apply_of _ _ _ _ _ _ (fun a => match a with
      | ⟨0, _⟩ => (Nat.zero_add _).symm | ⟨1, _⟩ => (Nat.zero_add _).symm)) rfl

theorem pay_v (g v : Block) (i : Fin 8) (j : Fin 128) : k0_pay1 (F := Ideal) g v (ix2 i j)
    = Ideal.ofBits FTy.f32 0x3F7FBE77#32 * v (ix2 i j) + Ideal.ofBits FTy.f32 0x3A83126F#32 * (g (ix2 i j) * g (ix2 i j)) := by
  pointwise [k0_pay1]

theorem pay_d (g nm v w : Block) (i : Fin 8) (j : Fin 128) : k0_pay2 (F := Ideal) g nm v w (ix2 i j)
    = Ideal.ofBits FTy.f32 0xBA83126F#32 * (Ideal.div (nm (ix2 i j) * ((8388608 / 5463681 : ℝ) : EReal))
        (Ideal.sqrt (k0_pay1 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay2]

/-! ## The four results as functions of the packed arrays -/

def gAll (P : Pieces) : Whole := fun y => P (ix3 0 (y 0) (y 1)) + P (ix3 1 (y 0) (y 1)) + P (ix3 2 (y 0) (y 1)) + P (ix3 3 (y 0) (y 1)) + P (ix3 4 (y 0) (y 1)) + P (ix3 5 (y 0) (y 1)) + P (ix3 6 (y 0) (y 1)) + P (ix3 7 (y 0) (y 1))
def mAll (P : Pieces) (M : Whole) : Whole := fun y => Ideal.ofBits FTy.f32 0x3F666666#32 * M y + Ideal.ofBits FTy.f32 0x3DCCCCCD#32 * gAll P y
def vAll (P : Pieces) (U : Whole) : Whole := fun y => Ideal.ofBits FTy.f32 0x3F7FBE77#32 * U y + Ideal.ofBits FTy.f32 0x3A83126F#32 * (gAll P y * gAll P y)
def dAll (P : Pieces) (W M U : Whole) : Whole := fun y => Ideal.ofBits FTy.f32 0xBA83126F#32
    * (Ideal.div (mAll P M y * ((8388608 / 5463681 : ℝ) : EReal))
        (Ideal.sqrt (vAll P U y * ((268435456 / 2672307 : ℝ) : EReal)) + Ideal.ofBits FTy.f32 0x322BCC77#32)
      + Ideal.ofBits FTy.f32 0x3C23D70A#32 * W y)

theorem gAll_apply (P : Pieces) (i : Fin 40) (j : Fin 128) : gAll P (ix2 i j) = P (ix3 0 i j) + P (ix3 1 i j) + P (ix3 2 i j) + P (ix3 3 i j) + P (ix3 4 i j) + P (ix3 5 i j) + P (ix3 6 i j) + P (ix3 7 i j) := rfl

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := V m c main_v5
abbrev A1 (c : Dev nD) : Whole := V m c main_v11
abbrev A2 (c : Dev nD) : Whole := V m c main_v17
abbrev A3 (c : Dev nD) : Whole := V m c main_v23

theorem ptlt (t : Fin cfg0.N) (i : Fin 8) : t.val * 8 + i.val < 40 := by
  have : t.val < 5 := lt_of_lt_of_eq t.isLt N_0
  omega

abbrev row (t : Fin cfg0.N) (i : Fin 8) : Fin 40 := ⟨t.val * 8 + i.val, ptlt t i⟩

theorem iblk0 (c : Dev nD) (t : Fin cfg0.N) (p : Fin 8) (i : Fin 8) (j : Fin 128) :
    iblk m c 0 t (ix3 p i j) = A0 m c (ix3 p (row t i) j) := by
  blk_ext! [iblk, idx t]
theorem iblk1 (c : Dev nD) (t : Fin cfg0.N) (i : Fin 8) (j : Fin 128) : iblk m c 1 t (ix2 i j) = A1 m c (ix2 (row t i) j) := by
  blk_ext! [iblk, idx t]
theorem iblk2 (c : Dev nD) (t : Fin cfg0.N) (i : Fin 8) (j : Fin 128) : iblk m c 2 t (ix2 i j) = A2 m c (ix2 (row t i) j) := by
  blk_ext! [iblk, idx t]
theorem iblk3 (c : Dev nD) (t : Fin cfg0.N) (i : Fin 8) (j : Fin 128) : iblk m c 3 t (ix2 i j) = A3 m c (ix2 (row t i) j) := by
  blk_ext! [iblk, idx t]

theorem g_apply (c : Dev nD) (t : Fin cfg0.N) (i : Fin 8) (j : Fin 128) :
    k0_pay5 (F := Ideal) (iblk m c 0 t) (iblk m c 1 t) (iblk m c 2 t) (iblk m c 3 t) (ix2 i j) = gAll (A0 m c) (ix2 (row t i) j) := by
  rw [pay_g, gAll_apply]
  simp only [iblk0]
theorem m_apply (c : Dev nD) (t : Fin cfg0.N) (i : Fin 8) (j : Fin 128) :
    k0_pay6 (F := Ideal) (iblk m c 0 t) (iblk m c 1 t) (iblk m c 2 t) (iblk m c 3 t) (ix2 i j) = mAll (A0 m c) (A2 m c) (ix2 (row t i) j) := by
  rw [pay_m, mAll, g_apply, iblk2]
theorem v_apply (c : Dev nD) (t : Fin cfg0.N) (i : Fin 8) (j : Fin 128) :
    k0_pay1 (F := Ideal) (k0_pay5 (F := Ideal) (iblk m c 0 t) (iblk m c 1 t) (iblk m c 2 t) (iblk m c 3 t)) (iblk m c 3 t) (ix2 i j) = vAll (A0 m c) (A3 m c) (ix2 (row t i) j) := by
  rw [pay_v, vAll, g_apply, iblk3]
theorem d_apply (c : Dev nD) (t : Fin cfg0.N) (i : Fin 8) (j : Fin 128) :
    k0_pay2 (F := Ideal) (k0_pay5 (F := Ideal) (iblk m c 0 t) (iblk m c 1 t) (iblk m c 2 t) (iblk m c 3 t)) (k0_pay6 (F := Ideal) (iblk m c 0 t) (iblk m c 1 t) (iblk m c 2 t) (iblk m c 3 t)) (iblk m c 3 t) (iblk m c 1 t) (ix2 i j)
      = dAll (A0 m c) (A1 m c) (A2 m c) (A3 m c) (ix2 (row t i) j) := by
  rw [pay_d, dAll, m_apply, v_apply, iblk1]

theorem final4 (c : Dev nD) : (dats m 0 c).arrAt 4 cfg0.N = gAll (A0 m c) := by
  refine (dats m 0 c).arrAt_eq_of_covers 4 _ (by decide +kernel) fun t hf y => ?_
  obtain ⟨i, j, rfl⟩ : ∃ (i : Fin 8) (j : Fin 128), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = dAll (A0 m c) (A1 m c) (A2 m c) (A3 m c) := by
  refine (dats m 0 c).arrAt_eq_of_covers 5 _ (by decide +kernel) fun t hf y => ?_
  obtain ⟨i, j, rfl⟩ : ∃ (i : Fin 8) (j : Fin 128), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = mAll (A0 m c) (A2 m c) := by
  refine (dats m 0 c).arrAt_eq_of_covers 6 _ (by decide +kernel) fun t hf y => ?_
  obtain ⟨i, j, rfl⟩ : ∃ (i : Fin 8) (j : Fin 128), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = vAll (A0 m c) (A3 m c) := by
  refine (dats m 0 c).arrAt_eq_of_covers 7 _ (by decide +kernel) fun t hf y => ?_
  obtain ⟨i, j, rfl⟩ : ∃ (i : Fin 8) (j : Fin 128), y = ix2 i j := ⟨y 0, y 1, by blk_ext⟩
  blk_simp
  rw [after0_7, out0_7]
  frame_out
  refine (v_apply m c t i j).trans ?_
  congr 1
  blk_ext [idx t]

theorem arr4 (c : Dev nD) : Pipeline.withArrays spec0 c (V0 m c) (fun w => (dats m 0 c).arrAt w cfg0.N) (Proc.devRef .tc main_v24_0) = (dats m 0 c).arrAt 4 cfg0.N :=
  Pipeline.withArrays_arr spec0 winFacts0.arr_inj c _ _ 4

theorem arr5 (c : Dev nD) : Pipeline.withArrays spec0 c (V0 m c) (fun w => (dats m 0 c).arrAt w cfg0.N) (Proc.devRef .tc main_v24_1) = (dats m 0 c).arrAt 5 cfg0.N :=
  Pipeline.withArrays_arr spec0 winFacts0.arr_inj c _ _ 5

theorem arr6 (c : Dev nD) : Pipeline.withArrays spec0 c (V0 m c) (fun w => (dats m 0 c).arrAt w cfg0.N) (Proc.devRef .tc main_v24_2) = (dats m 0 c).arrAt 6 cfg0.N :=
  Pipeline.withArrays_arr spec0 winFacts0.arr_inj c _ _ 6

theorem arr7 (c : Dev nD) : Pipeline.withArrays spec0 c (V0 m c) (fun w => (dats m 0 c).arrAt w cfg0.N) (Proc.devRef .tc main_v24_3) = (dats m 0 c).arrAt 7 cfg0.N :=
  Pipeline.withArrays_arr spec0 winFacts0.arr_inj c _ _ 7

/-! ## Packing: element `q` of the joined arrays is at row `q / 128`, column `q % 128` -/

def hi (q : ℕ) (h : q < 5120) : Fin 40 := ⟨q / 128, by omega⟩
def lo (q : ℕ) : Fin 128 := ⟨q % 128, by omega⟩

abbrev ops : List (HloOp τ sig (Elt Ideal)) := [hostOps0, hostOps0_1, hostOps0_2, hostOps0_3, hostOps0_4, hostOps0_5, hostOps0_6, hostOps0_7, hostOps0_8].flatten

theorem packed0 (c : Dev nD) : V m c main_v5 = shapeCast S8x40x128 (pad (α := Elt Ideal .f32) S8x5120 ![0, 0] ![0, 512] ![0, 0] (concatenate (α := Elt Ideal .f32) S8x4608 1 [⟨S8x4096, (shapeCast S8x4096 (m (c.tc.loc main_arg9)) shapeCasts_S8x16x256_S8x4096 : Vec Ideal S8x4096 .f32)⟩, ⟨S8x256, (shapeCast S8x256 (m (c.tc.loc main_arg10)) shapeCasts_S8x1x256_S8x256 : Vec Ideal S8x256 .f32)⟩, ⟨S8x256, (shapeCast S8x256 (m (c.tc.loc main_arg11)) shapeCasts_S8x1x256_S8x256 : Vec Ideal S8x256 .f32)⟩] concatenates_S8x4096_S8x256_S8x256_S8x4608_d1)
    (sitofp (F := Ideal) .f32 (constantI S_ 32 0#32)) pads_S8x4608_S8x5120_000_05120 h_S_) shapeCasts_S8x5120_S8x40x128 := by
  have r0 : (StableHlo.upto ops (fun b => m (c, b)) 3 (Proc.devRef .tc main_v0) : Vec Ideal S8x4096 .f32) = shapeCast S8x4096 (m (c.tc.loc main_arg9)) shapeCasts_S8x16x256_S8x4096 := by
    unfold ops
    after_reads_simp
    try rfl
  have r1 : (StableHlo.upto ops (fun b => m (c, b)) 3 (Proc.devRef .tc main_v1) : Vec Ideal S8x256 .f32) = shapeCast S8x256 (m (c.tc.loc main_arg10)) shapeCasts_S8x1x256_S8x256 := by
    unfold ops
    after_reads_simp
    try rfl
  have r2 : (StableHlo.upto ops (fun b => m (c, b)) 3 (Proc.devRef .tc main_v2) : Vec Ideal S8x256 .f32) = shapeCast S8x256 (m (c.tc.loc main_arg11)) shapeCasts_S8x1x256_S8x256 := by
    unfold ops
    after_reads_simp
    try rfl
  have e := congr (congr (congrArg (fun (x0 : Vec Ideal S8x4096 .f32) (x1 : Vec Ideal S8x256 .f32) (x2 : Vec Ideal S8x256 .f32) => shapeCast S8x40x128 (pad (α := Elt Ideal .f32) S8x5120 ![0, 0] ![0, 512] ![0, 0] (concatenate (α := Elt Ideal .f32) S8x4608 1 [⟨S8x4096, x0⟩, ⟨S8x256, x1⟩, ⟨S8x256, x2⟩] concatenates_S8x4096_S8x256_S8x256_S8x4608_d1)
    (sitofp (F := Ideal) .f32 (constantI S_ 32 0#32)) pads_S8x4608_S8x5120_000_05120 h_S_) shapeCasts_S8x5120_S8x40x128) r0) r1) r2
  unfold V V0
  after_reads_simp
  exact e

theorem packed1 (c : Dev nD) : V m c main_v11 = shapeCast S40x128 (pad (α := Elt Ideal .f32) S5120 ![0] ![512] ![0] (concatenate (α := Elt Ideal .f32) S4608 0 [⟨S4096, (shapeCast S4096 (m (c.tc.loc main_arg0)) shapeCasts_S16x256_S4096 : Vec Ideal S4096 .f32)⟩, ⟨S256, (shapeCast S256 (m (c.tc.loc main_arg1)) shapeCasts_S1x256_S256 : Vec Ideal S256 .f32)⟩, ⟨S256, (shapeCast S256 (m (c.tc.loc main_arg2)) shapeCasts_S1x256_S256 : Vec Ideal S256 .f32)⟩] concatenates_S4096_S256_S256_S4608_d0)
    (sitofp (F := Ideal) .f32 (constantI S_ 32 0#32)) pads_S4608_S5120_05120 h_S_) shapeCasts_S5120_S40x128 := by
  have r0 : (StableHlo.upto ops (fun b => m (c, b)) 11 (Proc.devRef .tc main_v6) : Vec Ideal S4096 .f32) = shapeCast S4096 (m (c.tc.loc main_arg0)) shapeCasts_S16x256_S4096 := by
    unfold ops
    after_reads_simp
    try rfl
  have r1 : (StableHlo.upto ops (fun b => m (c, b)) 11 (Proc.devRef .tc main_v7) : Vec Ideal S256 .f32) = shapeCast S256 (m (c.tc.loc main_arg1)) shapeCasts_S1x256_S256 := by
    unfold ops
    after_reads_simp
    try rfl
  have r2 : (StableHlo.upto ops (fun b => m (c, b)) 11 (Proc.devRef .tc main_v8) : Vec Ideal S256 .f32) = shapeCast S256 (m (c.tc.loc main_arg2)) shapeCasts_S1x256_S256 := by
    unfold ops
    after_reads_simp
    try rfl
  have e := congr (congr (congrArg (fun (x0 : Vec Ideal S4096 .f32) (x1 : Vec Ideal S256 .f32) (x2 : Vec Ideal S256 .f32) => shapeCast S40x128 (pad (α := Elt Ideal .f32) S5120 ![0] ![512] ![0] (concatenate (α := Elt Ideal .f32) S4608 0 [⟨S4096, x0⟩, ⟨S256, x1⟩, ⟨S256, x2⟩] concatenates_S4096_S256_S256_S4608_d0)
    (sitofp (F := Ideal) .f32 (constantI S_ 32 0#32)) pads_S4608_S5120_05120 h_S_) shapeCasts_S5120_S40x128) r0) r1) r2
  unfold V V0
  after_reads_simp
  exact e

theorem packed2 (c : Dev nD) : V m c main_v17 = shapeCast S40x128 (pad (α := Elt Ideal .f32) S5120 ![0] ![512] ![0] (concatenate (α := Elt Ideal .f32) S4608 0 [⟨S4096, (shapeCast S4096 (m (c.tc.loc main_arg3)) shapeCasts_S16x256_S4096 : Vec Ideal S4096 .f32)⟩, ⟨S256, (shapeCast S256 (m (c.tc.loc main_arg4)) shapeCasts_S1x256_S256 : Vec Ideal S256 .f32)⟩, ⟨S256, (shapeCast S256 (m (c.tc.loc main_arg5)) shapeCasts_S1x256_S256 : Vec Ideal S256 .f32)⟩] concatenates_S4096_S256_S256_S4608_d0)
    (sitofp (F := Ideal) .f32 (constantI S_ 32 0#32)) pads_S4608_S5120_05120 h_S_) shapeCasts_S5120_S40x128 := by
  have r0 : (StableHlo.upto ops (fun b => m (c, b)) 19 (Proc.devRef .tc main_v12) : Vec Ideal S4096 .f32) = shapeCast S4096 (m (c.tc.loc main_arg3)) shapeCasts_S16x256_S4096 := by
    unfold ops
    after_reads_simp
    try rfl
  have r1 : (StableHlo.upto ops (fun b => m (c, b)) 19 (Proc.devRef .tc main_v13) : Vec Ideal S256 .f32) = shapeCast S256 (m (c.tc.loc main_arg4)) shapeCasts_S1x256_S256 := by
    unfold ops
    after_reads_simp
    try rfl
  have r2 : (StableHlo.upto ops (fun b => m (c, b)) 19 (Proc.devRef .tc main_v14) : Vec Ideal S256 .f32) = shapeCast S256 (m (c.tc.loc main_arg5)) shapeCasts_S1x256_S256 := by
    unfold ops
    after_reads_simp
    try rfl
  have e := congr (congr (congrArg (fun (x0 : Vec Ideal S4096 .f32) (x1 : Vec Ideal S256 .f32) (x2 : Vec Ideal S256 .f32) => shapeCast S40x128 (pad (α := Elt Ideal .f32) S5120 ![0] ![512] ![0] (concatenate (α := Elt Ideal .f32) S4608 0 [⟨S4096, x0⟩, ⟨S256, x1⟩, ⟨S256, x2⟩] concatenates_S4096_S256_S256_S4608_d0)
    (sitofp (F := Ideal) .f32 (constantI S_ 32 0#32)) pads_S4608_S5120_05120 h_S_) shapeCasts_S5120_S40x128) r0) r1) r2
  unfold V V0
  after_reads_simp
  exact e

theorem packed3 (c : Dev nD) : V m c main_v23 = shapeCast S40x128 (pad (α := Elt Ideal .f32) S5120 ![0] ![512] ![0] (concatenate (α := Elt Ideal .f32) S4608 0 [⟨S4096, (shapeCast S4096 (m (c.tc.loc main_arg6)) shapeCasts_S16x256_S4096 : Vec Ideal S4096 .f32)⟩, ⟨S256, (shapeCast S256 (m (c.tc.loc main_arg7)) shapeCasts_S1x256_S256 : Vec Ideal S256 .f32)⟩, ⟨S256, (shapeCast S256 (m (c.tc.loc main_arg8)) shapeCasts_S1x256_S256 : Vec Ideal S256 .f32)⟩] concatenates_S4096_S256_S256_S4608_d0)
    (sitofp (F := Ideal) .f32 (constantI S_ 32 0#32)) pads_S4608_S5120_05120 h_S_) shapeCasts_S5120_S40x128 := by
  have r0 : (StableHlo.upto ops (fun b => m (c, b)) 27 (Proc.devRef .tc main_v18) : Vec Ideal S4096 .f32) = shapeCast S4096 (m (c.tc.loc main_arg6)) shapeCasts_S16x256_S4096 := by
    unfold ops
    after_reads_simp
    try rfl
  have r1 : (StableHlo.upto ops (fun b => m (c, b)) 27 (Proc.devRef .tc main_v19) : Vec Ideal S256 .f32) = shapeCast S256 (m (c.tc.loc main_arg7)) shapeCasts_S1x256_S256 := by
    unfold ops
    after_reads_simp
    try rfl
  have r2 : (StableHlo.upto ops (fun b => m (c, b)) 27 (Proc.devRef .tc main_v20) : Vec Ideal S256 .f32) = shapeCast S256 (m (c.tc.loc main_arg8)) shapeCasts_S1x256_S256 := by
    unfold ops
    after_reads_simp
    try rfl
  have e := congr (congr (congrArg (fun (x0 : Vec Ideal S4096 .f32) (x1 : Vec Ideal S256 .f32) (x2 : Vec Ideal S256 .f32) => shapeCast S40x128 (pad (α := Elt Ideal .f32) S5120 ![0] ![512] ![0] (concatenate (α := Elt Ideal .f32) S4608 0 [⟨S4096, x0⟩, ⟨S256, x1⟩, ⟨S256, x2⟩] concatenates_S4096_S256_S256_S4608_d0)
    (sitofp (F := Ideal) .f32 (constantI S_ 32 0#32)) pads_S4608_S5120_05120 h_S_) shapeCasts_S5120_S40x128) r0) r1) r2
  unfold V V0
  after_reads_simp
  exact e

theorem ix1_eq {n0 : ℕ} {a a' : Fin n0} (h0 : a.val = a'.val) : ix1 a = ix1 a' := by
  obtain rfl : a = a' := Fin.ext h0
  rfl

theorem ix2_eq {n0 n1 : ℕ} {a a' : Fin n0} {b b' : Fin n1} (h0 : a.val = a'.val) (h1 : b.val = b'.val) : ix2 a b = ix2 a' b' := by
  obtain ⟨rfl, rfl⟩ : a = a' ∧ b = b' := ⟨Fin.ext h0, Fin.ext h1⟩
  rfl

theorem ix3_eq {n0 n1 n2 : ℕ} {a a' : Fin n0} {b b' : Fin n1} {u u' : Fin n2} (h0 : a.val = a'.val) (h1 : b.val = b'.val) (h2 : u.val = u'.val) : ix3 a b u = ix3 a' b' u' := by
  obtain ⟨rfl, rfl, rfl⟩ : a = a' ∧ b = b' ∧ u = u' := ⟨Fin.ext h0, Fin.ext h1, Fin.ext h2⟩
  rfl

theorem flat0 (X : Vec Ideal S8x5120 .f32) (p : Fin 8) (q : ℕ) (h : q < 5120) :
    (shapeCast S8x40x128 X shapeCasts_S8x5120_S8x40x128 : Vec Ideal S8x40x128 .f32) (ix3 p (hi q h) (lo q)) = X (ix2 p ⟨q, h⟩) := by
  pointwise [hi, lo]
  refine congrArg X (ix2_eq rfl ?_)
  first | omega | (dsimp only; omega) | (simp; omega)

theorem padded0 (Y : Vec Ideal S8x4608 .f32) (v : Vec Ideal S_ .f32) (p : Fin 8) (q : ℕ) (h : q < 4608) :
    (pad (α := Elt Ideal .f32) S8x5120 ![0, 0] ![0, 512] ![0, 0] Y v pads_S8x4608_S8x5120_000_05120 h_S_ : Vec Ideal S8x5120 .f32) (ix2 p ⟨q, by omega⟩) = Y (ix2 p ⟨q, h⟩) := by
  pointwise
  split_ifs <;> first | rfl | (exfalso; omega)

theorem cat0_0 (x0 : Vec Ideal S8x4096 .f32) (x1 : Vec Ideal S8x256 .f32) (x2 : Vec Ideal S8x256 .f32) (p : Fin 8) (q : ℕ) (h : q < 4096) :
    (concatenate (α := Elt Ideal .f32) S8x4608 1 [⟨S8x4096, x0⟩, ⟨S8x256, x1⟩, ⟨S8x256, x2⟩] concatenates_S8x4096_S8x256_S8x256_S8x4608_d1 : Vec Ideal S8x4608 .f32) (ix2 p ⟨0 + q, by omega⟩) = x0 (ix2 p ⟨q, h⟩) := by
  pointwise
  split_ifs <;> first
    | (exfalso; omega)
    | (refine congrArg x0 (ix2_eq rfl ?_); first | omega | (dsimp only; omega) | (simp; omega))

theorem cat0_1 (x0 : Vec Ideal S8x4096 .f32) (x1 : Vec Ideal S8x256 .f32) (x2 : Vec Ideal S8x256 .f32) (p : Fin 8) (q : ℕ) (h : q < 256) :
    (concatenate (α := Elt Ideal .f32) S8x4608 1 [⟨S8x4096, x0⟩, ⟨S8x256, x1⟩, ⟨S8x256, x2⟩] concatenates_S8x4096_S8x256_S8x256_S8x4608_d1 : Vec Ideal S8x4608 .f32) (ix2 p ⟨4096 + q, by omega⟩) = x1 (ix2 p ⟨q, h⟩) := by
  pointwise
  split_ifs <;> first
    | (exfalso; omega)
    | (refine congrArg x1 (ix2_eq rfl ?_); first | omega | (dsimp only; omega) | (simp; omega))

theorem cat0_2 (x0 : Vec Ideal S8x4096 .f32) (x1 : Vec Ideal S8x256 .f32) (x2 : Vec Ideal S8x256 .f32) (p : Fin 8) (q : ℕ) (h : q < 256) :
    (concatenate (α := Elt Ideal .f32) S8x4608 1 [⟨S8x4096, x0⟩, ⟨S8x256, x1⟩, ⟨S8x256, x2⟩] concatenates_S8x4096_S8x256_S8x256_S8x4608_d1 : Vec Ideal S8x4608 .f32) (ix2 p ⟨4352 + q, by omega⟩) = x2 (ix2 p ⟨q, h⟩) := by
  pointwise
  split_ifs <;> first
    | (exfalso; omega)
    | (refine congrArg x2 (ix2_eq rfl ?_); first | omega | (dsimp only; omega) | (simp; omega))

theorem flat1 (X : Vec Ideal S5120 .f32) (q : ℕ) (h : q < 5120) :
    (shapeCast S40x128 X shapeCasts_S5120_S40x128 : Vec Ideal S40x128 .f32) (ix2 (hi q h) (lo q)) = X (ix1 ⟨q, h⟩) := by
  pointwise [hi, lo]
  refine congrArg X (ix1_eq ?_)
  first | omega | (dsimp only; omega) | (simp; omega)

theorem padded1 (Y : Vec Ideal S4608 .f32) (v : Vec Ideal S_ .f32) (q : ℕ) (h : q < 4608) :
    (pad (α := Elt Ideal .f32) S5120 ![0] ![512] ![0] Y v pads_S4608_S5120_05120 h_S_ : Vec Ideal S5120 .f32) (ix1 ⟨q, by omega⟩) = Y (ix1 ⟨q, h⟩) := by
  pointwise
  split_ifs <;> first | rfl | (exfalso; omega)

theorem cat1_0 (x0 : Vec Ideal S4096 .f32) (x1 : Vec Ideal S256 .f32) (x2 : Vec Ideal S256 .f32) (q : ℕ) (h : q < 4096) :
    (concatenate (α := Elt Ideal .f32) S4608 0 [⟨S4096, x0⟩, ⟨S256, x1⟩, ⟨S256, x2⟩] concatenates_S4096_S256_S256_S4608_d0 : Vec Ideal S4608 .f32) (ix1 ⟨0 + q, by omega⟩) = x0 (ix1 ⟨q, h⟩) := by
  pointwise
  split_ifs <;> first
    | (exfalso; omega)
    | (refine congrArg x0 (ix1_eq ?_); first | omega | (dsimp only; omega) | (simp; omega))

theorem cat1_1 (x0 : Vec Ideal S4096 .f32) (x1 : Vec Ideal S256 .f32) (x2 : Vec Ideal S256 .f32) (q : ℕ) (h : q < 256) :
    (concatenate (α := Elt Ideal .f32) S4608 0 [⟨S4096, x0⟩, ⟨S256, x1⟩, ⟨S256, x2⟩] concatenates_S4096_S256_S256_S4608_d0 : Vec Ideal S4608 .f32) (ix1 ⟨4096 + q, by omega⟩) = x1 (ix1 ⟨q, h⟩) := by
  pointwise
  split_ifs <;> first
    | (exfalso; omega)
    | (refine congrArg x1 (ix1_eq ?_); first | omega | (dsimp only; omega) | (simp; omega))

theorem cat1_2 (x0 : Vec Ideal S4096 .f32) (x1 : Vec Ideal S256 .f32) (x2 : Vec Ideal S256 .f32) (q : ℕ) (h : q < 256) :
    (concatenate (α := Elt Ideal .f32) S4608 0 [⟨S4096, x0⟩, ⟨S256, x1⟩, ⟨S256, x2⟩] concatenates_S4096_S256_S256_S4608_d0 : Vec Ideal S4608 .f32) (ix1 ⟨4352 + q, by omega⟩) = x2 (ix1 ⟨q, h⟩) := by
  pointwise
  split_ifs <;> first
    | (exfalso; omega)
    | (refine congrArg x2 (ix1_eq ?_); first | omega | (dsimp only; omega) | (simp; omega))

theorem cast0_0 (X : Vec Ideal S8x16x256 .f32) (p : Fin 8) (a : Fin 16) (b : Fin 256) :
    (shapeCast S8x4096 X shapeCasts_S8x16x256_S8x4096 : Vec Ideal S8x4096 .f32) (ix2 p ⟨(a.val * 256 + b.val), by omega⟩) = X (ix3 p a b) := by
  pointwise
  try (first | rfl | (refine congrArg X (ix3_eq ?_ ?_ ?_) <;> first | rfl | omega | (try dsimp only; omega) | (simp; omega)))

theorem cast1_0 (X : Vec Ideal S16x256 .f32) (a : Fin 16) (b : Fin 256) :
    (shapeCast S4096 X shapeCasts_S16x256_S4096 : Vec Ideal S4096 .f32) (ix1 ⟨(a.val * 256 + b.val), by omega⟩) = X (ix2 a b) := by
  pointwise
  try (first | rfl | (refine congrArg X (ix2_eq ?_ ?_) <;> first | rfl | omega | (try dsimp only; omega) | (simp; omega)))

theorem pack0_0 (c : Dev nD) (p : Fin 8) (a : Fin 16) (b : Fin 256) : A0 m c (ix3 p (hi (0 + (a.val * 256 + b.val)) (by omega)) (lo (0 + (a.val * 256 + b.val))))
    = m (c.tc.loc main_arg9) (ix3 p a b) := by
  exact (congrFun (packed0 m c) _).trans <| (flat0 _ p _ _).trans ((padded0 _ _ p (0 + (a.val * 256 + b.val)) (by omega)).trans ((cat0_0 _ _ _ p _ (by omega)).trans
    (cast0_0 _ p a b)))

theorem pack1_0 (c : Dev nD) (a : Fin 16) (b : Fin 256) : A1 m c (ix2 (hi (0 + (a.val * 256 + b.val)) (by omega)) (lo (0 + (a.val * 256 + b.val))))
    = m (c.tc.loc main_arg0) (ix2 a b) := by
  exact (congrFun (packed1 m c) _).trans <| (flat1 _ _ _).trans ((padded1 _ _ (0 + (a.val * 256 + b.val)) (by omega)).trans ((cat1_0 _ _ _ _ (by omega)).trans
    (cast1_0 _ a b)))

theorem pack2_0 (c : Dev nD) (a : Fin 16) (b : Fin 256) : A2 m c (ix2 (hi (0 + (a.val * 256 + b.val)) (by omega)) (lo (0 + (a.val * 256 + b.val))))
    = m (c.tc.loc main_arg3) (ix2 a b) := by
  exact (congrFun (packed2 m c) _).trans <| (flat1 _ _ _).trans ((padded1 _ _ (0 + (a.val * 256 + b.val)) (by omega)).trans ((cat1_0 _ _ _ _ (by omega)).trans
    (cast1_0 _ a b)))

theorem pack3_0 (c : Dev nD) (a : Fin 16) (b : Fin 256) : A3 m c (ix2 (hi (0 + (a.val * 256 + b.val)) (by omega)) (lo (0 + (a.val * 256 + b.val))))
    = m (c.tc.loc main_arg6) (ix2 a b) := by
  exact (congrFun (packed3 m c) _).trans <| (flat1 _ _ _).trans ((padded1 _ _ (0 + (a.val * 256 + b.val)) (by omega)).trans ((cat1_0 _ _ _ _ (by omega)).trans
    (cast1_0 _ a b)))

theorem unpack_0 (X : Whole) (a : Fin 16) (b : Fin 256) : shapeCast S16x256 (extractStridedSlice S4096 ![0] (shapeCast S5120 (X) shapeCasts_S40x128_S5120) slices_S5120_S4096_0) shapeCasts_S4096_S16x256 (ix2 a b) = X (ix2 (hi (0 + (a.val * 256 + b.val)) (by omega)) (lo (0 + (a.val * 256 + b.val)))) := by
  pointwise [hi, lo]

theorem cast0_1 (X : Vec Ideal S8x1x256 .f32) (p : Fin 8) (a : Fin 1) (b : Fin 256) :
    (shapeCast S8x256 X shapeCasts_S8x1x256_S8x256 : Vec Ideal S8x256 .f32) (ix2 p ⟨(a.val * 256 + b.val), by omega⟩) = X (ix3 p a b) := by
  pointwise
  try (first | rfl | (refine congrArg X (ix3_eq ?_ ?_ ?_) <;> first | rfl | omega | (try dsimp only; omega) | (simp; omega)))

theorem cast1_1 (X : Vec Ideal S1x256 .f32) (a : Fin 1) (b : Fin 256) :
    (shapeCast S256 X shapeCasts_S1x256_S256 : Vec Ideal S256 .f32) (ix1 ⟨(a.val * 256 + b.val), by omega⟩) = X (ix2 a b) := by
  pointwise
  try (first | rfl | (refine congrArg X (ix2_eq ?_ ?_) <;> first | rfl | omega | (try dsimp only; omega) | (simp; omega)))

theorem pack0_1 (c : Dev nD) (p : Fin 8) (a : Fin 1) (b : Fin 256) : A0 m c (ix3 p (hi (4096 + (a.val * 256 + b.val)) (by omega)) (lo (4096 + (a.val * 256 + b.val))))
    = m (c.tc.loc main_arg10) (ix3 p a b) := by
  exact (congrFun (packed0 m c) _).trans <| (flat0 _ p _ _).trans ((padded0 _ _ p (4096 + (a.val * 256 + b.val)) (by omega)).trans ((cat0_1 _ _ _ p _ (by omega)).trans
    (cast0_1 _ p a b)))

theorem pack1_1 (c : Dev nD) (a : Fin 1) (b : Fin 256) : A1 m c (ix2 (hi (4096 + (a.val * 256 + b.val)) (by omega)) (lo (4096 + (a.val * 256 + b.val))))
    = m (c.tc.loc main_arg1) (ix2 a b) := by
  exact (congrFun (packed1 m c) _).trans <| (flat1 _ _ _).trans ((padded1 _ _ (4096 + (a.val * 256 + b.val)) (by omega)).trans ((cat1_1 _ _ _ _ (by omega)).trans
    (cast1_1 _ a b)))

theorem pack2_1 (c : Dev nD) (a : Fin 1) (b : Fin 256) : A2 m c (ix2 (hi (4096 + (a.val * 256 + b.val)) (by omega)) (lo (4096 + (a.val * 256 + b.val))))
    = m (c.tc.loc main_arg4) (ix2 a b) := by
  exact (congrFun (packed2 m c) _).trans <| (flat1 _ _ _).trans ((padded1 _ _ (4096 + (a.val * 256 + b.val)) (by omega)).trans ((cat1_1 _ _ _ _ (by omega)).trans
    (cast1_1 _ a b)))

theorem pack3_1 (c : Dev nD) (a : Fin 1) (b : Fin 256) : A3 m c (ix2 (hi (4096 + (a.val * 256 + b.val)) (by omega)) (lo (4096 + (a.val * 256 + b.val))))
    = m (c.tc.loc main_arg7) (ix2 a b) := by
  exact (congrFun (packed3 m c) _).trans <| (flat1 _ _ _).trans ((padded1 _ _ (4096 + (a.val * 256 + b.val)) (by omega)).trans ((cat1_1 _ _ _ _ (by omega)).trans
    (cast1_1 _ a b)))

theorem unpack_1 (X : Whole) (a : Fin 1) (b : Fin 256) : shapeCast S1x256 (extractStridedSlice S256 ![4096] (shapeCast S5120 (X) shapeCasts_S40x128_S5120) slices_S5120_S256_4096) shapeCasts_S256_S1x256 (ix2 a b) = X (ix2 (hi (4096 + (a.val * 256 + b.val)) (by omega)) (lo (4096 + (a.val * 256 + b.val)))) := by
  pointwise [hi, lo]

theorem pack0_2 (c : Dev nD) (p : Fin 8) (a : Fin 1) (b : Fin 256) : A0 m c (ix3 p (hi (4352 + (a.val * 256 + b.val)) (by omega)) (lo (4352 + (a.val * 256 + b.val))))
    = m (c.tc.loc main_arg11) (ix3 p a b) := by
  exact (congrFun (packed0 m c) _).trans <| (flat0 _ p _ _).trans ((padded0 _ _ p (4352 + (a.val * 256 + b.val)) (by omega)).trans ((cat0_2 _ _ _ p _ (by omega)).trans
    (cast0_1 _ p a b)))

theorem pack1_2 (c : Dev nD) (a : Fin 1) (b : Fin 256) : A1 m c (ix2 (hi (4352 + (a.val * 256 + b.val)) (by omega)) (lo (4352 + (a.val * 256 + b.val))))
    = m (c.tc.loc main_arg2) (ix2 a b) := by
  exact (congrFun (packed1 m c) _).trans <| (flat1 _ _ _).trans ((padded1 _ _ (4352 + (a.val * 256 + b.val)) (by omega)).trans ((cat1_2 _ _ _ _ (by omega)).trans
    (cast1_1 _ a b)))

theorem pack2_2 (c : Dev nD) (a : Fin 1) (b : Fin 256) : A2 m c (ix2 (hi (4352 + (a.val * 256 + b.val)) (by omega)) (lo (4352 + (a.val * 256 + b.val))))
    = m (c.tc.loc main_arg5) (ix2 a b) := by
  exact (congrFun (packed2 m c) _).trans <| (flat1 _ _ _).trans ((padded1 _ _ (4352 + (a.val * 256 + b.val)) (by omega)).trans ((cat1_2 _ _ _ _ (by omega)).trans
    (cast1_1 _ a b)))

theorem pack3_2 (c : Dev nD) (a : Fin 1) (b : Fin 256) : A3 m c (ix2 (hi (4352 + (a.val * 256 + b.val)) (by omega)) (lo (4352 + (a.val * 256 + b.val))))
    = m (c.tc.loc main_arg8) (ix2 a b) := by
  exact (congrFun (packed3 m c) _).trans <| (flat1 _ _ _).trans ((padded1 _ _ (4352 + (a.val * 256 + b.val)) (by omega)).trans ((cat1_2 _ _ _ _ (by omega)).trans
    (cast1_1 _ a b)))

theorem unpack_2 (X : Whole) (a : Fin 1) (b : Fin 256) : shapeCast S1x256 (extractStridedSlice S256 ![4352] (shapeCast S5120 (X) shapeCasts_S40x128_S5120) slices_S5120_S256_4352) shapeCasts_S256_S1x256 (ix2 a b) = X (ix2 (hi (4352 + (a.val * 256 + b.val)) (by omega)) (lo (4352 + (a.val * 256 + b.val)))) := by
  pointwise [hi, lo]

/-! ## The reference at an index -/

theorem ref_g_0 (x9 : Vec Ideal S8x16x256 .f32) (a : Fin 16) (b : Fin 256) : val_main_v0 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  pointwise [val_main_v0, val_main_cst]
  rw [Fin.sum_univ_eight]

theorem ref_m_0 (x3 : Vec Ideal S16x256 .f32) (x9 : Vec Ideal S8x16x256 .f32) (a : Fin 16) (b : Fin 256) : val_main_v7 (F := Ideal) x3 x9 (ix2 a b)
    = Ideal.ofBits FTy.f32 0x3F666666#32 * x3 (ix2 a b) + Ideal.ofBits FTy.f32 0x3DCCCCCD#32 * val_main_v0 (F := Ideal) x9 (ix2 a b) := by
  pointwise [val_main_v3, val_main_v4, val_main_v5, val_main_v6, val_main_v7, val_main_cst_2, val_main_cst_3]

theorem ref_v_0 (x6 : Vec Ideal S16x256 .f32) (x9 : Vec Ideal S8x16x256 .f32) (a : Fin 16) (b : Fin 256) : val_main_v13 (F := Ideal) x6 x9 (ix2 a b)
    = Ideal.ofBits FTy.f32 0x3F7FBE77#32 * x6 (ix2 a b) + Ideal.ofBits FTy.f32 0x3A83126F#32 * (val_main_v0 (F := Ideal) x9 (ix2 a b) * val_main_v0 (F := Ideal) x9 (ix2 a b)) := by
  pointwise [val_main_v8, val_main_v9, val_main_v10, val_main_v11, val_main_v12, val_main_v13, val_main_cst_4, val_main_cst_5]

theorem ref_d_0 (x0 : Vec Ideal S16x256 .f32) (x3 : Vec Ideal S16x256 .f32) (x6 : Vec Ideal S16x256 .f32) (x9 : Vec Ideal S8x16x256 .f32) (a : Fin 16) (b : Fin 256) : val_main_v26 (F := Ideal) x0 x3 x6 x9 (ix2 a b)
    = Ideal.ofBits FTy.f32 0xBA83126F#32 * (Ideal.div (val_main_v7 (F := Ideal) x3 x9 (ix2 a b) * ((8388608 / 5463681 : ℝ) : EReal))
        (Ideal.sqrt (val_main_v13 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v14, val_main_v15, val_main_v16, val_main_v17, val_main_v18, val_main_v19, val_main_v20, val_main_v21, val_main_v22, val_main_v23, val_main_v24, val_main_v25, val_main_v26, val_main_cst_6, val_main_cst_7, val_main_cst_8, val_main_cst_9, val_main_cst_10]

theorem g_at_0 (c : Dev nD) (a : Fin 16) (b : Fin 256) : gAll (A0 m c) (ix2 (hi (0 + (a.val * 256 + b.val)) (by omega)) (lo (0 + (a.val * 256 + b.val)))) = val_main_v0 (F := Ideal) (m (c.tc.loc main_arg9)) (ix2 a b) := by
  rw [gAll_apply, ref_g_0]
  have e := fun p => pack0_0 m c p a b
  rw [e 0, e 1, e 2, e 3, e 4, e 5, e 6, e 7]

theorem m_at_0 (c : Dev nD) (a : Fin 16) (b : Fin 256) : mAll (A0 m c) (A2 m c) (ix2 (hi (0 + (a.val * 256 + b.val)) (by omega)) (lo (0 + (a.val * 256 + b.val)))) = val_main_v7 (F := Ideal) (m (c.tc.loc main_arg3)) (m (c.tc.loc main_arg9)) (ix2 a b) := by
  rw [mAll, g_at_0, pack2_0, ref_m_0]

theorem v_at_0 (c : Dev nD) (a : Fin 16) (b : Fin 256) : vAll (A0 m c) (A3 m c) (ix2 (hi (0 + (a.val * 256 + b.val)) (by omega)) (lo (0 + (a.val * 256 + b.val)))) = val_main_v13 (F := Ideal) (m (c.tc.loc main_arg6)) (m (c.tc.loc main_arg9)) (ix2 a b) := by
  rw [vAll, g_at_0, pack3_0, ref_v_0]

theorem d_at_0 (c : Dev nD) (a : Fin 16) (b : Fin 256) : dAll (A0 m c) (A1 m c) (A2 m c) (A3 m c) (ix2 (hi (0 + (a.val * 256 + b.val)) (by omega)) (lo (0 + (a.val * 256 + b.val)))) = val_main_v26 (F := Ideal) (m (c.tc.loc main_arg0)) (m (c.tc.loc main_arg3)) (m (c.tc.loc main_arg6)) (m (c.tc.loc main_arg9)) (ix2 a b) := by
  rw [dAll, m_at_0, v_at_0, pack1_0, ref_d_0]

theorem g_res_0 (c : Dev nD) : Pipeline.afterTail₀ cfgs (dats m) 0 (V0 m) [hostOps1] c main_v27 = val_main_v0 (F := Ideal) (m (c.tc.loc main_arg9)) := by
  have e : Pipeline.afterTail₀ cfgs (dats m) 0 (V0 m) [hostOps1] c main_v27 = shapeCast S16x256 (extractStridedSlice S4096 ![0] (shapeCast S5120 ((dats m 0 c).arrAt 4 cfg0.N) shapeCasts_S40x128_S5120) slices_S5120_S4096_0) shapeCasts_S4096_S16x256 := by
    unfold Pipeline.afterTail₀
    after_reads_simp
    rw [arr4]
    rfl
  rw [e, final4]
  funext y
  obtain ⟨a, b, rfl⟩ : ∃ (a : Fin 16) (b : Fin 256), y = ix2 a b := ⟨y 0, y 1, by blk_ext⟩
  exact (unpack_0 _ a b).trans (g_at_0 m c a b)

theorem d_res_0 (c : Dev nD) : Pipeline.afterTail₀ cfgs (dats m) 0 (V0 m) [hostOps1] c main_v34 = val_main_v26 (F := Ideal) (m (c.tc.loc main_arg0)) (m (c.tc.loc main_arg3)) (m (c.tc.loc main_arg6)) (m (c.tc.loc main_arg9)) := by
  have e : Pipeline.afterTail₀ cfgs (dats m) 0 (V0 m) [hostOps1] c main_v34 = shapeCast S16x256 (extractStridedSlice S4096 ![0] (shapeCast S5120 ((dats m 0 c).arrAt 5 cfg0.N) shapeCasts_S40x128_S5120) slices_S5120_S4096_0) shapeCasts_S4096_S16x256 := by
    unfold Pipeline.afterTail₀
    after_reads_simp
    rw [arr5]
    rfl
  rw [e, final5]
  funext y
  obtain ⟨a, b, rfl⟩ : ∃ (a : Fin 16) (b : Fin 256), y = ix2 a b := ⟨y 0, y 1, by blk_ext⟩
  exact (unpack_0 _ a b).trans (d_at_0 m c a b)

theorem m_res_0 (c : Dev nD) : Pipeline.afterTail₀ cfgs (dats m) 0 (V0 m) [hostOps1] c main_v41 = val_main_v7 (F := Ideal) (m (c.tc.loc main_arg3)) (m (c.tc.loc main_arg9)) := by
  have e : Pipeline.afterTail₀ cfgs (dats m) 0 (V0 m) [hostOps1] c main_v41 = shapeCast S16x256 (extractStridedSlice S4096 ![0] (shapeCast S5120 ((dats m 0 c).arrAt 6 cfg0.N) shapeCasts_S40x128_S5120) slices_S5120_S4096_0) shapeCasts_S4096_S16x256 := by
    unfold Pipeline.afterTail₀
    after_reads_simp
    rw [arr6]
    rfl
  rw [e, final6]
  funext y
  obtain ⟨a, b, rfl⟩ : ∃ (a : Fin 16) (b : Fin 256), y = ix2 a b := ⟨y 0, y 1, by blk_ext⟩
  exact (unpack_0 _ a b).trans (m_at_0 m c a b)

theorem v_res_0 (c : Dev nD) : Pipeline.afterTail₀ cfgs (dats m) 0 (V0 m) [hostOps1] c main_v48 = val_main_v13 (F := Ideal) (m (c.tc.loc main_arg6)) (m (c.tc.loc main_arg9)) := by
  have e : Pipeline.afterTail₀ cfgs (dats m) 0 (V0 m) [hostOps1] c main_v48 = shapeCast S16x256 (extractStridedSlice S4096 ![0] (shapeCast S5120 ((dats m 0 c).arrAt 7 cfg0.N) shapeCasts_S40x128_S5120) slices_S5120_S4096_0) shapeCasts_S4096_S16x256 := by
    unfold Pipeline.afterTail₀
    after_reads_simp
    rw [arr7]
    rfl
  rw [e, final7]
  funext y
  obtain ⟨a, b, rfl⟩ : ∃ (a : Fin 16) (b : Fin 256), y = ix2 a b := ⟨y 0, y 1, by blk_ext⟩
  exact (unpack_0 _ a b).trans (v_at_0 m c a b)

theorem ref_g_1 (x9 : Vec Ideal S8x1x256 .f32) (a : Fin 1) (b : Fin 256) : val_main_v1 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  obtain rfl : a = 0 := Fin.eq_zero a
  pointwise [val_main_v1, val_main_cst_0]
  rw [Fin.sum_univ_eight]

theorem ref_m_1 (x3 : Vec Ideal S1x256 .f32) (x9 : Vec Ideal S8x1x256 .f32) (a : Fin 1) (b : Fin 256) : val_main_v31 (F := Ideal) x3 x9 (ix2 a b)
    = Ideal.ofBits FTy.f32 0x3F666666#32 * x3 (ix2 a b) + Ideal.ofBits FTy.f32 0x3DCCCCCD#32 * val_main_v1 (F := Ideal) x9 (ix2 a b) := by
  pointwise [val_main_v27, val_main_v28, val_main_v29, val_main_v30, val_main_v31, val_main_cst_11, val_main_cst_12]

theorem ref_v_1 (x6 : Vec Ideal S1x256 .f32) (x9 : Vec Ideal S8x1x256 .f32) (a : Fin 1) (b : Fin 256) : val_main_v37 (F := Ideal) x6 x9 (ix2 a b)
    = Ideal.ofBits FTy.f32 0x3F7FBE77#32 * x6 (ix2 a b) + Ideal.ofBits FTy.f32 0x3A83126F#32 * (val_main_v1 (F := Ideal) x9 (ix2 a b) * val_main_v1 (F := Ideal) x9 (ix2 a b)) := by
  pointwise [val_main_v32, val_main_v33, val_main_v34, val_main_v35, val_main_v36, val_main_v37, val_main_cst_13, val_main_cst_14]

theorem ref_d_1 (x0 : Vec Ideal S1x256 .f32) (x3 : Vec Ideal S1x256 .f32) (x6 : Vec Ideal S1x256 .f32) (x9 : Vec Ideal S8x1x256 .f32) (a : Fin 1) (b : Fin 256) : val_main_v50 (F := Ideal) x0 x3 x6 x9 (ix2 a b)
    = Ideal.ofBits FTy.f32 0xBA83126F#32 * (Ideal.div (val_main_v31 (F := Ideal) x3 x9 (ix2 a b) * ((8388608 / 5463681 : ℝ) : EReal))
        (Ideal.sqrt (val_main_v37 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v38, val_main_v39, val_main_v40, val_main_v41, val_main_v42, val_main_v43, val_main_v44, val_main_v45, val_main_v46, val_main_v47, val_main_v48, val_main_v49, val_main_v50, val_main_cst_15, val_main_cst_16, val_main_cst_17, val_main_cst_18, val_main_cst_19]

theorem g_at_1 (c : Dev nD) (a : Fin 1) (b : Fin 256) : gAll (A0 m c) (ix2 (hi (4096 + (a.val * 256 + b.val)) (by omega)) (lo (4096 + (a.val * 256 + b.val)))) = val_main_v1 (F := Ideal) (m (c.tc.loc main_arg10)) (ix2 a b) := by
  rw [gAll_apply, ref_g_1]
  have e := fun p => pack0_1 m c p a b
  rw [e 0, e 1, e 2, e 3, e 4, e 5, e 6, e 7]

theorem m_at_1 (c : Dev nD) (a : Fin 1) (b : Fin 256) : mAll (A0 m c) (A2 m c) (ix2 (hi (4096 + (a.val * 256 + b.val)) (by omega)) (lo (4096 + (a.val * 256 + b.val)))) = val_main_v31 (F := Ideal) (m (c.tc.loc main_arg4)) (m (c.tc.loc main_arg10)) (ix2 a b) := by
  rw [mAll, g_at_1, pack2_1, ref_m_1]

theorem v_at_1 (c : Dev nD) (a : Fin 1) (b : Fin 256) : vAll (A0 m c) (A3 m c) (ix2 (hi (4096 + (a.val * 256 + b.val)) (by omega)) (lo (4096 + (a.val * 256 + b.val)))) = val_main_v37 (F := Ideal) (m (c.tc.loc main_arg7)) (m (c.tc.loc main_arg10)) (ix2 a b) := by
  rw [vAll, g_at_1, pack3_1, ref_v_1]

theorem d_at_1 (c : Dev nD) (a : Fin 1) (b : Fin 256) : dAll (A0 m c) (A1 m c) (A2 m c) (A3 m c) (ix2 (hi (4096 + (a.val * 256 + b.val)) (by omega)) (lo (4096 + (a.val * 256 + b.val)))) = val_main_v50 (F := Ideal) (m (c.tc.loc main_arg1)) (m (c.tc.loc main_arg4)) (m (c.tc.loc main_arg7)) (m (c.tc.loc main_arg10)) (ix2 a b) := by
  rw [dAll, m_at_1, v_at_1, pack1_1, ref_d_1]

theorem g_res_1 (c : Dev nD) : Pipeline.afterTail₀ cfgs (dats m) 0 (V0 m) [hostOps1] c main_v29 = val_main_v1 (F := Ideal) (m (c.tc.loc main_arg10)) := by
  have e : Pipeline.afterTail₀ cfgs (dats m) 0 (V0 m) [hostOps1] c main_v29 = shapeCast S1x256 (extractStridedSlice S256 ![4096] (shapeCast S5120 ((dats m 0 c).arrAt 4 cfg0.N) shapeCasts_S40x128_S5120) slices_S5120_S256_4096) shapeCasts_S256_S1x256 := by
    unfold Pipeline.afterTail₀
    after_reads_simp
    rw [arr4]
    rfl
  rw [e, final4]
  funext y
  obtain ⟨a, b, rfl⟩ : ∃ (a : Fin 1) (b : Fin 256), y = ix2 a b := ⟨y 0, y 1, by blk_ext⟩
  exact (unpack_1 _ a b).trans (g_at_1 m c a b)

theorem d_res_1 (c : Dev nD) : Pipeline.afterTail₀ cfgs (dats m) 0 (V0 m) [hostOps1] c main_v36 = val_main_v50 (F := Ideal) (m (c.tc.loc main_arg1)) (m (c.tc.loc main_arg4)) (m (c.tc.loc main_arg7)) (m (c.tc.loc main_arg10)) := by
  have e : Pipeline.afterTail₀ cfgs (dats m) 0 (V0 m) [hostOps1] c main_v36 = shapeCast S1x256 (extractStridedSlice S256 ![4096] (shapeCast S5120 ((dats m 0 c).arrAt 5 cfg0.N) shapeCasts_S40x128_S5120) slices_S5120_S256_4096) shapeCasts_S256_S1x256 := by
    unfold Pipeline.afterTail₀
    after_reads_simp
    rw [arr5]
    rfl
  rw [e, final5]
  funext y
  obtain ⟨a, b, rfl⟩ : ∃ (a : Fin 1) (b : Fin 256), y = ix2 a b := ⟨y 0, y 1, by blk_ext⟩
  exact (unpack_1 _ a b).trans (d_at_1 m c a b)

theorem m_res_1 (c : Dev nD) : Pipeline.afterTail₀ cfgs (dats m) 0 (V0 m) [hostOps1] c main_v43 = val_main_v31 (F := Ideal) (m (c.tc.loc main_arg4)) (m (c.tc.loc main_arg10)) := by
  have e : Pipeline.afterTail₀ cfgs (dats m) 0 (V0 m) [hostOps1] c main_v43 = shapeCast S1x256 (extractStridedSlice S256 ![4096] (shapeCast S5120 ((dats m 0 c).arrAt 6 cfg0.N) shapeCasts_S40x128_S5120) slices_S5120_S256_4096) shapeCasts_S256_S1x256 := by
    unfold Pipeline.afterTail₀
    after_reads_simp
    rw [arr6]
    rfl
  rw [e, final6]
  funext y
  obtain ⟨a, b, rfl⟩ : ∃ (a : Fin 1) (b : Fin 256), y = ix2 a b := ⟨y 0, y 1, by blk_ext⟩
  exact (unpack_1 _ a b).trans (m_at_1 m c a b)

theorem v_res_1 (c : Dev nD) : Pipeline.afterTail₀ cfgs (dats m) 0 (V0 m) [hostOps1] c main_v50 = val_main_v37 (F := Ideal) (m (c.tc.loc main_arg7)) (m (c.tc.loc main_arg10)) := by
  have e : Pipeline.afterTail₀ cfgs (dats m) 0 (V0 m) [hostOps1] c main_v50 = shapeCast S1x256 (extractStridedSlice S256 ![4096] (shapeCast S5120 ((dats m 0 c).arrAt 7 cfg0.N) shapeCasts_S40x128_S5120) slices_S5120_S256_4096) shapeCasts_S256_S1x256 := by
    unfold Pipeline.afterTail₀
    after_reads_simp
    rw [arr7]
    rfl
  rw [e, final7]
  funext y
  obtain ⟨a, b, rfl⟩ : ∃ (a : Fin 1) (b : Fin 256), y = ix2 a b := ⟨y 0, y 1, by blk_ext⟩
  exact (unpack_1 _ a b).trans (v_at_1 m c a b)

theorem ref_g_2 (x9 : Vec Ideal S8x1x256 .f32) (a : Fin 1) (b : Fin 256) : val_main_v2 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  obtain rfl : a = 0 := Fin.eq_zero a
  pointwise [val_main_v2, val_main_cst_1]
  rw [Fin.sum_univ_eight]

theorem ref_m_2 (x3 : Vec Ideal S1x256 .f32) (x9 : Vec Ideal S8x1x256 .f32) (a : Fin 1) (b : Fin 256) : val_main_v55 (F := Ideal) x3 x9 (ix2 a b)
    = Ideal.ofBits FTy.f32 0x3F666666#32 * x3 (ix2 a b) + Ideal.ofBits FTy.f32 0x3DCCCCCD#32 * val_main_v2 (F := Ideal) x9 (ix2 a b) := by
  pointwise [val_main_v51, val_main_v52, val_main_v53, val_main_v54, val_main_v55, val_main_cst_20, val_main_cst_21]

theorem ref_v_2 (x6 : Vec Ideal S1x256 .f32) (x9 : Vec Ideal S8x1x256 .f32) (a : Fin 1) (b : Fin 256) : val_main_v61 (F := Ideal) x6 x9 (ix2 a b)
    = Ideal.ofBits FTy.f32 0x3F7FBE77#32 * x6 (ix2 a b) + Ideal.ofBits FTy.f32 0x3A83126F#32 * (val_main_v2 (F := Ideal) x9 (ix2 a b) * val_main_v2 (F := Ideal) x9 (ix2 a b)) := by
  pointwise [val_main_v56, val_main_v57, val_main_v58, val_main_v59, val_main_v60, val_main_v61, val_main_cst_22, val_main_cst_23]

theorem ref_d_2 (x0 : Vec Ideal S1x256 .f32) (x3 : Vec Ideal S1x256 .f32) (x6 : Vec Ideal S1x256 .f32) (x9 : Vec Ideal S8x1x256 .f32) (a : Fin 1) (b : Fin 256) : val_main_v74 (F := Ideal) x0 x3 x6 x9 (ix2 a b)
    = Ideal.ofBits FTy.f32 0xBA83126F#32 * (Ideal.div (val_main_v55 (F := Ideal) x3 x9 (ix2 a b) * ((8388608 / 5463681 : ℝ) : EReal))
        (Ideal.sqrt (val_main_v61 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v62, val_main_v63, val_main_v64, val_main_v65, val_main_v66, val_main_v67, val_main_v68, val_main_v69, val_main_v70, val_main_v71, val_main_v72, val_main_v73, val_main_v74, val_main_cst_24, val_main_cst_25, val_main_cst_26, val_main_cst_27, val_main_cst_28]

theorem g_at_2 (c : Dev nD) (a : Fin 1) (b : Fin 256) : gAll (A0 m c) (ix2 (hi (4352 + (a.val * 256 + b.val)) (by omega)) (lo (4352 + (a.val * 256 + b.val)))) = val_main_v2 (F := Ideal) (m (c.tc.loc main_arg11)) (ix2 a b) := by
  rw [gAll_apply, ref_g_2]
  have e := fun p => pack0_2 m c p a b
  rw [e 0, e 1, e 2, e 3, e 4, e 5, e 6, e 7]

theorem m_at_2 (c : Dev nD) (a : Fin 1) (b : Fin 256) : mAll (A0 m c) (A2 m c) (ix2 (hi (4352 + (a.val * 256 + b.val)) (by omega)) (lo (4352 + (a.val * 256 + b.val)))) = val_main_v55 (F := Ideal) (m (c.tc.loc main_arg5)) (m (c.tc.loc main_arg11)) (ix2 a b) := by
  rw [mAll, g_at_2, pack2_2, ref_m_2]

theorem v_at_2 (c : Dev nD) (a : Fin 1) (b : Fin 256) : vAll (A0 m c) (A3 m c) (ix2 (hi (4352 + (a.val * 256 + b.val)) (by omega)) (lo (4352 + (a.val * 256 + b.val)))) = val_main_v61 (F := Ideal) (m (c.tc.loc main_arg8)) (m (c.tc.loc main_arg11)) (ix2 a b) := by
  rw [vAll, g_at_2, pack3_2, ref_v_2]

theorem d_at_2 (c : Dev nD) (a : Fin 1) (b : Fin 256) : dAll (A0 m c) (A1 m c) (A2 m c) (A3 m c) (ix2 (hi (4352 + (a.val * 256 + b.val)) (by omega)) (lo (4352 + (a.val * 256 + b.val)))) = val_main_v74 (F := Ideal) (m (c.tc.loc main_arg2)) (m (c.tc.loc main_arg5)) (m (c.tc.loc main_arg8)) (m (c.tc.loc main_arg11)) (ix2 a b) := by
  rw [dAll, m_at_2, v_at_2, pack1_2, ref_d_2]

theorem g_res_2 (c : Dev nD) : Pipeline.afterTail₀ cfgs (dats m) 0 (V0 m) [hostOps1] c main_v31 = val_main_v2 (F := Ideal) (m (c.tc.loc main_arg11)) := by
  have e : Pipeline.afterTail₀ cfgs (dats m) 0 (V0 m) [hostOps1] c main_v31 = shapeCast S1x256 (extractStridedSlice S256 ![4352] (shapeCast S5120 ((dats m 0 c).arrAt 4 cfg0.N) shapeCasts_S40x128_S5120) slices_S5120_S256_4352) shapeCasts_S256_S1x256 := by
    unfold Pipeline.afterTail₀
    after_reads_simp
    rw [arr4]
    rfl
  rw [e, final4]
  funext y
  obtain ⟨a, b, rfl⟩ : ∃ (a : Fin 1) (b : Fin 256), y = ix2 a b := ⟨y 0, y 1, by blk_ext⟩
  exact (unpack_2 _ a b).trans (g_at_2 m c a b)

theorem d_res_2 (c : Dev nD) : Pipeline.afterTail₀ cfgs (dats m) 0 (V0 m) [hostOps1] c main_v38 = val_main_v74 (F := Ideal) (m (c.tc.loc main_arg2)) (m (c.tc.loc main_arg5)) (m (c.tc.loc main_arg8)) (m (c.tc.loc main_arg11)) := by
  have e : Pipeline.afterTail₀ cfgs (dats m) 0 (V0 m) [hostOps1] c main_v38 = shapeCast S1x256 (extractStridedSlice S256 ![4352] (shapeCast S5120 ((dats m 0 c).arrAt 5 cfg0.N) shapeCasts_S40x128_S5120) slices_S5120_S256_4352) shapeCasts_S256_S1x256 := by
    unfold Pipeline.afterTail₀
    after_reads_simp
    rw [arr5]
    rfl
  rw [e, final5]
  funext y
  obtain ⟨a, b, rfl⟩ : ∃ (a : Fin 1) (b : Fin 256), y = ix2 a b := ⟨y 0, y 1, by blk_ext⟩
  exact (unpack_2 _ a b).trans (d_at_2 m c a b)

theorem m_res_2 (c : Dev nD) : Pipeline.afterTail₀ cfgs (dats m) 0 (V0 m) [hostOps1] c main_v45 = val_main_v55 (F := Ideal) (m (c.tc.loc main_arg5)) (m (c.tc.loc main_arg11)) := by
  have e : Pipeline.afterTail₀ cfgs (dats m) 0 (V0 m) [hostOps1] c main_v45 = shapeCast S1x256 (extractStridedSlice S256 ![4352] (shapeCast S5120 ((dats m 0 c).arrAt 6 cfg0.N) shapeCasts_S40x128_S5120) slices_S5120_S256_4352) shapeCasts_S256_S1x256 := by
    unfold Pipeline.afterTail₀
    after_reads_simp
    rw [arr6]
    rfl
  rw [e, final6]
  funext y
  obtain ⟨a, b, rfl⟩ : ∃ (a : Fin 1) (b : Fin 256), y = ix2 a b := ⟨y 0, y 1, by blk_ext⟩
  exact (unpack_2 _ a b).trans (m_at_2 m c a b)

theorem v_res_2 (c : Dev nD) : Pipeline.afterTail₀ cfgs (dats m) 0 (V0 m) [hostOps1] c main_v52 = val_main_v61 (F := Ideal) (m (c.tc.loc main_arg8)) (m (c.tc.loc main_arg11)) := by
  have e : Pipeline.afterTail₀ cfgs (dats m) 0 (V0 m) [hostOps1] c main_v52 = shapeCast S1x256 (extractStridedSlice S256 ![4352] (shapeCast S5120 ((dats m 0 c).arrAt 7 cfg0.N) shapeCasts_S40x128_S5120) slices_S5120_S256_4352) shapeCasts_S256_S1x256 := by
    unfold Pipeline.afterTail₀
    after_reads_simp
    rw [arr7]
    rfl
  rw [e, final7]
  funext y
  obtain ⟨a, b, rfl⟩ : ∃ (a : Fin 1) (b : Fin 256), y = ix2 a b := ⟨y 0, y 1, by blk_ext⟩
  exact (unpack_2 _ a b).trans (v_at_2 m c a b)

/-- Every run of the kernel's program ends with the reference's values in its results, and its arguments kept. -/
theorem run : θ_run defs (onTc (τ := τ) (main (F := Ideal))) ⟨m, fun _ => 0, ρ⟩ (fun r => ∀ c : Dev nD,
      r.2.mem (c.tc.loc main_v27) = val_main_v0 (F := Ideal) (m (c.tc.loc main_arg9))
      ∧ r.2.mem (c.tc.loc main_v29) = val_main_v1 (F := Ideal) (m (c.tc.loc main_arg10))
      ∧ r.2.mem (c.tc.loc main_v31) = val_main_v2 (F := Ideal) (m (c.tc.loc main_arg11))
      ∧ r.2.mem (c.tc.loc main_v34) = val_main_v26 (F := Ideal) (m (c.tc.loc main_arg0)) (m (c.tc.loc main_arg3)) (m (c.tc.loc main_arg6)) (m (c.tc.loc main_arg9))
      ∧ r.2.mem (c.tc.loc main_v36) = val_main_v50 (F := Ideal) (m (c.tc.loc main_arg1)) (m (c.tc.loc main_arg4)) (m (c.tc.loc main_arg7)) (m (c.tc.loc main_arg10))
      ∧ r.2.mem (c.tc.loc main_v38) = val_main_v74 (F := Ideal) (m (c.tc.loc main_arg2)) (m (c.tc.loc main_arg5)) (m (c.tc.loc main_arg8)) (m (c.tc.loc main_arg11))
      ∧ r.2.mem (c.tc.loc main_v41) = val_main_v7 (F := Ideal) (m (c.tc.loc main_arg3)) (m (c.tc.loc main_arg9))
      ∧ r.2.mem (c.tc.loc main_v43) = val_main_v31 (F := Ideal) (m (c.tc.loc main_arg4)) (m (c.tc.loc main_arg10))
      ∧ r.2.mem (c.tc.loc main_v45) = val_main_v55 (F := Ideal) (m (c.tc.loc main_arg5)) (m (c.tc.loc main_arg11))
      ∧ r.2.mem (c.tc.loc main_v48) = val_main_v13 (F := Ideal) (m (c.tc.loc main_arg6)) (m (c.tc.loc main_arg9))
      ∧ r.2.mem (c.tc.loc main_v50) = val_main_v37 (F := Ideal) (m (c.tc.loc main_arg7)) (m (c.tc.loc main_arg10))
      ∧ r.2.mem (c.tc.loc main_v52) = val_main_v61 (F := Ideal) (m (c.tc.loc main_arg8)) (m (c.tc.loc main_arg11))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)) :=
  (θ_run defs _ _).mono (fun _ h c => ⟨((h c).2 main_v27 (Pipeline.mem_restRefs_of main_v27 (by decide) (by decide))).trans (g_res_0 m c),
      ((h c).2 main_v29 (Pipeline.mem_restRefs_of main_v29 (by decide) (by decide))).trans (g_res_1 m c),
      ((h c).2 main_v31 (Pipeline.mem_restRefs_of main_v31 (by decide) (by decide))).trans (g_res_2 m c),
      ((h c).2 main_v34 (Pipeline.mem_restRefs_of main_v34 (by decide) (by decide))).trans (d_res_0 m c),
      ((h c).2 main_v36 (Pipeline.mem_restRefs_of main_v36 (by decide) (by decide))).trans (d_res_1 m c),
      ((h c).2 main_v38 (Pipeline.mem_restRefs_of main_v38 (by decide) (by decide))).trans (d_res_2 m c),
      ((h c).2 main_v41 (Pipeline.mem_restRefs_of main_v41 (by decide) (by decide))).trans (m_res_0 m c),
      ((h c).2 main_v43 (Pipeline.mem_restRefs_of main_v43 (by decide) (by decide))).trans (m_res_1 m c),
      ((h c).2 main_v45 (Pipeline.mem_restRefs_of main_v45 (by decide) (by decide))).trans (m_res_2 m c),
      ((h c).2 main_v48 (Pipeline.mem_restRefs_of main_v48 (by decide) (by decide))).trans (v_res_0 m c),
      ((h c).2 main_v50 (Pipeline.mem_restRefs_of main_v50 (by decide) (by decide))).trans (v_res_1 m c),
      ((h c).2 main_v52 (Pipeline.mem_restRefs_of main_v52 (by decide) (by decide))).trans (v_res_2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.Pack0Ideal.Hand

namespace Cert.Hand

theorem preservesPack0 : Cert.preserves_Pack0_Pack0Ideal :=
  ⟨IdealRules.named_const.statement Cert.Pack0Ideal.κ "c1" .f32 0x3FC48605#32 ((8388608 / 5463681 : ℝ) : EReal) rfl,
   IdealRules.named_const.statement Cert.Pack0Ideal.κ "c2" .f32 0x42C8E6D3#32
     ((268435456 / 2672307 : ℝ) : EReal) rfl⟩

/-- The reference leaves its arguments as they were. -/
theorem frame_refPack0 : Cert.quiescent_PackRef0Ideal := fun m ρ _ =>
  (θ_run Cert.PackRef0Ideal.defs _ _).mono (fun r h => ⟨fun c => (h c).2.2.2.2.2.2.2.2.2.2.2.2,
      Idealize.ShloMosaic.sem_eq_zero_of_no_sems (by decide) r.2⟩)
    (Cert.PackRef0Ideal.Value.run (F := Ideal) m ρ)

/-- At `Ideal` the results of the kernel's program and the reference's agree. -/
theorem algebraicPack0 : Cert.algebraic_Pack0Ideal_PackRef0Ideal := by
  intro m g m' g' _ hagree
  refine ⟨_, _, _, _, _, _, _, _, _, _, _, _, Cert.Pack0Ideal.Hand.run m g, ?_⟩
  refine θ_run_mono (Cert.PackRef0Ideal.Value.run (F := Ideal) m' g') fun r hr c => ?_
  obtain ⟨h0, h1, h2, h3, h4, h5, h6, h7, h8, h9, h10, h11, k⟩ := hr c
  obtain ⟨e0, e1, e2, e3, e4, e5, e6, e7, e8, e9, e10, e11⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, k⟩

  · exact (Cert.PackRef0Ideal.Read.val_main_v0_eq ..).trans (congrArg (fun y => Cert.PackRef0Ideal.Read.val_main_v0 (F := Ideal) y) e9)
  · exact (Cert.PackRef0Ideal.Read.val_main_v1_eq ..).trans (congrArg (fun y => Cert.PackRef0Ideal.Read.val_main_v1 (F := Ideal) y) e10)
  · exact (Cert.PackRef0Ideal.Read.val_main_v2_eq ..).trans (congrArg (fun y => Cert.PackRef0Ideal.Read.val_main_v2 (F := Ideal) y) e11)
  · exact (Cert.PackRef0Ideal.Read.val_main_v26_eq ..).trans (congr (congr (congr (congrArg (fun y0 y1 y2 y3 => Cert.PackRef0Ideal.Read.val_main_v26 (F := Ideal) y0 y1 y2 y3) e0) e3) e6) e9)
  · exact (Cert.PackRef0Ideal.Read.val_main_v50_eq ..).trans (congr (congr (congr (congrArg (fun y0 y1 y2 y3 => Cert.PackRef0Ideal.Read.val_main_v50 (F := Ideal) y0 y1 y2 y3) e1) e4) e7) e10)
  · exact (Cert.PackRef0Ideal.Read.val_main_v74_eq ..).trans (congr (congr (congr (congrArg (fun y0 y1 y2 y3 => Cert.PackRef0Ideal.Read.val_main_v74 (F := Ideal) y0 y1 y2 y3) e2) e5) e8) e11)
  · exact (Cert.PackRef0Ideal.Read.val_main_v7_eq ..).trans (congr (congrArg (fun y0 y1 => Cert.PackRef0Ideal.Read.val_main_v7 (F := Ideal) y0 y1) e3) e9)
  · exact (Cert.PackRef0Ideal.Read.val_main_v31_eq ..).trans (congr (congrArg (fun y0 y1 => Cert.PackRef0Ideal.Read.val_main_v31 (F := Ideal) y0 y1) e4) e10)
  · exact (Cert.PackRef0Ideal.Read.val_main_v55_eq ..).trans (congr (congrArg (fun y0 y1 => Cert.PackRef0Ideal.Read.val_main_v55 (F := Ideal) y0 y1) e5) e11)
  · exact (Cert.PackRef0Ideal.Read.val_main_v13_eq ..).trans (congr (congrArg (fun y0 y1 => Cert.PackRef0Ideal.Read.val_main_v13 (F := Ideal) y0 y1) e6) e9)
  · exact (Cert.PackRef0Ideal.Read.val_main_v37_eq ..).trans (congr (congrArg (fun y0 y1 => Cert.PackRef0Ideal.Read.val_main_v37 (F := Ideal) y0 y1) e7) e10)
  · exact (Cert.PackRef0Ideal.Read.val_main_v61_eq ..).trans (congr (congrArg (fun y0 y1 => Cert.PackRef0Ideal.Read.val_main_v61 (F := Ideal) y0 y1) e8) e11)

end Cert.Hand

end
-- ==== Proof.Pack1Value.lean ====
module

public import proofs.«01_k».proof.Defs
public import proofs.«01_k».proof.Proof.Gen.Pack1Ideal.Frame
public import proofs.«01_k».proof.Proof.Gen.PackRef1Ideal.Run
public import proofs.«01_k».proof.Proof.Gen.PackRef1Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Pack1Ideal.Hand

open Cert.Pack1Ideal Cert.Pack1Ideal.Gen Cert.PackRef1Ideal.Read

theorem c1_named : Named.named (F := Ideal) Cert.Pack1Ideal.κ "c1" (φ := .f32) 0x3FC48605#32 = ((8388608 / 5463681 : ℝ) : EReal) :=
  IdealRules.named_const.ideal_named_scalar _ _ _ _ rfl
theorem c2_named : Named.named (F := Ideal) Cert.Pack1Ideal.κ "c2" (φ := .f32) 0x42C8E6D3#32
    = ((268435456 / 2672307 : ℝ) : EReal) :=
  IdealRules.named_const.ideal_named_scalar _ _ _ _ rfl

abbrev Pieces := Vec Ideal S8x272x1024 .f32
abbrev Whole := Vec Ideal S272x1024 .f32
abbrev Block := Vec Ideal S136x1024 .f32

/-! ## The kernel's payloads at an index -/

theorem pay_g (x0 : Vec Ideal S8x136x1024 .f32) (x1 x2 x3 : Block) (i : Fin 136) (j : Fin 1024) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x136x1024 .f32}, k0_pay3 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay3]
  have l : ∀ (p : Fin 8) (inb), View.ld x0 (Rect.unit (s := S8x136x1024) ![p.val, 0, 0] S1x136x1024.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (x0 : Vec Ideal S8x136x1024 .f32) (x1 x2 x3 : Block) (i : Fin 136) (j : Fin 1024) : k0_pay6 (F := Ideal) x0 x1 x2 x3 (ix2 i j)
    = Ideal.ofBits FTy.f32 0x3F666666#32 * x2 (ix2 i j) + Ideal.ofBits FTy.f32 0x3DCCCCCD#32 * k0_pay5 (F := Ideal) x0 x1 x2 x3 (ix2 i j) := by
  have e : ∀ {P0 P1 P2 P3 P4 P5 P6 P7 : Vec Ideal S1x136x1024 .f32} {m : Block}, k0_pay4 (F := Ideal) P0 P1 P2 P3 P4 P5 P6 P7 m (ix2 i j)
      = Ideal.ofBits FTy.f32 0x3F666666#32 * m (ix2 i j) + Ideal.ofBits FTy.f32 0x3DCCCCCD#32 * k0_pay3 (F := Ideal) P0 P1 P2 P3 P4 P5 P6 P7 (ix2 i j) := by
    intros
    pointwise [k0_pay4]
  refine e.trans ?_
  refine congrArg₂ (fun a b : EReal => _ * a + _ * b) (View.ld_unit_apply_of _ _ _ _ _ _ (fun a => match a with
      | ⟨0, _⟩ => (Nat.zero_add _).symm | ⟨1, _⟩ => (Nat.zero_add _).symm)) rfl

theorem pay_v (g v : Block) (i : Fin 136) (j : Fin 1024) : k0_pay1 (F := Ideal) g v (ix2 i j)
    = Ideal.ofBits FTy.f32 0x3F7FBE77#32 * v (ix2 i j) + Ideal.ofBits FTy.f32 0x3A83126F#32 * (g (ix2 i j) * g (ix2 i j)) := by
  pointwise [k0_pay1]

theorem pay_d (g nm v w : Block) (i : Fin 136) (j : Fin 1024) : k0_pay2 (F := Ideal) g nm v w (ix2 i j)
    = Ideal.ofBits FTy.f32 0xBA83126F#32 * (Ideal.div (nm (ix2 i j) * ((8388608 / 5463681 : ℝ) : EReal))
        (Ideal.sqrt (k0_pay1 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay2]

/-! ## The four results as functions of the packed arrays -/

def gAll (P : Pieces) : Whole := fun y => P (ix3 0 (y 0) (y 1)) + P (ix3 1 (y 0) (y 1)) + P (ix3 2 (y 0) (y 1)) + P (ix3 3 (y 0) (y 1)) + P (ix3 4 (y 0) (y 1)) + P (ix3 5 (y 0) (y 1)) + P (ix3 6 (y 0) (y 1)) + P (ix3 7 (y 0) (y 1))
def mAll (P : Pieces) (M : Whole) : Whole := fun y => Ideal.ofBits FTy.f32 0x3F666666#32 * M y + Ideal.ofBits FTy.f32 0x3DCCCCCD#32 * gAll P y
def vAll (P : Pieces) (U : Whole) : Whole := fun y => Ideal.ofBits FTy.f32 0x3F7FBE77#32 * U y + Ideal.ofBits FTy.f32 0x3A83126F#32 * (gAll P y * gAll P y)
def dAll (P : Pieces) (W M U : Whole) : Whole := fun y => Ideal.ofBits FTy.f32 0xBA83126F#32
    * (Ideal.div (mAll P M y * ((8388608 / 5463681 : ℝ) : EReal))
        (Ideal.sqrt (vAll P U y * ((268435456 / 2672307 : ℝ) : EReal)) + Ideal.ofBits FTy.f32 0x322BCC77#32)
      + Ideal.ofBits FTy.f32 0x3C23D70A#32 * W y)

theorem gAll_apply (P : Pieces) (i : Fin 272) (j : Fin 1024) : gAll P (ix2 i j) = P (ix3 0 i j) + P (ix3 1 i j) + P (ix3 2 i j) + P (ix3 3 i j) + P (ix3 4 i j) + P (ix3 5 i j) + P (ix3 6 i j) + P (ix3 7 i j) := rfl

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := V m c main_v9
abbrev A1 (c : Dev nD) : Whole := V m c main_v19
abbrev A2 (c : Dev nD) : Whole := V m c main_v29
abbrev A3 (c : Dev nD) : Whole := V m c main_v39

theorem ptlt (t : Fin cfg0.N) (i : Fin 136) : t.val * 136 + i.val < 272 := by
  have : t.val < 2 := lt_of_lt_of_eq t.isLt N_0
  omega

abbrev row (t : Fin cfg0.N) (i : Fin 136) : Fin 272 := ⟨t.val * 136 + i.val, ptlt t i⟩

theorem iblk0 (c : Dev nD) (t : Fin cfg0.N) (p : Fin 8) (i : Fin 136) (j : Fin 1024) :
    iblk m c 0 t (ix3 p i j) = A0 m c (ix3 p (row t i) j) := by
  blk_ext! [iblk, idx t]
theorem iblk1 (c : Dev nD) (t : Fin cfg0.N) (i : Fin 136) (j : Fin 1024) : iblk m c 1 t (ix2 i j) = A1 m c (ix2 (row t i) j) := by
  blk_ext! [iblk, idx t]
theorem iblk2 (c : Dev nD) (t : Fin cfg0.N) (i : Fin 136) (j : Fin 1024) : iblk m c 2 t (ix2 i j) = A2 m c (ix2 (row t i) j) := by
  blk_ext! [iblk, idx t]
theorem iblk3 (c : Dev nD) (t : Fin cfg0.N) (i : Fin 136) (j : Fin 1024) : iblk m c 3 t (ix2 i j) = A3 m c (ix2 (row t i) j) := by
  blk_ext! [iblk, idx t]

theorem g_apply (c : Dev nD) (t : Fin cfg0.N) (i : Fin 136) (j : Fin 1024) :
    k0_pay5 (F := Ideal) (iblk m c 0 t) (iblk m c 1 t) (iblk m c 2 t) (iblk m c 3 t) (ix2 i j) = gAll (A0 m c) (ix2 (row t i) j) := by
  rw [pay_g, gAll_apply]
  simp only [iblk0]
theorem m_apply (c : Dev nD) (t : Fin cfg0.N) (i : Fin 136) (j : Fin 1024) :
    k0_pay6 (F := Ideal) (iblk m c 0 t) (iblk m c 1 t) (iblk m c 2 t) (iblk m c 3 t) (ix2 i j) = mAll (A0 m c) (A2 m c) (ix2 (row t i) j) := by
  rw [pay_m, mAll, g_apply, iblk2]
theorem v_apply (c : Dev nD) (t : Fin cfg0.N) (i : Fin 136) (j : Fin 1024) :
    k0_pay1 (F := Ideal) (k0_pay5 (F := Ideal) (iblk m c 0 t) (iblk m c 1 t) (iblk m c 2 t) (iblk m c 3 t)) (iblk m c 3 t) (ix2 i j) = vAll (A0 m c) (A3 m c) (ix2 (row t i) j) := by
  rw [pay_v, vAll, g_apply, iblk3]
theorem d_apply (c : Dev nD) (t : Fin cfg0.N) (i : Fin 136) (j : Fin 1024) :
    k0_pay2 (F := Ideal) (k0_pay5 (F := Ideal) (iblk m c 0 t) (iblk m c 1 t) (iblk m c 2 t) (iblk m c 3 t)) (k0_pay6 (F := Ideal) (iblk m c 0 t) (iblk m c 1 t) (iblk m c 2 t) (iblk m c 3 t)) (iblk m c 3 t) (iblk m c 1 t) (ix2 i j)
      = dAll (A0 m c) (A1 m c) (A2 m c) (A3 m c) (ix2 (row t i) j) := by
  rw [pay_d, dAll, m_apply, v_apply, iblk1]

theorem final4 (c : Dev nD) : (dats m 0 c).arrAt 4 cfg0.N = gAll (A0 m c) := by
  refine (dats m 0 c).arrAt_eq_of_covers 4 _ (by decide +kernel) fun t hf y => ?_
  obtain ⟨i, j, rfl⟩ : ∃ (i : Fin 136) (j : Fin 1024), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = dAll (A0 m c) (A1 m c) (A2 m c) (A3 m c) := by
  refine (dats m 0 c).arrAt_eq_of_covers 5 _ (by decide +kernel) fun t hf y => ?_
  obtain ⟨i, j, rfl⟩ : ∃ (i : Fin 136) (j : Fin 1024), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = mAll (A0 m c) (A2 m c) := by
  refine (dats m 0 c).arrAt_eq_of_covers 6 _ (by decide +kernel) fun t hf y => ?_
  obtain ⟨i, j, rfl⟩ : ∃ (i : Fin 136) (j : Fin 1024), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = vAll (A0 m c) (A3 m c) := by
  refine (dats m 0 c).arrAt_eq_of_covers 7 _ (by decide +kernel) fun t hf y => ?_
  obtain ⟨i, j, rfl⟩ : ∃ (i : Fin 136) (j : Fin 1024), y = ix2 i j := ⟨y 0, y 1, by blk_ext⟩
  blk_simp
  rw [after0_7, out0_7]
  frame_out
  refine (v_apply m c t i j).trans ?_
  congr 1
  blk_ext [idx t]

theorem arr4 (c : Dev nD) : Pipeline.withArrays spec0 c (V0 m c) (fun w => (dats m 0 c).arrAt w cfg0.N) (Proc.devRef .tc main_v40_0) = (dats m 0 c).arrAt 4 cfg0.N :=
  Pipeline.withArrays_arr spec0 winFacts0.arr_inj c _ _ 4

theorem arr5 (c : Dev nD) : Pipeline.withArrays spec0 c (V0 m c) (fun w => (dats m 0 c).arrAt w cfg0.N) (Proc.devRef .tc main_v40_1) = (dats m 0 c).arrAt 5 cfg0.N :=
  Pipeline.withArrays_arr spec0 winFacts0.arr_inj c _ _ 5

theorem arr6 (c : Dev nD) : Pipeline.withArrays spec0 c (V0 m c) (fun w => (dats m 0 c).arrAt w cfg0.N) (Proc.devRef .tc main_v40_2) = (dats m 0 c).arrAt 6 cfg0.N :=
  Pipeline.withArrays_arr spec0 winFacts0.arr_inj c _ _ 6

theorem arr7 (c : Dev nD) : Pipeline.withArrays spec0 c (V0 m c) (fun w => (dats m 0 c).arrAt w cfg0.N) (Proc.devRef .tc main_v40_3) = (dats m 0 c).arrAt 7 cfg0.N :=
  Pipeline.withArrays_arr spec0 winFacts0.arr_inj c _ _ 7

/-! ## Packing: element `q` of the joined arrays is at row `q / 1024`, column `q % 1024` -/

def hi (q : ℕ) (h : q < 278528) : Fin 272 := ⟨q / 1024, by omega⟩
def lo (q : ℕ) : Fin 1024 := ⟨q % 1024, by omega⟩

abbrev ops : List (HloOp τ sig (Elt Ideal)) := [hostOps0, hostOps0_1, hostOps0_2, hostOps0_3, hostOps0_4, hostOps0_5, hostOps0_6, hostOps0_7, hostOps0_8].flatten

theorem packed0 (c : Dev nD) : V m c main_v9 = shapeCast S8x272x1024 (pad (α := Elt Ideal .f32) S8x278528 ![0, 0] ![0, 8128] ![0, 0] (concatenate (α := Elt Ideal .f32) S8x270400 1 [⟨S8x4096, (shapeCast S8x4096 (m (c.tc.loc main_arg21)) shapeCasts_S8x1x64x64_S8x4096 : Vec Ideal S8x4096 .f32)⟩, ⟨S8x4096, (shapeCast S8x4096 (m (c.tc.loc main_arg22)) shapeCasts_S8x1x64x64_S8x4096 : Vec Ideal S8x4096 .f32)⟩, ⟨S8x64, (shapeCast S8x64 (m (c.tc.loc main_arg23)) shapeCasts_S8x1x64_S8x64 : Vec Ideal S8x64 .f32)⟩, ⟨S8x65536, (shapeCast S8x65536 (m (c.tc.loc main_arg24)) shapeCasts_S8x1x64x64x16_S8x65536 : Vec Ideal S8x65536 .f32)⟩, ⟨S8x65536, (shapeCast S8x65536 (m (c.tc.loc main_arg25)) shapeCasts_S8x1x64x64x16_S8x65536 : Vec Ideal S8x65536 .f32)⟩, ⟨S8x65536, (shapeCast S8x65536 (m (c.tc.loc main_arg26)) shapeCasts_S8x1x64x16x64_S8x65536 : Vec Ideal S8x65536 .f32)⟩, ⟨S8x65536, (shapeCast S8x65536 (m (c.tc.loc main_arg27)) shapeCasts_S8x1x64x16x64_S8x65536 : Vec Ideal S8x65536 .f32)⟩] concatenates_S8x4096_S8x4096_S8x64_S8x65536_S8x65536_S8x65536_S8x65536_S8x270400_d1)
    (sitofp (F := Ideal) .f32 (constantI S_ 32 0#32)) pads_S8x270400_S8x278528_000_081280 h_S_) shapeCasts_S8x278528_S8x272x1024 := by
  have r0 : (StableHlo.upto ops (fun b => m (c, b)) 7 (Proc.devRef .tc main_v0) : Vec Ideal S8x4096 .f32) = shapeCast S8x4096 (m (c.tc.loc main_arg21)) shapeCasts_S8x1x64x64_S8x4096 := by
    unfold ops
    after_reads_simp
    try rfl
  have r1 : (StableHlo.upto ops (fun b => m (c, b)) 7 (Proc.devRef .tc main_v1) : Vec Ideal S8x4096 .f32) = shapeCast S8x4096 (m (c.tc.loc main_arg22)) shapeCasts_S8x1x64x64_S8x4096 := by
    unfold ops
    after_reads_simp
    try rfl
  have r2 : (StableHlo.upto ops (fun b => m (c, b)) 7 (Proc.devRef .tc main_v2) : Vec Ideal S8x64 .f32) = shapeCast S8x64 (m (c.tc.loc main_arg23)) shapeCasts_S8x1x64_S8x64 := by
    unfold ops
    after_reads_simp
    try rfl
  have r3 : (StableHlo.upto ops (fun b => m (c, b)) 7 (Proc.devRef .tc main_v3) : Vec Ideal S8x65536 .f32) = shapeCast S8x65536 (m (c.tc.loc main_arg24)) shapeCasts_S8x1x64x64x16_S8x65536 := by
    unfold ops
    after_reads_simp
    try rfl
  have r4 : (StableHlo.upto ops (fun b => m (c, b)) 7 (Proc.devRef .tc main_v4) : Vec Ideal S8x65536 .f32) = shapeCast S8x65536 (m (c.tc.loc main_arg25)) shapeCasts_S8x1x64x64x16_S8x65536 := by
    unfold ops
    after_reads_simp
    try rfl
  have r5 : (StableHlo.upto ops (fun b => m (c, b)) 7 (Proc.devRef .tc main_v5) : Vec Ideal S8x65536 .f32) = shapeCast S8x65536 (m (c.tc.loc main_arg26)) shapeCasts_S8x1x64x16x64_S8x65536 := by
    unfold ops
    after_reads_simp
    try rfl
  have r6 : (StableHlo.upto ops (fun b => m (c, b)) 7 (Proc.devRef .tc main_v6) : Vec Ideal S8x65536 .f32) = shapeCast S8x65536 (m (c.tc.loc main_arg27)) shapeCasts_S8x1x64x16x64_S8x65536 := by
    unfold ops
    after_reads_simp
    try rfl
  have e := congr (congr (congr (congr (congr (congr (congrArg (fun (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) => shapeCast S8x272x1024 (pad (α := Elt Ideal .f32) S8x278528 ![0, 0] ![0, 8128] ![0, 0] (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1)
    (sitofp (F := Ideal) .f32 (constantI S_ 32 0#32)) pads_S8x270400_S8x278528_000_081280 h_S_) shapeCasts_S8x278528_S8x272x1024) r0) r1) r2) r3) r4) r5) r6
  unfold V V0
  after_reads_simp
  exact e

theorem packed1 (c : Dev nD) : V m c main_v19 = shapeCast S272x1024 (pad (α := Elt Ideal .f32) S278528 ![0] ![8128] ![0] (concatenate (α := Elt Ideal .f32) S270400 0 [⟨S4096, (shapeCast S4096 (m (c.tc.loc main_arg0)) shapeCasts_S1x64x64_S4096 : Vec Ideal S4096 .f32)⟩, ⟨S4096, (shapeCast S4096 (m (c.tc.loc main_arg1)) shapeCasts_S1x64x64_S4096 : Vec Ideal S4096 .f32)⟩, ⟨S64, (shapeCast S64 (m (c.tc.loc main_arg2)) shapeCasts_S1x64_S64 : Vec Ideal S64 .f32)⟩, ⟨S65536, (shapeCast S65536 (m (c.tc.loc main_arg3)) shapeCasts_S1x64x64x16_S65536 : Vec Ideal S65536 .f32)⟩, ⟨S65536, (shapeCast S65536 (m (c.tc.loc main_arg4)) shapeCasts_S1x64x64x16_S65536 : Vec Ideal S65536 .f32)⟩, ⟨S65536, (shapeCast S65536 (m (c.tc.loc main_arg5)) shapeCasts_S1x64x16x64_S65536 : Vec Ideal S65536 .f32)⟩, ⟨S65536, (shapeCast S65536 (m (c.tc.loc main_arg6)) shapeCasts_S1x64x16x64_S65536 : Vec Ideal S65536 .f32)⟩] concatenates_S4096_S4096_S64_S65536_S65536_S65536_S65536_S270400_d0)
    (sitofp (F := Ideal) .f32 (constantI S_ 32 0#32)) pads_S270400_S278528_081280 h_S_) shapeCasts_S278528_S272x1024 := by
  have r0 : (StableHlo.upto ops (fun b => m (c, b)) 19 (Proc.devRef .tc main_v10) : Vec Ideal S4096 .f32) = shapeCast S4096 (m (c.tc.loc main_arg0)) shapeCasts_S1x64x64_S4096 := by
    unfold ops
    after_reads_simp
    try rfl
  have r1 : (StableHlo.upto ops (fun b => m (c, b)) 19 (Proc.devRef .tc main_v11) : Vec Ideal S4096 .f32) = shapeCast S4096 (m (c.tc.loc main_arg1)) shapeCasts_S1x64x64_S4096 := by
    unfold ops
    after_reads_simp
    try rfl
  have r2 : (StableHlo.upto ops (fun b => m (c, b)) 19 (Proc.devRef .tc main_v12) : Vec Ideal S64 .f32) = shapeCast S64 (m (c.tc.loc main_arg2)) shapeCasts_S1x64_S64 := by
    unfold ops
    after_reads_simp
    try rfl
  have r3 : (StableHlo.upto ops (fun b => m (c, b)) 19 (Proc.devRef .tc main_v13) : Vec Ideal S65536 .f32) = shapeCast S65536 (m (c.tc.loc main_arg3)) shapeCasts_S1x64x64x16_S65536 := by
    unfold ops
    after_reads_simp
    try rfl
  have r4 : (StableHlo.upto ops (fun b => m (c, b)) 19 (Proc.devRef .tc main_v14) : Vec Ideal S65536 .f32) = shapeCast S65536 (m (c.tc.loc main_arg4)) shapeCasts_S1x64x64x16_S65536 := by
    unfold ops
    after_reads_simp
    try rfl
  have r5 : (StableHlo.upto ops (fun b => m (c, b)) 19 (Proc.devRef .tc main_v15) : Vec Ideal S65536 .f32) = shapeCast S65536 (m (c.tc.loc main_arg5)) shapeCasts_S1x64x16x64_S65536 := by
    unfold ops
    after_reads_simp
    try rfl
  have r6 : (StableHlo.upto ops (fun b => m (c, b)) 19 (Proc.devRef .tc main_v16) : Vec Ideal S65536 .f32) = shapeCast S65536 (m (c.tc.loc main_arg6)) shapeCasts_S1x64x16x64_S65536 := by
    unfold ops
    after_reads_simp
    try rfl
  have e := congr (congr (congr (congr (congr (congr (congrArg (fun (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) => shapeCast S272x1024 (pad (α := Elt Ideal .f32) S278528 ![0] ![8128] ![0] (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0)
    (sitofp (F := Ideal) .f32 (constantI S_ 32 0#32)) pads_S270400_S278528_081280 h_S_) shapeCasts_S278528_S272x1024) r0) r1) r2) r3) r4) r5) r6
  unfold V V0
  after_reads_simp
  exact e

theorem packed2 (c : Dev nD) : V m c main_v29 = shapeCast S272x1024 (pad (α := Elt Ideal .f32) S278528 ![0] ![8128] ![0] (concatenate (α := Elt Ideal .f32) S270400 0 [⟨S4096, (shapeCast S4096 (m (c.tc.loc main_arg7)) shapeCasts_S1x64x64_S4096 : Vec Ideal S4096 .f32)⟩, ⟨S4096, (shapeCast S4096 (m (c.tc.loc main_arg8)) shapeCasts_S1x64x64_S4096 : Vec Ideal S4096 .f32)⟩, ⟨S64, (shapeCast S64 (m (c.tc.loc main_arg9)) shapeCasts_S1x64_S64 : Vec Ideal S64 .f32)⟩, ⟨S65536, (shapeCast S65536 (m (c.tc.loc main_arg10)) shapeCasts_S1x64x64x16_S65536 : Vec Ideal S65536 .f32)⟩, ⟨S65536, (shapeCast S65536 (m (c.tc.loc main_arg11)) shapeCasts_S1x64x64x16_S65536 : Vec Ideal S65536 .f32)⟩, ⟨S65536, (shapeCast S65536 (m (c.tc.loc main_arg12)) shapeCasts_S1x64x16x64_S65536 : Vec Ideal S65536 .f32)⟩, ⟨S65536, (shapeCast S65536 (m (c.tc.loc main_arg13)) shapeCasts_S1x64x16x64_S65536 : Vec Ideal S65536 .f32)⟩] concatenates_S4096_S4096_S64_S65536_S65536_S65536_S65536_S270400_d0)
    (sitofp (F := Ideal) .f32 (constantI S_ 32 0#32)) pads_S270400_S278528_081280 h_S_) shapeCasts_S278528_S272x1024 := by
  have r0 : (StableHlo.upto ops (fun b => m (c, b)) 31 (Proc.devRef .tc main_v20) : Vec Ideal S4096 .f32) = shapeCast S4096 (m (c.tc.loc main_arg7)) shapeCasts_S1x64x64_S4096 := by
    unfold ops
    after_reads_simp
    try rfl
  have r1 : (StableHlo.upto ops (fun b => m (c, b)) 31 (Proc.devRef .tc main_v21) : Vec Ideal S4096 .f32) = shapeCast S4096 (m (c.tc.loc main_arg8)) shapeCasts_S1x64x64_S4096 := by
    unfold ops
    after_reads_simp
    try rfl
  have r2 : (StableHlo.upto ops (fun b => m (c, b)) 31 (Proc.devRef .tc main_v22) : Vec Ideal S64 .f32) = shapeCast S64 (m (c.tc.loc main_arg9)) shapeCasts_S1x64_S64 := by
    unfold ops
    after_reads_simp
    try rfl
  have r3 : (StableHlo.upto ops (fun b => m (c, b)) 31 (Proc.devRef .tc main_v23) : Vec Ideal S65536 .f32) = shapeCast S65536 (m (c.tc.loc main_arg10)) shapeCasts_S1x64x64x16_S65536 := by
    unfold ops
    after_reads_simp
    try rfl
  have r4 : (StableHlo.upto ops (fun b => m (c, b)) 31 (Proc.devRef .tc main_v24) : Vec Ideal S65536 .f32) = shapeCast S65536 (m (c.tc.loc main_arg11)) shapeCasts_S1x64x64x16_S65536 := by
    unfold ops
    after_reads_simp
    try rfl
  have r5 : (StableHlo.upto ops (fun b => m (c, b)) 31 (Proc.devRef .tc main_v25) : Vec Ideal S65536 .f32) = shapeCast S65536 (m (c.tc.loc main_arg12)) shapeCasts_S1x64x16x64_S65536 := by
    unfold ops
    after_reads_simp
    try rfl
  have r6 : (StableHlo.upto ops (fun b => m (c, b)) 31 (Proc.devRef .tc main_v26) : Vec Ideal S65536 .f32) = shapeCast S65536 (m (c.tc.loc main_arg13)) shapeCasts_S1x64x16x64_S65536 := by
    unfold ops
    after_reads_simp
    try rfl
  have e := congr (congr (congr (congr (congr (congr (congrArg (fun (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) => shapeCast S272x1024 (pad (α := Elt Ideal .f32) S278528 ![0] ![8128] ![0] (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0)
    (sitofp (F := Ideal) .f32 (constantI S_ 32 0#32)) pads_S270400_S278528_081280 h_S_) shapeCasts_S278528_S272x1024) r0) r1) r2) r3) r4) r5) r6
  unfold V V0
  after_reads_simp
  exact e

theorem packed3 (c : Dev nD) : V m c main_v39 = shapeCast S272x1024 (pad (α := Elt Ideal .f32) S278528 ![0] ![8128] ![0] (concatenate (α := Elt Ideal .f32) S270400 0 [⟨S4096, (shapeCast S4096 (m (c.tc.loc main_arg14)) shapeCasts_S1x64x64_S4096 : Vec Ideal S4096 .f32)⟩, ⟨S4096, (shapeCast S4096 (m (c.tc.loc main_arg15)) shapeCasts_S1x64x64_S4096 : Vec Ideal S4096 .f32)⟩, ⟨S64, (shapeCast S64 (m (c.tc.loc main_arg16)) shapeCasts_S1x64_S64 : Vec Ideal S64 .f32)⟩, ⟨S65536, (shapeCast S65536 (m (c.tc.loc main_arg17)) shapeCasts_S1x64x64x16_S65536 : Vec Ideal S65536 .f32)⟩, ⟨S65536, (shapeCast S65536 (m (c.tc.loc main_arg18)) shapeCasts_S1x64x64x16_S65536 : Vec Ideal S65536 .f32)⟩, ⟨S65536, (shapeCast S65536 (m (c.tc.loc main_arg19)) shapeCasts_S1x64x16x64_S65536 : Vec Ideal S65536 .f32)⟩, ⟨S65536, (shapeCast S65536 (m (c.tc.loc main_arg20)) shapeCasts_S1x64x16x64_S65536 : Vec Ideal S65536 .f32)⟩] concatenates_S4096_S4096_S64_S65536_S65536_S65536_S65536_S270400_d0)
    (sitofp (F := Ideal) .f32 (constantI S_ 32 0#32)) pads_S270400_S278528_081280 h_S_) shapeCasts_S278528_S272x1024 := by
  have r0 : (StableHlo.upto ops (fun b => m (c, b)) 43 (Proc.devRef .tc main_v30) : Vec Ideal S4096 .f32) = shapeCast S4096 (m (c.tc.loc main_arg14)) shapeCasts_S1x64x64_S4096 := by
    unfold ops
    after_reads_simp
    try rfl
  have r1 : (StableHlo.upto ops (fun b => m (c, b)) 43 (Proc.devRef .tc main_v31) : Vec Ideal S4096 .f32) = shapeCast S4096 (m (c.tc.loc main_arg15)) shapeCasts_S1x64x64_S4096 := by
    unfold ops
    after_reads_simp
    try rfl
  have r2 : (StableHlo.upto ops (fun b => m (c, b)) 43 (Proc.devRef .tc main_v32) : Vec Ideal S64 .f32) = shapeCast S64 (m (c.tc.loc main_arg16)) shapeCasts_S1x64_S64 := by
    unfold ops
    after_reads_simp
    try rfl
  have r3 : (StableHlo.upto ops (fun b => m (c, b)) 43 (Proc.devRef .tc main_v33) : Vec Ideal S65536 .f32) = shapeCast S65536 (m (c.tc.loc main_arg17)) shapeCasts_S1x64x64x16_S65536 := by
    unfold ops
    after_reads_simp
    try rfl
  have r4 : (StableHlo.upto ops (fun b => m (c, b)) 43 (Proc.devRef .tc main_v34) : Vec Ideal S65536 .f32) = shapeCast S65536 (m (c.tc.loc main_arg18)) shapeCasts_S1x64x64x16_S65536 := by
    unfold ops
    after_reads_simp
    try rfl
  have r5 : (StableHlo.upto ops (fun b => m (c, b)) 43 (Proc.devRef .tc main_v35) : Vec Ideal S65536 .f32) = shapeCast S65536 (m (c.tc.loc main_arg19)) shapeCasts_S1x64x16x64_S65536 := by
    unfold ops
    after_reads_simp
    try rfl
  have r6 : (StableHlo.upto ops (fun b => m (c, b)) 43 (Proc.devRef .tc main_v36) : Vec Ideal S65536 .f32) = shapeCast S65536 (m (c.tc.loc main_arg20)) shapeCasts_S1x64x16x64_S65536 := by
    unfold ops
    after_reads_simp
    try rfl
  have e := congr (congr (congr (congr (congr (congr (congrArg (fun (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) => shapeCast S272x1024 (pad (α := Elt Ideal .f32) S278528 ![0] ![8128] ![0] (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0)
    (sitofp (F := Ideal) .f32 (constantI S_ 32 0#32)) pads_S270400_S278528_081280 h_S_) shapeCasts_S278528_S272x1024) r0) r1) r2) r3) r4) r5) r6
  unfold V V0
  after_reads_simp
  exact e

theorem ix1_eq {n0 : ℕ} {a a' : Fin n0} (h0 : a.val = a'.val) : ix1 a = ix1 a' := by
  obtain rfl : a = a' := Fin.ext h0
  rfl

theorem ix2_eq {n0 n1 : ℕ} {a a' : Fin n0} {b b' : Fin n1} (h0 : a.val = a'.val) (h1 : b.val = b'.val) : ix2 a b = ix2 a' b' := by
  obtain ⟨rfl, rfl⟩ : a = a' ∧ b = b' := ⟨Fin.ext h0, Fin.ext h1⟩
  rfl

theorem ix3_eq {n0 n1 n2 : ℕ} {a a' : Fin n0} {b b' : Fin n1} {u u' : Fin n2} (h0 : a.val = a'.val) (h1 : b.val = b'.val) (h2 : u.val = u'.val) : ix3 a b u = ix3 a' b' u' := by
  obtain ⟨rfl, rfl, rfl⟩ : a = a' ∧ b = b' ∧ u = u' := ⟨Fin.ext h0, Fin.ext h1, Fin.ext h2⟩
  rfl

theorem ix4_eq {n0 n1 n2 n3 : ℕ} {a a' : Fin n0} {b b' : Fin n1} {u u' : Fin n2} {w w' : Fin n3} (h0 : a.val = a'.val) (h1 : b.val = b'.val) (h2 : u.val = u'.val) (h3 : w.val = w'.val) : ix4 a b u w = ix4 a' b' u' w' := by
  obtain ⟨rfl, rfl, rfl, rfl⟩ : a = a' ∧ b = b' ∧ u = u' ∧ w = w' := ⟨Fin.ext h0, Fin.ext h1, Fin.ext h2, Fin.ext h3⟩
  rfl

theorem ix5_eq {n0 n1 n2 n3 n4 : ℕ} {a a' : Fin n0} {b b' : Fin n1} {c c' : Fin n2} {d d' : Fin n3} {e e' : Fin n4} (h0 : a.val = a'.val) (h1 : b.val = b'.val) (h2 : c.val = c'.val) (h3 : d.val = d'.val) (h4 : e.val = e'.val) : ix5 a b c d e = ix5 a' b' c' d' e' := by
  obtain ⟨rfl, rfl, rfl, rfl, rfl⟩ : a = a' ∧ b = b' ∧ c = c' ∧ d = d' ∧ e = e' := ⟨Fin.ext h0, Fin.ext h1, Fin.ext h2, Fin.ext h3, Fin.ext h4⟩
  rfl

theorem flat0 (X : Vec Ideal S8x278528 .f32) (p : Fin 8) (q : ℕ) (h : q < 278528) :
    (shapeCast S8x272x1024 X shapeCasts_S8x278528_S8x272x1024 : Vec Ideal S8x272x1024 .f32) (ix3 p (hi q h) (lo q)) = X (ix2 p ⟨q, h⟩) := by
  pointwise [hi, lo]
  refine congrArg X (ix2_eq rfl ?_)
  first | omega | (dsimp only; omega) | (simp; omega)

theorem padded0 (Y : Vec Ideal S8x270400 .f32) (v : Vec Ideal S_ .f32) (p : Fin 8) (q : ℕ) (h : q < 270400) :
    (pad (α := Elt Ideal .f32) S8x278528 ![0, 0] ![0, 8128] ![0, 0] Y v pads_S8x270400_S8x278528_000_081280 h_S_ : Vec Ideal S8x278528 .f32) (ix2 p ⟨q, by omega⟩) = Y (ix2 p ⟨q, h⟩) := by
  pointwise
  split_ifs <;> first | rfl | (exfalso; omega)

theorem cat0_0 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 4096) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨0 + q, by omega⟩) = x0 (ix2 p ⟨q, h⟩) := by
  pointwise
  split_ifs <;> first
    | (exfalso; omega)
    | (refine congrArg x0 (ix2_eq rfl ?_); first | omega | (dsimp only; omega) | (simp; omega))

theorem cat0_1 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 4096) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨4096 + q, by omega⟩) = x1 (ix2 p ⟨q, h⟩) := by
  pointwise
  split_ifs <;> first
    | (exfalso; omega)
    | (refine congrArg x1 (ix2_eq rfl ?_); first | omega | (dsimp only; omega) | (simp; omega))

theorem cat0_2 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 64) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨8192 + q, by omega⟩) = x2 (ix2 p ⟨q, h⟩) := by
  pointwise
  split_ifs <;> first
    | (exfalso; omega)
    | (refine congrArg x2 (ix2_eq rfl ?_); first | omega | (dsimp only; omega) | (simp; omega))

theorem cat0_3 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 65536) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨8256 + q, by omega⟩) = x3 (ix2 p ⟨q, h⟩) := by
  pointwise
  split_ifs <;> first
    | (exfalso; omega)
    | (refine congrArg x3 (ix2_eq rfl ?_); first | omega | (dsimp only; omega) | (simp; omega))

theorem cat0_4 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 65536) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨73792 + q, by omega⟩) = x4 (ix2 p ⟨q, h⟩) := by
  pointwise
  split_ifs <;> first
    | (exfalso; omega)
    | (refine congrArg x4 (ix2_eq rfl ?_); first | omega | (dsimp only; omega) | (simp; omega))

theorem cat0_5 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 65536) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨139328 + q, by omega⟩) = x5 (ix2 p ⟨q, h⟩) := by
  pointwise
  split_ifs <;> first
    | (exfalso; omega)
    | (refine congrArg x5 (ix2_eq rfl ?_); first | omega | (dsimp only; omega) | (simp; omega))

theorem cat0_6 (x0 : Vec Ideal S8x4096 .f32) (x1 : Vec Ideal S8x4096 .f32) (x2 : Vec Ideal S8x64 .f32) (x3 : Vec Ideal S8x65536 .f32) (x4 : Vec Ideal S8x65536 .f32) (x5 : Vec Ideal S8x65536 .f32) (x6 : Vec Ideal S8x65536 .f32) (p : Fin 8) (q : ℕ) (h : q < 65536) :
    (concatenate (α := Elt Ideal .f32) S8x270400 1 [⟨S8x4096, x0⟩, ⟨S8x4096, x1⟩, ⟨S8x64, x2⟩, ⟨S8x65536, x3⟩, ⟨S8x65536, x4⟩, ⟨S8x65536, x5⟩, ⟨S8x65536, x6⟩] concatenates_S8x4096_S8x4096_S8x64_S8x65536_S8x65536_S8x65536_S8x65536_S8x270400_d1 : Vec Ideal S8x270400 .f32) (ix2 p ⟨204864 + q, by omega⟩) = x6 (ix2 p ⟨q, h⟩) := by
  pointwise
  split_ifs <;> first
    | (exfalso; omega)
    | (refine congrArg x6 (ix2_eq rfl ?_); first | omega | (dsimp only; omega) | (simp; omega))

theorem flat1 (X : Vec Ideal S278528 .f32) (q : ℕ) (h : q < 278528) :
    (shapeCast S272x1024 X shapeCasts_S278528_S272x1024 : Vec Ideal S272x1024 .f32) (ix2 (hi q h) (lo q)) = X (ix1 ⟨q, h⟩) := by
  pointwise [hi, lo]
  refine congrArg X (ix1_eq ?_)
  first | omega | (dsimp only; omega) | (simp; omega)

theorem padded1 (Y : Vec Ideal S270400 .f32) (v : Vec Ideal S_ .f32) (q : ℕ) (h : q < 270400) :
    (pad (α := Elt Ideal .f32) S278528 ![0] ![8128] ![0] Y v pads_S270400_S278528_081280 h_S_ : Vec Ideal S278528 .f32) (ix1 ⟨q, by omega⟩) = Y (ix1 ⟨q, h⟩) := by
  pointwise
  split_ifs <;> first | rfl | (exfalso; omega)

theorem cat1_0 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 4096) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨0 + q, by omega⟩) = x0 (ix1 ⟨q, h⟩) := by
  pointwise
  split_ifs <;> first
    | (exfalso; omega)
    | (refine congrArg x0 (ix1_eq ?_); first | omega | (dsimp only; omega) | (simp; omega))

theorem cat1_1 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 4096) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨4096 + q, by omega⟩) = x1 (ix1 ⟨q, h⟩) := by
  pointwise
  split_ifs <;> first
    | (exfalso; omega)
    | (refine congrArg x1 (ix1_eq ?_); first | omega | (dsimp only; omega) | (simp; omega))

theorem cat1_2 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 64) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨8192 + q, by omega⟩) = x2 (ix1 ⟨q, h⟩) := by
  pointwise
  split_ifs <;> first
    | (exfalso; omega)
    | (refine congrArg x2 (ix1_eq ?_); first | omega | (dsimp only; omega) | (simp; omega))

theorem cat1_3 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 65536) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨8256 + q, by omega⟩) = x3 (ix1 ⟨q, h⟩) := by
  pointwise
  split_ifs <;> first
    | (exfalso; omega)
    | (refine congrArg x3 (ix1_eq ?_); first | omega | (dsimp only; omega) | (simp; omega))

theorem cat1_4 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 65536) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨73792 + q, by omega⟩) = x4 (ix1 ⟨q, h⟩) := by
  pointwise
  split_ifs <;> first
    | (exfalso; omega)
    | (refine congrArg x4 (ix1_eq ?_); first | omega | (dsimp only; omega) | (simp; omega))

theorem cat1_5 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 65536) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨139328 + q, by omega⟩) = x5 (ix1 ⟨q, h⟩) := by
  pointwise
  split_ifs <;> first
    | (exfalso; omega)
    | (refine congrArg x5 (ix1_eq ?_); first | omega | (dsimp only; omega) | (simp; omega))

theorem cat1_6 (x0 : Vec Ideal S4096 .f32) (x1 : Vec Ideal S4096 .f32) (x2 : Vec Ideal S64 .f32) (x3 : Vec Ideal S65536 .f32) (x4 : Vec Ideal S65536 .f32) (x5 : Vec Ideal S65536 .f32) (x6 : Vec Ideal S65536 .f32) (q : ℕ) (h : q < 65536) :
    (concatenate (α := Elt Ideal .f32) S270400 0 [⟨S4096, x0⟩, ⟨S4096, x1⟩, ⟨S64, x2⟩, ⟨S65536, x3⟩, ⟨S65536, x4⟩, ⟨S65536, x5⟩, ⟨S65536, x6⟩] concatenates_S4096_S4096_S64_S65536_S65536_S65536_S65536_S270400_d0 : Vec Ideal S270400 .f32) (ix1 ⟨204864 + q, by omega⟩) = x6 (ix1 ⟨q, h⟩) := by
  pointwise
  split_ifs <;> first
    | (exfalso; omega)
    | (refine congrArg x6 (ix1_eq ?_); first | omega | (dsimp only; omega) | (simp; omega))

theorem cast0_0 (X : Vec Ideal S8x1x64x64 .f32) (p : Fin 8) (a : Fin 1) (b : Fin 64) (u : Fin 64) :
    (shapeCast S8x4096 X shapeCasts_S8x1x64x64_S8x4096 : Vec Ideal S8x4096 .f32) (ix2 p ⟨((a.val * 64 + b.val) * 64 + u.val), by omega⟩) = X (ix4 p a b u) := by
  pointwise
  try (first | rfl | (refine congrArg X (ix4_eq ?_ ?_ ?_ ?_) <;> first | rfl | omega | (try dsimp only; omega) | (simp; omega)))

theorem cast1_0 (X : Vec Ideal S1x64x64 .f32) (a : Fin 1) (b : Fin 64) (u : Fin 64) :
    (shapeCast S4096 X shapeCasts_S1x64x64_S4096 : Vec Ideal S4096 .f32) (ix1 ⟨((a.val * 64 + b.val) * 64 + u.val), by omega⟩) = X (ix3 a b u) := by
  pointwise
  try (first | rfl | (refine congrArg X (ix3_eq ?_ ?_ ?_) <;> first | rfl | omega | (try dsimp only; omega) | (simp; omega)))

theorem pack0_0 (c : Dev nD) (p : Fin 8) (a : Fin 1) (b : Fin 64) (u : Fin 64) : A0 m c (ix3 p (hi (0 + ((a.val * 64 + b.val) * 64 + u.val)) (by omega)) (lo (0 + ((a.val * 64 + b.val) * 64 + u.val))))
    = m (c.tc.loc main_arg21) (ix4 p a b u) := by
  exact (congrFun (packed0 m c) _).trans <| (flat0 _ p _ _).trans ((padded0 _ _ p (0 + ((a.val * 64 + b.val) * 64 + u.val)) (by omega)).trans ((cat0_0 _ _ _ _ _ _ _ p _ (by omega)).trans
    (cast0_0 _ p a b u)))

theorem pack1_0 (c : Dev nD) (a : Fin 1) (b : Fin 64) (u : Fin 64) : A1 m c (ix2 (hi (0 + ((a.val * 64 + b.val) * 64 + u.val)) (by omega)) (lo (0 + ((a.val * 64 + b.val) * 64 + u.val))))
    = m (c.tc.loc main_arg0) (ix3 a b u) := by
  exact (congrFun (packed1 m c) _).trans <| (flat1 _ _ _).trans ((padded1 _ _ (0 + ((a.val * 64 + b.val) * 64 + u.val)) (by omega)).trans ((cat1_0 _ _ _ _ _ _ _ _ (by omega)).trans
    (cast1_0 _ a b u)))

theorem pack2_0 (c : Dev nD) (a : Fin 1) (b : Fin 64) (u : Fin 64) : A2 m c (ix2 (hi (0 + ((a.val * 64 + b.val) * 64 + u.val)) (by omega)) (lo (0 + ((a.val * 64 + b.val) * 64 + u.val))))
    = m (c.tc.loc main_arg7) (ix3 a b u) := by
  exact (congrFun (packed2 m c) _).trans <| (flat1 _ _ _).trans ((padded1 _ _ (0 + ((a.val * 64 + b.val) * 64 + u.val)) (by omega)).trans ((cat1_0 _ _ _ _ _ _ _ _ (by omega)).trans
    (cast1_0 _ a b u)))

theorem pack3_0 (c : Dev nD) (a : Fin 1) (b : Fin 64) (u : Fin 64) : A3 m c (ix2 (hi (0 + ((a.val * 64 + b.val) * 64 + u.val)) (by omega)) (lo (0 + ((a.val * 64 + b.val) * 64 + u.val))))
    = m (c.tc.loc main_arg14) (ix3 a b u) := by
  exact (congrFun (packed3 m c) _).trans <| (flat1 _ _ _).trans ((padded1 _ _ (0 + ((a.val * 64 + b.val) * 64 + u.val)) (by omega)).trans ((cat1_0 _ _ _ _ _ _ _ _ (by omega)).trans
    (cast1_0 _ a b u)))

theorem unpack_0 (X : Whole) (a : Fin 1) (b : Fin 64) (u : Fin 64) : shapeCast S1x64x64 (extractStridedSlice S4096 ![0] (shapeCast S278528 (X) shapeCasts_S272x1024_S278528) slices_S278528_S4096_0) shapeCasts_S4096_S1x64x64 (ix3 a b u) = X (ix2 (hi (0 + ((a.val * 64 + b.val) * 64 + u.val)) (by omega)) (lo (0 + ((a.val * 64 + b.val) * 64 + u.val)))) := by
  pointwise [hi, lo]

theorem pack0_1 (c : Dev nD) (p : Fin 8) (a : Fin 1) (b : Fin 64) (u : Fin 64) : A0 m c (ix3 p (hi (4096 + ((a.val * 64 + b.val) * 64 + u.val)) (by omega)) (lo (4096 + ((a.val * 64 + b.val) * 64 + u.val))))
    = m (c.tc.loc main_arg22) (ix4 p a b u) := by
  exact (congrFun (packed0 m c) _).trans <| (flat0 _ p _ _).trans ((padded0 _ _ p (4096 + ((a.val * 64 + b.val) * 64 + u.val)) (by omega)).trans ((cat0_1 _ _ _ _ _ _ _ p _ (by omega)).trans
    (cast0_0 _ p a b u)))

theorem pack1_1 (c : Dev nD) (a : Fin 1) (b : Fin 64) (u : Fin 64) : A1 m c (ix2 (hi (4096 + ((a.val * 64 + b.val) * 64 + u.val)) (by omega)) (lo (4096 + ((a.val * 64 + b.val) * 64 + u.val))))
    = m (c.tc.loc main_arg1) (ix3 a b u) := by
  exact (congrFun (packed1 m c) _).trans <| (flat1 _ _ _).trans ((padded1 _ _ (4096 + ((a.val * 64 + b.val) * 64 + u.val)) (by omega)).trans ((cat1_1 _ _ _ _ _ _ _ _ (by omega)).trans
    (cast1_0 _ a b u)))

theorem pack2_1 (c : Dev nD) (a : Fin 1) (b : Fin 64) (u : Fin 64) : A2 m c (ix2 (hi (4096 + ((a.val * 64 + b.val) * 64 + u.val)) (by omega)) (lo (4096 + ((a.val * 64 + b.val) * 64 + u.val))))
    = m (c.tc.loc main_arg8) (ix3 a b u) := by
  exact (congrFun (packed2 m c) _).trans <| (flat1 _ _ _).trans ((padded1 _ _ (4096 + ((a.val * 64 + b.val) * 64 + u.val)) (by omega)).trans ((cat1_1 _ _ _ _ _ _ _ _ (by omega)).trans
    (cast1_0 _ a b u)))

theorem pack3_1 (c : Dev nD) (a : Fin 1) (b : Fin 64) (u : Fin 64) : A3 m c (ix2 (hi (4096 + ((a.val * 64 + b.val) * 64 + u.val)) (by omega)) (lo (4096 + ((a.val * 64 + b.val) * 64 + u.val))))
    = m (c.tc.loc main_arg15) (ix3 a b u) := by
  exact (congrFun (packed3 m c) _).trans <| (flat1 _ _ _).trans ((padded1 _ _ (4096 + ((a.val * 64 + b.val) * 64 + u.val)) (by omega)).trans ((cat1_1 _ _ _ _ _ _ _ _ (by omega)).trans
    (cast1_0 _ a b u)))

theorem unpack_1 (X : Whole) (a : Fin 1) (b : Fin 64) (u : Fin 64) : shapeCast S1x64x64 (extractStridedSlice S4096 ![4096] (shapeCast S278528 (X) shapeCasts_S272x1024_S278528) slices_S278528_S4096_4096) shapeCasts_S4096_S1x64x64 (ix3 a b u) = X (ix2 (hi (4096 + ((a.val * 64 + b.val) * 64 + u.val)) (by omega)) (lo (4096 + ((a.val * 64 + b.val) * 64 + u.val)))) := by
  pointwise [hi, lo]

theorem cast0_2 (X : Vec Ideal S8x1x64 .f32) (p : Fin 8) (a : Fin 1) (b : Fin 64) :
    (shapeCast S8x64 X shapeCasts_S8x1x64_S8x64 : Vec Ideal S8x64 .f32) (ix2 p ⟨(a.val * 64 + b.val), by omega⟩) = X (ix3 p a b) := by
  pointwise
  try (first | rfl | (refine congrArg X (ix3_eq ?_ ?_ ?_) <;> first | rfl | omega | (try dsimp only; omega) | (simp; omega)))

theorem cast1_2 (X : Vec Ideal S1x64 .f32) (a : Fin 1) (b : Fin 64) :
    (shapeCast S64 X shapeCasts_S1x64_S64 : Vec Ideal S64 .f32) (ix1 ⟨(a.val * 64 + b.val), by omega⟩) = X (ix2 a b) := by
  pointwise
  try (first | rfl | (refine congrArg X (ix2_eq ?_ ?_) <;> first | rfl | omega | (try dsimp only; omega) | (simp; omega)))

theorem pack0_2 (c : Dev nD) (p : Fin 8) (a : Fin 1) (b : Fin 64) : A0 m c (ix3 p (hi (8192 + (a.val * 64 + b.val)) (by omega)) (lo (8192 + (a.val * 64 + b.val))))
    = m (c.tc.loc main_arg23) (ix3 p a b) := by
  exact (congrFun (packed0 m c) _).trans <| (flat0 _ p _ _).trans ((padded0 _ _ p (8192 + (a.val * 64 + b.val)) (by omega)).trans ((cat0_2 _ _ _ _ _ _ _ p _ (by omega)).trans
    (cast0_2 _ p a b)))

theorem pack1_2 (c : Dev nD) (a : Fin 1) (b : Fin 64) : A1 m c (ix2 (hi (8192 + (a.val * 64 + b.val)) (by omega)) (lo (8192 + (a.val * 64 + b.val))))
    = m (c.tc.loc main_arg2) (ix2 a b) := by
  exact (congrFun (packed1 m c) _).trans <| (flat1 _ _ _).trans ((padded1 _ _ (8192 + (a.val * 64 + b.val)) (by omega)).trans ((cat1_2 _ _ _ _ _ _ _ _ (by omega)).trans
    (cast1_2 _ a b)))

theorem pack2_2 (c : Dev nD) (a : Fin 1) (b : Fin 64) : A2 m c (ix2 (hi (8192 + (a.val * 64 + b.val)) (by omega)) (lo (8192 + (a.val * 64 + b.val))))
    = m (c.tc.loc main_arg9) (ix2 a b) := by
  exact (congrFun (packed2 m c) _).trans <| (flat1 _ _ _).trans ((padded1 _ _ (8192 + (a.val * 64 + b.val)) (by omega)).trans ((cat1_2 _ _ _ _ _ _ _ _ (by omega)).trans
    (cast1_2 _ a b)))

theorem pack3_2 (c : Dev nD) (a : Fin 1) (b : Fin 64) : A3 m c (ix2 (hi (8192 + (a.val * 64 + b.val)) (by omega)) (lo (8192 + (a.val * 64 + b.val))))
    = m (c.tc.loc main_arg16) (ix2 a b) := by
  exact (congrFun (packed3 m c) _).trans <| (flat1 _ _ _).trans ((padded1 _ _ (8192 + (a.val * 64 + b.val)) (by omega)).trans ((cat1_2 _ _ _ _ _ _ _ _ (by omega)).trans
    (cast1_2 _ a b)))

theorem unpack_2 (X : Whole) (a : Fin 1) (b : Fin 64) : shapeCast S1x64 (extractStridedSlice S64 ![8192] (shapeCast S278528 (X) shapeCasts_S272x1024_S278528) slices_S278528_S64_8192) shapeCasts_S64_S1x64 (ix2 a b) = X (ix2 (hi (8192 + (a.val * 64 + b.val)) (by omega)) (lo (8192 + (a.val * 64 + b.val)))) := by
  pointwise [hi, lo]

theorem cast0_3 (X : Vec Ideal S8x1x64x64x16 .f32) (p : Fin 8) (a : Fin 1) (b : Fin 64) (u : Fin 64) (w : Fin 16) :
    (shapeCast S8x65536 X shapeCasts_S8x1x64x64x16_S8x65536 : Vec Ideal S8x65536 .f32) (ix2 p ⟨(((a.val * 64 + b.val) * 64 + u.val) * 16 + w.val), by omega⟩) = X (ix5 p a b u w) := by
  pointwise
  try (first | rfl | (refine congrArg X (ix5_eq ?_ ?_ ?_ ?_ ?_) <;> first | rfl | omega | (try dsimp only; omega) | (simp; omega)))

theorem cast1_3 (X : Vec Ideal S1x64x64x16 .f32) (a : Fin 1) (b : Fin 64) (u : Fin 64) (w : Fin 16) :
    (shapeCast S65536 X shapeCasts_S1x64x64x16_S65536 : Vec Ideal S65536 .f32) (ix1 ⟨(((a.val * 64 + b.val) * 64 + u.val) * 16 + w.val), by omega⟩) = X (ix4 a b u w) := by
  pointwise
  try (first | rfl | (refine congrArg X (ix4_eq ?_ ?_ ?_ ?_) <;> first | rfl | omega | (try dsimp only; omega) | (simp; omega)))

theorem pack0_3 (c : Dev nD) (p : Fin 8) (a : Fin 1) (b : Fin 64) (u : Fin 64) (w : Fin 16) : A0 m c (ix3 p (hi (8256 + (((a.val * 64 + b.val) * 64 + u.val) * 16 + w.val)) (by omega)) (lo (8256 + (((a.val * 64 + b.val) * 64 + u.val) * 16 + w.val))))
    = m (c.tc.loc main_arg24) (ix5 p a b u w) := by
  exact (congrFun (packed0 m c) _).trans <| (flat0 _ p _ _).trans ((padded0 _ _ p (8256 + (((a.val * 64 + b.val) * 64 + u.val) * 16 + w.val)) (by omega)).trans ((cat0_3 _ _ _ _ _ _ _ p _ (by omega)).trans
    (cast0_3 _ p a b u w)))

theorem pack1_3 (c : Dev nD) (a : Fin 1) (b : Fin 64) (u : Fin 64) (w : Fin 16) : A1 m c (ix2 (hi (8256 + (((a.val * 64 + b.val) * 64 + u.val) * 16 + w.val)) (by omega)) (lo (8256 + (((a.val * 64 + b.val) * 64 + u.val) * 16 + w.val))))
    = m (c.tc.loc main_arg3) (ix4 a b u w) := by
  exact (congrFun (packed1 m c) _).trans <| (flat1 _ _ _).trans ((padded1 _ _ (8256 + (((a.val * 64 + b.val) * 64 + u.val) * 16 + w.val)) (by omega)).trans ((cat1_3 _ _ _ _ _ _ _ _ (by omega)).trans
    (cast1_3 _ a b u w)))

theorem pack2_3 (c : Dev nD) (a : Fin 1) (b : Fin 64) (u : Fin 64) (w : Fin 16) : A2 m c (ix2 (hi (8256 + (((a.val * 64 + b.val) * 64 + u.val) * 16 + w.val)) (by omega)) (lo (8256 + (((a.val * 64 + b.val) * 64 + u.val) * 16 + w.val))))
    = m (c.tc.loc main_arg10) (ix4 a b u w) := by
  exact (congrFun (packed2 m c) _).trans <| (flat1 _ _ _).trans ((padded1 _ _ (8256 + (((a.val * 64 + b.val) * 64 + u.val) * 16 + w.val)) (by omega)).trans ((cat1_3 _ _ _ _ _ _ _ _ (by omega)).trans
    (cast1_3 _ a b u w)))

theorem pack3_3 (c : Dev nD) (a : Fin 1) (b : Fin 64) (u : Fin 64) (w : Fin 16) : A3 m c (ix2 (hi (8256 + (((a.val * 64 + b.val) * 64 + u.val) * 16 + w.val)) (by omega)) (lo (8256 + (((a.val * 64 + b.val) * 64 + u.val) * 16 + w.val))))
    = m (c.tc.loc main_arg17) (ix4 a b u w) := by
  exact (congrFun (packed3 m c) _).trans <| (flat1 _ _ _).trans ((padded1 _ _ (8256 + (((a.val * 64 + b.val) * 64 + u.val) * 16 + w.val)) (by omega)).trans ((cat1_3 _ _ _ _ _ _ _ _ (by omega)).trans
    (cast1_3 _ a b u w)))

theorem unpack_3 (X : Whole) (a : Fin 1) (b : Fin 64) (u : Fin 64) (w : Fin 16) : shapeCast S1x64x64x16 (extractStridedSlice S65536 ![8256] (shapeCast S278528 (X) shapeCasts_S272x1024_S278528) slices_S278528_S65536_8256) shapeCasts_S65536_S1x64x64x16 (ix4 a b u w) = X (ix2 (hi (8256 + (((a.val * 64 + b.val) * 64 + u.val) * 16 + w.val)) (by omega)) (lo (8256 + (((a.val * 64 + b.val) * 64 + u.val) * 16 + w.val)))) := by
  pointwise [hi, lo]
  refine congrArg X (ix2_eq ?_ ?_) <;> (dsimp only; omega)

theorem pack0_4 (c : Dev nD) (p : Fin 8) (a : Fin 1) (b : Fin 64) (u : Fin 64) (w : Fin 16) : A0 m c (ix3 p (hi (73792 + (((a.val * 64 + b.val) * 64 + u.val) * 16 + w.val)) (by omega)) (lo (73792 + (((a.val * 64 + b.val) * 64 + u.val) * 16 + w.val))))
    = m (c.tc.loc main_arg25) (ix5 p a b u w) := by
  exact (congrFun (packed0 m c) _).trans <| (flat0 _ p _ _).trans ((padded0 _ _ p (73792 + (((a.val * 64 + b.val) * 64 + u.val) * 16 + w.val)) (by omega)).trans ((cat0_4 _ _ _ _ _ _ _ p _ (by omega)).trans
    (cast0_3 _ p a b u w)))

theorem pack1_4 (c : Dev nD) (a : Fin 1) (b : Fin 64) (u : Fin 64) (w : Fin 16) : A1 m c (ix2 (hi (73792 + (((a.val * 64 + b.val) * 64 + u.val) * 16 + w.val)) (by omega)) (lo (73792 + (((a.val * 64 + b.val) * 64 + u.val) * 16 + w.val))))
    = m (c.tc.loc main_arg4) (ix4 a b u w) := by
  exact (congrFun (packed1 m c) _).trans <| (flat1 _ _ _).trans ((padded1 _ _ (73792 + (((a.val * 64 + b.val) * 64 + u.val) * 16 + w.val)) (by omega)).trans ((cat1_4 _ _ _ _ _ _ _ _ (by omega)).trans
    (cast1_3 _ a b u w)))

theorem pack2_4 (c : Dev nD) (a : Fin 1) (b : Fin 64) (u : Fin 64) (w : Fin 16) : A2 m c (ix2 (hi (73792 + (((a.val * 64 + b.val) * 64 + u.val) * 16 + w.val)) (by omega)) (lo (73792 + (((a.val * 64 + b.val) * 64 + u.val) * 16 + w.val))))
    = m (c.tc.loc main_arg11) (ix4 a b u w) := by
  exact (congrFun (packed2 m c) _).trans <| (flat1 _ _ _).trans ((padded1 _ _ (73792 + (((a.val * 64 + b.val) * 64 + u.val) * 16 + w.val)) (by omega)).trans ((cat1_4 _ _ _ _ _ _ _ _ (by omega)).trans
    (cast1_3 _ a b u w)))

theorem pack3_4 (c : Dev nD) (a : Fin 1) (b : Fin 64) (u : Fin 64) (w : Fin 16) : A3 m c (ix2 (hi (73792 + (((a.val * 64 + b.val) * 64 + u.val) * 16 + w.val)) (by omega)) (lo (73792 + (((a.val * 64 + b.val) * 64 + u.val) * 16 + w.val))))
    = m (c.tc.loc main_arg18) (ix4 a b u w) := by
  exact (congrFun (packed3 m c) _).trans <| (flat1 _ _ _).trans ((padded1 _ _ (73792 + (((a.val * 64 + b.val) * 64 + u.val) * 16 + w.val)) (by omega)).trans ((cat1_4 _ _ _ _ _ _ _ _ (by omega)).trans
    (cast1_3 _ a b u w)))

theorem unpack_4 (X : Whole) (a : Fin 1) (b : Fin 64) (u : Fin 64) (w : Fin 16) : shapeCast S1x64x64x16 (extractStridedSlice S65536 ![73792] (shapeCast S278528 (X) shapeCasts_S272x1024_S278528) slices_S278528_S65536_73792) shapeCasts_S65536_S1x64x64x16 (ix4 a b u w) = X (ix2 (hi (73792 + (((a.val * 64 + b.val) * 64 + u.val) * 16 + w.val)) (by omega)) (lo (73792 + (((a.val * 64 + b.val) * 64 + u.val) * 16 + w.val)))) := by
  pointwise [hi, lo]
  refine congrArg X (ix2_eq ?_ ?_) <;> (dsimp only; omega)

theorem cast0_5 (X : Vec Ideal S8x1x64x16x64 .f32) (p : Fin 8) (a : Fin 1) (b : Fin 64) (u : Fin 16) (w : Fin 64) :
    (shapeCast S8x65536 X shapeCasts_S8x1x64x16x64_S8x65536 : Vec Ideal S8x65536 .f32) (ix2 p ⟨(((a.val * 64 + b.val) * 16 + u.val) * 64 + w.val), by omega⟩) = X (ix5 p a b u w) := by
  pointwise
  try (first | rfl | (refine congrArg X (ix5_eq ?_ ?_ ?_ ?_ ?_) <;> first | rfl | omega | (try dsimp only; omega) | (simp; omega)))

theorem cast1_5 (X : Vec Ideal S1x64x16x64 .f32) (a : Fin 1) (b : Fin 64) (u : Fin 16) (w : Fin 64) :
    (shapeCast S65536 X shapeCasts_S1x64x16x64_S65536 : Vec Ideal S65536 .f32) (ix1 ⟨(((a.val * 64 + b.val) * 16 + u.val) * 64 + w.val), by omega⟩) = X (ix4 a b u w) := by
  pointwise
  try (first | rfl | (refine congrArg X (ix4_eq ?_ ?_ ?_ ?_) <;> first | rfl | omega | (try dsimp only; omega) | (simp; omega)))

theorem pack0_5 (c : Dev nD) (p : Fin 8) (a : Fin 1) (b : Fin 64) (u : Fin 16) (w : Fin 64) : A0 m c (ix3 p (hi (139328 + (((a.val * 64 + b.val) * 16 + u.val) * 64 + w.val)) (by omega)) (lo (139328 + (((a.val * 64 + b.val) * 16 + u.val) * 64 + w.val))))
    = m (c.tc.loc main_arg26) (ix5 p a b u w) := by
  exact (congrFun (packed0 m c) _).trans <| (flat0 _ p _ _).trans ((padded0 _ _ p (139328 + (((a.val * 64 + b.val) * 16 + u.val) * 64 + w.val)) (by omega)).trans ((cat0_5 _ _ _ _ _ _ _ p _ (by omega)).trans
    (cast0_5 _ p a b u w)))

theorem pack1_5 (c : Dev nD) (a : Fin 1) (b : Fin 64) (u : Fin 16) (w : Fin 64) : A1 m c (ix2 (hi (139328 + (((a.val * 64 + b.val) * 16 + u.val) * 64 + w.val)) (by omega)) (lo (139328 + (((a.val * 64 + b.val) * 16 + u.val) * 64 + w.val))))
    = m (c.tc.loc main_arg5) (ix4 a b u w) := by
  exact (congrFun (packed1 m c) _).trans <| (flat1 _ _ _).trans ((padded1 _ _ (139328 + (((a.val * 64 + b.val) * 16 + u.val) * 64 + w.val)) (by omega)).trans ((cat1_5 _ _ _ _ _ _ _ _ (by omega)).trans
    (cast1_5 _ a b u w)))

theorem pack2_5 (c : Dev nD) (a : Fin 1) (b : Fin 64) (u : Fin 16) (w : Fin 64) : A2 m c (ix2 (hi (139328 + (((a.val * 64 + b.val) * 16 + u.val) * 64 + w.val)) (by omega)) (lo (139328 + (((a.val * 64 + b.val) * 16 + u.val) * 64 + w.val))))
    = m (c.tc.loc main_arg12) (ix4 a b u w) := by
  exact (congrFun (packed2 m c) _).trans <| (flat1 _ _ _).trans ((padded1 _ _ (139328 + (((a.val * 64 + b.val) * 16 + u.val) * 64 + w.val)) (by omega)).trans ((cat1_5 _ _ _ _ _ _ _ _ (by omega)).trans
    (cast1_5 _ a b u w)))

theorem pack3_5 (c : Dev nD) (a : Fin 1) (b : Fin 64) (u : Fin 16) (w : Fin 64) : A3 m c (ix2 (hi (139328 + (((a.val * 64 + b.val) * 16 + u.val) * 64 + w.val)) (by omega)) (lo (139328 + (((a.val * 64 + b.val) * 16 + u.val) * 64 + w.val))))
    = m (c.tc.loc main_arg19) (ix4 a b u w) := by
  exact (congrFun (packed3 m c) _).trans <| (flat1 _ _ _).trans ((padded1 _ _ (139328 + (((a.val * 64 + b.val) * 16 + u.val) * 64 + w.val)) (by omega)).trans ((cat1_5 _ _ _ _ _ _ _ _ (by omega)).trans
    (cast1_5 _ a b u w)))

theorem unpack_5 (X : Whole) (a : Fin 1) (b : Fin 64) (u : Fin 16) (w : Fin 64) : shapeCast S1x64x16x64 (extractStridedSlice S65536 ![139328] (shapeCast S278528 (X) shapeCasts_S272x1024_S278528) slices_S278528_S65536_139328) shapeCasts_S65536_S1x64x16x64 (ix4 a b u w) = X (ix2 (hi (139328 + (((a.val * 64 + b.val) * 16 + u.val) * 64 + w.val)) (by omega)) (lo (139328 + (((a.val * 64 + b.val) * 16 + u.val) * 64 + w.val)))) := by
  pointwise [hi, lo]
  refine congrArg X (ix2_eq ?_ ?_) <;> (dsimp only; omega)

theorem pack0_6 (c : Dev nD) (p : Fin 8) (a : Fin 1) (b : Fin 64) (u : Fin 16) (w : Fin 64) : A0 m c (ix3 p (hi (204864 + (((a.val * 64 + b.val) * 16 + u.val) * 64 + w.val)) (by omega)) (lo (204864 + (((a.val * 64 + b.val) * 16 + u.val) * 64 + w.val))))
    = m (c.tc.loc main_arg27) (ix5 p a b u w) := by
  exact (congrFun (packed0 m c) _).trans <| (flat0 _ p _ _).trans ((padded0 _ _ p (204864 + (((a.val * 64 + b.val) * 16 + u.val) * 64 + w.val)) (by omega)).trans ((cat0_6 _ _ _ _ _ _ _ p _ (by omega)).trans
    (cast0_5 _ p a b u w)))

theorem pack1_6 (c : Dev nD) (a : Fin 1) (b : Fin 64) (u : Fin 16) (w : Fin 64) : A1 m c (ix2 (hi (204864 + (((a.val * 64 + b.val) * 16 + u.val) * 64 + w.val)) (by omega)) (lo (204864 + (((a.val * 64 + b.val) * 16 + u.val) * 64 + w.val))))
    = m (c.tc.loc main_arg6) (ix4 a b u w) := by
  exact (congrFun (packed1 m c) _).trans <| (flat1 _ _ _).trans ((padded1 _ _ (204864 + (((a.val * 64 + b.val) * 16 + u.val) * 64 + w.val)) (by omega)).trans ((cat1_6 _ _ _ _ _ _ _ _ (by omega)).trans
    (cast1_5 _ a b u w)))

theorem pack2_6 (c : Dev nD) (a : Fin 1) (b : Fin 64) (u : Fin 16) (w : Fin 64) : A2 m c (ix2 (hi (204864 + (((a.val * 64 + b.val) * 16 + u.val) * 64 + w.val)) (by omega)) (lo (204864 + (((a.val * 64 + b.val) * 16 + u.val) * 64 + w.val))))
    = m (c.tc.loc main_arg13) (ix4 a b u w) := by
  exact (congrFun (packed2 m c) _).trans <| (flat1 _ _ _).trans ((padded1 _ _ (204864 + (((a.val * 64 + b.val) * 16 + u.val) * 64 + w.val)) (by omega)).trans ((cat1_6 _ _ _ _ _ _ _ _ (by omega)).trans
    (cast1_5 _ a b u w)))

theorem pack3_6 (c : Dev nD) (a : Fin 1) (b : Fin 64) (u : Fin 16) (w : Fin 64) : A3 m c (ix2 (hi (204864 + (((a.val * 64 + b.val) * 16 + u.val) * 64 + w.val)) (by omega)) (lo (204864 + (((a.val * 64 + b.val) * 16 + u.val) * 64 + w.val))))
    = m (c.tc.loc main_arg20) (ix4 a b u w) := by
  exact (congrFun (packed3 m c) _).trans <| (flat1 _ _ _).trans ((padded1 _ _ (204864 + (((a.val * 64 + b.val) * 16 + u.val) * 64 + w.val)) (by omega)).trans ((cat1_6 _ _ _ _ _ _ _ _ (by omega)).trans
    (cast1_5 _ a b u w)))

theorem unpack_6 (X : Whole) (a : Fin 1) (b : Fin 64) (u : Fin 16) (w : Fin 64) : shapeCast S1x64x16x64 (extractStridedSlice S65536 ![204864] (shapeCast S278528 (X) shapeCasts_S272x1024_S278528) slices_S278528_S65536_204864) shapeCasts_S65536_S1x64x16x64 (ix4 a b u w) = X (ix2 (hi (204864 + (((a.val * 64 + b.val) * 16 + u.val) * 64 + w.val)) (by omega)) (lo (204864 + (((a.val * 64 + b.val) * 16 + u.val) * 64 + w.val)))) := by
  pointwise [hi, lo]
  refine congrArg X (ix2_eq ?_ ?_) <;> (dsimp only; omega)

/-! ## The reference at an index -/

theorem ref_g_0 (x9 : Vec Ideal S8x1x64x64 .f32) (a : Fin 1) (b : Fin 64) (u : Fin 64) : val_main_v0 (F := Ideal) x9 (ix3 a b u)
    = x9 (ix4 0 a b u) + x9 (ix4 1 a b u) + x9 (ix4 2 a b u) + x9 (ix4 3 a b u) + x9 (ix4 4 a b u) + x9 (ix4 5 a b u) + x9 (ix4 6 a b u) + x9 (ix4 7 a b u) := by
  obtain rfl : a = 0 := Fin.eq_zero a
  pointwise [val_main_v0, val_main_cst]
  rw [Fin.sum_univ_eight]

theorem ref_m_0 (x3 : Vec Ideal S1x64x64 .f32) (x9 : Vec Ideal S8x1x64x64 .f32) (a : Fin 1) (b : Fin 64) (u : Fin 64) : val_main_v11 (F := Ideal) x3 x9 (ix3 a b u)
    = Ideal.ofBits FTy.f32 0x3F666666#32 * x3 (ix3 a b u) + Ideal.ofBits FTy.f32 0x3DCCCCCD#32 * val_main_v0 (F := Ideal) x9 (ix3 a b u) := by
  pointwise [val_main_v7, val_main_v8, val_main_v9, val_main_v10, val_main_v11, val_main_cst_6, val_main_cst_7]

theorem ref_v_0 (x6 : Vec Ideal S1x64x64 .f32) (x9 : Vec Ideal S8x1x64x64 .f32) (a : Fin 1) (b : Fin 64) (u : Fin 64) : val_main_v17 (F := Ideal) x6 x9 (ix3 a b u)
    = Ideal.ofBits FTy.f32 0x3F7FBE77#32 * x6 (ix3 a b u) + Ideal.ofBits FTy.f32 0x3A83126F#32 * (val_main_v0 (F := Ideal) x9 (ix3 a b u) * val_main_v0 (F := Ideal) x9 (ix3 a b u)) := by
  pointwise [val_main_v12, val_main_v13, val_main_v14, val_main_v15, val_main_v16, val_main_v17, val_main_cst_8, val_main_cst_9]

theorem ref_d_0 (x0 : Vec Ideal S1x64x64 .f32) (x3 : Vec Ideal S1x64x64 .f32) (x6 : Vec Ideal S1x64x64 .f32) (x9 : Vec Ideal S8x1x64x64 .f32) (a : Fin 1) (b : Fin 64) (u : Fin 64) : val_main_v30 (F := Ideal) x0 x3 x6 x9 (ix3 a b u)
    = Ideal.ofBits FTy.f32 0xBA83126F#32 * (Ideal.div (val_main_v11 (F := Ideal) x3 x9 (ix3 a b u) * ((8388608 / 5463681 : ℝ) : EReal))
        (Ideal.sqrt (val_main_v17 (F := Ideal) x6 x9 (ix3 a b u) * ((268435456 / 2672307 : ℝ) : EReal)) + Ideal.ofBits FTy.f32 0x322BCC77#32)
        + Ideal.ofBits FTy.f32 0x3C23D70A#32 * x0 (ix3 a b u)) := by
  rw [← AdamScal.scale1, ← AdamScal.scale2]
  pointwise [val_main_v18, val_main_v19, val_main_v20, val_main_v21, val_main_v22, val_main_v23, val_main_v24, val_main_v25, val_main_v26, val_main_v27, val_main_v28, val_main_v29, val_main_v30, val_main_cst_10, val_main_cst_11, val_main_cst_12, val_main_cst_13, val_main_cst_14]

theorem g_at_0 (c : Dev nD) (a : Fin 1) (b : Fin 64) (u : Fin 64) : gAll (A0 m c) (ix2 (hi (0 + ((a.val * 64 + b.val) * 64 + u.val)) (by omega)) (lo (0 + ((a.val * 64 + b.val) * 64 + u.val)))) = val_main_v0 (F := Ideal) (m (c.tc.loc main_arg21)) (ix3 a b u) := by
  rw [gAll_apply, ref_g_0]
  have e := fun p => pack0_0 m c p a b u
  rw [e 0, e 1, e 2, e 3, e 4, e 5, e 6, e 7]

theorem m_at_0 (c : Dev nD) (a : Fin 1) (b : Fin 64) (u : Fin 64) : mAll (A0 m c) (A2 m c) (ix2 (hi (0 + ((a.val * 64 + b.val) * 64 + u.val)) (by omega)) (lo (0 + ((a.val * 64 + b.val) * 64 + u.val)))) = val_main_v11 (F := Ideal) (m (c.tc.loc main_arg7)) (m (c.tc.loc main_arg21)) (ix3 a b u) := by
  rw [mAll, g_at_0, pack2_0, ref_m_0]

theorem v_at_0 (c : Dev nD) (a : Fin 1) (b : Fin 64) (u : Fin 64) : vAll (A0 m c) (A3 m c) (ix2 (hi (0 + ((a.val * 64 + b.val) * 64 + u.val)) (by omega)) (lo (0 + ((a.val * 64 + b.val) * 64 + u.val)))) = val_main_v17 (F := Ideal) (m (c.tc.loc main_arg14)) (m (c.tc.loc main_arg21)) (ix3 a b u) := by
  rw [vAll, g_at_0, pack3_0, ref_v_0]

theorem d_at_0 (c : Dev nD) (a : Fin 1) (b : Fin 64) (u : Fin 64) : dAll (A0 m c) (A1 m c) (A2 m c) (A3 m c) (ix2 (hi (0 + ((a.val * 64 + b.val) * 64 + u.val)) (by omega)) (lo (0 + ((a.val * 64 + b.val) * 64 + u.val)))) = val_main_v30 (F := Ideal) (m (c.tc.loc main_arg0)) (m (c.tc.loc main_arg7)) (m (c.tc.loc main_arg14)) (m (c.tc.loc main_arg21)) (ix3 a b u) := by
  rw [dAll, m_at_0, v_at_0, pack1_0, ref_d_0]

theorem g_res_0 (c : Dev nD) : Pipeline.afterTail₀ cfgs (dats m) 0 (V0 m) [hostOps1] c main_v43 = val_main_v0 (F := Ideal) (m (c.tc.loc main_arg21)) := by
  have e : Pipeline.afterTail₀ cfgs (dats m) 0 (V0 m) [hostOps1] c main_v43 = shapeCast S1x64x64 (extractStridedSlice S4096 ![0] (shapeCast S278528 ((dats m 0 c).arrAt 4 cfg0.N) shapeCasts_S272x1024_S278528) slices_S278528_S4096_0) shapeCasts_S4096_S1x64x64 := by
    unfold Pipeline.afterTail₀
    after_reads_simp
    rw [arr4]
    rfl
  rw [e, final4]
  funext y
  obtain ⟨a, b, u, rfl⟩ : ∃ (a : Fin 1) (b : Fin 64) (u : Fin 64), y = ix3 a b u := ⟨y 0, y 1, y 2, by blk_ext⟩
  exact (unpack_0 _ a b u).trans (g_at_0 m c a b u)

theorem d_res_0 (c : Dev nD) : Pipeline.afterTail₀ cfgs (dats m) 0 (V0 m) [hostOps1] c main_v58 = val_main_v30 (F := Ideal) (m (c.tc.loc main_arg0)) (m (c.tc.loc main_arg7)) (m (c.tc.loc main_arg14)) (m (c.tc.loc main_arg21)) := by
  have e : Pipeline.afterTail₀ cfgs (dats m) 0 (V0 m) [hostOps1] c main_v58 = shapeCast S1x64x64 (extractStridedSlice S4096 ![0] (shapeCast S278528 ((dats m 0 c).arrAt 5 cfg0.N) shapeCasts_S272x1024_S278528) slices_S278528_S4096_0) shapeCasts_S4096_S1x64x64 := by
    unfold Pipeline.afterTail₀
    after_reads_simp
    rw [arr5]
    rfl
  rw [e, final5]
  funext y
  obtain ⟨a, b, u, rfl⟩ : ∃ (a : Fin 1) (b : Fin 64) (u : Fin 64), y = ix3 a b u := ⟨y 0, y 1, y 2, by blk_ext⟩
  exact (unpack_0 _ a b u).trans (d_at_0 m c a b u)

theorem m_res_0 (c : Dev nD) : Pipeline.afterTail₀ cfgs (dats m) 0 (V0 m) [hostOps1] c main_v73 = val_main_v11 (F := Ideal) (m (c.tc.loc main_arg7)) (m (c.tc.loc main_arg21)) := by
  have e : Pipeline.afterTail₀ cfgs (dats m) 0 (V0 m) [hostOps1] c main_v73 = shapeCast S1x64x64 (extractStridedSlice S4096 ![0] (shapeCast S278528 ((dats m 0 c).arrAt 6 cfg0.N) shapeCasts_S272x1024_S278528) slices_S278528_S4096_0) shapeCasts_S4096_S1x64x64 := by
    unfold Pipeline.afterTail₀
    after_reads_simp
    rw [arr6]
    rfl
  rw [e, final6]
  funext y
  obtain ⟨a, b, u, rfl⟩ : ∃ (a : Fin 1) (b : Fin 64) (u : Fin 64), y = ix3 a b u := ⟨y 0, y 1, y 2, by blk_ext⟩
  exact (unpack_0 _ a b u).trans (m_at_0 m c a b u)

theorem v_res_0 (c : Dev nD) : Pipeline.afterTail₀ cfgs (dats m) 0 (V0 m) [hostOps1] c main_v88 = val_main_v17 (F := Ideal) (m (c.tc.loc main_arg14)) (m (c.tc.loc main_arg21)) := by
  have e : Pipeline.afterTail₀ cfgs (dats m) 0 (V0 m) [hostOps1] c main_v88 = shapeCast S1x64x64 (extractStridedSlice S4096 ![0] (shapeCast S278528 ((dats m 0 c).arrAt 7 cfg0.N) shapeCasts_S272x1024_S278528) slices_S278528_S4096_0) shapeCasts_S4096_S1x64x64 := by
    unfold Pipeline.afterTail₀
    after_reads_simp
    rw [arr7]
    rfl
  rw [e, final7]
  funext y
  obtain ⟨a, b, u, rfl⟩ : ∃ (a : Fin 1) (b : Fin 64) (u : Fin 64), y = ix3 a b u := ⟨y 0, y 1, y 2, by blk_ext⟩
  exact (unpack_0 _ a b u).trans (v_at_0 m c a b u)

theorem ref_g_1 (x9 : Vec Ideal S8x1x64x64 .f32) (a : Fin 1) (b : Fin 64) (u : Fin 64) : val_main_v1 (F := Ideal) x9 (ix3 a b u)
    = x9 (ix4 0 a b u) + x9 (ix4 1 a b u) + x9 (ix4 2 a b u) + x9 (ix4 3 a b u) + x9 (ix4 4 a b u) + x9 (ix4 5 a b u) + x9 (ix4 6 a b u) + x9 (ix4 7 a b u) := by
  obtain rfl : a = 0 := Fin.eq_zero a
  pointwise [val_main_v1, val_main_cst_0]
  rw [Fin.sum_univ_eight]

theorem ref_m_1 (x3 : Vec Ideal S1x64x64 .f32) (x9 : Vec Ideal S8x1x64x64 .f32) (a : Fin 1) (b : Fin 64) (u : Fin 64) : val_main_v35 (F := Ideal) x3 x9 (ix3 a b u)
    = Ideal.ofBits FTy.f32 0x3F666666#32 * x3 (ix3 a b u) + Ideal.ofBits FTy.f32 0x3DCCCCCD#32 * val_main_v1 (F := Ideal) x9 (ix3 a b u) := by
  pointwise [val_main_v31, val_main_v32, val_main_v33, val_main_v34, val_main_v35, val_main_cst_15, val_main_cst_16]

theorem ref_v_1 (x6 : Vec Ideal S1x64x64 .f32) (x9 : Vec Ideal S8x1x64x64 .f32) (a : Fin 1) (b : Fin 64) (u : Fin 64) : val_main_v41 (F := Ideal) x6 x9 (ix3 a b u)
    = Ideal.ofBits FTy.f32 0x3F7FBE77#32 * x6 (ix3 a b u) + Ideal.ofBits FTy.f32 0x3A83126F#32 * (val_main_v1 (F := Ideal) x9 (ix3 a b u) * val_main_v1 (F := Ideal) x9 (ix3 a b u)) := by
  pointwise [val_main_v36, val_main_v37, val_main_v38, val_main_v39, val_main_v40, val_main_v41, val_main_cst_17, val_main_cst_18]

theorem ref_d_1 (x0 : Vec Ideal S1x64x64 .f32) (x3 : Vec Ideal S1x64x64 .f32) (x6 : Vec Ideal S1x64x64 .f32) (x9 : Vec Ideal S8x1x64x64 .f32) (a : Fin 1) (b : Fin 64) (u : Fin 64) : val_main_v54 (F := Ideal) x0 x3 x6 x9 (ix3 a b u)
    = Ideal.ofBits FTy.f32 0xBA83126F#32 * (Ideal.div (val_main_v35 (F := Ideal) x3 x9 (ix3 a b u) * ((8388608 / 5463681 : ℝ) : EReal))
        (Ideal.sqrt (val_main_v41 (F := Ideal) x6 x9 (ix3 a b u) * ((268435456 / 2672307 : ℝ) : EReal)) + Ideal.ofBits FTy.f32 0x322BCC77#32)
        + Ideal.ofBits FTy.f32 0x3C23D70A#32 * x0 (ix3 a b u)) := by
  rw [← AdamScal.scale1, ← AdamScal.scale2]
  pointwise [val_main_v42, val_main_v43, val_main_v44, val_main_v45, val_main_v46, val_main_v47, val_main_v48, val_main_v49, val_main_v50, val_main_v51, val_main_v52, val_main_v53, val_main_v54, val_main_cst_19, val_main_cst_20, val_main_cst_21, val_main_cst_22, val_main_cst_23]

theorem g_at_1 (c : Dev nD) (a : Fin 1) (b : Fin 64) (u : Fin 64) : gAll (A0 m c) (ix2 (hi (4096 + ((a.val * 64 + b.val) * 64 + u.val)) (by omega)) (lo (4096 + ((a.val * 64 + b.val) * 64 + u.val)))) = val_main_v1 (F := Ideal) (m (c.tc.loc main_arg22)) (ix3 a b u) := by
  rw [gAll_apply, ref_g_1]
  have e := fun p => pack0_1 m c p a b u
  rw [e 0, e 1, e 2, e 3, e 4, e 5, e 6, e 7]

theorem m_at_1 (c : Dev nD) (a : Fin 1) (b : Fin 64) (u : Fin 64) : mAll (A0 m c) (A2 m c) (ix2 (hi (4096 + ((a.val * 64 + b.val) * 64 + u.val)) (by omega)) (lo (4096 + ((a.val * 64 + b.val) * 64 + u.val)))) = val_main_v35 (F := Ideal) (m (c.tc.loc main_arg8)) (m (c.tc.loc main_arg22)) (ix3 a b u) := by
  rw [mAll, g_at_1, pack2_1, ref_m_1]

theorem v_at_1 (c : Dev nD) (a : Fin 1) (b : Fin 64) (u : Fin 64) : vAll (A0 m c) (A3 m c) (ix2 (hi (4096 + ((a.val * 64 + b.val) * 64 + u.val)) (by omega)) (lo (4096 + ((a.val * 64 + b.val) * 64 + u.val)))) = val_main_v41 (F := Ideal) (m (c.tc.loc main_arg15)) (m (c.tc.loc main_arg22)) (ix3 a b u) := by
  rw [vAll, g_at_1, pack3_1, ref_v_1]

theorem d_at_1 (c : Dev nD) (a : Fin 1) (b : Fin 64) (u : Fin 64) : dAll (A0 m c) (A1 m c) (A2 m c) (A3 m c) (ix2 (hi (4096 + ((a.val * 64 + b.val) * 64 + u.val)) (by omega)) (lo (4096 + ((a.val * 64 + b.val) * 64 + u.val)))) = val_main_v54 (F := Ideal) (m (c.tc.loc main_arg1)) (m (c.tc.loc main_arg8)) (m (c.tc.loc main_arg15)) (m (c.tc.loc main_arg22)) (ix3 a b u) := by
  rw [dAll, m_at_1, v_at_1, pack1_1, ref_d_1]

theorem g_res_1 (c : Dev nD) : Pipeline.afterTail₀ cfgs (dats m) 0 (V0 m) [hostOps1] c main_v45 = val_main_v1 (F := Ideal) (m (c.tc.loc main_arg22)) := by
  have e : Pipeline.afterTail₀ cfgs (dats m) 0 (V0 m) [hostOps1] c main_v45 = shapeCast S1x64x64 (extractStridedSlice S4096 ![4096] (shapeCast S278528 ((dats m 0 c).arrAt 4 cfg0.N) shapeCasts_S272x1024_S278528) slices_S278528_S4096_4096) shapeCasts_S4096_S1x64x64 := by
    unfold Pipeline.afterTail₀
    after_reads_simp
    rw [arr4]
    rfl
  rw [e, final4]
  funext y
  obtain ⟨a, b, u, rfl⟩ : ∃ (a : Fin 1) (b : Fin 64) (u : Fin 64), y = ix3 a b u := ⟨y 0, y 1, y 2, by blk_ext⟩
  exact (unpack_1 _ a b u).trans (g_at_1 m c a b u)

theorem d_res_1 (c : Dev nD) : Pipeline.afterTail₀ cfgs (dats m) 0 (V0 m) [hostOps1] c main_v60 = val_main_v54 (F := Ideal) (m (c.tc.loc main_arg1)) (m (c.tc.loc main_arg8)) (m (c.tc.loc main_arg15)) (m (c.tc.loc main_arg22)) := by
  have e : Pipeline.afterTail₀ cfgs (dats m) 0 (V0 m) [hostOps1] c main_v60 = shapeCast S1x64x64 (extractStridedSlice S4096 ![4096] (shapeCast S278528 ((dats m 0 c).arrAt 5 cfg0.N) shapeCasts_S272x1024_S278528) slices_S278528_S4096_4096) shapeCasts_S4096_S1x64x64 := by
    unfold Pipeline.afterTail₀
    after_reads_simp
    rw [arr5]
    rfl
  rw [e, final5]
  funext y
  obtain ⟨a, b, u, rfl⟩ : ∃ (a : Fin 1) (b : Fin 64) (u : Fin 64), y = ix3 a b u := ⟨y 0, y 1, y 2, by blk_ext⟩
  exact (unpack_1 _ a b u).trans (d_at_1 m c a b u)

theorem m_res_1 (c : Dev nD) : Pipeline.afterTail₀ cfgs (dats m) 0 (V0 m) [hostOps1] c main_v75 = val_main_v35 (F := Ideal) (m (c.tc.loc main_arg8)) (m (c.tc.loc main_arg22)) := by
  have e : Pipeline.afterTail₀ cfgs (dats m) 0 (V0 m) [hostOps1] c main_v75 = shapeCast S1x64x64 (extractStridedSlice S4096 ![4096] (shapeCast S278528 ((dats m 0 c).arrAt 6 cfg0.N) shapeCasts_S272x1024_S278528) slices_S278528_S4096_4096) shapeCasts_S4096_S1x64x64 := by
    unfold Pipeline.afterTail₀
    after_reads_simp
    rw [arr6]
    rfl
  rw [e, final6]
  funext y
  obtain ⟨a, b, u, rfl⟩ : ∃ (a : Fin 1) (b : Fin 64) (u : Fin 64), y = ix3 a b u := ⟨y 0, y 1, y 2, by blk_ext⟩
  exact (unpack_1 _ a b u).trans (m_at_1 m c a b u)

theorem v_res_1 (c : Dev nD) : Pipeline.afterTail₀ cfgs (dats m) 0 (V0 m) [hostOps1] c main_v90 = val_main_v41 (F := Ideal) (m (c.tc.loc main_arg15)) (m (c.tc.loc main_arg22)) := by
  have e : Pipeline.afterTail₀ cfgs (dats m) 0 (V0 m) [hostOps1] c main_v90 = shapeCast S1x64x64 (extractStridedSlice S4096 ![4096] (shapeCast S278528 ((dats m 0 c).arrAt 7 cfg0.N) shapeCasts_S272x1024_S278528) slices_S278528_S4096_4096) shapeCasts_S4096_S1x64x64 := by
    unfold Pipeline.afterTail₀
    after_reads_simp
    rw [arr7]
    rfl
  rw [e, final7]
  funext y
  obtain ⟨a, b, u, rfl⟩ : ∃ (a : Fin 1) (b : Fin 64) (u : Fin 64), y = ix3 a b u := ⟨y 0, y 1, y 2, by blk_ext⟩
  exact (unpack_1 _ a b u).trans (v_at_1 m c a b u)

theorem ref_g_2 (x9 : Vec Ideal S8x1x64 .f32) (a : Fin 1) (b : Fin 64) : val_main_v2 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  obtain rfl : a = 0 := Fin.eq_zero a
  pointwise [val_main_v2, val_main_cst_1]
  rw [Fin.sum_univ_eight]

theorem ref_m_2 (x3 : Vec Ideal S1x64 .f32) (x9 : Vec Ideal S8x1x64 .f32) (a : Fin 1) (b : Fin 64) : val_main_v59 (F := Ideal) x3 x9 (ix2 a b)
    = Ideal.ofBits FTy.f32 0x3F666666#32 * x3 (ix2 a b) + Ideal.ofBits FTy.f32 0x3DCCCCCD#32 * val_main_v2 (F := Ideal) x9 (ix2 a b) := by
  pointwise [val_main_v55, val_main_v56, val_main_v57, val_main_v58, val_main_v59, val_main_cst_24, val_main_cst_25]

theorem ref_v_2 (x6 : Vec Ideal S1x64 .f32) (x9 : Vec Ideal S8x1x64 .f32) (a : Fin 1) (b : Fin 64) : val_main_v65 (F := Ideal) x6 x9 (ix2 a b)
    = Ideal.ofBits FTy.f32 0x3F7FBE77#32 * x6 (ix2 a b) + Ideal.ofBits FTy.f32 0x3A83126F#32 * (val_main_v2 (F := Ideal) x9 (ix2 a b) * val_main_v2 (F := Ideal) x9 (ix2 a b)) := by
  pointwise [val_main_v60, val_main_v61, val_main_v62, val_main_v63, val_main_v64, val_main_v65, val_main_cst_26, val_main_cst_27]

theorem ref_d_2 (x0 : Vec Ideal S1x64 .f32) (x3 : Vec Ideal S1x64 .f32) (x6 : Vec Ideal S1x64 .f32) (x9 : Vec Ideal S8x1x64 .f32) (a : Fin 1) (b : Fin 64) : val_main_v78 (F := Ideal) x0 x3 x6 x9 (ix2 a b)
    = Ideal.ofBits FTy.f32 0xBA83126F#32 * (Ideal.div (val_main_v59 (F := Ideal) x3 x9 (ix2 a b) * ((8388608 / 5463681 : ℝ) : EReal))
        (Ideal.sqrt (val_main_v65 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v66, val_main_v67, val_main_v68, val_main_v69, val_main_v70, val_main_v71, val_main_v72, val_main_v73, val_main_v74, val_main_v75, val_main_v76, val_main_v77, val_main_v78, val_main_cst_28, val_main_cst_29, val_main_cst_30, val_main_cst_31, val_main_cst_32]

theorem g_at_2 (c : Dev nD) (a : Fin 1) (b : Fin 64) : gAll (A0 m c) (ix2 (hi (8192 + (a.val * 64 + b.val)) (by omega)) (lo (8192 + (a.val * 64 + b.val)))) = val_main_v2 (F := Ideal) (m (c.tc.loc main_arg23)) (ix2 a b) := by
  rw [gAll_apply, ref_g_2]
  have e := fun p => pack0_2 m c p a b
  rw [e 0, e 1, e 2, e 3, e 4, e 5, e 6, e 7]

theorem m_at_2 (c : Dev nD) (a : Fin 1) (b : Fin 64) : mAll (A0 m c) (A2 m c) (ix2 (hi (8192 + (a.val * 64 + b.val)) (by omega)) (lo (8192 + (a.val * 64 + b.val)))) = val_main_v59 (F := Ideal) (m (c.tc.loc main_arg9)) (m (c.tc.loc main_arg23)) (ix2 a b) := by
  rw [mAll, g_at_2, pack2_2, ref_m_2]

theorem v_at_2 (c : Dev nD) (a : Fin 1) (b : Fin 64) : vAll (A0 m c) (A3 m c) (ix2 (hi (8192 + (a.val * 64 + b.val)) (by omega)) (lo (8192 + (a.val * 64 + b.val)))) = val_main_v65 (F := Ideal) (m (c.tc.loc main_arg16)) (m (c.tc.loc main_arg23)) (ix2 a b) := by
  rw [vAll, g_at_2, pack3_2, ref_v_2]

theorem d_at_2 (c : Dev nD) (a : Fin 1) (b : Fin 64) : dAll (A0 m c) (A1 m c) (A2 m c) (A3 m c) (ix2 (hi (8192 + (a.val * 64 + b.val)) (by omega)) (lo (8192 + (a.val * 64 + b.val)))) = val_main_v78 (F := Ideal) (m (c.tc.loc main_arg2)) (m (c.tc.loc main_arg9)) (m (c.tc.loc main_arg16)) (m (c.tc.loc main_arg23)) (ix2 a b) := by
  rw [dAll, m_at_2, v_at_2, pack1_2, ref_d_2]

theorem g_res_2 (c : Dev nD) : Pipeline.afterTail₀ cfgs (dats m) 0 (V0 m) [hostOps1] c main_v47 = val_main_v2 (F := Ideal) (m (c.tc.loc main_arg23)) := by
  have e : Pipeline.afterTail₀ cfgs (dats m) 0 (V0 m) [hostOps1] c main_v47 = shapeCast S1x64 (extractStridedSlice S64 ![8192] (shapeCast S278528 ((dats m 0 c).arrAt 4 cfg0.N) shapeCasts_S272x1024_S278528) slices_S278528_S64_8192) shapeCasts_S64_S1x64 := by
    unfold Pipeline.afterTail₀
    after_reads_simp
    rw [arr4]
    rfl
  rw [e, final4]
  funext y
  obtain ⟨a, b, rfl⟩ : ∃ (a : Fin 1) (b : Fin 64), y = ix2 a b := ⟨y 0, y 1, by blk_ext⟩
  exact (unpack_2 _ a b).trans (g_at_2 m c a b)

theorem d_res_2 (c : Dev nD) : Pipeline.afterTail₀ cfgs (dats m) 0 (V0 m) [hostOps1] c main_v62 = val_main_v78 (F := Ideal) (m (c.tc.loc main_arg2)) (m (c.tc.loc main_arg9)) (m (c.tc.loc main_arg16)) (m (c.tc.loc main_arg23)) := by
  have e : Pipeline.afterTail₀ cfgs (dats m) 0 (V0 m) [hostOps1] c main_v62 = shapeCast S1x64 (extractStridedSlice S64 ![8192] (shapeCast S278528 ((dats m 0 c).arrAt 5 cfg0.N) shapeCasts_S272x1024_S278528) slices_S278528_S64_8192) shapeCasts_S64_S1x64 := by
    unfold Pipeline.afterTail₀
    after_reads_simp
    rw [arr5]
    rfl
  rw [e, final5]
  funext y
  obtain ⟨a, b, rfl⟩ : ∃ (a : Fin 1) (b : Fin 64), y = ix2 a b := ⟨y 0, y 1, by blk_ext⟩
  exact (unpack_2 _ a b).trans (d_at_2 m c a b)

theorem m_res_2 (c : Dev nD) : Pipeline.afterTail₀ cfgs (dats m) 0 (V0 m) [hostOps1] c main_v77 = val_main_v59 (F := Ideal) (m (c.tc.loc main_arg9)) (m (c.tc.loc main_arg23)) := by
  have e : Pipeline.afterTail₀ cfgs (dats m) 0 (V0 m) [hostOps1] c main_v77 = shapeCast S1x64 (extractStridedSlice S64 ![8192] (shapeCast S278528 ((dats m 0 c).arrAt 6 cfg0.N) shapeCasts_S272x1024_S278528) slices_S278528_S64_8192) shapeCasts_S64_S1x64 := by
    unfold Pipeline.afterTail₀
    after_reads_simp
    rw [arr6]
    rfl
  rw [e, final6]
  funext y
  obtain ⟨a, b, rfl⟩ : ∃ (a : Fin 1) (b : Fin 64), y = ix2 a b := ⟨y 0, y 1, by blk_ext⟩
  exact (unpack_2 _ a b).trans (m_at_2 m c a b)

theorem v_res_2 (c : Dev nD) : Pipeline.afterTail₀ cfgs (dats m) 0 (V0 m) [hostOps1] c main_v92 = val_main_v65 (F := Ideal) (m (c.tc.loc main_arg16)) (m (c.tc.loc main_arg23)) := by
  have e : Pipeline.afterTail₀ cfgs (dats m) 0 (V0 m) [hostOps1] c main_v92 = shapeCast S1x64 (extractStridedSlice S64 ![8192] (shapeCast S278528 ((dats m 0 c).arrAt 7 cfg0.N) shapeCasts_S272x1024_S278528) slices_S278528_S64_8192) shapeCasts_S64_S1x64 := by
    unfold Pipeline.afterTail₀
    after_reads_simp
    rw [arr7]
    rfl
  rw [e, final7]
  funext y
  obtain ⟨a, b, rfl⟩ : ∃ (a : Fin 1) (b : Fin 64), y = ix2 a b := ⟨y 0, y 1, by blk_ext⟩
  exact (unpack_2 _ a b).trans (v_at_2 m c a b)

theorem ref_g_3 (x9 : Vec Ideal S8x1x64x64x16 .f32) (a : Fin 1) (b : Fin 64) (u : Fin 64) (w : Fin 16) : val_main_v3 (F := Ideal) x9 (ix4 a b u w)
    = x9 (ix5 0 a b u w) + x9 (ix5 1 a b u w) + x9 (ix5 2 a b u w) + x9 (ix5 3 a b u w) + x9 (ix5 4 a b u w) + x9 (ix5 5 a b u w) + x9 (ix5 6 a b u w) + x9 (ix5 7 a b u w) := by
  obtain rfl : a = 0 := Fin.eq_zero a
  pointwise [val_main_v3, val_main_cst_2]
  rw [Fin.sum_univ_eight]

theorem ref_m_3 (x3 : Vec Ideal S1x64x64x16 .f32) (x9 : Vec Ideal S8x1x64x64x16 .f32) (a : Fin 1) (b : Fin 64) (u : Fin 64) (w : Fin 16) : val_main_v83 (F := Ideal) x3 x9 (ix4 a b u w)
    = Ideal.ofBits FTy.f32 0x3F666666#32 * x3 (ix4 a b u w) + Ideal.ofBits FTy.f32 0x3DCCCCCD#32 * val_main_v3 (F := Ideal) x9 (ix4 a b u w) := by
  pointwise [val_main_v79, val_main_v80, val_main_v81, val_main_v82, val_main_v83, val_main_cst_33, val_main_cst_34]

theorem ref_v_3 (x6 : Vec Ideal S1x64x64x16 .f32) (x9 : Vec Ideal S8x1x64x64x16 .f32) (a : Fin 1) (b : Fin 64) (u : Fin 64) (w : Fin 16) : val_main_v89 (F := Ideal) x6 x9 (ix4 a b u w)
    = Ideal.ofBits FTy.f32 0x3F7FBE77#32 * x6 (ix4 a b u w) + Ideal.ofBits FTy.f32 0x3A83126F#32 * (val_main_v3 (F := Ideal) x9 (ix4 a b u w) * val_main_v3 (F := Ideal) x9 (ix4 a b u w)) := by
  pointwise [val_main_v84, val_main_v85, val_main_v86, val_main_v87, val_main_v88, val_main_v89, val_main_cst_35, val_main_cst_36]

theorem ref_d_3 (x0 : Vec Ideal S1x64x64x16 .f32) (x3 : Vec Ideal S1x64x64x16 .f32) (x6 : Vec Ideal S1x64x64x16 .f32) (x9 : Vec Ideal S8x1x64x64x16 .f32) (a : Fin 1) (b : Fin 64) (u : Fin 64) (w : Fin 16) : val_main_v102 (F := Ideal) x0 x3 x6 x9 (ix4 a b u w)
    = Ideal.ofBits FTy.f32 0xBA83126F#32 * (Ideal.div (val_main_v83 (F := Ideal) x3 x9 (ix4 a b u w) * ((8388608 / 5463681 : ℝ) : EReal))
        (Ideal.sqrt (val_main_v89 (F := Ideal) x6 x9 (ix4 a b u w) * ((268435456 / 2672307 : ℝ) : EReal)) + Ideal.ofBits FTy.f32 0x322BCC77#32)
        + Ideal.ofBits FTy.f32 0x3C23D70A#32 * x0 (ix4 a b u w)) := by
  rw [← AdamScal.scale1, ← AdamScal.scale2]
  pointwise [val_main_v90, val_main_v91, val_main_v92, val_main_v93, val_main_v94, val_main_v95, val_main_v96, val_main_v97, val_main_v98, val_main_v99, val_main_v100, val_main_v101, val_main_v102, val_main_cst_37, val_main_cst_38, val_main_cst_39, val_main_cst_40, val_main_cst_41]

theorem g_at_3 (c : Dev nD) (a : Fin 1) (b : Fin 64) (u : Fin 64) (w : Fin 16) : gAll (A0 m c) (ix2 (hi (8256 + (((a.val * 64 + b.val) * 64 + u.val) * 16 + w.val)) (by omega)) (lo (8256 + (((a.val * 64 + b.val) * 64 + u.val) * 16 + w.val)))) = val_main_v3 (F := Ideal) (m (c.tc.loc main_arg24)) (ix4 a b u w) := by
  rw [gAll_apply, ref_g_3]
  have e := fun p => pack0_3 m c p a b u w
  rw [e 0, e 1, e 2, e 3, e 4, e 5, e 6, e 7]

theorem m_at_3 (c : Dev nD) (a : Fin 1) (b : Fin 64) (u : Fin 64) (w : Fin 16) : mAll (A0 m c) (A2 m c) (ix2 (hi (8256 + (((a.val * 64 + b.val) * 64 + u.val) * 16 + w.val)) (by omega)) (lo (8256 + (((a.val * 64 + b.val) * 64 + u.val) * 16 + w.val)))) = val_main_v83 (F := Ideal) (m (c.tc.loc main_arg10)) (m (c.tc.loc main_arg24)) (ix4 a b u w) := by
  rw [mAll, g_at_3, pack2_3, ref_m_3]

theorem v_at_3 (c : Dev nD) (a : Fin 1) (b : Fin 64) (u : Fin 64) (w : Fin 16) : vAll (A0 m c) (A3 m c) (ix2 (hi (8256 + (((a.val * 64 + b.val) * 64 + u.val) * 16 + w.val)) (by omega)) (lo (8256 + (((a.val * 64 + b.val) * 64 + u.val) * 16 + w.val)))) = val_main_v89 (F := Ideal) (m (c.tc.loc main_arg17)) (m (c.tc.loc main_arg24)) (ix4 a b u w) := by
  rw [vAll, g_at_3, pack3_3, ref_v_3]

theorem d_at_3 (c : Dev nD) (a : Fin 1) (b : Fin 64) (u : Fin 64) (w : Fin 16) : dAll (A0 m c) (A1 m c) (A2 m c) (A3 m c) (ix2 (hi (8256 + (((a.val * 64 + b.val) * 64 + u.val) * 16 + w.val)) (by omega)) (lo (8256 + (((a.val * 64 + b.val) * 64 + u.val) * 16 + w.val)))) = val_main_v102 (F := Ideal) (m (c.tc.loc main_arg3)) (m (c.tc.loc main_arg10)) (m (c.tc.loc main_arg17)) (m (c.tc.loc main_arg24)) (ix4 a b u w) := by
  rw [dAll, m_at_3, v_at_3, pack1_3, ref_d_3]

theorem g_res_3 (c : Dev nD) : Pipeline.afterTail₀ cfgs (dats m) 0 (V0 m) [hostOps1] c main_v49 = val_main_v3 (F := Ideal) (m (c.tc.loc main_arg24)) := by
  have e : Pipeline.afterTail₀ cfgs (dats m) 0 (V0 m) [hostOps1] c main_v49 = shapeCast S1x64x64x16 (extractStridedSlice S65536 ![8256] (shapeCast S278528 ((dats m 0 c).arrAt 4 cfg0.N) shapeCasts_S272x1024_S278528) slices_S278528_S65536_8256) shapeCasts_S65536_S1x64x64x16 := by
    unfold Pipeline.afterTail₀
    after_reads_simp
    rw [arr4]
    rfl
  rw [e, final4]
  funext y
  obtain ⟨a, b, u, w, rfl⟩ : ∃ (a : Fin 1) (b : Fin 64) (u : Fin 64) (w : Fin 16), y = ix4 a b u w := ⟨y 0, y 1, y 2, y 3, by blk_ext⟩
  exact (unpack_3 _ a b u w).trans (g_at_3 m c a b u w)

theorem d_res_3 (c : Dev nD) : Pipeline.afterTail₀ cfgs (dats m) 0 (V0 m) [hostOps1] c main_v64 = val_main_v102 (F := Ideal) (m (c.tc.loc main_arg3)) (m (c.tc.loc main_arg10)) (m (c.tc.loc main_arg17)) (m (c.tc.loc main_arg24)) := by
  have e : Pipeline.afterTail₀ cfgs (dats m) 0 (V0 m) [hostOps1] c main_v64 = shapeCast S1x64x64x16 (extractStridedSlice S65536 ![8256] (shapeCast S278528 ((dats m 0 c).arrAt 5 cfg0.N) shapeCasts_S272x1024_S278528) slices_S278528_S65536_8256) shapeCasts_S65536_S1x64x64x16 := by
    unfold Pipeline.afterTail₀
    after_reads_simp
    rw [arr5]
    rfl
  rw [e, final5]
  funext y
  obtain ⟨a, b, u, w, rfl⟩ : ∃ (a : Fin 1) (b : Fin 64) (u : Fin 64) (w : Fin 16), y = ix4 a b u w := ⟨y 0, y 1, y 2, y 3, by blk_ext⟩
  exact (unpack_3 _ a b u w).trans (d_at_3 m c a b u w)

theorem m_res_3 (c : Dev nD) : Pipeline.afterTail₀ cfgs (dats m) 0 (V0 m) [hostOps1] c main_v79 = val_main_v83 (F := Ideal) (m (c.tc.loc main_arg10)) (m (c.tc.loc main_arg24)) := by
  have e : Pipeline.afterTail₀ cfgs (dats m) 0 (V0 m) [hostOps1] c main_v79 = shapeCast S1x64x64x16 (extractStridedSlice S65536 ![8256] (shapeCast S278528 ((dats m 0 c).arrAt 6 cfg0.N) shapeCasts_S272x1024_S278528) slices_S278528_S65536_8256) shapeCasts_S65536_S1x64x64x16 := by
    unfold Pipeline.afterTail₀
    after_reads_simp
    rw [arr6]
    rfl
  rw [e, final6]
  funext y
  obtain ⟨a, b, u, w, rfl⟩ : ∃ (a : Fin 1) (b : Fin 64) (u : Fin 64) (w : Fin 16), y = ix4 a b u w := ⟨y 0, y 1, y 2, y 3, by blk_ext⟩
  exact (unpack_3 _ a b u w).trans (m_at_3 m c a b u w)

theorem v_res_3 (c : Dev nD) : Pipeline.afterTail₀ cfgs (dats m) 0 (V0 m) [hostOps1] c main_v94 = val_main_v89 (F := Ideal) (m (c.tc.loc main_arg17)) (m (c.tc.loc main_arg24)) := by
  have e : Pipeline.afterTail₀ cfgs (dats m) 0 (V0 m) [hostOps1] c main_v94 = shapeCast S1x64x64x16 (extractStridedSlice S65536 ![8256] (shapeCast S278528 ((dats m 0 c).arrAt 7 cfg0.N) shapeCasts_S272x1024_S278528) slices_S278528_S65536_8256) shapeCasts_S65536_S1x64x64x16 := by
    unfold Pipeline.afterTail₀
    after_reads_simp
    rw [arr7]
    rfl
  rw [e, final7]
  funext y
  obtain ⟨a, b, u, w, rfl⟩ : ∃ (a : Fin 1) (b : Fin 64) (u : Fin 64) (w : Fin 16), y = ix4 a b u w := ⟨y 0, y 1, y 2, y 3, by blk_ext⟩
  exact (unpack_3 _ a b u w).trans (v_at_3 m c a b u w)

theorem ref_g_4 (x9 : Vec Ideal S8x1x64x64x16 .f32) (a : Fin 1) (b : Fin 64) (u : Fin 64) (w : Fin 16) : val_main_v4 (F := Ideal) x9 (ix4 a b u w)
    = x9 (ix5 0 a b u w) + x9 (ix5 1 a b u w) + x9 (ix5 2 a b u w) + x9 (ix5 3 a b u w) + x9 (ix5 4 a b u w) + x9 (ix5 5 a b u w) + x9 (ix5 6 a b u w) + x9 (ix5 7 a b u w) := by
  obtain rfl : a = 0 := Fin.eq_zero a
  pointwise [val_main_v4, val_main_cst_3]
  rw [Fin.sum_univ_eight]

theorem ref_m_4 (x3 : Vec Ideal S1x64x64x16 .f32) (x9 : Vec Ideal S8x1x64x64x16 .f32) (a : Fin 1) (b : Fin 64) (u : Fin 64) (w : Fin 16) : val_main_v107 (F := Ideal) x3 x9 (ix4 a b u w)
    = Ideal.ofBits FTy.f32 0x3F666666#32 * x3 (ix4 a b u w) + Ideal.ofBits FTy.f32 0x3DCCCCCD#32 * val_main_v4 (F := Ideal) x9 (ix4 a b u w) := by
  pointwise [val_main_v103, val_main_v104, val_main_v105, val_main_v106, val_main_v107, val_main_cst_42, val_main_cst_43]

theorem ref_v_4 (x6 : Vec Ideal S1x64x64x16 .f32) (x9 : Vec Ideal S8x1x64x64x16 .f32) (a : Fin 1) (b : Fin 64) (u : Fin 64) (w : Fin 16) : val_main_v113 (F := Ideal) x6 x9 (ix4 a b u w)
    = Ideal.ofBits FTy.f32 0x3F7FBE77#32 * x6 (ix4 a b u w) + Ideal.ofBits FTy.f32 0x3A83126F#32 * (val_main_v4 (F := Ideal) x9 (ix4 a b u w) * val_main_v4 (F := Ideal) x9 (ix4 a b u w)) := by
  pointwise [val_main_v108, val_main_v109, val_main_v110, val_main_v111, val_main_v112, val_main_v113, val_main_cst_44, val_main_cst_45]

theorem ref_d_4 (x0 : Vec Ideal S1x64x64x16 .f32) (x3 : Vec Ideal S1x64x64x16 .f32) (x6 : Vec Ideal S1x64x64x16 .f32) (x9 : Vec Ideal S8x1x64x64x16 .f32) (a : Fin 1) (b : Fin 64) (u : Fin 64) (w : Fin 16) : val_main_v126 (F := Ideal) x0 x3 x6 x9 (ix4 a b u w)
    = Ideal.ofBits FTy.f32 0xBA83126F#32 * (Ideal.div (val_main_v107 (F := Ideal) x3 x9 (ix4 a b u w) * ((8388608 / 5463681 : ℝ) : EReal))
        (Ideal.sqrt (val_main_v113 (F := Ideal) x6 x9 (ix4 a b u w) * ((268435456 / 2672307 : ℝ) : EReal)) + Ideal.ofBits FTy.f32 0x322BCC77#32)
        + Ideal.ofBits FTy.f32 0x3C23D70A#32 * x0 (ix4 a b u w)) := by
  rw [← AdamScal.scale1, ← AdamScal.scale2]
  pointwise [val_main_v114, val_main_v115, val_main_v116, val_main_v117, val_main_v118, val_main_v119, val_main_v120, val_main_v121, val_main_v122, val_main_v123, val_main_v124, val_main_v125, val_main_v126, val_main_cst_46, val_main_cst_47, val_main_cst_48, val_main_cst_49, val_main_cst_50]

theorem g_at_4 (c : Dev nD) (a : Fin 1) (b : Fin 64) (u : Fin 64) (w : Fin 16) : gAll (A0 m c) (ix2 (hi (73792 + (((a.val * 64 + b.val) * 64 + u.val) * 16 + w.val)) (by omega)) (lo (73792 + (((a.val * 64 + b.val) * 64 + u.val) * 16 + w.val)))) = val_main_v4 (F := Ideal) (m (c.tc.loc main_arg25)) (ix4 a b u w) := by
  rw [gAll_apply, ref_g_4]
  have e := fun p => pack0_4 m c p a b u w
  rw [e 0, e 1, e 2, e 3, e 4, e 5, e 6, e 7]

theorem m_at_4 (c : Dev nD) (a : Fin 1) (b : Fin 64) (u : Fin 64) (w : Fin 16) : mAll (A0 m c) (A2 m c) (ix2 (hi (73792 + (((a.val * 64 + b.val) * 64 + u.val) * 16 + w.val)) (by omega)) (lo (73792 + (((a.val * 64 + b.val) * 64 + u.val) * 16 + w.val)))) = val_main_v107 (F := Ideal) (m (c.tc.loc main_arg11)) (m (c.tc.loc main_arg25)) (ix4 a b u w) := by
  rw [mAll, g_at_4, pack2_4, ref_m_4]

theorem v_at_4 (c : Dev nD) (a : Fin 1) (b : Fin 64) (u : Fin 64) (w : Fin 16) : vAll (A0 m c) (A3 m c) (ix2 (hi (73792 + (((a.val * 64 + b.val) * 64 + u.val) * 16 + w.val)) (by omega)) (lo (73792 + (((a.val * 64 + b.val) * 64 + u.val) * 16 + w.val)))) = val_main_v113 (F := Ideal) (m (c.tc.loc main_arg18)) (m (c.tc.loc main_arg25)) (ix4 a b u w) := by
  rw [vAll, g_at_4, pack3_4, ref_v_4]

theorem d_at_4 (c : Dev nD) (a : Fin 1) (b : Fin 64) (u : Fin 64) (w : Fin 16) : dAll (A0 m c) (A1 m c) (A2 m c) (A3 m c) (ix2 (hi (73792 + (((a.val * 64 + b.val) * 64 + u.val) * 16 + w.val)) (by omega)) (lo (73792 + (((a.val * 64 + b.val) * 64 + u.val) * 16 + w.val)))) = val_main_v126 (F := Ideal) (m (c.tc.loc main_arg4)) (m (c.tc.loc main_arg11)) (m (c.tc.loc main_arg18)) (m (c.tc.loc main_arg25)) (ix4 a b u w) := by
  rw [dAll, m_at_4, v_at_4, pack1_4, ref_d_4]

theorem g_res_4 (c : Dev nD) : Pipeline.afterTail₀ cfgs (dats m) 0 (V0 m) [hostOps1] c main_v51 = val_main_v4 (F := Ideal) (m (c.tc.loc main_arg25)) := by
  have e : Pipeline.afterTail₀ cfgs (dats m) 0 (V0 m) [hostOps1] c main_v51 = shapeCast S1x64x64x16 (extractStridedSlice S65536 ![73792] (shapeCast S278528 ((dats m 0 c).arrAt 4 cfg0.N) shapeCasts_S272x1024_S278528) slices_S278528_S65536_73792) shapeCasts_S65536_S1x64x64x16 := by
    unfold Pipeline.afterTail₀
    after_reads_simp
    rw [arr4]
    rfl
  rw [e, final4]
  funext y
  obtain ⟨a, b, u, w, rfl⟩ : ∃ (a : Fin 1) (b : Fin 64) (u : Fin 64) (w : Fin 16), y = ix4 a b u w := ⟨y 0, y 1, y 2, y 3, by blk_ext⟩
  exact (unpack_4 _ a b u w).trans (g_at_4 m c a b u w)

theorem d_res_4 (c : Dev nD) : Pipeline.afterTail₀ cfgs (dats m) 0 (V0 m) [hostOps1] c main_v66 = val_main_v126 (F := Ideal) (m (c.tc.loc main_arg4)) (m (c.tc.loc main_arg11)) (m (c.tc.loc main_arg18)) (m (c.tc.loc main_arg25)) := by
  have e : Pipeline.afterTail₀ cfgs (dats m) 0 (V0 m) [hostOps1] c main_v66 = shapeCast S1x64x64x16 (extractStridedSlice S65536 ![73792] (shapeCast S278528 ((dats m 0 c).arrAt 5 cfg0.N) shapeCasts_S272x1024_S278528) slices_S278528_S65536_73792) shapeCasts_S65536_S1x64x64x16 := by
    unfold Pipeline.afterTail₀
    after_reads_simp
    rw [arr5]
    rfl
  rw [e, final5]
  funext y
  obtain ⟨a, b, u, w, rfl⟩ : ∃ (a : Fin 1) (b : Fin 64) (u : Fin 64) (w : Fin 16), y = ix4 a b u w := ⟨y 0, y 1, y 2, y 3, by blk_ext⟩
  exact (unpack_4 _ a b u w).trans (d_at_4 m c a b u w)

theorem m_res_4 (c : Dev nD) : Pipeline.afterTail₀ cfgs (dats m) 0 (V0 m) [hostOps1] c main_v81 = val_main_v107 (F := Ideal) (m (c.tc.loc main_arg11)) (m (c.tc.loc main_arg25)) := by
  have e : Pipeline.afterTail₀ cfgs (dats m) 0 (V0 m) [hostOps1] c main_v81 = shapeCast S1x64x64x16 (extractStridedSlice S65536 ![73792] (shapeCast S278528 ((dats m 0 c).arrAt 6 cfg0.N) shapeCasts_S272x1024_S278528) slices_S278528_S65536_73792) shapeCasts_S65536_S1x64x64x16 := by
    unfold Pipeline.afterTail₀
    after_reads_simp
    rw [arr6]
    rfl
  rw [e, final6]
  funext y
  obtain ⟨a, b, u, w, rfl⟩ : ∃ (a : Fin 1) (b : Fin 64) (u : Fin 64) (w : Fin 16), y = ix4 a b u w := ⟨y 0, y 1, y 2, y 3, by blk_ext⟩
  exact (unpack_4 _ a b u w).trans (m_at_4 m c a b u w)

theorem v_res_4 (c : Dev nD) : Pipeline.afterTail₀ cfgs (dats m) 0 (V0 m) [hostOps1] c main_v96 = val_main_v113 (F := Ideal) (m (c.tc.loc main_arg18)) (m (c.tc.loc main_arg25)) := by
  have e : Pipeline.afterTail₀ cfgs (dats m) 0 (V0 m) [hostOps1] c main_v96 = shapeCast S1x64x64x16 (extractStridedSlice S65536 ![73792] (shapeCast S278528 ((dats m 0 c).arrAt 7 cfg0.N) shapeCasts_S272x1024_S278528) slices_S278528_S65536_73792) shapeCasts_S65536_S1x64x64x16 := by
    unfold Pipeline.afterTail₀
    after_reads_simp
    rw [arr7]
    rfl
  rw [e, final7]
  funext y
  obtain ⟨a, b, u, w, rfl⟩ : ∃ (a : Fin 1) (b : Fin 64) (u : Fin 64) (w : Fin 16), y = ix4 a b u w := ⟨y 0, y 1, y 2, y 3, by blk_ext⟩
  exact (unpack_4 _ a b u w).trans (v_at_4 m c a b u w)

theorem ref_g_5 (x9 : Vec Ideal S8x1x64x16x64 .f32) (a : Fin 1) (b : Fin 64) (u : Fin 16) (w : Fin 64) : val_main_v5 (F := Ideal) x9 (ix4 a b u w)
    = x9 (ix5 0 a b u w) + x9 (ix5 1 a b u w) + x9 (ix5 2 a b u w) + x9 (ix5 3 a b u w) + x9 (ix5 4 a b u w) + x9 (ix5 5 a b u w) + x9 (ix5 6 a b u w) + x9 (ix5 7 a b u w) := by
  obtain rfl : a = 0 := Fin.eq_zero a
  pointwise [val_main_v5, val_main_cst_4]
  rw [Fin.sum_univ_eight]

theorem ref_m_5 (x3 : Vec Ideal S1x64x16x64 .f32) (x9 : Vec Ideal S8x1x64x16x64 .f32) (a : Fin 1) (b : Fin 64) (u : Fin 16) (w : Fin 64) : val_main_v131 (F := Ideal) x3 x9 (ix4 a b u w)
    = Ideal.ofBits FTy.f32 0x3F666666#32 * x3 (ix4 a b u w) + Ideal.ofBits FTy.f32 0x3DCCCCCD#32 * val_main_v5 (F := Ideal) x9 (ix4 a b u w) := by
  pointwise [val_main_v127, val_main_v128, val_main_v129, val_main_v130, val_main_v131, val_main_cst_51, val_main_cst_52]

theorem ref_v_5 (x6 : Vec Ideal S1x64x16x64 .f32) (x9 : Vec Ideal S8x1x64x16x64 .f32) (a : Fin 1) (b : Fin 64) (u : Fin 16) (w : Fin 64) : val_main_v137 (F := Ideal) x6 x9 (ix4 a b u w)
    = Ideal.ofBits FTy.f32 0x3F7FBE77#32 * x6 (ix4 a b u w) + Ideal.ofBits FTy.f32 0x3A83126F#32 * (val_main_v5 (F := Ideal) x9 (ix4 a b u w) * val_main_v5 (F := Ideal) x9 (ix4 a b u w)) := by
  pointwise [val_main_v132, val_main_v133, val_main_v134, val_main_v135, val_main_v136, val_main_v137, val_main_cst_53, val_main_cst_54]

theorem ref_d_5 (x0 : Vec Ideal S1x64x16x64 .f32) (x3 : Vec Ideal S1x64x16x64 .f32) (x6 : Vec Ideal S1x64x16x64 .f32) (x9 : Vec Ideal S8x1x64x16x64 .f32) (a : Fin 1) (b : Fin 64) (u : Fin 16) (w : Fin 64) : val_main_v150 (F := Ideal) x0 x3 x6 x9 (ix4 a b u w)
    = Ideal.ofBits FTy.f32 0xBA83126F#32 * (Ideal.div (val_main_v131 (F := Ideal) x3 x9 (ix4 a b u w) * ((8388608 / 5463681 : ℝ) : EReal))
        (Ideal.sqrt (val_main_v137 (F := Ideal) x6 x9 (ix4 a b u w) * ((268435456 / 2672307 : ℝ) : EReal)) + Ideal.ofBits FTy.f32 0x322BCC77#32)
        + Ideal.ofBits FTy.f32 0x3C23D70A#32 * x0 (ix4 a b u w)) := by
  rw [← AdamScal.scale1, ← AdamScal.scale2]
  pointwise [val_main_v138, val_main_v139, val_main_v140, val_main_v141, val_main_v142, val_main_v143, val_main_v144, val_main_v145, val_main_v146, val_main_v147, val_main_v148, val_main_v149, val_main_v150, val_main_cst_55, val_main_cst_56, val_main_cst_57, val_main_cst_58, val_main_cst_59]

theorem g_at_5 (c : Dev nD) (a : Fin 1) (b : Fin 64) (u : Fin 16) (w : Fin 64) : gAll (A0 m c) (ix2 (hi (139328 + (((a.val * 64 + b.val) * 16 + u.val) * 64 + w.val)) (by omega)) (lo (139328 + (((a.val * 64 + b.val) * 16 + u.val) * 64 + w.val)))) = val_main_v5 (F := Ideal) (m (c.tc.loc main_arg26)) (ix4 a b u w) := by
  rw [gAll_apply, ref_g_5]
  have e := fun p => pack0_5 m c p a b u w
  rw [e 0, e 1, e 2, e 3, e 4, e 5, e 6, e 7]

theorem m_at_5 (c : Dev nD) (a : Fin 1) (b : Fin 64) (u : Fin 16) (w : Fin 64) : mAll (A0 m c) (A2 m c) (ix2 (hi (139328 + (((a.val * 64 + b.val) * 16 + u.val) * 64 + w.val)) (by omega)) (lo (139328 + (((a.val * 64 + b.val) * 16 + u.val) * 64 + w.val)))) = val_main_v131 (F := Ideal) (m (c.tc.loc main_arg12)) (m (c.tc.loc main_arg26)) (ix4 a b u w) := by
  rw [mAll, g_at_5, pack2_5, ref_m_5]

theorem v_at_5 (c : Dev nD) (a : Fin 1) (b : Fin 64) (u : Fin 16) (w : Fin 64) : vAll (A0 m c) (A3 m c) (ix2 (hi (139328 + (((a.val * 64 + b.val) * 16 + u.val) * 64 + w.val)) (by omega)) (lo (139328 + (((a.val * 64 + b.val) * 16 + u.val) * 64 + w.val)))) = val_main_v137 (F := Ideal) (m (c.tc.loc main_arg19)) (m (c.tc.loc main_arg26)) (ix4 a b u w) := by
  rw [vAll, g_at_5, pack3_5, ref_v_5]

theorem d_at_5 (c : Dev nD) (a : Fin 1) (b : Fin 64) (u : Fin 16) (w : Fin 64) : dAll (A0 m c) (A1 m c) (A2 m c) (A3 m c) (ix2 (hi (139328 + (((a.val * 64 + b.val) * 16 + u.val) * 64 + w.val)) (by omega)) (lo (139328 + (((a.val * 64 + b.val) * 16 + u.val) * 64 + w.val)))) = val_main_v150 (F := Ideal) (m (c.tc.loc main_arg5)) (m (c.tc.loc main_arg12)) (m (c.tc.loc main_arg19)) (m (c.tc.loc main_arg26)) (ix4 a b u w) := by
  rw [dAll, m_at_5, v_at_5, pack1_5, ref_d_5]

theorem g_res_5 (c : Dev nD) : Pipeline.afterTail₀ cfgs (dats m) 0 (V0 m) [hostOps1] c main_v53 = val_main_v5 (F := Ideal) (m (c.tc.loc main_arg26)) := by
  have e : Pipeline.afterTail₀ cfgs (dats m) 0 (V0 m) [hostOps1] c main_v53 = shapeCast S1x64x16x64 (extractStridedSlice S65536 ![139328] (shapeCast S278528 ((dats m 0 c).arrAt 4 cfg0.N) shapeCasts_S272x1024_S278528) slices_S278528_S65536_139328) shapeCasts_S65536_S1x64x16x64 := by
    unfold Pipeline.afterTail₀
    after_reads_simp
    rw [arr4]
    rfl
  rw [e, final4]
  funext y
  obtain ⟨a, b, u, w, rfl⟩ : ∃ (a : Fin 1) (b : Fin 64) (u : Fin 16) (w : Fin 64), y = ix4 a b u w := ⟨y 0, y 1, y 2, y 3, by blk_ext⟩
  exact (unpack_5 _ a b u w).trans (g_at_5 m c a b u w)

theorem d_res_5 (c : Dev nD) : Pipeline.afterTail₀ cfgs (dats m) 0 (V0 m) [hostOps1] c main_v68 = val_main_v150 (F := Ideal) (m (c.tc.loc main_arg5)) (m (c.tc.loc main_arg12)) (m (c.tc.loc main_arg19)) (m (c.tc.loc main_arg26)) := by
  have e : Pipeline.afterTail₀ cfgs (dats m) 0 (V0 m) [hostOps1] c main_v68 = shapeCast S1x64x16x64 (extractStridedSlice S65536 ![139328] (shapeCast S278528 ((dats m 0 c).arrAt 5 cfg0.N) shapeCasts_S272x1024_S278528) slices_S278528_S65536_139328) shapeCasts_S65536_S1x64x16x64 := by
    unfold Pipeline.afterTail₀
    after_reads_simp
    rw [arr5]
    rfl
  rw [e, final5]
  funext y
  obtain ⟨a, b, u, w, rfl⟩ : ∃ (a : Fin 1) (b : Fin 64) (u : Fin 16) (w : Fin 64), y = ix4 a b u w := ⟨y 0, y 1, y 2, y 3, by blk_ext⟩
  exact (unpack_5 _ a b u w).trans (d_at_5 m c a b u w)

theorem m_res_5 (c : Dev nD) : Pipeline.afterTail₀ cfgs (dats m) 0 (V0 m) [hostOps1] c main_v83 = val_main_v131 (F := Ideal) (m (c.tc.loc main_arg12)) (m (c.tc.loc main_arg26)) := by
  have e : Pipeline.afterTail₀ cfgs (dats m) 0 (V0 m) [hostOps1] c main_v83 = shapeCast S1x64x16x64 (extractStridedSlice S65536 ![139328] (shapeCast S278528 ((dats m 0 c).arrAt 6 cfg0.N) shapeCasts_S272x1024_S278528) slices_S278528_S65536_139328) shapeCasts_S65536_S1x64x16x64 := by
    unfold Pipeline.afterTail₀
    after_reads_simp
    rw [arr6]
    rfl
  rw [e, final6]
  funext y
  obtain ⟨a, b, u, w, rfl⟩ : ∃ (a : Fin 1) (b : Fin 64) (u : Fin 16) (w : Fin 64), y = ix4 a b u w := ⟨y 0, y 1, y 2, y 3, by blk_ext⟩
  exact (unpack_5 _ a b u w).trans (m_at_5 m c a b u w)

theorem v_res_5 (c : Dev nD) : Pipeline.afterTail₀ cfgs (dats m) 0 (V0 m) [hostOps1] c main_v98 = val_main_v137 (F := Ideal) (m (c.tc.loc main_arg19)) (m (c.tc.loc main_arg26)) := by
  have e : Pipeline.afterTail₀ cfgs (dats m) 0 (V0 m) [hostOps1] c main_v98 = shapeCast S1x64x16x64 (extractStridedSlice S65536 ![139328] (shapeCast S278528 ((dats m 0 c).arrAt 7 cfg0.N) shapeCasts_S272x1024_S278528) slices_S278528_S65536_139328) shapeCasts_S65536_S1x64x16x64 := by
    unfold Pipeline.afterTail₀
    after_reads_simp
    rw [arr7]
    rfl
  rw [e, final7]
  funext y
  obtain ⟨a, b, u, w, rfl⟩ : ∃ (a : Fin 1) (b : Fin 64) (u : Fin 16) (w : Fin 64), y = ix4 a b u w := ⟨y 0, y 1, y 2, y 3, by blk_ext⟩
  exact (unpack_5 _ a b u w).trans (v_at_5 m c a b u w)

theorem ref_g_6 (x9 : Vec Ideal S8x1x64x16x64 .f32) (a : Fin 1) (b : Fin 64) (u : Fin 16) (w : Fin 64) : val_main_v6 (F := Ideal) x9 (ix4 a b u w)
    = x9 (ix5 0 a b u w) + x9 (ix5 1 a b u w) + x9 (ix5 2 a b u w) + x9 (ix5 3 a b u w) + x9 (ix5 4 a b u w) + x9 (ix5 5 a b u w) + x9 (ix5 6 a b u w) + x9 (ix5 7 a b u w) := by
  obtain rfl : a = 0 := Fin.eq_zero a
  pointwise [val_main_v6, val_main_cst_5]
  rw [Fin.sum_univ_eight]

theorem ref_m_6 (x3 : Vec Ideal S1x64x16x64 .f32) (x9 : Vec Ideal S8x1x64x16x64 .f32) (a : Fin 1) (b : Fin 64) (u : Fin 16) (w : Fin 64) : val_main_v155 (F := Ideal) x3 x9 (ix4 a b u w)
    = Ideal.ofBits FTy.f32 0x3F666666#32 * x3 (ix4 a b u w) + Ideal.ofBits FTy.f32 0x3DCCCCCD#32 * val_main_v6 (F := Ideal) x9 (ix4 a b u w) := by
  pointwise [val_main_v151, val_main_v152, val_main_v153, val_main_v154, val_main_v155, val_main_cst_60, val_main_cst_61]

theorem ref_v_6 (x6 : Vec Ideal S1x64x16x64 .f32) (x9 : Vec Ideal S8x1x64x16x64 .f32) (a : Fin 1) (b : Fin 64) (u : Fin 16) (w : Fin 64) : val_main_v161 (F := Ideal) x6 x9 (ix4 a b u w)
    = Ideal.ofBits FTy.f32 0x3F7FBE77#32 * x6 (ix4 a b u w) + Ideal.ofBits FTy.f32 0x3A83126F#32 * (val_main_v6 (F := Ideal) x9 (ix4 a b u w) * val_main_v6 (F := Ideal) x9 (ix4 a b u w)) := by
  pointwise [val_main_v156, val_main_v157, val_main_v158, val_main_v159, val_main_v160, val_main_v161, val_main_cst_62, val_main_cst_63]

theorem ref_d_6 (x0 : Vec Ideal S1x64x16x64 .f32) (x3 : Vec Ideal S1x64x16x64 .f32) (x6 : Vec Ideal S1x64x16x64 .f32) (x9 : Vec Ideal S8x1x64x16x64 .f32) (a : Fin 1) (b : Fin 64) (u : Fin 16) (w : Fin 64) : val_main_v174 (F := Ideal) x0 x3 x6 x9 (ix4 a b u w)
    = Ideal.ofBits FTy.f32 0xBA83126F#32 * (Ideal.div (val_main_v155 (F := Ideal) x3 x9 (ix4 a b u w) * ((8388608 / 5463681 : ℝ) : EReal))
        (Ideal.sqrt (val_main_v161 (F := Ideal) x6 x9 (ix4 a b u w) * ((268435456 / 2672307 : ℝ) : EReal)) + Ideal.ofBits FTy.f32 0x322BCC77#32)
        + Ideal.ofBits FTy.f32 0x3C23D70A#32 * x0 (ix4 a b u w)) := by
  rw [← AdamScal.scale1, ← AdamScal.scale2]
  pointwise [val_main_v162, val_main_v163, val_main_v164, val_main_v165, val_main_v166, val_main_v167, val_main_v168, val_main_v169, val_main_v170, val_main_v171, val_main_v172, val_main_v173, val_main_v174, val_main_cst_64, val_main_cst_65, val_main_cst_66, val_main_cst_67, val_main_cst_68]

theorem g_at_6 (c : Dev nD) (a : Fin 1) (b : Fin 64) (u : Fin 16) (w : Fin 64) : gAll (A0 m c) (ix2 (hi (204864 + (((a.val * 64 + b.val) * 16 + u.val) * 64 + w.val)) (by omega)) (lo (204864 + (((a.val * 64 + b.val) * 16 + u.val) * 64 + w.val)))) = val_main_v6 (F := Ideal) (m (c.tc.loc main_arg27)) (ix4 a b u w) := by
  rw [gAll_apply, ref_g_6]
  have e := fun p => pack0_6 m c p a b u w
  rw [e 0, e 1, e 2, e 3, e 4, e 5, e 6, e 7]

theorem m_at_6 (c : Dev nD) (a : Fin 1) (b : Fin 64) (u : Fin 16) (w : Fin 64) : mAll (A0 m c) (A2 m c) (ix2 (hi (204864 + (((a.val * 64 + b.val) * 16 + u.val) * 64 + w.val)) (by omega)) (lo (204864 + (((a.val * 64 + b.val) * 16 + u.val) * 64 + w.val)))) = val_main_v155 (F := Ideal) (m (c.tc.loc main_arg13)) (m (c.tc.loc main_arg27)) (ix4 a b u w) := by
  rw [mAll, g_at_6, pack2_6, ref_m_6]

theorem v_at_6 (c : Dev nD) (a : Fin 1) (b : Fin 64) (u : Fin 16) (w : Fin 64) : vAll (A0 m c) (A3 m c) (ix2 (hi (204864 + (((a.val * 64 + b.val) * 16 + u.val) * 64 + w.val)) (by omega)) (lo (204864 + (((a.val * 64 + b.val) * 16 + u.val) * 64 + w.val)))) = val_main_v161 (F := Ideal) (m (c.tc.loc main_arg20)) (m (c.tc.loc main_arg27)) (ix4 a b u w) := by
  rw [vAll, g_at_6, pack3_6, ref_v_6]

theorem d_at_6 (c : Dev nD) (a : Fin 1) (b : Fin 64) (u : Fin 16) (w : Fin 64) : dAll (A0 m c) (A1 m c) (A2 m c) (A3 m c) (ix2 (hi (204864 + (((a.val * 64 + b.val) * 16 + u.val) * 64 + w.val)) (by omega)) (lo (204864 + (((a.val * 64 + b.val) * 16 + u.val) * 64 + w.val)))) = val_main_v174 (F := Ideal) (m (c.tc.loc main_arg6)) (m (c.tc.loc main_arg13)) (m (c.tc.loc main_arg20)) (m (c.tc.loc main_arg27)) (ix4 a b u w) := by
  rw [dAll, m_at_6, v_at_6, pack1_6, ref_d_6]

theorem g_res_6 (c : Dev nD) : Pipeline.afterTail₀ cfgs (dats m) 0 (V0 m) [hostOps1] c main_v55 = val_main_v6 (F := Ideal) (m (c.tc.loc main_arg27)) := by
  have e : Pipeline.afterTail₀ cfgs (dats m) 0 (V0 m) [hostOps1] c main_v55 = shapeCast S1x64x16x64 (extractStridedSlice S65536 ![204864] (shapeCast S278528 ((dats m 0 c).arrAt 4 cfg0.N) shapeCasts_S272x1024_S278528) slices_S278528_S65536_204864) shapeCasts_S65536_S1x64x16x64 := by
    unfold Pipeline.afterTail₀
    after_reads_simp
    rw [arr4]
    rfl
  rw [e, final4]
  funext y
  obtain ⟨a, b, u, w, rfl⟩ : ∃ (a : Fin 1) (b : Fin 64) (u : Fin 16) (w : Fin 64), y = ix4 a b u w := ⟨y 0, y 1, y 2, y 3, by blk_ext⟩
  exact (unpack_6 _ a b u w).trans (g_at_6 m c a b u w)

theorem d_res_6 (c : Dev nD) : Pipeline.afterTail₀ cfgs (dats m) 0 (V0 m) [hostOps1] c main_v70 = val_main_v174 (F := Ideal) (m (c.tc.loc main_arg6)) (m (c.tc.loc main_arg13)) (m (c.tc.loc main_arg20)) (m (c.tc.loc main_arg27)) := by
  have e : Pipeline.afterTail₀ cfgs (dats m) 0 (V0 m) [hostOps1] c main_v70 = shapeCast S1x64x16x64 (extractStridedSlice S65536 ![204864] (shapeCast S278528 ((dats m 0 c).arrAt 5 cfg0.N) shapeCasts_S272x1024_S278528) slices_S278528_S65536_204864) shapeCasts_S65536_S1x64x16x64 := by
    unfold Pipeline.afterTail₀
    after_reads_simp
    rw [arr5]
    rfl
  rw [e, final5]
  funext y
  obtain ⟨a, b, u, w, rfl⟩ : ∃ (a : Fin 1) (b : Fin 64) (u : Fin 16) (w : Fin 64), y = ix4 a b u w := ⟨y 0, y 1, y 2, y 3, by blk_ext⟩
  exact (unpack_6 _ a b u w).trans (d_at_6 m c a b u w)

theorem m_res_6 (c : Dev nD) : Pipeline.afterTail₀ cfgs (dats m) 0 (V0 m) [hostOps1] c main_v85 = val_main_v155 (F := Ideal) (m (c.tc.loc main_arg13)) (m (c.tc.loc main_arg27)) := by
  have e : Pipeline.afterTail₀ cfgs (dats m) 0 (V0 m) [hostOps1] c main_v85 = shapeCast S1x64x16x64 (extractStridedSlice S65536 ![204864] (shapeCast S278528 ((dats m 0 c).arrAt 6 cfg0.N) shapeCasts_S272x1024_S278528) slices_S278528_S65536_204864) shapeCasts_S65536_S1x64x16x64 := by
    unfold Pipeline.afterTail₀
    after_reads_simp
    rw [arr6]
    rfl
  rw [e, final6]
  funext y
  obtain ⟨a, b, u, w, rfl⟩ : ∃ (a : Fin 1) (b : Fin 64) (u : Fin 16) (w : Fin 64), y = ix4 a b u w := ⟨y 0, y 1, y 2, y 3, by blk_ext⟩
  exact (unpack_6 _ a b u w).trans (m_at_6 m c a b u w)

theorem v_res_6 (c : Dev nD) : Pipeline.afterTail₀ cfgs (dats m) 0 (V0 m) [hostOps1] c main_v100 = val_main_v161 (F := Ideal) (m (c.tc.loc main_arg20)) (m (c.tc.loc main_arg27)) := by
  have e : Pipeline.afterTail₀ cfgs (dats m) 0 (V0 m) [hostOps1] c main_v100 = shapeCast S1x64x16x64 (extractStridedSlice S65536 ![204864] (shapeCast S278528 ((dats m 0 c).arrAt 7 cfg0.N) shapeCasts_S272x1024_S278528) slices_S278528_S65536_204864) shapeCasts_S65536_S1x64x16x64 := by
    unfold Pipeline.afterTail₀
    after_reads_simp
    rw [arr7]
    rfl
  rw [e, final7]
  funext y
  obtain ⟨a, b, u, w, rfl⟩ : ∃ (a : Fin 1) (b : Fin 64) (u : Fin 16) (w : Fin 64), y = ix4 a b u w := ⟨y 0, y 1, y 2, y 3, by blk_ext⟩
  exact (unpack_6 _ a b u w).trans (v_at_6 m c a b u w)

/-- Every run of the kernel's program ends with the reference's values in its results, and its arguments kept. -/
theorem run : θ_run defs (onTc (τ := τ) (main (F := Ideal))) ⟨m, fun _ => 0, ρ⟩ (fun r => ∀ c : Dev nD,
      r.2.mem (c.tc.loc main_v43) = val_main_v0 (F := Ideal) (m (c.tc.loc main_arg21))
      ∧ r.2.mem (c.tc.loc main_v45) = val_main_v1 (F := Ideal) (m (c.tc.loc main_arg22))
      ∧ r.2.mem (c.tc.loc main_v47) = val_main_v2 (F := Ideal) (m (c.tc.loc main_arg23))
      ∧ r.2.mem (c.tc.loc main_v49) = val_main_v3 (F := Ideal) (m (c.tc.loc main_arg24))
      ∧ r.2.mem (c.tc.loc main_v51) = val_main_v4 (F := Ideal) (m (c.tc.loc main_arg25))
      ∧ r.2.mem (c.tc.loc main_v53) = val_main_v5 (F := Ideal) (m (c.tc.loc main_arg26))
      ∧ r.2.mem (c.tc.loc main_v55) = val_main_v6 (F := Ideal) (m (c.tc.loc main_arg27))
      ∧ r.2.mem (c.tc.loc main_v58) = val_main_v30 (F := Ideal) (m (c.tc.loc main_arg0)) (m (c.tc.loc main_arg7)) (m (c.tc.loc main_arg14)) (m (c.tc.loc main_arg21))
      ∧ r.2.mem (c.tc.loc main_v60) = val_main_v54 (F := Ideal) (m (c.tc.loc main_arg1)) (m (c.tc.loc main_arg8)) (m (c.tc.loc main_arg15)) (m (c.tc.loc main_arg22))
      ∧ r.2.mem (c.tc.loc main_v62) = val_main_v78 (F := Ideal) (m (c.tc.loc main_arg2)) (m (c.tc.loc main_arg9)) (m (c.tc.loc main_arg16)) (m (c.tc.loc main_arg23))
      ∧ r.2.mem (c.tc.loc main_v64) = val_main_v102 (F := Ideal) (m (c.tc.loc main_arg3)) (m (c.tc.loc main_arg10)) (m (c.tc.loc main_arg17)) (m (c.tc.loc main_arg24))
      ∧ r.2.mem (c.tc.loc main_v66) = val_main_v126 (F := Ideal) (m (c.tc.loc main_arg4)) (m (c.tc.loc main_arg11)) (m (c.tc.loc main_arg18)) (m (c.tc.loc main_arg25))
      ∧ r.2.mem (c.tc.loc main_v68) = val_main_v150 (F := Ideal) (m (c.tc.loc main_arg5)) (m (c.tc.loc main_arg12)) (m (c.tc.loc main_arg19)) (m (c.tc.loc main_arg26))
      ∧ r.2.mem (c.tc.loc main_v70) = val_main_v174 (F := Ideal) (m (c.tc.loc main_arg6)) (m (c.tc.loc main_arg13)) (m (c.tc.loc main_arg20)) (m (c.tc.loc main_arg27))
      ∧ r.2.mem (c.tc.loc main_v73) = val_main_v11 (F := Ideal) (m (c.tc.loc main_arg7)) (m (c.tc.loc main_arg21))
      ∧ r.2.mem (c.tc.loc main_v75) = val_main_v35 (F := Ideal) (m (c.tc.loc main_arg8)) (m (c.tc.loc main_arg22))
      ∧ r.2.mem (c.tc.loc main_v77) = val_main_v59 (F := Ideal) (m (c.tc.loc main_arg9)) (m (c.tc.loc main_arg23))
      ∧ r.2.mem (c.tc.loc main_v79) = val_main_v83 (F := Ideal) (m (c.tc.loc main_arg10)) (m (c.tc.loc main_arg24))
      ∧ r.2.mem (c.tc.loc main_v81) = val_main_v107 (F := Ideal) (m (c.tc.loc main_arg11)) (m (c.tc.loc main_arg25))
      ∧ r.2.mem (c.tc.loc main_v83) = val_main_v131 (F := Ideal) (m (c.tc.loc main_arg12)) (m (c.tc.loc main_arg26))
      ∧ r.2.mem (c.tc.loc main_v85) = val_main_v155 (F := Ideal) (m (c.tc.loc main_arg13)) (m (c.tc.loc main_arg27))
      ∧ r.2.mem (c.tc.loc main_v88) = val_main_v17 (F := Ideal) (m (c.tc.loc main_arg14)) (m (c.tc.loc main_arg21))
      ∧ r.2.mem (c.tc.loc main_v90) = val_main_v41 (F := Ideal) (m (c.tc.loc main_arg15)) (m (c.tc.loc main_arg22))
      ∧ r.2.mem (c.tc.loc main_v92) = val_main_v65 (F := Ideal) (m (c.tc.loc main_arg16)) (m (c.tc.loc main_arg23))
      ∧ r.2.mem (c.tc.loc main_v94) = val_main_v89 (F := Ideal) (m (c.tc.loc main_arg17)) (m (c.tc.loc main_arg24))
      ∧ r.2.mem (c.tc.loc main_v96) = val_main_v113 (F := Ideal) (m (c.tc.loc main_arg18)) (m (c.tc.loc main_arg25))
      ∧ r.2.mem (c.tc.loc main_v98) = val_main_v137 (F := Ideal) (m (c.tc.loc main_arg19)) (m (c.tc.loc main_arg26))
      ∧ r.2.mem (c.tc.loc main_v100) = val_main_v161 (F := Ideal) (m (c.tc.loc main_arg20)) (m (c.tc.loc main_arg27))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27)) :=
  (θ_run defs _ _).mono (fun _ h c => ⟨((h c).2 main_v43 (Pipeline.mem_restRefs_of main_v43 (by decide) (by decide))).trans (g_res_0 m c),
      ((h c).2 main_v45 (Pipeline.mem_restRefs_of main_v45 (by decide) (by decide))).trans (g_res_1 m c),
      ((h c).2 main_v47 (Pipeline.mem_restRefs_of main_v47 (by decide) (by decide))).trans (g_res_2 m c),
      ((h c).2 main_v49 (Pipeline.mem_restRefs_of main_v49 (by decide) (by decide))).trans (g_res_3 m c),
      ((h c).2 main_v51 (Pipeline.mem_restRefs_of main_v51 (by decide) (by decide))).trans (g_res_4 m c),
      ((h c).2 main_v53 (Pipeline.mem_restRefs_of main_v53 (by decide) (by decide))).trans (g_res_5 m c),
      ((h c).2 main_v55 (Pipeline.mem_restRefs_of main_v55 (by decide) (by decide))).trans (g_res_6 m c),
      ((h c).2 main_v58 (Pipeline.mem_restRefs_of main_v58 (by decide) (by decide))).trans (d_res_0 m c),
      ((h c).2 main_v60 (Pipeline.mem_restRefs_of main_v60 (by decide) (by decide))).trans (d_res_1 m c),
      ((h c).2 main_v62 (Pipeline.mem_restRefs_of main_v62 (by decide) (by decide))).trans (d_res_2 m c),
      ((h c).2 main_v64 (Pipeline.mem_restRefs_of main_v64 (by decide) (by decide))).trans (d_res_3 m c),
      ((h c).2 main_v66 (Pipeline.mem_restRefs_of main_v66 (by decide) (by decide))).trans (d_res_4 m c),
      ((h c).2 main_v68 (Pipeline.mem_restRefs_of main_v68 (by decide) (by decide))).trans (d_res_5 m c),
      ((h c).2 main_v70 (Pipeline.mem_restRefs_of main_v70 (by decide) (by decide))).trans (d_res_6 m c),
      ((h c).2 main_v73 (Pipeline.mem_restRefs_of main_v73 (by decide) (by decide))).trans (m_res_0 m c),
      ((h c).2 main_v75 (Pipeline.mem_restRefs_of main_v75 (by decide) (by decide))).trans (m_res_1 m c),
      ((h c).2 main_v77 (Pipeline.mem_restRefs_of main_v77 (by decide) (by decide))).trans (m_res_2 m c),
      ((h c).2 main_v79 (Pipeline.mem_restRefs_of main_v79 (by decide) (by decide))).trans (m_res_3 m c),
      ((h c).2 main_v81 (Pipeline.mem_restRefs_of main_v81 (by decide) (by decide))).trans (m_res_4 m c),
      ((h c).2 main_v83 (Pipeline.mem_restRefs_of main_v83 (by decide) (by decide))).trans (m_res_5 m c),
      ((h c).2 main_v85 (Pipeline.mem_restRefs_of main_v85 (by decide) (by decide))).trans (m_res_6 m c),
      ((h c).2 main_v88 (Pipeline.mem_restRefs_of main_v88 (by decide) (by decide))).trans (v_res_0 m c),
      ((h c).2 main_v90 (Pipeline.mem_restRefs_of main_v90 (by decide) (by decide))).trans (v_res_1 m c),
      ((h c).2 main_v92 (Pipeline.mem_restRefs_of main_v92 (by decide) (by decide))).trans (v_res_2 m c),
      ((h c).2 main_v94 (Pipeline.mem_restRefs_of main_v94 (by decide) (by decide))).trans (v_res_3 m c),
      ((h c).2 main_v96 (Pipeline.mem_restRefs_of main_v96 (by decide) (by decide))).trans (v_res_4 m c),
      ((h c).2 main_v98 (Pipeline.mem_restRefs_of main_v98 (by decide) (by decide))).trans (v_res_5 m c),
      ((h c).2 main_v100 (Pipeline.mem_restRefs_of main_v100 (by decide) (by decide))).trans (v_res_6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c)⟩) (run_main m ρ)

end Cert.Pack1Ideal.Hand

namespace Cert.Hand

theorem preservesPack1 : Cert.preserves_Pack1_Pack1Ideal :=
  ⟨IdealRules.named_const.statement Cert.Pack1Ideal.κ "c1" .f32 0x3FC48605#32 ((8388608 / 5463681 : ℝ) : EReal) rfl,
   IdealRules.named_const.statement Cert.Pack1Ideal.κ "c2" .f32 0x42C8E6D3#32
     ((268435456 / 2672307 : ℝ) : EReal) rfl⟩

/-- The reference leaves its arguments as they were. -/
theorem frame_refPack1 : Cert.quiescent_PackRef1Ideal := fun m ρ _ =>
  (θ_run Cert.PackRef1Ideal.defs _ _).mono (fun r h => ⟨fun c => (h c).2.2.2.2.2.2.2.2.2.2.2.2.2.2.2.2.2.2.2.2.2.2.2.2.2.2.2.2,
      Idealize.ShloMosaic.sem_eq_zero_of_no_sems (by decide) r.2⟩)
    (Cert.PackRef1Ideal.Value.run (F := Ideal) m ρ)

/-- At `Ideal` the results of the kernel's program and the reference's agree. -/
theorem algebraicPack1 : Cert.algebraic_Pack1Ideal_PackRef1Ideal := by
  intro m g m' g' _ hagree
  refine ⟨_, _, _, _, _, _, _, _, _, _, _, _, _, _, _, _, _, _, _, _, _, _, _, _, _, _, _, _, Cert.Pack1Ideal.Hand.run m g, ?_⟩
  refine θ_run_mono (Cert.PackRef1Ideal.Value.run (F := Ideal) m' g') fun r hr c => ?_
  obtain ⟨h0, h1, h2, h3, h4, h5, h6, h7, h8, h9, h10, h11, h12, h13, h14, h15, h16, h17, h18, h19, h20, h21, h22, h23, h24, h25, h26, h27, k⟩ := hr c
  obtain ⟨e0, e1, e2, e3, e4, e5, e6, e7, e8, e9, e10, e11, e12, e13, e14, e15, e16, e17, e18, e19, e20, e21, e22, e23, e24, e25, e26, e27⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, k⟩

  · exact (Cert.PackRef1Ideal.Read.val_main_v0_eq ..).trans (congrArg (fun y => Cert.PackRef1Ideal.Read.val_main_v0 (F := Ideal) y) e21)
  · exact (Cert.PackRef1Ideal.Read.val_main_v1_eq ..).trans (congrArg (fun y => Cert.PackRef1Ideal.Read.val_main_v1 (F := Ideal) y) e22)
  · exact (Cert.PackRef1Ideal.Read.val_main_v2_eq ..).trans (congrArg (fun y => Cert.PackRef1Ideal.Read.val_main_v2 (F := Ideal) y) e23)
  · exact (Cert.PackRef1Ideal.Read.val_main_v3_eq ..).trans (congrArg (fun y => Cert.PackRef1Ideal.Read.val_main_v3 (F := Ideal) y) e24)
  · exact (Cert.PackRef1Ideal.Read.val_main_v4_eq ..).trans (congrArg (fun y => Cert.PackRef1Ideal.Read.val_main_v4 (F := Ideal) y) e25)
  · exact (Cert.PackRef1Ideal.Read.val_main_v5_eq ..).trans (congrArg (fun y => Cert.PackRef1Ideal.Read.val_main_v5 (F := Ideal) y) e26)
  · exact (Cert.PackRef1Ideal.Read.val_main_v6_eq ..).trans (congrArg (fun y => Cert.PackRef1Ideal.Read.val_main_v6 (F := Ideal) y) e27)
  · exact (Cert.PackRef1Ideal.Read.val_main_v30_eq ..).trans (congr (congr (congr (congrArg (fun y0 y1 y2 y3 => Cert.PackRef1Ideal.Read.val_main_v30 (F := Ideal) y0 y1 y2 y3) e0) e7) e14) e21)
  · exact (Cert.PackRef1Ideal.Read.val_main_v54_eq ..).trans (congr (congr (congr (congrArg (fun y0 y1 y2 y3 => Cert.PackRef1Ideal.Read.val_main_v54 (F := Ideal) y0 y1 y2 y3) e1) e8) e15) e22)
  · exact (Cert.PackRef1Ideal.Read.val_main_v78_eq ..).trans (congr (congr (congr (congrArg (fun y0 y1 y2 y3 => Cert.PackRef1Ideal.Read.val_main_v78 (F := Ideal) y0 y1 y2 y3) e2) e9) e16) e23)
  · exact (Cert.PackRef1Ideal.Read.val_main_v102_eq ..).trans (congr (congr (congr (congrArg (fun y0 y1 y2 y3 => Cert.PackRef1Ideal.Read.val_main_v102 (F := Ideal) y0 y1 y2 y3) e3) e10) e17) e24)
  · exact (Cert.PackRef1Ideal.Read.val_main_v126_eq ..).trans (congr (congr (congr (congrArg (fun y0 y1 y2 y3 => Cert.PackRef1Ideal.Read.val_main_v126 (F := Ideal) y0 y1 y2 y3) e4) e11) e18) e25)
  · exact (Cert.PackRef1Ideal.Read.val_main_v150_eq ..).trans (congr (congr (congr (congrArg (fun y0 y1 y2 y3 => Cert.PackRef1Ideal.Read.val_main_v150 (F := Ideal) y0 y1 y2 y3) e5) e12) e19) e26)
  · exact (Cert.PackRef1Ideal.Read.val_main_v174_eq ..).trans (congr (congr (congr (congrArg (fun y0 y1 y2 y3 => Cert.PackRef1Ideal.Read.val_main_v174 (F := Ideal) y0 y1 y2 y3) e6) e13) e20) e27)
  · exact (Cert.PackRef1Ideal.Read.val_main_v11_eq ..).trans (congr (congrArg (fun y0 y1 => Cert.PackRef1Ideal.Read.val_main_v11 (F := Ideal) y0 y1) e7) e21)
  · exact (Cert.PackRef1Ideal.Read.val_main_v35_eq ..).trans (congr (congrArg (fun y0 y1 => Cert.PackRef1Ideal.Read.val_main_v35 (F := Ideal) y0 y1) e8) e22)
  · exact (Cert.PackRef1Ideal.Read.val_main_v59_eq ..).trans (congr (congrArg (fun y0 y1 => Cert.PackRef1Ideal.Read.val_main_v59 (F := Ideal) y0 y1) e9) e23)
  · exact (Cert.PackRef1Ideal.Read.val_main_v83_eq ..).trans (congr (congrArg (fun y0 y1 => Cert.PackRef1Ideal.Read.val_main_v83 (F := Ideal) y0 y1) e10) e24)
  · exact (Cert.PackRef1Ideal.Read.val_main_v107_eq ..).trans (congr (congrArg (fun y0 y1 => Cert.PackRef1Ideal.Read.val_main_v107 (F := Ideal) y0 y1) e11) e25)
  · exact (Cert.PackRef1Ideal.Read.val_main_v131_eq ..).trans (congr (congrArg (fun y0 y1 => Cert.PackRef1Ideal.Read.val_main_v131 (F := Ideal) y0 y1) e12) e26)
  · exact (Cert.PackRef1Ideal.Read.val_main_v155_eq ..).trans (congr (congrArg (fun y0 y1 => Cert.PackRef1Ideal.Read.val_main_v155 (F := Ideal) y0 y1) e13) e27)
  · exact (Cert.PackRef1Ideal.Read.val_main_v17_eq ..).trans (congr (congrArg (fun y0 y1 => Cert.PackRef1Ideal.Read.val_main_v17 (F := Ideal) y0 y1) e14) e21)
  · exact (Cert.PackRef1Ideal.Read.val_main_v41_eq ..).trans (congr (congrArg (fun y0 y1 => Cert.PackRef1Ideal.Read.val_main_v41 (F := Ideal) y0 y1) e15) e22)
  · exact (Cert.PackRef1Ideal.Read.val_main_v65_eq ..).trans (congr (congrArg (fun y0 y1 => Cert.PackRef1Ideal.Read.val_main_v65 (F := Ideal) y0 y1) e16) e23)
  · exact (Cert.PackRef1Ideal.Read.val_main_v89_eq ..).trans (congr (congrArg (fun y0 y1 => Cert.PackRef1Ideal.Read.val_main_v89 (F := Ideal) y0 y1) e17) e24)
  · exact (Cert.PackRef1Ideal.Read.val_main_v113_eq ..).trans (congr (congrArg (fun y0 y1 => Cert.PackRef1Ideal.Read.val_main_v113 (F := Ideal) y0 y1) e18) e25)
  · exact (Cert.PackRef1Ideal.Read.val_main_v137_eq ..).trans (congr (congrArg (fun y0 y1 => Cert.PackRef1Ideal.Read.val_main_v137 (F := Ideal) y0 y1) e19) e26)
  · exact (Cert.PackRef1Ideal.Read.val_main_v161_eq ..).trans (congr (congrArg (fun y0 y1 => Cert.PackRef1Ideal.Read.val_main_v161 (F := Ideal) y0 y1) e20) e27)

end Cert.Hand

end
-- ==== Proof.Pack2Value.lean ====
module

public import proofs.«01_k».proof.Defs
public import proofs.«01_k».proof.Proof.Gen.Pack2Ideal.Frame
public import proofs.«01_k».proof.Proof.Gen.PackRef2Ideal.Run
public import proofs.«01_k».proof.Proof.Gen.PackRef2Ideal.Read
public import proofs.«01_k».proof.Proof.AdamScal
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Pack2Ideal.Hand

open Cert.Pack2Ideal Cert.Pack2Ideal.Gen Cert.PackRef2Ideal.Read

theorem c1_named : Named.named (F := Ideal) Cert.Pack2Ideal.κ "c1" (φ := .f32) 0x3FC48605#32 = ((8388608 / 5463681 : ℝ) : EReal) :=
  IdealRules.named_const.ideal_named_scalar _ _ _ _ rfl
theorem c2_named : Named.named (F := Ideal) Cert.Pack2Ideal.κ "c2" (φ := .f32) 0x42C8E6D3#32
    = ((268435456 / 2672307 : ℝ) : EReal) :=
  IdealRules.named_const.ideal_named_scalar _ _ _ _ rfl

abbrev Pieces := Vec Ideal S8x8x1024 .f32
abbrev Whole := Vec Ideal S8x1024 .f32
abbrev Block := Vec Ideal S8x1024 .f32

/-! ## The kernel's payloads at an index -/

theorem pay_g (x0 : Vec Ideal S8x8x1024 .f32) (x1 x2 x3 : Block) (i : Fin 8) (j : Fin 1024) : k0_pay5 (F := Ideal) x0 x1 x2 x3 (ix2 i j)
    = x0 (ix3 0 i j) + x0 (ix3 1 i j) + x0 (ix3 2 i j) + x0 (ix3 3 i j) + x0 (ix3 4 i j) + x0 (ix3 5 i j) + x0 (ix3 6 i j) + x0 (ix3 7 i j) := by
  have e : ∀ {P0 P1 P2 P3 P4 P5 P6 P7 : Vec Ideal S1x8x1024 .f32}, k0_pay3 (F := Ideal) P0 P1 P2 P3 P4 P5 P6 P7 (ix2 i j)
      = P0 (ix3 0 i j) + P1 (ix3 0 i j) + P2 (ix3 0 i j) + P3 (ix3 0 i j) + P4 (ix3 0 i j) + P5 (ix3 0 i j) + P6 (ix3 0 i j) + P7 (ix3 0 i j) := by
    intros
    pointwise [k0_pay3]
  have l : ∀ (p : Fin 8) (inb), View.ld x0 (Rect.unit (s := S8x8x1024) ![p.val, 0, 0] S1x8x1024.size inb) (ix3 0 i j) = x0 (ix3 p i j) := fun p inb =>
    View.ld_unit_apply_of _ _ _ _ _ _ (fun a => match a with
      | ⟨0, _⟩ => rfl | ⟨1, _⟩ => (Nat.zero_add _).symm | ⟨2, _⟩ => (Nat.zero_add _).symm)
  refine e.trans ?_
  refine congrArg₂ (fun a b : EReal => a + b) ?_ (l 7 _)
  refine congrArg₂ (fun a b : EReal => a + b) ?_ (l 6 _)
  refine congrArg₂ (fun a b : EReal => a + b) ?_ (l 5 _)
  refine congrArg₂ (fun a b : EReal => a + b) ?_ (l 4 _)
  refine congrArg₂ (fun a b : EReal => a + b) ?_ (l 3 _)
  refine congrArg₂ (fun a b : EReal => a + b) ?_ (l 2 _)
  exact congrArg₂ (fun a b : EReal => a + b) (l 0 _) (l 1 _)

theorem pay_m (x0 : Vec Ideal S8x8x1024 .f32) (x1 x2 x3 : Block) (i : Fin 8) (j : Fin 1024) : k0_pay6 (F := Ideal) x0 x1 x2 x3 (ix2 i j)
    = Ideal.ofBits FTy.f32 0x3F666666#32 * x2 (ix2 i j) + Ideal.ofBits FTy.f32 0x3DCCCCCD#32 * k0_pay5 (F := Ideal) x0 x1 x2 x3 (ix2 i j) := by
  have e : ∀ {P0 P1 P2 P3 P4 P5 P6 P7 : Vec Ideal S1x8x1024 .f32} {m : Block}, k0_pay4 (F := Ideal) P0 P1 P2 P3 P4 P5 P6 P7 m (ix2 i j)
      = Ideal.ofBits FTy.f32 0x3F666666#32 * m (ix2 i j) + Ideal.ofBits FTy.f32 0x3DCCCCCD#32 * k0_pay3 (F := Ideal) P0 P1 P2 P3 P4 P5 P6 P7 (ix2 i j) := by
    intros
    pointwise [k0_pay4]
  refine e.trans ?_
  refine congrArg₂ (fun a b : EReal => _ * a + _ * b) (View.ld_unit_apply_of _ _ _ _ _ _ (fun a => match a with
      | ⟨0, _⟩ => (Nat.zero_add _).symm | ⟨1, _⟩ => (Nat.zero_add _).symm)) rfl

theorem pay_v (g v : Block) (i : Fin 8) (j : Fin 1024) : k0_pay1 (F := Ideal) g v (ix2 i j)
    = Ideal.ofBits FTy.f32 0x3F7FBE77#32 * v (ix2 i j) + Ideal.ofBits FTy.f32 0x3A83126F#32 * (g (ix2 i j) * g (ix2 i j)) := by
  pointwise [k0_pay1]

theorem pay_d (g nm v w : Block) (i : Fin 8) (j : Fin 1024) : k0_pay2 (F := Ideal) g nm v w (ix2 i j)
    = Ideal.ofBits FTy.f32 0xBA83126F#32 * (Ideal.div (nm (ix2 i j) * ((8388608 / 5463681 : ℝ) : EReal))
        (Ideal.sqrt (k0_pay1 (F := Ideal) g v (ix2 i j) * ((268435456 / 2672307 : ℝ) : EReal))
          + Ideal.ofBits FTy.f32 0x322BCC77#32)
        + Ideal.ofBits FTy.f32 0x3C23D70A#32 * w (ix2 i j)) := by
  rw [← c1_named, ← c2_named]
  pointwise [k0_pay2]

/-! ## The four results as functions of the packed arrays -/

def gAll (P : Pieces) : Whole := fun y => P (ix3 0 (y 0) (y 1)) + P (ix3 1 (y 0) (y 1)) + P (ix3 2 (y 0) (y 1)) + P (ix3 3 (y 0) (y 1)) + P (ix3 4 (y 0) (y 1)) + P (ix3 5 (y 0) (y 1)) + P (ix3 6 (y 0) (y 1)) + P (ix3 7 (y 0) (y 1))
def mAll (P : Pieces) (M : Whole) : Whole := fun y => Ideal.ofBits FTy.f32 0x3F666666#32 * M y + Ideal.ofBits FTy.f32 0x3DCCCCCD#32 * gAll P y
def vAll (P : Pieces) (U : Whole) : Whole := fun y => Ideal.ofBits FTy.f32 0x3F7FBE77#32 * U y + Ideal.ofBits FTy.f32 0x3A83126F#32 * (gAll P y * gAll P y)
def dAll (P : Pieces) (W M U : Whole) : Whole := fun y => Ideal.ofBits FTy.f32 0xBA83126F#32
    * (Ideal.div (mAll P M y * ((8388608 / 5463681 : ℝ) : EReal))
        (Ideal.sqrt (vAll P U y * ((268435456 / 2672307 : ℝ) : EReal)) + Ideal.ofBits FTy.f32 0x322BCC77#32)
      + Ideal.ofBits FTy.f32 0x3C23D70A#32 * W y)

theorem gAll_apply (P : Pieces) (i : Fin 8) (j : Fin 1024) : gAll P (ix2 i j) = P (ix3 0 i j) + P (ix3 1 i j) + P (ix3 2 i j) + P (ix3 3 i j) + P (ix3 4 i j) + P (ix3 5 i j) + P (ix3 6 i j) + P (ix3 7 i j) := rfl

/-! ## The input blocks -/

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev A0 (c : Dev nD) : Pieces := V m c main_v5
abbrev A1 (c : Dev nD) : Whole := V m c main_v11
abbrev A2 (c : Dev nD) : Whole := V m c main_v17
abbrev A3 (c : Dev nD) : Whole := V m c main_v23

theorem ptlt (t : Fin cfg0.N) (i : Fin 8) : t.val * 8 + i.val < 8 := by
  have : t.val < 1 := lt_of_lt_of_eq t.isLt N_0
  omega

abbrev row (t : Fin cfg0.N) (i : Fin 8) : Fin 8 := ⟨t.val * 8 + i.val, ptlt t i⟩

theorem iblk0 (c : Dev nD) (t : Fin cfg0.N) (p : Fin 8) (i : Fin 8) (j : Fin 1024) :
    iblk m c 0 t (ix3 p i j) = A0 m c (ix3 p (row t i) j) := by
  blk_ext! [iblk, idx t]
theorem iblk1 (c : Dev nD) (t : Fin cfg0.N) (i : Fin 8) (j : Fin 1024) : iblk m c 1 t (ix2 i j) = A1 m c (ix2 (row t i) j) := by
  blk_ext! [iblk, idx t]
theorem iblk2 (c : Dev nD) (t : Fin cfg0.N) (i : Fin 8) (j : Fin 1024) : iblk m c 2 t (ix2 i j) = A2 m c (ix2 (row t i) j) := by
  blk_ext! [iblk, idx t]
theorem iblk3 (c : Dev nD) (t : Fin cfg0.N) (i : Fin 8) (j : Fin 1024) : iblk m c 3 t (ix2 i j) = A3 m c (ix2 (row t i) j) := by
  blk_ext! [iblk, idx t]

theorem g_apply (c : Dev nD) (t : Fin cfg0.N) (i : Fin 8) (j : Fin 1024) :
    k0_pay5 (F := Ideal) (iblk m c 0 t) (iblk m c 1 t) (iblk m c 2 t) (iblk m c 3 t) (ix2 i j) = gAll (A0 m c) (ix2 (row t i) j) := by
  rw [pay_g, gAll_apply]
  simp only [iblk0]
theorem m_apply (c : Dev nD) (t : Fin cfg0.N) (i : Fin 8) (j : Fin 1024) :
    k0_pay6 (F := Ideal) (iblk m c 0 t) (iblk m c 1 t) (iblk m c 2 t) (iblk m c 3 t) (ix2 i j) = mAll (A0 m c) (A2 m c) (ix2 (row t i) j) := by
  rw [pay_m, mAll, g_apply, iblk2]
theorem v_apply (c : Dev nD) (t : Fin cfg0.N) (i : Fin 8) (j : Fin 1024) :
    k0_pay1 (F := Ideal) (k0_pay5 (F := Ideal) (iblk m c 0 t) (iblk m c 1 t) (iblk m c 2 t) (iblk m c 3 t)) (iblk m c 3 t) (ix2 i j) = vAll (A0 m c) (A3 m c) (ix2 (row t i) j) := by
  rw [pay_v, vAll, g_apply, iblk3]
theorem d_apply (c : Dev nD) (t : Fin cfg0.N) (i : Fin 8) (j : Fin 1024) :
    k0_pay2 (F := Ideal) (k0_pay5 (F := Ideal) (iblk m c 0 t) (iblk m c 1 t) (iblk m c 2 t) (iblk m c 3 t)) (k0_pay6 (F := Ideal) (iblk m c 0 t) (iblk m c 1 t) (iblk m c 2 t) (iblk m c 3 t)) (iblk m c 3 t) (iblk m c 1 t) (ix2 i j)
      = dAll (A0 m c) (A1 m c) (A2 m c) (A3 m c) (ix2 (row t i) j) := by
  rw [pay_d, dAll, m_apply, v_apply, iblk1]

theorem final4 (c : Dev nD) : (dats m 0 c).arrAt 4 cfg0.N = gAll (A0 m c) := by
  refine (dats m 0 c).arrAt_eq_of_covers 4 _ (by decide +kernel) fun t hf y => ?_
  obtain ⟨i, j, rfl⟩ : ∃ (i : Fin 8) (j : Fin 1024), y = ix2 i j := ⟨y 0, y 1, by blk_ext⟩
  blk_simp
  rw [after0_4, out0_4]
  frame_out
  refine (g_apply m c t i j).trans ?_
  congr 1
  blk_ext [idx t]

theorem final5 (c : Dev nD) : (dats m 0 c).arrAt 5 cfg0.N = dAll (A0 m c) (A1 m c) (A2 m c) (A3 m c) := by
  refine (dats m 0 c).arrAt_eq_of_covers 5 _ (by decide +kernel) fun t hf y => ?_
  obtain ⟨i, j, rfl⟩ : ∃ (i : Fin 8) (j : Fin 1024), y = ix2 i j := ⟨y 0, y 1, by blk_ext⟩
  blk_simp
  rw [after0_5, out0_5]
  frame_out
  refine (d_apply m c t i j).trans ?_
  congr 1
  blk_ext [idx t]

theorem final6 (c : Dev nD) : (dats m 0 c).arrAt 6 cfg0.N = mAll (A0 m c) (A2 m c) := by
  refine (dats m 0 c).arrAt_eq_of_covers 6 _ (by decide +kernel) fun t hf y => ?_
  obtain ⟨i, j, rfl⟩ : ∃ (i : Fin 8) (j : Fin 1024), y = ix2 i j := ⟨y 0, y 1, by blk_ext⟩
  blk_simp
  rw [after0_6, out0_6]
  frame_out
  refine (m_apply m c t i j).trans ?_
  congr 1
  blk_ext [idx t]

theorem final7 (c : Dev nD) : (dats m 0 c).arrAt 7 cfg0.N = vAll (A0 m c) (A3 m c) := by
  refine (dats m 0 c).arrAt_eq_of_covers 7 _ (by decide +kernel) fun t hf y => ?_
  obtain ⟨i, j, rfl⟩ : ∃ (i : Fin 8) (j : Fin 1024), y = ix2 i j := ⟨y 0, y 1, by blk_ext⟩
  blk_simp
  rw [after0_7, out0_7]
  frame_out
  refine (v_apply m c t i j).trans ?_
  congr 1
  blk_ext [idx t]

theorem arr4 (c : Dev nD) : Pipeline.withArrays spec0 c (V0 m c) (fun w => (dats m 0 c).arrAt w cfg0.N) (Proc.devRef .tc main_v24_0) = (dats m 0 c).arrAt 4 cfg0.N :=
  Pipeline.withArrays_arr spec0 winFacts0.arr_inj c _ _ 4

theorem arr5 (c : Dev nD) : Pipeline.withArrays spec0 c (V0 m c) (fun w => (dats m 0 c).arrAt w cfg0.N) (Proc.devRef .tc main_v24_1) = (dats m 0 c).arrAt 5 cfg0.N :=
  Pipeline.withArrays_arr spec0 winFacts0.arr_inj c _ _ 5

theorem arr6 (c : Dev nD) : Pipeline.withArrays spec0 c (V0 m c) (fun w => (dats m 0 c).arrAt w cfg0.N) (Proc.devRef .tc main_v24_2) = (dats m 0 c).arrAt 6 cfg0.N :=
  Pipeline.withArrays_arr spec0 winFacts0.arr_inj c _ _ 6

theorem arr7 (c : Dev nD) : Pipeline.withArrays spec0 c (V0 m c) (fun w => (dats m 0 c).arrAt w cfg0.N) (Proc.devRef .tc main_v24_3) = (dats m 0 c).arrAt 7 cfg0.N :=
  Pipeline.withArrays_arr spec0 winFacts0.arr_inj c _ _ 7

/-! ## Packing: element `q` of the joined arrays is at row `q / 1024`, column `q % 1024` -/

def hi (q : ℕ) (h : q < 8192) : Fin 8 := ⟨q / 1024, by omega⟩
def lo (q : ℕ) : Fin 1024 := ⟨q % 1024, by omega⟩

abbrev ops : List (HloOp τ sig (Elt Ideal)) := [hostOps0, hostOps0_1, hostOps0_2, hostOps0_3, hostOps0_4, hostOps0_5, hostOps0_6, hostOps0_7, hostOps0_8].flatten

theorem packed0 (c : Dev nD) : V m c main_v5 = shapeCast S8x8x1024 (pad (α := Elt Ideal .f32) S8x8192 ![0, 0] ![0, 4079] ![0, 0] (concatenate (α := Elt Ideal .f32) S8x4113 1 [⟨S8x1024, (shapeCast S8x1024 (m (c.tc.loc main_arg12)) shapeCasts_S8x1x1024_S8x1024 : Vec Ideal S8x1024 .f32)⟩, ⟨S8x16, (shapeCast S8x16 (m (c.tc.loc main_arg13)) shapeCasts_S8x1x16_S8x16 : Vec Ideal S8x16 .f32)⟩, ⟨S8x2048, (shapeCast S8x2048 (m (c.tc.loc main_arg14)) shapeCasts_S8x2x1024_S8x2048 : Vec Ideal S8x2048 .f32)⟩, ⟨S8x1024, (m (c.tc.loc main_arg15) : Vec Ideal S8x1024 .f32)⟩, ⟨S8x1, (m (c.tc.loc main_arg16) : Vec Ideal S8x1 .f32)⟩] concatenates_S8x1024_S8x16_S8x2048_S8x1024_S8x1_S8x4113_d1)
    (sitofp (F := Ideal) .f32 (constantI S_ 32 0#32)) pads_S8x4113_S8x8192_000_040790 h_S_) shapeCasts_S8x8192_S8x8x1024 := by
  have r0 : (StableHlo.upto ops (fun b => m (c, b)) 3 (Proc.devRef .tc main_v0) : Vec Ideal S8x1024 .f32) = shapeCast S8x1024 (m (c.tc.loc main_arg12)) shapeCasts_S8x1x1024_S8x1024 := by
    unfold ops
    after_reads_simp
    try rfl
  have r1 : (StableHlo.upto ops (fun b => m (c, b)) 3 (Proc.devRef .tc main_v1) : Vec Ideal S8x16 .f32) = shapeCast S8x16 (m (c.tc.loc main_arg13)) shapeCasts_S8x1x16_S8x16 := by
    unfold ops
    after_reads_simp
    try rfl
  have r2 : (StableHlo.upto ops (fun b => m (c, b)) 3 (Proc.devRef .tc main_v2) : Vec Ideal S8x2048 .f32) = shapeCast S8x2048 (m (c.tc.loc main_arg14)) shapeCasts_S8x2x1024_S8x2048 := by
    unfold ops
    after_reads_simp
    try rfl
  have r3 : (StableHlo.upto ops (fun b => m (c, b)) 3 (Proc.devRef .tc main_arg15) : Vec Ideal S8x1024 .f32) = m (c.tc.loc main_arg15) := by
    unfold ops
    after_reads_simp
    try rfl
  have r4 : (StableHlo.upto ops (fun b => m (c, b)) 3 (Proc.devRef .tc main_arg16) : Vec Ideal S8x1 .f32) = m (c.tc.loc main_arg16) := by
    unfold ops
    after_reads_simp
    try rfl
  have e := congr (congr (congr (congr (congrArg (fun (x0 : Vec Ideal S8x1024 .f32) (x1 : Vec Ideal S8x16 .f32) (x2 : Vec Ideal S8x2048 .f32) (x3 : Vec Ideal S8x1024 .f32) (x4 : Vec Ideal S8x1 .f32) => shapeCast S8x8x1024 (pad (α := Elt Ideal .f32) S8x8192 ![0, 0] ![0, 4079] ![0, 0] (concatenate (α := Elt Ideal .f32) S8x4113 1 [⟨S8x1024, x0⟩, ⟨S8x16, x1⟩, ⟨S8x2048, x2⟩, ⟨S8x1024, x3⟩, ⟨S8x1, x4⟩] concatenates_S8x1024_S8x16_S8x2048_S8x1024_S8x1_S8x4113_d1)
    (sitofp (F := Ideal) .f32 (constantI S_ 32 0#32)) pads_S8x4113_S8x8192_000_040790 h_S_) shapeCasts_S8x8192_S8x8x1024) r0) r1) r2) r3) r4
  unfold V V0
  after_reads_simp
  exact e

theorem packed1 (c : Dev nD) : V m c main_v11 = shapeCast S8x1024 (pad (α := Elt Ideal .f32) S8192 ![0] ![4080] ![0] (concatenate (α := Elt Ideal .f32) S4112 0 [⟨S1024, (shapeCast S1024 (m (c.tc.loc main_arg0)) shapeCasts_S1x1024_S1024 : Vec Ideal S1024 .f32)⟩, ⟨S16, (shapeCast S16 (m (c.tc.loc main_arg1)) shapeCasts_S1x16_S16 : Vec Ideal S16 .f32)⟩, ⟨S2048, (shapeCast S2048 (m (c.tc.loc main_arg2)) shapeCasts_S2x1024_S2048 : Vec Ideal S2048 .f32)⟩, ⟨S1024, (m (c.tc.loc main_arg3) : Vec Ideal S1024 .f32)⟩] concatenates_S1024_S16_S2048_S1024_S4112_d0)
    (sitofp (F := Ideal) .f32 (constantI S_ 32 0#32)) pads_S4112_S8192_040800 h_S_) shapeCasts_S8192_S8x1024 := by
  have r0 : (StableHlo.upto ops (fun b => m (c, b)) 11 (Proc.devRef .tc main_v6) : Vec Ideal S1024 .f32) = shapeCast S1024 (m (c.tc.loc main_arg0)) shapeCasts_S1x1024_S1024 := by
    unfold ops
    after_reads_simp
    try rfl
  have r1 : (StableHlo.upto ops (fun b => m (c, b)) 11 (Proc.devRef .tc main_v7) : Vec Ideal S16 .f32) = shapeCast S16 (m (c.tc.loc main_arg1)) shapeCasts_S1x16_S16 := by
    unfold ops
    after_reads_simp
    try rfl
  have r2 : (StableHlo.upto ops (fun b => m (c, b)) 11 (Proc.devRef .tc main_v8) : Vec Ideal S2048 .f32) = shapeCast S2048 (m (c.tc.loc main_arg2)) shapeCasts_S2x1024_S2048 := by
    unfold ops
    after_reads_simp
    try rfl
  have r3 : (StableHlo.upto ops (fun b => m (c, b)) 11 (Proc.devRef .tc main_arg3) : Vec Ideal S1024 .f32) = m (c.tc.loc main_arg3) := by
    unfold ops
    after_reads_simp
    try rfl
  have e := congr (congr (congr (congrArg (fun (x0 : Vec Ideal S1024 .f32) (x1 : Vec Ideal S16 .f32) (x2 : Vec Ideal S2048 .f32) (x3 : Vec Ideal S1024 .f32) => shapeCast S8x1024 (pad (α := Elt Ideal .f32) S8192 ![0] ![4080] ![0] (concatenate (α := Elt Ideal .f32) S4112 0 [⟨S1024, x0⟩, ⟨S16, x1⟩, ⟨S2048, x2⟩, ⟨S1024, x3⟩] concatenates_S1024_S16_S2048_S1024_S4112_d0)
    (sitofp (F := Ideal) .f32 (constantI S_ 32 0#32)) pads_S4112_S8192_040800 h_S_) shapeCasts_S8192_S8x1024) r0) r1) r2) r3
  unfold V V0
  after_reads_simp
  exact e

theorem packed2 (c : Dev nD) : V m c main_v17 = shapeCast S8x1024 (pad (α := Elt Ideal .f32) S8192 ![0] ![4080] ![0] (concatenate (α := Elt Ideal .f32) S4112 0 [⟨S1024, (shapeCast S1024 (m (c.tc.loc main_arg4)) shapeCasts_S1x1024_S1024 : Vec Ideal S1024 .f32)⟩, ⟨S16, (shapeCast S16 (m (c.tc.loc main_arg5)) shapeCasts_S1x16_S16 : Vec Ideal S16 .f32)⟩, ⟨S2048, (shapeCast S2048 (m (c.tc.loc main_arg6)) shapeCasts_S2x1024_S2048 : Vec Ideal S2048 .f32)⟩, ⟨S1024, (m (c.tc.loc main_arg7) : Vec Ideal S1024 .f32)⟩] concatenates_S1024_S16_S2048_S1024_S4112_d0)
    (sitofp (F := Ideal) .f32 (constantI S_ 32 0#32)) pads_S4112_S8192_040800 h_S_) shapeCasts_S8192_S8x1024 := by
  have r0 : (StableHlo.upto ops (fun b => m (c, b)) 19 (Proc.devRef .tc main_v12) : Vec Ideal S1024 .f32) = shapeCast S1024 (m (c.tc.loc main_arg4)) shapeCasts_S1x1024_S1024 := by
    unfold ops
    after_reads_simp
    try rfl
  have r1 : (StableHlo.upto ops (fun b => m (c, b)) 19 (Proc.devRef .tc main_v13) : Vec Ideal S16 .f32) = shapeCast S16 (m (c.tc.loc main_arg5)) shapeCasts_S1x16_S16 := by
    unfold ops
    after_reads_simp
    try rfl
  have r2 : (StableHlo.upto ops (fun b => m (c, b)) 19 (Proc.devRef .tc main_v14) : Vec Ideal S2048 .f32) = shapeCast S2048 (m (c.tc.loc main_arg6)) shapeCasts_S2x1024_S2048 := by
    unfold ops
    after_reads_simp
    try rfl
  have r3 : (StableHlo.upto ops (fun b => m (c, b)) 19 (Proc.devRef .tc main_arg7) : Vec Ideal S1024 .f32) = m (c.tc.loc main_arg7) := by
    unfold ops
    after_reads_simp
    try rfl
  have e := congr (congr (congr (congrArg (fun (x0 : Vec Ideal S1024 .f32) (x1 : Vec Ideal S16 .f32) (x2 : Vec Ideal S2048 .f32) (x3 : Vec Ideal S1024 .f32) => shapeCast S8x1024 (pad (α := Elt Ideal .f32) S8192 ![0] ![4080] ![0] (concatenate (α := Elt Ideal .f32) S4112 0 [⟨S1024, x0⟩, ⟨S16, x1⟩, ⟨S2048, x2⟩, ⟨S1024, x3⟩] concatenates_S1024_S16_S2048_S1024_S4112_d0)
    (sitofp (F := Ideal) .f32 (constantI S_ 32 0#32)) pads_S4112_S8192_040800 h_S_) shapeCasts_S8192_S8x1024) r0) r1) r2) r3
  unfold V V0
  after_reads_simp
  exact e

theorem packed3 (c : Dev nD) : V m c main_v23 = shapeCast S8x1024 (pad (α := Elt Ideal .f32) S8192 ![0] ![4080] ![0] (concatenate (α := Elt Ideal .f32) S4112 0 [⟨S1024, (shapeCast S1024 (m (c.tc.loc main_arg8)) shapeCasts_S1x1024_S1024 : Vec Ideal S1024 .f32)⟩, ⟨S16, (shapeCast S16 (m (c.tc.loc main_arg9)) shapeCasts_S1x16_S16 : Vec Ideal S16 .f32)⟩, ⟨S2048, (shapeCast S2048 (m (c.tc.loc main_arg10)) shapeCasts_S2x1024_S2048 : Vec Ideal S2048 .f32)⟩, ⟨S1024, (m (c.tc.loc main_arg11) : Vec Ideal S1024 .f32)⟩] concatenates_S1024_S16_S2048_S1024_S4112_d0)
    (sitofp (F := Ideal) .f32 (constantI S_ 32 0#32)) pads_S4112_S8192_040800 h_S_) shapeCasts_S8192_S8x1024 := by
  have r0 : (StableHlo.upto ops (fun b => m (c, b)) 27 (Proc.devRef .tc main_v18) : Vec Ideal S1024 .f32) = shapeCast S1024 (m (c.tc.loc main_arg8)) shapeCasts_S1x1024_S1024 := by
    unfold ops
    after_reads_simp
    try rfl
  have r1 : (StableHlo.upto ops (fun b => m (c, b)) 27 (Proc.devRef .tc main_v19) : Vec Ideal S16 .f32) = shapeCast S16 (m (c.tc.loc main_arg9)) shapeCasts_S1x16_S16 := by
    unfold ops
    after_reads_simp
    try rfl
  have r2 : (StableHlo.upto ops (fun b => m (c, b)) 27 (Proc.devRef .tc main_v20) : Vec Ideal S2048 .f32) = shapeCast S2048 (m (c.tc.loc main_arg10)) shapeCasts_S2x1024_S2048 := by
    unfold ops
    after_reads_simp
    try rfl
  have r3 : (StableHlo.upto ops (fun b => m (c, b)) 27 (Proc.devRef .tc main_arg11) : Vec Ideal S1024 .f32) = m (c.tc.loc main_arg11) := by
    unfold ops
    after_reads_simp
    try rfl
  have e := congr (congr (congr (congrArg (fun (x0 : Vec Ideal S1024 .f32) (x1 : Vec Ideal S16 .f32) (x2 : Vec Ideal S2048 .f32) (x3 : Vec Ideal S1024 .f32) => shapeCast S8x1024 (pad (α := Elt Ideal .f32) S8192 ![0] ![4080] ![0] (concatenate (α := Elt Ideal .f32) S4112 0 [⟨S1024, x0⟩, ⟨S16, x1⟩, ⟨S2048, x2⟩, ⟨S1024, x3⟩] concatenates_S1024_S16_S2048_S1024_S4112_d0)
    (sitofp (F := Ideal) .f32 (constantI S_ 32 0#32)) pads_S4112_S8192_040800 h_S_) shapeCasts_S8192_S8x1024) r0) r1) r2) r3
  unfold V V0
  after_reads_simp
  exact e

theorem ix1_eq {n0 : ℕ} {a a' : Fin n0} (h0 : a.val = a'.val) : ix1 a = ix1 a' := by
  obtain rfl : a = a' := Fin.ext h0
  rfl

theorem ix2_eq {n0 n1 : ℕ} {a a' : Fin n0} {b b' : Fin n1} (h0 : a.val = a'.val) (h1 : b.val = b'.val) : ix2 a b = ix2 a' b' := by
  obtain ⟨rfl, rfl⟩ : a = a' ∧ b = b' := ⟨Fin.ext h0, Fin.ext h1⟩
  rfl

theorem ix3_eq {n0 n1 n2 : ℕ} {a a' : Fin n0} {b b' : Fin n1} {u u' : Fin n2} (h0 : a.val = a'.val) (h1 : b.val = b'.val) (h2 : u.val = u'.val) : ix3 a b u = ix3 a' b' u' := by
  obtain ⟨rfl, rfl, rfl⟩ : a = a' ∧ b = b' ∧ u = u' := ⟨Fin.ext h0, Fin.ext h1, Fin.ext h2⟩
  rfl

theorem flat0 (X : Vec Ideal S8x8192 .f32) (p : Fin 8) (q : ℕ) (h : q < 8192) :
    (shapeCast S8x8x1024 X shapeCasts_S8x8192_S8x8x1024 : Vec Ideal S8x8x1024 .f32) (ix3 p (hi q h) (lo q)) = X (ix2 p ⟨q, h⟩) := by
  pointwise [hi, lo]
  refine congrArg X (ix2_eq rfl ?_)
  first | omega | (dsimp only; omega) | (simp; omega)

theorem padded0 (Y : Vec Ideal S8x4113 .f32) (v : Vec Ideal S_ .f32) (p : Fin 8) (q : ℕ) (h : q < 4113) :
    (pad (α := Elt Ideal .f32) S8x8192 ![0, 0] ![0, 4079] ![0, 0] Y v pads_S8x4113_S8x8192_000_040790 h_S_ : Vec Ideal S8x8192 .f32) (ix2 p ⟨q, by omega⟩) = Y (ix2 p ⟨q, h⟩) := by
  pointwise
  split_ifs <;> first | rfl | (exfalso; omega)

theorem cat0_0 (x0 : Vec Ideal S8x1024 .f32) (x1 : Vec Ideal S8x16 .f32) (x2 : Vec Ideal S8x2048 .f32) (x3 : Vec Ideal S8x1024 .f32) (x4 : Vec Ideal S8x1 .f32) (p : Fin 8) (q : ℕ) (h : q < 1024) :
    (concatenate (α := Elt Ideal .f32) S8x4113 1 [⟨S8x1024, x0⟩, ⟨S8x16, x1⟩, ⟨S8x2048, x2⟩, ⟨S8x1024, x3⟩, ⟨S8x1, x4⟩] concatenates_S8x1024_S8x16_S8x2048_S8x1024_S8x1_S8x4113_d1 : Vec Ideal S8x4113 .f32) (ix2 p ⟨0 + q, by omega⟩) = x0 (ix2 p ⟨q, h⟩) := by
  pointwise
  split_ifs <;> first
    | (exfalso; omega)
    | (refine congrArg x0 (ix2_eq rfl ?_); first | omega | (dsimp only; omega) | (simp; omega))

theorem cat0_1 (x0 : Vec Ideal S8x1024 .f32) (x1 : Vec Ideal S8x16 .f32) (x2 : Vec Ideal S8x2048 .f32) (x3 : Vec Ideal S8x1024 .f32) (x4 : Vec Ideal S8x1 .f32) (p : Fin 8) (q : ℕ) (h : q < 16) :
    (concatenate (α := Elt Ideal .f32) S8x4113 1 [⟨S8x1024, x0⟩, ⟨S8x16, x1⟩, ⟨S8x2048, x2⟩, ⟨S8x1024, x3⟩, ⟨S8x1, x4⟩] concatenates_S8x1024_S8x16_S8x2048_S8x1024_S8x1_S8x4113_d1 : Vec Ideal S8x4113 .f32) (ix2 p ⟨1024 + q, by omega⟩) = x1 (ix2 p ⟨q, h⟩) := by
  pointwise
  split_ifs <;> first
    | (exfalso; omega)
    | (refine congrArg x1 (ix2_eq rfl ?_); first | omega | (dsimp only; omega) | (simp; omega))

theorem cat0_2 (x0 : Vec Ideal S8x1024 .f32) (x1 : Vec Ideal S8x16 .f32) (x2 : Vec Ideal S8x2048 .f32) (x3 : Vec Ideal S8x1024 .f32) (x4 : Vec Ideal S8x1 .f32) (p : Fin 8) (q : ℕ) (h : q < 2048) :
    (concatenate (α := Elt Ideal .f32) S8x4113 1 [⟨S8x1024, x0⟩, ⟨S8x16, x1⟩, ⟨S8x2048, x2⟩, ⟨S8x1024, x3⟩, ⟨S8x1, x4⟩] concatenates_S8x1024_S8x16_S8x2048_S8x1024_S8x1_S8x4113_d1 : Vec Ideal S8x4113 .f32) (ix2 p ⟨1040 + q, by omega⟩) = x2 (ix2 p ⟨q, h⟩) := by
  pointwise
  split_ifs <;> first
    | (exfalso; omega)
    | (refine congrArg x2 (ix2_eq rfl ?_); first | omega | (dsimp only; omega) | (simp; omega))

theorem cat0_3 (x0 : Vec Ideal S8x1024 .f32) (x1 : Vec Ideal S8x16 .f32) (x2 : Vec Ideal S8x2048 .f32) (x3 : Vec Ideal S8x1024 .f32) (x4 : Vec Ideal S8x1 .f32) (p : Fin 8) (q : ℕ) (h : q < 1024) :
    (concatenate (α := Elt Ideal .f32) S8x4113 1 [⟨S8x1024, x0⟩, ⟨S8x16, x1⟩, ⟨S8x2048, x2⟩, ⟨S8x1024, x3⟩, ⟨S8x1, x4⟩] concatenates_S8x1024_S8x16_S8x2048_S8x1024_S8x1_S8x4113_d1 : Vec Ideal S8x4113 .f32) (ix2 p ⟨3088 + q, by omega⟩) = x3 (ix2 p ⟨q, h⟩) := by
  pointwise
  split_ifs <;> first
    | (exfalso; omega)
    | (refine congrArg x3 (ix2_eq rfl ?_); first | omega | (dsimp only; omega) | (simp; omega))

theorem flat1 (X : Vec Ideal S8192 .f32) (q : ℕ) (h : q < 8192) :
    (shapeCast S8x1024 X shapeCasts_S8192_S8x1024 : Vec Ideal S8x1024 .f32) (ix2 (hi q h) (lo q)) = X (ix1 ⟨q, h⟩) := by
  pointwise [hi, lo]
  refine congrArg X (ix1_eq ?_)
  first | omega | (dsimp only; omega) | (simp; omega)

theorem padded1 (Y : Vec Ideal S4112 .f32) (v : Vec Ideal S_ .f32) (q : ℕ) (h : q < 4112) :
    (pad (α := Elt Ideal .f32) S8192 ![0] ![4080] ![0] Y v pads_S4112_S8192_040800 h_S_ : Vec Ideal S8192 .f32) (ix1 ⟨q, by omega⟩) = Y (ix1 ⟨q, h⟩) := by
  pointwise
  split_ifs <;> first | rfl | (exfalso; omega)

theorem cat1_0 (x0 : Vec Ideal S1024 .f32) (x1 : Vec Ideal S16 .f32) (x2 : Vec Ideal S2048 .f32) (x3 : Vec Ideal S1024 .f32) (q : ℕ) (h : q < 1024) :
    (concatenate (α := Elt Ideal .f32) S4112 0 [⟨S1024, x0⟩, ⟨S16, x1⟩, ⟨S2048, x2⟩, ⟨S1024, x3⟩] concatenates_S1024_S16_S2048_S1024_S4112_d0 : Vec Ideal S4112 .f32) (ix1 ⟨0 + q, by omega⟩) = x0 (ix1 ⟨q, h⟩) := by
  pointwise
  split_ifs <;> first
    | (exfalso; omega)
    | (refine congrArg x0 (ix1_eq ?_); first | omega | (dsimp only; omega) | (simp; omega))

theorem cat1_1 (x0 : Vec Ideal S1024 .f32) (x1 : Vec Ideal S16 .f32) (x2 : Vec Ideal S2048 .f32) (x3 : Vec Ideal S1024 .f32) (q : ℕ) (h : q < 16) :
    (concatenate (α := Elt Ideal .f32) S4112 0 [⟨S1024, x0⟩, ⟨S16, x1⟩, ⟨S2048, x2⟩, ⟨S1024, x3⟩] concatenates_S1024_S16_S2048_S1024_S4112_d0 : Vec Ideal S4112 .f32) (ix1 ⟨1024 + q, by omega⟩) = x1 (ix1 ⟨q, h⟩) := by
  pointwise
  split_ifs <;> first
    | (exfalso; omega)
    | (refine congrArg x1 (ix1_eq ?_); first | omega | (dsimp only; omega) | (simp; omega))

theorem cat1_2 (x0 : Vec Ideal S1024 .f32) (x1 : Vec Ideal S16 .f32) (x2 : Vec Ideal S2048 .f32) (x3 : Vec Ideal S1024 .f32) (q : ℕ) (h : q < 2048) :
    (concatenate (α := Elt Ideal .f32) S4112 0 [⟨S1024, x0⟩, ⟨S16, x1⟩, ⟨S2048, x2⟩, ⟨S1024, x3⟩] concatenates_S1024_S16_S2048_S1024_S4112_d0 : Vec Ideal S4112 .f32) (ix1 ⟨1040 + q, by omega⟩) = x2 (ix1 ⟨q, h⟩) := by
  pointwise
  split_ifs <;> first
    | (exfalso; omega)
    | (refine congrArg x2 (ix1_eq ?_); first | omega | (dsimp only; omega) | (simp; omega))

theorem cat1_3 (x0 : Vec Ideal S1024 .f32) (x1 : Vec Ideal S16 .f32) (x2 : Vec Ideal S2048 .f32) (x3 : Vec Ideal S1024 .f32) (q : ℕ) (h : q < 1024) :
    (concatenate (α := Elt Ideal .f32) S4112 0 [⟨S1024, x0⟩, ⟨S16, x1⟩, ⟨S2048, x2⟩, ⟨S1024, x3⟩] concatenates_S1024_S16_S2048_S1024_S4112_d0 : Vec Ideal S4112 .f32) (ix1 ⟨3088 + q, by omega⟩) = x3 (ix1 ⟨q, h⟩) := by
  pointwise
  split_ifs <;> first
    | (exfalso; omega)
    | (refine congrArg x3 (ix1_eq ?_); first | omega | (dsimp only; omega) | (simp; omega))

theorem cast0_0 (X : Vec Ideal S8x1x1024 .f32) (p : Fin 8) (a : Fin 1) (b : Fin 1024) :
    (shapeCast S8x1024 X shapeCasts_S8x1x1024_S8x1024 : Vec Ideal S8x1024 .f32) (ix2 p ⟨(a.val * 1024 + b.val), by omega⟩) = X (ix3 p a b) := by
  pointwise
  try (first | rfl | (refine congrArg X (ix3_eq ?_ ?_ ?_) <;> first | rfl | omega | (try dsimp only; omega) | (simp; omega)))

theorem cast1_0 (X : Vec Ideal S1x1024 .f32) (a : Fin 1) (b : Fin 1024) :
    (shapeCast S1024 X shapeCasts_S1x1024_S1024 : Vec Ideal S1024 .f32) (ix1 ⟨(a.val * 1024 + b.val), by omega⟩) = X (ix2 a b) := by
  pointwise
  try (first | rfl | (refine congrArg X (ix2_eq ?_ ?_) <;> first | rfl | omega | (try dsimp only; omega) | (simp; omega)))

theorem pack0_0 (c : Dev nD) (p : Fin 8) (a : Fin 1) (b : Fin 1024) : A0 m c (ix3 p (hi (0 + (a.val * 1024 + b.val)) (by omega)) (lo (0 + (a.val * 1024 + b.val))))
    = m (c.tc.loc main_arg12) (ix3 p a b) := by
  exact (congrFun (packed0 m c) _).trans <| (flat0 _ p _ _).trans ((padded0 _ _ p (0 + (a.val * 1024 + b.val)) (by omega)).trans ((cat0_0 _ _ _ _ _ p _ (by omega)).trans
    (cast0_0 _ p a b)))

theorem pack1_0 (c : Dev nD) (a : Fin 1) (b : Fin 1024) : A1 m c (ix2 (hi (0 + (a.val * 1024 + b.val)) (by omega)) (lo (0 + (a.val * 1024 + b.val))))
    = m (c.tc.loc main_arg0) (ix2 a b) := by
  exact (congrFun (packed1 m c) _).trans <| (flat1 _ _ _).trans ((padded1 _ _ (0 + (a.val * 1024 + b.val)) (by omega)).trans ((cat1_0 _ _ _ _ _ (by omega)).trans
    (cast1_0 _ a b)))

theorem pack2_0 (c : Dev nD) (a : Fin 1) (b : Fin 1024) : A2 m c (ix2 (hi (0 + (a.val * 1024 + b.val)) (by omega)) (lo (0 + (a.val * 1024 + b.val))))
    = m (c.tc.loc main_arg4) (ix2 a b) := by
  exact (congrFun (packed2 m c) _).trans <| (flat1 _ _ _).trans ((padded1 _ _ (0 + (a.val * 1024 + b.val)) (by omega)).trans ((cat1_0 _ _ _ _ _ (by omega)).trans
    (cast1_0 _ a b)))

theorem pack3_0 (c : Dev nD) (a : Fin 1) (b : Fin 1024) : A3 m c (ix2 (hi (0 + (a.val * 1024 + b.val)) (by omega)) (lo (0 + (a.val * 1024 + b.val))))
    = m (c.tc.loc main_arg8) (ix2 a b) := by
  exact (congrFun (packed3 m c) _).trans <| (flat1 _ _ _).trans ((padded1 _ _ (0 + (a.val * 1024 + b.val)) (by omega)).trans ((cat1_0 _ _ _ _ _ (by omega)).trans
    (cast1_0 _ a b)))

theorem unpack_0 (X : Whole) (a : Fin 1) (b : Fin 1024) : shapeCast S1x1024 (extractStridedSlice S1024 ![0] (shapeCast S8192 (X) shapeCasts_S8x1024_S8192) slices_S8192_S1024_0) shapeCasts_S1024_S1x1024 (ix2 a b) = X (ix2 (hi (0 + (a.val * 1024 + b.val)) (by omega)) (lo (0 + (a.val * 1024 + b.val)))) := by
  pointwise [hi, lo]

theorem cast0_1 (X : Vec Ideal S8x1x16 .f32) (p : Fin 8) (a : Fin 1) (b : Fin 16) :
    (shapeCast S8x16 X shapeCasts_S8x1x16_S8x16 : Vec Ideal S8x16 .f32) (ix2 p ⟨(a.val * 16 + b.val), by omega⟩) = X (ix3 p a b) := by
  pointwise
  try (first | rfl | (refine congrArg X (ix3_eq ?_ ?_ ?_) <;> first | rfl | omega | (try dsimp only; omega) | (simp; omega)))

theorem cast1_1 (X : Vec Ideal S1x16 .f32) (a : Fin 1) (b : Fin 16) :
    (shapeCast S16 X shapeCasts_S1x16_S16 : Vec Ideal S16 .f32) (ix1 ⟨(a.val * 16 + b.val), by omega⟩) = X (ix2 a b) := by
  pointwise
  try (first | rfl | (refine congrArg X (ix2_eq ?_ ?_) <;> first | rfl | omega | (try dsimp only; omega) | (simp; omega)))

theorem pack0_1 (c : Dev nD) (p : Fin 8) (a : Fin 1) (b : Fin 16) : A0 m c (ix3 p (hi (1024 + (a.val * 16 + b.val)) (by omega)) (lo (1024 + (a.val * 16 + b.val))))
    = m (c.tc.loc main_arg13) (ix3 p a b) := by
  exact (congrFun (packed0 m c) _).trans <| (flat0 _ p _ _).trans ((padded0 _ _ p (1024 + (a.val * 16 + b.val)) (by omega)).trans ((cat0_1 _ _ _ _ _ p _ (by omega)).trans
    (cast0_1 _ p a b)))

theorem pack1_1 (c : Dev nD) (a : Fin 1) (b : Fin 16) : A1 m c (ix2 (hi (1024 + (a.val * 16 + b.val)) (by omega)) (lo (1024 + (a.val * 16 + b.val))))
    = m (c.tc.loc main_arg1) (ix2 a b) := by
  exact (congrFun (packed1 m c) _).trans <| (flat1 _ _ _).trans ((padded1 _ _ (1024 + (a.val * 16 + b.val)) (by omega)).trans ((cat1_1 _ _ _ _ _ (by omega)).trans
    (cast1_1 _ a b)))

theorem pack2_1 (c : Dev nD) (a : Fin 1) (b : Fin 16) : A2 m c (ix2 (hi (1024 + (a.val * 16 + b.val)) (by omega)) (lo (1024 + (a.val * 16 + b.val))))
    = m (c.tc.loc main_arg5) (ix2 a b) := by
  exact (congrFun (packed2 m c) _).trans <| (flat1 _ _ _).trans ((padded1 _ _ (1024 + (a.val * 16 + b.val)) (by omega)).trans ((cat1_1 _ _ _ _ _ (by omega)).trans
    (cast1_1 _ a b)))

theorem pack3_1 (c : Dev nD) (a : Fin 1) (b : Fin 16) : A3 m c (ix2 (hi (1024 + (a.val * 16 + b.val)) (by omega)) (lo (1024 + (a.val * 16 + b.val))))
    = m (c.tc.loc main_arg9) (ix2 a b) := by
  exact (congrFun (packed3 m c) _).trans <| (flat1 _ _ _).trans ((padded1 _ _ (1024 + (a.val * 16 + b.val)) (by omega)).trans ((cat1_1 _ _ _ _ _ (by omega)).trans
    (cast1_1 _ a b)))

theorem unpack_1 (X : Whole) (a : Fin 1) (b : Fin 16) : shapeCast S1x16 (extractStridedSlice S16 ![1024] (shapeCast S8192 (X) shapeCasts_S8x1024_S8192) slices_S8192_S16_1024) shapeCasts_S16_S1x16 (ix2 a b) = X (ix2 (hi (1024 + (a.val * 16 + b.val)) (by omega)) (lo (1024 + (a.val * 16 + b.val)))) := by
  pointwise [hi, lo]

theorem cast0_2 (X : Vec Ideal S8x2x1024 .f32) (p : Fin 8) (a : Fin 2) (b : Fin 1024) :
    (shapeCast S8x2048 X shapeCasts_S8x2x1024_S8x2048 : Vec Ideal S8x2048 .f32) (ix2 p ⟨(a.val * 1024 + b.val), by omega⟩) = X (ix3 p a b) := by
  pointwise
  try (first | rfl | (refine congrArg X (ix3_eq ?_ ?_ ?_) <;> first | rfl | omega | (try dsimp only; omega) | (simp; omega)))

theorem cast1_2 (X : Vec Ideal S2x1024 .f32) (a : Fin 2) (b : Fin 1024) :
    (shapeCast S2048 X shapeCasts_S2x1024_S2048 : Vec Ideal S2048 .f32) (ix1 ⟨(a.val * 1024 + b.val), by omega⟩) = X (ix2 a b) := by
  pointwise
  try (first | rfl | (refine congrArg X (ix2_eq ?_ ?_) <;> first | rfl | omega | (try dsimp only; omega) | (simp; omega)))

theorem pack0_2 (c : Dev nD) (p : Fin 8) (a : Fin 2) (b : Fin 1024) : A0 m c (ix3 p (hi (1040 + (a.val * 1024 + b.val)) (by omega)) (lo (1040 + (a.val * 1024 + b.val))))
    = m (c.tc.loc main_arg14) (ix3 p a b) := by
  exact (congrFun (packed0 m c) _).trans <| (flat0 _ p _ _).trans ((padded0 _ _ p (1040 + (a.val * 1024 + b.val)) (by omega)).trans ((cat0_2 _ _ _ _ _ p _ (by omega)).trans
    (cast0_2 _ p a b)))

theorem pack1_2 (c : Dev nD) (a : Fin 2) (b : Fin 1024) : A1 m c (ix2 (hi (1040 + (a.val * 1024 + b.val)) (by omega)) (lo (1040 + (a.val * 1024 + b.val))))
    = m (c.tc.loc main_arg2) (ix2 a b) := by
  exact (congrFun (packed1 m c) _).trans <| (flat1 _ _ _).trans ((padded1 _ _ (1040 + (a.val * 1024 + b.val)) (by omega)).trans ((cat1_2 _ _ _ _ _ (by omega)).trans
    (cast1_2 _ a b)))

theorem pack2_2 (c : Dev nD) (a : Fin 2) (b : Fin 1024) : A2 m c (ix2 (hi (1040 + (a.val * 1024 + b.val)) (by omega)) (lo (1040 + (a.val * 1024 + b.val))))
    = m (c.tc.loc main_arg6) (ix2 a b) := by
  exact (congrFun (packed2 m c) _).trans <| (flat1 _ _ _).trans ((padded1 _ _ (1040 + (a.val * 1024 + b.val)) (by omega)).trans ((cat1_2 _ _ _ _ _ (by omega)).trans
    (cast1_2 _ a b)))

theorem pack3_2 (c : Dev nD) (a : Fin 2) (b : Fin 1024) : A3 m c (ix2 (hi (1040 + (a.val * 1024 + b.val)) (by omega)) (lo (1040 + (a.val * 1024 + b.val))))
    = m (c.tc.loc main_arg10) (ix2 a b) := by
  exact (congrFun (packed3 m c) _).trans <| (flat1 _ _ _).trans ((padded1 _ _ (1040 + (a.val * 1024 + b.val)) (by omega)).trans ((cat1_2 _ _ _ _ _ (by omega)).trans
    (cast1_2 _ a b)))

theorem unpack_2 (X : Whole) (a : Fin 2) (b : Fin 1024) : shapeCast S2x1024 (extractStridedSlice S2048 ![1040] (shapeCast S8192 (X) shapeCasts_S8x1024_S8192) slices_S8192_S2048_1040) shapeCasts_S2048_S2x1024 (ix2 a b) = X (ix2 (hi (1040 + (a.val * 1024 + b.val)) (by omega)) (lo (1040 + (a.val * 1024 + b.val)))) := by
  pointwise [hi, lo]

theorem cast0_3 (X : Vec Ideal S8x1024 .f32) (p : Fin 8) (a : Fin 1024) :
    X (ix2 p ⟨a.val, by omega⟩) = X (ix2 p a) := rfl

theorem cast1_3 (X : Vec Ideal S1024 .f32) (a : Fin 1024) :
    X (ix1 ⟨a.val, by omega⟩) = X (ix1 a) := rfl

theorem pack0_3 (c : Dev nD) (p : Fin 8) (a : Fin 1024) : A0 m c (ix3 p (hi (3088 + a.val) (by omega)) (lo (3088 + a.val)))
    = m (c.tc.loc main_arg15) (ix2 p a) := by
  exact (congrFun (packed0 m c) _).trans <| (flat0 _ p _ _).trans ((padded0 _ _ p (3088 + a.val) (by omega)).trans ((cat0_3 _ _ _ _ _ p _ (by omega)).trans
    (cast0_3 _ p a)))

theorem pack1_3 (c : Dev nD) (a : Fin 1024) : A1 m c (ix2 (hi (3088 + a.val) (by omega)) (lo (3088 + a.val)))
    = m (c.tc.loc main_arg3) (ix1 a) := by
  exact (congrFun (packed1 m c) _).trans <| (flat1 _ _ _).trans ((padded1 _ _ (3088 + a.val) (by omega)).trans ((cat1_3 _ _ _ _ _ (by omega)).trans
    (cast1_3 _ a)))

theorem pack2_3 (c : Dev nD) (a : Fin 1024) : A2 m c (ix2 (hi (3088 + a.val) (by omega)) (lo (3088 + a.val)))
    = m (c.tc.loc main_arg7) (ix1 a) := by
  exact (congrFun (packed2 m c) _).trans <| (flat1 _ _ _).trans ((padded1 _ _ (3088 + a.val) (by omega)).trans ((cat1_3 _ _ _ _ _ (by omega)).trans
    (cast1_3 _ a)))

theorem pack3_3 (c : Dev nD) (a : Fin 1024) : A3 m c (ix2 (hi (3088 + a.val) (by omega)) (lo (3088 + a.val)))
    = m (c.tc.loc main_arg11) (ix1 a) := by
  exact (congrFun (packed3 m c) _).trans <| (flat1 _ _ _).trans ((padded1 _ _ (3088 + a.val) (by omega)).trans ((cat1_3 _ _ _ _ _ (by omega)).trans
    (cast1_3 _ a)))

theorem unpack_3 (X : Whole) (a : Fin 1024) : extractStridedSlice S1024 ![3088] (shapeCast S8192 (X) shapeCasts_S8x1024_S8192) slices_S8192_S1024_3088 (ix1 a) = X (ix2 (hi (3088 + a.val) (by omega)) (lo (3088 + a.val))) := by
  pointwise [hi, lo]

/-! ## The reference at an index -/

theorem ref_g_0 (x9 : Vec Ideal S8x1x1024 .f32) (a : Fin 1) (b : Fin 1024) : val_main_v0 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  obtain rfl : a = 0 := Fin.eq_zero a
  pointwise [val_main_v0, val_main_cst]
  rw [Fin.sum_univ_eight]

theorem ref_m_0 (x3 : Vec Ideal S1x1024 .f32) (x9 : Vec Ideal S8x1x1024 .f32) (a : Fin 1) (b : Fin 1024) : val_main_v8 (F := Ideal) x3 x9 (ix2 a b)
    = Ideal.ofBits FTy.f32 0x3F666666#32 * x3 (ix2 a b) + Ideal.ofBits FTy.f32 0x3DCCCCCD#32 * val_main_v0 (F := Ideal) x9 (ix2 a b) := by
  pointwise [val_main_v4, val_main_v5, val_main_v6, val_main_v7, val_main_v8, val_main_cst_3, val_main_cst_4]

theorem ref_v_0 (x6 : Vec Ideal S1x1024 .f32) (x9 : Vec Ideal S8x1x1024 .f32) (a : Fin 1) (b : Fin 1024) : val_main_v14 (F := Ideal) x6 x9 (ix2 a b)
    = Ideal.ofBits FTy.f32 0x3F7FBE77#32 * x6 (ix2 a b) + Ideal.ofBits FTy.f32 0x3A83126F#32 * (val_main_v0 (F := Ideal) x9 (ix2 a b) * val_main_v0 (F := Ideal) x9 (ix2 a b)) := by
  pointwise [val_main_v9, val_main_v10, val_main_v11, val_main_v12, val_main_v13, val_main_v14, val_main_cst_5, val_main_cst_6]

theorem ref_d_0 (x0 : Vec Ideal S1x1024 .f32) (x3 : Vec Ideal S1x1024 .f32) (x6 : Vec Ideal S1x1024 .f32) (x9 : Vec Ideal S8x1x1024 .f32) (a : Fin 1) (b : Fin 1024) : val_main_v27 (F := Ideal) x0 x3 x6 x9 (ix2 a b)
    = Ideal.ofBits FTy.f32 0xBA83126F#32 * (Ideal.div (val_main_v8 (F := Ideal) x3 x9 (ix2 a b) * ((8388608 / 5463681 : ℝ) : EReal))
        (Ideal.sqrt (val_main_v14 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v15, val_main_v16, val_main_v17, val_main_v18, val_main_v19, val_main_v20, val_main_v21, val_main_v22, val_main_v23, val_main_v24, val_main_v25, val_main_v26, val_main_v27, val_main_cst_7, val_main_cst_8, val_main_cst_9, val_main_cst_10, val_main_cst_11]

theorem g_at_0 (c : Dev nD) (a : Fin 1) (b : Fin 1024) : gAll (A0 m c) (ix2 (hi (0 + (a.val * 1024 + b.val)) (by omega)) (lo (0 + (a.val * 1024 + b.val)))) = val_main_v0 (F := Ideal) (m (c.tc.loc main_arg12)) (ix2 a b) := by
  rw [gAll_apply, ref_g_0]
  have e := fun p => pack0_0 m c p a b
  rw [e 0, e 1, e 2, e 3, e 4, e 5, e 6, e 7]

theorem m_at_0 (c : Dev nD) (a : Fin 1) (b : Fin 1024) : mAll (A0 m c) (A2 m c) (ix2 (hi (0 + (a.val * 1024 + b.val)) (by omega)) (lo (0 + (a.val * 1024 + b.val)))) = val_main_v8 (F := Ideal) (m (c.tc.loc main_arg4)) (m (c.tc.loc main_arg12)) (ix2 a b) := by
  rw [mAll, g_at_0, pack2_0, ref_m_0]

theorem v_at_0 (c : Dev nD) (a : Fin 1) (b : Fin 1024) : vAll (A0 m c) (A3 m c) (ix2 (hi (0 + (a.val * 1024 + b.val)) (by omega)) (lo (0 + (a.val * 1024 + b.val)))) = val_main_v14 (F := Ideal) (m (c.tc.loc main_arg8)) (m (c.tc.loc main_arg12)) (ix2 a b) := by
  rw [vAll, g_at_0, pack3_0, ref_v_0]

theorem d_at_0 (c : Dev nD) (a : Fin 1) (b : Fin 1024) : dAll (A0 m c) (A1 m c) (A2 m c) (A3 m c) (ix2 (hi (0 + (a.val * 1024 + b.val)) (by omega)) (lo (0 + (a.val * 1024 + b.val)))) = val_main_v27 (F := Ideal) (m (c.tc.loc main_arg0)) (m (c.tc.loc main_arg4)) (m (c.tc.loc main_arg8)) (m (c.tc.loc main_arg12)) (ix2 a b) := by
  rw [dAll, m_at_0, v_at_0, pack1_0, ref_d_0]

theorem g_res_0 (c : Dev nD) : Pipeline.afterTail₀ cfgs (dats m) 0 (V0 m) [hostOps1] c main_v27 = val_main_v0 (F := Ideal) (m (c.tc.loc main_arg12)) := by
  have e : Pipeline.afterTail₀ cfgs (dats m) 0 (V0 m) [hostOps1] c main_v27 = shapeCast S1x1024 (extractStridedSlice S1024 ![0] (shapeCast S8192 ((dats m 0 c).arrAt 4 cfg0.N) shapeCasts_S8x1024_S8192) slices_S8192_S1024_0) shapeCasts_S1024_S1x1024 := by
    unfold Pipeline.afterTail₀
    after_reads_simp
    rw [arr4]
    rfl
  rw [e, final4]
  funext y
  obtain ⟨a, b, rfl⟩ : ∃ (a : Fin 1) (b : Fin 1024), y = ix2 a b := ⟨y 0, y 1, by blk_ext⟩
  exact (unpack_0 _ a b).trans (g_at_0 m c a b)

theorem d_res_0 (c : Dev nD) : Pipeline.afterTail₀ cfgs (dats m) 0 (V0 m) [hostOps1] c main_v35 = val_main_v27 (F := Ideal) (m (c.tc.loc main_arg0)) (m (c.tc.loc main_arg4)) (m (c.tc.loc main_arg8)) (m (c.tc.loc main_arg12)) := by
  have e : Pipeline.afterTail₀ cfgs (dats m) 0 (V0 m) [hostOps1] c main_v35 = shapeCast S1x1024 (extractStridedSlice S1024 ![0] (shapeCast S8192 ((dats m 0 c).arrAt 5 cfg0.N) shapeCasts_S8x1024_S8192) slices_S8192_S1024_0) shapeCasts_S1024_S1x1024 := by
    unfold Pipeline.afterTail₀
    after_reads_simp
    rw [arr5]
    rfl
  rw [e, final5]
  funext y
  obtain ⟨a, b, rfl⟩ : ∃ (a : Fin 1) (b : Fin 1024), y = ix2 a b := ⟨y 0, y 1, by blk_ext⟩
  exact (unpack_0 _ a b).trans (d_at_0 m c a b)

theorem m_res_0 (c : Dev nD) : Pipeline.afterTail₀ cfgs (dats m) 0 (V0 m) [hostOps1] c main_v43 = val_main_v8 (F := Ideal) (m (c.tc.loc main_arg4)) (m (c.tc.loc main_arg12)) := by
  have e : Pipeline.afterTail₀ cfgs (dats m) 0 (V0 m) [hostOps1] c main_v43 = shapeCast S1x1024 (extractStridedSlice S1024 ![0] (shapeCast S8192 ((dats m 0 c).arrAt 6 cfg0.N) shapeCasts_S8x1024_S8192) slices_S8192_S1024_0) shapeCasts_S1024_S1x1024 := by
    unfold Pipeline.afterTail₀
    after_reads_simp
    rw [arr6]
    rfl
  rw [e, final6]
  funext y
  obtain ⟨a, b, rfl⟩ : ∃ (a : Fin 1) (b : Fin 1024), y = ix2 a b := ⟨y 0, y 1, by blk_ext⟩
  exact (unpack_0 _ a b).trans (m_at_0 m c a b)

theorem v_res_0 (c : Dev nD) : Pipeline.afterTail₀ cfgs (dats m) 0 (V0 m) [hostOps1] c main_v51 = val_main_v14 (F := Ideal) (m (c.tc.loc main_arg8)) (m (c.tc.loc main_arg12)) := by
  have e : Pipeline.afterTail₀ cfgs (dats m) 0 (V0 m) [hostOps1] c main_v51 = shapeCast S1x1024 (extractStridedSlice S1024 ![0] (shapeCast S8192 ((dats m 0 c).arrAt 7 cfg0.N) shapeCasts_S8x1024_S8192) slices_S8192_S1024_0) shapeCasts_S1024_S1x1024 := by
    unfold Pipeline.afterTail₀
    after_reads_simp
    rw [arr7]
    rfl
  rw [e, final7]
  funext y
  obtain ⟨a, b, rfl⟩ : ∃ (a : Fin 1) (b : Fin 1024), y = ix2 a b := ⟨y 0, y 1, by blk_ext⟩
  exact (unpack_0 _ a b).trans (v_at_0 m c a b)

theorem ref_g_1 (x9 : Vec Ideal S8x1x16 .f32) (a : Fin 1) (b : Fin 16) : val_main_v1 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  obtain rfl : a = 0 := Fin.eq_zero a
  pointwise [val_main_v1, val_main_cst_0]
  rw [Fin.sum_univ_eight]

theorem ref_m_1 (x3 : Vec Ideal S1x16 .f32) (x9 : Vec Ideal S8x1x16 .f32) (a : Fin 1) (b : Fin 16) : val_main_v32 (F := Ideal) x3 x9 (ix2 a b)
    = Ideal.ofBits FTy.f32 0x3F666666#32 * x3 (ix2 a b) + Ideal.ofBits FTy.f32 0x3DCCCCCD#32 * val_main_v1 (F := Ideal) x9 (ix2 a b) := by
  pointwise [val_main_v28, val_main_v29, val_main_v30, val_main_v31, val_main_v32, val_main_cst_12, val_main_cst_13]

theorem ref_v_1 (x6 : Vec Ideal S1x16 .f32) (x9 : Vec Ideal S8x1x16 .f32) (a : Fin 1) (b : Fin 16) : val_main_v38 (F := Ideal) x6 x9 (ix2 a b)
    = Ideal.ofBits FTy.f32 0x3F7FBE77#32 * x6 (ix2 a b) + Ideal.ofBits FTy.f32 0x3A83126F#32 * (val_main_v1 (F := Ideal) x9 (ix2 a b) * val_main_v1 (F := Ideal) x9 (ix2 a b)) := by
  pointwise [val_main_v33, val_main_v34, val_main_v35, val_main_v36, val_main_v37, val_main_v38, val_main_cst_14, val_main_cst_15]

theorem ref_d_1 (x0 : Vec Ideal S1x16 .f32) (x3 : Vec Ideal S1x16 .f32) (x6 : Vec Ideal S1x16 .f32) (x9 : Vec Ideal S8x1x16 .f32) (a : Fin 1) (b : Fin 16) : val_main_v51 (F := Ideal) x0 x3 x6 x9 (ix2 a b)
    = Ideal.ofBits FTy.f32 0xBA83126F#32 * (Ideal.div (val_main_v32 (F := Ideal) x3 x9 (ix2 a b) * ((8388608 / 5463681 : ℝ) : EReal))
        (Ideal.sqrt (val_main_v38 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v39, val_main_v40, val_main_v41, val_main_v42, val_main_v43, val_main_v44, val_main_v45, val_main_v46, val_main_v47, val_main_v48, val_main_v49, val_main_v50, val_main_v51, val_main_cst_16, val_main_cst_17, val_main_cst_18, val_main_cst_19, val_main_cst_20]

theorem g_at_1 (c : Dev nD) (a : Fin 1) (b : Fin 16) : gAll (A0 m c) (ix2 (hi (1024 + (a.val * 16 + b.val)) (by omega)) (lo (1024 + (a.val * 16 + b.val)))) = val_main_v1 (F := Ideal) (m (c.tc.loc main_arg13)) (ix2 a b) := by
  rw [gAll_apply, ref_g_1]
  have e := fun p => pack0_1 m c p a b
  rw [e 0, e 1, e 2, e 3, e 4, e 5, e 6, e 7]

theorem m_at_1 (c : Dev nD) (a : Fin 1) (b : Fin 16) : mAll (A0 m c) (A2 m c) (ix2 (hi (1024 + (a.val * 16 + b.val)) (by omega)) (lo (1024 + (a.val * 16 + b.val)))) = val_main_v32 (F := Ideal) (m (c.tc.loc main_arg5)) (m (c.tc.loc main_arg13)) (ix2 a b) := by
  rw [mAll, g_at_1, pack2_1, ref_m_1]

theorem v_at_1 (c : Dev nD) (a : Fin 1) (b : Fin 16) : vAll (A0 m c) (A3 m c) (ix2 (hi (1024 + (a.val * 16 + b.val)) (by omega)) (lo (1024 + (a.val * 16 + b.val)))) = val_main_v38 (F := Ideal) (m (c.tc.loc main_arg9)) (m (c.tc.loc main_arg13)) (ix2 a b) := by
  rw [vAll, g_at_1, pack3_1, ref_v_1]

theorem d_at_1 (c : Dev nD) (a : Fin 1) (b : Fin 16) : dAll (A0 m c) (A1 m c) (A2 m c) (A3 m c) (ix2 (hi (1024 + (a.val * 16 + b.val)) (by omega)) (lo (1024 + (a.val * 16 + b.val)))) = val_main_v51 (F := Ideal) (m (c.tc.loc main_arg1)) (m (c.tc.loc main_arg5)) (m (c.tc.loc main_arg9)) (m (c.tc.loc main_arg13)) (ix2 a b) := by
  rw [dAll, m_at_1, v_at_1, pack1_1, ref_d_1]

theorem g_res_1 (c : Dev nD) : Pipeline.afterTail₀ cfgs (dats m) 0 (V0 m) [hostOps1] c main_v29 = val_main_v1 (F := Ideal) (m (c.tc.loc main_arg13)) := by
  have e : Pipeline.afterTail₀ cfgs (dats m) 0 (V0 m) [hostOps1] c main_v29 = shapeCast S1x16 (extractStridedSlice S16 ![1024] (shapeCast S8192 ((dats m 0 c).arrAt 4 cfg0.N) shapeCasts_S8x1024_S8192) slices_S8192_S16_1024) shapeCasts_S16_S1x16 := by
    unfold Pipeline.afterTail₀
    after_reads_simp
    rw [arr4]
    rfl
  rw [e, final4]
  funext y
  obtain ⟨a, b, rfl⟩ : ∃ (a : Fin 1) (b : Fin 16), y = ix2 a b := ⟨y 0, y 1, by blk_ext⟩
  exact (unpack_1 _ a b).trans (g_at_1 m c a b)

theorem d_res_1 (c : Dev nD) : Pipeline.afterTail₀ cfgs (dats m) 0 (V0 m) [hostOps1] c main_v37 = val_main_v51 (F := Ideal) (m (c.tc.loc main_arg1)) (m (c.tc.loc main_arg5)) (m (c.tc.loc main_arg9)) (m (c.tc.loc main_arg13)) := by
  have e : Pipeline.afterTail₀ cfgs (dats m) 0 (V0 m) [hostOps1] c main_v37 = shapeCast S1x16 (extractStridedSlice S16 ![1024] (shapeCast S8192 ((dats m 0 c).arrAt 5 cfg0.N) shapeCasts_S8x1024_S8192) slices_S8192_S16_1024) shapeCasts_S16_S1x16 := by
    unfold Pipeline.afterTail₀
    after_reads_simp
    rw [arr5]
    rfl
  rw [e, final5]
  funext y
  obtain ⟨a, b, rfl⟩ : ∃ (a : Fin 1) (b : Fin 16), y = ix2 a b := ⟨y 0, y 1, by blk_ext⟩
  exact (unpack_1 _ a b).trans (d_at_1 m c a b)

theorem m_res_1 (c : Dev nD) : Pipeline.afterTail₀ cfgs (dats m) 0 (V0 m) [hostOps1] c main_v45 = val_main_v32 (F := Ideal) (m (c.tc.loc main_arg5)) (m (c.tc.loc main_arg13)) := by
  have e : Pipeline.afterTail₀ cfgs (dats m) 0 (V0 m) [hostOps1] c main_v45 = shapeCast S1x16 (extractStridedSlice S16 ![1024] (shapeCast S8192 ((dats m 0 c).arrAt 6 cfg0.N) shapeCasts_S8x1024_S8192) slices_S8192_S16_1024) shapeCasts_S16_S1x16 := by
    unfold Pipeline.afterTail₀
    after_reads_simp
    rw [arr6]
    rfl
  rw [e, final6]
  funext y
  obtain ⟨a, b, rfl⟩ : ∃ (a : Fin 1) (b : Fin 16), y = ix2 a b := ⟨y 0, y 1, by blk_ext⟩
  exact (unpack_1 _ a b).trans (m_at_1 m c a b)

theorem v_res_1 (c : Dev nD) : Pipeline.afterTail₀ cfgs (dats m) 0 (V0 m) [hostOps1] c main_v53 = val_main_v38 (F := Ideal) (m (c.tc.loc main_arg9)) (m (c.tc.loc main_arg13)) := by
  have e : Pipeline.afterTail₀ cfgs (dats m) 0 (V0 m) [hostOps1] c main_v53 = shapeCast S1x16 (extractStridedSlice S16 ![1024] (shapeCast S8192 ((dats m 0 c).arrAt 7 cfg0.N) shapeCasts_S8x1024_S8192) slices_S8192_S16_1024) shapeCasts_S16_S1x16 := by
    unfold Pipeline.afterTail₀
    after_reads_simp
    rw [arr7]
    rfl
  rw [e, final7]
  funext y
  obtain ⟨a, b, rfl⟩ : ∃ (a : Fin 1) (b : Fin 16), y = ix2 a b := ⟨y 0, y 1, by blk_ext⟩
  exact (unpack_1 _ a b).trans (v_at_1 m c a b)

theorem ref_g_2 (x9 : Vec Ideal S8x2x1024 .f32) (a : Fin 2) (b : Fin 1024) : val_main_v2 (F := Ideal) x9 (ix2 a b)
    = x9 (ix3 0 a b) + x9 (ix3 1 a b) + x9 (ix3 2 a b) + x9 (ix3 3 a b) + x9 (ix3 4 a b) + x9 (ix3 5 a b) + x9 (ix3 6 a b) + x9 (ix3 7 a b) := by
  pointwise [val_main_v2, val_main_cst_1]
  rw [Fin.sum_univ_eight]

theorem ref_m_2 (x3 : Vec Ideal S2x1024 .f32) (x9 : Vec Ideal S8x2x1024 .f32) (a : Fin 2) (b : Fin 1024) : val_main_v56 (F := Ideal) x3 x9 (ix2 a b)
    = Ideal.ofBits FTy.f32 0x3F666666#32 * x3 (ix2 a b) + Ideal.ofBits FTy.f32 0x3DCCCCCD#32 * val_main_v2 (F := Ideal) x9 (ix2 a b) := by
  pointwise [val_main_v52, val_main_v53, val_main_v54, val_main_v55, val_main_v56, val_main_cst_21, val_main_cst_22]

theorem ref_v_2 (x6 : Vec Ideal S2x1024 .f32) (x9 : Vec Ideal S8x2x1024 .f32) (a : Fin 2) (b : Fin 1024) : val_main_v62 (F := Ideal) x6 x9 (ix2 a b)
    = Ideal.ofBits FTy.f32 0x3F7FBE77#32 * x6 (ix2 a b) + Ideal.ofBits FTy.f32 0x3A83126F#32 * (val_main_v2 (F := Ideal) x9 (ix2 a b) * val_main_v2 (F := Ideal) x9 (ix2 a b)) := by
  pointwise [val_main_v57, val_main_v58, val_main_v59, val_main_v60, val_main_v61, val_main_v62, val_main_cst_23, val_main_cst_24]

theorem ref_d_2 (x0 : Vec Ideal S2x1024 .f32) (x3 : Vec Ideal S2x1024 .f32) (x6 : Vec Ideal S2x1024 .f32) (x9 : Vec Ideal S8x2x1024 .f32) (a : Fin 2) (b : Fin 1024) : val_main_v75 (F := Ideal) x0 x3 x6 x9 (ix2 a b)
    = Ideal.ofBits FTy.f32 0xBA83126F#32 * (Ideal.div (val_main_v56 (F := Ideal) x3 x9 (ix2 a b) * ((8388608 / 5463681 : ℝ) : EReal))
        (Ideal.sqrt (val_main_v62 (F := Ideal) x6 x9 (ix2 a b) * ((268435456 / 2672307 : ℝ) : EReal)) + Ideal.ofBits FTy.f32 0x322BCC77#32)
        + Ideal.ofBits FTy.f32 0x3C23D70A#32 * x0 (ix2 a b)) := by
  rw [← AdamScal.scale1, ← AdamScal.scale2]
  pointwise [val_main_v63, val_main_v64, val_main_v65, val_main_v66, val_main_v67, val_main_v68, val_main_v69, val_main_v70, val_main_v71, val_main_v72, val_main_v73, val_main_v74, val_main_v75, val_main_cst_25, val_main_cst_26, val_main_cst_27, val_main_cst_28, val_main_cst_29]

theorem g_at_2 (c : Dev nD) (a : Fin 2) (b : Fin 1024) : gAll (A0 m c) (ix2 (hi (1040 + (a.val * 1024 + b.val)) (by omega)) (lo (1040 + (a.val * 1024 + b.val)))) = val_main_v2 (F := Ideal) (m (c.tc.loc main_arg14)) (ix2 a b) := by
  rw [gAll_apply, ref_g_2]
  have e := fun p => pack0_2 m c p a b
  rw [e 0, e 1, e 2, e 3, e 4, e 5, e 6, e 7]

theorem m_at_2 (c : Dev nD) (a : Fin 2) (b : Fin 1024) : mAll (A0 m c) (A2 m c) (ix2 (hi (1040 + (a.val * 1024 + b.val)) (by omega)) (lo (1040 + (a.val * 1024 + b.val)))) = val_main_v56 (F := Ideal) (m (c.tc.loc main_arg6)) (m (c.tc.loc main_arg14)) (ix2 a b) := by
  rw [mAll, g_at_2, pack2_2, ref_m_2]

theorem v_at_2 (c : Dev nD) (a : Fin 2) (b : Fin 1024) : vAll (A0 m c) (A3 m c) (ix2 (hi (1040 + (a.val * 1024 + b.val)) (by omega)) (lo (1040 + (a.val * 1024 + b.val)))) = val_main_v62 (F := Ideal) (m (c.tc.loc main_arg10)) (m (c.tc.loc main_arg14)) (ix2 a b) := by
  rw [vAll, g_at_2, pack3_2, ref_v_2]

theorem d_at_2 (c : Dev nD) (a : Fin 2) (b : Fin 1024) : dAll (A0 m c) (A1 m c) (A2 m c) (A3 m c) (ix2 (hi (1040 + (a.val * 1024 + b.val)) (by omega)) (lo (1040 + (a.val * 1024 + b.val)))) = val_main_v75 (F := Ideal) (m (c.tc.loc main_arg2)) (m (c.tc.loc main_arg6)) (m (c.tc.loc main_arg10)) (m (c.tc.loc main_arg14)) (ix2 a b) := by
  rw [dAll, m_at_2, v_at_2, pack1_2, ref_d_2]

theorem g_res_2 (c : Dev nD) : Pipeline.afterTail₀ cfgs (dats m) 0 (V0 m) [hostOps1] c main_v31 = val_main_v2 (F := Ideal) (m (c.tc.loc main_arg14)) := by
  have e : Pipeline.afterTail₀ cfgs (dats m) 0 (V0 m) [hostOps1] c main_v31 = shapeCast S2x1024 (extractStridedSlice S2048 ![1040] (shapeCast S8192 ((dats m 0 c).arrAt 4 cfg0.N) shapeCasts_S8x1024_S8192) slices_S8192_S2048_1040) shapeCasts_S2048_S2x1024 := by
    unfold Pipeline.afterTail₀
    after_reads_simp
    rw [arr4]
    rfl
  rw [e, final4]
  funext y
  obtain ⟨a, b, rfl⟩ : ∃ (a : Fin 2) (b : Fin 1024), y = ix2 a b := ⟨y 0, y 1, by blk_ext⟩
  exact (unpack_2 _ a b).trans (g_at_2 m c a b)

theorem d_res_2 (c : Dev nD) : Pipeline.afterTail₀ cfgs (dats m) 0 (V0 m) [hostOps1] c main_v39 = val_main_v75 (F := Ideal) (m (c.tc.loc main_arg2)) (m (c.tc.loc main_arg6)) (m (c.tc.loc main_arg10)) (m (c.tc.loc main_arg14)) := by
  have e : Pipeline.afterTail₀ cfgs (dats m) 0 (V0 m) [hostOps1] c main_v39 = shapeCast S2x1024 (extractStridedSlice S2048 ![1040] (shapeCast S8192 ((dats m 0 c).arrAt 5 cfg0.N) shapeCasts_S8x1024_S8192) slices_S8192_S2048_1040) shapeCasts_S2048_S2x1024 := by
    unfold Pipeline.afterTail₀
    after_reads_simp
    rw [arr5]
    rfl
  rw [e, final5]
  funext y
  obtain ⟨a, b, rfl⟩ : ∃ (a : Fin 2) (b : Fin 1024), y = ix2 a b := ⟨y 0, y 1, by blk_ext⟩
  exact (unpack_2 _ a b).trans (d_at_2 m c a b)

theorem m_res_2 (c : Dev nD) : Pipeline.afterTail₀ cfgs (dats m) 0 (V0 m) [hostOps1] c main_v47 = val_main_v56 (F := Ideal) (m (c.tc.loc main_arg6)) (m (c.tc.loc main_arg14)) := by
  have e : Pipeline.afterTail₀ cfgs (dats m) 0 (V0 m) [hostOps1] c main_v47 = shapeCast S2x1024 (extractStridedSlice S2048 ![1040] (shapeCast S8192 ((dats m 0 c).arrAt 6 cfg0.N) shapeCasts_S8x1024_S8192) slices_S8192_S2048_1040) shapeCasts_S2048_S2x1024 := by
    unfold Pipeline.afterTail₀
    after_reads_simp
    rw [arr6]
    rfl
  rw [e, final6]
  funext y
  obtain ⟨a, b, rfl⟩ : ∃ (a : Fin 2) (b : Fin 1024), y = ix2 a b := ⟨y 0, y 1, by blk_ext⟩
  exact (unpack_2 _ a b).trans (m_at_2 m c a b)

theorem v_res_2 (c : Dev nD) : Pipeline.afterTail₀ cfgs (dats m) 0 (V0 m) [hostOps1] c main_v55 = val_main_v62 (F := Ideal) (m (c.tc.loc main_arg10)) (m (c.tc.loc main_arg14)) := by
  have e : Pipeline.afterTail₀ cfgs (dats m) 0 (V0 m) [hostOps1] c main_v55 = shapeCast S2x1024 (extractStridedSlice S2048 ![1040] (shapeCast S8192 ((dats m 0 c).arrAt 7 cfg0.N) shapeCasts_S8x1024_S8192) slices_S8192_S2048_1040) shapeCasts_S2048_S2x1024 := by
    unfold Pipeline.afterTail₀
    after_reads_simp
    rw [arr7]
    rfl
  rw [e, final7]
  funext y
  obtain ⟨a, b, rfl⟩ : ∃ (a : Fin 2) (b : Fin 1024), y = ix2 a b := ⟨y 0, y 1, by blk_ext⟩
  exact (unpack_2 _ a b).trans (v_at_2 m c a b)

theorem ref_g_3 (x9 : Vec Ideal S8x1024 .f32) (a : Fin 1024) : val_main_v3 (F := Ideal) x9 (ix1 a)
    = x9 (ix2 0 a) + x9 (ix2 1 a) + x9 (ix2 2 a) + x9 (ix2 3 a) + x9 (ix2 4 a) + x9 (ix2 5 a) + x9 (ix2 6 a) + x9 (ix2 7 a) := by
  pointwise [val_main_v3, val_main_cst_2]
  rw [Fin.sum_univ_eight]

theorem ref_m_3 (x3 : Vec Ideal S1024 .f32) (x9 : Vec Ideal S8x1024 .f32) (a : Fin 1024) : val_main_v80 (F := Ideal) x3 x9 (ix1 a)
    = Ideal.ofBits FTy.f32 0x3F666666#32 * x3 (ix1 a) + Ideal.ofBits FTy.f32 0x3DCCCCCD#32 * val_main_v3 (F := Ideal) x9 (ix1 a) := by
  pointwise [val_main_v76, val_main_v77, val_main_v78, val_main_v79, val_main_v80, val_main_cst_30, val_main_cst_31]

theorem ref_v_3 (x6 : Vec Ideal S1024 .f32) (x9 : Vec Ideal S8x1024 .f32) (a : Fin 1024) : val_main_v86 (F := Ideal) x6 x9 (ix1 a)
    = Ideal.ofBits FTy.f32 0x3F7FBE77#32 * x6 (ix1 a) + Ideal.ofBits FTy.f32 0x3A83126F#32 * (val_main_v3 (F := Ideal) x9 (ix1 a) * val_main_v3 (F := Ideal) x9 (ix1 a)) := by
  pointwise [val_main_v81, val_main_v82, val_main_v83, val_main_v84, val_main_v85, val_main_v86, val_main_cst_32, val_main_cst_33]

theorem ref_d_3 (x0 : Vec Ideal S1024 .f32) (x3 : Vec Ideal S1024 .f32) (x6 : Vec Ideal S1024 .f32) (x9 : Vec Ideal S8x1024 .f32) (a : Fin 1024) : val_main_v99 (F := Ideal) x0 x3 x6 x9 (ix1 a)
    = Ideal.ofBits FTy.f32 0xBA83126F#32 * (Ideal.div (val_main_v80 (F := Ideal) x3 x9 (ix1 a) * ((8388608 / 5463681 : ℝ) : EReal))
        (Ideal.sqrt (val_main_v86 (F := Ideal) x6 x9 (ix1 a) * ((268435456 / 2672307 : ℝ) : EReal)) + Ideal.ofBits FTy.f32 0x322BCC77#32)
        + Ideal.ofBits FTy.f32 0x3C23D70A#32 * x0 (ix1 a)) := by
  rw [← AdamScal.scale1, ← AdamScal.scale2]
  pointwise [val_main_v87, val_main_v88, val_main_v89, val_main_v90, val_main_v91, val_main_v92, val_main_v93, val_main_v94, val_main_v95, val_main_v96, val_main_v97, val_main_v98, val_main_v99, val_main_cst_34, val_main_cst_35, val_main_cst_36, val_main_cst_37, val_main_cst_38]

theorem g_at_3 (c : Dev nD) (a : Fin 1024) : gAll (A0 m c) (ix2 (hi (3088 + a.val) (by omega)) (lo (3088 + a.val))) = val_main_v3 (F := Ideal) (m (c.tc.loc main_arg15)) (ix1 a) := by
  rw [gAll_apply, ref_g_3]
  have e := fun p => pack0_3 m c p a
  rw [e 0, e 1, e 2, e 3, e 4, e 5, e 6, e 7]

theorem m_at_3 (c : Dev nD) (a : Fin 1024) : mAll (A0 m c) (A2 m c) (ix2 (hi (3088 + a.val) (by omega)) (lo (3088 + a.val))) = val_main_v80 (F := Ideal) (m (c.tc.loc main_arg7)) (m (c.tc.loc main_arg15)) (ix1 a) := by
  rw [mAll, g_at_3, pack2_3, ref_m_3]

theorem v_at_3 (c : Dev nD) (a : Fin 1024) : vAll (A0 m c) (A3 m c) (ix2 (hi (3088 + a.val) (by omega)) (lo (3088 + a.val))) = val_main_v86 (F := Ideal) (m (c.tc.loc main_arg11)) (m (c.tc.loc main_arg15)) (ix1 a) := by
  rw [vAll, g_at_3, pack3_3, ref_v_3]

theorem d_at_3 (c : Dev nD) (a : Fin 1024) : dAll (A0 m c) (A1 m c) (A2 m c) (A3 m c) (ix2 (hi (3088 + a.val) (by omega)) (lo (3088 + a.val))) = val_main_v99 (F := Ideal) (m (c.tc.loc main_arg3)) (m (c.tc.loc main_arg7)) (m (c.tc.loc main_arg11)) (m (c.tc.loc main_arg15)) (ix1 a) := by
  rw [dAll, m_at_3, v_at_3, pack1_3, ref_d_3]

theorem g_res_3 (c : Dev nD) : Pipeline.afterTail₀ cfgs (dats m) 0 (V0 m) [hostOps1] c main_v32 = val_main_v3 (F := Ideal) (m (c.tc.loc main_arg15)) := by
  have e : Pipeline.afterTail₀ cfgs (dats m) 0 (V0 m) [hostOps1] c main_v32 = extractStridedSlice S1024 ![3088] (shapeCast S8192 ((dats m 0 c).arrAt 4 cfg0.N) shapeCasts_S8x1024_S8192) slices_S8192_S1024_3088 := by
    unfold Pipeline.afterTail₀
    after_reads_simp
    rw [arr4]
    rfl
  rw [e, final4]
  funext y
  obtain ⟨a, rfl⟩ : ∃ (a : Fin 1024), y = ix1 a := ⟨y 0, by blk_ext⟩
  exact (unpack_3 _ a).trans (g_at_3 m c a)

theorem d_res_3 (c : Dev nD) : Pipeline.afterTail₀ cfgs (dats m) 0 (V0 m) [hostOps1] c main_v40 = val_main_v99 (F := Ideal) (m (c.tc.loc main_arg3)) (m (c.tc.loc main_arg7)) (m (c.tc.loc main_arg11)) (m (c.tc.loc main_arg15)) := by
  have e : Pipeline.afterTail₀ cfgs (dats m) 0 (V0 m) [hostOps1] c main_v40 = extractStridedSlice S1024 ![3088] (shapeCast S8192 ((dats m 0 c).arrAt 5 cfg0.N) shapeCasts_S8x1024_S8192) slices_S8192_S1024_3088 := by
    unfold Pipeline.afterTail₀
    after_reads_simp
    rw [arr5]
    rfl
  rw [e, final5]
  funext y
  obtain ⟨a, rfl⟩ : ∃ (a : Fin 1024), y = ix1 a := ⟨y 0, by blk_ext⟩
  exact (unpack_3 _ a).trans (d_at_3 m c a)

theorem m_res_3 (c : Dev nD) : Pipeline.afterTail₀ cfgs (dats m) 0 (V0 m) [hostOps1] c main_v48 = val_main_v80 (F := Ideal) (m (c.tc.loc main_arg7)) (m (c.tc.loc main_arg15)) := by
  have e : Pipeline.afterTail₀ cfgs (dats m) 0 (V0 m) [hostOps1] c main_v48 = extractStridedSlice S1024 ![3088] (shapeCast S8192 ((dats m 0 c).arrAt 6 cfg0.N) shapeCasts_S8x1024_S8192) slices_S8192_S1024_3088 := by
    unfold Pipeline.afterTail₀
    after_reads_simp
    rw [arr6]
    rfl
  rw [e, final6]
  funext y
  obtain ⟨a, rfl⟩ : ∃ (a : Fin 1024), y = ix1 a := ⟨y 0, by blk_ext⟩
  exact (unpack_3 _ a).trans (m_at_3 m c a)

theorem v_res_3 (c : Dev nD) : Pipeline.afterTail₀ cfgs (dats m) 0 (V0 m) [hostOps1] c main_v56 = val_main_v86 (F := Ideal) (m (c.tc.loc main_arg11)) (m (c.tc.loc main_arg15)) := by
  have e : Pipeline.afterTail₀ cfgs (dats m) 0 (V0 m) [hostOps1] c main_v56 = extractStridedSlice S1024 ![3088] (shapeCast S8192 ((dats m 0 c).arrAt 7 cfg0.N) shapeCasts_S8x1024_S8192) slices_S8192_S1024_3088 := by
    unfold Pipeline.afterTail₀
    after_reads_simp
    rw [arr7]
    rfl
  rw [e, final7]
  funext y
  obtain ⟨a, rfl⟩ : ∃ (a : Fin 1024), y = ix1 a := ⟨y 0, by blk_ext⟩
  exact (unpack_3 _ a).trans (v_at_3 m c a)

/-- Every run of the kernel's program ends with the reference's values in its results, and its arguments kept. -/
theorem run : θ_run defs (onTc (τ := τ) (main (F := Ideal))) ⟨m, fun _ => 0, ρ⟩ (fun r => ∀ c : Dev nD,
      r.2.mem (c.tc.loc main_v27) = val_main_v0 (F := Ideal) (m (c.tc.loc main_arg12))
      ∧ r.2.mem (c.tc.loc main_v29) = val_main_v1 (F := Ideal) (m (c.tc.loc main_arg13))
      ∧ r.2.mem (c.tc.loc main_v31) = val_main_v2 (F := Ideal) (m (c.tc.loc main_arg14))
      ∧ r.2.mem (c.tc.loc main_v32) = val_main_v3 (F := Ideal) (m (c.tc.loc main_arg15))
      ∧ r.2.mem (c.tc.loc main_v35) = val_main_v27 (F := Ideal) (m (c.tc.loc main_arg0)) (m (c.tc.loc main_arg4)) (m (c.tc.loc main_arg8)) (m (c.tc.loc main_arg12))
      ∧ r.2.mem (c.tc.loc main_v37) = val_main_v51 (F := Ideal) (m (c.tc.loc main_arg1)) (m (c.tc.loc main_arg5)) (m (c.tc.loc main_arg9)) (m (c.tc.loc main_arg13))
      ∧ r.2.mem (c.tc.loc main_v39) = val_main_v75 (F := Ideal) (m (c.tc.loc main_arg2)) (m (c.tc.loc main_arg6)) (m (c.tc.loc main_arg10)) (m (c.tc.loc main_arg14))
      ∧ r.2.mem (c.tc.loc main_v40) = val_main_v99 (F := Ideal) (m (c.tc.loc main_arg3)) (m (c.tc.loc main_arg7)) (m (c.tc.loc main_arg11)) (m (c.tc.loc main_arg15))
      ∧ r.2.mem (c.tc.loc main_v43) = val_main_v8 (F := Ideal) (m (c.tc.loc main_arg4)) (m (c.tc.loc main_arg12))
      ∧ r.2.mem (c.tc.loc main_v45) = val_main_v32 (F := Ideal) (m (c.tc.loc main_arg5)) (m (c.tc.loc main_arg13))
      ∧ r.2.mem (c.tc.loc main_v47) = val_main_v56 (F := Ideal) (m (c.tc.loc main_arg6)) (m (c.tc.loc main_arg14))
      ∧ r.2.mem (c.tc.loc main_v48) = val_main_v80 (F := Ideal) (m (c.tc.loc main_arg7)) (m (c.tc.loc main_arg15))
      ∧ r.2.mem (c.tc.loc main_v51) = val_main_v14 (F := Ideal) (m (c.tc.loc main_arg8)) (m (c.tc.loc main_arg12))
      ∧ r.2.mem (c.tc.loc main_v53) = val_main_v38 (F := Ideal) (m (c.tc.loc main_arg9)) (m (c.tc.loc main_arg13))
      ∧ r.2.mem (c.tc.loc main_v55) = val_main_v62 (F := Ideal) (m (c.tc.loc main_arg10)) (m (c.tc.loc main_arg14))
      ∧ r.2.mem (c.tc.loc main_v56) = val_main_v86 (F := Ideal) (m (c.tc.loc main_arg11)) (m (c.tc.loc main_arg15))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)) :=
  (θ_run defs _ _).mono (fun _ h c => ⟨((h c).2 main_v27 (Pipeline.mem_restRefs_of main_v27 (by decide) (by decide))).trans (g_res_0 m c),
      ((h c).2 main_v29 (Pipeline.mem_restRefs_of main_v29 (by decide) (by decide))).trans (g_res_1 m c),
      ((h c).2 main_v31 (Pipeline.mem_restRefs_of main_v31 (by decide) (by decide))).trans (g_res_2 m c),
      ((h c).2 main_v32 (Pipeline.mem_restRefs_of main_v32 (by decide) (by decide))).trans (g_res_3 m c),
      ((h c).2 main_v35 (Pipeline.mem_restRefs_of main_v35 (by decide) (by decide))).trans (d_res_0 m c),
      ((h c).2 main_v37 (Pipeline.mem_restRefs_of main_v37 (by decide) (by decide))).trans (d_res_1 m c),
      ((h c).2 main_v39 (Pipeline.mem_restRefs_of main_v39 (by decide) (by decide))).trans (d_res_2 m c),
      ((h c).2 main_v40 (Pipeline.mem_restRefs_of main_v40 (by decide) (by decide))).trans (d_res_3 m c),
      ((h c).2 main_v43 (Pipeline.mem_restRefs_of main_v43 (by decide) (by decide))).trans (m_res_0 m c),
      ((h c).2 main_v45 (Pipeline.mem_restRefs_of main_v45 (by decide) (by decide))).trans (m_res_1 m c),
      ((h c).2 main_v47 (Pipeline.mem_restRefs_of main_v47 (by decide) (by decide))).trans (m_res_2 m c),
      ((h c).2 main_v48 (Pipeline.mem_restRefs_of main_v48 (by decide) (by decide))).trans (m_res_3 m c),
      ((h c).2 main_v51 (Pipeline.mem_restRefs_of main_v51 (by decide) (by decide))).trans (v_res_0 m c),
      ((h c).2 main_v53 (Pipeline.mem_restRefs_of main_v53 (by decide) (by decide))).trans (v_res_1 m c),
      ((h c).2 main_v55 (Pipeline.mem_restRefs_of main_v55 (by decide) (by decide))).trans (v_res_2 m c),
      ((h c).2 main_v56 (Pipeline.mem_restRefs_of main_v56 (by decide) (by decide))).trans (v_res_3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩) (run_main m ρ)

end Cert.Pack2Ideal.Hand

namespace Cert.Hand

theorem preservesPack2 : Cert.preserves_Pack2_Pack2Ideal :=
  ⟨IdealRules.named_const.statement Cert.Pack2Ideal.κ "c1" .f32 0x3FC48605#32 ((8388608 / 5463681 : ℝ) : EReal) rfl,
   IdealRules.named_const.statement Cert.Pack2Ideal.κ "c2" .f32 0x42C8E6D3#32
     ((268435456 / 2672307 : ℝ) : EReal) rfl⟩

/-- The reference leaves its arguments as they were. -/
theorem frame_refPack2 : Cert.quiescent_PackRef2Ideal := fun m ρ _ =>
  (θ_run Cert.PackRef2Ideal.defs _ _).mono (fun r h => ⟨fun c => (h c).2.2.2.2.2.2.2.2.2.2.2.2.2.2.2.2,
      Idealize.ShloMosaic.sem_eq_zero_of_no_sems (by decide) r.2⟩)
    (Cert.PackRef2Ideal.Value.run (F := Ideal) m ρ)

/-- At `Ideal` the results of the kernel's program and the reference's agree. -/
theorem algebraicPack2 : Cert.algebraic_Pack2Ideal_PackRef2Ideal := by
  intro m g m' g' _ hagree
  refine ⟨_, _, _, _, _, _, _, _, _, _, _, _, _, _, _, _, Cert.Pack2Ideal.Hand.run m g, ?_⟩
  refine θ_run_mono (Cert.PackRef2Ideal.Value.run (F := Ideal) m' g') fun r hr c => ?_
  obtain ⟨h0, h1, h2, h3, h4, h5, h6, h7, h8, h9, h10, h11, h12, h13, h14, h15, k⟩ := hr c
  obtain ⟨e0, e1, e2, e3, e4, e5, e6, e7, e8, e9, e10, e11, e12, e13, e14, e15, e16⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, k⟩

  · exact (Cert.PackRef2Ideal.Read.val_main_v0_eq ..).trans (congrArg (fun y => Cert.PackRef2Ideal.Read.val_main_v0 (F := Ideal) y) e12)
  · exact (Cert.PackRef2Ideal.Read.val_main_v1_eq ..).trans (congrArg (fun y => Cert.PackRef2Ideal.Read.val_main_v1 (F := Ideal) y) e13)
  · exact (Cert.PackRef2Ideal.Read.val_main_v2_eq ..).trans (congrArg (fun y => Cert.PackRef2Ideal.Read.val_main_v2 (F := Ideal) y) e14)
  · exact (Cert.PackRef2Ideal.Read.val_main_v3_eq ..).trans (congrArg (fun y => Cert.PackRef2Ideal.Read.val_main_v3 (F := Ideal) y) e15)
  · exact (Cert.PackRef2Ideal.Read.val_main_v27_eq ..).trans (congr (congr (congr (congrArg (fun y0 y1 y2 y3 => Cert.PackRef2Ideal.Read.val_main_v27 (F := Ideal) y0 y1 y2 y3) e0) e4) e8) e12)
  · exact (Cert.PackRef2Ideal.Read.val_main_v51_eq ..).trans (congr (congr (congr (congrArg (fun y0 y1 y2 y3 => Cert.PackRef2Ideal.Read.val_main_v51 (F := Ideal) y0 y1 y2 y3) e1) e5) e9) e13)
  · exact (Cert.PackRef2Ideal.Read.val_main_v75_eq ..).trans (congr (congr (congr (congrArg (fun y0 y1 y2 y3 => Cert.PackRef2Ideal.Read.val_main_v75 (F := Ideal) y0 y1 y2 y3) e2) e6) e10) e14)
  · exact (Cert.PackRef2Ideal.Read.val_main_v99_eq ..).trans (congr (congr (congr (congrArg (fun y0 y1 y2 y3 => Cert.PackRef2Ideal.Read.val_main_v99 (F := Ideal) y0 y1 y2 y3) e3) e7) e11) e15)
  · exact (Cert.PackRef2Ideal.Read.val_main_v8_eq ..).trans (congr (congrArg (fun y0 y1 => Cert.PackRef2Ideal.Read.val_main_v8 (F := Ideal) y0 y1) e4) e12)
  · exact (Cert.PackRef2Ideal.Read.val_main_v32_eq ..).trans (congr (congrArg (fun y0 y1 => Cert.PackRef2Ideal.Read.val_main_v32 (F := Ideal) y0 y1) e5) e13)
  · exact (Cert.PackRef2Ideal.Read.val_main_v56_eq ..).trans (congr (congrArg (fun y0 y1 => Cert.PackRef2Ideal.Read.val_main_v56 (F := Ideal) y0 y1) e6) e14)
  · exact (Cert.PackRef2Ideal.Read.val_main_v80_eq ..).trans (congr (congrArg (fun y0 y1 => Cert.PackRef2Ideal.Read.val_main_v80 (F := Ideal) y0 y1) e7) e15)
  · exact (Cert.PackRef2Ideal.Read.val_main_v14_eq ..).trans (congr (congrArg (fun y0 y1 => Cert.PackRef2Ideal.Read.val_main_v14 (F := Ideal) y0 y1) e8) e12)
  · exact (Cert.PackRef2Ideal.Read.val_main_v38_eq ..).trans (congr (congrArg (fun y0 y1 => Cert.PackRef2Ideal.Read.val_main_v38 (F := Ideal) y0 y1) e9) e13)
  · exact (Cert.PackRef2Ideal.Read.val_main_v62_eq ..).trans (congr (congrArg (fun y0 y1 => Cert.PackRef2Ideal.Read.val_main_v62 (F := Ideal) y0 y1) e10) e14)
  · exact (Cert.PackRef2Ideal.Read.val_main_v86_eq ..).trans (congr (congrArg (fun y0 y1 => Cert.PackRef2Ideal.Read.val_main_v86 (F := Ideal) y0 y1) e11) e15)

end Cert.Hand

end
-- ==== Proof.lean ====
module

public import proofs.«01_k».proof.Defs
public import proofs.«01_k».proof.Proof.Gen.Mlp0
public import proofs.«01_k».proof.Proof.Gen.Mlp0.Skeleton
public import proofs.«01_k».proof.Proof.Gen.Mlp0.Launch
public import proofs.«01_k».proof.Proof.Gen.Mlp0.Points
public import proofs.«01_k».proof.Proof.Gen.Mlp0.Frame
public import proofs.«01_k».proof.Proof.Gen.Mlp0Ideal
public import proofs.«01_k».proof.Proof.Gen.Mlp0Ideal.Skeleton
public import proofs.«01_k».proof.Proof.Gen.Mlp0Ideal.Launch
public import proofs.«01_k».proof.Proof.Gen.Mlp0Ideal.Points
public import proofs.«01_k».proof.Proof.Gen.Mlp0Ideal.Frame
public import proofs.«01_k».proof.Proof.Gen.MlpRef0Ideal
public import proofs.«01_k».proof.Proof.Gen.Mlp0Ideal.Value
public import proofs.«01_k».proof.Proof.Gen.MlpRef0Ideal.Run
public import proofs.«01_k».proof.Proof.Gen.MlpRef0Ideal.Read
public import proofs.«01_k».proof.Proof.Gen.On_written_first
public import proofs.«01_k».proof.Proof.Mlp0Value
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.MlpRef1Ideal
public import proofs.«01_k».proof.Proof.Gen.Mlp1Ideal.Value
public import proofs.«01_k».proof.Proof.Gen.MlpRef1Ideal.Run
public import proofs.«01_k».proof.Proof.Gen.MlpRef1Ideal.Read
public import proofs.«01_k».proof.Proof.Mlp1Value
public import proofs.«01_k».proof.Proof.Gen.Mlp2
public import proofs.«01_k».proof.Proof.Gen.Mlp2.Skeleton
public import proofs.«01_k».proof.Proof.Gen.Mlp2.Launch
public import proofs.«01_k».proof.Proof.Gen.Mlp2.Points
public import proofs.«01_k».proof.Proof.Gen.Mlp2.Frame
public import proofs.«01_k».proof.Proof.Gen.Mlp2Ideal
public import proofs.«01_k».proof.Proof.Gen.Mlp2Ideal.Skeleton
public import proofs.«01_k».proof.Proof.Gen.Mlp2Ideal.Launch
public import proofs.«01_k».proof.Proof.Gen.Mlp2Ideal.Points
public import proofs.«01_k».proof.Proof.Gen.Mlp2Ideal.Frame
public import proofs.«01_k».proof.Proof.Gen.MlpRef2Ideal
public import proofs.«01_k».proof.Proof.Gen.Mlp2Ideal.Value
public import proofs.«01_k».proof.Proof.Gen.MlpRef2Ideal.Run
public import proofs.«01_k».proof.Proof.Gen.MlpRef2Ideal.Read
public import proofs.«01_k».proof.Proof.Mlp2Value
public import proofs.«01_k».proof.Proof.Gen.Mlp3
public import proofs.«01_k».proof.Proof.Gen.Mlp3.Skeleton
public import proofs.«01_k».proof.Proof.Gen.Mlp3.Launch
public import proofs.«01_k».proof.Proof.Gen.Mlp3.Points
public import proofs.«01_k».proof.Proof.Gen.Mlp3.Frame
public import proofs.«01_k».proof.Proof.Gen.Mlp3Ideal
public import proofs.«01_k».proof.Proof.Gen.Mlp3Ideal.Skeleton
public import proofs.«01_k».proof.Proof.Gen.Mlp3Ideal.Launch
public import proofs.«01_k».proof.Proof.Gen.Mlp3Ideal.Points
public import proofs.«01_k».proof.Proof.Gen.Mlp3Ideal.Frame
public import proofs.«01_k».proof.Proof.Gen.MlpRef3Ideal
public import proofs.«01_k».proof.Proof.Gen.Mlp3Ideal.Value
public import proofs.«01_k».proof.Proof.Gen.MlpRef3Ideal.Run
public import proofs.«01_k».proof.Proof.Gen.MlpRef3Ideal.Read
public import proofs.«01_k».proof.Proof.Mlp3Value
public import proofs.«01_k».proof.Proof.Gen.Fwd0
public import proofs.«01_k».proof.Proof.Gen.Fwd0.Skeleton
public import proofs.«01_k».proof.Proof.Gen.Fwd0.Launch
public import proofs.«01_k».proof.Proof.Gen.Fwd0.Points
public import proofs.«01_k».proof.Proof.Gen.Fwd0.Frame
public import proofs.«01_k».proof.Proof.Gen.Fwd0Ideal
public import proofs.«01_k».proof.Proof.Gen.Fwd0Ideal.Skeleton
public import proofs.«01_k».proof.Proof.Gen.Fwd0Ideal.Launch
public import proofs.«01_k».proof.Proof.Gen.Fwd0Ideal.Points
public import proofs.«01_k».proof.Proof.Gen.Fwd0Ideal.Frame
public import proofs.«01_k».proof.Proof.Gen.FwdRef0Ideal
public import proofs.«01_k».proof.Proof.Gen.Fwd0Ideal.Value
public import proofs.«01_k».proof.Proof.Gen.FwdRef0Ideal.Run
public import proofs.«01_k».proof.Proof.Gen.FwdRef0Ideal.Read
public import proofs.«01_k».proof.Proof.Fwd0Value
public import proofs.«01_k».proof.Proof.Gen.Qkv0
public import proofs.«01_k».proof.Proof.Gen.Qkv0.Skeleton
public import proofs.«01_k».proof.Proof.Gen.Qkv0.Launch
public import proofs.«01_k».proof.Proof.Gen.Qkv0.Points
public import proofs.«01_k».proof.Proof.Gen.Qkv0.Frame
public import proofs.«01_k».proof.Proof.Gen.Qkv0Ideal
public import proofs.«01_k».proof.Proof.Gen.Qkv0Ideal.Skeleton
public import proofs.«01_k».proof.Proof.Gen.Qkv0Ideal.Launch
public import proofs.«01_k».proof.Proof.Gen.Qkv0Ideal.Points
public import proofs.«01_k».proof.Proof.Gen.Qkv0Ideal.Frame
public import proofs.«01_k».proof.Proof.Gen.QkvRef0Ideal
public import proofs.«01_k».proof.Proof.Gen.Qkv0Ideal.Value
public import proofs.«01_k».proof.Proof.Gen.QkvRef0Ideal.Run
public import proofs.«01_k».proof.Proof.Gen.QkvRef0Ideal.Read
public import proofs.«01_k».proof.Proof.Qkv0Value
public import proofs.«01_k».proof.Proof.Gen.Qkv1
public import proofs.«01_k».proof.Proof.Gen.Qkv1.Skeleton
public import proofs.«01_k».proof.Proof.Gen.Qkv1.Launch
public import proofs.«01_k».proof.Proof.Gen.Qkv1.Points
public import proofs.«01_k».proof.Proof.Gen.Qkv1.Frame
public import proofs.«01_k».proof.Proof.Gen.Qkv1Ideal
public import proofs.«01_k».proof.Proof.Gen.Qkv1Ideal.Skeleton
public import proofs.«01_k».proof.Proof.Gen.Qkv1Ideal.Launch
public import proofs.«01_k».proof.Proof.Gen.Qkv1Ideal.Points
public import proofs.«01_k».proof.Proof.Gen.Qkv1Ideal.Frame
public import proofs.«01_k».proof.Proof.Gen.QkvRef1Ideal
public import proofs.«01_k».proof.Proof.Gen.QkvRef1Ideal.Run
public import proofs.«01_k».proof.Proof.Gen.QkvRef1Ideal.Read
public import proofs.«01_k».proof.Proof.Qkv1Value
public import proofs.«01_k».proof.Proof.Gen.Qkv2
public import proofs.«01_k».proof.Proof.Gen.Qkv2.Skeleton
public import proofs.«01_k».proof.Proof.Gen.Qkv2.Launch
public import proofs.«01_k».proof.Proof.Gen.Qkv2.Points
public import proofs.«01_k».proof.Proof.Gen.Qkv2.Frame
public import proofs.«01_k».proof.Proof.Gen.Qkv2Ideal
public import proofs.«01_k».proof.Proof.Gen.Qkv2Ideal.Skeleton
public import proofs.«01_k».proof.Proof.Gen.Qkv2Ideal.Launch
public import proofs.«01_k».proof.Proof.Gen.Qkv2Ideal.Points
public import proofs.«01_k».proof.Proof.Gen.Qkv2Ideal.Frame
public import proofs.«01_k».proof.Proof.Gen.QkvRef2Ideal
public import proofs.«01_k».proof.Proof.Gen.Qkv2Ideal.Value
public import proofs.«01_k».proof.Proof.Gen.QkvRef2Ideal.Run
public import proofs.«01_k».proof.Proof.Gen.QkvRef2Ideal.Read
public import proofs.«01_k».proof.Proof.Qkv2Value
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.OutRef0Ideal
public import proofs.«01_k».proof.Proof.Gen.Out0Ideal.Value
public import proofs.«01_k».proof.Proof.Gen.OutRef0Ideal.Run
public import proofs.«01_k».proof.Proof.Gen.OutRef0Ideal.Read
public import proofs.«01_k».proof.Proof.Out0Value
public import proofs.«01_k».proof.Proof.Gen.Out1
public import proofs.«01_k».proof.Proof.Gen.Out1.Skeleton
public import proofs.«01_k».proof.Proof.Gen.Out1.Launch
public import proofs.«01_k».proof.Proof.Gen.Out1.Points
public import proofs.«01_k».proof.Proof.Gen.Out1.Frame
public import proofs.«01_k».proof.Proof.Gen.Out1Ideal
public import proofs.«01_k».proof.Proof.Gen.Out1Ideal.Skeleton
public import proofs.«01_k».proof.Proof.Gen.Out1Ideal.Launch
public import proofs.«01_k».proof.Proof.Gen.Out1Ideal.Points
public import proofs.«01_k».proof.Proof.Gen.Out1Ideal.Frame
public import proofs.«01_k».proof.Proof.Gen.OutRef1Ideal
public import proofs.«01_k».proof.Proof.Gen.Out1Ideal.Value
public import proofs.«01_k».proof.Proof.Gen.OutRef1Ideal.Run
public import proofs.«01_k».proof.Proof.Gen.OutRef1Ideal.Read
public import proofs.«01_k».proof.Proof.Out1Value
public import proofs.«01_k».proof.Proof.Gen.Out2
public import proofs.«01_k».proof.Proof.Gen.Out2.Skeleton
public import proofs.«01_k».proof.Proof.Gen.Out2.Launch
public import proofs.«01_k».proof.Proof.Gen.Out2.Points
public import proofs.«01_k».proof.Proof.Gen.Out2.Frame
public import proofs.«01_k».proof.Proof.Gen.Out2Ideal
public import proofs.«01_k».proof.Proof.Gen.Out2Ideal.Skeleton
public import proofs.«01_k».proof.Proof.Gen.Out2Ideal.Launch
public import proofs.«01_k».proof.Proof.Gen.Out2Ideal.Points
public import proofs.«01_k».proof.Proof.Gen.Out2Ideal.Frame
public import proofs.«01_k».proof.Proof.Gen.OutRef2Ideal
public import proofs.«01_k».proof.Proof.Gen.Out2Ideal.Value
public import proofs.«01_k».proof.Proof.Gen.OutRef2Ideal.Run
public import proofs.«01_k».proof.Proof.Gen.OutRef2Ideal.Read
public import proofs.«01_k».proof.Proof.Out2Value
public import proofs.«01_k».proof.Proof.Gen.Glu0
public import proofs.«01_k».proof.Proof.Gen.Glu0.Skeleton
public import proofs.«01_k».proof.Proof.Gen.Glu0.Launch
public import proofs.«01_k».proof.Proof.Gen.Glu0.Points
public import proofs.«01_k».proof.Proof.Gen.Glu0.Frame
public import proofs.«01_k».proof.Proof.Gen.Glu0Ideal
public import proofs.«01_k».proof.Proof.Gen.Glu0Ideal.Skeleton
public import proofs.«01_k».proof.Proof.Gen.Glu0Ideal.Launch
public import proofs.«01_k».proof.Proof.Gen.Glu0Ideal.Points
public import proofs.«01_k».proof.Proof.Gen.Glu0Ideal.Frame
public import proofs.«01_k».proof.Proof.Gen.GluRef0Ideal
public import proofs.«01_k».proof.Proof.Gen.Glu0Ideal.Value
public import proofs.«01_k».proof.Proof.Gen.GluRef0Ideal.Run
public import proofs.«01_k».proof.Proof.Gen.GluRef0Ideal.Read
public import proofs.«01_k».proof.Proof.Glu0Value
public import proofs.«01_k».proof.Proof.Gen.Glu1
public import proofs.«01_k».proof.Proof.Gen.Glu1.Skeleton
public import proofs.«01_k».proof.Proof.Gen.Glu1.Launch
public import proofs.«01_k».proof.Proof.Gen.Glu1.Points
public import proofs.«01_k».proof.Proof.Gen.Glu1.Frame
public import proofs.«01_k».proof.Proof.Gen.Glu1Ideal
public import proofs.«01_k».proof.Proof.Gen.Glu1Ideal.Skeleton
public import proofs.«01_k».proof.Proof.Gen.Glu1Ideal.Launch
public import proofs.«01_k».proof.Proof.Gen.Glu1Ideal.Points
public import proofs.«01_k».proof.Proof.Gen.Glu1Ideal.Frame
public import proofs.«01_k».proof.Proof.Gen.GluRef1Ideal
public import proofs.«01_k».proof.Proof.Gen.Glu1Ideal.Value
public import proofs.«01_k».proof.Proof.Gen.GluRef1Ideal.Run
public import proofs.«01_k».proof.Proof.Gen.GluRef1Ideal.Read
public import proofs.«01_k».proof.Proof.Glu1Value
public import proofs.«01_k».proof.Proof.Gen.Glu2
public import proofs.«01_k».proof.Proof.Gen.Glu2.Skeleton
public import proofs.«01_k».proof.Proof.Gen.Glu2.Launch
public import proofs.«01_k».proof.Proof.Gen.Glu2.Points
public import proofs.«01_k».proof.Proof.Gen.Glu2.Frame
public import proofs.«01_k».proof.Proof.Gen.Glu2Ideal
public import proofs.«01_k».proof.Proof.Gen.Glu2Ideal.Skeleton
public import proofs.«01_k».proof.Proof.Gen.Glu2Ideal.Launch
public import proofs.«01_k».proof.Proof.Gen.Glu2Ideal.Points
public import proofs.«01_k».proof.Proof.Gen.Glu2Ideal.Frame
public import proofs.«01_k».proof.Proof.Gen.GluRef2Ideal
public import proofs.«01_k».proof.Proof.Gen.Glu2Ideal.Value
public import proofs.«01_k».proof.Proof.Gen.GluRef2Ideal.Run
public import proofs.«01_k».proof.Proof.Gen.GluRef2Ideal.Read
public import proofs.«01_k».proof.Proof.Glu2Value
public import proofs.«01_k».proof.Proof.Gen.Norm0
public import proofs.«01_k».proof.Proof.Gen.Norm0.Skeleton
public import proofs.«01_k».proof.Proof.Gen.Norm0.Launch
public import proofs.«01_k».proof.Proof.Gen.Norm0.Points
public import proofs.«01_k».proof.Proof.Gen.Norm0.Frame
public import proofs.«01_k».proof.Proof.Gen.Norm0Ideal
public import proofs.«01_k».proof.Proof.Gen.Norm0Ideal.Skeleton
public import proofs.«01_k».proof.Proof.Gen.Norm0Ideal.Launch
public import proofs.«01_k».proof.Proof.Gen.Norm0Ideal.Points
public import proofs.«01_k».proof.Proof.Gen.Norm0Ideal.Frame
public import proofs.«01_k».proof.Proof.Gen.NormRef0Ideal
public import proofs.«01_k».proof.Proof.Gen.Norm0Ideal.Value
public import proofs.«01_k».proof.Proof.Gen.NormRef0Ideal.Run
public import proofs.«01_k».proof.Proof.Gen.NormRef0Ideal.Read
public import proofs.«01_k».proof.Proof.Norm0Value
public import proofs.«01_k».proof.Proof.Gen.Adam0
public import proofs.«01_k».proof.Proof.Gen.Adam0.Skeleton
public import proofs.«01_k».proof.Proof.Gen.Adam0.Launch
public import proofs.«01_k».proof.Proof.Gen.Adam0.Points
public import proofs.«01_k».proof.Proof.Gen.Adam0.Frame
public import proofs.«01_k».proof.Proof.Gen.Adam0Ideal
public import proofs.«01_k».proof.Proof.Gen.Adam0Ideal.Skeleton
public import proofs.«01_k».proof.Proof.Gen.Adam0Ideal.Launch
public import proofs.«01_k».proof.Proof.Gen.Adam0Ideal.Points
public import proofs.«01_k».proof.Proof.Gen.Adam0Ideal.Frame
public import proofs.«01_k».proof.Proof.Gen.AdamRef0Ideal
public import proofs.«01_k».proof.Proof.Gen.Adam0Ideal.Value
public import proofs.«01_k».proof.Proof.Gen.AdamRef0Ideal.Run
public import proofs.«01_k».proof.Proof.Gen.AdamRef0Ideal.Read
public import proofs.«01_k».proof.Proof.Adam0Value
public import proofs.«01_k».proof.Proof.Gen.Adam1
public import proofs.«01_k».proof.Proof.Gen.Adam1.Skeleton
public import proofs.«01_k».proof.Proof.Gen.Adam1.Launch
public import proofs.«01_k».proof.Proof.Gen.Adam1.Points
public import proofs.«01_k».proof.Proof.Gen.Adam1.Frame
public import proofs.«01_k».proof.Proof.Gen.Adam1Ideal
public import proofs.«01_k».proof.Proof.Gen.Adam1Ideal.Skeleton
public import proofs.«01_k».proof.Proof.Gen.Adam1Ideal.Launch
public import proofs.«01_k».proof.Proof.Gen.Adam1Ideal.Points
public import proofs.«01_k».proof.Proof.Gen.Adam1Ideal.Frame
public import proofs.«01_k».proof.Proof.Gen.AdamRef1Ideal
public import proofs.«01_k».proof.Proof.Gen.Adam1Ideal.Value
public import proofs.«01_k».proof.Proof.Gen.AdamRef1Ideal.Run
public import proofs.«01_k».proof.Proof.Gen.AdamRef1Ideal.Read
public import proofs.«01_k».proof.Proof.Adam1Value
public import proofs.«01_k».proof.Proof.Gen.Adam2
public import proofs.«01_k».proof.Proof.Gen.Adam2.Skeleton
public import proofs.«01_k».proof.Proof.Gen.Adam2.Launch
public import proofs.«01_k».proof.Proof.Gen.Adam2.Points
public import proofs.«01_k».proof.Proof.Gen.Adam2.Frame
public import proofs.«01_k».proof.Proof.Gen.Adam2Ideal
public import proofs.«01_k».proof.Proof.Gen.Adam2Ideal.Skeleton
public import proofs.«01_k».proof.Proof.Gen.Adam2Ideal.Launch
public import proofs.«01_k».proof.Proof.Gen.Adam2Ideal.Points
public import proofs.«01_k».proof.Proof.Gen.Adam2Ideal.Frame
public import proofs.«01_k».proof.Proof.Gen.AdamRef2Ideal
public import proofs.«01_k».proof.Proof.Gen.Adam2Ideal.Value
public import proofs.«01_k».proof.Proof.Gen.AdamRef2Ideal.Run
public import proofs.«01_k».proof.Proof.Gen.AdamRef2Ideal.Read
public import proofs.«01_k».proof.Proof.Adam2Value
public import proofs.«01_k».proof.Proof.Gen.Adam3
public import proofs.«01_k».proof.Proof.Gen.Adam3.Skeleton
public import proofs.«01_k».proof.Proof.Gen.Adam3.Launch
public import proofs.«01_k».proof.Proof.Gen.Adam3.Points
public import proofs.«01_k».proof.Proof.Gen.Adam3.Frame
public import proofs.«01_k».proof.Proof.Gen.Adam3Ideal
public import proofs.«01_k».proof.Proof.Gen.Adam3Ideal.Skeleton
public import proofs.«01_k».proof.Proof.Gen.Adam3Ideal.Launch
public import proofs.«01_k».proof.Proof.Gen.Adam3Ideal.Points
public import proofs.«01_k».proof.Proof.Gen.Adam3Ideal.Frame
public import proofs.«01_k».proof.Proof.Gen.AdamRef3Ideal
public import proofs.«01_k».proof.Proof.Gen.Adam3Ideal.Value
public import proofs.«01_k».proof.Proof.Gen.AdamRef3Ideal.Run
public import proofs.«01_k».proof.Proof.Gen.AdamRef3Ideal.Read
public import proofs.«01_k».proof.Proof.Adam3Value
public import proofs.«01_k».proof.Proof.Gen.Pack0
public import proofs.«01_k».proof.Proof.Gen.Pack0.Skeleton
public import proofs.«01_k».proof.Proof.Gen.Pack0.Launch
public import proofs.«01_k».proof.Proof.Gen.Pack0.Points
public import proofs.«01_k».proof.Proof.Gen.Pack0.Frame
public import proofs.«01_k».proof.Proof.Gen.Pack0Ideal
public import proofs.«01_k».proof.Proof.Gen.Pack0Ideal.Skeleton
public import proofs.«01_k».proof.Proof.Gen.Pack0Ideal.Launch
public import proofs.«01_k».proof.Proof.Gen.Pack0Ideal.Points
public import proofs.«01_k».proof.Proof.Gen.Pack0Ideal.Frame
public import proofs.«01_k».proof.Proof.Gen.PackRef0Ideal
public import proofs.«01_k».proof.Proof.Gen.PackRef0Ideal.Run
public import proofs.«01_k».proof.Proof.Gen.PackRef0Ideal.Read
public import proofs.«01_k».proof.Proof.Pack0Value
public import proofs.«01_k».proof.Proof.Gen.Pack1
public import proofs.«01_k».proof.Proof.Gen.Pack1.Skeleton
public import proofs.«01_k».proof.Proof.Gen.Pack1.Launch
public import proofs.«01_k».proof.Proof.Gen.Pack1.Points
public import proofs.«01_k».proof.Proof.Gen.Pack1.Frame
public import proofs.«01_k».proof.Proof.Gen.Pack1Ideal
public import proofs.«01_k».proof.Proof.Gen.Pack1Ideal.Skeleton
public import proofs.«01_k».proof.Proof.Gen.Pack1Ideal.Launch
public import proofs.«01_k».proof.Proof.Gen.Pack1Ideal.Points
public import proofs.«01_k».proof.Proof.Gen.Pack1Ideal.Frame
public import proofs.«01_k».proof.Proof.Gen.PackRef1Ideal
public import proofs.«01_k».proof.Proof.Gen.PackRef1Ideal.Run
public import proofs.«01_k».proof.Proof.Gen.PackRef1Ideal.Read
public import proofs.«01_k».proof.Proof.Pack1Value
public import proofs.«01_k».proof.Proof.Gen.Pack2
public import proofs.«01_k».proof.Proof.Gen.Pack2.Skeleton
public import proofs.«01_k».proof.Proof.Gen.Pack2.Launch
public import proofs.«01_k».proof.Proof.Gen.Pack2.Points
public import proofs.«01_k».proof.Proof.Gen.Pack2.Frame
public import proofs.«01_k».proof.Proof.Gen.Pack2Ideal
public import proofs.«01_k».proof.Proof.Gen.Pack2Ideal.Skeleton
public import proofs.«01_k».proof.Proof.Gen.Pack2Ideal.Launch
public import proofs.«01_k».proof.Proof.Gen.Pack2Ideal.Points
public import proofs.«01_k».proof.Proof.Gen.Pack2Ideal.Frame
public import proofs.«01_k».proof.Proof.Gen.PackRef2Ideal
public import proofs.«01_k».proof.Proof.Gen.PackRef2Ideal.Run
public import proofs.«01_k».proof.Proof.Gen.PackRef2Ideal.Read
public import proofs.«01_k».proof.Proof.Pack2Value
public import Idealize.ShloMosaic.Adequacy
public import Idealize.ShloMosaic.Init

@[expose] public section

noncomputable section

namespace Cert.Proof

open Idealize.ShloMosaic Idealize.SL.Sem

theorem claim : Cert.Claim := ⟨Cert.Mlp0.Gen.facts, Cert.Mlp0Ideal.Gen.facts, Cert.MlpRef0Ideal.Gen.facts, Cert.Mlp1.Gen.facts, Cert.Mlp1Ideal.Gen.facts, Cert.MlpRef1Ideal.Gen.facts, Cert.Mlp2.Gen.facts, Cert.Mlp2Ideal.Gen.facts, Cert.MlpRef2Ideal.Gen.facts, Cert.Mlp3.Gen.facts, Cert.Mlp3Ideal.Gen.facts, Cert.MlpRef3Ideal.Gen.facts, Cert.Fwd0.Gen.facts, Cert.Fwd0Ideal.Gen.facts, Cert.FwdRef0Ideal.Gen.facts, Cert.Qkv0.Gen.facts, Cert.Qkv0Ideal.Gen.facts, Cert.QkvRef0Ideal.Gen.facts, Cert.Qkv1.Gen.facts, Cert.Qkv1Ideal.Gen.facts, Cert.QkvRef1Ideal.Gen.facts, Cert.Qkv2.Gen.facts, Cert.Qkv2Ideal.Gen.facts, Cert.QkvRef2Ideal.Gen.facts, Cert.Out0.Gen.facts, Cert.Out0Ideal.Gen.facts, Cert.OutRef0Ideal.Gen.facts, Cert.Out1.Gen.facts, Cert.Out1Ideal.Gen.facts, Cert.OutRef1Ideal.Gen.facts, Cert.Out2.Gen.facts, Cert.Out2Ideal.Gen.facts, Cert.OutRef2Ideal.Gen.facts, Cert.Glu0.Gen.facts, Cert.Glu0Ideal.Gen.facts, Cert.GluRef0Ideal.Gen.facts, Cert.Glu1.Gen.facts, Cert.Glu1Ideal.Gen.facts, Cert.GluRef1Ideal.Gen.facts, Cert.Glu2.Gen.facts, Cert.Glu2Ideal.Gen.facts, Cert.GluRef2Ideal.Gen.facts, Cert.Norm0.Gen.facts, Cert.Norm0Ideal.Gen.facts, Cert.NormRef0Ideal.Gen.facts, Cert.Adam0.Gen.facts, Cert.Adam0Ideal.Gen.facts, Cert.AdamRef0Ideal.Gen.facts, Cert.Adam1.Gen.facts, Cert.Adam1Ideal.Gen.facts, Cert.AdamRef1Ideal.Gen.facts, Cert.Adam2.Gen.facts, Cert.Adam2Ideal.Gen.facts, Cert.AdamRef2Ideal.Gen.facts, Cert.Adam3.Gen.facts, Cert.Adam3Ideal.Gen.facts, Cert.AdamRef3Ideal.Gen.facts, Cert.Pack0.Gen.facts, Cert.Pack0Ideal.Gen.facts, Cert.PackRef0Ideal.Gen.facts, Cert.Pack1.Gen.facts, Cert.Pack1Ideal.Gen.facts, Cert.PackRef1Ideal.Gen.facts, Cert.Pack2.Gen.facts, Cert.Pack2Ideal.Gen.facts, Cert.PackRef2Ideal.Gen.facts, Cert.On_written_first.Gen.facts,
  fun m ρ _ => Cert.Mlp0.Gen.frame m ρ, fun m ρ _ => Cert.Mlp0Ideal.Gen.frame m ρ, Cert.Hand.frame_ref0,
  fun m ρ _ => Cert.Mlp1.Gen.frame m ρ, fun m ρ _ => Cert.Mlp1Ideal.Gen.frame m ρ, Cert.Hand.frame_ref1,
  fun m ρ _ => Cert.Mlp2.Gen.frame m ρ, fun m ρ _ => Cert.Mlp2Ideal.Gen.frame m ρ, Cert.Hand.frame_ref2,
  fun m ρ _ => Cert.Mlp3.Gen.frame m ρ, fun m ρ _ => Cert.Mlp3Ideal.Gen.frame m ρ, Cert.Hand.frame_ref3,
  fun m ρ _ => Cert.Fwd0.Gen.frame m ρ, fun m ρ _ => Cert.Fwd0Ideal.Gen.frame m ρ, Cert.Hand.frame_refFwd0,
  fun m ρ _ => Cert.Qkv0.Gen.frame m ρ, fun m ρ _ => Cert.Qkv0Ideal.Gen.frame m ρ, Cert.Hand.frame_refQkv0,
  fun m ρ _ => Cert.Qkv1.Gen.frame m ρ, fun m ρ _ => Cert.Qkv1Ideal.Gen.frame m ρ, Cert.Hand.frame_refQkv1,
  fun m ρ _ => Cert.Qkv2.Gen.frame m ρ, fun m ρ _ => Cert.Qkv2Ideal.Gen.frame m ρ, Cert.Hand.frame_refQkv2,
  fun m ρ _ => Cert.Out0.Gen.frame m ρ, fun m ρ _ => Cert.Out0Ideal.Gen.frame m ρ, Cert.Hand.frame_refOut0,
  fun m ρ _ => Cert.Out1.Gen.frame m ρ, fun m ρ _ => Cert.Out1Ideal.Gen.frame m ρ, Cert.Hand.frame_refOut1,
  fun m ρ _ => Cert.Out2.Gen.frame m ρ, fun m ρ _ => Cert.Out2Ideal.Gen.frame m ρ, Cert.Hand.frame_refOut2,
  fun m ρ _ => Cert.Glu0.Gen.frame m ρ, fun m ρ _ => Cert.Glu0Ideal.Gen.frame m ρ, Cert.Hand.frame_refGlu0,
  fun m ρ _ => Cert.Glu1.Gen.frame m ρ, fun m ρ _ => Cert.Glu1Ideal.Gen.frame m ρ, Cert.Hand.frame_refGlu1,
  fun m ρ _ => Cert.Glu2.Gen.frame m ρ, fun m ρ _ => Cert.Glu2Ideal.Gen.frame m ρ, Cert.Hand.frame_refGlu2,
  fun m ρ _ => Cert.Norm0.Gen.frame m ρ, fun m ρ _ => Cert.Norm0Ideal.Gen.frame m ρ, Cert.Hand.frame_refNorm0,
  fun m ρ _ => Cert.Adam0.Gen.frame m ρ, fun m ρ _ => Cert.Adam0Ideal.Gen.frame m ρ, Cert.Hand.frame_refAdam0,
  fun m ρ _ => Cert.Adam1.Gen.frame m ρ, fun m ρ _ => Cert.Adam1Ideal.Gen.frame m ρ, Cert.Hand.frame_refAdam1,
  fun m ρ _ => Cert.Adam2.Gen.frame m ρ, fun m ρ _ => Cert.Adam2Ideal.Gen.frame m ρ, Cert.Hand.frame_refAdam2,
  fun m ρ _ => Cert.Adam3.Gen.frame m ρ, fun m ρ _ => Cert.Adam3Ideal.Gen.frame m ρ, Cert.Hand.frame_refAdam3,
  fun m ρ _ => Cert.Pack0.Gen.frame m ρ, fun m ρ _ => Cert.Pack0Ideal.Gen.frame m ρ, Cert.Hand.frame_refPack0,
  fun m ρ _ => Cert.Pack1.Gen.frame m ρ, fun m ρ _ => Cert.Pack1Ideal.Gen.frame m ρ, Cert.Hand.frame_refPack1,
  fun m ρ _ => Cert.Pack2.Gen.frame m ρ, fun m ρ _ => Cert.Pack2Ideal.Gen.frame m ρ, Cert.Hand.frame_refPack2,
  trivial, Cert.Hand.algebraic0,
  trivial, Cert.Hand.algebraic1,
  trivial, Cert.Hand.algebraic2,
  trivial, Cert.Hand.algebraic3,
  trivial, Cert.Hand.algebraicFwd0,
  trivial, Cert.Hand.algebraicQkv0,
  trivial, Cert.Hand.algebraicQkv1,
  trivial, Cert.Hand.algebraicQkv2,
  trivial, Cert.Hand.algebraicOut0,
  trivial, Cert.Hand.algebraicOut1,
  trivial, Cert.Hand.algebraicOut2,
  trivial, Cert.Hand.algebraicGlu0,
  trivial, Cert.Hand.algebraicGlu1,
  trivial, Cert.Hand.algebraicGlu2,
  trivial, Cert.Hand.algebraicNorm0,
  Cert.Hand.preservesAdam0, Cert.Hand.algebraicAdam0,
  Cert.Hand.preservesAdam1, Cert.Hand.algebraicAdam1,
  Cert.Hand.preservesAdam2, Cert.Hand.algebraicAdam2,
  Cert.Hand.preservesAdam3, Cert.Hand.algebraicAdam3,
  Cert.Hand.preservesPack0, Cert.Hand.algebraicPack0,
  Cert.Hand.preservesPack1, Cert.Hand.algebraicPack1,
  Cert.Hand.preservesPack2, Cert.Hand.algebraicPack2⟩

end Cert.Proof

end
